-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_SsdKernel (m : (ℓ : Loc Cert.SsdKernel.nD Cert.SsdKernel.τ Cert.SsdKernel.sig) → Buf (Elt Bits) ℓ) : Prop :=
  True

def Pre_SsdKernelIdeal (m : (ℓ : Loc Cert.SsdKernelIdeal.nD Cert.SsdKernelIdeal.τ Cert.SsdKernelIdeal.sig) → Buf (Elt Ideal) ℓ) : Prop :=
  True

def Pre_SsdKernelIdeal_ssd_finite [hPre_ssd_finite : Cert.Pre_ssd_finite.Facts] (m : (ℓ : Loc Cert.SsdKernelIdeal.nD Cert.SsdKernelIdeal.τ Cert.SsdKernelIdeal.sig) → Buf (Elt Ideal) ℓ) : Prop :=
  ∀ c : Dev Cert.SsdKernelIdeal.nD,
    (Cert.Pre_ssd_finite.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5)) (m ((c.tc : Thread Cert.SsdKernelIdeal.nD Cert.SsdKernelIdeal.τ).loc Cert.SsdKernelIdeal.main_arg6)) (m ((c.tc : Thread Cert.SsdKernelIdeal.nD Cert.SsdKernelIdeal.τ).loc Cert.SsdKernelIdeal.main_arg7)) (m ((c.tc : Thread Cert.SsdKernelIdeal.nD Cert.SsdKernelIdeal.τ).loc Cert.SsdKernelIdeal.main_arg8))) = (fun _ => 1#1)

def Pre_SsdReferenceIdeal (m : (ℓ : Loc Cert.SsdReferenceIdeal.nD Cert.SsdReferenceIdeal.τ Cert.SsdReferenceIdeal.sig) → Buf (Elt Ideal) ℓ) : Prop :=
  True

def Pre_SsdReferenceIdeal_ssd_finite [hPre_ssd_finite : Cert.Pre_ssd_finite.Facts] (m : (ℓ : Loc Cert.SsdReferenceIdeal.nD Cert.SsdReferenceIdeal.τ Cert.SsdReferenceIdeal.sig) → Buf (Elt Ideal) ℓ) : Prop :=
  ∀ c : Dev Cert.SsdReferenceIdeal.nD,
    (Cert.Pre_ssd_finite.fn (F := Ideal) (m ((c.tc : Thread Cert.SsdReferenceIdeal.nD Cert.SsdReferenceIdeal.τ).loc Cert.SsdReferenceIdeal.main_arg0)) (m ((c.tc : Thread Cert.SsdReferenceIdeal.nD Cert.SsdReferenceIdeal.τ).loc Cert.SsdReferenceIdeal.main_arg1)) (m ((c.tc : Thread Cert.SsdReferenceIdeal.nD Cert.SsdReferenceIdeal.τ).loc Cert.SsdReferenceIdeal.main_arg2)) (m ((c.tc : Thread Cert.SsdReferenceIdeal.nD Cert.SsdReferenceIdeal.τ).loc Cert.SsdReferenceIdeal.main_arg3)) (m ((c.tc : Thread Cert.SsdReferenceIdeal.nD Cert.SsdReferenceIdeal.τ).loc Cert.SsdReferenceIdeal.main_arg4)) (m ((c.tc : Thread Cert.SsdReferenceIdeal.nD Cert.SsdReferenceIdeal.τ).loc Cert.SsdReferenceIdeal.main_arg5)) (m ((c.tc : Thread Cert.SsdReferenceIdeal.nD Cert.SsdReferenceIdeal.τ).loc Cert.SsdReferenceIdeal.main_arg6)) (m ((c.tc : Thread Cert.SsdReferenceIdeal.nD Cert.SsdReferenceIdeal.τ).loc Cert.SsdReferenceIdeal.main_arg7)) (m ((c.tc : Thread Cert.SsdReferenceIdeal.nD Cert.SsdReferenceIdeal.τ).loc Cert.SsdReferenceIdeal.main_arg8))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_inproj_finite [hPre_inproj_finite : Cert.Pre_inproj_finite.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_inproj_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))) = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_inproj_finite [hPre_inproj_finite : Cert.Pre_inproj_finite.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_inproj_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InpKernel (m : (ℓ : Loc Cert.InpKernel.nD Cert.InpKernel.τ Cert.InpKernel.sig) → Buf (Elt Bits) ℓ) : Prop :=
  True

def Pre_InpKernelIdeal (m : (ℓ : Loc Cert.InpKernelIdeal.nD Cert.InpKernelIdeal.τ Cert.InpKernelIdeal.sig) → Buf (Elt Ideal) ℓ) : Prop :=
  True

def Pre_InpReferenceIdeal (m : (ℓ : Loc Cert.InpReferenceIdeal.nD Cert.InpReferenceIdeal.τ Cert.InpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_SsdKernel [hSsdKernel : Cert.SsdKernel.Facts] : Prop :=
  ∀ (m : (ℓ : Loc Cert.SsdKernel.nD Cert.SsdKernel.τ Cert.SsdKernel.sig) → Buf (Elt Bits) ℓ) (g : Dev Cert.SsdKernel.nD → PrngReg), Pre_SsdKernel m →
    θ_run (Cert.SsdKernel.defs (F := Bits)) (onTc (τ := Cert.SsdKernel.τ) (Cert.SsdKernel.main (F := Bits))) ⟨m, fun _ => 0, g⟩ (fun r => (∀ c : Dev Cert.SsdKernel.nD,
      r.2.mem ((c.tc : Thread Cert.SsdKernel.nD Cert.SsdKernel.τ).loc Cert.SsdKernel.main_arg0) = m ((c.tc : Thread Cert.SsdKernel.nD Cert.SsdKernel.τ).loc Cert.SsdKernel.main_arg0)
      ∧ r.2.mem ((c.tc : Thread Cert.SsdKernel.nD Cert.SsdKernel.τ).loc Cert.SsdKernel.main_arg1) = m ((c.tc : Thread Cert.SsdKernel.nD Cert.SsdKernel.τ).loc Cert.SsdKernel.main_arg1)
      ∧ r.2.mem ((c.tc : Thread Cert.SsdKernel.nD Cert.SsdKernel.τ).loc Cert.SsdKernel.main_arg2) = m ((c.tc : Thread Cert.SsdKernel.nD Cert.SsdKernel.τ).loc Cert.SsdKernel.main_arg2)
      ∧ r.2.mem ((c.tc : Thread Cert.SsdKernel.nD Cert.SsdKernel.τ).loc Cert.SsdKernel.main_arg3) = m ((c.tc : Thread Cert.SsdKernel.nD Cert.SsdKernel.τ).loc Cert.SsdKernel.main_arg3)
      ∧ r.2.mem ((c.tc : Thread Cert.SsdKernel.nD Cert.SsdKernel.τ).loc Cert.SsdKernel.main_arg4) = m ((c.tc : Thread Cert.SsdKernel.nD Cert.SsdKernel.τ).loc Cert.SsdKernel.main_arg4)
      ∧ r.2.mem ((c.tc : Thread Cert.SsdKernel.nD Cert.SsdKernel.τ).loc Cert.SsdKernel.main_arg5) = m ((c.tc : Thread Cert.SsdKernel.nD Cert.SsdKernel.τ).loc Cert.SsdKernel.main_arg5)
      ∧ r.2.mem ((c.tc : Thread Cert.SsdKernel.nD Cert.SsdKernel.τ).loc Cert.SsdKernel.main_arg6) = m ((c.tc : Thread Cert.SsdKernel.nD Cert.SsdKernel.τ).loc Cert.SsdKernel.main_arg6)
      ∧ r.2.mem ((c.tc : Thread Cert.SsdKernel.nD Cert.SsdKernel.τ).loc Cert.SsdKernel.main_arg7) = m ((c.tc : Thread Cert.SsdKernel.nD Cert.SsdKernel.τ).loc Cert.SsdKernel.main_arg7)
      ∧ r.2.mem ((c.tc : Thread Cert.SsdKernel.nD Cert.SsdKernel.τ).loc Cert.SsdKernel.main_arg8) = m ((c.tc : Thread Cert.SsdKernel.nD Cert.SsdKernel.τ).loc Cert.SsdKernel.main_arg8))
      ∧ r.2.sem = fun _ => 0)

def quiescent_SsdKernelIdeal [hSsdKernelIdeal : Cert.SsdKernelIdeal.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg), Pre_SsdKernelIdeal m →
    θ_run (Cert.SsdKernelIdeal.defs (F := Ideal)) (onTc (τ := Cert.SsdKernelIdeal.τ) (Cert.SsdKernelIdeal.main (F := Ideal))) ⟨m, fun _ => 0, g⟩ (fun r => (∀ c : Dev Cert.SsdKernelIdeal.nD,
      r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
      ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
      ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
      ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
      ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
      ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
      ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6)
      ∧ r.2.mem ((c.tc : Thread Cert.SsdKernelIdeal.nD Cert.SsdKernelIdeal.τ).loc Cert.SsdKernelIdeal.main_arg7) = m ((c.tc : Thread Cert.SsdKernelIdeal.nD Cert.SsdKernelIdeal.τ).loc Cert.SsdKernelIdeal.main_arg7)
      ∧ r.2.mem ((c.tc : Thread Cert.SsdKernelIdeal.nD Cert.SsdKernelIdeal.τ).loc Cert.SsdKernelIdeal.main_arg8) = m ((c.tc : Thread Cert.SsdKernelIdeal.nD Cert.SsdKernelIdeal.τ).loc Cert.SsdKernelIdeal.main_arg8))
      ∧ r.2.sem = fun _ => 0)

def quiescent_SsdKernelIdeal_pre_ssd_finite [hSsdKernelIdeal : Cert.SsdKernelIdeal.Facts] [hPre_ssd_finite : Cert.Pre_ssd_finite.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg), Pre_SsdKernelIdeal_ssd_finite m →
    θ_run (Cert.SsdKernelIdeal.defs (F := Ideal)) (onTc (τ := Cert.SsdKernelIdeal.τ) (Cert.SsdKernelIdeal.main (F := Ideal))) ⟨m, fun _ => 0, g⟩ (fun r => (∀ c : Dev Cert.SsdKernelIdeal.nD,
      r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
      ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
      ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
      ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
      ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
      ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
      ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6)
      ∧ r.2.mem ((c.tc : Thread Cert.SsdKernelIdeal.nD Cert.SsdKernelIdeal.τ).loc Cert.SsdKernelIdeal.main_arg7) = m ((c.tc : Thread Cert.SsdKernelIdeal.nD Cert.SsdKernelIdeal.τ).loc Cert.SsdKernelIdeal.main_arg7)
      ∧ r.2.mem ((c.tc : Thread Cert.SsdKernelIdeal.nD Cert.SsdKernelIdeal.τ).loc Cert.SsdKernelIdeal.main_arg8) = m ((c.tc : Thread Cert.SsdKernelIdeal.nD Cert.SsdKernelIdeal.τ).loc Cert.SsdKernelIdeal.main_arg8))
      ∧ r.2.sem = fun _ => 0)

def quiescent_SsdReferenceIdeal [hSsdReferenceIdeal : Cert.SsdReferenceIdeal.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5)
      ∧ r.2.mem ((c.tc : Thread Cert.SsdReferenceIdeal.nD Cert.SsdReferenceIdeal.τ).loc Cert.SsdReferenceIdeal.main_arg6) = m ((c.tc : Thread Cert.SsdReferenceIdeal.nD Cert.SsdReferenceIdeal.τ).loc Cert.SsdReferenceIdeal.main_arg6)
      ∧ r.2.mem ((c.tc : Thread Cert.SsdReferenceIdeal.nD Cert.SsdReferenceIdeal.τ).loc Cert.SsdReferenceIdeal.main_arg7) = m ((c.tc : Thread Cert.SsdReferenceIdeal.nD Cert.SsdReferenceIdeal.τ).loc Cert.SsdReferenceIdeal.main_arg7)
      ∧ r.2.mem ((c.tc : Thread Cert.SsdReferenceIdeal.nD Cert.SsdReferenceIdeal.τ).loc Cert.SsdReferenceIdeal.main_arg8) = m ((c.tc : Thread Cert.SsdReferenceIdeal.nD Cert.SsdReferenceIdeal.τ).loc Cert.SsdReferenceIdeal.main_arg8))
      ∧ r.2.sem = fun _ => 0)

def quiescent_SsdReferenceIdeal_pre_ssd_finite [hSsdReferenceIdeal : Cert.SsdReferenceIdeal.Facts] [hPre_ssd_finite : Cert.Pre_ssd_finite.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal_ssd_finite m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5)
      ∧ r.2.mem ((c.tc : Thread Cert.SsdReferenceIdeal.nD Cert.SsdReferenceIdeal.τ).loc Cert.SsdReferenceIdeal.main_arg6) = m ((c.tc : Thread Cert.SsdReferenceIdeal.nD Cert.SsdReferenceIdeal.τ).loc Cert.SsdReferenceIdeal.main_arg6)
      ∧ r.2.mem ((c.tc : Thread Cert.SsdReferenceIdeal.nD Cert.SsdReferenceIdeal.τ).loc Cert.SsdReferenceIdeal.main_arg7) = m ((c.tc : Thread Cert.SsdReferenceIdeal.nD Cert.SsdReferenceIdeal.τ).loc Cert.SsdReferenceIdeal.main_arg7)
      ∧ r.2.mem ((c.tc : Thread Cert.SsdReferenceIdeal.nD Cert.SsdReferenceIdeal.τ).loc Cert.SsdReferenceIdeal.main_arg8) = m ((c.tc : Thread Cert.SsdReferenceIdeal.nD Cert.SsdReferenceIdeal.τ).loc Cert.SsdReferenceIdeal.main_arg8))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InKernelIdeal_pre_inproj_finite [hInKernelIdeal : Cert.InKernelIdeal.Facts] [hPre_inproj_finite : Cert.Pre_inproj_finite.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_inproj_finite m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_InReferenceIdeal_pre_inproj_finite [hInReferenceIdeal : Cert.InReferenceIdeal.Facts] [hPre_inproj_finite : Cert.Pre_inproj_finite.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_inproj_finite m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_InpKernel [hInpKernel : Cert.InpKernel.Facts] : Prop :=
  ∀ (m : (ℓ : Loc Cert.InpKernel.nD Cert.InpKernel.τ Cert.InpKernel.sig) → Buf (Elt Bits) ℓ) (g : Dev Cert.InpKernel.nD → PrngReg), Pre_InpKernel m →
    θ_run (Cert.InpKernel.defs (F := Bits)) (onTc (τ := Cert.InpKernel.τ) (Cert.InpKernel.main (F := Bits))) ⟨m, fun _ => 0, g⟩ (fun r => (∀ c : Dev Cert.InpKernel.nD,
      r.2.mem ((c.tc : Thread Cert.InpKernel.nD Cert.InpKernel.τ).loc Cert.InpKernel.main_arg0) = m ((c.tc : Thread Cert.InpKernel.nD Cert.InpKernel.τ).loc Cert.InpKernel.main_arg0)
      ∧ r.2.mem ((c.tc : Thread Cert.InpKernel.nD Cert.InpKernel.τ).loc Cert.InpKernel.main_arg1) = m ((c.tc : Thread Cert.InpKernel.nD Cert.InpKernel.τ).loc Cert.InpKernel.main_arg1)
      ∧ r.2.mem ((c.tc : Thread Cert.InpKernel.nD Cert.InpKernel.τ).loc Cert.InpKernel.main_arg2) = m ((c.tc : Thread Cert.InpKernel.nD Cert.InpKernel.τ).loc Cert.InpKernel.main_arg2))
      ∧ r.2.sem = fun _ => 0)

def quiescent_InpKernelIdeal [hInpKernelIdeal : Cert.InpKernelIdeal.Facts] : Prop :=
  ∀ (m : (ℓ : Loc Cert.InpKernelIdeal.nD Cert.InpKernelIdeal.τ Cert.InpKernelIdeal.sig) → Buf (Elt Ideal) ℓ) (g : Dev Cert.InpKernelIdeal.nD → PrngReg), Pre_InpKernelIdeal m →
    θ_run (Cert.InpKernelIdeal.defs (F := Ideal)) (onTc (τ := Cert.InpKernelIdeal.τ) (Cert.InpKernelIdeal.main (F := Ideal))) ⟨m, fun _ => 0, g⟩ (fun r => (∀ c : Dev Cert.InpKernelIdeal.nD,
      r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
      ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
      ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2))
      ∧ r.2.sem = fun _ => 0)

def quiescent_InpReferenceIdeal [hInpReferenceIdeal : Cert.InpReferenceIdeal.Facts] : Prop :=
  ∀ (m : (ℓ : Loc Cert.InpReferenceIdeal.nD Cert.InpReferenceIdeal.τ Cert.InpReferenceIdeal.sig) → Buf (Elt Ideal) ℓ) (g : Dev Cert.InpReferenceIdeal.nD → PrngReg), Pre_InpReferenceIdeal m →
    θ_run (Cert.InpReferenceIdeal.defs (F := Ideal)) (onTc (τ := Cert.InpReferenceIdeal.τ) (Cert.InpReferenceIdeal.main (F := Ideal))) ⟨m, fun _ => 0, g⟩ (fun r => (∀ c : Dev Cert.InpReferenceIdeal.nD,
      r.2.mem ((c.tc : Thread Cert.InpReferenceIdeal.nD Cert.InpReferenceIdeal.τ).loc Cert.InpReferenceIdeal.main_arg0) = m ((c.tc : Thread Cert.InpReferenceIdeal.nD Cert.InpReferenceIdeal.τ).loc Cert.InpReferenceIdeal.main_arg0)
      ∧ r.2.mem ((c.tc : Thread Cert.InpReferenceIdeal.nD Cert.InpReferenceIdeal.τ).loc Cert.InpReferenceIdeal.main_arg1) = m ((c.tc : Thread Cert.InpReferenceIdeal.nD Cert.InpReferenceIdeal.τ).loc Cert.InpReferenceIdeal.main_arg1)
      ∧ r.2.mem ((c.tc : Thread Cert.InpReferenceIdeal.nD Cert.InpReferenceIdeal.τ).loc Cert.InpReferenceIdeal.main_arg2) = m ((c.tc : Thread Cert.InpReferenceIdeal.nD Cert.InpReferenceIdeal.τ).loc Cert.InpReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_SsdKernel_SsdKernelIdeal : Prop :=
  IdealRules.named_const.Statement Cert.SsdKernelIdeal.κ "mask" .f32 0xF149F2CA#32 ⊥

def algebraic_SsdKernelIdeal_SsdReferenceIdeal_pre_ssd_finite [hSsdKernelIdeal : Cert.SsdKernelIdeal.Facts] [hSsdReferenceIdeal : Cert.SsdReferenceIdeal.Facts] [hPre_ssd_finite : Cert.Pre_ssd_finite.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg)
    (m' : (ℓ : Loc Cert.SsdReferenceIdeal.nD Cert.SsdReferenceIdeal.τ Cert.SsdReferenceIdeal.sig) → Buf (Elt Ideal) ℓ) (g' : Dev Cert.SsdReferenceIdeal.nD → PrngReg), Pre_SsdKernelIdeal_ssd_finite m →
    (∀ c : Dev Cert.SsdKernelIdeal.nD,
      m' ((c.tc : Thread Cert.SsdReferenceIdeal.nD Cert.SsdReferenceIdeal.τ).loc Cert.SsdReferenceIdeal.main_arg0) = m ((c.tc : Thread Cert.SsdKernelIdeal.nD Cert.SsdKernelIdeal.τ).loc Cert.SsdKernelIdeal.main_arg0)
      ∧ m' ((c.tc : Thread Cert.SsdReferenceIdeal.nD Cert.SsdReferenceIdeal.τ).loc Cert.SsdReferenceIdeal.main_arg1) = m ((c.tc : Thread Cert.SsdKernelIdeal.nD Cert.SsdKernelIdeal.τ).loc Cert.SsdKernelIdeal.main_arg1)
      ∧ m' ((c.tc : Thread Cert.SsdReferenceIdeal.nD Cert.SsdReferenceIdeal.τ).loc Cert.SsdReferenceIdeal.main_arg2) = m ((c.tc : Thread Cert.SsdKernelIdeal.nD Cert.SsdKernelIdeal.τ).loc Cert.SsdKernelIdeal.main_arg2)
      ∧ m' ((c.tc : Thread Cert.SsdReferenceIdeal.nD Cert.SsdReferenceIdeal.τ).loc Cert.SsdReferenceIdeal.main_arg3) = m ((c.tc : Thread Cert.SsdKernelIdeal.nD Cert.SsdKernelIdeal.τ).loc Cert.SsdKernelIdeal.main_arg3)
      ∧ m' ((c.tc : Thread Cert.SsdReferenceIdeal.nD Cert.SsdReferenceIdeal.τ).loc Cert.SsdReferenceIdeal.main_arg4) = m ((c.tc : Thread Cert.SsdKernelIdeal.nD Cert.SsdKernelIdeal.τ).loc Cert.SsdKernelIdeal.main_arg4)
      ∧ m' ((c.tc : Thread Cert.SsdReferenceIdeal.nD Cert.SsdReferenceIdeal.τ).loc Cert.SsdReferenceIdeal.main_arg5) = m ((c.tc : Thread Cert.SsdKernelIdeal.nD Cert.SsdKernelIdeal.τ).loc Cert.SsdKernelIdeal.main_arg5)
      ∧ m' ((c.tc : Thread Cert.SsdReferenceIdeal.nD Cert.SsdReferenceIdeal.τ).loc Cert.SsdReferenceIdeal.main_arg6) = m ((c.tc : Thread Cert.SsdKernelIdeal.nD Cert.SsdKernelIdeal.τ).loc Cert.SsdKernelIdeal.main_arg6)
      ∧ m' ((c.tc : Thread Cert.SsdReferenceIdeal.nD Cert.SsdReferenceIdeal.τ).loc Cert.SsdReferenceIdeal.main_arg7) = m ((c.tc : Thread Cert.SsdKernelIdeal.nD Cert.SsdKernelIdeal.τ).loc Cert.SsdKernelIdeal.main_arg7)
      ∧ m' ((c.tc : Thread Cert.SsdReferenceIdeal.nD Cert.SsdReferenceIdeal.τ).loc Cert.SsdReferenceIdeal.main_arg8) = m ((c.tc : Thread Cert.SsdKernelIdeal.nD Cert.SsdKernelIdeal.τ).loc Cert.SsdKernelIdeal.main_arg8)) →
    ∃ (v0 : (c : Dev Cert.SsdKernelIdeal.nD) → Buf (Elt Ideal) ((c.tc : Thread Cert.SsdKernelIdeal.nD Cert.SsdKernelIdeal.τ).loc Cert.SsdKernelIdeal.main_v136_0)) (v1 : (c : Dev Cert.SsdKernelIdeal.nD) → Buf (Elt Ideal) ((c.tc : Thread Cert.SsdKernelIdeal.nD Cert.SsdKernelIdeal.τ).loc Cert.SsdKernelIdeal.main_v136_1)) (v2 : (c : Dev Cert.SsdKernelIdeal.nD) → Buf (Elt Ideal) ((c.tc : Thread Cert.SsdKernelIdeal.nD Cert.SsdKernelIdeal.τ).loc Cert.SsdKernelIdeal.main_v136_2)) (v3 : (c : Dev Cert.SsdKernelIdeal.nD) → Buf (Elt Ideal) ((c.tc : Thread Cert.SsdKernelIdeal.nD Cert.SsdKernelIdeal.τ).loc Cert.SsdKernelIdeal.main_v136_3)) (v4 : (c : Dev Cert.SsdKernelIdeal.nD) → Buf (Elt Ideal) ((c.tc : Thread Cert.SsdKernelIdeal.nD Cert.SsdKernelIdeal.τ).loc Cert.SsdKernelIdeal.main_v136_4)) (v5 : (c : Dev Cert.SsdKernelIdeal.nD) → Buf (Elt Ideal) ((c.tc : Thread Cert.SsdKernelIdeal.nD Cert.SsdKernelIdeal.τ).loc Cert.SsdKernelIdeal.main_v136_5)) (v6 : (c : Dev Cert.SsdKernelIdeal.nD) → Buf (Elt Ideal) ((c.tc : Thread Cert.SsdKernelIdeal.nD Cert.SsdKernelIdeal.τ).loc Cert.SsdKernelIdeal.main_v136_6)) (v7 : (c : Dev Cert.SsdKernelIdeal.nD) → Buf (Elt Ideal) ((c.tc : Thread Cert.SsdKernelIdeal.nD Cert.SsdKernelIdeal.τ).loc Cert.SsdKernelIdeal.main_v136_7)),
      θ_run (Cert.SsdKernelIdeal.defs (F := Ideal)) (onTc (τ := Cert.SsdKernelIdeal.τ) (Cert.SsdKernelIdeal.main (F := Ideal))) ⟨m, fun _ => 0, g⟩ (fun r => ∀ c : Dev Cert.SsdKernelIdeal.nD,
          r.2.mem ((c.tc : Thread Cert.SsdKernelIdeal.nD Cert.SsdKernelIdeal.τ).loc Cert.SsdKernelIdeal.main_v136_0) = v0 c
          ∧ r.2.mem ((c.tc : Thread Cert.SsdKernelIdeal.nD Cert.SsdKernelIdeal.τ).loc Cert.SsdKernelIdeal.main_v136_1) = v1 c
          ∧ r.2.mem ((c.tc : Thread Cert.SsdKernelIdeal.nD Cert.SsdKernelIdeal.τ).loc Cert.SsdKernelIdeal.main_v136_2) = v2 c
          ∧ r.2.mem ((c.tc : Thread Cert.SsdKernelIdeal.nD Cert.SsdKernelIdeal.τ).loc Cert.SsdKernelIdeal.main_v136_3) = v3 c
          ∧ r.2.mem ((c.tc : Thread Cert.SsdKernelIdeal.nD Cert.SsdKernelIdeal.τ).loc Cert.SsdKernelIdeal.main_v136_4) = v4 c
          ∧ r.2.mem ((c.tc : Thread Cert.SsdKernelIdeal.nD Cert.SsdKernelIdeal.τ).loc Cert.SsdKernelIdeal.main_v136_5) = v5 c
          ∧ r.2.mem ((c.tc : Thread Cert.SsdKernelIdeal.nD Cert.SsdKernelIdeal.τ).loc Cert.SsdKernelIdeal.main_v136_6) = v6 c
          ∧ r.2.mem ((c.tc : Thread Cert.SsdKernelIdeal.nD Cert.SsdKernelIdeal.τ).loc Cert.SsdKernelIdeal.main_v136_7) = v7 c
          ∧ r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
          ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
          ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
          ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
          ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
          ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
          ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6)
          ∧ r.2.mem ((c.tc : Thread Cert.SsdKernelIdeal.nD Cert.SsdKernelIdeal.τ).loc Cert.SsdKernelIdeal.main_arg7) = m ((c.tc : Thread Cert.SsdKernelIdeal.nD Cert.SsdKernelIdeal.τ).loc Cert.SsdKernelIdeal.main_arg7)
          ∧ r.2.mem ((c.tc : Thread Cert.SsdKernelIdeal.nD Cert.SsdKernelIdeal.τ).loc Cert.SsdKernelIdeal.main_arg8) = m ((c.tc : Thread Cert.SsdKernelIdeal.nD Cert.SsdKernelIdeal.τ).loc Cert.SsdKernelIdeal.main_arg8))
      ∧ θ_run (Cert.SsdReferenceIdeal.defs (F := Ideal)) (onTc (τ := Cert.SsdReferenceIdeal.τ) (Cert.SsdReferenceIdeal.main (F := Ideal))) ⟨m', fun _ => 0, g'⟩ (fun r => ∀ c : Dev Cert.SsdReferenceIdeal.nD,
          r.2.mem ((c.tc : Thread Cert.SsdReferenceIdeal.nD Cert.SsdReferenceIdeal.τ).loc Cert.SsdReferenceIdeal.main_v341) = v0 c
          ∧ r.2.mem ((c.tc : Thread Cert.SsdReferenceIdeal.nD Cert.SsdReferenceIdeal.τ).loc Cert.SsdReferenceIdeal.main_v344) = v1 c
          ∧ r.2.mem ((c.tc : Thread Cert.SsdReferenceIdeal.nD Cert.SsdReferenceIdeal.τ).loc Cert.SsdReferenceIdeal.main_v334) = v2 c
          ∧ r.2.mem ((c.tc : Thread Cert.SsdReferenceIdeal.nD Cert.SsdReferenceIdeal.τ).loc Cert.SsdReferenceIdeal.main_v325) = v3 c
          ∧ r.2.mem ((c.tc : Thread Cert.SsdReferenceIdeal.nD Cert.SsdReferenceIdeal.τ).loc Cert.SsdReferenceIdeal.main_v346) = v4 c
          ∧ r.2.mem ((c.tc : Thread Cert.SsdReferenceIdeal.nD Cert.SsdReferenceIdeal.τ).loc Cert.SsdReferenceIdeal.main_v348) = v5 c
          ∧ r.2.mem ((c.tc : Thread Cert.SsdReferenceIdeal.nD Cert.SsdReferenceIdeal.τ).loc Cert.SsdReferenceIdeal.main_v174) = v6 c
          ∧ r.2.mem ((c.tc : Thread Cert.SsdReferenceIdeal.nD Cert.SsdReferenceIdeal.τ).loc Cert.SsdReferenceIdeal.main_v146) = v7 c
          ∧ r.2.mem ((c.tc : Thread Cert.SsdReferenceIdeal.nD Cert.SsdReferenceIdeal.τ).loc Cert.SsdReferenceIdeal.main_arg0) = m' ((c.tc : Thread Cert.SsdReferenceIdeal.nD Cert.SsdReferenceIdeal.τ).loc Cert.SsdReferenceIdeal.main_arg0)
          ∧ r.2.mem ((c.tc : Thread Cert.SsdReferenceIdeal.nD Cert.SsdReferenceIdeal.τ).loc Cert.SsdReferenceIdeal.main_arg1) = m' ((c.tc : Thread Cert.SsdReferenceIdeal.nD Cert.SsdReferenceIdeal.τ).loc Cert.SsdReferenceIdeal.main_arg1)
          ∧ r.2.mem ((c.tc : Thread Cert.SsdReferenceIdeal.nD Cert.SsdReferenceIdeal.τ).loc Cert.SsdReferenceIdeal.main_arg2) = m' ((c.tc : Thread Cert.SsdReferenceIdeal.nD Cert.SsdReferenceIdeal.τ).loc Cert.SsdReferenceIdeal.main_arg2)
          ∧ r.2.mem ((c.tc : Thread Cert.SsdReferenceIdeal.nD Cert.SsdReferenceIdeal.τ).loc Cert.SsdReferenceIdeal.main_arg3) = m' ((c.tc : Thread Cert.SsdReferenceIdeal.nD Cert.SsdReferenceIdeal.τ).loc Cert.SsdReferenceIdeal.main_arg3)
          ∧ r.2.mem ((c.tc : Thread Cert.SsdReferenceIdeal.nD Cert.SsdReferenceIdeal.τ).loc Cert.SsdReferenceIdeal.main_arg4) = m' ((c.tc : Thread Cert.SsdReferenceIdeal.nD Cert.SsdReferenceIdeal.τ).loc Cert.SsdReferenceIdeal.main_arg4)
          ∧ r.2.mem ((c.tc : Thread Cert.SsdReferenceIdeal.nD Cert.SsdReferenceIdeal.τ).loc Cert.SsdReferenceIdeal.main_arg5) = m' ((c.tc : Thread Cert.SsdReferenceIdeal.nD Cert.SsdReferenceIdeal.τ).loc Cert.SsdReferenceIdeal.main_arg5)
          ∧ r.2.mem ((c.tc : Thread Cert.SsdReferenceIdeal.nD Cert.SsdReferenceIdeal.τ).loc Cert.SsdReferenceIdeal.main_arg6) = m' ((c.tc : Thread Cert.SsdReferenceIdeal.nD Cert.SsdReferenceIdeal.τ).loc Cert.SsdReferenceIdeal.main_arg6)
          ∧ r.2.mem ((c.tc : Thread Cert.SsdReferenceIdeal.nD Cert.SsdReferenceIdeal.τ).loc Cert.SsdReferenceIdeal.main_arg7) = m' ((c.tc : Thread Cert.SsdReferenceIdeal.nD Cert.SsdReferenceIdeal.τ).loc Cert.SsdReferenceIdeal.main_arg7)
          ∧ r.2.mem ((c.tc : Thread Cert.SsdReferenceIdeal.nD Cert.SsdReferenceIdeal.τ).loc Cert.SsdReferenceIdeal.main_arg8) = m' ((c.tc : Thread Cert.SsdReferenceIdeal.nD Cert.SsdReferenceIdeal.τ).loc Cert.SsdReferenceIdeal.main_arg8))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v16_0)) (v1 : (c : Dev Cert.FfnKernelIdeal.nD) → Buf (Elt Ideal) ((c.tc : Thread Cert.FfnKernelIdeal.nD Cert.FfnKernelIdeal.τ).loc Cert.FfnKernelIdeal.main_v16_1)) (v2 : (c : Dev Cert.FfnKernelIdeal.nD) → Buf (Elt Ideal) ((c.tc : Thread Cert.FfnKernelIdeal.nD Cert.FfnKernelIdeal.τ).loc Cert.FfnKernelIdeal.main_v16_2)) (v3 : (c : Dev Cert.FfnKernelIdeal.nD) → Buf (Elt Ideal) ((c.tc : Thread Cert.FfnKernelIdeal.nD Cert.FfnKernelIdeal.τ).loc Cert.FfnKernelIdeal.main_v16_3)) (v4 : (c : Dev Cert.FfnKernelIdeal.nD) → Buf (Elt Ideal) ((c.tc : Thread Cert.FfnKernelIdeal.nD Cert.FfnKernelIdeal.τ).loc Cert.FfnKernelIdeal.main_v16_4)) (v5 : (c : Dev Cert.FfnKernelIdeal.nD) → Buf (Elt Ideal) ((c.tc : Thread Cert.FfnKernelIdeal.nD Cert.FfnKernelIdeal.τ).loc Cert.FfnKernelIdeal.main_v16_5)) (v6 : (c : Dev Cert.FfnKernelIdeal.nD) → Buf (Elt Ideal) ((c.tc : Thread Cert.FfnKernelIdeal.nD Cert.FfnKernelIdeal.τ).loc Cert.FfnKernelIdeal.main_v16_6)) (v7 : (c : Dev Cert.FfnKernelIdeal.nD) → Buf (Elt Ideal) ((c.tc : Thread Cert.FfnKernelIdeal.nD Cert.FfnKernelIdeal.τ).loc Cert.FfnKernelIdeal.main_v16_7)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v16_0) = v0 c
          ∧ r.2.mem ((c.tc : Thread Cert.FfnKernelIdeal.nD Cert.FfnKernelIdeal.τ).loc Cert.FfnKernelIdeal.main_v16_1) = v1 c
          ∧ r.2.mem ((c.tc : Thread Cert.FfnKernelIdeal.nD Cert.FfnKernelIdeal.τ).loc Cert.FfnKernelIdeal.main_v16_2) = v2 c
          ∧ r.2.mem ((c.tc : Thread Cert.FfnKernelIdeal.nD Cert.FfnKernelIdeal.τ).loc Cert.FfnKernelIdeal.main_v16_3) = v3 c
          ∧ r.2.mem ((c.tc : Thread Cert.FfnKernelIdeal.nD Cert.FfnKernelIdeal.τ).loc Cert.FfnKernelIdeal.main_v16_4) = v4 c
          ∧ r.2.mem ((c.tc : Thread Cert.FfnKernelIdeal.nD Cert.FfnKernelIdeal.τ).loc Cert.FfnKernelIdeal.main_v16_5) = v5 c
          ∧ r.2.mem ((c.tc : Thread Cert.FfnKernelIdeal.nD Cert.FfnKernelIdeal.τ).loc Cert.FfnKernelIdeal.main_v16_6) = v6 c
          ∧ r.2.mem ((c.tc : Thread Cert.FfnKernelIdeal.nD Cert.FfnKernelIdeal.τ).loc Cert.FfnKernelIdeal.main_v16_7) = v7 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v99) = v0 c
          ∧ r.2.mem ((c.tc : Thread Cert.FfnReferenceIdeal.nD Cert.FfnReferenceIdeal.τ).loc Cert.FfnReferenceIdeal.main_v100) = v1 c
          ∧ r.2.mem ((c.tc : Thread Cert.FfnReferenceIdeal.nD Cert.FfnReferenceIdeal.τ).loc Cert.FfnReferenceIdeal.main_v101) = v2 c
          ∧ r.2.mem ((c.tc : Thread Cert.FfnReferenceIdeal.nD Cert.FfnReferenceIdeal.τ).loc Cert.FfnReferenceIdeal.main_v102) = v3 c
          ∧ r.2.mem ((c.tc : Thread Cert.FfnReferenceIdeal.nD Cert.FfnReferenceIdeal.τ).loc Cert.FfnReferenceIdeal.main_v103) = v4 c
          ∧ r.2.mem ((c.tc : Thread Cert.FfnReferenceIdeal.nD Cert.FfnReferenceIdeal.τ).loc Cert.FfnReferenceIdeal.main_v79) = v5 c
          ∧ r.2.mem ((c.tc : Thread Cert.FfnReferenceIdeal.nD Cert.FfnReferenceIdeal.τ).loc Cert.FfnReferenceIdeal.main_v53) = v6 c
          ∧ r.2.mem ((c.tc : Thread Cert.FfnReferenceIdeal.nD Cert.FfnReferenceIdeal.τ).loc Cert.FfnReferenceIdeal.main_v98) = v7 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_InKernel_InKernelIdeal : Prop :=
  True

def algebraic_InKernelIdeal_InReferenceIdeal_pre_inproj_finite [hInKernelIdeal : Cert.InKernelIdeal.Facts] [hInReferenceIdeal : Cert.InReferenceIdeal.Facts] [hPre_inproj_finite : Cert.Pre_inproj_finite.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_inproj_finite m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v14_0)) (v1 : (c : Dev Cert.InKernelIdeal.nD) → Buf (Elt Ideal) ((c.tc : Thread Cert.InKernelIdeal.nD Cert.InKernelIdeal.τ).loc Cert.InKernelIdeal.main_v14_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v14_0) = v0 c
          ∧ r.2.mem ((c.tc : Thread Cert.InKernelIdeal.nD Cert.InKernelIdeal.τ).loc Cert.InKernelIdeal.main_v14_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v36) = v0 c
          ∧ r.2.mem ((c.tc : Thread Cert.InReferenceIdeal.nD Cert.InReferenceIdeal.τ).loc Cert.InReferenceIdeal.main_v19) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)) →
    ∃ (v0 : (c : Dev Cert.OutKernelIdeal.nD) → Buf (Elt Ideal) ((c.tc : Thread Cert.OutKernelIdeal.nD Cert.OutKernelIdeal.τ).loc Cert.OutKernelIdeal.main_v1_0)) (v1 : (c : Dev Cert.OutKernelIdeal.nD) → Buf (Elt Ideal) ((c.tc : Thread Cert.OutKernelIdeal.nD Cert.OutKernelIdeal.τ).loc Cert.OutKernelIdeal.main_v1_1)) (v2 : (c : Dev Cert.OutKernelIdeal.nD) → Buf (Elt Ideal) ((c.tc : Thread Cert.OutKernelIdeal.nD Cert.OutKernelIdeal.τ).loc Cert.OutKernelIdeal.main_v1_2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v1_0) = v0 c
          ∧ r.2.mem ((c.tc : Thread Cert.OutKernelIdeal.nD Cert.OutKernelIdeal.τ).loc Cert.OutKernelIdeal.main_v1_1) = v1 c
          ∧ r.2.mem ((c.tc : Thread Cert.OutKernelIdeal.nD Cert.OutKernelIdeal.τ).loc Cert.OutKernelIdeal.main_v1_2) = v2 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_v14) = v1 c
          ∧ r.2.mem ((c.tc : Thread Cert.OutReferenceIdeal.nD Cert.OutReferenceIdeal.τ).loc Cert.OutReferenceIdeal.main_v27) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_InpKernel_InpKernelIdeal : Prop :=
  True

def algebraic_InpKernelIdeal_InpReferenceIdeal [hInpKernelIdeal : Cert.InpKernelIdeal.Facts] [hInpReferenceIdeal : Cert.InpReferenceIdeal.Facts] : Prop :=
  ∀ (m : (ℓ : Loc Cert.InpKernelIdeal.nD Cert.InpKernelIdeal.τ Cert.InpKernelIdeal.sig) → Buf (Elt Ideal) ℓ) (g : Dev Cert.InpKernelIdeal.nD → PrngReg)
    (m' : (ℓ : Loc Cert.InpReferenceIdeal.nD Cert.InpReferenceIdeal.τ Cert.InpReferenceIdeal.sig) → Buf (Elt Ideal) ℓ) (g' : Dev Cert.InpReferenceIdeal.nD → PrngReg), Pre_InpKernelIdeal m →
    (∀ c : Dev Cert.InpKernelIdeal.nD,
      m' ((c.tc : Thread Cert.InpReferenceIdeal.nD Cert.InpReferenceIdeal.τ).loc Cert.InpReferenceIdeal.main_arg0) = m ((c.tc : Thread Cert.InpKernelIdeal.nD Cert.InpKernelIdeal.τ).loc Cert.InpKernelIdeal.main_arg0)
      ∧ m' ((c.tc : Thread Cert.InpReferenceIdeal.nD Cert.InpReferenceIdeal.τ).loc Cert.InpReferenceIdeal.main_arg1) = m ((c.tc : Thread Cert.InpKernelIdeal.nD Cert.InpKernelIdeal.τ).loc Cert.InpKernelIdeal.main_arg1)
      ∧ m' ((c.tc : Thread Cert.InpReferenceIdeal.nD Cert.InpReferenceIdeal.τ).loc Cert.InpReferenceIdeal.main_arg2) = m ((c.tc : Thread Cert.InpKernelIdeal.nD Cert.InpKernelIdeal.τ).loc Cert.InpKernelIdeal.main_arg2)) →
    ∃ (v0 : (c : Dev Cert.InpKernelIdeal.nD) → Buf (Elt Ideal) ((c.tc : Thread Cert.InpKernelIdeal.nD Cert.InpKernelIdeal.τ).loc Cert.InpKernelIdeal.main_v6_0)) (v1 : (c : Dev Cert.InpKernelIdeal.nD) → Buf (Elt Ideal) ((c.tc : Thread Cert.InpKernelIdeal.nD Cert.InpKernelIdeal.τ).loc Cert.InpKernelIdeal.main_v6_1)) (v2 : (c : Dev Cert.InpKernelIdeal.nD) → Buf (Elt Ideal) ((c.tc : Thread Cert.InpKernelIdeal.nD Cert.InpKernelIdeal.τ).loc Cert.InpKernelIdeal.main_v6_2)),
      θ_run (Cert.InpKernelIdeal.defs (F := Ideal)) (onTc (τ := Cert.InpKernelIdeal.τ) (Cert.InpKernelIdeal.main (F := Ideal))) ⟨m, fun _ => 0, g⟩ (fun r => ∀ c : Dev Cert.InpKernelIdeal.nD,
          r.2.mem ((c.tc : Thread Cert.InpKernelIdeal.nD Cert.InpKernelIdeal.τ).loc Cert.InpKernelIdeal.main_v6_0) = v0 c
          ∧ r.2.mem ((c.tc : Thread Cert.InpKernelIdeal.nD Cert.InpKernelIdeal.τ).loc Cert.InpKernelIdeal.main_v6_1) = v1 c
          ∧ r.2.mem ((c.tc : Thread Cert.InpKernelIdeal.nD Cert.InpKernelIdeal.τ).loc Cert.InpKernelIdeal.main_v6_2) = v2 c
          ∧ r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
          ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
          ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2))
      ∧ θ_run (Cert.InpReferenceIdeal.defs (F := Ideal)) (onTc (τ := Cert.InpReferenceIdeal.τ) (Cert.InpReferenceIdeal.main (F := Ideal))) ⟨m', fun _ => 0, g'⟩ (fun r => ∀ c : Dev Cert.InpReferenceIdeal.nD,
          r.2.mem ((c.tc : Thread Cert.InpReferenceIdeal.nD Cert.InpReferenceIdeal.τ).loc Cert.InpReferenceIdeal.main_v16) = v0 c
          ∧ r.2.mem ((c.tc : Thread Cert.InpReferenceIdeal.nD Cert.InpReferenceIdeal.τ).loc Cert.InpReferenceIdeal.main_v17) = v1 c
          ∧ r.2.mem ((c.tc : Thread Cert.InpReferenceIdeal.nD Cert.InpReferenceIdeal.τ).loc Cert.InpReferenceIdeal.main_v15) = v2 c
          ∧ r.2.mem ((c.tc : Thread Cert.InpReferenceIdeal.nD Cert.InpReferenceIdeal.τ).loc Cert.InpReferenceIdeal.main_arg0) = m' ((c.tc : Thread Cert.InpReferenceIdeal.nD Cert.InpReferenceIdeal.τ).loc Cert.InpReferenceIdeal.main_arg0)
          ∧ r.2.mem ((c.tc : Thread Cert.InpReferenceIdeal.nD Cert.InpReferenceIdeal.τ).loc Cert.InpReferenceIdeal.main_arg1) = m' ((c.tc : Thread Cert.InpReferenceIdeal.nD Cert.InpReferenceIdeal.τ).loc Cert.InpReferenceIdeal.main_arg1)
          ∧ r.2.mem ((c.tc : Thread Cert.InpReferenceIdeal.nD Cert.InpReferenceIdeal.τ).loc Cert.InpReferenceIdeal.main_arg2) = m' ((c.tc : Thread Cert.InpReferenceIdeal.nD Cert.InpReferenceIdeal.τ).loc Cert.InpReferenceIdeal.main_arg2))

def Claim : Prop :=
  ∃ (hKernel : Cert.Kernel.Facts) (hKernelIdeal : Cert.KernelIdeal.Facts) (hReferenceIdeal : Cert.ReferenceIdeal.Facts) (hSsdKernel : Cert.SsdKernel.Facts) (hSsdKernelIdeal : Cert.SsdKernelIdeal.Facts) (hSsdReferenceIdeal : Cert.SsdReferenceIdeal.Facts) (hFfnKernel : Cert.FfnKernel.Facts) (hFfnKernelIdeal : Cert.FfnKernelIdeal.Facts) (hFfnReferenceIdeal : Cert.FfnReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts) (hInpKernel : Cert.InpKernel.Facts) (hInpKernelIdeal : Cert.InpKernelIdeal.Facts) (hInpReferenceIdeal : Cert.InpReferenceIdeal.Facts) (hPre_finite : Cert.Pre_finite.Facts) (hPre_ssd_finite : Cert.Pre_ssd_finite.Facts) (hPre_ffn_finite : Cert.Pre_ffn_finite.Facts) (hPre_inproj_finite : Cert.Pre_inproj_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_SsdKernel (hSsdKernel := hSsdKernel)
    ∧ quiescent_SsdKernelIdeal (hSsdKernelIdeal := hSsdKernelIdeal)
    ∧ quiescent_SsdKernelIdeal_pre_ssd_finite (hSsdKernelIdeal := hSsdKernelIdeal) (hPre_ssd_finite := hPre_ssd_finite)
    ∧ quiescent_SsdReferenceIdeal (hSsdReferenceIdeal := hSsdReferenceIdeal)
    ∧ quiescent_SsdReferenceIdeal_pre_ssd_finite (hSsdReferenceIdeal := hSsdReferenceIdeal) (hPre_ssd_finite := hPre_ssd_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_InKernel (hInKernel := hInKernel)
    ∧ quiescent_InKernelIdeal (hInKernelIdeal := hInKernelIdeal)
    ∧ quiescent_InKernelIdeal_pre_inproj_finite (hInKernelIdeal := hInKernelIdeal) (hPre_inproj_finite := hPre_inproj_finite)
    ∧ quiescent_InReferenceIdeal (hInReferenceIdeal := hInReferenceIdeal)
    ∧ quiescent_InReferenceIdeal_pre_inproj_finite (hInReferenceIdeal := hInReferenceIdeal) (hPre_inproj_finite := hPre_inproj_finite)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_InpKernel (hInpKernel := hInpKernel)
    ∧ quiescent_InpKernelIdeal (hInpKernelIdeal := hInpKernelIdeal)
    ∧ quiescent_InpReferenceIdeal (hInpReferenceIdeal := hInpReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_SsdKernel_SsdKernelIdeal
    ∧ algebraic_SsdKernelIdeal_SsdReferenceIdeal_pre_ssd_finite (hSsdKernelIdeal := hSsdKernelIdeal) (hSsdReferenceIdeal := hSsdReferenceIdeal) (hPre_ssd_finite := hPre_ssd_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_InKernel_InKernelIdeal
    ∧ algebraic_InKernelIdeal_InReferenceIdeal_pre_inproj_finite (hInKernelIdeal := hInKernelIdeal) (hInReferenceIdeal := hInReferenceIdeal) (hPre_inproj_finite := hPre_inproj_finite)
    ∧ preserves_OutKernel_OutKernelIdeal
    ∧ algebraic_OutKernelIdeal_OutReferenceIdeal (hOutKernelIdeal := hOutKernelIdeal) (hOutReferenceIdeal := hOutReferenceIdeal)
    ∧ preserves_InpKernel_InpKernelIdeal
    ∧ algebraic_InpKernelIdeal_InpReferenceIdeal (hInpKernelIdeal := hInpKernelIdeal) (hInpReferenceIdeal := hInpReferenceIdeal)
-- ==== Pre_ffn_finite.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S2816x1024 .f32) (main_arg5 : FVec F S1x1024 .f32) (main_arg6 : FVec F S1x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S8192x1024 .f32) (main_arg2 : FVec F S1024x2816 .f32) (main_arg3 : FVec F S1024x2816 .f32) (main_arg4 : FVec F S2816x1024 .f32) (main_arg5 : FVec F S1x1024 .f32) (main_arg6 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_arg6 main_v3 main_v7 main_v11 main_v15
-- ==== Pre_finite.lean ====
abbrev S8192x1024 : Shape := ⟨2, ![8192, 1024]⟩
abbrev S2048x1024 : Shape := ⟨2, ![2048, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S2048x1024 .f32) (main_arg3 : FVec F S1x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Pre_inproj_finite.lean ====
abbrev S8192x1024 : Shape := ⟨2, ![8192, 1024]⟩
abbrev S1x1024 : Shape := ⟨2, ![1, 1024]⟩
abbrev S1024x4624 : Shape := ⟨2, ![1024, 4624]⟩
abbrev S8192x4624 : Shape := ⟨2, ![8192, 4624]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4624 : S_.BroadcastsInDim S1024x4624 (![] : Fin 0 → Fin S1024x4624.rank)
  reducesTo_S1024x4624_S_d0_1 : S1024x4624.ReducesTo [0, 1] S_
  bcast_S_S8192x4624 : S_.BroadcastsInDim S8192x4624 (![] : Fin 0 → Fin S8192x4624.rank)
  reducesTo_S8192x4624_S_d0_1 : S8192x4624.ReducesTo [0, 1] S_

variable [Facts]

def fn_part1 {F : FTy → Type} [FloatOps F] (main_arg4 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x1024 .f32) (main_arg1 : FVec F S1x1024 .f32) (main_arg2 : FVec F S1024x4624 .f32) (main_arg3 : FVec F S8192x4624 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x4624 .f32 := Host.absf main_arg2
  let main_cst_2 : FVec F S_ .f32 := constant S_ .f32 0x7F800000#32
  let main_v9 : FVec F S1024x4624 .f32 := broadcastInDim S1024x4624 ![] bcast_S_S1024x4624 main_cst_2
  let main_v10 : IVec S1024x4624 1 := cmpf .olt main_v8 main_v9
  let main_c_3 : IVec S_ 1 := constantI S_ 1 1#1
  let main_v11 : IVec S_ 1 := (fun x v => Host.reduce IntOp.andi x v reducesTo_S1024x4624_S_d0_1 h_S_) main_v10 main_c_3
  let main_v12 : FVec F S8192x4624 .f32 := Host.absf main_arg3
  let main_cst_4 : FVec F S_ .f32 := constant S_ .f32 0x7F800000#32
  let main_v13 : FVec F S8192x4624 .f32 := broadcastInDim S8192x4624 ![] bcast_S_S8192x4624 main_cst_4
  let main_v14 : IVec S8192x4624 1 := cmpf .olt main_v12 main_v13
  let main_c_5 : IVec S_ 1 := constantI S_ 1 1#1
  let main_v15 : IVec S_ 1 := (fun x v => Host.reduce IntOp.andi x v reducesTo_S8192x4624_S_d0_1 h_S_) main_v14 main_c_5
  fn_part1 (F := F) main_arg4 main_v3 main_v7 main_v11 main_v15
-- ==== Pre_ssd_finite.lean ====
abbrev S8192x4608 : Shape := ⟨2, ![8192, 4608]⟩
abbrev S8192x16 : Shape := ⟨2, ![8192, 16]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S8192x1024 : Shape := ⟨2, ![8192, 1024]⟩
abbrev S8192x2560 : Shape := ⟨2, ![8192, 2560]⟩
abbrev S_ : Shape := ⟨0, ![]⟩

class Facts : Prop where
  slices_S8192x4608_S8192x2560_0_2048 : S8192x4608.Slices ![0, 2048] S8192x2560
  bcast_S_S8192x2560 : S_.BroadcastsInDim S8192x2560 (![] : Fin 0 → Fin S8192x2560.rank)
  reducesTo_S8192x2560_S_d0_1 : S8192x2560.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S4x1536 : S_.BroadcastsInDim S4x1536 (![] : Fin 0 → Fin S4x1536.rank)
  reducesTo_S4x1536_S_d0_1 : S4x1536.ReducesTo [0, 1] S_
  bcast_S_S1x1536 : S_.BroadcastsInDim S1x1536 (![] : Fin 0 → Fin S1x1536.rank)
  reducesTo_S1x1536_S_d0_1 : S1x1536.ReducesTo [0, 1] S_
  bcast_S_S1x16 : S_.BroadcastsInDim S1x16 (![] : Fin 0 → Fin S1x16.rank)
  reducesTo_S1x16_S_d0_1 : S1x16.ReducesTo [0, 1] S_
  bcast_S_S1x1024 : S_.BroadcastsInDim S1x1024 (![] : Fin 0 → Fin S1x1024.rank)
  reducesTo_S1x1024_S_d0_1 : S1x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S1x16_S8192x16_0_1 : S1x16.BroadcastsInDim S8192x16 (![0, 1] : Fin 2 → Fin S8192x16.rank)

variable [Facts]

def fn_part3 {F : FTy → Type} [FloatOps F] (main_v44 : IVec S_ 1) (main_v51 : IVec S8192x16 1) (main_c_17 : IVec S_ 1) : IVec S_ 1 :=
  let main_v52 : IVec S_ 1 := (fun x v => Host.reduce IntOp.andi x v reducesTo_S8192x16_S_d0_1 h_S_) main_v51 main_c_17
  let main_v53 : IVec S_ 1 := andi main_v44 main_v52
  main_v53

def fn_part2 {F : FTy → Type} [FloatOps F] (main_arg1 : FVec F S8192x16 .f32) (main_arg4 : FVec F S1x16 .f32) (main_arg8 : FVec F S8192x1024 .f32) (main_v4 : IVec S_ 1) (main_v8 : IVec S_ 1) (main_v12 : IVec S_ 1) (main_v16 : IVec S_ 1) (main_v20 : IVec S_ 1) (main_v24 : IVec S_ 1) (main_v28 : IVec S_ 1) (main_v31 : IVec S1x1024 1) (main_c_13 : IVec S_ 1) : IVec S_ 1 :=
  let main_v32 : IVec S_ 1 := (fun x v => Host.reduce IntOp.andi x v reducesTo_S1x1024_S_d0_1 h_S_) main_v31 main_c_13
  let main_v33 : FVec F S8192x1024 .f32 := Host.absf main_arg8
  let main_cst_14 : FVec F S_ .f32 := constant S_ .f32 0x7F800000#32
  let main_v34 : FVec F S8192x1024 .f32 := broadcastInDim S8192x1024 ![] bcast_S_S8192x1024 main_cst_14
  let main_v35 : IVec S8192x1024 1 := cmpf .olt main_v33 main_v34
  let main_c_15 : IVec S_ 1 := constantI S_ 1 1#1
  let main_v36 : IVec S_ 1 := (fun x v => Host.reduce IntOp.andi x v reducesTo_S8192x1024_S_d0_1 h_S_) main_v35 main_c_15
  let main_v37 : IVec S_ 1 := andi main_v4 main_v8
  let main_v38 : IVec S_ 1 := andi main_v37 main_v12
  let main_v39 : IVec S_ 1 := andi main_v38 main_v16
  let main_v40 : IVec S_ 1 := andi main_v39 main_v20
  let main_v41 : IVec S_ 1 := andi main_v40 main_v24
  let main_v42 : IVec S_ 1 := andi main_v41 main_v28
  let main_v43 : IVec S_ 1 := andi main_v42 main_v32
  let main_v44 : IVec S_ 1 := andi main_v43 main_v36
  let main_v45 : FVec F S8192x16 .f32 := broadcastInDim S8192x16 ![0, 1] bcast_S1x16_S8192x16_0_1 main_arg4
  let main_v46 : FVec F S8192x16 .f32 := addf main_arg1 main_v45
  let main_v47 : FVec F S8192x16 .f32 := Host.absf main_v46
  let main_v48 : FVec F S8192x16 .f32 := Host.negf main_v47
  let main_v49 : FVec F S8192x16 .f32 := Host.exp main_v48
  let main_cst_16 : FVec F S_ .f32 := constant S_ .f32 0x3A83126F#32
  let main_v50 : FVec F S8192x16 .f32 := broadcastInDim S8192x16 ![] bcast_S_S8192x16 main_cst_16
  let main_v51 : IVec S8192x16 1 := cmpf .oge main_v49 main_v50
  let main_c_17 : IVec S_ 1 := constantI S_ 1 1#1
  fn_part3 (F := F) main_v44 main_v51 main_c_17

def fn_part1 {F : FTy → Type} [FloatOps F] (main_arg1 : FVec F S8192x16 .f32) (main_arg4 : FVec F S1x16 .f32) (main_arg5 : FVec F S1x16 .f32) (main_arg6 : FVec F S1x16 .f32) (main_arg7 : FVec F S1x1024 .f32) (main_arg8 : FVec F S8192x1024 .f32) (main_v4 : IVec S_ 1) (main_v8 : IVec S_ 1) (main_v12 : IVec S_ 1) (main_v15 : IVec S1x1536 1) (main_c_5 : IVec S_ 1) : IVec S_ 1 :=
  let main_v16 : IVec S_ 1 := (fun x v => Host.reduce IntOp.andi x v reducesTo_S1x1536_S_d0_1 h_S_) main_v15 main_c_5
  let main_v17 : FVec F S1x16 .f32 := Host.absf main_arg4
  let main_cst_6 : FVec F S_ .f32 := constant S_ .f32 0x7F800000#32
  let main_v18 : FVec F S1x16 .f32 := broadcastInDim S1x16 ![] bcast_S_S1x16 main_cst_6
  let main_v19 : IVec S1x16 1 := cmpf .olt main_v17 main_v18
  let main_c_7 : IVec S_ 1 := constantI S_ 1 1#1
  let main_v20 : IVec S_ 1 := (fun x v => Host.reduce IntOp.andi x v reducesTo_S1x16_S_d0_1 h_S_) main_v19 main_c_7
  let main_v21 : FVec F S1x16 .f32 := Host.absf main_arg5
  let main_cst_8 : FVec F S_ .f32 := constant S_ .f32 0x7F800000#32
  let main_v22 : FVec F S1x16 .f32 := broadcastInDim S1x16 ![] bcast_S_S1x16 main_cst_8
  let main_v23 : IVec S1x16 1 := cmpf .olt main_v21 main_v22
  let main_c_9 : IVec S_ 1 := constantI S_ 1 1#1
  let main_v24 : IVec S_ 1 := (fun x v => Host.reduce IntOp.andi x v reducesTo_S1x16_S_d0_1 h_S_) main_v23 main_c_9
  let main_v25 : FVec F S1x16 .f32 := Host.absf main_arg6
  let main_cst_10 : FVec F S_ .f32 := constant S_ .f32 0x7F800000#32
  let main_v26 : FVec F S1x16 .f32 := broadcastInDim S1x16 ![] bcast_S_S1x16 main_cst_10
  let main_v27 : IVec S1x16 1 := cmpf .olt main_v25 main_v26
  let main_c_11 : IVec S_ 1 := constantI S_ 1 1#1
  let main_v28 : IVec S_ 1 := (fun x v => Host.reduce IntOp.andi x v reducesTo_S1x16_S_d0_1 h_S_) main_v27 main_c_11
  let main_v29 : FVec F S1x1024 .f32 := Host.absf main_arg7
  let main_cst_12 : FVec F S_ .f32 := constant S_ .f32 0x7F800000#32
  let main_v30 : FVec F S1x1024 .f32 := broadcastInDim S1x1024 ![] bcast_S_S1x1024 main_cst_12
  let main_v31 : IVec S1x1024 1 := cmpf .olt main_v29 main_v30
  let main_c_13 : IVec S_ 1 := constantI S_ 1 1#1
  fn_part2 (F := F) main_arg1 main_arg4 main_arg8 main_v4 main_v8 main_v12 main_v16 main_v20 main_v24 main_v28 main_v31 main_c_13

def fn {F : FTy → Type} [FloatOps F] (main_arg0 : FVec F S8192x4608 .f32) (main_arg1 : FVec F S8192x16 .f32) (main_arg2 : FVec F S4x1536 .f32) (main_arg3 : FVec F S1x1536 .f32) (main_arg4 : FVec F S1x16 .f32) (main_arg5 : FVec F S1x16 .f32) (main_arg6 : FVec F S1x16 .f32) (main_arg7 : FVec F S1x1024 .f32) (main_arg8 : FVec F S8192x1024 .f32) : IVec S_ 1 :=
  let main_v0 : FVec F S8192x2560 .f32 := (extractStridedSlice S8192x2560 ![0, 2048] · slices_S8192x4608_S8192x2560_0_2048) main_arg0
  let main_v1 : FVec F S8192x2560 .f32 := Host.absf main_v0
  let main_cst : FVec F S_ .f32 := constant S_ .f32 0x7F800000#32
  let main_v2 : FVec F S8192x2560 .f32 := broadcastInDim S8192x2560 ![] bcast_S_S8192x2560 main_cst
  let main_v3 : IVec S8192x2560 1 := cmpf .olt main_v1 main_v2
  let main_c : IVec S_ 1 := constantI S_ 1 1#1
  let main_v4 : IVec S_ 1 := (fun x v => Host.reduce IntOp.andi x v reducesTo_S8192x2560_S_d0_1 h_S_) main_v3 main_c
  let main_v5 : FVec F S8192x16 .f32 := Host.absf main_arg1
  let main_cst_0 : FVec F S_ .f32 := constant S_ .f32 0x7F800000#32
  let main_v6 : FVec F S8192x16 .f32 := broadcastInDim S8192x16 ![] bcast_S_S8192x16 main_cst_0
  let main_v7 : IVec S8192x16 1 := cmpf .olt main_v5 main_v6
  let main_c_1 : IVec S_ 1 := constantI S_ 1 1#1
  let main_v8 : IVec S_ 1 := (fun x v => Host.reduce IntOp.andi x v reducesTo_S8192x16_S_d0_1 h_S_) main_v7 main_c_1
  let main_v9 : FVec F S4x1536 .f32 := Host.absf main_arg2
  let main_cst_2 : FVec F S_ .f32 := constant S_ .f32 0x7F800000#32
  let main_v10 : FVec F S4x1536 .f32 := broadcastInDim S4x1536 ![] bcast_S_S4x1536 main_cst_2
  let main_v11 : IVec S4x1536 1 := cmpf .olt main_v9 main_v10
  let main_c_3 : IVec S_ 1 := constantI S_ 1 1#1
  let main_v12 : IVec S_ 1 := (fun x v => Host.reduce IntOp.andi x v reducesTo_S4x1536_S_d0_1 h_S_) main_v11 main_c_3
  let main_v13 : FVec F S1x1536 .f32 := Host.absf main_arg3
  let main_cst_4 : FVec F S_ .f32 := constant S_ .f32 0x7F800000#32
  let main_v14 : FVec F S1x1536 .f32 := broadcastInDim S1x1536 ![] bcast_S_S1x1536 main_cst_4
  let main_v15 : IVec S1x1536 1 := cmpf .olt main_v13 main_v14
  let main_c_5 : IVec S_ 1 := constantI S_ 1 1#1
  fn_part1 (F := F) main_arg1 main_arg4 main_arg5 main_arg6 main_arg7 main_arg8 main_v4 main_v8 main_v12 main_v15 main_c_5
-- ==== Kernel.lean ====
abbrev S8192x1024 : Shape := ⟨2, ![8192, 1024]⟩
abbrev S2048x1024 : Shape := ⟨2, ![2048, 1024]⟩
abbrev S1x1024 : Shape := ⟨2, ![1, 1024]⟩
abbrev S8192x2048 : Shape := ⟨2, ![8192, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1024x1024 : Shape := ⟨2, ![1024, 1024]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x1024, .f32⟩
  | .hbm, ⟨3, _⟩ => ⟨S1x1024, .f32⟩
  | .hbm, ⟨4, _⟩ => ⟨S8192x1024, .f32⟩
  | .hbm, ⟨5, _⟩ => ⟨S8192x2048, .f32⟩
  | .hbm, ⟨6, _⟩ => ⟨S8192x1024, .f32⟩
  | .hbm, ⟨7, _⟩ => ⟨S2048x1024, .bf16⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x1024 : Shape := ⟨2, ![8192, 1024]⟩
abbrev S2048x1024 : Shape := ⟨2, ![2048, 1024]⟩
abbrev S1x1024 : Shape := ⟨2, ![1, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x1024, .f32⟩
  | .hbm, ⟨3, _⟩ => ⟨S1x1024, .f32⟩
  | .hbm, ⟨4, _⟩ => ⟨S8192x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x2048, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== SsdKernel.lean ====
abbrev S8192x4608 : Shape := ⟨2, ![8192, 4608]⟩
abbrev S8192x16 : Shape := ⟨2, ![8192, 16]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S8192x1024 : Shape := ⟨2, ![8192, 1024]⟩
abbrev S16 : Shape := ⟨1, ![16]⟩
abbrev S16x64 : Shape := ⟨2, ![16, 64]⟩
abbrev S1024 : Shape := ⟨1, ![1024]⟩
abbrev S128 : Shape := ⟨1, ![128]⟩
abbrev S128x1 : Shape := ⟨2, ![128, 1]⟩
abbrev S_ : Shape := ⟨0, ![]⟩
abbrev S128x1024 : Shape := ⟨2, ![128, 1024]⟩
abbrev S8192x1536 : Shape := ⟨2, ![8192, 1536]⟩
abbrev S3x1536 : Shape := ⟨2, ![3, 1536]⟩
abbrev S8195x1536 : Shape := ⟨2, ![8195, 1536]⟩
abbrev S1536 : Shape := ⟨1, ![1536]⟩
abbrev S8192x2x8x64 : Shape := ⟨4, ![8192, 2, 8, 64]⟩
abbrev S8192x256 : Shape := ⟨2, ![8192, 256]⟩
abbrev S8192x2x128 : Shape := ⟨3, ![8192, 2, 128]⟩
abbrev S8192x2x8 : Shape := ⟨3, ![8192, 2, 8]⟩
abbrev S8192x2x8x1 : Shape := ⟨4, ![8192, 2, 8, 1]⟩
abbrev S2x8 : Shape := ⟨2, ![2, 8]⟩
abbrev S1x2x8 : Shape := ⟨3, ![1, 2, 8]⟩
abbrev S64x128x2x8x64 : Shape := ⟨5, ![64, 128, 2, 8, 64]⟩
abbrev S64x128x2x128 : Shape := ⟨4, ![64, 128, 2, 128]⟩
abbrev S64x128x2x8 : Shape := ⟨4, ![64, 128, 2, 8]⟩
abbrev S2x8x64x128 : Shape := ⟨4, ![2, 8, 64, 128]⟩
abbrev S2x8x64x128x1 : Shape := ⟨5, ![2, 8, 64, 128, 1]⟩
abbrev S2x8x64x1x128 : Shape := ⟨5, ![2, 8, 64, 1, 128]⟩
abbrev S2x8x64x128x128 : Shape := ⟨5, ![2, 8, 64, 128, 128]⟩
abbrev S128x128 : Shape := ⟨2, ![128, 128]⟩
abbrev S2x64x128x128 : Shape := ⟨4, ![2, 64, 128, 128]⟩
abbrev S2x1x64x128x128 : Shape := ⟨5, ![2, 1, 64, 128, 128]⟩
abbrev S64x2x8x64x128 : Shape := ⟨5, ![64, 2, 8, 64, 128]⟩
abbrev S2x8x64x1 : Shape := ⟨4, ![2, 8, 64, 1]⟩
abbrev S64x128x2x8x1 : Shape := ⟨5, ![64, 128, 2, 8, 1]⟩
abbrev S2x8x1 : Shape := ⟨3, ![2, 8, 1]⟩
abbrev S2x8x64 : Shape := ⟨3, ![2, 8, 64]⟩
abbrev S2x8x65 : Shape := ⟨3, ![2, 8, 65]⟩
abbrev S2x8x65x1 : Shape := ⟨4, ![2, 8, 65, 1]⟩
abbrev S2x8x1x65 : Shape := ⟨4, ![2, 8, 1, 65]⟩
abbrev S2x8x65x65 : Shape := ⟨4, ![2, 8, 65, 65]⟩
abbrev S65x65 : Shape := ⟨2, ![65, 65]⟩
abbrev S1x2x8x64x128 : Shape := ⟨5, ![1, 2, 8, 64, 128]⟩
abbrev S65x2x8x64x128 : Shape := ⟨5, ![65, 2, 8, 64, 128]⟩
abbrev S2x8x64x128x65 : Shape := ⟨5, ![2, 8, 64, 128, 65]⟩
abbrev S1x2x8x64 : Shape := ⟨4, ![1, 2, 8, 64]⟩
abbrev S64x128x1024 : Shape := ⟨3, ![64, 128, 1024]⟩
abbrev S8192x128 : Shape := ⟨2, ![8192, 128]⟩
abbrev S1x128 : Shape := ⟨2, ![1, 128]⟩
abbrev S8192x2560 : Shape := ⟨2, ![8192, 2560]⟩
abbrev S128x1536 : Shape := ⟨2, ![128, 1536]⟩
abbrev S1x128x1024 : Shape := ⟨3, ![1, 128, 1024]⟩
abbrev S128x2560 : Shape := ⟨2, ![128, 2560]⟩
abbrev S8x1536 : Shape := ⟨2, ![8, 1536]⟩
abbrev S128x256 : Shape := ⟨2, ![128, 256]⟩
abbrev S128x512 : Shape := ⟨2, ![128, 512]⟩
abbrev S1x512 : Shape := ⟨2, ![1, 512]⟩
abbrev S120x1536 : Shape := ⟨2, ![120, 1536]⟩

abbrev nBuf : Space → Nat
  | .hbm => 232
  | .vmem => 36
  | .smem => 0
  | _ => 0

abbrev hbmTy0_0 (i : Nat) : BufTy := match i % 128 with
  | 0 => ⟨S8192x4608, .f32⟩
  | 1 => ⟨S8192x16, .f32⟩
  | 2 => ⟨S4x1536, .f32⟩
  | 3 => ⟨S1x1536, .f32⟩
  | 4 => ⟨S1x16, .f32⟩
  | 5 => ⟨S1x16, .f32⟩
  | 6 => ⟨S1x16, .f32⟩
  | 7 => ⟨S1x1024, .f32⟩
  | 8 => ⟨S8192x1024, .f32⟩
  | 9 => ⟨S16, .f32⟩
  | 10 => ⟨S16x64, .f32⟩
  | 11 => ⟨S1024, .f32⟩
  | 12 => ⟨S1x1024, .f32⟩
  | 13 => ⟨S128, .i32⟩
  | 14 => ⟨S128x1, .i32⟩
  | 15 => ⟨S1024, .i32⟩
  | 16 => ⟨S1x1024, .i32⟩
  | 17 => ⟨S_, .i32⟩
  | 18 => ⟨S_, .i32⟩
  | 19 => ⟨S1x1024, .i32⟩
  | 20 => ⟨S1x1024, .i32⟩
  | 21 => ⟨S1x1024, .i32⟩
  | 22 => ⟨S_, .i32⟩
  | 23 => ⟨S1x1024, .i32⟩
  | 24 => ⟨S1x1024, .i1⟩
  | 25 => ⟨S1x1024, .i32⟩
  | 26 => ⟨S1x1024, .i32⟩
  | 27 => ⟨S_, .i32⟩
  | 28 => ⟨S1x1024, .i32⟩
  | 29 => ⟨S1x1024, .i1⟩
  | 30 => ⟨S1x1024, .i1⟩
  | 31 => ⟨S_, .i32⟩
  | 32 => ⟨S1x1024, .i32⟩
  | 33 => ⟨S1x1024, .i32⟩
  | 34 => ⟨S1x1024, .i32⟩
  | 35 => ⟨S128x1024, .i32⟩
  | 36 => ⟨S128x1024, .i32⟩
  | 37 => ⟨S128x1024, .i1⟩
  | 38 => ⟨S128x1024, .bf16⟩
  | 39 => ⟨S8192x1536, .f32⟩
  | 40 => ⟨S_, .f32⟩
  | 41 => ⟨S3x1536, .f32⟩
  | 42 => ⟨S8195x1536, .f32⟩
  | 43 => ⟨S8192x1536, .f32⟩
  | 44 => ⟨S1x1536, .f32⟩
  | 45 => ⟨S1536, .f32⟩
  | 46 => ⟨S1x1536, .f32⟩
  | 47 => ⟨S8192x1536, .f32⟩
  | 48 => ⟨S8192x1536, .f32⟩
  | 49 => ⟨S8192x1536, .f32⟩
  | 50 => ⟨S8192x1536, .f32⟩
  | 51 => ⟨S8192x1536, .f32⟩
  | 52 => ⟨S1x1536, .f32⟩
  | 53 => ⟨S1536, .f32⟩
  | 54 => ⟨S1x1536, .f32⟩
  | 55 => ⟨S8192x1536, .f32⟩
  | 56 => ⟨S8192x1536, .f32⟩
  | 57 => ⟨S8192x1536, .f32⟩
  | 58 => ⟨S8192x1536, .f32⟩
  | 59 => ⟨S1x1536, .f32⟩
  | 60 => ⟨S1536, .f32⟩
  | 61 => ⟨S1x1536, .f32⟩
  | 62 => ⟨S8192x1536, .f32⟩
  | 63 => ⟨S8192x1536, .f32⟩
  | 64 => ⟨S8192x1536, .f32⟩
  | 65 => ⟨S8192x1536, .f32⟩
  | 66 => ⟨S1x1536, .f32⟩
  | 67 => ⟨S1536, .f32⟩
  | 68 => ⟨S1x1536, .f32⟩
  | 69 => ⟨S8192x1536, .f32⟩
  | 70 => ⟨S8192x1536, .f32⟩
  | 71 => ⟨S8192x1536, .f32⟩
  | 72 => ⟨S1x16, .f32⟩
  | 73 => ⟨S1x16, .f32⟩
  | 74 => ⟨S8192x1536, .f32⟩
  | 75 => ⟨S8192x1536, .f32⟩
  | 76 => ⟨S_, .f32⟩
  | 77 => ⟨S8192x1536, .f32⟩
  | 78 => ⟨S8192x1536, .f32⟩
  | 79 => ⟨S_, .f32⟩
  | 80 => ⟨S8192x1536, .f32⟩
  | 81 => ⟨S8192x1536, .f32⟩
  | 82 => ⟨S8192x1536, .f32⟩
  | 83 => ⟨S8192x1024, .f32⟩
  | 84 => ⟨S8192x2x8x64, .f32⟩
  | 85 => ⟨S8192x256, .f32⟩
  | 86 => ⟨S8192x2x128, .f32⟩
  | 87 => ⟨S8192x256, .f32⟩
  | 88 => ⟨S8192x2x128, .f32⟩
  | 89 => ⟨S8192x16, .f32⟩
  | 90 => ⟨S8192x16, .f32⟩
  | 91 => ⟨S_, .f32⟩
  | 92 => ⟨S8192x16, .f32⟩
  | 93 => ⟨S8192x16, .f32⟩
  | 94 => ⟨S8192x16, .f32⟩
  | 95 => ⟨S8192x16, .f32⟩
  | 96 => ⟨S8192x16, .i1⟩
  | 97 => ⟨S8192x16, .f32⟩
  | 98 => ⟨S8192x16, .f32⟩
  | 99 => ⟨S8192x16, .f32⟩
  | 100 => ⟨S8192x16, .f32⟩
  | 101 => ⟨S8192x16, .f32⟩
  | 102 => ⟨S8192x16, .f32⟩
  | 103 => ⟨S8192x16, .f32⟩
  | 104 => ⟨S8192x16, .f32⟩
  | 105 => ⟨S8192x2x8, .f32⟩
  | 106 => ⟨S8192x2x8x1, .f32⟩
  | 107 => ⟨S8192x2x8x64, .f32⟩
  | 108 => ⟨S8192x2x8x64, .f32⟩
  | 109 => ⟨S2x8, .f32⟩
  | 110 => ⟨S1x2x8, .f32⟩
  | 111 => ⟨S8192x2x8, .f32⟩
  | 112 => ⟨S8192x2x8, .f32⟩
  | 113 => ⟨S64x128x2x8x64, .f32⟩
  | 114 => ⟨S64x128x2x128, .f32⟩
  | 115 => ⟨S64x128x2x128, .f32⟩
  | 116 => ⟨S64x128x2x8, .f32⟩
  | 117 => ⟨S2x8x64x128, .f32⟩
  | 118 => ⟨S_, .f32⟩
  | 119 => ⟨S_, .f32⟩
  | 120 => ⟨S2x8x64x128, .f32⟩
  | 121 => ⟨S_, .f32⟩
  | 122 => ⟨S_, .f32⟩
  | 123 => ⟨S2x8x64x128, .f32⟩
  | 124 => ⟨S2x8x64x128x1, .f32⟩
  | 125 => ⟨S2x8x64x1x128, .f32⟩
  | 126 => ⟨S2x8x64x128x128, .f32⟩
  | 127 => ⟨S2x8x64x128x128, .f32⟩
  | _ => ⟨S8192x4608, .f32⟩

abbrev hbmTy0_1 (i : Nat) : BufTy := match i % 128 with
  | 0 => ⟨S2x8x64x128x128, .f32⟩
  | 1 => ⟨S_, .i1⟩
  | 2 => ⟨S128x128, .i1⟩
  | 3 => ⟨S128x128, .i32⟩
  | 4 => ⟨S_, .i32⟩
  | 5 => ⟨S128x128, .i32⟩
  | 6 => ⟨S128x128, .i32⟩
  | 7 => ⟨S128x128, .i32⟩
  | 8 => ⟨S128x128, .i1⟩
  | 9 => ⟨S_, .i1⟩
  | 10 => ⟨S128x128, .i1⟩
  | 11 => ⟨S128x128, .i1⟩
  | 12 => ⟨S_, .f32⟩
  | 13 => ⟨S_, .f32⟩
  | 14 => ⟨S2x8x64x128x128, .i1⟩
  | 15 => ⟨S2x8x64x128x128, .f32⟩
  | 16 => ⟨S2x8x64x128x128, .f32⟩
  | 17 => ⟨S2x8x64x128x128, .f32⟩
  | 18 => ⟨S2x64x128x128, .f32⟩
  | 19 => ⟨S2x1x64x128x128, .f32⟩
  | 20 => ⟨S2x8x64x128x128, .f32⟩
  | 21 => ⟨S2x8x64x128x128, .f32⟩
  | 22 => ⟨S64x2x8x64x128, .f32⟩
  | 23 => ⟨S64x128x2x8x64, .f32⟩
  | 24 => ⟨S2x8x64x1, .f32⟩
  | 25 => ⟨S2x8x64x128, .f32⟩
  | 26 => ⟨S2x8x64x128, .f32⟩
  | 27 => ⟨S2x8x64x128, .f32⟩
  | 28 => ⟨S64x128x2x8, .f32⟩
  | 29 => ⟨S64x128x2x8x1, .f32⟩
  | 30 => ⟨S64x128x2x8x64, .f32⟩
  | 31 => ⟨S64x128x2x8x64, .f32⟩
  | 32 => ⟨S64x2x8x64x128, .f32⟩
  | 33 => ⟨S_, .f32⟩
  | 34 => ⟨S2x8x1, .f32⟩
  | 35 => ⟨S2x8x64x1, .f32⟩
  | 36 => ⟨S2x8x64, .f32⟩
  | 37 => ⟨S2x8x65, .f32⟩
  | 38 => ⟨S_, .f32⟩
  | 39 => ⟨S_, .f32⟩
  | 40 => ⟨S2x8x65, .f32⟩
  | 41 => ⟨S2x8x65x1, .f32⟩
  | 42 => ⟨S2x8x1x65, .f32⟩
  | 43 => ⟨S2x8x65x65, .f32⟩
  | 44 => ⟨S2x8x65x65, .f32⟩
  | 45 => ⟨S2x8x65x65, .f32⟩
  | 46 => ⟨S_, .i1⟩
  | 47 => ⟨S65x65, .i1⟩
  | 48 => ⟨S65x65, .i32⟩
  | 49 => ⟨S_, .i32⟩
  | 50 => ⟨S65x65, .i32⟩
  | 51 => ⟨S65x65, .i32⟩
  | 52 => ⟨S65x65, .i32⟩
  | 53 => ⟨S65x65, .i1⟩
  | 54 => ⟨S_, .i1⟩
  | 55 => ⟨S65x65, .i1⟩
  | 56 => ⟨S65x65, .i1⟩
  | 57 => ⟨S_, .f32⟩
  | 58 => ⟨S_, .f32⟩
  | 59 => ⟨S2x8x65x65, .i1⟩
  | 60 => ⟨S2x8x65x65, .f32⟩
  | 61 => ⟨S2x8x65x65, .f32⟩
  | 62 => ⟨S2x8x65x65, .f32⟩
  | 63 => ⟨S1x2x8x64x128, .f32⟩
  | 64 => ⟨S_, .f32⟩
  | 65 => ⟨S1x2x8x64x128, .f32⟩
  | 66 => ⟨S65x2x8x64x128, .f32⟩
  | 67 => ⟨S2x8x64x128x65, .f32⟩
  | 68 => ⟨S65x2x8x64x128, .f32⟩
  | 69 => ⟨S64x2x8x64x128, .f32⟩
  | 70 => ⟨S2x8x64x128, .f32⟩
  | 71 => ⟨S64x128x2x8, .f32⟩
  | 72 => ⟨S64x128x2x8x1, .f32⟩
  | 73 => ⟨S64x2x8x64x128, .f32⟩
  | 74 => ⟨S64x128x2x8x64, .f32⟩
  | 75 => ⟨S64x128x2x8x64, .f32⟩
  | 76 => ⟨S64x128x2x8x64, .f32⟩
  | 77 => ⟨S64x128x2x8x64, .f32⟩
  | 78 => ⟨S8192x2x8x64, .f32⟩
  | 79 => ⟨S2x8x64, .f32⟩
  | 80 => ⟨S1x2x8x64, .f32⟩
  | 81 => ⟨S8192x2x8x64, .f32⟩
  | 82 => ⟨S8192x2x8x64, .f32⟩
  | 83 => ⟨S8192x2x8x64, .f32⟩
  | 84 => ⟨S8192x1024, .f32⟩
  | 85 => ⟨S64x128x2x8x64, .f32⟩
  | 86 => ⟨S64x128x1024, .f32⟩
  | 87 => ⟨S_, .i32⟩
  | 88 => ⟨S_, .f32⟩
  | 89 => ⟨S8192x128, .f32⟩
  | 90 => ⟨S_, .i32⟩
  | 91 => ⟨S_, .f32⟩
  | 92 => ⟨S1x128, .f32⟩
  | 93 => ⟨S_, .i32⟩
  | 94 => ⟨S_, .f32⟩
  | 95 => ⟨S1x128, .f32⟩
  | 96 => ⟨S8192x2560, .bf16⟩
  | 97 => ⟨S8192x128, .bf16⟩
  | 98 => ⟨S4x1536, .f32⟩
  | 99 => ⟨S1x1536, .f32⟩
  | 100 => ⟨S1x128, .f32⟩
  | 101 => ⟨S1x128, .f32⟩
  | 102 => ⟨S1x1024, .f32⟩
  | 103 => ⟨S1x1024, .f32⟩
  | _ => ⟨S8192x4608, .f32⟩

abbrev hbmTy (i : Nat) : BufTy := match i / 128 with
  | 0 => hbmTy0_0 i
  | 1 => hbmTy0_1 i
  | _ => ⟨S8192x4608, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1536, .f32⟩
  | .local _ .vmem, ⟨5, _⟩ => ⟨S128x1536, .f32⟩
  | .local _ .vmem, ⟨6, _⟩ => ⟨S128x128, .f32⟩
  | .local _ .vmem, ⟨7, _⟩ => ⟨S128x128, .f32⟩
  | .local _ .vmem, ⟨8, _⟩ => ⟨S128x1536, .f32⟩
  | .local _ .vmem, ⟨9, _⟩ => ⟨S128x1536, .f32⟩
  | .local _ .vmem, ⟨10, _⟩ => ⟨S128x1024, .f32⟩
  | .local _ .vmem, ⟨11, _⟩ => ⟨S128x1024, .f32⟩
  | .local _ .vmem, ⟨12, _⟩ => ⟨S1x128x1024, .f32⟩
  | .local _ .vmem, ⟨13, _⟩ => ⟨S1x128x1024, .f32⟩
  | .local _ .vmem, ⟨14, _⟩ => ⟨S4x1536, .f32⟩
  | .local _ .vmem, ⟨15, _⟩ => ⟨S1x128, .f32⟩
  | .local _ .vmem, ⟨16, _⟩ => ⟨S1x128, .f32⟩
  | .local _ .vmem, ⟨17, _⟩ => ⟨S1x1024, .f32⟩
  | .local _ .vmem, ⟨18, _⟩ => ⟨S1x1024, .f32⟩
  | .local _ .vmem, ⟨19, _⟩ => ⟨S128x1024, .bf16⟩
  | .local _ .vmem, ⟨20, _⟩ => ⟨S128x2560, .bf16⟩
  | .local _ .vmem, ⟨21, _⟩ => ⟨S128x2560, .bf16⟩
  | .local _ .vmem, ⟨22, _⟩ => ⟨S128x128, .bf16⟩
  | .local _ .vmem, ⟨23, _⟩ => ⟨S128x128, .bf16⟩
  | .local _ .vmem, ⟨24, _⟩ => ⟨S4x1536, .f32⟩
  | .local _ .vmem, ⟨25, _⟩ => ⟨S1x1536, .f32⟩
  | .local _ .vmem, ⟨26, _⟩ => ⟨S1x128, .f32⟩
  | .local _ .vmem, ⟨27, _⟩ => ⟨S1x128, .f32⟩
  | .local _ .vmem, ⟨28, _⟩ => ⟨S1x1024, .f32⟩
  | .local _ .vmem, ⟨29, _⟩ => ⟨S1x1024, .f32⟩
  | .local _ .vmem, ⟨30, _⟩ => ⟨S128x1024, .f32⟩
  | .local _ .vmem, ⟨31, _⟩ => ⟨S8x1536, .f32⟩
  | .local _ .vmem, ⟨32, _⟩ => ⟨S128x1024, .f32⟩
  | .local _ .vmem, ⟨33, _⟩ => ⟨S128x1536, .f32⟩
  | .local _ .vmem, ⟨34, _⟩ => ⟨S128x128, .f32⟩
  | .local _ .vmem, ⟨35, _⟩ => ⟨S128x128, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_call3_call0_cst : Ref sig .tc := ⟨.hbm, 118, rfl⟩
abbrev main_call3_call0_v0 : Ref sig .tc := ⟨.hbm, 119, rfl⟩
abbrev main_v70 : Ref sig .tc := ⟨.hbm, 120, rfl⟩
abbrev main_call4_call0_cst : Ref sig .tc := ⟨.hbm, 121, rfl⟩
abbrev main_call4_call0_v0 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_0 : Ref sig .tc := ⟨.hbm, 129, rfl⟩
abbrev main_v77 : Ref sig .tc := ⟨.hbm, 130, rfl⟩
abbrev main_call5_v0 : Ref sig .tc := ⟨.hbm, 131, rfl⟩
abbrev main_call5_c : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_call5_c_0 : Ref sig .tc := ⟨.hbm, 137, rfl⟩
abbrev main_call5_v5 : Ref sig .tc := ⟨.hbm, 138, rfl⟩
abbrev main_v78 : Ref sig .tc := ⟨.hbm, 139, rfl⟩
abbrev main_cst_1 : Ref sig .tc := ⟨.hbm, 140, rfl⟩
abbrev main_call6_v0 : Ref sig .tc := ⟨.hbm, 141, rfl⟩
abbrev main_call6_v1 : Ref sig .tc := ⟨.hbm, 142, rfl⟩
abbrev main_call6_v2 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_cst_2 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_call7_call0_cst : Ref sig .tc := ⟨.hbm, 166, rfl⟩
abbrev main_call7_call0_v0 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_c_3 : Ref sig .tc := ⟨.hbm, 174, rfl⟩
abbrev main_v106 : Ref sig .tc := ⟨.hbm, 175, rfl⟩
abbrev main_call8_v0 : Ref sig .tc := ⟨.hbm, 176, rfl⟩
abbrev main_call8_c : Ref sig .tc := ⟨.hbm, 177, rfl⟩
abbrev main_call8_v1 : Ref sig .tc := ⟨.hbm, 178, rfl⟩
abbrev main_call8_v2 : Ref sig .tc := ⟨.hbm, 179, rfl⟩
abbrev main_call8_v3 : Ref sig .tc := ⟨.hbm, 180, rfl⟩
abbrev main_call8_v4 : Ref sig .tc := ⟨.hbm, 181, rfl⟩
abbrev main_call8_c_0 : Ref sig .tc := ⟨.hbm, 182, rfl⟩
abbrev main_call8_v5 : Ref sig .tc := ⟨.hbm, 183, rfl⟩
abbrev main_v107 : Ref sig .tc := ⟨.hbm, 184, rfl⟩
abbrev main_cst_4 : Ref sig .tc := ⟨.hbm, 185, rfl⟩
abbrev main_call9_v0 : Ref sig .tc := ⟨.hbm, 186, rfl⟩
abbrev main_call9_v1 : Ref sig .tc := ⟨.hbm, 187, rfl⟩
abbrev main_call9_v2 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_cst_5 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_c_6 : Ref sig .tc := ⟨.hbm, 215, rfl⟩
abbrev main_call10_v0 : Ref sig .tc := ⟨.hbm, 216, rfl⟩
abbrev main_v133 : Ref sig .tc := ⟨.hbm, 217, rfl⟩
abbrev main_c_7 : Ref sig .tc := ⟨.hbm, 218, rfl⟩
abbrev main_call11_v0 : Ref sig .tc := ⟨.hbm, 219, rfl⟩
abbrev main_v134 : Ref sig .tc := ⟨.hbm, 220, rfl⟩
abbrev main_c_8 : Ref sig .tc := ⟨.hbm, 221, rfl⟩
abbrev main_call12_v0 : Ref sig .tc := ⟨.hbm, 222, rfl⟩
abbrev main_v135 : Ref sig .tc := ⟨.hbm, 223, rfl⟩
abbrev main_v136_0 : Ref sig .tc := ⟨.hbm, 224, rfl⟩
abbrev main_v136_1 : Ref sig .tc := ⟨.hbm, 225, rfl⟩
abbrev main_v136_2 : Ref sig .tc := ⟨.hbm, 226, rfl⟩
abbrev main_v136_3 : Ref sig .tc := ⟨.hbm, 227, rfl⟩
abbrev main_v136_4 : Ref sig .tc := ⟨.hbm, 228, rfl⟩
abbrev main_v136_5 : Ref sig .tc := ⟨.hbm, 229, rfl⟩
abbrev main_v136_6 : Ref sig .tc := ⟨.hbm, 230, rfl⟩
abbrev main_v136_7 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x2560 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== SsdKernelIdeal.lean ====
variable {F : FTy → Type} [FloatOps F] [Named F]
def κ : String → Option EReal := fun
  | "mask" => some ⊥
  | _ => none
-- ==== SsdReferenceIdeal.lean ====
abbrev S8192x4608 : Shape := ⟨2, ![8192, 4608]⟩
abbrev S8192x16 : Shape := ⟨2, ![8192, 16]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S8192x1024 : Shape := ⟨2, ![8192, 1024]⟩
abbrev S16 : Shape := ⟨1, ![16]⟩
abbrev S16x64 : Shape := ⟨2, ![16, 64]⟩
abbrev S1024 : Shape := ⟨1, ![1024]⟩
abbrev S8192x2560 : Shape := ⟨2, ![8192, 2560]⟩
abbrev S8192x1536 : Shape := ⟨2, ![8192, 1536]⟩
abbrev S_ : Shape := ⟨0, ![]⟩
abbrev S3x1536 : Shape := ⟨2, ![3, 1536]⟩
abbrev S8195x1536 : Shape := ⟨2, ![8195, 1536]⟩
abbrev S1536 : Shape := ⟨1, ![1536]⟩
abbrev S8192x2x8x64 : Shape := ⟨4, ![8192, 2, 8, 64]⟩
abbrev S8192x256 : Shape := ⟨2, ![8192, 256]⟩
abbrev S8192x2x128 : Shape := ⟨3, ![8192, 2, 128]⟩
abbrev S8192x2x8 : Shape := ⟨3, ![8192, 2, 8]⟩
abbrev S8192x2x8x1 : Shape := ⟨4, ![8192, 2, 8, 1]⟩
abbrev S2x8 : Shape := ⟨2, ![2, 8]⟩
abbrev S1x2x8 : Shape := ⟨3, ![1, 2, 8]⟩
abbrev S64x128x2x8x64 : Shape := ⟨5, ![64, 128, 2, 8, 64]⟩
abbrev S64x128x2x128 : Shape := ⟨4, ![64, 128, 2, 128]⟩
abbrev S64x128x2x8 : Shape := ⟨4, ![64, 128, 2, 8]⟩
abbrev S2x8x64x128 : Shape := ⟨4, ![2, 8, 64, 128]⟩
abbrev S2x8x64x128x1 : Shape := ⟨5, ![2, 8, 64, 128, 1]⟩
abbrev S2x8x64x1x128 : Shape := ⟨5, ![2, 8, 64, 1, 128]⟩
abbrev S2x8x64x128x128 : Shape := ⟨5, ![2, 8, 64, 128, 128]⟩
abbrev S128x128 : Shape := ⟨2, ![128, 128]⟩
abbrev S2x64x128x128 : Shape := ⟨4, ![2, 64, 128, 128]⟩
abbrev S2x1x64x128x128 : Shape := ⟨5, ![2, 1, 64, 128, 128]⟩
abbrev S64x2x8x64x128 : Shape := ⟨5, ![64, 2, 8, 64, 128]⟩
abbrev S2x8x64x1 : Shape := ⟨4, ![2, 8, 64, 1]⟩
abbrev S64x128x2x8x1 : Shape := ⟨5, ![64, 128, 2, 8, 1]⟩
abbrev S2x8x1 : Shape := ⟨3, ![2, 8, 1]⟩
abbrev S2x8x64 : Shape := ⟨3, ![2, 8, 64]⟩
abbrev S2x8x65 : Shape := ⟨3, ![2, 8, 65]⟩
abbrev S2x8x65x1 : Shape := ⟨4, ![2, 8, 65, 1]⟩
abbrev S2x8x1x65 : Shape := ⟨4, ![2, 8, 1, 65]⟩
abbrev S2x8x65x65 : Shape := ⟨4, ![2, 8, 65, 65]⟩
abbrev S65x65 : Shape := ⟨2, ![65, 65]⟩
abbrev S1x2x8x64x128 : Shape := ⟨5, ![1, 2, 8, 64, 128]⟩
abbrev S65x2x8x64x128 : Shape := ⟨5, ![65, 2, 8, 64, 128]⟩
abbrev S2x8x64x128x65 : Shape := ⟨5, ![2, 8, 64, 128, 65]⟩
abbrev S1x2x8x64 : Shape := ⟨4, ![1, 2, 8, 64]⟩
abbrev S8192 : Shape := ⟨1, ![8192]⟩
abbrev S8192x1 : Shape := ⟨2, ![8192, 1]⟩
abbrev S64x2x128x128 : Shape := ⟨4, ![64, 2, 128, 128]⟩
abbrev S64x2x8x128x128 : Shape := ⟨5, ![64, 2, 8, 128, 128]⟩
abbrev S8192x112 : Shape := ⟨2, ![8192, 112]⟩
abbrev S8192x128 : Shape := ⟨2, ![8192, 128]⟩
abbrev S1x112 : Shape := ⟨2, ![1, 112]⟩
abbrev S1x128 : Shape := ⟨2, ![1, 128]⟩

abbrev nBuf : Space → Nat
  | .hbm => 543
  | .vmem => 0
  | .smem => 0
  | _ => 0

abbrev hbmTy0_0 (i : Nat) : BufTy := match i % 128 with
  | 0 => ⟨S8192x4608, .f32⟩
  | 1 => ⟨S8192x16, .f32⟩
  | 2 => ⟨S4x1536, .f32⟩
  | 3 => ⟨S1x1536, .f32⟩
  | 4 => ⟨S1x16, .f32⟩
  | 5 => ⟨S1x16, .f32⟩
  | 6 => ⟨S1x16, .f32⟩
  | 7 => ⟨S1x1024, .f32⟩
  | 8 => ⟨S8192x1024, .f32⟩
  | 9 => ⟨S16, .f32⟩
  | 10 => ⟨S16x64, .f32⟩
  | 11 => ⟨S1024, .f32⟩
  | 12 => ⟨S1x1024, .f32⟩
  | 13 => ⟨S8192x2560, .f32⟩
  | 14 => ⟨S1x16, .f32⟩
  | 15 => ⟨S1x16, .f32⟩
  | 16 => ⟨S8192x1536, .f32⟩
  | 17 => ⟨S_, .f32⟩
  | 18 => ⟨S3x1536, .f32⟩
  | 19 => ⟨S8195x1536, .f32⟩
  | 20 => ⟨S_, .f32⟩
  | 21 => ⟨S3x1536, .f32⟩
  | 22 => ⟨S8192x1536, .f32⟩
  | 23 => ⟨S1x1536, .f32⟩
  | 24 => ⟨S1536, .f32⟩
  | 25 => ⟨S1x1536, .f32⟩
  | 26 => ⟨S8192x1536, .f32⟩
  | 27 => ⟨S8192x1536, .f32⟩
  | 28 => ⟨S8192x1536, .f32⟩
  | 29 => ⟨S8192x1536, .f32⟩
  | 30 => ⟨S8192x1536, .f32⟩
  | 31 => ⟨S1x1536, .f32⟩
  | 32 => ⟨S1536, .f32⟩
  | 33 => ⟨S1x1536, .f32⟩
  | 34 => ⟨S8192x1536, .f32⟩
  | 35 => ⟨S8192x1536, .f32⟩
  | 36 => ⟨S8192x1536, .f32⟩
  | 37 => ⟨S8192x1536, .f32⟩
  | 38 => ⟨S1x1536, .f32⟩
  | 39 => ⟨S1536, .f32⟩
  | 40 => ⟨S1x1536, .f32⟩
  | 41 => ⟨S8192x1536, .f32⟩
  | 42 => ⟨S8192x1536, .f32⟩
  | 43 => ⟨S8192x1536, .f32⟩
  | 44 => ⟨S8192x1536, .f32⟩
  | 45 => ⟨S1x1536, .f32⟩
  | 46 => ⟨S1536, .f32⟩
  | 47 => ⟨S1x1536, .f32⟩
  | 48 => ⟨S8192x1536, .f32⟩
  | 49 => ⟨S8192x1536, .f32⟩
  | 50 => ⟨S8192x1536, .f32⟩
  | 51 => ⟨S8192x1536, .f32⟩
  | 52 => ⟨S8192x1536, .f32⟩
  | 53 => ⟨S_, .f32⟩
  | 54 => ⟨S8192x1536, .f32⟩
  | 55 => ⟨S8192x1536, .f32⟩
  | 56 => ⟨S_, .f32⟩
  | 57 => ⟨S8192x1536, .f32⟩
  | 58 => ⟨S8192x1536, .f32⟩
  | 59 => ⟨S_, .f32⟩
  | 60 => ⟨S8192x1536, .f32⟩
  | 61 => ⟨S8192x1536, .f32⟩
  | 62 => ⟨S8192x1536, .f32⟩
  | 63 => ⟨S8192x1536, .f32⟩
  | 64 => ⟨S8192x1024, .f32⟩
  | 65 => ⟨S8192x2x8x64, .f32⟩
  | 66 => ⟨S8192x256, .f32⟩
  | 67 => ⟨S8192x2x128, .f32⟩
  | 68 => ⟨S8192x256, .f32⟩
  | 69 => ⟨S8192x2x128, .f32⟩
  | 70 => ⟨S8192x16, .f32⟩
  | 71 => ⟨S8192x16, .f32⟩
  | 72 => ⟨S_, .f32⟩
  | 73 => ⟨S8192x16, .f32⟩
  | 74 => ⟨S8192x16, .f32⟩
  | 75 => ⟨S8192x16, .f32⟩
  | 76 => ⟨S8192x16, .f32⟩
  | 77 => ⟨S8192x16, .i1⟩
  | 78 => ⟨S8192x16, .f32⟩
  | 79 => ⟨S8192x16, .f32⟩
  | 80 => ⟨S8192x16, .f32⟩
  | 81 => ⟨S8192x16, .f32⟩
  | 82 => ⟨S8192x16, .f32⟩
  | 83 => ⟨S8192x16, .f32⟩
  | 84 => ⟨S8192x16, .f32⟩
  | 85 => ⟨S8192x16, .f32⟩
  | 86 => ⟨S_, .f32⟩
  | 87 => ⟨S8192x16, .f32⟩
  | 88 => ⟨S8192x16, .i1⟩
  | 89 => ⟨S_, .f32⟩
  | 90 => ⟨S8192x16, .f32⟩
  | 91 => ⟨S8192x16, .f32⟩
  | 92 => ⟨S_, .f32⟩
  | 93 => ⟨S8192x16, .f32⟩
  | 94 => ⟨S8192x16, .i1⟩
  | 95 => ⟨S_, .f32⟩
  | 96 => ⟨S8192x16, .f32⟩
  | 97 => ⟨S8192x16, .f32⟩
  | 98 => ⟨S8192x16, .f32⟩
  | 99 => ⟨S8192x16, .f32⟩
  | 100 => ⟨S_, .f32⟩
  | 101 => ⟨S_, .f32⟩
  | 102 => ⟨S_, .i1⟩
  | 103 => ⟨S_, .f32⟩
  | 104 => ⟨S_, .f32⟩
  | 105 => ⟨S_, .f32⟩
  | 106 => ⟨S_, .f32⟩
  | 107 => ⟨S8192x16, .f32⟩
  | 108 => ⟨S8192x16, .i1⟩
  | 109 => ⟨S_, .f32⟩
  | 110 => ⟨S8192x16, .f32⟩
  | 111 => ⟨S8192x16, .f32⟩
  | 112 => ⟨S8192x16, .f32⟩
  | 113 => ⟨S8192x16, .f32⟩
  | 114 => ⟨S8192x16, .f32⟩
  | 115 => ⟨S_, .f32⟩
  | 116 => ⟨S8192x16, .f32⟩
  | 117 => ⟨S8192x16, .f32⟩
  | 118 => ⟨S8192x2x8, .f32⟩
  | 119 => ⟨S8192x2x8x1, .f32⟩
  | 120 => ⟨S8192x2x8x64, .f32⟩
  | 121 => ⟨S8192x2x8x64, .f32⟩
  | 122 => ⟨S2x8, .f32⟩
  | 123 => ⟨S1x2x8, .f32⟩
  | 124 => ⟨S8192x2x8, .f32⟩
  | 125 => ⟨S8192x2x8, .f32⟩
  | 126 => ⟨S64x128x2x8x64, .f32⟩
  | 127 => ⟨S64x128x2x128, .f32⟩
  | _ => ⟨S8192x4608, .f32⟩

abbrev hbmTy0_1 (i : Nat) : BufTy := match i % 128 with
  | 0 => ⟨S64x128x2x128, .f32⟩
  | 1 => ⟨S64x128x2x8, .f32⟩
  | 2 => ⟨S2x8x64x128, .f32⟩
  | 3 => ⟨S_, .f32⟩
  | 4 => ⟨S_, .f32⟩
  | 5 => ⟨S2x8x64x128, .f32⟩
  | 6 => ⟨S_, .f32⟩
  | 7 => ⟨S_, .f32⟩
  | 8 => ⟨S2x8x64x128, .f32⟩
  | 9 => ⟨S2x8x64x128x1, .f32⟩
  | 10 => ⟨S2x8x64x1x128, .f32⟩
  | 11 => ⟨S2x8x64x128x128, .f32⟩
  | 12 => ⟨S2x8x64x128x128, .f32⟩
  | 13 => ⟨S2x8x64x128x128, .f32⟩
  | 14 => ⟨S_, .i1⟩
  | 15 => ⟨S128x128, .i1⟩
  | 16 => ⟨S128x128, .i32⟩
  | 17 => ⟨S_, .i32⟩
  | 18 => ⟨S128x128, .i32⟩
  | 19 => ⟨S128x128, .i32⟩
  | 20 => ⟨S128x128, .i32⟩
  | 21 => ⟨S128x128, .i1⟩
  | 22 => ⟨S_, .i1⟩
  | 23 => ⟨S128x128, .i1⟩
  | 24 => ⟨S128x128, .i1⟩
  | 25 => ⟨S_, .f32⟩
  | 26 => ⟨S_, .f32⟩
  | 27 => ⟨S2x8x64x128x128, .i1⟩
  | 28 => ⟨S2x8x64x128x128, .f32⟩
  | 29 => ⟨S2x8x64x128x128, .f32⟩
  | 30 => ⟨S_, .f32⟩
  | 31 => ⟨S2x8x64x128x128, .f32⟩
  | 32 => ⟨S2x8x64x128x128, .f32⟩
  | 33 => ⟨S2x64x128x128, .f32⟩
  | 34 => ⟨S2x1x64x128x128, .f32⟩
  | 35 => ⟨S2x8x64x128x128, .f32⟩
  | 36 => ⟨S2x8x64x128x128, .f32⟩
  | 37 => ⟨S64x2x8x64x128, .f32⟩
  | 38 => ⟨S64x128x2x8x64, .f32⟩
  | 39 => ⟨S2x8x64x1, .f32⟩
  | 40 => ⟨S2x8x64x128, .f32⟩
  | 41 => ⟨S2x8x64x128, .f32⟩
  | 42 => ⟨S2x8x64x128, .f32⟩
  | 43 => ⟨S64x128x2x8, .f32⟩
  | 44 => ⟨S64x128x2x8x1, .f32⟩
  | 45 => ⟨S64x128x2x8x64, .f32⟩
  | 46 => ⟨S64x128x2x8x64, .f32⟩
  | 47 => ⟨S64x2x8x64x128, .f32⟩
  | 48 => ⟨S_, .f32⟩
  | 49 => ⟨S2x8x1, .f32⟩
  | 50 => ⟨S2x8x64x1, .f32⟩
  | 51 => ⟨S2x8x64, .f32⟩
  | 52 => ⟨S2x8x65, .f32⟩
  | 53 => ⟨S_, .f32⟩
  | 54 => ⟨S2x8x1, .f32⟩
  | 55 => ⟨S_, .f32⟩
  | 56 => ⟨S_, .f32⟩
  | 57 => ⟨S2x8x65, .f32⟩
  | 58 => ⟨S2x8x65x1, .f32⟩
  | 59 => ⟨S2x8x1x65, .f32⟩
  | 60 => ⟨S2x8x65x65, .f32⟩
  | 61 => ⟨S2x8x65x65, .f32⟩
  | 62 => ⟨S2x8x65x65, .f32⟩
  | 63 => ⟨S_, .i1⟩
  | 64 => ⟨S65x65, .i1⟩
  | 65 => ⟨S65x65, .i32⟩
  | 66 => ⟨S_, .i32⟩
  | 67 => ⟨S65x65, .i32⟩
  | 68 => ⟨S65x65, .i32⟩
  | 69 => ⟨S65x65, .i32⟩
  | 70 => ⟨S65x65, .i1⟩
  | 71 => ⟨S_, .i1⟩
  | 72 => ⟨S65x65, .i1⟩
  | 73 => ⟨S65x65, .i1⟩
  | 74 => ⟨S_, .f32⟩
  | 75 => ⟨S_, .f32⟩
  | 76 => ⟨S2x8x65x65, .i1⟩
  | 77 => ⟨S2x8x65x65, .f32⟩
  | 78 => ⟨S2x8x65x65, .f32⟩
  | 79 => ⟨S_, .f32⟩
  | 80 => ⟨S2x8x65x65, .f32⟩
  | 81 => ⟨S2x8x65x65, .f32⟩
  | 82 => ⟨S1x2x8x64x128, .f32⟩
  | 83 => ⟨S_, .f32⟩
  | 84 => ⟨S1x2x8x64x128, .f32⟩
  | 85 => ⟨S65x2x8x64x128, .f32⟩
  | 86 => ⟨S_, .f32⟩
  | 87 => ⟨S1x2x8x64x128, .f32⟩
  | 88 => ⟨S2x8x64x128x65, .f32⟩
  | 89 => ⟨S65x2x8x64x128, .f32⟩
  | 90 => ⟨S64x2x8x64x128, .f32⟩
  | 91 => ⟨S2x8x64x128, .f32⟩
  | 92 => ⟨S64x128x2x8, .f32⟩
  | 93 => ⟨S64x128x2x8x1, .f32⟩
  | 94 => ⟨S64x2x8x64x128, .f32⟩
  | 95 => ⟨S64x128x2x8x64, .f32⟩
  | 96 => ⟨S64x128x2x8x64, .f32⟩
  | 97 => ⟨S64x128x2x8x64, .f32⟩
  | 98 => ⟨S64x128x2x8x64, .f32⟩
  | 99 => ⟨S8192x2x8x64, .f32⟩
  | 100 => ⟨S2x8x64, .f32⟩
  | 101 => ⟨S1x2x8x64, .f32⟩
  | 102 => ⟨S8192x2x8x64, .f32⟩
  | 103 => ⟨S8192x2x8x64, .f32⟩
  | 104 => ⟨S8192x2x8x64, .f32⟩
  | 105 => ⟨S8192x1024, .f32⟩
  | 106 => ⟨S8192x1024, .f32⟩
  | 107 => ⟨S8192x1024, .f32⟩
  | 108 => ⟨S8192x1024, .f32⟩
  | 109 => ⟨S_, .f32⟩
  | 110 => ⟨S8192x1024, .f32⟩
  | 111 => ⟨S8192x1024, .f32⟩
  | 112 => ⟨S_, .f32⟩
  | 113 => ⟨S8192x1024, .f32⟩
  | 114 => ⟨S8192x1024, .f32⟩
  | 115 => ⟨S_, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S_, .f32⟩
  | 123 => ⟨S8192, .f32⟩
  | 124 => ⟨S8192x1, .f32⟩
  | 125 => ⟨S_, .f32⟩
  | 126 => ⟨S8192x1, .f32⟩
  | 127 => ⟨S8192x1, .f32⟩
  | _ => ⟨S8192x4608, .f32⟩

abbrev hbmTy0_2 (i : Nat) : BufTy := match i % 128 with
  | 0 => ⟨S_, .f32⟩
  | 1 => ⟨S8192x1, .f32⟩
  | 2 => ⟨S8192x1, .f32⟩
  | 3 => ⟨S8192x1, .f32⟩
  | 4 => ⟨S8192x1, .f32⟩
  | 5 => ⟨S_, .f32⟩
  | 6 => ⟨S8192x1, .f32⟩
  | 7 => ⟨S8192x1, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S1024, .f32⟩
  | 15 => ⟨S1x1024, .f32⟩
  | 16 => ⟨S8192x1024, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S8192x1024, .f32⟩
  | 23 => ⟨S8192x1024, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S_, .f32⟩
  | 42 => ⟨S8192x2560, .f32⟩
  | 43 => ⟨S8192x2x8x64, .f32⟩
  | 44 => ⟨S8192x2x8x64, .f32⟩
  | 45 => ⟨S8192x2x8x64, .f32⟩
  | 46 => ⟨S8192x2x8x64, .f32⟩
  | 47 => ⟨S_, .f32⟩
  | 48 => ⟨S2x8x64, .f32⟩
  | 49 => ⟨S1x2x8x64, .f32⟩
  | 50 => ⟨S_, .f32⟩
  | 51 => ⟨S2x8x64, .f32⟩
  | 52 => ⟨S1x1024, .f32⟩
  | 53 => ⟨S64x128x2x8x64, .f32⟩
  | 54 => ⟨S64x128x2x8x64, .f32⟩
  | 55 => ⟨S64x128x2x8x64, .f32⟩
  | 56 => ⟨S64x128x2x8x64, .f32⟩
  | 57 => ⟨S_, .f32⟩
  | 58 => ⟨S64x128x2x8, .f32⟩
  | 59 => ⟨S64x128x2x8x1, .f32⟩
  | 60 => ⟨S64x2x8x64x128, .f32⟩
  | 61 => ⟨S64x2x128x128, .f32⟩
  | 62 => ⟨S64x128x2x128, .f32⟩
  | 63 => ⟨S64x2x8x64x128, .f32⟩
  | 64 => ⟨S_, .f32⟩
  | 65 => ⟨S64x128x2x8, .f32⟩
  | 66 => ⟨S2x8x64x128, .f32⟩
  | 67 => ⟨S2x8x64x128, .f32⟩
  | 68 => ⟨S_, .f32⟩
  | 69 => ⟨S65x2x8x64x128, .f32⟩
  | 70 => ⟨S2x8x64x128x65, .f32⟩
  | 71 => ⟨S2x8x65x65, .f32⟩
  | 72 => ⟨S2x8x64x128x65, .f32⟩
  | 73 => ⟨S65x2x8x64x128, .f32⟩
  | 74 => ⟨S1x2x8x64x128, .f32⟩
  | 75 => ⟨S64x2x8x64x128, .f32⟩
  | 76 => ⟨S2x8x65x65, .f32⟩
  | 77 => ⟨S_, .f32⟩
  | 78 => ⟨S2x8x65x65, .f32⟩
  | 79 => ⟨S2x8x65x65, .f32⟩
  | 80 => ⟨S_, .f32⟩
  | 81 => ⟨S2x8x65, .f32⟩
  | 82 => ⟨S2x8x65x1, .f32⟩
  | 83 => ⟨S2x8x65x65, .f32⟩
  | 84 => ⟨S_, .f32⟩
  | 85 => ⟨S2x8x65, .f32⟩
  | 86 => ⟨S2x8x1x65, .f32⟩
  | 87 => ⟨S_, .f32⟩
  | 88 => ⟨S2x8x65, .f32⟩
  | 89 => ⟨S_, .f32⟩
  | 90 => ⟨S2x8x65, .f32⟩
  | 91 => ⟨S2x8x65, .f32⟩
  | 92 => ⟨S_, .f32⟩
  | 93 => ⟨S_, .f32⟩
  | 94 => ⟨S2x8x65, .f32⟩
  | 95 => ⟨S2x8x1, .f32⟩
  | 96 => ⟨S2x8x64, .f32⟩
  | 97 => ⟨S2x8x64x1, .f32⟩
  | 98 => ⟨S_, .f32⟩
  | 99 => ⟨S2x8x64x128, .f32⟩
  | 100 => ⟨S2x8x64x128, .f32⟩
  | 101 => ⟨S64x2x128x128, .f32⟩
  | 102 => ⟨S64x128x2x128, .f32⟩
  | 103 => ⟨S64x2x8x64x128, .f32⟩
  | 104 => ⟨S64x128x2x8x64, .f32⟩
  | 105 => ⟨S64x128x2x8x64, .f32⟩
  | 106 => ⟨S64x128x2x8x64, .f32⟩
  | 107 => ⟨S64x128x2x8x64, .f32⟩
  | 108 => ⟨S_, .f32⟩
  | 109 => ⟨S64x128x2x8, .f32⟩
  | 110 => ⟨S64x128x2x8x1, .f32⟩
  | 111 => ⟨S_, .f32⟩
  | 112 => ⟨S64x128x2x8, .f32⟩
  | 113 => ⟨S2x8x64x128, .f32⟩
  | 114 => ⟨S2x8x64x128, .f32⟩
  | 115 => ⟨S_, .f32⟩
  | 116 => ⟨S2x8x64, .f32⟩
  | 117 => ⟨S2x8x64x1, .f32⟩
  | 118 => ⟨S2x8x64x128, .f32⟩
  | 119 => ⟨S2x8x64x128, .f32⟩
  | 120 => ⟨S_, .f32⟩
  | 121 => ⟨S2x8x64x128, .f32⟩
  | 122 => ⟨S2x8x64x128, .f32⟩
  | 123 => ⟨S64x2x8x64x128, .f32⟩
  | 124 => ⟨S64x2x8x128x128, .f32⟩
  | 125 => ⟨S2x8x64x128x128, .f32⟩
  | 126 => ⟨S64x2x8x64x128, .f32⟩
  | 127 => ⟨S64x128x2x8x64, .f32⟩
  | _ => ⟨S8192x4608, .f32⟩

abbrev hbmTy0_3 (i : Nat) : BufTy := match i % 128 with
  | 0 => ⟨S64x128x2x8x64, .f32⟩
  | 1 => ⟨S2x8x64x128x128, .f32⟩
  | 2 => ⟨S2x8x64x128x128, .f32⟩
  | 3 => ⟨S2x8x64x128x128, .f32⟩
  | 4 => ⟨S_, .f32⟩
  | 5 => ⟨S2x64x128x128, .f32⟩
  | 6 => ⟨S2x1x64x128x128, .f32⟩
  | 7 => ⟨S_, .f32⟩
  | 8 => ⟨S2x64x128x128, .f32⟩
  | 9 => ⟨S2x64x128x128, .f32⟩
  | 10 => ⟨S64x128x2x128, .f32⟩
  | 11 => ⟨S64x128x2x128, .f32⟩
  | 12 => ⟨S2x64x128x128, .f32⟩
  | 13 => ⟨S64x128x2x128, .f32⟩
  | 14 => ⟨S64x128x2x128, .f32⟩
  | 15 => ⟨S2x8x64x128x128, .f32⟩
  | 16 => ⟨S_, .f32⟩
  | 17 => ⟨S2x8x64x128x128, .f32⟩
  | 18 => ⟨S2x8x64x128x128, .f32⟩
  | 19 => ⟨S_, .f32⟩
  | 20 => ⟨S2x8x64x128, .f32⟩
  | 21 => ⟨S2x8x64x128x1, .f32⟩
  | 22 => ⟨S2x8x64x128x128, .f32⟩
  | 23 => ⟨S_, .f32⟩
  | 24 => ⟨S2x8x64x128, .f32⟩
  | 25 => ⟨S2x8x64x1x128, .f32⟩
  | 26 => ⟨S_, .f32⟩
  | 27 => ⟨S2x8x64x128, .f32⟩
  | 28 => ⟨S_, .f32⟩
  | 29 => ⟨S2x8x64x128, .f32⟩
  | 30 => ⟨S2x8x64x128, .f32⟩
  | 31 => ⟨S_, .f32⟩
  | 32 => ⟨S_, .f32⟩
  | 33 => ⟨S2x8x64x128, .f32⟩
  | 34 => ⟨S_, .f32⟩
  | 35 => ⟨S_, .f32⟩
  | 36 => ⟨S2x8x64x128, .f32⟩
  | 37 => ⟨S2x8x64x128, .f32⟩
  | 38 => ⟨S64x128x2x8, .f32⟩
  | 39 => ⟨S8192x2x8, .f32⟩
  | 40 => ⟨S8192x2x128, .f32⟩
  | 41 => ⟨S8192x2x128, .f32⟩
  | 42 => ⟨S8192x2x8x64, .f32⟩
  | 43 => ⟨S8192x2x8, .f32⟩
  | 44 => ⟨S_, .f32⟩
  | 45 => ⟨S2x8, .f32⟩
  | 46 => ⟨S1x2x8, .f32⟩
  | 47 => ⟨S8192x2x8, .f32⟩
  | 48 => ⟨S8192x2x8, .f32⟩
  | 49 => ⟨S_, .f32⟩
  | 50 => ⟨S2x8, .f32⟩
  | 51 => ⟨S1x16, .f32⟩
  | 52 => ⟨S8192x2x8x64, .f32⟩
  | 53 => ⟨S_, .f32⟩
  | 54 => ⟨S8192x2x8, .f32⟩
  | 55 => ⟨S8192x2x8x1, .f32⟩
  | 56 => ⟨S8192x2x8x64, .f32⟩
  | 57 => ⟨S8192x2x8x64, .f32⟩
  | 58 => ⟨S8192x2x8x64, .f32⟩
  | 59 => ⟨S_, .f32⟩
  | 60 => ⟨S8192x2x8, .f32⟩
  | 61 => ⟨S8192x2x8, .f32⟩
  | 62 => ⟨S8192x16, .f32⟩
  | 63 => ⟨S8192x16, .f32⟩
  | 64 => ⟨S_, .f32⟩
  | 65 => ⟨S16, .f32⟩
  | 66 => ⟨S1x16, .f32⟩
  | 67 => ⟨S8192x256, .f32⟩
  | 68 => ⟨S_, .f32⟩
  | 69 => ⟨S8192x1536, .f32⟩
  | 70 => ⟨S8192x256, .f32⟩
  | 71 => ⟨S_, .f32⟩
  | 72 => ⟨S8192x1536, .f32⟩
  | 73 => ⟨S8192x1536, .f32⟩
  | 74 => ⟨S8192x1024, .f32⟩
  | 75 => ⟨S_, .f32⟩
  | 76 => ⟨S8192x1536, .f32⟩
  | 77 => ⟨S8192x1536, .f32⟩
  | 78 => ⟨S8192x1536, .f32⟩
  | 79 => ⟨S8192x1536, .f32⟩
  | 80 => ⟨S8192x1536, .f32⟩
  | 81 => ⟨S8192x1536, .f32⟩
  | 82 => ⟨S8192x1536, .f32⟩
  | 83 => ⟨S_, .f32⟩
  | 84 => ⟨S1536, .f32⟩
  | 85 => ⟨S1x1536, .f32⟩
  | 86 => ⟨S8192x1536, .f32⟩
  | 87 => ⟨S8192x1536, .f32⟩
  | 88 => ⟨S_, .f32⟩
  | 89 => ⟨S1536, .f32⟩
  | 90 => ⟨S1x1536, .f32⟩
  | 91 => ⟨S_, .f32⟩
  | 92 => ⟨S4x1536, .f32⟩
  | 93 => ⟨S_, .f32⟩
  | 94 => ⟨S8195x1536, .f32⟩
  | 95 => ⟨S8192x1536, .f32⟩
  | 96 => ⟨S_, .f32⟩
  | 97 => ⟨S1536, .f32⟩
  | 98 => ⟨S1x1536, .f32⟩
  | 99 => ⟨S8192x1536, .f32⟩
  | 100 => ⟨S8192x1536, .f32⟩
  | 101 => ⟨S_, .f32⟩
  | 102 => ⟨S1536, .f32⟩
  | 103 => ⟨S1x1536, .f32⟩
  | 104 => ⟨S_, .f32⟩
  | 105 => ⟨S4x1536, .f32⟩
  | 106 => ⟨S4x1536, .f32⟩
  | 107 => ⟨S_, .f32⟩
  | 108 => ⟨S8195x1536, .f32⟩
  | 109 => ⟨S8195x1536, .f32⟩
  | 110 => ⟨S8192x1536, .f32⟩
  | 111 => ⟨S_, .f32⟩
  | 112 => ⟨S1536, .f32⟩
  | 113 => ⟨S1x1536, .f32⟩
  | 114 => ⟨S8192x1536, .f32⟩
  | 115 => ⟨S8192x1536, .f32⟩
  | 116 => ⟨S_, .f32⟩
  | 117 => ⟨S1536, .f32⟩
  | 118 => ⟨S1x1536, .f32⟩
  | 119 => ⟨S_, .f32⟩
  | 120 => ⟨S4x1536, .f32⟩
  | 121 => ⟨S4x1536, .f32⟩
  | 122 => ⟨S_, .f32⟩
  | 123 => ⟨S8195x1536, .f32⟩
  | 124 => ⟨S8195x1536, .f32⟩
  | 125 => ⟨S_, .f32⟩
  | 126 => ⟨S1536, .f32⟩
  | 127 => ⟨S1x1536, .f32⟩
  | _ => ⟨S8192x4608, .f32⟩

abbrev hbmTy0_4 (i : Nat) : BufTy := match i % 128 with
  | 0 => ⟨S8192x1536, .f32⟩
  | 1 => ⟨S_, .f32⟩
  | 2 => ⟨S1536, .f32⟩
  | 3 => ⟨S1x1536, .f32⟩
  | 4 => ⟨S8192x1536, .f32⟩
  | 5 => ⟨S8192x1536, .f32⟩
  | 6 => ⟨S_, .f32⟩
  | 7 => ⟨S1536, .f32⟩
  | 8 => ⟨S1x1536, .f32⟩
  | 9 => ⟨S_, .f32⟩
  | 10 => ⟨S4x1536, .f32⟩
  | 11 => ⟨S4x1536, .f32⟩
  | 12 => ⟨S_, .f32⟩
  | 13 => ⟨S8195x1536, .f32⟩
  | 14 => ⟨S8195x1536, .f32⟩
  | 15 => ⟨S3x1536, .f32⟩
  | 16 => ⟨S8192x1536, .f32⟩
  | 17 => ⟨S_, .f32⟩
  | 18 => ⟨S8192x2560, .f32⟩
  | 19 => ⟨S8192x2560, .f32⟩
  | 20 => ⟨S8192x2560, .bf16⟩
  | 21 => ⟨S_, .f32⟩
  | 22 => ⟨S8192x112, .f32⟩
  | 23 => ⟨S8192x128, .f32⟩
  | 24 => ⟨S8192x128, .bf16⟩
  | 25 => ⟨S_, .f32⟩
  | 26 => ⟨S1x112, .f32⟩
  | 27 => ⟨S1x128, .f32⟩
  | 28 => ⟨S_, .f32⟩
  | 29 => ⟨S1x112, .f32⟩
  | 30 => ⟨S1x128, .f32⟩
  | _ => ⟨S8192x4608, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x4608, .f32⟩

abbrev bufTy : (tb : Table) → Fin (tcTables nBuf tb) → BufTy
  | .hbm, ⟨i, _⟩ => hbmTy i
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v40_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v40_1 : Ref sig .tc := ⟨.hbm, 62, rfl⟩
abbrev main_v40_0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_v49_0 : Ref sig .tc := ⟨.hbm, 85, rfl⟩
abbrev main_call1_cst_0 : Ref sig .tc := ⟨.hbm, 86, rfl⟩
abbrev main_call1_v13 : Ref sig .tc := ⟨.hbm, 87, rfl⟩
abbrev main_call1_v14 : Ref sig .tc := ⟨.hbm, 88, rfl⟩
abbrev main_call1_cst_1 : Ref sig .tc := ⟨.hbm, 89, rfl⟩
abbrev main_call1_v15 : Ref sig .tc := ⟨.hbm, 90, rfl⟩
abbrev main_call1_v16 : Ref sig .tc := ⟨.hbm, 91, rfl⟩
abbrev main_call1_cst_2 : Ref sig .tc := ⟨.hbm, 92, rfl⟩
abbrev main_call1_v17 : Ref sig .tc := ⟨.hbm, 93, rfl⟩
abbrev main_call1_v18 : Ref sig .tc := ⟨.hbm, 94, rfl⟩
abbrev main_call1_cst_3 : Ref sig .tc := ⟨.hbm, 95, rfl⟩
abbrev main_call1_v19 : Ref sig .tc := ⟨.hbm, 96, rfl⟩
abbrev main_call1_v20 : Ref sig .tc := ⟨.hbm, 97, rfl⟩
abbrev main_call1_v21 : Ref sig .tc := ⟨.hbm, 98, rfl⟩
abbrev main_v49_1 : Ref sig .tc := ⟨.hbm, 99, rfl⟩
abbrev main_call1_cst_4 : Ref sig .tc := ⟨.hbm, 100, rfl⟩
abbrev main_call1_cst_5 : Ref sig .tc := ⟨.hbm, 101, rfl⟩
abbrev main_call1_v23 : Ref sig .tc := ⟨.hbm, 102, rfl⟩
abbrev main_call1_cst_6 : Ref sig .tc := ⟨.hbm, 103, rfl⟩
abbrev main_call1_cst_7 : Ref sig .tc := ⟨.hbm, 104, rfl⟩
abbrev main_call1_v24 : Ref sig .tc := ⟨.hbm, 105, rfl⟩
abbrev main_call1_cst_8 : Ref sig .tc := ⟨.hbm, 106, rfl⟩
abbrev main_call1_v25 : Ref sig .tc := ⟨.hbm, 107, rfl⟩
abbrev main_call1_v26 : Ref sig .tc := ⟨.hbm, 108, rfl⟩
abbrev main_call1_cst_9 : Ref sig .tc := ⟨.hbm, 109, rfl⟩
abbrev main_call1_v27 : Ref sig .tc := ⟨.hbm, 110, rfl⟩
abbrev main_call1_v28 : Ref sig .tc := ⟨.hbm, 111, rfl⟩
abbrev main_call1_v29 : Ref sig .tc := ⟨.hbm, 112, rfl⟩
abbrev main_call1_v30 : Ref sig .tc := ⟨.hbm, 113, rfl⟩
abbrev main_call1_v31 : Ref sig .tc := ⟨.hbm, 114, rfl⟩
abbrev main_call1_cst_10 : Ref sig .tc := ⟨.hbm, 115, rfl⟩
abbrev main_call1_v32 : Ref sig .tc := ⟨.hbm, 116, rfl⟩
abbrev main_v49_2 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_call2_call0_cst : Ref sig .tc := ⟨.hbm, 131, rfl⟩
abbrev main_call2_call0_v0 : Ref sig .tc := ⟨.hbm, 132, rfl⟩
abbrev main_v63 : Ref sig .tc := ⟨.hbm, 133, rfl⟩
abbrev main_call3_call0_cst : Ref sig .tc := ⟨.hbm, 134, rfl⟩
abbrev main_call3_call0_v0 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_c : Ref sig .tc := ⟨.hbm, 142, rfl⟩
abbrev main_v70 : Ref sig .tc := ⟨.hbm, 143, rfl⟩
abbrev main_call4_v0 : Ref sig .tc := ⟨.hbm, 144, rfl⟩
abbrev main_call4_c : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_c_0 : Ref sig .tc := ⟨.hbm, 150, rfl⟩
abbrev main_call4_v5 : Ref sig .tc := ⟨.hbm, 151, rfl⟩
abbrev main_v71 : Ref sig .tc := ⟨.hbm, 152, rfl⟩
abbrev main_cst_1 : Ref sig .tc := ⟨.hbm, 153, rfl⟩
abbrev main_call5_v0 : Ref sig .tc := ⟨.hbm, 154, rfl⟩
abbrev main_v72_1 : Ref sig .tc := ⟨.hbm, 155, rfl⟩
abbrev main_call5_v2 : Ref sig .tc := ⟨.hbm, 156, rfl⟩
abbrev main_v72_0 : Ref sig .tc := ⟨.hbm, 157, rfl⟩
abbrev main_call5_cst : Ref sig .tc := ⟨.hbm, 158, rfl⟩
abbrev main_v72_2 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_cst_2 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_cst_3 : Ref sig .tc := ⟨.hbm, 181, rfl⟩
abbrev main_v93 : Ref sig .tc := ⟨.hbm, 182, rfl⟩
abbrev main_call6_call0_cst : Ref sig .tc := ⟨.hbm, 183, rfl⟩
abbrev main_call6_call0_v0 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_c_4 : Ref sig .tc := ⟨.hbm, 191, rfl⟩
abbrev main_v100 : Ref sig .tc := ⟨.hbm, 192, rfl⟩
abbrev main_call7_v0 : Ref sig .tc := ⟨.hbm, 193, rfl⟩
abbrev main_call7_c : Ref sig .tc := ⟨.hbm, 194, rfl⟩
abbrev main_call7_v1 : Ref sig .tc := ⟨.hbm, 195, rfl⟩
abbrev main_call7_v2 : Ref sig .tc := ⟨.hbm, 196, rfl⟩
abbrev main_call7_v3 : Ref sig .tc := ⟨.hbm, 197, rfl⟩
abbrev main_call7_v4 : Ref sig .tc := ⟨.hbm, 198, rfl⟩
abbrev main_call7_c_0 : Ref sig .tc := ⟨.hbm, 199, rfl⟩
abbrev main_call7_v5 : Ref sig .tc := ⟨.hbm, 200, rfl⟩
abbrev main_v101 : Ref sig .tc := ⟨.hbm, 201, rfl⟩
abbrev main_cst_5 : Ref sig .tc := ⟨.hbm, 202, rfl⟩
abbrev main_call8_v0 : Ref sig .tc := ⟨.hbm, 203, rfl⟩
abbrev main_v102_1 : Ref sig .tc := ⟨.hbm, 204, rfl⟩
abbrev main_call8_v2 : Ref sig .tc := ⟨.hbm, 205, rfl⟩
abbrev main_v102_0 : Ref sig .tc := ⟨.hbm, 206, rfl⟩
abbrev main_call8_cst : Ref sig .tc := ⟨.hbm, 207, rfl⟩
abbrev main_v102_2 : Ref sig .tc := ⟨.hbm, 208, rfl⟩
abbrev main_v103 : Ref sig .tc := ⟨.hbm, 209, rfl⟩
abbrev main_v104 : Ref sig .tc := ⟨.hbm, 210, rfl⟩
abbrev main_cst_6 : Ref sig .tc := ⟨.hbm, 211, rfl⟩
abbrev main_v105 : Ref sig .tc := ⟨.hbm, 212, rfl⟩
abbrev main_v106 : Ref sig .tc := ⟨.hbm, 213, rfl⟩
abbrev main_cst_7 : Ref sig .tc := ⟨.hbm, 214, rfl⟩
abbrev main_v107 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩
abbrev main_v123 : Ref sig .tc := ⟨.hbm, 231, rfl⟩
abbrev main_v124 : Ref sig .tc := ⟨.hbm, 232, rfl⟩
abbrev main_v125 : Ref sig .tc := ⟨.hbm, 233, rfl⟩
abbrev main_v126 : Ref sig .tc := ⟨.hbm, 234, rfl⟩
abbrev main_call9_v0 : Ref sig .tc := ⟨.hbm, 235, rfl⟩
abbrev main_call9_v1 : Ref sig .tc := ⟨.hbm, 236, rfl⟩
abbrev main_call9_cst : Ref sig .tc := ⟨.hbm, 237, rfl⟩
abbrev main_call9_v2 : Ref sig .tc := ⟨.hbm, 238, rfl⟩
abbrev main_call9_v3 : Ref sig .tc := ⟨.hbm, 239, rfl⟩
abbrev main_call9_cst_0 : Ref sig .tc := ⟨.hbm, 240, rfl⟩
abbrev main_call9_v4 : Ref sig .tc := ⟨.hbm, 241, rfl⟩
abbrev main_v127_2 : Ref sig .tc := ⟨.hbm, 242, rfl⟩
abbrev main_call9_cst_1 : Ref sig .tc := ⟨.hbm, 243, rfl⟩
abbrev main_call9_v6 : Ref sig .tc := ⟨.hbm, 244, rfl⟩
abbrev main_call9_v7 : Ref sig .tc := ⟨.hbm, 245, rfl⟩
abbrev main_v127_1 : Ref sig .tc := ⟨.hbm, 246, rfl⟩
abbrev main_v127_0 : Ref sig .tc := ⟨.hbm, 247, rfl⟩
abbrev main_v128 : Ref sig .tc := ⟨.hbm, 248, rfl⟩
abbrev main_v129 : Ref sig .tc := ⟨.hbm, 249, rfl⟩
abbrev main_cst_8 : Ref sig .tc := ⟨.hbm, 250, rfl⟩
abbrev main_v130 : Ref sig .tc := ⟨.hbm, 251, rfl⟩
abbrev main_v131 : Ref sig .tc := ⟨.hbm, 252, rfl⟩
abbrev main_cst_9 : Ref sig .tc := ⟨.hbm, 253, rfl⟩
abbrev main_v132 : Ref sig .tc := ⟨.hbm, 254, rfl⟩
abbrev main_v133 : Ref sig .tc := ⟨.hbm, 255, rfl⟩
abbrev main_cst_10 : Ref sig .tc := ⟨.hbm, 256, rfl⟩
abbrev main_v134 : Ref sig .tc := ⟨.hbm, 257, rfl⟩
abbrev main_v135 : Ref sig .tc := ⟨.hbm, 258, rfl⟩
abbrev main_v136 : Ref sig .tc := ⟨.hbm, 259, rfl⟩
abbrev main_v137 : Ref sig .tc := ⟨.hbm, 260, rfl⟩
abbrev main_cst_11 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_cst_12 : Ref sig .tc := ⟨.hbm, 269, rfl⟩
abbrev main_v145 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_cst_13 : Ref sig .tc := ⟨.hbm, 275, rfl⟩
abbrev main_v150 : Ref sig .tc := ⟨.hbm, 276, rfl⟩
abbrev main_v151 : Ref sig .tc := ⟨.hbm, 277, rfl⟩
abbrev main_v152 : Ref sig .tc := ⟨.hbm, 278, rfl⟩
abbrev main_v153 : Ref sig .tc := ⟨.hbm, 279, rfl⟩
abbrev main_v154 : Ref sig .tc := ⟨.hbm, 280, rfl⟩
abbrev main_cst_14 : Ref sig .tc := ⟨.hbm, 281, rfl⟩
abbrev main_v155 : Ref sig .tc := ⟨.hbm, 282, rfl⟩
abbrev main_v156 : Ref sig .tc := ⟨.hbm, 283, rfl⟩
abbrev main_cst_15 : Ref sig .tc := ⟨.hbm, 284, rfl⟩
abbrev main_v157 : Ref sig .tc := ⟨.hbm, 285, rfl⟩
abbrev main_v158 : Ref sig .tc := ⟨.hbm, 286, rfl⟩
abbrev main_v159 : Ref sig .tc := ⟨.hbm, 287, rfl⟩
abbrev main_v160 : Ref sig .tc := ⟨.hbm, 288, rfl⟩
abbrev main_v161 : Ref sig .tc := ⟨.hbm, 289, rfl⟩
abbrev main_v162 : Ref sig .tc := ⟨.hbm, 290, rfl⟩
abbrev main_v163 : Ref sig .tc := ⟨.hbm, 291, rfl⟩
abbrev main_v164 : Ref sig .tc := ⟨.hbm, 292, rfl⟩
abbrev main_call10_v0 : Ref sig .tc := ⟨.hbm, 293, rfl⟩
abbrev main_call10_v1 : Ref sig .tc := ⟨.hbm, 294, rfl⟩
abbrev main_call10_v2 : Ref sig .tc := ⟨.hbm, 295, rfl⟩
abbrev main_v165 : Ref sig .tc := ⟨.hbm, 296, rfl⟩
abbrev main_cst_16 : Ref sig .tc := ⟨.hbm, 297, rfl⟩
abbrev main_v166 : Ref sig .tc := ⟨.hbm, 298, rfl⟩
abbrev main_v167 : Ref sig .tc := ⟨.hbm, 299, rfl⟩
abbrev main_v168 : Ref sig .tc := ⟨.hbm, 300, rfl⟩
abbrev main_v169 : Ref sig .tc := ⟨.hbm, 301, rfl⟩
abbrev main_v170 : Ref sig .tc := ⟨.hbm, 302, rfl⟩
abbrev main_cst_17 : Ref sig .tc := ⟨.hbm, 303, rfl⟩
abbrev main_v171 : Ref sig .tc := ⟨.hbm, 304, rfl⟩
abbrev main_v172 : Ref sig .tc := ⟨.hbm, 305, rfl⟩
abbrev main_cst_18 : Ref sig .tc := ⟨.hbm, 306, rfl⟩
abbrev main_v173 : Ref sig .tc := ⟨.hbm, 307, rfl⟩
abbrev main_v174 : Ref sig .tc := ⟨.hbm, 308, rfl⟩
abbrev main_v175 : Ref sig .tc := ⟨.hbm, 309, rfl⟩
abbrev main_v176 : Ref sig .tc := ⟨.hbm, 310, rfl⟩
abbrev main_v177 : Ref sig .tc := ⟨.hbm, 311, rfl⟩
abbrev main_v178 : Ref sig .tc := ⟨.hbm, 312, rfl⟩
abbrev main_cst_19 : Ref sig .tc := ⟨.hbm, 313, rfl⟩
abbrev main_v179 : Ref sig .tc := ⟨.hbm, 314, rfl⟩
abbrev main_v180 : Ref sig .tc := ⟨.hbm, 315, rfl⟩
abbrev main_v181 : Ref sig .tc := ⟨.hbm, 316, rfl⟩
abbrev main_v182 : Ref sig .tc := ⟨.hbm, 317, rfl⟩
abbrev main_v183 : Ref sig .tc := ⟨.hbm, 318, rfl⟩
abbrev main_v184 : Ref sig .tc := ⟨.hbm, 319, rfl⟩
abbrev main_cst_20 : Ref sig .tc := ⟨.hbm, 320, rfl⟩
abbrev main_v185 : Ref sig .tc := ⟨.hbm, 321, rfl⟩
abbrev main_v186 : Ref sig .tc := ⟨.hbm, 322, rfl⟩
abbrev main_v187 : Ref sig .tc := ⟨.hbm, 323, rfl⟩
abbrev main_cst_21 : Ref sig .tc := ⟨.hbm, 324, rfl⟩
abbrev main_v188 : Ref sig .tc := ⟨.hbm, 325, rfl⟩
abbrev main_v189 : Ref sig .tc := ⟨.hbm, 326, rfl⟩
abbrev main_v190 : Ref sig .tc := ⟨.hbm, 327, rfl⟩
abbrev main_v191 : Ref sig .tc := ⟨.hbm, 328, rfl⟩
abbrev main_v192 : Ref sig .tc := ⟨.hbm, 329, rfl⟩
abbrev main_v193 : Ref sig .tc := ⟨.hbm, 330, rfl⟩
abbrev main_v194 : Ref sig .tc := ⟨.hbm, 331, rfl⟩
abbrev main_v195 : Ref sig .tc := ⟨.hbm, 332, rfl⟩
abbrev main_call11_cst : Ref sig .tc := ⟨.hbm, 333, rfl⟩
abbrev main_call11_v0 : Ref sig .tc := ⟨.hbm, 334, rfl⟩
abbrev main_v196 : Ref sig .tc := ⟨.hbm, 335, rfl⟩
abbrev main_cst_22 : Ref sig .tc := ⟨.hbm, 336, rfl⟩
abbrev main_v197 : Ref sig .tc := ⟨.hbm, 337, rfl⟩
abbrev main_v198 : Ref sig .tc := ⟨.hbm, 338, rfl⟩
abbrev main_v199 : Ref sig .tc := ⟨.hbm, 339, rfl⟩
abbrev main_cst_23 : Ref sig .tc := ⟨.hbm, 340, rfl⟩
abbrev main_v200 : Ref sig .tc := ⟨.hbm, 341, rfl⟩
abbrev main_v201 : Ref sig .tc := ⟨.hbm, 342, rfl⟩
abbrev main_cst_24 : Ref sig .tc := ⟨.hbm, 343, rfl⟩
abbrev main_v202 : Ref sig .tc := ⟨.hbm, 344, rfl⟩
abbrev main_cst_25 : Ref sig .tc := ⟨.hbm, 345, rfl⟩
abbrev main_v203 : Ref sig .tc := ⟨.hbm, 346, rfl⟩
abbrev main_v204 : Ref sig .tc := ⟨.hbm, 347, rfl⟩
abbrev main_call12_call0_cst : Ref sig .tc := ⟨.hbm, 348, rfl⟩
abbrev main_call12_call0_v0 : Ref sig .tc := ⟨.hbm, 349, rfl⟩
abbrev main_v205 : Ref sig .tc := ⟨.hbm, 350, rfl⟩
abbrev main_v206 : Ref sig .tc := ⟨.hbm, 351, rfl⟩
abbrev main_v207 : Ref sig .tc := ⟨.hbm, 352, rfl⟩
abbrev main_v208 : Ref sig .tc := ⟨.hbm, 353, rfl⟩
abbrev main_cst_26 : Ref sig .tc := ⟨.hbm, 354, rfl⟩
abbrev main_v209 : Ref sig .tc := ⟨.hbm, 355, rfl⟩
abbrev main_v210 : Ref sig .tc := ⟨.hbm, 356, rfl⟩
abbrev main_v211 : Ref sig .tc := ⟨.hbm, 357, rfl⟩
abbrev main_v212 : Ref sig .tc := ⟨.hbm, 358, rfl⟩
abbrev main_v213 : Ref sig .tc := ⟨.hbm, 359, rfl⟩
abbrev main_v214 : Ref sig .tc := ⟨.hbm, 360, rfl⟩
abbrev main_v215 : Ref sig .tc := ⟨.hbm, 361, rfl⟩
abbrev main_v216 : Ref sig .tc := ⟨.hbm, 362, rfl⟩
abbrev main_v217 : Ref sig .tc := ⟨.hbm, 363, rfl⟩
abbrev main_cst_27 : Ref sig .tc := ⟨.hbm, 364, rfl⟩
abbrev main_v218 : Ref sig .tc := ⟨.hbm, 365, rfl⟩
abbrev main_v219 : Ref sig .tc := ⟨.hbm, 366, rfl⟩
abbrev main_cst_28 : Ref sig .tc := ⟨.hbm, 367, rfl⟩
abbrev main_v220 : Ref sig .tc := ⟨.hbm, 368, rfl⟩
abbrev main_v221 : Ref sig .tc := ⟨.hbm, 369, rfl⟩
abbrev main_v222 : Ref sig .tc := ⟨.hbm, 370, rfl⟩
abbrev main_cst_29 : Ref sig .tc := ⟨.hbm, 371, rfl⟩
abbrev main_v223 : Ref sig .tc := ⟨.hbm, 372, rfl⟩
abbrev main_v224 : Ref sig .tc := ⟨.hbm, 373, rfl⟩
abbrev main_v225 : Ref sig .tc := ⟨.hbm, 374, rfl⟩
abbrev main_v226 : Ref sig .tc := ⟨.hbm, 375, rfl⟩
abbrev main_cst_30 : Ref sig .tc := ⟨.hbm, 376, rfl⟩
abbrev main_v227 : Ref sig .tc := ⟨.hbm, 377, rfl⟩
abbrev main_v228 : Ref sig .tc := ⟨.hbm, 378, rfl⟩
abbrev main_v229 : Ref sig .tc := ⟨.hbm, 379, rfl⟩
abbrev main_v230 : Ref sig .tc := ⟨.hbm, 380, rfl⟩
abbrev main_v231 : Ref sig .tc := ⟨.hbm, 381, rfl⟩
abbrev main_v232 : Ref sig .tc := ⟨.hbm, 382, rfl⟩
abbrev main_v233 : Ref sig .tc := ⟨.hbm, 383, rfl⟩
abbrev main_v234 : Ref sig .tc := ⟨.hbm, 384, rfl⟩
abbrev main_v235 : Ref sig .tc := ⟨.hbm, 385, rfl⟩
abbrev main_v236 : Ref sig .tc := ⟨.hbm, 386, rfl⟩
abbrev main_v237 : Ref sig .tc := ⟨.hbm, 387, rfl⟩
abbrev main_cst_31 : Ref sig .tc := ⟨.hbm, 388, rfl⟩
abbrev main_v238 : Ref sig .tc := ⟨.hbm, 389, rfl⟩
abbrev main_v239 : Ref sig .tc := ⟨.hbm, 390, rfl⟩
abbrev main_cst_32 : Ref sig .tc := ⟨.hbm, 391, rfl⟩
abbrev main_v240 : Ref sig .tc := ⟨.hbm, 392, rfl⟩
abbrev main_v241 : Ref sig .tc := ⟨.hbm, 393, rfl⟩
abbrev main_v242 : Ref sig .tc := ⟨.hbm, 394, rfl⟩
abbrev main_v243 : Ref sig .tc := ⟨.hbm, 395, rfl⟩
abbrev main_v244 : Ref sig .tc := ⟨.hbm, 396, rfl⟩
abbrev main_v245 : Ref sig .tc := ⟨.hbm, 397, rfl⟩
abbrev main_v246 : Ref sig .tc := ⟨.hbm, 398, rfl⟩
abbrev main_v247 : Ref sig .tc := ⟨.hbm, 399, rfl⟩
abbrev main_call13_cst : Ref sig .tc := ⟨.hbm, 400, rfl⟩
abbrev main_call13_v0 : Ref sig .tc := ⟨.hbm, 401, rfl⟩
abbrev main_v248 : Ref sig .tc := ⟨.hbm, 402, rfl⟩
abbrev main_cst_33 : Ref sig .tc := ⟨.hbm, 403, rfl⟩
abbrev main_v249 : Ref sig .tc := ⟨.hbm, 404, rfl⟩
abbrev main_v250 : Ref sig .tc := ⟨.hbm, 405, rfl⟩
abbrev main_v251 : Ref sig .tc := ⟨.hbm, 406, rfl⟩
abbrev main_cst_34 : Ref sig .tc := ⟨.hbm, 407, rfl⟩
abbrev main_v252 : Ref sig .tc := ⟨.hbm, 408, rfl⟩
abbrev main_v253 : Ref sig .tc := ⟨.hbm, 409, rfl⟩
abbrev main_cst_35 : Ref sig .tc := ⟨.hbm, 410, rfl⟩
abbrev main_v254 : Ref sig .tc := ⟨.hbm, 411, rfl⟩
abbrev main_cst_36 : Ref sig .tc := ⟨.hbm, 412, rfl⟩
abbrev main_v255 : Ref sig .tc := ⟨.hbm, 413, rfl⟩
abbrev main_v256 : Ref sig .tc := ⟨.hbm, 414, rfl⟩
abbrev main_call14_call0_cst : Ref sig .tc := ⟨.hbm, 415, rfl⟩
abbrev main_call14_call0_v0 : Ref sig .tc := ⟨.hbm, 416, rfl⟩
abbrev main_v257 : Ref sig .tc := ⟨.hbm, 417, rfl⟩
abbrev main_call15_call0_cst : Ref sig .tc := ⟨.hbm, 418, rfl⟩
abbrev main_call15_call0_v0 : Ref sig .tc := ⟨.hbm, 419, rfl⟩
abbrev main_v258 : Ref sig .tc := ⟨.hbm, 420, rfl⟩
abbrev main_v259 : Ref sig .tc := ⟨.hbm, 421, rfl⟩
abbrev main_v260 : Ref sig .tc := ⟨.hbm, 422, rfl⟩
abbrev main_v261 : Ref sig .tc := ⟨.hbm, 423, rfl⟩
abbrev main_v262 : Ref sig .tc := ⟨.hbm, 424, rfl⟩
abbrev main_v263 : Ref sig .tc := ⟨.hbm, 425, rfl⟩
abbrev main_v264 : Ref sig .tc := ⟨.hbm, 426, rfl⟩
abbrev main_v265 : Ref sig .tc := ⟨.hbm, 427, rfl⟩
abbrev main_cst_37 : Ref sig .tc := ⟨.hbm, 428, rfl⟩
abbrev main_v266 : Ref sig .tc := ⟨.hbm, 429, rfl⟩
abbrev main_v267 : Ref sig .tc := ⟨.hbm, 430, rfl⟩
abbrev main_v268 : Ref sig .tc := ⟨.hbm, 431, rfl⟩
abbrev main_v269 : Ref sig .tc := ⟨.hbm, 432, rfl⟩
abbrev main_cst_38 : Ref sig .tc := ⟨.hbm, 433, rfl⟩
abbrev main_v270 : Ref sig .tc := ⟨.hbm, 434, rfl⟩
abbrev main_v271 : Ref sig .tc := ⟨.hbm, 435, rfl⟩
abbrev main_v272 : Ref sig .tc := ⟨.hbm, 436, rfl⟩
abbrev main_cst_39 : Ref sig .tc := ⟨.hbm, 437, rfl⟩
abbrev main_v273 : Ref sig .tc := ⟨.hbm, 438, rfl⟩
abbrev main_v274 : Ref sig .tc := ⟨.hbm, 439, rfl⟩
abbrev main_v275 : Ref sig .tc := ⟨.hbm, 440, rfl⟩
abbrev main_v276 : Ref sig .tc := ⟨.hbm, 441, rfl⟩
abbrev main_v277 : Ref sig .tc := ⟨.hbm, 442, rfl⟩
abbrev main_cst_40 : Ref sig .tc := ⟨.hbm, 443, rfl⟩
abbrev main_v278 : Ref sig .tc := ⟨.hbm, 444, rfl⟩
abbrev main_v279 : Ref sig .tc := ⟨.hbm, 445, rfl⟩
abbrev main_v280 : Ref sig .tc := ⟨.hbm, 446, rfl⟩
abbrev main_v281 : Ref sig .tc := ⟨.hbm, 447, rfl⟩
abbrev main_cst_41 : Ref sig .tc := ⟨.hbm, 448, rfl⟩
abbrev main_v282 : Ref sig .tc := ⟨.hbm, 449, rfl⟩
abbrev main_v283 : Ref sig .tc := ⟨.hbm, 450, rfl⟩
abbrev main_v284 : Ref sig .tc := ⟨.hbm, 451, rfl⟩
abbrev main_cst_42 : Ref sig .tc := ⟨.hbm, 452, rfl⟩
abbrev main_v285 : Ref sig .tc := ⟨.hbm, 453, rfl⟩
abbrev main_v286 : Ref sig .tc := ⟨.hbm, 454, rfl⟩
abbrev main_cst_43 : Ref sig .tc := ⟨.hbm, 455, rfl⟩
abbrev main_v287 : Ref sig .tc := ⟨.hbm, 456, rfl⟩
abbrev main_v288 : Ref sig .tc := ⟨.hbm, 457, rfl⟩
abbrev main_v289 : Ref sig .tc := ⟨.hbm, 458, rfl⟩
abbrev main_cst_44 : Ref sig .tc := ⟨.hbm, 459, rfl⟩
abbrev main_v290 : Ref sig .tc := ⟨.hbm, 460, rfl⟩
abbrev main_v291 : Ref sig .tc := ⟨.hbm, 461, rfl⟩
abbrev main_call17_v0 : Ref sig .tc := ⟨.hbm, 462, rfl⟩
abbrev main_call17_v1 : Ref sig .tc := ⟨.hbm, 463, rfl⟩
abbrev main_call17_v2 : Ref sig .tc := ⟨.hbm, 464, rfl⟩
abbrev main_v292 : Ref sig .tc := ⟨.hbm, 465, rfl⟩
abbrev main_v293 : Ref sig .tc := ⟨.hbm, 466, rfl⟩
abbrev main_cst_45 : Ref sig .tc := ⟨.hbm, 467, rfl⟩
abbrev main_v294 : Ref sig .tc := ⟨.hbm, 468, rfl⟩
abbrev main_v295 : Ref sig .tc := ⟨.hbm, 469, rfl⟩
abbrev main_v296 : Ref sig .tc := ⟨.hbm, 470, rfl⟩
abbrev main_v297 : Ref sig .tc := ⟨.hbm, 471, rfl⟩
abbrev main_cst_46 : Ref sig .tc := ⟨.hbm, 472, rfl⟩
abbrev main_v298 : Ref sig .tc := ⟨.hbm, 473, rfl⟩
abbrev main_v299 : Ref sig .tc := ⟨.hbm, 474, rfl⟩
abbrev main_cst_47 : Ref sig .tc := ⟨.hbm, 475, rfl⟩
abbrev main_v300 : Ref sig .tc := ⟨.hbm, 476, rfl⟩
abbrev main_cst_48 : Ref sig .tc := ⟨.hbm, 477, rfl⟩
abbrev main_v301 : Ref sig .tc := ⟨.hbm, 478, rfl⟩
abbrev main_v302 : Ref sig .tc := ⟨.hbm, 479, rfl⟩
abbrev main_cst_49 : Ref sig .tc := ⟨.hbm, 480, rfl⟩
abbrev main_v303 : Ref sig .tc := ⟨.hbm, 481, rfl⟩
abbrev main_v304 : Ref sig .tc := ⟨.hbm, 482, rfl⟩
abbrev main_v305 : Ref sig .tc := ⟨.hbm, 483, rfl⟩
abbrev main_v306 : Ref sig .tc := ⟨.hbm, 484, rfl⟩
abbrev main_cst_50 : Ref sig .tc := ⟨.hbm, 485, rfl⟩
abbrev main_v307 : Ref sig .tc := ⟨.hbm, 486, rfl⟩
abbrev main_v308 : Ref sig .tc := ⟨.hbm, 487, rfl⟩
abbrev main_cst_51 : Ref sig .tc := ⟨.hbm, 488, rfl⟩
abbrev main_v309 : Ref sig .tc := ⟨.hbm, 489, rfl⟩
abbrev main_v310 : Ref sig .tc := ⟨.hbm, 490, rfl⟩
abbrev main_cst_52 : Ref sig .tc := ⟨.hbm, 491, rfl⟩
abbrev main_v311 : Ref sig .tc := ⟨.hbm, 492, rfl⟩
abbrev main_v312 : Ref sig .tc := ⟨.hbm, 493, rfl⟩
abbrev main_v313 : Ref sig .tc := ⟨.hbm, 494, rfl⟩
abbrev main_cst_53 : Ref sig .tc := ⟨.hbm, 495, rfl⟩
abbrev main_v314 : Ref sig .tc := ⟨.hbm, 496, rfl⟩
abbrev main_v315 : Ref sig .tc := ⟨.hbm, 497, rfl⟩
abbrev main_v316 : Ref sig .tc := ⟨.hbm, 498, rfl⟩
abbrev main_v317 : Ref sig .tc := ⟨.hbm, 499, rfl⟩
abbrev main_cst_54 : Ref sig .tc := ⟨.hbm, 500, rfl⟩
abbrev main_v318 : Ref sig .tc := ⟨.hbm, 501, rfl⟩
abbrev main_v319 : Ref sig .tc := ⟨.hbm, 502, rfl⟩
abbrev main_cst_55 : Ref sig .tc := ⟨.hbm, 503, rfl⟩
abbrev main_v320 : Ref sig .tc := ⟨.hbm, 504, rfl⟩
abbrev main_v321 : Ref sig .tc := ⟨.hbm, 505, rfl⟩
abbrev main_cst_56 : Ref sig .tc := ⟨.hbm, 506, rfl⟩
abbrev main_v322 : Ref sig .tc := ⟨.hbm, 507, rfl⟩
abbrev main_v323 : Ref sig .tc := ⟨.hbm, 508, rfl⟩
abbrev main_cst_57 : Ref sig .tc := ⟨.hbm, 509, rfl⟩
abbrev main_v324 : Ref sig .tc := ⟨.hbm, 510, rfl⟩
abbrev main_v325 : Ref sig .tc := ⟨.hbm, 511, rfl⟩
abbrev main_v326 : Ref sig .tc := ⟨.hbm, 512, rfl⟩
abbrev main_cst_58 : Ref sig .tc := ⟨.hbm, 513, rfl⟩
abbrev main_v327 : Ref sig .tc := ⟨.hbm, 514, rfl⟩
abbrev main_v328 : Ref sig .tc := ⟨.hbm, 515, rfl⟩
abbrev main_v329 : Ref sig .tc := ⟨.hbm, 516, rfl⟩
abbrev main_v330 : Ref sig .tc := ⟨.hbm, 517, rfl⟩
abbrev main_cst_59 : Ref sig .tc := ⟨.hbm, 518, rfl⟩
abbrev main_v331 : Ref sig .tc := ⟨.hbm, 519, rfl⟩
abbrev main_v332 : Ref sig .tc := ⟨.hbm, 520, rfl⟩
abbrev main_cst_60 : Ref sig .tc := ⟨.hbm, 521, rfl⟩
abbrev main_v333 : Ref sig .tc := ⟨.hbm, 522, rfl⟩
abbrev main_v334 : Ref sig .tc := ⟨.hbm, 523, rfl⟩
abbrev main_cst_61 : Ref sig .tc := ⟨.hbm, 524, rfl⟩
abbrev main_v335 : Ref sig .tc := ⟨.hbm, 525, rfl⟩
abbrev main_v336 : Ref sig .tc := ⟨.hbm, 526, rfl⟩
abbrev main_v337 : Ref sig .tc := ⟨.hbm, 527, rfl⟩
abbrev main_v338 : Ref sig .tc := ⟨.hbm, 528, rfl⟩
abbrev main_cst_62 : Ref sig .tc := ⟨.hbm, 529, rfl⟩
abbrev main_v339 : Ref sig .tc := ⟨.hbm, 530, rfl⟩
abbrev main_v340 : Ref sig .tc := ⟨.hbm, 531, rfl⟩
abbrev main_v341 : Ref sig .tc := ⟨.hbm, 532, rfl⟩
abbrev main_cst_63 : Ref sig .tc := ⟨.hbm, 533, rfl⟩
abbrev main_v342 : Ref sig .tc := ⟨.hbm, 534, rfl⟩
abbrev main_v343 : Ref sig .tc := ⟨.hbm, 535, rfl⟩
abbrev main_v344 : Ref sig .tc := ⟨.hbm, 536, rfl⟩
abbrev main_cst_64 : Ref sig .tc := ⟨.hbm, 537, rfl⟩
abbrev main_v345 : Ref sig .tc := ⟨.hbm, 538, rfl⟩
abbrev main_v346 : Ref sig .tc := ⟨.hbm, 539, rfl⟩
abbrev main_cst_65 : Ref sig .tc := ⟨.hbm, 540, rfl⟩
abbrev main_v347 : Ref sig .tc := ⟨.hbm, 541, rfl⟩
abbrev main_v348 : Ref sig .tc := ⟨.hbm, 542, rfl⟩

abbrev nD : Nat := 1
abbrev τ : Topo := Topo.v7x

variable {F : FTy → Type} [FloatOps F]
-- ==== FfnKernel.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1x128 : Shape := ⟨2, ![1, 128]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S256 : Shape := ⟨1, ![256]⟩
abbrev S256x1 : Shape := ⟨2, ![256, 1]⟩
abbrev S1x1 : Shape := ⟨2, ![1, 1]⟩
abbrev S1024 : Shape := ⟨1, ![1024]⟩

abbrev nBuf : Space → Nat
  | .hbm => 34
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x1024, .f32⟩
  | .hbm, ⟨27, _⟩ => ⟨S8192x2816, .bf16⟩
  | .hbm, ⟨28, _⟩ => ⟨S8192x1024, .bf16⟩
  | .hbm, ⟨29, _⟩ => ⟨S8192x2816, .bf16⟩
  | .hbm, ⟨30, _⟩ => ⟨S8192x2816, .bf16⟩
  | .hbm, ⟨31, _⟩ => ⟨S1x1024, .f32⟩
  | .hbm, ⟨32, _⟩ => ⟨S1x1024, .f32⟩
  | .hbm, ⟨33, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x2816, .bf16⟩
  | .local _ .vmem, ⟨11, _⟩ => ⟨S256x2816, .bf16⟩
  | .local _ .vmem, ⟨12, _⟩ => ⟨S256x1024, .bf16⟩
  | .local _ .vmem, ⟨13, _⟩ => ⟨S256x1024, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S1x1024, .f32⟩
  | .local _ .vmem, ⟨19, _⟩ => ⟨S1x1024, .f32⟩
  | .local _ .vmem, ⟨20, _⟩ => ⟨S1x128, .f32⟩
  | .local _ .vmem, ⟨21, _⟩ => ⟨S1024x2816, .bf16⟩
  | .local _ .vmem, ⟨22, _⟩ => ⟨S1024x2816, .bf16⟩
  | .local _ .vmem, ⟨23, _⟩ => ⟨S2816x1024, .bf16⟩
  | .local _ .vmem, ⟨24, _⟩ => ⟨S256x2816, .f32⟩
  | .local _ .vmem, ⟨25, _⟩ => ⟨S256x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev main_v16_6 : Ref sig .tc := ⟨.hbm, 32, rfl⟩
abbrev main_v16_7 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnReferenceIdeal.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S1x1 : Shape := ⟨2, ![1, 1]⟩
abbrev S1x127 : Shape := ⟨2, ![1, 127]⟩
abbrev S1x128 : Shape := ⟨2, ![1, 128]⟩

abbrev nBuf : Space → Nat
  | .hbm => 151
  | .vmem => 0
  | .smem => 0
  | _ => 0

abbrev hbmTy0_0 (i : Nat) : BufTy := match i % 128 with
  | 0 => ⟨S8192x1024, .f32⟩
  | 1 => ⟨S8192x1024, .f32⟩
  | 2 => ⟨S1024x2816, .f32⟩
  | 3 => ⟨S1024x2816, .f32⟩
  | 4 => ⟨S2816x1024, .f32⟩
  | 5 => ⟨S1x1024, .f32⟩
  | 6 => ⟨S1x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S8192x1024, .f32⟩
  | 25 => ⟨S8192x1024, .f32⟩
  | 26 => ⟨S8192x2816, .f32⟩
  | 27 => ⟨S8192x2816, .f32⟩
  | 28 => ⟨S8192x2816, .f32⟩
  | 29 => ⟨S8192x2816, .f32⟩
  | 30 => ⟨S_, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x1024, .f32⟩
  | 43 => ⟨S8192x1024, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S_, .f32⟩
  | 69 => ⟨S8192, .f32⟩
  | 70 => ⟨S_, .f32⟩
  | 71 => ⟨S8192, .f32⟩
  | 72 => ⟨S8192, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S8192, .f32⟩
  | 81 => ⟨S_, .f32⟩
  | 82 => ⟨S8192, .f32⟩
  | 83 => ⟨S8192, .f32⟩
  | 84 => ⟨S8192x1024, .f32⟩
  | 85 => ⟨S8192x1024, .f32⟩
  | 86 => ⟨S8192x1024, .f32⟩
  | 87 => ⟨S_, .f32⟩
  | 88 => ⟨S1024, .f32⟩
  | 89 => ⟨S1x1024, .f32⟩
  | 90 => ⟨S8192x1024, .f32⟩
  | 91 => ⟨S8192x1024, .f32⟩
  | 92 => ⟨S8192x1024, .f32⟩
  | 93 => ⟨S_, .f32⟩
  | 94 => ⟨S8192, .f32⟩
  | 95 => ⟨S8192x1, .f32⟩
  | 96 => ⟨S8192x1024, .f32⟩
  | 97 => ⟨S8192x1024, .f32⟩
  | 98 => ⟨S8192x1, .f32⟩
  | 99 => ⟨S_, .f32⟩
  | 100 => ⟨S8192x1, .f32⟩
  | 101 => ⟨S8192x1, .f32⟩
  | 102 => ⟨S_, .f32⟩
  | 103 => ⟨S8192, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x2816, .f32⟩
  | 110 => ⟨S8192x2816, .f32⟩
  | 111 => ⟨S8192x2816, .f32⟩
  | 112 => ⟨S8192x2816, .f32⟩
  | 113 => ⟨S8192x2816, .f32⟩
  | 114 => ⟨S8192x2816, .f32⟩
  | 115 => ⟨S8192x2816, .f32⟩
  | 116 => ⟨S8192x1024, .f32⟩
  | 117 => ⟨S8192x1024, .f32⟩
  | 118 => ⟨S8192x1024, .f32⟩
  | 119 => ⟨S8192x1024, .f32⟩
  | 120 => ⟨S_, .f32⟩
  | 121 => ⟨S1024, .f32⟩
  | 122 => ⟨S1x1024, .f32⟩
  | 123 => ⟨S8192x1024, .f32⟩
  | 124 => ⟨S8192x1024, .f32⟩
  | 125 => ⟨S8192x1024, .f32⟩
  | 126 => ⟨S_, .f32⟩
  | 127 => ⟨S8192, .f32⟩
  | _ => ⟨S8192x1024, .f32⟩

abbrev hbmTy0_1 (i : Nat) : BufTy := match i % 128 with
  | 0 => ⟨S8192x1, .f32⟩
  | 1 => ⟨S8192x1024, .f32⟩
  | 2 => ⟨S8192x1024, .f32⟩
  | 3 => ⟨S8192x1, .f32⟩
  | 4 => ⟨S_, .f32⟩
  | 5 => ⟨S8192x1, .f32⟩
  | 6 => ⟨S8192x1, .f32⟩
  | 7 => ⟨S_, .f32⟩
  | 8 => ⟨S8192, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S1x1, .f32⟩
  | 15 => ⟨S_, .f32⟩
  | 16 => ⟨S1x127, .f32⟩
  | 17 => ⟨S1x128, .f32⟩
  | 18 => ⟨S8192x1024, .f32⟩
  | 19 => ⟨S8192x2816, .bf16⟩
  | 20 => ⟨S8192x1024, .bf16⟩
  | 21 => ⟨S8192x2816, .bf16⟩
  | 22 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v17_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v17_1 : Ref sig .tc := ⟨.hbm, 39, rfl⟩
abbrev main_v17_0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_cst_10 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_cst_12 : Ref sig .tc := ⟨.hbm, 77, rfl⟩
abbrev main_cst_13 : Ref sig .tc := ⟨.hbm, 78, rfl⟩
abbrev main_v45 : Ref sig .tc := ⟨.hbm, 79, rfl⟩
abbrev main_v46 : Ref sig .tc := ⟨.hbm, 80, rfl⟩
abbrev main_cst_14 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_15 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_16 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_17 : Ref sig .tc := ⟨.hbm, 99, rfl⟩
abbrev main_v62 : Ref sig .tc := ⟨.hbm, 100, rfl⟩
abbrev main_v63 : Ref sig .tc := ⟨.hbm, 101, rfl⟩
abbrev main_cst_18 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_19 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_20 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_21 : Ref sig .tc := ⟨.hbm, 132, rfl⟩
abbrev main_v88 : Ref sig .tc := ⟨.hbm, 133, rfl⟩
abbrev main_v89 : Ref sig .tc := ⟨.hbm, 134, rfl⟩
abbrev main_cst_22 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_23 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩

abbrev nD : Nat := 1
abbrev τ : Topo := Topo.v7x

variable {F : FTy → Type} [FloatOps F]
-- ==== InKernel.lean ====
abbrev S8192x1024 : Shape := ⟨2, ![8192, 1024]⟩
abbrev S1x1024 : Shape := ⟨2, ![1, 1024]⟩
abbrev S1024x4624 : Shape := ⟨2, ![1024, 4624]⟩
abbrev S8192x4624 : Shape := ⟨2, ![8192, 4624]⟩
abbrev S1024x16 : Shape := ⟨2, ![1024, 16]⟩
abbrev S_ : Shape := ⟨0, ![]⟩
abbrev S1024x112 : Shape := ⟨2, ![1024, 112]⟩
abbrev S1024x128 : Shape := ⟨2, ![1024, 128]⟩
abbrev S8192x16 : Shape := ⟨2, ![8192, 16]⟩
abbrev S8192x112 : Shape := ⟨2, ![8192, 112]⟩
abbrev S8192x128 : Shape := ⟨2, ![8192, 128]⟩
abbrev S8192x2048 : Shape := ⟨2, ![8192, 2048]⟩
abbrev S8192x2560 : Shape := ⟨2, ![8192, 2560]⟩
abbrev S1024x4608 : Shape := ⟨2, ![1024, 4608]⟩
abbrev S512x2048 : Shape := ⟨2, ![512, 2048]⟩
abbrev S512x2560 : Shape := ⟨2, ![512, 2560]⟩
abbrev S512x128 : Shape := ⟨2, ![512, 128]⟩
abbrev S512x1024 : Shape := ⟨2, ![512, 1024]⟩
abbrev S2 : Shape := ⟨1, ![2]⟩
abbrev S1 : Shape := ⟨1, ![1]⟩
abbrev S1024x2048 : Shape := ⟨2, ![1024, 2048]⟩
abbrev S1024x2560 : Shape := ⟨2, ![1024, 2560]⟩
abbrev S512 : Shape := ⟨1, ![512]⟩
abbrev S512x1 : Shape := ⟨2, ![512, 1]⟩
abbrev S1024 : Shape := ⟨1, ![1024]⟩

abbrev nBuf : Space → Nat
  | .hbm => 23
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4624, .f32⟩
  | .hbm, ⟨3, _⟩ => ⟨S8192x4624, .f32⟩
  | .hbm, ⟨4, _⟩ => ⟨S8192x1024, .f32⟩
  | .hbm, ⟨5, _⟩ => ⟨S1024x16, .f32⟩
  | .hbm, ⟨6, _⟩ => ⟨S1024x16, .bf16⟩
  | .hbm, ⟨7, _⟩ => ⟨S_, .bf16⟩
  | .hbm, ⟨8, _⟩ => ⟨S1024x112, .bf16⟩
  | .hbm, ⟨9, _⟩ => ⟨S1024x128, .bf16⟩
  | .hbm, ⟨10, _⟩ => ⟨S8192x16, .f32⟩
  | .hbm, ⟨11, _⟩ => ⟨S8192x16, .bf16⟩
  | .hbm, ⟨12, _⟩ => ⟨S_, .bf16⟩
  | .hbm, ⟨13, _⟩ => ⟨S8192x112, .bf16⟩
  | .hbm, ⟨14, _⟩ => ⟨S8192x128, .bf16⟩
  | .hbm, ⟨15, _⟩ => ⟨S8192x2048, .f32⟩
  | .hbm, ⟨16, _⟩ => ⟨S8192x2048, .bf16⟩
  | .hbm, ⟨17, _⟩ => ⟨S8192x2560, .f32⟩
  | .hbm, ⟨18, _⟩ => ⟨S8192x2560, .bf16⟩
  | .hbm, ⟨19, _⟩ => ⟨S1024x4608, .f32⟩
  | .hbm, ⟨20, _⟩ => ⟨S1024x4608, .bf16⟩
  | .hbm, ⟨21, _⟩ => ⟨S8192x1024, .f32⟩
  | .hbm, ⟨22, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x2560, .bf16⟩
  | .local _ .vmem, ⟨3, _⟩ => ⟨S512x2560, .bf16⟩
  | .local _ .vmem, ⟨4, _⟩ => ⟨S512x128, .bf16⟩
  | .local _ .vmem, ⟨5, _⟩ => ⟨S512x128, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1024x4608, .bf16⟩
  | .local _ .vmem, ⟨15, _⟩ => ⟨S1024x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InReferenceIdeal.lean ====
abbrev S8192x1024 : Shape := ⟨2, ![8192, 1024]⟩
abbrev S1x1024 : Shape := ⟨2, ![1, 1024]⟩
abbrev S1024x4624 : Shape := ⟨2, ![1024, 4624]⟩
abbrev S8192x4624 : Shape := ⟨2, ![8192, 4624]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4624, .f32⟩
  | .hbm, ⟨3, _⟩ => ⟨S8192x4624, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4624, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== OutKernel.lean ====
abbrev S8192x1024 : Shape := ⟨2, ![8192, 1024]⟩
abbrev S2048x1024 : Shape := ⟨2, ![2048, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2048x1024, .bf16⟩
  | .hbm, ⟨7, _⟩ => ⟨S8192x1024, .f32⟩
  | .hbm, ⟨8, _⟩ => ⟨S8192x1024, .f32⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutReferenceIdeal.lean ====
abbrev S8192x1024 : Shape := ⟨2, ![8192, 1024]⟩
abbrev S2048x1024 : Shape := ⟨2, ![2048, 1024]⟩
abbrev S1x1024 : Shape := ⟨2, ![1, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== InpKernel.lean ====
abbrev S8192x1024 : Shape := ⟨2, ![8192, 1024]⟩
abbrev S1x1024 : Shape := ⟨2, ![1, 1024]⟩
abbrev S1024x4624 : Shape := ⟨2, ![1024, 4624]⟩
abbrev S1024x16 : Shape := ⟨2, ![1024, 16]⟩
abbrev S_ : Shape := ⟨0, ![]⟩
abbrev S1024x112 : Shape := ⟨2, ![1024, 112]⟩
abbrev S1024x128 : Shape := ⟨2, ![1024, 128]⟩
abbrev S1024x4608 : Shape := ⟨2, ![1024, 4608]⟩
abbrev S8192x4608 : Shape := ⟨2, ![8192, 4608]⟩
abbrev S8192x128 : Shape := ⟨2, ![8192, 128]⟩
abbrev S512x1024 : Shape := ⟨2, ![512, 1024]⟩
abbrev S512x4608 : Shape := ⟨2, ![512, 4608]⟩
abbrev S512x128 : Shape := ⟨2, ![512, 128]⟩
abbrev S2 : Shape := ⟨1, ![2]⟩
abbrev S1 : Shape := ⟨1, ![1]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4624, .f32⟩
  | .hbm, ⟨3, _⟩ => ⟨S1024x16, .f32⟩
  | .hbm, ⟨4, _⟩ => ⟨S1024x16, .bf16⟩
  | .hbm, ⟨5, _⟩ => ⟨S_, .bf16⟩
  | .hbm, ⟨6, _⟩ => ⟨S1024x112, .bf16⟩
  | .hbm, ⟨7, _⟩ => ⟨S1024x128, .bf16⟩
  | .hbm, ⟨8, _⟩ => ⟨S1024x4608, .f32⟩
  | .hbm, ⟨9, _⟩ => ⟨S1024x4608, .bf16⟩
  | .hbm, ⟨10, _⟩ => ⟨S8192x1024, .bf16⟩
  | .hbm, ⟨11, _⟩ => ⟨S8192x4608, .f32⟩
  | .hbm, ⟨12, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x4608, .f32⟩
  | .local _ .vmem, ⟨6, _⟩ => ⟨S512x4608, .f32⟩
  | .local _ .vmem, ⟨7, _⟩ => ⟨S512x128, .f32⟩
  | .local _ .vmem, ⟨8, _⟩ => ⟨S512x128, .f32⟩
  | .local _ .vmem, ⟨9, _⟩ => ⟨S1024x4608, .bf16⟩
  | .local _ .vmem, ⟨10, _⟩ => ⟨S1024x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InpReferenceIdeal.lean ====
abbrev S8192x1024 : Shape := ⟨2, ![8192, 1024]⟩
abbrev S1x1024 : Shape := ⟨2, ![1, 1024]⟩
abbrev S1024x4624 : Shape := ⟨2, ![1024, 4624]⟩
abbrev S_ : Shape := ⟨0, ![]⟩
abbrev S8192 : Shape := ⟨1, ![8192]⟩
abbrev S8192x1 : Shape := ⟨2, ![8192, 1]⟩
abbrev S8192x4624 : Shape := ⟨2, ![8192, 4624]⟩
abbrev S8192x16 : Shape := ⟨2, ![8192, 16]⟩
abbrev S8192x112 : Shape := ⟨2, ![8192, 112]⟩
abbrev S8192x128 : Shape := ⟨2, ![8192, 128]⟩
abbrev S8192x4608 : Shape := ⟨2, ![8192, 4608]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4624, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x4624, .f32⟩
  | .hbm, ⟨19, _⟩ => ⟨S8192x16, .f32⟩
  | .hbm, ⟨20, _⟩ => ⟨S_, .f32⟩
  | .hbm, ⟨21, _⟩ => ⟨S8192x112, .f32⟩
  | .hbm, ⟨22, _⟩ => ⟨S8192x128, .f32⟩
  | .hbm, ⟨23, _⟩ => ⟨S8192x1024, .bf16⟩
  | .hbm, ⟨24, _⟩ => ⟨S8192x4608, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Lift.lean ====
/- Arrays of real numbers as arrays of extended reals: at the ideal values an operation on finite arrays is the same
   operation on the reals. -/
module

public import Idealize.ShloMosaic.PureOps.Ideal.Laws
public import Idealize.ShloMosaic.Lib.ValueIdx
public import Idealize.ShloMosaic.Lib.ReduceAll
public import Idealize.ShloMosaic.Lib.Pipeline.Value

@[expose] public section

noncomputable section

namespace Cert.Proof

open Idealize.ShloMosaic Idealize.ShloMosaic.ValueIdx
open scoped BigOperators

variable {s t : Shape} {φ ψ : FTy}

/-- A real array read as an array of ideal values, of any float format. -/
def lift (X : s.Idx → ℝ) : s.Idx → EReal := fun i => ((X i : ℝ) : EReal)

theorem lift_apply (X : s.Idx → ℝ) (i : s.Idx) : lift X i = ((X i : ℝ) : EReal) := rfl

theorem coe_sum {ι : Type*} (S : Finset ι) (f : ι → ℝ) : ∑ k ∈ S, ((f k : ℝ) : EReal) = ((∑ k ∈ S, f k : ℝ) : EReal) := by
  classical
  induction S using Finset.induction_on with
  | empty => simp
  | insert a S h ih => rw [Finset.sum_insert h, Finset.sum_insert h, ih, EReal.coe_add]

theorem mulf_lift (X Y : s.Idx → ℝ) : mulf (F := Ideal) (φ := φ) (lift X) (lift Y) = lift (X * Y) := by
  funext i; exact (EReal.coe_mul _ _).symm
theorem addf_lift (X Y : s.Idx → ℝ) : addf (F := Ideal) (φ := φ) (lift X) (lift Y) = lift (X + Y) := by
  funext i; exact (EReal.coe_add _ _).symm
theorem subf_lift (X Y : s.Idx → ℝ) : subf (F := Ideal) (φ := φ) (lift X) (lift Y) = lift (X - Y) := by
  funext i; exact (EReal.coe_sub _ _).symm

theorem div_coe_coe (x : ℝ) {y : ℝ} (h : y ≠ 0) : Ideal.div (x : EReal) (y : EReal) = ((x / y : ℝ) : EReal) := by
  rw [Ideal.div_coe h, ← EReal.coe_mul]; congr 1; field_simp

theorem divf_lift (X Y : s.Idx → ℝ) (h : ∀ i, Y i ≠ 0) : divf (F := Ideal) (φ := φ) (lift X) (lift Y) = lift (X / Y) := by
  funext i; exact div_coe_coe _ (h i)
theorem hostDivf_lift (X Y : s.Idx → ℝ) (h : ∀ i, Y i ≠ 0) : Host.divf (F := Ideal) (φ := φ) (lift X) (lift Y) = lift (X / Y) := by
  funext i; exact div_coe_coe _ (h i)

theorem hostDivf_const (X : s.Idx → ℝ) {c : ℝ} (h : c ≠ 0) :
    Host.divf (F := Ideal) (φ := φ) (lift X) (lift fun _ => c) = lift fun i => X i / c := hostDivf_lift _ _ fun _ => h

theorem broadcastInDim_const (dims : Fin s.rank → Fin t.rank) (h : s.BroadcastsInDim t dims) (c : ℝ) :
    (broadcastInDim t dims h fun _ => c) = fun _ => c := rfl

theorem rsqrt_coe_pos {x : ℝ} (h : 0 < x) : Ideal.rsqrt (x : EReal) = (((Real.sqrt x)⁻¹ : ℝ) : EReal) := by
  rw [Ideal.rsqrt_coe, if_neg (not_lt.mpr h.le), if_neg h.ne']
theorem rsqrt_lift (X : s.Idx → ℝ) (h : ∀ i, 0 < X i) : rsqrt (F := Ideal) (φ := φ) (lift X) = lift fun i => (Real.sqrt (X i))⁻¹ := by
  funext i; exact rsqrt_coe_pos (h i)
theorem hostRsqrt_lift (X : s.Idx → ℝ) (h : ∀ i, 0 < X i) :
    Host.rsqrt (F := Ideal) (φ := φ) (lift X) = lift fun i => (Real.sqrt (X i))⁻¹ := by
  funext i; exact rsqrt_coe_pos (h i)

theorem truncf_lift (X : s.Idx → ℝ) (h : ψ.bits < φ.bits) : truncf (F := Ideal) (φ := φ) ψ (lift X) h = lift X := rfl

theorem shapeCast_lift (X : s.Idx → ℝ) (h : s.ShapeCasts t) : shapeCast t (lift X) h = lift (shapeCast t X h) := rfl
theorem broadcastTo_lift (X : s.Idx → ℝ) (h : s.Broadcasts t) :
    broadcastTo t (lift X) h = lift (broadcastTo t X h) := rfl
theorem extractStridedSlice_lift (off : Fin s.rank → Nat) (X : s.Idx → ℝ) (h : s.Slices off t) :
    extractStridedSlice t off (lift X) h = lift (extractStridedSlice t off X h) := rfl
theorem broadcastInDim_lift (dims : Fin s.rank → Fin t.rank) (h : s.BroadcastsInDim t dims) (X : s.Idx → ℝ) :
    broadcastInDim t dims h (lift X) = lift (broadcastInDim t dims h X) := rfl

/-- The splat of a float word whose value is known. -/
theorem constant_lift {b : BitVec φ.bits} {r : ℝ} (h : Ideal.ofBits φ b = (r : EReal)) :
    constant (F := Ideal) s φ b = lift fun _ => r := funext fun _ => h
theorem broadcast_lift {b : BitVec φ.bits} {r : ℝ} (h : Ideal.ofBits φ b = (r : EReal)) :
    broadcast s (Scalar.ofBits (F := Ideal) φ b) = lift fun _ => r := funext fun _ => h

/-- The sum of a real array over one axis. -/
def sumAxis {a : Fin s.rank} (h : s.Reduces [a] t) (X : s.Idx → ℝ) : t.Idx → ℝ := fun j => ∑ k : Fin (s.size a), X (h.lift j k)

theorem multiReduction_lift {a : Fin s.rank} (X : s.Idx → ℝ) (h : s.Reduces [a] t) (hφ : FKind.Formats .f32)
    (hacc : (0x00000000#32 : BitVec 32) = 0x00000000#32) :
    multiReduction (F := Ideal) (φ := .f32) .add [a] t (lift X) 0x00000000#32 h hφ hacc = lift (sumAxis h X) := by
  funext j
  exact (Ideal.multiReduction_add_single (lift X) _ h hφ hacc j).trans (coe_sum _ _)

theorem hostReduceAdd_lift {u : Shape} {a : Fin s.rank} (X : s.Idx → ℝ) {r : ℝ} (c : FVec Ideal u φ) (hc : ∀ i, c i = ((r : ℝ) : EReal))
    (h' : s.ReducesTo [a] t) (hu : 0 < u.numel) (h : s.Reduces [a] t) :
    Host.reduceAdd (F := Ideal) (φ := φ) (lift X) c h' hu = lift (fun j => r + sumAxis h X j) := by
  funext j
  show Ideal.hostReduceAdd h' (lift X) (c _) j = _
  rw [Ideal.hostReduceAdd_single h' h, hc, lift_apply, EReal.coe_add]
  exact congrArg (_ + ·) (coe_sum _ _)

theorem hostSum_lift {u : Shape} {a : Fin s.rank} (h : s.Reduces [a] t) (X : s.Idx → ℝ) (h' : s.ReducesTo [a] t) (hu : 0 < u.numel) :
    Host.reduceAdd (F := Ideal) (φ := .f32) (lift X) (constant u .f32 0x00000000#32) h' hu = lift (sumAxis h X) := by
  rw [hostReduceAdd_lift X (r := 0) (constant u .f32 0x00000000#32) (fun _ => Ideal.ofBits_zero_f32) h' hu h]
  simp only [zero_add]

/-- A contraction of two real arrays. -/
def dotR {sl sr so : Shape} (d : DotDims sl sr so) (X : sl.Idx → ℝ) (Y : sr.Idx → ℝ) : so.Idx → ℝ :=
  fun j => ∑ k : d.contr.Idx, X (d.lhsIdx j k) * Y (d.rhsIdx j k)

theorem matmul_lift {sl sr so : Shape} {φ₁ φ₂ : FTy} (d : DotDims sl sr so) (prec : Option ContractPrecision)
    (X : sl.Idx → ℝ) (Y : sr.Idx → ℝ) (Z : so.Idx → ℝ) :
    matmul (F := Ideal) (φ₁ := φ₁) (φ₂ := φ₂) d prec (lift X) (lift Y) (lift Z) = lift (Z + dotR d X Y) := by
  funext j
  refine (Ideal.matmul_apply d prec _ _ _ j).trans ?_
  show ((Z j : ℝ) : EReal) + _ = ((Z j + dotR d X Y j : ℝ) : EReal)
  rw [EReal.coe_add]
  refine congrArg (_ + ·) (Eq.trans (Finset.sum_congr rfl fun k _ => ?_) (coe_sum _ _))
  exact (EReal.coe_mul _ _).symm

theorem dotGeneral_lift {sl sr so : Shape} {φ₁ φ₂ : FTy} (d : DotDims sl sr so) (prec : Option ContractPrecision)
    (X : sl.Idx → ℝ) (Y : sr.Idx → ℝ) :
    Host.dotGeneral (F := Ideal) (φ₁ := φ₁) (φ₂ := φ₂) d prec (lift X) (lift Y) = lift (dotR d X Y) := by
  funext j
  simp only [Host.dotGeneral]
  rw [Ideal.dotGeneral_apply]
  refine Eq.trans (Finset.sum_congr rfl fun k _ => ?_) (coe_sum _ _)
  exact (EReal.coe_mul _ _).symm

/-- A contraction of one axis, as a sum over the axis. -/
theorem dotR_apply {sl sr so : Shape} (d : DotDims sl sr so) (n : Nat) (hr : d.contr.rank = 1)
    (hs : d.contr.size ⟨0, by omega⟩ = n) (X : sl.Idx → ℝ) (Y : sr.Idx → ℝ) (j : so.Idx) (L : Fin n → sl.Idx) (R : Fin n → sr.Idx)
    (hL : ∀ k, d.lhsIdx j ((contrEquiv1 d n hr hs).symm k) = L k) (hR : ∀ k, d.rhsIdx j ((contrEquiv1 d n hr hs).symm k) = R k) :
    dotR d X Y j = ∑ k, X (L k) * Y (R k) := by
  unfold dotR
  rw [← Equiv.sum_comp (contrEquiv1 d n hr hs).symm]
  exact Finset.sum_congr rfl fun k _ => by rw [hL, hR]

/-- The sum of a finite sequence's first `k` terms. -/
def psum {N : Nat} (f : Fin N → ℝ) (k : Nat) : ℝ := ∑ j ∈ Finset.range k, if h : j < N then f ⟨j, h⟩ else 0

theorem psum_zero {N : Nat} (f : Fin N → ℝ) : psum f 0 = 0 := rfl

/-- The terms of one more block of `B`. -/
theorem psum_add {N B k : Nat} (f : Fin N → ℝ) (h : k + B ≤ N) :
    psum f (k + B) = psum f k + ∑ r : Fin B, f ⟨k + r.val, by omega⟩ := by
  unfold psum
  rw [Finset.sum_range_add, Finset.sum_range (n := B)]
  exact congrArg (_ + ·) (Finset.sum_congr rfl fun r _ => dif_pos (by omega))

theorem psum_all {N : Nat} (f : Fin N → ℝ) : psum f N = ∑ j, f j := by
  unfold psum
  rw [Finset.sum_range]
  exact Finset.sum_congr rfl fun r _ => dif_pos r.isLt

/-- An array of ideal values with no infinite entry. -/
def IsReal (x : FVec Ideal s φ) : Prop := ∃ X : s.Idx → ℝ, x = lift X

theorem isReal_of_forall (x : FVec Ideal s φ) (h : ∀ i, ∃ r : ℝ, x i = ((r : ℝ) : EReal)) : IsReal x :=
  ⟨fun i => (h i).choose, funext fun i => (h i).choose_spec⟩

instance : Subsingleton (⟨0, ![]⟩ : Shape).Idx := ⟨fun _ _ => funext fun a => a.elim0⟩

theorem ofBits_inf : Ideal.ofBits .f32 0x7F800000#32 = ⊤ := by simp [Ideal.ofBits, Ideal.ieee]

/-- An array all of whose absolute values are below infinity is real. -/
theorem isReal_of_all (x : FVec Ideal s .f32) {axes : List (Fin s.rank)} (hb : (⟨0, ![]⟩ : Shape).BroadcastsInDim s ![])
    (hr : s.ReducesTo axes ⟨0, ![]⟩) (hu : 0 < (⟨0, ![]⟩ : Shape).numel) (init : IVec ⟨0, ![]⟩ 1) (j : (⟨0, ![]⟩ : Shape).Idx)
    (h : Host.reduce IntOp.andi (cmpf .olt (Host.absf x) (broadcastInDim s ![] hb (constant ⟨0, ![]⟩ .f32 0x7F800000#32))) init hr hu j = 1#1) :
    IsReal x := by
  refine isReal_of_forall x fun i => ?_
  have e := Host.reduce_andi_all _ init hr hu j h i
  have e' : Ideal.cmp .olt (max (x i) (-(x i))) (Ideal.ofBits .f32 0x7F800000#32) = 1#1 := e
  rw [ofBits_inf] at e'
  have hl : max (x i : EReal) (-(x i)) < ⊤ := by
    by_contra hn
    simp [Ideal.cmp, hn] at e'
  obtain ⟨h1, h2⟩ := max_lt_iff.mp hl
  refine ⟨EReal.toReal (x i), (EReal.coe_toReal h1.ne ?_).symm⟩
  intro hb; rw [hb] at h2; simp at h2

end Cert.Proof

end
-- ==== Proof.Rms.lean ====
/- The normalisation by the root mean square over rows of 1024 and its gradient, over the reals, on an array of any number
   of rows; and the same as the kernels' bodies spell it. -/
module

public import proofs.«01_k».proof.Proof.Lift

@[expose] public section

noncomputable section

namespace Cert.Proof

open Idealize.ShloMosaic Idealize.ShloMosaic.ValueIdx
open scoped BigOperators

/-- The real number of the word added to the mean of the squares. -/
def eps : ℝ := 8796093 / 8796093022208

theorem eps_pos : 0 < eps := by unfold eps; norm_num

theorem ofBits_eps : Ideal.ofBits .f32 0x358637BD#32 = (eps : EReal) := by
  unfold eps; simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, ← EReal.coe_neg]; norm_num
theorem ofBits_0 : Ideal.ofBits .f32 0x00000000#32 = ((0 : ℝ) : EReal) := by
  rw [Ideal.ofBits_zero_f32]; rfl

/-- The sum of the products of two arrays' rows `r`. -/
def rowDot {n : Nat} (X Y : (⟨2, ![n, 1024]⟩ : Shape).Idx → ℝ) (r : Fin n) : ℝ := ∑ k : Fin 1024, X (ix2 r k) * Y (ix2 r k)

theorem rowDot_comm {n : Nat} (X Y : (⟨2, ![n, 1024]⟩ : Shape).Idx → ℝ) (r : Fin n) : rowDot X Y r = rowDot Y X r :=
  Finset.sum_congr rfl fun _ _ => mul_comm _ _

/-- The mean of the squares of row `r`, with the word added. -/
def meanSq {n : Nat} (X : (⟨2, ![n, 1024]⟩ : Shape).Idx → ℝ) (r : Fin n) : ℝ := rowDot X X r / 1024 + eps

theorem meanSq_pos {n : Nat} (X : (⟨2, ![n, 1024]⟩ : Shape).Idx → ℝ) (r : Fin n) : 0 < meanSq X r :=
  add_pos_of_nonneg_of_pos (div_nonneg (Finset.sum_nonneg fun _ _ => mul_self_nonneg _) (by norm_num)) eps_pos

/-- The factor of row `r`. -/
def rn {n : Nat} (X : (⟨2, ![n, 1024]⟩ : Shape).Idx → ℝ) (r : Fin n) : ℝ := (Real.sqrt (meanSq X r))⁻¹

theorem rn_sq {n : Nat} (X : (⟨2, ![n, 1024]⟩ : Shape).Idx → ℝ) (r : Fin n) : rn X r * rn X r = (meanSq X r)⁻¹ := by
  unfold rn
  rw [← mul_inv, Real.mul_self_sqrt (meanSq_pos X r).le]

/-- The gradient with respect to the normalised array, from the gradient `T` of its rows times their factors. -/
def dRms {n : Nat} (X T : (⟨2, ![n, 1024]⟩ : Shape).Idx → ℝ) : (⟨2, ![n, 1024]⟩ : Shape).Idx → ℝ := fun i =>
  rn X (i 0) * T i - X i * (rn X (i 0) * rn X (i 0) * rn X (i 0)) * (rowDot T X (i 0) / 1024)

/-- The same gradient, as differentiating the factor through its square root leaves it. -/
theorem dRms_eq {n : Nat} (X T : (⟨2, ![n, 1024]⟩ : Shape).Idx → ℝ) (r : Fin n) (k : Fin 1024) (q : ℝ)
    (hq : q = rowDot X T r * (-(1 / 2) * (rn X r / meanSq X r)) / 1024) :
    T (ix2 r k) * rn X r + X (ix2 r k) * q + q * X (ix2 r k) = dRms X T (ix2 r k) := by
  have h := rn_sq X r
  show _ = rn X r * T (ix2 r k) - X (ix2 r k) * (rn X r * rn X r * rn X r) * (rowDot T X r / 1024)
  rw [h, rowDot_comm T X, hq]
  have := (meanSq_pos X r).ne'
  field_simp
  ring

/-- A one-row array spread over the rows. -/
def rowsOf {n : Nat} (g : (⟨2, ![1, 1024]⟩ : Shape).Idx → ℝ) : (⟨2, ![n, 1024]⟩ : Shape).Idx → ℝ := fun i => g (ix2 0 (i 1))

/-- The gradient of the one-row factor: the sum over the rows. -/
def dGain {n : Nat} (X T : (⟨2, ![n, 1024]⟩ : Shape).Idx → ℝ) : (⟨2, ![1, 1024]⟩ : Shape).Idx → ℝ := fun i =>
  ∑ r : Fin n, T (ix2 r (i 1)) * X (ix2 r (i 1)) * rn X r

/-! ## Layout operations of these shapes, read at an index -/

theorem bcast_col_any {α : Type} {n : Nat} (h : (⟨2, ![n, 1]⟩ : Shape).Broadcasts ⟨2, ![n, 1024]⟩) (x : (⟨2, ![n, 1]⟩ : Shape).Idx → α) :
    broadcastTo ⟨2, ![n, 1024]⟩ x h = fun i => x (ix2 (i 0) 0) := by
  funext i
  refine broadcastTo_apply x h i _ fun a => ?_
  match a with
  | ⟨0, _⟩ =>
    show (i 0).val = if n = 1 then 0 else (i 0).val
    split
    · have := idx2_lt0 i; omega
    · rfl
  | ⟨1, _⟩ => rfl

theorem bcast_row_any {α : Type} {n : Nat} (h : (⟨2, ![1, 1024]⟩ : Shape).Broadcasts ⟨2, ![n, 1024]⟩) (x : (⟨2, ![1, 1024]⟩ : Shape).Idx → α) :
    broadcastTo ⟨2, ![n, 1024]⟩ x h = fun i => x (ix2 0 (i 1)) := by
  funext i
  refine broadcastTo_apply x h i _ fun a => ?_
  match a with
  | ⟨0, _⟩ => rfl
  | ⟨1, _⟩ => rfl

theorem cast_col_any {α : Type} {n : Nat} (h : (⟨1, ![n]⟩ : Shape).ShapeCasts ⟨2, ![n, 1]⟩) (x : (⟨1, ![n]⟩ : Shape).Idx → α) :
    shapeCast ⟨2, ![n, 1]⟩ x h = fun i => x (ix1 (i 0)) := by
  funext i
  refine shapeCast_apply x h i _ ?_
  have h0 := idx2_lt1 i
  rw [Shape.rowMajor_val_one, Shape.rowMajor_val_two]
  show (i 0).val = (i 0).val * 1 + (i 1).val
  omega

theorem bid_vec_any {α : Type} {n m : Nat} (h : (⟨1, ![n]⟩ : Shape).BroadcastsInDim ⟨2, ![n, m]⟩ ![0]) (x : (⟨1, ![n]⟩ : Shape).Idx → α) :
    broadcastInDim ⟨2, ![n, m]⟩ ![0] h x = fun i => x (ix1 (i 0)) := by
  funext i
  refine broadcastInDim_apply _ h x i _ fun a => ?_
  match a with
  | ⟨0, _⟩ =>
    show (i 0).val = if n = 1 then 0 else (i 0).val
    have := idx2_lt0 i
    split <;> omega

theorem bid_col_any {α : Type} {n m : Nat} (h : (⟨2, ![n, 1]⟩ : Shape).BroadcastsInDim ⟨2, ![n, m]⟩ ![0, 1]) (x : (⟨2, ![n, 1]⟩ : Shape).Idx → α) :
    broadcastInDim ⟨2, ![n, m]⟩ ![0, 1] h x = fun i => x (ix2 (i 0) 0) := by
  funext i
  refine broadcastInDim_apply _ h x i _ fun a => ?_
  match a with
  | ⟨0, _⟩ =>
    show (i 0).val = if n = 1 then 0 else (i 0).val
    have := idx2_lt0 i
    split <;> omega
  | ⟨1, _⟩ => rfl

theorem bid_row_any {α : Type} {n m : Nat} (h : (⟨2, ![1, m]⟩ : Shape).BroadcastsInDim ⟨2, ![n, m]⟩ ![0, 1]) (x : (⟨2, ![1, m]⟩ : Shape).Idx → α) :
    broadcastInDim ⟨2, ![n, m]⟩ ![0, 1] h x = fun i => x (ix2 0 (i 1)) := by
  funext i
  refine broadcastInDim_apply _ h x i _ fun a => ?_
  match a with
  | ⟨0, _⟩ => rfl
  | ⟨1, _⟩ =>
    show (i 1).val = if m = 1 then 0 else (i 1).val
    have := idx2_lt1 i
    split <;> omega

/-! The same, of real arrays. -/

theorem bcast_col {n : Nat} (h : (⟨2, ![n, 1]⟩ : Shape).Broadcasts ⟨2, ![n, 1024]⟩) (x : (⟨2, ![n, 1]⟩ : Shape).Idx → ℝ) :
    broadcastTo ⟨2, ![n, 1024]⟩ x h = fun i => x (ix2 (i 0) 0) := bcast_col_any h x

theorem bcast_row {n : Nat} (h : (⟨2, ![1, 1024]⟩ : Shape).Broadcasts ⟨2, ![n, 1024]⟩) (x : (⟨2, ![1, 1024]⟩ : Shape).Idx → ℝ) :
    broadcastTo ⟨2, ![n, 1024]⟩ x h = fun i => x (ix2 0 (i 1)) := bcast_row_any h x

theorem cast_col {n : Nat} (h : (⟨1, ![n]⟩ : Shape).ShapeCasts ⟨2, ![n, 1]⟩) (x : (⟨1, ![n]⟩ : Shape).Idx → ℝ) :
    shapeCast ⟨2, ![n, 1]⟩ x h = fun i => x (ix1 (i 0)) := cast_col_any h x

theorem cast_row {n : Nat} (h : (⟨1, ![n]⟩ : Shape).ShapeCasts ⟨2, ![1, n]⟩) (x : (⟨1, ![n]⟩ : Shape).Idx → ℝ) :
    shapeCast ⟨2, ![1, n]⟩ x h = fun i => x (ix1 (i 1)) := by
  funext i
  refine (shapeCast_addUnit_apply _ x h i).trans (congrArg x (funext fun a => ?_))
  match a with | ⟨0, _⟩ => rfl

theorem sum_cols {n m : Nat} (h : (⟨2, ![n, m]⟩ : Shape).Reduces [1] ⟨1, ![n]⟩) (X : (⟨2, ![n, m]⟩ : Shape).Idx → ℝ) :
    sumAxis h X = fun i => ∑ k : Fin m, X (ix2 (i 0) k) := by
  funext i
  refine Finset.sum_congr rfl fun k _ => congrArg X (funext fun a => ?_)
  match a with | ⟨0, _⟩ => rfl | ⟨1, _⟩ => rfl

theorem sum_rows {n m : Nat} (h : (⟨2, ![n, m]⟩ : Shape).Reduces [0] ⟨1, ![m]⟩) (X : (⟨2, ![n, m]⟩ : Shape).Idx → ℝ) :
    sumAxis h X = fun i => ∑ k : Fin n, X (ix2 k (i 0)) := by
  funext i
  refine Finset.sum_congr rfl fun k _ => congrArg X (funext fun a => ?_)
  match a with | ⟨0, _⟩ => rfl | ⟨1, _⟩ => rfl

theorem bid_vec {n m : Nat} (h : (⟨1, ![n]⟩ : Shape).BroadcastsInDim ⟨2, ![n, m]⟩ ![0]) (x : (⟨1, ![n]⟩ : Shape).Idx → ℝ) :
    broadcastInDim ⟨2, ![n, m]⟩ ![0] h x = fun i => x (ix1 (i 0)) := bid_vec_any h x

theorem bid_col {n m : Nat} (h : (⟨2, ![n, 1]⟩ : Shape).BroadcastsInDim ⟨2, ![n, m]⟩ ![0, 1]) (x : (⟨2, ![n, 1]⟩ : Shape).Idx → ℝ) :
    broadcastInDim ⟨2, ![n, m]⟩ ![0, 1] h x = fun i => x (ix2 (i 0) 0) := bid_col_any h x

theorem bid_row {n m : Nat} (h : (⟨2, ![1, m]⟩ : Shape).BroadcastsInDim ⟨2, ![n, m]⟩ ![0, 1]) (x : (⟨2, ![1, m]⟩ : Shape).Idx → ℝ) :
    broadcastInDim ⟨2, ![n, m]⟩ ![0, 1] h x = fun i => x (ix2 0 (i 1)) := bid_row_any h x

end Cert.Proof

end
-- ==== Proof.OutprojBody.lean ====
/- What one grid point of the output projection's backward kernel computes from finite blocks, over the reals. -/
module

public import proofs.«01_k».proof.Proof.Rms
public import proofs.«01_k».proof.Proof.Gen.KernelIdeal.Skeleton

@[expose] public section

noncomputable section

namespace Cert.Proof.Outproj

open Idealize.ShloMosaic Idealize.ShloMosaic.ValueIdx Cert.KernelIdeal Cert.KernelIdeal.Gen
open scoped BigOperators

theorem pay5_lift (a : S512x1024.Idx → ℝ) : k0_pay5 (F := Ideal) (lift a) = lift a := shapeCast_self _ _

theorem pay6_lift (a : S512x1024.Idx → ℝ) : k0_pay6 (F := Ideal) (lift a) = lift fun i => rn a (i 0) := by
  unfold k0_pay6
  simp only [pay5_lift, mulf_lift, multiReduction_lift _ reduces_S512x1024_S512, shapeCast_lift, broadcast_lift ofBits_1024, broadcast_lift ofBits_eps,
    cast_col, sum_cols]
  rw [divf_lift _ _ fun _ => by norm_num, addf_lift]
  exact rsqrt_lift _ fun i => meanSq_pos a (i 0)

theorem pay8_lift (b : S512x1024.Idx → ℝ) (g : S1x1024.Idx → ℝ) : k0_pay8 (F := Ideal) (lift b) (lift g) = lift (b * rowsOf g) := by
  unfold k0_pay8
  simp only [broadcastTo_lift, bcast_row, mulf_lift]
  rfl

/-- The gradient of the array that the projection leaves. -/
theorem pay1_lift (a b : S512x1024.Idx → ℝ) (g : S1x1024.Idx → ℝ) :
    k0_pay1 (F := Ideal) (k0_pay9 (lift a) (lift b) (lift g)) (k0_pay10 (lift a) (lift b) (lift g)) = lift (dRms a (b * rowsOf g)) := by
  unfold k0_pay1 k0_pay9 k0_pay10
  simp only [pay5_lift, pay6_lift, pay8_lift, mulf_lift, multiReduction_lift _ reduces_S512x1024_S512, shapeCast_lift, broadcast_lift ofBits_1024,
    cast_col, sum_cols, broadcastTo_lift, bcast_col]
  rw [divf_lift _ _ fun _ => by norm_num]
  simp only [mulf_lift, subf_lift, truncf_lift, broadcastTo_lift, bcast_col]
  rfl

theorem pay7_lift (a b : S512x1024.Idx → ℝ) (acc : S1x1024.Idx → ℝ) :
    k0_pay7 (F := Ideal) (lift a) (lift b) (lift acc) = lift (acc + dGain a b) := by
  unfold k0_pay7
  simp only [pay5_lift, pay6_lift, mulf_lift, multiReduction_lift _ reduces_S512x1024_S1024, shapeCast_lift, cast_row, sum_rows, broadcastTo_lift, bcast_col,
    shapeCast_self, addf_lift]
  rfl

/-- The product of an array's rows with the transpose of a weight block. -/
def mulT {n p : Nat} (X : (⟨2, ![n, 1024]⟩ : Shape).Idx → ℝ) (W : (⟨2, ![p, 1024]⟩ : Shape).Idx → ℝ) :
    (⟨2, ![n, p]⟩ : Shape).Idx → ℝ := fun i => ∑ k : Fin 1024, X (ix2 (i 0) k) * W (ix2 (i 1) k)

theorem dot_block (X : S512x1024.Idx → ℝ) (W : S1024x1024.Idx → ℝ) :
    dotR dot_S512x1024_S1024x1024_S512x1024_1_1_0_0_n_n X W = mulT X W := by
  funext j
  refine dotR_apply _ 1024 rfl rfl X W j _ _ (fun k => ?_) (fun k => ?_)
  · funext a
    apply Fin.ext
    match a with
    | ⟨0, _⟩ =>
      show (DotDims.lhsIdx dot_S512x1024_S1024x1024_S512x1024_1_1_0_0_n_n j _ 0).val = (j 0).val
      unfold DotDims.lhsIdx
      rw [dif_neg (by decide), dif_pos (by decide)]; rfl
    | ⟨1, _⟩ =>
      exact (dot_S512x1024_S1024x1024_S512x1024_1_1_0_0_n_n.lhsIdx_val_of_single rfl j _).trans
        (contrEquiv1_symm_val _ 1024 rfl rfl k)
  · funext a
    apply Fin.ext
    match a with
    | ⟨0, _⟩ =>
      show (DotDims.rhsIdx dot_S512x1024_S1024x1024_S512x1024_1_1_0_0_n_n j _ 0).val = (j 1).val
      unfold DotDims.rhsIdx
      rw [dif_neg (by decide), dif_pos (by decide)]; rfl
    | ⟨1, _⟩ =>
      exact (dot_S512x1024_S1024x1024_S512x1024_1_1_0_0_n_n.rhsIdx_val_of_single rfl j _).trans
        (contrEquiv1_symm_val _ 1024 rfl rfl k)

theorem pay2_lift (a b : S512x1024.Idx → ℝ) (g : S1x1024.Idx → ℝ) (w : S1024x1024.Idx → ℝ) :
    k0_pay2 (F := Ideal) (k0_pay9 (lift a) (lift b) (lift g)) (k0_pay10 (lift a) (lift b) (lift g)) (lift w)
      = lift (mulT (dRms a (b * rowsOf g)) w) := by
  unfold k0_pay2
  simp only [pay1_lift, shapeCast_self, constant_lift ofBits_0, matmul_lift, dot_block]
  exact congrArg lift (zero_add _)

theorem pay3_lift (a b : S512x1024.Idx → ℝ) (g : S1x1024.Idx → ℝ) (w : S1024x1024.Idx → ℝ) :
    k0_pay3 (F := Ideal) (k0_pay9 (lift a) (lift b) (lift g)) (k0_pay10 (lift a) (lift b) (lift g)) (lift w)
      = lift (mulT (dRms a (b * rowsOf g)) w) := pay2_lift a b g w

end Cert.Proof.Outproj

end
-- ==== Proof.OutprojRun.lean ====
/- What a grid point of the output projection's backward kernel leaves in each output block, in terms of its input blocks. -/
module

public import proofs.«01_k».proof.Proof.OutprojBody
public import proofs.«01_k».proof.Proof.Gen.KernelIdeal.Value

@[expose] public section

noncomputable section

namespace Cert.Proof.Outproj

open Idealize.ShloMosaic Idealize.ShloMosaic.ValueIdx Cert.KernelIdeal Cert.KernelIdeal.Gen Cert.KernelIdeal.Value

variable {F : FTy → Type} [FloatOps F]

theorem hz : (![0, 0] : Fin 2 → Nat) = fun _ => 0 := funext fun a => by fin_cases a <;> rfl

/-- A load of the whole of a block reads the block. -/
theorem ld_tile {e : EltTy} (X : S512x1024.Idx → Elt F e) (inb) : View.ld X (Rect.unit (s := S512x1024) ![0, 0] ![512, 1024] inb) = X :=
  View.ld_unit_zero (S := S512x1024) hz inb X
theorem ld_row {e : EltTy} (X : S1x1024.Idx → Elt F e) (inb) : View.ld X (Rect.unit (s := S1x1024) ![0, 0] ![1, 1024] inb) = X :=
  View.ld_unit_zero (S := S1x1024) hz inb X

variable (c : Dev nD) (i : grid0.Coords) (a1 : Memref sig .tc .vmem S512x1024 .f32) (h1 : a1.IsWhole)
  (a2 : Memref sig .tc .vmem S512x1024 .f32) (h2 : a2.IsWhole) (a3 : Memref sig .tc .vmem S2048x1024 .bf16) (h3 : a3.IsWhole)
  (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S512x1024 .bf16) (h7 : a7.IsWhole)
  (a8 : Memref sig .tc .vmem S1x1024 .f32) (h8 : a8.IsWhole)
  (x0 x1 : Vec F S512x1024 .f32) (x2 : Vec F S2048x1024 .bf16) (x3 : Vec F S1x1024 .f32) (xo : Vec F S1x1024 .f32)

/-- The first and the second half of the weight's rows. -/
def half0 {α : Type} (x : S2048x1024.Idx → α) : S1024x1024.Idx → α :=
  extractStridedSlice S1024x1024 ![0, 0] x ⟨rfl, inb_S2048x1024_S1024x1024_0_0⟩
def half1 {α : Type} (x : S2048x1024.Idx → α) : S1024x1024.Idx → α :=
  extractStridedSlice S1024x1024 ![1024, 0] x ⟨rfl, inb_S2048x1024_S1024x1024_1024_0⟩

theorem outA4 (hc) : out0_A_4 c i a1 h1 a2 h2 a3 h3 a4 h4 a5 h5 a6 h6 a7 h7 a8 h8 hc x0 x1 x2 x3
    = k0_pay2 (k0_pay9 x1 x0 x3) (k0_pay10 x1 x0 x3) (half0 x2) := by
  unfold out0_A_4
  rw [View.read_writes_junk_eq_canon]
  refine (View.canon_unit_zero (S := S512x1024) hz inb_S512x1024_S512x1024_0_0 _).trans ?_
  simp only [kernelRun0_A.sl.r, kernelRun0_A.sl.r_1, View.readAt_eq_ld, Memref.IsWhole.read_unread, ld_tile, ld_row]
  exact congrArg (k0_pay2 _ _) (View.ld_unit _ _ _ _)

theorem outA5 (hc) : out0_A_5 c i a1 h1 a2 h2 a3 h3 a4 h4 a5 h5 a6 h6 a7 h7 a8 h8 hc x0 x1 x2 x3
    = k0_pay3 (k0_pay9 x1 x0 x3) (k0_pay10 x1 x0 x3) (half1 x2) := by
  unfold out0_A_5
  rw [View.read_writes_junk_eq_canon]
  refine (View.canon_unit_zero (S := S512x1024) hz inb_S512x1024_S512x1024_0_0 _).trans ?_
  simp only [kernelRun0_A.sl.r, kernelRun0_A.sl.r_1, View.readAt_eq_ld, Memref.IsWhole.read_unread, ld_tile, ld_row]
  exact congrArg (k0_pay3 _ _) (View.ld_unit _ _ _ _)

theorem outA6 (hc) : out0_A_6 c i a1 h1 a2 h2 a3 h3 a4 h4 a5 h5 a6 h6 a7 h7 a8 h8 hc x0 x1 x2 x3
    = k0_pay1 (k0_pay9 x1 x0 x3) (k0_pay10 x1 x0 x3) := by
  unfold out0_A_6
  rw [View.read_writes_junk_eq_canon]
  refine (View.canon_unit_zero (S := S512x1024) hz inb_S512x1024_S512x1024_0_0 _).trans ?_
  simp only [kernelRun0_A.sl.r, kernelRun0_A.sl.r_1, View.readAt_eq_ld, Memref.IsWhole.read_unread, ld_tile, ld_row]

theorem outA7 (hc) : out0_A_7 c i a1 h1 a2 h2 a3 h3 a4 h4 a5 h5 a6 h6 a7 h7 a8 h8 hc x0 x1 x2 x3 = k0_pay7 x1 x0 k0_pay4 := by
  unfold out0_A_7
  rw [View.read_writes_junk_eq_canon]
  refine (View.canon_cons_unit_zero (S := S1x1024) hz inb_S1x1024_S1x1024_0_0 _ _).trans ?_
  simp only [View.readAt_eq_ld, Memref.IsWhole.read_unread, ld_tile]
  exact congrArg (k0_pay7 x1 x0) (View.readCov_unit_zero (S := S1x1024) _ hz inb_S1x1024_S1x1024_0_0 _)

theorem outB4 (hc) : out0_B_4 c i a1 h1 a2 h2 a3 h3 a4 h4 a5 h5 a6 h6 a7 h7 a8 h8 hc x0 x1 x2 x3 xo
    = k0_pay2 (k0_pay9 x1 x0 x3) (k0_pay10 x1 x0 x3) (half0 x2) := by
  unfold out0_B_4
  rw [View.read_writes_junk_eq_canon]
  refine (View.canon_unit_zero (S := S512x1024) hz inb_S512x1024_S512x1024_0_0 _).trans ?_
  simp only [kernelRun0_B.sl.r, kernelRun0_B.sl.r_1, View.readAt_eq_ld, Memref.IsWhole.read_unread, ld_tile, ld_row]
  exact congrArg (k0_pay2 _ _) (View.ld_unit _ _ _ _)

theorem outB5 (hc) : out0_B_5 c i a1 h1 a2 h2 a3 h3 a4 h4 a5 h5 a6 h6 a7 h7 a8 h8 hc x0 x1 x2 x3 xo
    = k0_pay3 (k0_pay9 x1 x0 x3) (k0_pay10 x1 x0 x3) (half1 x2) := by
  unfold out0_B_5
  rw [View.read_writes_junk_eq_canon]
  refine (View.canon_unit_zero (S := S512x1024) hz inb_S512x1024_S512x1024_0_0 _).trans ?_
  simp only [kernelRun0_B.sl.r, kernelRun0_B.sl.r_1, View.readAt_eq_ld, Memref.IsWhole.read_unread, ld_tile, ld_row]
  exact congrArg (k0_pay3 _ _) (View.ld_unit _ _ _ _)

theorem outB6 (hc) : out0_B_6 c i a1 h1 a2 h2 a3 h3 a4 h4 a5 h5 a6 h6 a7 h7 a8 h8 hc x0 x1 x2 x3 xo
    = k0_pay1 (k0_pay9 x1 x0 x3) (k0_pay10 x1 x0 x3) := by
  unfold out0_B_6
  rw [View.read_writes_junk_eq_canon]
  refine (View.canon_unit_zero (S := S512x1024) hz inb_S512x1024_S512x1024_0_0 _).trans ?_
  simp only [kernelRun0_B.sl.r, kernelRun0_B.sl.r_1, View.readAt_eq_ld, Memref.IsWhole.read_unread, ld_tile, ld_row]

theorem outB7 (hc) : out0_B_7 c i a1 h1 a2 h2 a3 h3 a4 h4 a5 h5 a6 h6 a7 h7 a8 h8 hc x0 x1 x2 x3 xo = k0_pay7 x1 x0 xo := by
  unfold out0_B_7
  rw [View.read_writes_junk_eq_canon]
  refine (View.canon_unit_zero (S := S1x1024) hz inb_S1x1024_S1x1024_0_0 _).trans ?_
  simp only [View.readAt_eq_ld, Memref.IsWhole.read_unread, ld_tile, ld_row]

variable (m : (ℓ : Loc nD τ sig) → Buf (Elt F) ℓ) (t : Fin cfg0.N)

/-- What the outputs hold after a point. -/
theorem out_dyl : (outsAt0 m c t.val t.isLt).1 = k0_pay2 (k0_pay9 (iblk m c 1 t) (iblk m c 0 t) (iblk m c 3 t))
    (k0_pay10 (iblk m c 1 t) (iblk m c 0 t) (iblk m c 3 t)) (half0 (iblk m c 2 t)) := by
  by_cases h0 : t.val % 16 = 0
  · simp only [outsAt0_A m c t h0, outA4]
  · simp only [outsAt0_B m c t h0, outB4]

theorem out_dys : (outsAt0 m c t.val t.isLt).2.1 = k0_pay3 (k0_pay9 (iblk m c 1 t) (iblk m c 0 t) (iblk m c 3 t))
    (k0_pay10 (iblk m c 1 t) (iblk m c 0 t) (iblk m c 3 t)) (half1 (iblk m c 2 t)) := by
  by_cases h0 : t.val % 16 = 0
  · simp only [outsAt0_A m c t h0, outA5]
  · simp only [outsAt0_B m c t h0, outB5]

theorem out_dmix : (outsAt0 m c t.val t.isLt).2.2.1 = k0_pay1 (k0_pay9 (iblk m c 1 t) (iblk m c 0 t) (iblk m c 3 t))
    (k0_pay10 (iblk m c 1 t) (iblk m c 0 t) (iblk m c 3 t)) := by
  by_cases h0 : t.val % 16 = 0
  · simp only [outsAt0_A m c t h0, outA6]
  · simp only [outsAt0_B m c t h0, outB6]

theorem out_dg_first (h0 : t.val % 16 = 0) :
    (outsAt0 m c t.val t.isLt).2.2.2 = k0_pay7 (iblk m c 1 t) (iblk m c 0 t) k0_pay4 := by
  simp only [outsAt0_A m c t h0, outA7]

theorem out_dg_next (h0 : ¬t.val % 16 = 0) : (outsAt0 m c t.val t.isLt).2.2.2
    = k0_pay7 (iblk m c 1 t) (iblk m c 0 t) (outsAt0 m c (t.val - 1) (Nat.lt_of_le_of_lt (Nat.sub_le _ _) t.isLt)).2.2.2 := by
  simp only [outsAt0_B m c t h0, outB7]

end Cert.Proof.Outproj

end
-- ==== Proof.Rows.lean ====
/- Products of arrays of rows with a weight, and the normalisation over rows of 1024 with its gradients as differentiating the
   plain lines leaves them, over the reals. -/
module

public import proofs.«01_k».proof.Proof.Rms

@[expose] public section

noncomputable section

namespace Cert.Proof.Rows

open Idealize.ShloMosaic Idealize.ShloMosaic.ValueIdx
open scoped BigOperators

variable {n m k : Nat}

/-- The product of an array's rows with a weight, and with a weight's transpose. -/
def mulW (X : (⟨2, ![n, k]⟩ : Shape).Idx → ℝ) (W : (⟨2, ![k, m]⟩ : Shape).Idx → ℝ) : (⟨2, ![n, m]⟩ : Shape).Idx → ℝ :=
  fun i => ∑ q : Fin k, X (ix2 (i 0) q) * W (ix2 q (i 1))
def mulWT (X : (⟨2, ![n, k]⟩ : Shape).Idx → ℝ) (W : (⟨2, ![m, k]⟩ : Shape).Idx → ℝ) : (⟨2, ![n, m]⟩ : Shape).Idx → ℝ :=
  fun i => ∑ q : Fin k, X (ix2 (i 0) q) * W (ix2 (i 1) q)

theorem dotR_W (d : DotDims ⟨2, ![n, k]⟩ ⟨2, ![k, m]⟩ ⟨2, ![n, m]⟩) (h1 : d.lhsContracting = [1]) (h2 : d.rhsContracting = [0])
    (h3 : d.lhsNonContracting = [0]) (h4 : d.rhsNonContracting = [1]) (h5 : d.lhsBatch = []) (h6 : d.rhsBatch = [])
    (X : (⟨2, ![n, k]⟩ : Shape).Idx → ℝ) (W : (⟨2, ![k, m]⟩ : Shape).Idx → ℝ) : dotR d X W = mulW X W := by
  obtain ⟨a1, a2, a3, a4, a5, a6, wf⟩ := d
  subst h1 h2 h3 h4 h5 h6
  funext j
  refine dotR_apply _ k rfl rfl X W j _ _ (fun q => ?_) (fun q => ?_)
  · funext a
    apply Fin.ext
    match a with
    | ⟨0, _⟩ =>
      show (DotDims.lhsIdx _ j _ 0).val = (j 0).val
      unfold DotDims.lhsIdx
      rw [dif_neg (by simp), dif_pos (by simp)]; rfl
    | ⟨1, _⟩ => exact (DotDims.lhsIdx_val_of_single _ rfl j _).trans (contrEquiv1_symm_val _ k rfl rfl q)
  · funext a
    apply Fin.ext
    match a with
    | ⟨0, _⟩ => exact (DotDims.rhsIdx_val_of_single _ rfl j _).trans (contrEquiv1_symm_val _ k rfl rfl q)
    | ⟨1, _⟩ =>
      show (DotDims.rhsIdx _ j _ 1).val = (j 1).val
      unfold DotDims.rhsIdx
      rw [dif_neg (by simp), dif_pos (by simp)]; rfl

theorem dotR_WT (d : DotDims ⟨2, ![n, k]⟩ ⟨2, ![m, k]⟩ ⟨2, ![n, m]⟩) (h1 : d.lhsContracting = [1]) (h2 : d.rhsContracting = [1])
    (h3 : d.lhsNonContracting = [0]) (h4 : d.rhsNonContracting = [0]) (h5 : d.lhsBatch = []) (h6 : d.rhsBatch = [])
    (X : (⟨2, ![n, k]⟩ : Shape).Idx → ℝ) (W : (⟨2, ![m, k]⟩ : Shape).Idx → ℝ) : dotR d X W = mulWT X W := by
  obtain ⟨a1, a2, a3, a4, a5, a6, wf⟩ := d
  subst h1 h2 h3 h4 h5 h6
  funext j
  refine dotR_apply _ k rfl rfl X W j _ _ (fun q => ?_) (fun q => ?_)
  · funext a
    apply Fin.ext
    match a with
    | ⟨0, _⟩ =>
      show (DotDims.lhsIdx _ j _ 0).val = (j 0).val
      unfold DotDims.lhsIdx
      rw [dif_neg (by simp), dif_pos (by simp)]; rfl
    | ⟨1, _⟩ => exact (DotDims.lhsIdx_val_of_single _ rfl j _).trans (contrEquiv1_symm_val _ k rfl rfl q)
  · funext a
    apply Fin.ext
    match a with
    | ⟨0, _⟩ =>
      show (DotDims.rhsIdx _ j _ 0).val = (j 1).val
      unfold DotDims.rhsIdx
      rw [dif_neg (by simp), dif_pos (by simp)]; rfl
    | ⟨1, _⟩ => exact (DotDims.rhsIdx_val_of_single _ rfl j _).trans (contrEquiv1_symm_val _ k rfl rfl q)

theorem const_zero_add (X : (⟨2, ![n, m]⟩ : Shape).Idx → ℝ) : ((fun _ => 0) + X : (⟨2, ![n, m]⟩ : Shape).Idx → ℝ) = X := zero_add X

/-! ## The normalisation and its gradients on the host -/

abbrev R : Shape := ⟨2, ![8192, 1024]⟩
abbrev C : Shape := ⟨2, ![8192, 1]⟩
abbrev V : Shape := ⟨1, ![8192]⟩
abbrev G : Shape := ⟨2, ![1, 1024]⟩
abbrev Z : Shape := ⟨0, ![]⟩

abbrev col (b : BitVec 32) : FVec Ideal C .f32 := broadcastInDim C ![] (by decide) (constant (F := Ideal) Z .f32 b)
abbrev sumRow (x : FVec Ideal R .f32) : FVec Ideal V .f32 :=
  Host.reduceAdd x (constant (F := Ideal) Z .f32 0x00000000#32) (by decide : R.ReducesTo [1] V) (by decide)
abbrev overRow (x : FVec Ideal C .f32) : FVec Ideal R .f32 := broadcastInDim R ![0, 1] (by decide) x

def hostSq (x : FVec Ideal R .f32) : FVec Ideal C .f32 :=
  addf (Host.divf (broadcastInDim C ![0] (by decide) (sumRow (mulf x x))) (col 0x44800000#32)) (col 0x358637BD#32)
def hostRn (x : FVec Ideal R .f32) : FVec Ideal C .f32 := Host.rsqrt (hostSq x)
/-- The normalised array, before the gain. -/
def hostN (x : FVec Ideal R .f32) : FVec Ideal R .f32 := mulf x (overRow (hostRn x))
/-- The gain's gradient. -/
def hostDg (x t : FVec Ideal R .f32) : FVec Ideal G .f32 :=
  shapeCast G (Host.reduceAdd (mulf (hostN x) t) (constant (F := Ideal) Z .f32 0x00000000#32) (by decide : R.ReducesTo [0] ⟨1, ![1024]⟩) (by decide)) (by decide)
/-- The gain spread over the rows. -/
def hostG (g : FVec Ideal G .f32) : FVec Ideal R .f32 := broadcastInDim R ![0, 1] (by decide) g
def hostQ (x t : FVec Ideal R .f32) : FVec Ideal R .f32 :=
  broadcastInDim R ![0] (by decide) (Host.reduceAdd (Host.divf (mulf (shapeCast C (sumRow (mulf x t)) (by decide))
    (mulf (col 0xBF000000#32) (Host.divf (hostRn x) (hostSq x)))) (col 0x44800000#32)) (constant (F := Ideal) Z .f32 0x00000000#32)
    (by decide : C.ReducesTo [1] V) (by decide))
/-- The gradient of the array that is normalised. -/
def hostDx (x t : FVec Ideal R .f32) : FVec Ideal R .f32 :=
  addf (addf (mulf t (overRow (hostRn x))) (mulf x (hostQ x t))) (mulf (hostQ x t) x)

variable (X T : R.Idx → ℝ) (g : G.Idx → ℝ)

theorem hostSq_lift : hostSq (lift X) = lift fun i => meanSq X (i 0) := by
  unfold hostSq
  rw [mulf_lift, sumRow, hostSum_lift (by decide), col, col, constant_lift ofBits_1024, constant_lift ofBits_eps]
  simp only [broadcastInDim_lift, bid_vec, sum_cols]
  rw [broadcastInDim_const, hostDivf_const _ (by norm_num : (1024 : ℝ) ≠ 0), addf_lift]
  rfl

theorem hostRn_lift : hostRn (lift X) = lift fun i => rn X (i 0) := by
  unfold hostRn
  rw [hostSq_lift]
  exact hostRsqrt_lift _ fun i => meanSq_pos X (i 0)

theorem hostN_lift : hostN (lift X) = lift (X * fun i => rn X (i 0)) := by
  unfold hostN
  rw [hostRn_lift, overRow, broadcastInDim_lift, bid_col, mulf_lift]

theorem hostG_lift : hostG (lift g) = lift (rowsOf g) := by
  unfold hostG
  rw [broadcastInDim_lift, bid_row]
  rfl

theorem hostDg_lift : hostDg (lift X) (lift T) = lift (dGain X T) := by
  unfold hostDg
  rw [hostN_lift, mulf_lift]
  refine (congrArg (fun x => shapeCast G x _) (hostSum_lift (s := R) (a := 0) (by decide) _ _ _)).trans ?_
  simp only [shapeCast_lift, cast_row, sum_rows]
  refine congrArg lift (funext fun i => Finset.sum_congr rfl fun r _ => ?_)
  show X (ix2 r (i 1)) * rn X r * T (ix2 r (i 1)) = T (ix2 r (i 1)) * X (ix2 r (i 1)) * rn X r
  ring

theorem hostQ_lift : hostQ (lift X) (lift T)
    = lift fun i => rowDot X T (i 0) * (-(1 / 2) * (rn X (i 0) / meanSq X (i 0))) / 1024 := by
  unfold hostQ
  rw [hostRn_lift, hostSq_lift, mulf_lift]
  rw [hostDivf_lift (s := C) (fun i => rn X (i 0)) (fun i => meanSq X (i 0)) fun i => (meanSq_pos X (i 0)).ne']
  simp only [sumRow, col, hostSum_lift (s := R) (t := V) (a := 1) (by decide), shapeCast_lift, cast_col, mulf_lift, constant_lift ofBits_1024,
    constant_lift ofBits_neg_half, broadcastInDim_lift, broadcastInDim_const, hostDivf_const _ (by norm_num : (1024 : ℝ) ≠ 0),
    hostSum_lift (s := C) (t := V) (a := 1) (by decide), bid_vec, sum_cols, Fin.sum_univ_one]
  rfl

theorem hostDx_lift : hostDx (lift X) (lift T) = lift (dRms X T) := by
  unfold hostDx
  rw [hostQ_lift, hostRn_lift, overRow, broadcastInDim_lift, bid_col]
  simp only [mulf_lift, addf_lift]
  refine congrArg lift (funext fun i => ?_)
  rw [eq_ix2 i]
  exact dRms_eq X T (i 0) (i 1) _ rfl

end Cert.Proof.Rows

end
-- ==== Proof.Tile.lean ====
/- Arrays of rows in blocks of rows: a grid point's block, what is read and written whole, and sums over all rows. -/
module

public import proofs.«01_k».proof.Proof.Rows
public import Idealize.ShloMosaic.Lib.Pipeline.Value
public import Idealize.ShloMosaic.Lib.Pipeline.FrameBody

@[expose] public section

noncomputable section

namespace Cert.Proof.Rows

open Idealize.ShloMosaic Idealize.ShloMosaic.ValueIdx
open scoped BigOperators

theorem hz : (![0, 0] : Fin 2 → Nat) = fun _ => 0 := funext fun a => by fin_cases a <;> rfl

/-- A load of the whole of a block reads the block. -/
theorem ld_all {F : FTy → Type} {e : EltTy} {n k : Nat} (X : (⟨2, ![n, k]⟩ : Shape).Idx → Elt F e) (inb) :
    View.ld X (Rect.unit (s := ⟨2, ![n, k]⟩) ![0, 0] ![n, k] inb) = X :=
  View.ld_unit_zero (S := ⟨2, ![n, k]⟩) hz inb X

/-- One write of the whole of a buffer leaves what was written. -/
theorem canon_whole {F : FTy → Type} [FloatOps F] {s : Shape} {e : EltTy} (X : s.Idx → Elt F e) :
    View.canon [(⟨Rect.whole s, X⟩ : View.Piece (Elt F) s e)] = X := by
  funext y
  refine (congrArg (View.canon _) (?_ : y = (Rect.whole s).emb y)).trans (View.canon_cons_emb (Rect.whole s) X [] y)
  exact (Rect.emb_whole_apply s y).symm

variable {N b M k m : Nat} (e : N * b = M)

theorem row_le (e : N * b = M) (t : Fin N) : t.val * b + b ≤ M := by
  rw [← e, ← Nat.succ_mul]; exact Nat.mul_le_mul_right b t.isLt

/-- The array row of row `r` of point `t`'s block. -/
def rowAt (t : Fin N) (r : Fin b) : Fin M := ⟨t.val * b + r.val, Nat.lt_of_lt_of_le (Nat.add_lt_add_left r.isLt _) (row_le e t)⟩

/-- Point `t`'s rows of an array. -/
def tile {α : Type} (t : Fin N) (X : (⟨2, ![M, k]⟩ : Shape).Idx → α) : (⟨2, ![b, k]⟩ : Shape).Idx → α :=
  fun j => X (ix2 (rowAt e t (j 0)) (j 1))

/-- Where an index of a row window's block lies in its array, and one of a window that holds its whole array. -/
theorem emb_rows (t : Fin N) {n0 n1 : Nat} (h : n0 = t.val ∧ n1 = 0) (j : (⟨2, ![b, k]⟩ : Shape).Idx) (x : (⟨2, ![M, k]⟩ : Shape).Idx)
    (e0 : (x 0).val = n0 * b + 1 * (j 0).val) (e1 : (x 1).val = n1 * k + 1 * (j 1).val) : x = ix2 (rowAt e t (j 0)) (j 1) := by
  obtain ⟨rfl, rfl⟩ := h
  funext a; apply Fin.ext
  match a with
  | ⟨0, _⟩ => show (x 0).val = t.val * b + (j 0).val; omega
  | ⟨1, _⟩ => show (x 1).val = (j 1).val; omega
theorem emb_all {n n0 n1 : Nat} (h : n0 = 0 ∧ n1 = 0) (j x : (⟨2, ![n, k]⟩ : Shape).Idx)
    (e0 : (x 0).val = n0 * n + 1 * (j 0).val) (e1 : (x 1).val = n1 * k + 1 * (j 1).val) : x = j := by
  obtain ⟨rfl, rfl⟩ := h
  funext a; apply Fin.ext
  match a with
  | ⟨0, _⟩ => show (x 0).val = (j 0).val; omega
  | ⟨1, _⟩ => show (x 1).val = (j 1).val; omega

/-- Every index of an array of rows is some point's. -/
theorem row_of (hb : 0 < b) (i : (⟨2, ![M, k]⟩ : Shape).Idx) : ∃ (t : Fin N) (j : (⟨2, ![b, k]⟩ : Shape).Idx), i = ix2 (rowAt e t (j 0)) (j 1) := by
  have ht : (i 0).val / b < N := Nat.div_lt_of_lt_mul (by rw [Nat.mul_comm, e]; exact idx2_lt0 i)
  refine ⟨⟨(i 0).val / b, ht⟩, ix2 ⟨(i 0).val % b, Nat.mod_lt _ hb⟩ (i 1), ?_⟩
  funext a; apply Fin.ext
  match a with
  | ⟨0, _⟩ => exact (Nat.div_add_mod' _ _).symm
  | ⟨1, _⟩ => rfl

/-- One term of the sum over the rows in the gradient of a gain. -/
def gainTerm (X T : (⟨2, ![M, 1024]⟩ : Shape).Idx → ℝ) (k : Fin 1024) (r : Fin M) : ℝ := T (ix2 r k) * X (ix2 r k) * rn X r

/-- The sum over the rows before point `n`. -/
def dGainTo (b : Nat) (X T : (⟨2, ![M, 1024]⟩ : Shape).Idx → ℝ) (n : Nat) : (⟨2, ![1, 1024]⟩ : Shape).Idx → ℝ :=
  fun i => psum (gainTerm X T (i 1)) (n * b)

theorem dGainTo_zero (X T : (⟨2, ![M, 1024]⟩ : Shape).Idx → ℝ) : dGainTo b X T 0 = fun _ => 0 := by
  funext i; unfold dGainTo; rw [Nat.zero_mul, psum_zero]
theorem dGainTo_succ (X T : (⟨2, ![M, 1024]⟩ : Shape).Idx → ℝ) (t : Fin N) :
    dGainTo b X T t.val + dGain (tile e t X) (tile e t T) = dGainTo b X T (t.val + 1) := by
  funext i
  show _ = psum _ _
  rw [Nat.succ_mul, psum_add _ (row_le e t)]
  rfl
theorem dGainTo_all (e : N * b = M) (X T : (⟨2, ![M, 1024]⟩ : Shape).Idx → ℝ) : dGainTo b X T N = dGain X T := by
  funext i; unfold dGainTo; rw [e]; exact psum_all _

end Cert.Proof.Rows

end
-- ==== Proof.OutprojKernel.lean ====
/- The results of the output projection's backward kernel on finite arguments: the projection's gradient rows by rows, its
   products with the weight's halves, and the sum over all rows for the norm's factor. -/
module

public import proofs.«01_k».proof.Proof.OutprojRun
public import proofs.«01_k».proof.Proof.Tile

@[expose] public section

noncomputable section

namespace Cert.Proof.Outproj

open Idealize.ShloMosaic Idealize.ShloMosaic.TcCoe Idealize.ShloMosaic.ValueIdx
open Cert.KernelIdeal Cert.KernelIdeal.Gen Cert.KernelIdeal.Value Cert.Proof.Rows
open scoped BigOperators

theorem pts : cfg0.N * 512 = 8192 := rfl

theorem emb0 (t : Fin cfg0.N) (j : S512x1024.Idx) : ((cfg0.win 0).blk t).view.emb j = ix2 (rowAt pts t (j 0)) (j 1) :=
  emb_rows pts t ((by decide +kernel : ∀ t : Fin grid0.N, win0_0.index t (0 : Fin 2) = t.val ∧ win0_0.index t (1 : Fin 2) = 0) t) j _ rfl rfl
theorem emb1 (t : Fin cfg0.N) (j : S512x1024.Idx) : ((cfg0.win 1).blk t).view.emb j = ix2 (rowAt pts t (j 0)) (j 1) :=
  emb_rows pts t ((by decide +kernel : ∀ t : Fin grid0.N, win0_1.index t (0 : Fin 2) = t.val ∧ win0_1.index t (1 : Fin 2) = 0) t) j _ rfl rfl
theorem emb4 (t : Fin cfg0.N) (j : S512x1024.Idx) : ((cfg0.win 4).blk t).view.emb j = ix2 (rowAt pts t (j 0)) (j 1) :=
  emb_rows pts t ((by decide +kernel : ∀ t : Fin grid0.N, win0_4.index t (0 : Fin 2) = t.val ∧ win0_4.index t (1 : Fin 2) = 0) t) j _ rfl rfl
theorem emb5 (t : Fin cfg0.N) (j : S512x1024.Idx) : ((cfg0.win 5).blk t).view.emb j = ix2 (rowAt pts t (j 0)) (j 1) :=
  emb_rows pts t ((by decide +kernel : ∀ t : Fin grid0.N, win0_5.index t (0 : Fin 2) = t.val ∧ win0_5.index t (1 : Fin 2) = 0) t) j _ rfl rfl
theorem emb6 (t : Fin cfg0.N) (j : S512x1024.Idx) : ((cfg0.win 6).blk t).view.emb j = ix2 (rowAt pts t (j 0)) (j 1) :=
  emb_rows pts t ((by decide +kernel : ∀ t : Fin grid0.N, win0_6.index t (0 : Fin 2) = t.val ∧ win0_6.index t (1 : Fin 2) = 0) t) j _ rfl rfl
theorem emb2 (t : Fin cfg0.N) (j : S2048x1024.Idx) : ((cfg0.win 2).blk t).view.emb j = j :=
  emb_all ((by decide +kernel : ∀ t : Fin grid0.N, win0_2.index t (0 : Fin 2) = 0 ∧ win0_2.index t (1 : Fin 2) = 0) t) j _ rfl rfl
theorem emb3 (t : Fin cfg0.N) (j : S1x1024.Idx) : ((cfg0.win 3).blk t).view.emb j = j :=
  emb_all ((by decide +kernel : ∀ t : Fin grid0.N, win0_3.index t (0 : Fin 2) = 0 ∧ win0_3.index t (1 : Fin 2) = 0) t) j _ rfl rfl
theorem emb7 (t : Fin cfg0.N) (j : S1x1024.Idx) : ((cfg0.win 7).blk t).view.emb j = j :=
  emb_all ((by decide +kernel : ∀ t : Fin grid0.N, win0_7.index t (0 : Fin 2) = 0 ∧ win0_7.index t (1 : Fin 2) = 0) t) j _ rfl rfl

section
variable (m : (ℓ : Loc nD τ sig) → Buf (Elt Ideal) ℓ) (c : Dev nD) (T M : S8192x1024.Idx → ℝ) (W : S2048x1024.Idx → ℝ) (g : S1x1024.Idx → ℝ)

/-- The region's arguments are these arrays of real numbers. -/
structure Args : Prop where
  ct : V m c main_arg4 = lift T
  mix : V m c main_v1 = lift M
  w : V m c main_v2 = lift W
  g : V m c main_arg3 = lift g

variable {m c T M W g} (h : Args m c T M W g)
include h

theorem blk0 (t : Fin cfg0.N) : iblk m c 0 t = lift (tile pts t T) := by
  funext j; show V m c main_arg4 (((cfg0.win 0).blk t).view.emb j) = _; rw [emb0, h.ct]; rfl
theorem blk1 (t : Fin cfg0.N) : iblk m c 1 t = lift (tile pts t M) := by
  funext j; show V m c main_v1 (((cfg0.win 1).blk t).view.emb j) = _; rw [emb1, h.mix]; rfl
theorem blk2 (t : Fin cfg0.N) : iblk m c 2 t = lift W := by
  funext j; show V m c main_v2 (((cfg0.win 2).blk t).view.emb j) = _; rw [emb2, h.w]
theorem blk3 (t : Fin cfg0.N) : iblk m c 3 t = lift g := by
  funext j; show V m c main_arg3 (((cfg0.win 3).blk t).view.emb j) = _; rw [emb3, h.g]

theorem final4 : (dats m 0 c).arrAt 4 cfg0.N = lift (mulT (dRms M (T * rowsOf g)) (half0 W)) :=
  (dats m 0 c).arrAt_eq_of_cover 4 (lift (mulT (dRms M (T * rowsOf g)) (half0 W)))
    (fun t _ => by
      rw [flushed4, out_dyl, blk0 h, blk1 h, blk2 h, blk3 h]
      refine (congrArg ((cfg0.win 4).cut (grid0.coords t)) (pay2_lift (tile pts t M) (tile pts t T) g (half0 W))).trans ?_
      funext j
      show lift _ j = lift _ (((cfg0.win 4).blk t).view.emb j)
      rw [emb4]; rfl)
    (fun i => by
      obtain ⟨t, j, rfl⟩ := row_of pts (by decide) i
      exact ⟨t, flush0_4 t, by rw [← emb4]; exact ((cfg0.win 4).blk t).view.emb_mem_set j⟩)

theorem final5 : (dats m 0 c).arrAt 5 cfg0.N = lift (mulT (dRms M (T * rowsOf g)) (half1 W)) :=
  (dats m 0 c).arrAt_eq_of_cover 5 (lift (mulT (dRms M (T * rowsOf g)) (half1 W)))
    (fun t _ => by
      rw [flushed5, out_dys, blk0 h, blk1 h, blk2 h, blk3 h]
      refine (congrArg ((cfg0.win 5).cut (grid0.coords t)) (pay3_lift (tile pts t M) (tile pts t T) g (half1 W))).trans ?_
      funext j
      show lift _ j = lift _ (((cfg0.win 5).blk t).view.emb j)
      rw [emb5]; rfl)
    (fun i => by
      obtain ⟨t, j, rfl⟩ := row_of pts (by decide) i
      exact ⟨t, flush0_5 t, by rw [← emb5]; exact ((cfg0.win 5).blk t).view.emb_mem_set j⟩)

theorem final6 : (dats m 0 c).arrAt 6 cfg0.N = lift (dRms M (T * rowsOf g)) :=
  (dats m 0 c).arrAt_eq_of_cover 6 (lift (dRms M (T * rowsOf g)))
    (fun t _ => by
      rw [flushed6, out_dmix, blk0 h, blk1 h, blk3 h]
      refine (congrArg ((cfg0.win 6).cut (grid0.coords t)) (pay1_lift (tile pts t M) (tile pts t T) g)).trans ?_
      funext j
      show lift _ j = lift _ (((cfg0.win 6).blk t).view.emb j)
      rw [emb6]; rfl)
    (fun i => by
      obtain ⟨t, j, rfl⟩ := row_of pts (by decide) i
      exact ⟨t, flush0_6 t, by rw [← emb6]; exact ((cfg0.win 6).blk t).view.emb_mem_set j⟩)

theorem acc_eq (n : Nat) (hn : n < cfg0.N) :
    (outsAt0 m c n hn).2.2.2 = lift (dGainTo 512 M T (n + 1)) := by
  induction n with
  | zero =>
    rw [out_dg_first c m ⟨0, hn⟩ rfl, blk0 h, blk1 h]
    have e : (k0_pay4 : FVec Ideal S1x1024 .f32) = lift fun _ => 0 := broadcast_lift ofBits_0
    rw [e, pay7_lift, ← dGainTo_zero (b := 512) M T]
    exact congrArg lift (dGainTo_succ pts M T ⟨0, hn⟩)
  | succ n ih =>
    have hB : ¬(⟨n + 1, hn⟩ : Fin cfg0.N).val % 16 = 0 := by
      have : n + 1 < 16 := hn
      show ¬(n + 1) % 16 = 0; omega
    refine (out_dg_next c m ⟨n + 1, hn⟩ hB).trans ?_
    rw [blk0 h, blk1 h]
    show k0_pay7 _ _ (outsAt0 m c n _).2.2.2 = _
    rw [ih (by omega), pay7_lift]
    exact congrArg lift (dGainTo_succ pts M T ⟨n + 1, hn⟩)

theorem final7 : (dats m 0 c).arrAt 7 cfg0.N = lift (dGain M T) :=
  (dats m 0 c).arrAt_eq_of_cover 7 (lift (dGain M T))
    (fun t hf => by
      have ht : t.val = 15 := by have := (flush0_7 t).mp hf; have : t.val < 16 := t.isLt; omega
      rw [flushed7, acc_eq h]
      funext j
      show lift _ j = lift _ (((cfg0.win 7).blk t).view.emb j)
      rw [emb7, ht]
      exact congrFun (congrArg lift (dGainTo_all pts M T)) j)
    (fun i => ⟨⟨15, by decide⟩, (flush0_7 _).mpr rfl, by
      have := ((cfg0.win 7).blk (⟨15, by decide⟩ : Fin cfg0.N)).view.emb_mem_set i; rwa [emb7] at this⟩)

end

end Cert.Proof.Outproj

end
-- ==== Proof.OutprojReference.lean ====
/- The reference of the output projection's gradients on finite arguments, over the reals. -/
module

public import proofs.«01_k».proof.Proof.OutprojRun
public import proofs.«01_k».proof.Proof.Gen.ReferenceIdeal.Read

@[expose] public section

noncomputable section

namespace Cert.Proof.Outproj

open Idealize.ShloMosaic Idealize.ShloMosaic.ValueIdx Cert.ReferenceIdeal Cert.ReferenceIdeal.Gen Cert.ReferenceIdeal.Read
open scoped BigOperators

/-- The saved array of finite arguments is finite. -/
theorem mix_real (A B : S8192x1024.Idx → ℝ) (W : S2048x1024.Idx → ℝ) :
    ∃ M : S8192x1024.Idx → ℝ, val_main_v1 (F := Ideal) (lift A) (lift B) (lift W) = lift M := by
  have h0 : IsReal (φ := .f32) (val_main_v0 (F := Ideal) (lift A) (lift B)) := by
    refine isReal_of_forall _ fun i => ?_
    have h1 := idx2_lt1 i
    by_cases h : (i 1).val < 1024
    · exact ⟨A (ix2 (i 0) ⟨(i 1).val, h⟩), concatenate_pair_apply_left 1 (lift A) (lift B) _ i rfl
        (ix2 (i 0) ⟨(i 1).val, h⟩) (fun b => match b with
          | ⟨0, _⟩ => rfl
          | ⟨1, _⟩ => rfl)⟩
    · exact ⟨B (ix2 (i 0) ⟨(i 1).val - 1024, by omega⟩), concatenate_pair_apply_right 1 (lift A) (lift B) _ i rfl rfl
        (ix2 (i 0) ⟨(i 1).val - 1024, by omega⟩) (fun b hb => match b with
          | ⟨0, _⟩ => rfl
          | ⟨1, _⟩ => absurd rfl hb) (by show (i 1).val - 1024 + 1024 = (i 1).val; omega)⟩
  obtain ⟨C, hC⟩ := h0
  unfold val_main_v1
  rw [hC]
  exact ⟨_, dotGeneral_lift _ _ _ _⟩

variable {x0 x1 : (⟨S8192x1024, .f32⟩ : BufTy).Contents (Elt Ideal)} {x2 : (⟨S2048x1024, .f32⟩ : BufTy).Contents (Elt Ideal)}
  {M : S8192x1024.Idx → ℝ} (hM : val_main_v1 (F := Ideal) x0 x1 x2 = lift M)
include hM

theorem ref_v8 : val_main_v8 (F := Ideal) x0 x1 x2 = lift fun i => meanSq M (i 0) := by
  unfold val_main_v8 val_main_v7 val_main_v6 val_main_v5 val_main_v4 val_main_v3 val_main_v2 val_main_cst val_main_cst_0 val_main_cst_1
  rw [hM, mulf_lift, hostSum_lift (by decide), constant_lift ofBits_1024, constant_lift ofBits_eps]
  simp only [broadcastInDim_lift, bid_vec, sum_cols]
  rw [broadcastInDim_const, hostDivf_const _ (by norm_num : (1024 : ℝ) ≠ 0), addf_lift]
  rfl

theorem ref_v9 : val_main_v9 (F := Ideal) x0 x1 x2 = lift fun i => rn M (i 0) := by
  unfold val_main_v9
  rw [ref_v8 hM]
  exact hostRsqrt_lift _ fun i => meanSq_pos M (i 0)

theorem ref_v12 : val_main_v12 (F := Ideal) x0 x1 x2 = lift fun i => -(1 / 2) * (rn M (i 0) / meanSq M (i 0)) := by
  unfold val_main_v12 val_main_v11 val_main_v10 val_main_cst_2
  rw [ref_v9 hM, ref_v8 hM, constant_lift ofBits_neg_half, broadcastInDim_lift, broadcastInDim_const]
  refine (congrArg (mulf (lift fun _ => -(1 / 2))) (hostDivf_lift (s := S8192x1) (fun i => rn M (i 0)) (fun i => meanSq M (i 0)) fun i => (meanSq_pos M (i 0)).ne')).trans ?_
  rw [mulf_lift]
  rfl

variable {T : S8192x1024.Idx → ℝ} {g : S1x1024.Idx → ℝ}

theorem ref_v19 : val_main_v19 (F := Ideal) x0 x1 x2 (lift T) = lift (dGain M T) := by
  unfold val_main_v19 val_main_v18 val_main_v17 val_main_v14 val_main_v13 val_main_cst_3
  rw [ref_v9 hM, hM, broadcastInDim_lift, bid_col, mulf_lift, mulf_lift]
  refine (congrArg (fun x => shapeCast S1x1024 x shapeCasts_S1024_S1x1024) (hostSum_lift (by decide) _ _ _)).trans ?_
  simp only [shapeCast_lift, cast_row, sum_rows]
  refine congrArg lift (funext fun i => Finset.sum_congr rfl fun r _ => ?_)
  show M (ix2 r (i 1)) * rn M r * T (ix2 r (i 1)) = T (ix2 r (i 1)) * M (ix2 r (i 1)) * rn M r
  ring

/-- The factor both terms of the normalised array's gradient share. -/
theorem ref_v31 : val_main_v31 (F := Ideal) x0 x1 x2 (lift g) (lift T)
    = lift fun i => rowDot M (T * rowsOf g) (i 0) * (-(1 / 2) * (rn M (i 0) / meanSq M (i 0))) / 1024 := by
  unfold val_main_v31 val_main_v30 val_main_v29 val_main_v28 val_main_v27 val_main_v24 val_main_v23 val_main_v22 val_main_v21 val_main_v20
    val_main_cst_4 val_main_cst_5 val_main_cst_6
  rw [ref_v12 hM, hM, broadcastInDim_lift, bid_row, mulf_lift, mulf_lift]
  simp only [hostSum_lift (s := S8192x1024) (t := S8192) (a := 1) (by decide), shapeCast_lift, cast_col, mulf_lift, constant_lift ofBits_1024, broadcastInDim_lift,
    broadcastInDim_const, hostDivf_const _ (by norm_num : (1024 : ℝ) ≠ 0), hostSum_lift (s := S8192x1) (t := S8192) (a := 1) (by decide), bid_vec, sum_cols,
    Fin.sum_univ_one]
  rfl

theorem ref_v35 : val_main_v35 (F := Ideal) x0 x1 x2 (lift g) (lift T) = lift (dRms M (T * rowsOf g)) := by
  unfold val_main_v35 val_main_v34 val_main_v33 val_main_v32 val_main_v26 val_main_v25 val_main_v21 val_main_v20
  rw [ref_v31 hM, ref_v9 hM, hM, broadcastInDim_lift, broadcastInDim_lift, bid_row, bid_col]
  simp only [mulf_lift, addf_lift]
  refine congrArg lift (funext fun i => ?_)
  rw [eq_ix2 i]
  exact dRms_eq M (T * rowsOf g) (i 0) (i 1) _ rfl

theorem ref_v36 (W : S2048x1024.Idx → ℝ) (hW : x2 = lift W) :
    val_main_v36 (F := Ideal) x0 x1 x2 (lift g) (lift T) = lift (mulT (dRms M (T * rowsOf g)) W) := by
  funext i
  rw [val_main_v36_apply, ref_v35 hM, hW]
  refine Eq.trans (Finset.sum_congr rfl fun k _ => ?_) (coe_sum _ _)
  rw [eq_ix2 (lidx_main_v36 i k), eq_ix2 (ridx_main_v36 i k)]
  exact (EReal.coe_mul _ _).symm

omit hM in
theorem half0_apply (W : S2048x1024.Idx → ℝ) (p : Fin 1024) (k : Fin 1024) : half0 W (ix2 p k) = W (ix2 ⟨p.val, by omega⟩ k) :=
  extractStridedSlice_apply (t := ⟨2, ![1024, 1024]⟩) ![0, 0] W _ (ix2 p k) _ fun a => match a with
    | ⟨0, _⟩ => (Nat.zero_add _).symm
    | ⟨1, _⟩ => (Nat.zero_add _).symm

omit hM in
theorem half1_apply (W : S2048x1024.Idx → ℝ) (p : Fin 1024) (k : Fin 1024) : half1 W (ix2 p k) = W (ix2 ⟨1024 + p.val, by omega⟩ k) :=
  extractStridedSlice_apply (t := ⟨2, ![1024, 1024]⟩) ![1024, 0] W _ (ix2 p k) _ fun a => match a with
    | ⟨0, _⟩ => rfl
    | ⟨1, _⟩ => (Nat.zero_add _).symm

theorem ref_v37 (W : S2048x1024.Idx → ℝ) (hW : x2 = lift W) :
    val_main_v37 (F := Ideal) x0 x1 x2 (lift g) (lift T) = lift (mulT (dRms M (T * rowsOf g)) (half0 W)) := by
  funext i
  rw [val_main_v37_apply, ref_v36 hM W hW]
  exact congrArg Real.toEReal (Finset.sum_congr rfl fun k _ => congrArg (_ * ·) (half0_apply W (i 1) k).symm)

theorem ref_v38 (W : S2048x1024.Idx → ℝ) (hW : x2 = lift W) :
    val_main_v38 (F := Ideal) x0 x1 x2 (lift g) (lift T) = lift (mulT (dRms M (T * rowsOf g)) (half1 W)) := by
  funext i
  rw [val_main_v38_apply, ref_v36 hM W hW]
  exact congrArg Real.toEReal (Finset.sum_congr rfl fun k _ => congrArg (_ * ·) (half1_apply W (i 1) k).symm)

end Cert.Proof.Outproj

end
-- ==== Proof.OutprojClaim.lean ====
/- The output projection's backward kernel computes the gradients of the reference, on finite arguments. -/
module

public import proofs.«01_k».proof.Defs
public import proofs.«01_k».proof.Proof.OutprojKernel
public import proofs.«01_k».proof.Proof.OutprojReference
public import proofs.«01_k».proof.Proof.Gen.ReferenceIdeal.Run
public import proofs.«01_k».proof.Proof.Gen.Pre_finite

@[expose] public section

noncomputable section

namespace Cert.Proof.Outproj

open Idealize.ShloMosaic Idealize.ShloMosaic.TcCoe Idealize.SL.Sem

/-- The precondition makes the five arguments real. -/
theorem args_real (x0 x1 x4 : FVec Ideal Cert.Pre_finite.S8192x1024 .f32) (x2 : FVec Ideal Cert.Pre_finite.S2048x1024 .f32)
    (x3 : FVec Ideal Cert.Pre_finite.S1x1024 .f32) (j : Cert.Pre_finite.S_.Idx)
    (h : Cert.Pre_finite.fn (F := Ideal) x0 x1 x2 x3 x4 j = 1#1) : IsReal x0 ∧ IsReal x1 ∧ IsReal x2 ∧ IsReal x3 ∧ IsReal x4 := by
  unfold Cert.Pre_finite.fn Cert.Pre_finite.fn_part1 at h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨isReal_of_all _ _ _ _ _ _ h0, isReal_of_all _ _ _ _ _ _ h1, isReal_of_all _ _ _ _ _ _ h2, isReal_of_all _ _ _ _ _ _ h3,
    isReal_of_all _ _ _ _ _ _ h4⟩

open Cert.KernelIdeal Cert.KernelIdeal.Gen Cert.KernelIdeal.Value in
/-- The host computes the saved array as the reference does. -/
theorem saved (m : (ℓ : Loc nD τ sig) → Buf (Elt Ideal) ℓ) (c : Dev nD) :
    V m c main_v1 = Cert.ReferenceIdeal.Read.val_main_v1 (F := Ideal) (m ((c : Thread nD τ).loc main_arg0)) (m ((c : Thread nD τ).loc main_arg1))
      (m ((c : Thread nD τ).loc main_arg2)) := by
  show StableHlo.after hostOps0 (fun b => m (c, b)) main_v1 = _
  simp only [hostOps0]
  after_results_simp
  rfl

open Cert.KernelIdeal Cert.KernelIdeal.Gen Cert.KernelIdeal.Value in
theorem weights (m : (ℓ : Loc nD τ sig) → Buf (Elt Ideal) ℓ) (c : Dev nD) :
    V m c main_v2 = m ((c : Thread nD τ).loc main_arg2) := by
  show StableHlo.after hostOps0 (fun b => m (c, b)) main_v2 = _
  simp only [hostOps0]
  after_results_simp
  rfl

/-- On finite arguments the two programs leave the same four arrays. -/
theorem results_eq [Cert.Pre_finite.Facts] (m : (ℓ : Loc Cert.KernelIdeal.nD Cert.KernelIdeal.τ Cert.KernelIdeal.sig) → Buf (Elt Ideal) ℓ)
    (hp : Cert.Pre_KernelIdeal_finite m) (c : Dev Cert.KernelIdeal.nD)
    (x0 x1 x4 : FVec Ideal Cert.KernelIdeal.S8192x1024 .f32) (x2 : FVec Ideal Cert.KernelIdeal.S2048x1024 .f32) (x3 : FVec Ideal Cert.KernelIdeal.S1x1024 .f32)
    (e0 : x0 = m ((c : Thread Cert.KernelIdeal.nD Cert.KernelIdeal.τ).loc Cert.KernelIdeal.main_arg0))
    (e1 : x1 = m ((c : Thread Cert.KernelIdeal.nD Cert.KernelIdeal.τ).loc Cert.KernelIdeal.main_arg1))
    (e2 : x2 = m ((c : Thread Cert.KernelIdeal.nD Cert.KernelIdeal.τ).loc Cert.KernelIdeal.main_arg2))
    (e3 : x3 = m ((c : Thread Cert.KernelIdeal.nD Cert.KernelIdeal.τ).loc Cert.KernelIdeal.main_arg3))
    (e4 : x4 = m ((c : Thread Cert.KernelIdeal.nD Cert.KernelIdeal.τ).loc Cert.KernelIdeal.main_arg4)) :
    Cert.ReferenceIdeal.Read.val_main_v37 (F := Ideal) x0 x1 x2 x3 x4 = (Cert.KernelIdeal.Gen.dats m 0 c).arrAt 4 Cert.KernelIdeal.cfg0.N
    ∧ Cert.ReferenceIdeal.Read.val_main_v38 (F := Ideal) x0 x1 x2 x3 x4 = (Cert.KernelIdeal.Gen.dats m 0 c).arrAt 5 Cert.KernelIdeal.cfg0.N
    ∧ Cert.ReferenceIdeal.Read.val_main_v39 (F := Ideal) x0 x1 x2 x3 x4 = (Cert.KernelIdeal.Gen.dats m 0 c).arrAt 6 Cert.KernelIdeal.cfg0.N
    ∧ Cert.ReferenceIdeal.Read.val_main_v19 (F := Ideal) x0 x1 x2 x4 = (Cert.KernelIdeal.Gen.dats m 0 c).arrAt 7 Cert.KernelIdeal.cfg0.N := by
  obtain ⟨⟨A, hA⟩, ⟨B, hB⟩, ⟨W, hW⟩, ⟨g, hg⟩, ⟨T, hT⟩⟩ := args_real x0 x1 x4 x2 x3 (Shape.Idx.first (by decide)) (by
    rw [e0, e1, e2, e3, e4]; exact congrFun (hp c) _)
  obtain ⟨M, hM⟩ := mix_real A B W
  have h : Args m c T M W g := ⟨(Cert.KernelIdeal.Gen.V_main_arg4 m c).trans (e4.symm.trans hT), (saved m c).trans (by rw [← e0, ← e1, ← e2, hA, hB, hW, hM]),
    (weights m c).trans (e2.symm.trans hW), (Cert.KernelIdeal.Gen.V_main_arg3 m c).trans (e3.symm.trans hg)⟩
  rw [final4 h, final5 h, final6 h, final7 h, hA, hB, hg, hT, hW]
  exact ⟨ref_v37 hM W rfl, ref_v38 hM W rfl, ref_v35 hM, ref_v19 hM⟩

theorem algebraic : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  intro m g m' g' hp ha
  refine ⟨_, _, _, _, Cert.KernelIdeal.Value.run_blocks m g, (θ_run Cert.ReferenceIdeal.defs _ _).mono (fun r h c => ?_) (Cert.ReferenceIdeal.Value.run m' g')⟩
  obtain ⟨a0, a1, a2, a3, a4⟩ := ha c
  obtain ⟨r0, r1, r2, r3⟩ := results_eq m hp c _ _ _ _ _ a0 a1 a2 a3 a4
  obtain ⟨h0, h1, h2, h3, hk⟩ := h c
  exact ⟨h0.trans ((Cert.ReferenceIdeal.Read.val_main_v37_eq m' c).trans r0), h1.trans ((Cert.ReferenceIdeal.Read.val_main_v38_eq m' c).trans r1),
    h2.trans ((Cert.ReferenceIdeal.Read.val_main_v39_eq m' c).trans r2), h3.trans ((Cert.ReferenceIdeal.Read.val_main_v19_eq _ _ _ _).trans r3), hk⟩

theorem frame_ref : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run m ρ)

end Cert.Proof.Outproj

end
-- ==== Proof.SsdArr.lean ====
/- Matrices of real numbers read at natural-number coordinates, and what the kernel operations make of them. -/
module

public import proofs.«01_k».proof.Proof.Rms
public import Idealize.ShloMosaic.Lib.KernelVsHost
public import Mathlib.Tactic.Attr.Register

@[expose] public section

noncomputable section

namespace Cert.Proof.Ssd

open Idealize.ShloMosaic Idealize.ShloMosaic.ValueIdx
open scoped BigOperators

/-- The matrix with entries `f i j`. -/
def arr {n m : ℕ} (f : ℕ → ℕ → ℝ) : (⟨2, ![n, m]⟩ : Shape).Idx → EReal := fun i => ((f (i 0).val (i 1).val : ℝ) : EReal)
/-- The vector with entries `f i`. -/
def vec {n : ℕ} (f : ℕ → ℝ) : (⟨1, ![n]⟩ : Shape).Idx → EReal := fun i => ((f (i 0).val : ℝ) : EReal)
/-- The mask of the entries at which `p` holds. -/
def mask {n m : ℕ} (p : ℕ → ℕ → Prop) [∀ i j, Decidable (p i j)] : (⟨2, ![n, m]⟩ : Shape).Idx → BitVec 1 :=
  fun i => if p (i 0).val (i 1).val then 1#1 else 0#1

variable {n m k : ℕ} {φ ψ : FTy} {κ : Kind}

theorem arr_congr {f g : ℕ → ℕ → ℝ} (h : ∀ i < n, ∀ j < m, f i j = g i j) : (arr f : (⟨2, ![n, m]⟩ : Shape).Idx → EReal) = arr g :=
  funext fun i => congrArg _ (h _ (i 0).isLt _ (i 1).isLt)

@[rclike_simps] theorem mulf_arr (f g : ℕ → ℕ → ℝ) :
    mulf (F := Ideal) (φ := φ) (arr (n := n) (m := m) f) (arr g) = arr fun i j => f i j * g i j :=
  funext fun _ => (EReal.coe_mul _ _).symm
@[rclike_simps] theorem addf_arr (f g : ℕ → ℕ → ℝ) :
    addf (F := Ideal) (φ := φ) (arr (n := n) (m := m) f) (arr g) = arr fun i j => f i j + g i j :=
  funext fun _ => (EReal.coe_add _ _).symm
@[rclike_simps] theorem subf_arr (f g : ℕ → ℕ → ℝ) :
    subf (F := Ideal) (φ := φ) (arr (n := n) (m := m) f) (arr g) = arr fun i j => f i j - g i j :=
  funext fun _ => (EReal.coe_sub _ _).symm
@[rclike_simps] theorem truncf_arr (f : ℕ → ℕ → ℝ) (h : ψ.bits < φ.bits) :
    truncf (F := Ideal) (φ := φ) ψ (arr (n := n) (m := m) f) h = arr f := rfl
@[rclike_simps] theorem extf_arr (f : ℕ → ℕ → ℝ) (h : φ.bits < ψ.bits) :
    extf (F := Ideal) (φ := φ) ψ (arr (n := n) (m := m) f) h = arr f := rfl
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]
@[rclike_simps] theorem maximumf_arr (f g : ℕ → ℕ → ℝ) :
    maximumf (F := Ideal) (φ := φ) (arr (n := n) (m := m) f) (arr g) = arr fun i j => max (f i j) (g i j) :=
  funext fun _ => coe_max _ _
@[rclike_simps] theorem absf_arr (f : ℕ → ℕ → ℝ) :
    absf (F := Ideal) (φ := φ) (arr (n := n) (m := m) f) = arr fun i j => |f i j| := by
  funext i
  show max (((f _ _ : ℝ)) : EReal) (-((f _ _ : ℝ) : EReal)) = _
  rw [← EReal.coe_neg, coe_max]; rfl
@[rclike_simps] theorem exp_arr (f : ℕ → ℕ → ℝ) :
    exp (F := Ideal) (φ := φ) (arr (n := n) (m := m) f) = arr fun i j => Real.exp (f i j) := rfl
@[rclike_simps] theorem tanh_arr (f : ℕ → ℕ → ℝ) :
    tanh (F := Ideal) (φ := φ) (arr (n := n) (m := m) f) = arr fun i j => Real.tanh (f i j) := rfl
theorem log_arr (f : ℕ → ℕ → ℝ) (h : ∀ i j, 0 < f i j) :
    log (F := Ideal) (φ := φ) (arr (n := n) (m := m) f) = arr fun i j => Real.log (f i j) := by
  funext i
  exact (Ideal.log_coe (f (i 0).val (i 1).val)).trans (if_neg (not_le.mpr (h _ _)))
theorem rsqrt_arr (f : ℕ → ℕ → ℝ) (h : ∀ i j, 0 < f i j) :
    rsqrt (F := Ideal) (φ := φ) (arr (n := n) (m := m) f) = arr fun i j => (Real.sqrt (f i j))⁻¹ :=
  funext fun _ => rsqrt_coe_pos (h _ _)
theorem divf_arr (f g : ℕ → ℕ → ℝ) (h : ∀ i j, g i j ≠ 0) :
    divf (F := Ideal) (φ := φ) (arr (n := n) (m := m) f) (arr g) = arr fun i j => f i j / g i j :=
  funext fun _ => div_coe_coe _ (h _ _)

theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

@[rclike_simps] theorem broadcast_0 :
    broadcast (⟨2, ![n, m]⟩ : Shape) (Scalar.ofBits (F := Ideal) .f32 0x00000000#32) = arr fun _ _ => 0 := funext fun _ => ofBits_0
@[rclike_simps] theorem broadcast_half :
    broadcast (⟨2, ![n, m]⟩ : Shape) (Scalar.ofBits (F := Ideal) .f32 0x3F000000#32) = arr fun _ _ => 1 / 2 := funext fun _ => ofBits_half
@[rclike_simps] theorem broadcast_1 :
    broadcast (⟨2, ![n, m]⟩ : Shape) (Scalar.ofBits (F := Ideal) .f32 0x3F800000#32) = arr fun _ _ => 1 := funext fun _ => ofBits_one
@[rclike_simps] theorem broadcast_1024 :
    broadcast (⟨2, ![n, m]⟩ : Shape) (Scalar.ofBits (F := Ideal) .f32 0x44800000#32) = arr fun _ _ => 1024 := funext fun _ => ofBits_1024
@[rclike_simps] theorem broadcast_eps :
    broadcast (⟨2, ![n, m]⟩ : Shape) (Scalar.ofBits (F := Ideal) .f32 0x358637BD#32) = arr fun _ _ => eps := funext fun _ => ofBits_eps
@[rclike_simps] theorem constant_0 :
    constant (F := Ideal) (⟨2, ![n, m]⟩ : Shape) .f32 0x00000000#32 = arr fun _ _ => 0 := funext fun _ => ofBits_0

/-! ## Layout -/

@[rclike_simps] theorem cast_self (f : ℕ → ℕ → ℝ) (h) : shapeCast (⟨2, ![n, m]⟩ : Shape) (arr (n := n) (m := m) f) h = arr f :=
  shapeCast_self _ h
@[rclike_simps] theorem cast_vec_row (f : ℕ → ℝ) (h) :
    shapeCast (⟨2, ![1, m]⟩ : Shape) (vec (n := m) f) h = arr fun _ j => f j := by
  funext j
  refine (shapeCast_apply _ h j (fun a => ⟨(j 1).val, by match a with | ⟨0, _⟩ => exact (j 1).isLt⟩) ?_).trans rfl
  rw [Shape.rowMajor_val_one, Shape.rowMajor_val_two]
  have : (j 0).val < 1 := (j 0).isLt
  have h0 : (j 0).val = 0 := by omega
  simp [h0]
@[rclike_simps] theorem cast_vec_col (f : ℕ → ℝ) (h) :
    shapeCast (⟨2, ![n, 1]⟩ : Shape) (vec (n := n) f) h = arr fun i _ => f i := by
  funext j
  refine (shapeCast_apply _ h j (fun a => ⟨(j 0).val, by match a with | ⟨0, _⟩ => exact (j 0).isLt⟩) ?_).trans rfl
  rw [Shape.rowMajor_val_one, Shape.rowMajor_val_two]
  have : (j 1).val < 1 := (j 1).isLt
  have h0 : (j 1).val = 0 := by omega
  simp [h0]
@[rclike_simps] theorem bcast_row (hm : m ≠ 1) (f : ℕ → ℕ → ℝ) (h) :
    broadcastTo (⟨2, ![n, m]⟩ : Shape) (arr (n := 1) (m := m) f) h = arr fun _ j => f 0 j := by
  funext j
  refine (broadcastTo_apply _ h j (ix2 ⟨0, by omega⟩ (j 1)) ?_).trans rfl
  intro a
  match a with
  | ⟨0, _⟩ => simp [ix2]
  | ⟨1, _⟩ => simp [ix2, hm]
@[rclike_simps] theorem bcast_col (hn : n ≠ 1) (f : ℕ → ℕ → ℝ) (h) :
    broadcastTo (⟨2, ![n, m]⟩ : Shape) (arr (n := n) (m := 1) f) h = arr fun i _ => f i 0 := by
  funext j
  refine (broadcastTo_apply _ h j (ix2 (j 0) ⟨0, by omega⟩) ?_).trans rfl
  intro a
  match a with
  | ⟨0, _⟩ => simp [ix2, hn]
  | ⟨1, _⟩ => simp [ix2]
@[rclike_simps] theorem slice_arr {n' m' : ℕ} (a b : ℕ) (f : ℕ → ℕ → ℝ) (h) :
    extractStridedSlice (⟨2, ![n', m']⟩ : Shape) ![a, b] (arr (n := n) (m := m) f) h = arr fun i j => f (a + i) (b + j) := rfl
@[rclike_simps] theorem transpose_arr (f : ℕ → ℕ → ℝ) (h) :
    transpose (⟨2, ![m, n]⟩ : Shape) ([1, 0] : List (Fin 2)) (arr (n := n) (m := m) f) h = arr fun i j => f j i := by
  funext j
  refine (transpose_apply _ _ h j (ix2 (j 1) (j 0)) ?_).trans rfl
  intro b
  match b with
  | ⟨0, _⟩ => rfl
  | ⟨1, _⟩ => rfl

@[rclike_simps] theorem sumRows_arr (f : ℕ → ℕ → ℝ) (h : (⟨2, ![n, m]⟩ : Shape).Reduces [0] ⟨1, ![m]⟩) (hφ : FTy.f32 = FTy.f32 ∨ FTy.f32 = FTy.bf16)
    (acc : BitVec FTy.f32.bits) (hacc : acc = 0x00000000#32) :
    multiReduction (F := Ideal) (φ := .f32) .add ([0] : List (Fin 2)) (⟨1, ![m]⟩ : Shape) (arr f) acc h hφ hacc
      = vec fun j => ∑ i ∈ Finset.range n, f i j := by
  subst hacc
  funext j
  refine (Ideal.multiReduction_add_single (arr f) _ h hφ rfl j).trans ((Finset.sum_congr rfl fun k _ => ?_).trans
    ((coe_sum Finset.univ fun k : Fin n => f k.val (j 0).val).trans (congrArg _ (Finset.sum_range fun i => f i (j 0).val).symm)))
  have e : h.lift j k = (ix2 (show Fin n from k) (j 0) : (⟨2, ![n, m]⟩ : Shape).Idx) := by
    funext a
    apply Fin.ext
    match a with
    | ⟨0, _⟩ => rfl
    | ⟨1, _⟩ => rfl
  rw [e]; rfl
@[rclike_simps] theorem sumCols_arr (f : ℕ → ℕ → ℝ) (h : (⟨2, ![n, m]⟩ : Shape).Reduces [1] ⟨1, ![n]⟩) (hφ : FTy.f32 = FTy.f32 ∨ FTy.f32 = FTy.bf16)
    (acc : BitVec FTy.f32.bits) (hacc : acc = 0x00000000#32) :
    multiReduction (F := Ideal) (φ := .f32) .add ([1] : List (Fin 2)) (⟨1, ![n]⟩ : Shape) (arr f) acc h hφ hacc
      = vec fun i => ∑ j ∈ Finset.range m, f i j := by
  subst hacc
  funext j
  refine (Ideal.multiReduction_add_single (arr f) _ h hφ rfl j).trans ((Finset.sum_congr rfl fun k _ => ?_).trans
    ((coe_sum Finset.univ fun k : Fin m => f (j 0).val k.val).trans (congrArg _ (Finset.sum_range fun i => f (j 0).val i).symm)))
  have e : h.lift j k = (ix2 (j 0) (show Fin m from k) : (⟨2, ![n, m]⟩ : Shape).Idx) := by
    funext a
    apply Fin.ext
    match a with
    | ⟨0, _⟩ => rfl
    | ⟨1, _⟩ => rfl
  rw [e]; rfl

/-! ## Masks -/

theorem slt_ofNat {a b : ℕ} (ha : a < 2147483648) (hb : b < 2147483648) : (BitVec.ofNat 32 a).slt (BitVec.ofNat 32 b) = decide (a < b) := by
  rw [BitVec.slt_eq_decide, BitVec.toInt_ofNat', BitVec.toInt_ofNat']
  have h1 : Int.bmod a (2 ^ 32) = a := by rw [Int.bmod_def]; omega
  have h2 : Int.bmod b (2 ^ 32) = b := by rw [Int.bmod_def]; omega
  rw [h1, h2]; simp
theorem sle_ofNat {a b : ℕ} (ha : a < 2147483648) (hb : b < 2147483648) : (BitVec.ofNat 32 a).sle (BitVec.ofNat 32 b) = decide (a ≤ b) := by
  rw [BitVec.sle_eq_decide, BitVec.toInt_ofNat', BitVec.toInt_ofNat']
  have h1 : Int.bmod a (2 ^ 32) = a := by rw [Int.bmod_def]; omega
  have h2 : Int.bmod b (2 ^ 32) = b := by rw [Int.bmod_def]; omega
  rw [h1, h2]; simp
theorem eq_ofNat {a b : ℕ} (ha : a < 2147483648) (hb : b < 2147483648) : (BitVec.ofNat 32 a == BitVec.ofNat 32 b) = decide (a = b) := by
  rw [Bool.eq_iff_iff]
  simp only [beq_iff_eq, decide_eq_true_eq]
  constructor
  · intro h
    have := congrArg BitVec.toNat h
    simp only [BitVec.toNat_ofNat] at this
    omega
  · rintro rfl; rfl
theorem ofBool_decide (p : Prop) [Decidable p] : BitVec.ofBool (decide p) = if p then 1#1 else 0#1 := by
  by_cases h : p <;> simp [h]

/-- The row's number and the column's, as words. -/
def rowI {n m : ℕ} : (⟨2, ![n, m]⟩ : Shape).Idx → BitVec 32 := fun i => BitVec.ofNat 32 (i 0).val
def colI {n m : ℕ} : (⟨2, ![n, m]⟩ : Shape).Idx → BitVec 32 := fun i => BitVec.ofNat 32 (i 1).val
@[rclike_simps] theorem iota_rows (h) : iota κ (⟨2, ![n, m]⟩ : Shape) 32 ([0] : List (Fin 2)) h = rowI := by
  funext i; show BitVec.ofNat 32 (0 * _ + (i 0).val) = _; rw [zero_mul, zero_add]; rfl
@[rclike_simps] theorem iota_cols (h) : iota κ (⟨2, ![n, m]⟩ : Shape) 32 ([1] : List (Fin 2)) h = colI := by
  funext i; show BitVec.ofNat 32 (0 * _ + (i 1).val) = _; rw [zero_mul, zero_add]; rfl

@[rclike_simps] theorem mask_row_eq (hn : n < 2147483648) {c : ℕ} (hc : c < 2147483648) :
    cmpi .eq (rowI : (⟨2, ![n, m]⟩ : Shape).Idx → BitVec 32) (broadcast (⟨2, ![n, m]⟩ : Shape) (BitVec.ofNat 32 c)) = mask fun i _ => i = c :=
  funext fun i => (congrArg BitVec.ofBool (eq_ofNat ((i 0).isLt.trans hn) hc)).trans (ofBool_decide _)
@[rclike_simps] theorem mask_row_ge (hn : n < 2147483648) {c : ℕ} (hc : c < 2147483648) :
    cmpi .sge (rowI : (⟨2, ![n, m]⟩ : Shape).Idx → BitVec 32) (broadcast (⟨2, ![n, m]⟩ : Shape) (BitVec.ofNat 32 c)) = mask fun i _ => c ≤ i :=
  funext fun i => (congrArg BitVec.ofBool (sle_ofNat hc ((i 0).isLt.trans hn))).trans (ofBool_decide _)
@[rclike_simps] theorem mask_col_eq (hm : m < 2147483648) {c : ℕ} (hc : c < 2147483648) :
    cmpi .eq (colI : (⟨2, ![n, m]⟩ : Shape).Idx → BitVec 32) (broadcast (⟨2, ![n, m]⟩ : Shape) (BitVec.ofNat 32 c)) = mask fun _ j => j = c :=
  funext fun i => (congrArg BitVec.ofBool (eq_ofNat ((i 1).isLt.trans hm) hc)).trans (ofBool_decide _)
@[rclike_simps] theorem mask_col_ge (hm : m < 2147483648) {c : ℕ} (hc : c < 2147483648) :
    cmpi .sge (colI : (⟨2, ![n, m]⟩ : Shape).Idx → BitVec 32) (broadcast (⟨2, ![n, m]⟩ : Shape) (BitVec.ofNat 32 c)) = mask fun _ j => c ≤ j :=
  funext fun i => (congrArg BitVec.ofBool (sle_ofNat hc ((i 1).isLt.trans hm))).trans (ofBool_decide _)
@[rclike_simps] theorem mask_col_lt (hm : m < 2147483648) {c : ℕ} (hc : c < 2147483648) :
    cmpi .slt (colI : (⟨2, ![n, m]⟩ : Shape).Idx → BitVec 32) (broadcast (⟨2, ![n, m]⟩ : Shape) (BitVec.ofNat 32 c)) = mask fun _ j => j < c :=
  funext fun i => (congrArg BitVec.ofBool (slt_ofNat ((i 1).isLt.trans hm) hc)).trans (ofBool_decide _)
@[rclike_simps] theorem mask_lower (hn : n < 2147483648) (hm : m < 2147483648) :
    cmpi .sge (rowI : (⟨2, ![n, m]⟩ : Shape).Idx → BitVec 32) colI = mask fun i j => j ≤ i :=
  funext fun i => (congrArg BitVec.ofBool (sle_ofNat ((i 1).isLt.trans hm) ((i 0).isLt.trans hn))).trans (ofBool_decide _)
@[rclike_simps] theorem mask_upper (hn : n < 2147483648) (hm : m < 2147483648) :
    cmpi .sge (colI : (⟨2, ![n, m]⟩ : Shape).Idx → BitVec 32) rowI = mask fun i j => i ≤ j :=
  funext fun i => (congrArg BitVec.ofBool (sle_ofNat ((i 0).isLt.trans hn) ((i 1).isLt.trans hm))).trans (ofBool_decide _)

@[rclike_simps] theorem select_mask (p : ℕ → ℕ → Prop) [∀ i j, Decidable (p i j)] (f g : ℕ → ℕ → ℝ) :
    select (mask (n := n) (m := m) p) (arr f) (arr g) = arr fun i j => if p i j then f i j else g i j := by
  funext i
  show Scalar.select (if p (i 0).val (i 1).val then 1#1 else 0#1) _ _ = _
  unfold arr Scalar.select
  by_cases h : p (i 0).val (i 1).val <;> simp [h]
@[rclike_simps] theorem float_mask (p : ℕ → ℕ → Prop) [∀ i j, Decidable (p i j)] (h) :
    sitofp (F := Ideal) .f32 (extui 32 (mask (n := n) (m := m) p) h) = arr fun i j => if p i j then 1 else 0 := by
  funext i
  show ((((if p (i 0).val (i 1).val then 1#1 else 0#1 : BitVec 1).setWidth 32).toInt : ℝ) : EReal) = _
  unfold arr
  by_cases hp : p (i 0).val (i 1).val <;> simp [hp]
/-- An exponential masked by minus infinity. -/
theorem exp_select_bot (p : ℕ → ℕ → Prop) [∀ i j, Decidable (p i j)] (f : ℕ → ℕ → ℝ) (κs : String → Option EReal)
    (w : BitVec 32) (hκ : κs "mask" = some ⊥) :
    exp (F := Ideal) (φ := .f32) (select (mask (n := n) (m := m) p) (arr f)
      (broadcast _ (Named.named (F := Ideal) κs "mask" (φ := .f32) w))) = arr fun i j => if p i j then Real.exp (f i j) else 0 := by
  funext i
  show Ideal.exp (Scalar.select (if p (i 0).val (i 1).val then 1#1 else 0#1) _ ((κs "mask").getD _)) = _
  rw [hκ]
  unfold arr Scalar.select
  by_cases h : p (i 0).val (i 1).val
  · simp [h]
  · simp [h]

/-! ## Contractions -/

theorem matmul_plain (hk : 0 < k) (f g : ℕ → ℕ → ℝ) {φ₁ φ₂ : FTy} (prec) :
    matmul (F := Ideal) (φ₁ := φ₁) (φ₂ := φ₂) (DotDims.plain n k m) prec (arr f) (arr g) (arr fun _ _ => 0)
      = arr fun i j => ∑ q ∈ Finset.range k, f i q * g q j := by
  refine (matmul_lift (DotDims.plain n k m) prec (fun i => f (i 0).val (i 1).val) (fun i => g (i 0).val (i 1).val) (fun _ => 0)).trans ?_
  funext j
  refine congrArg (fun r : ℝ => (r : EReal)) ((zero_add _).trans ((dotR_apply _ k rfl rfl _ _ j
    (fun q => ix2 (j 0) q) (fun q => ix2 q (j 1)) (fun q => ?_) (fun q => ?_)).trans ?_))
  · funext a
    apply Fin.ext
    match a with
    | ⟨0, _⟩ =>
      show (DotDims.lhsIdx (DotDims.plain n k m) j _ 0).val = (j 0).val
      unfold DotDims.lhsIdx
      rw [dif_neg (by simp [DotDims.plain]), dif_pos (by simp [DotDims.plain])]; rfl
    | ⟨1, _⟩ => exact ((DotDims.plain n k m).lhsIdx_val_of_single rfl j _).trans (contrEquiv1_symm_val _ k rfl rfl q)
  · funext a
    apply Fin.ext
    match a with
    | ⟨0, _⟩ => exact ((DotDims.plain n k m).rhsIdx_val_of_single rfl j _).trans (contrEquiv1_symm_val _ k rfl rfl q)
    | ⟨1, _⟩ =>
      show (DotDims.rhsIdx (DotDims.plain n k m) j _ 1).val = (j 1).val
      unfold DotDims.rhsIdx
      rw [dif_neg (by simp [DotDims.plain]), dif_pos (by simp [DotDims.plain])]; rfl
  · exact (Finset.sum_range fun q => f (j 0).val q * g q (j 1).val).symm

theorem matmul_right (f g : ℕ → ℕ → ℝ) {φ₁ φ₂ : FTy} (prec) :
    matmul (F := Ideal) (φ₁ := φ₁) (φ₂ := φ₂) (DotDims.transposedRhs n k m) prec (arr f) (arr g) (arr fun _ _ => 0)
      = arr fun i j => ∑ q ∈ Finset.range k, f i q * g j q := by
  refine (matmul_lift (DotDims.transposedRhs n k m) prec (fun i => f (i 0).val (i 1).val) (fun i => g (i 0).val (i 1).val) (fun _ => 0)).trans ?_
  funext j
  refine congrArg (fun r : ℝ => (r : EReal)) ((zero_add _).trans ((dotR_apply _ k rfl rfl _ _ j
    (fun q => ix2 (j 0) q) (fun q => ix2 (j 1) q) (fun q => ?_) (fun q => ?_)).trans ?_))
  · funext a
    apply Fin.ext
    match a with
    | ⟨0, _⟩ =>
      show (DotDims.lhsIdx (DotDims.transposedRhs n k m) j _ 0).val = (j 0).val
      unfold DotDims.lhsIdx
      rw [dif_neg (by simp [DotDims.transposedRhs]), dif_pos (by simp [DotDims.transposedRhs])]; rfl
    | ⟨1, _⟩ => exact ((DotDims.transposedRhs n k m).lhsIdx_val_of_single rfl j _).trans (contrEquiv1_symm_val _ k rfl rfl q)
  · funext a
    apply Fin.ext
    match a with
    | ⟨0, _⟩ =>
      show (DotDims.rhsIdx (DotDims.transposedRhs n k m) j _ 0).val = (j 1).val
      unfold DotDims.rhsIdx
      rw [dif_neg (by simp [DotDims.transposedRhs]), dif_pos (by simp [DotDims.transposedRhs])]; rfl
    | ⟨1, _⟩ => exact ((DotDims.transposedRhs n k m).rhsIdx_val_of_single rfl j _).trans (contrEquiv1_symm_val _ k rfl rfl q)
  · exact (Finset.sum_range fun q => f (j 0).val q * g (j 1).val q).symm

/-- The product of a matrix's transpose with another. -/
theorem matmul_left (d : DotDims ⟨2, ![k, n]⟩ ⟨2, ![k, m]⟩ ⟨2, ![n, m]⟩) (h1 : d.lhsContracting = [0]) (h2 : d.rhsContracting = [0])
    (h3 : d.lhsNonContracting = [1]) (h4 : d.rhsNonContracting = [1]) (h5 : d.lhsBatch = []) (h6 : d.rhsBatch = [])
    (f g : ℕ → ℕ → ℝ) {φ₁ φ₂ : FTy} (prec) :
    matmul (F := Ideal) (φ₁ := φ₁) (φ₂ := φ₂) d prec (arr f) (arr g) (arr fun _ _ => 0)
      = arr fun i j => ∑ q ∈ Finset.range k, f q i * g q j := by
  obtain ⟨a1, a2, a3, a4, a5, a6, wf⟩ := d
  subst h1 h2 h3 h4 h5 h6
  refine (matmul_lift _ prec (fun i => f (i 0).val (i 1).val) (fun i => g (i 0).val (i 1).val) (fun _ => 0)).trans ?_
  funext j
  refine congrArg (fun r : ℝ => (r : EReal)) ((zero_add _).trans ((dotR_apply _ k rfl rfl _ _ j
    (fun q => ix2 q (j 0)) (fun q => ix2 q (j 1)) (fun q => ?_) (fun q => ?_)).trans ?_))
  · funext a
    apply Fin.ext
    match a with
    | ⟨1, _⟩ =>
      show (DotDims.lhsIdx _ j _ 1).val = (j 0).val
      unfold DotDims.lhsIdx
      rw [dif_neg (by simp), dif_pos (by simp)]; rfl
    | ⟨0, _⟩ => exact (DotDims.lhsIdx_val_of_single _ rfl j _).trans (contrEquiv1_symm_val _ k rfl rfl q)
  · funext a
    apply Fin.ext
    match a with
    | ⟨1, _⟩ =>
      show (DotDims.rhsIdx _ j _ 1).val = (j 1).val
      unfold DotDims.rhsIdx
      rw [dif_neg (by simp), dif_pos (by simp)]; rfl
    | ⟨0, _⟩ => exact (DotDims.rhsIdx_val_of_single _ rfl j _).trans (contrEquiv1_symm_val _ k rfl rfl q)
  · exact (Finset.sum_range fun q => f q (j 0).val * g q (j 1).val).symm

/-! ## Rows moved up, the next block's first rows after them -/

@[rclike_simps] theorem rotate_arr (sb : BitVec 32) (f : ℕ → ℕ → ℝ) (h) :
    dynamicRotate (0 : Fin 2) sb none (arr (n := n) (m := m) f) h = arr fun i j => f ((i + n - sb.toNat % n) % n) j := by
  funext j
  refine (dynamicRotate_apply 0 sb _ h j (ix2 ⟨((j 0).val + n - sb.toNat % n) % n, Nat.mod_lt _ (Fin.pos (j 0))⟩ (j 1)) ?_).trans rfl
  intro b
  match b with
  | ⟨0, _⟩ => rfl
  | ⟨1, _⟩ => rfl

@[rclike_simps] theorem concat_rows {n₁ n₂ : ℕ} (hn : n = n₁ + n₂) (f g : ℕ → ℕ → ℝ)
    (h : Shape.Concatenates [(⟨2, ![n₁, m]⟩ : Shape), ⟨2, ![n₂, m]⟩] ⟨2, ![n, m]⟩ 0) :
    concatenate (⟨2, ![n, m]⟩ : Shape) (0 : Fin 2) [⟨⟨2, ![n₁, m]⟩, arr (n := n₁) (m := m) f⟩, ⟨⟨2, ![n₂, m]⟩, arr (n := n₂) (m := m) g⟩] h
      = arr fun i j => if i < n₁ then f i j else g (i - n₁) j := by
  funext j
  have hj : (j 0).val < n := (j 0).isLt
  by_cases hi : (j 0).val < n₁
  · refine (concatenate_pair_apply_left (t := ⟨2, ![n, m]⟩) (s₁ := ⟨2, ![n₁, m]⟩) (s₂ := ⟨2, ![n₂, m]⟩) (0 : Fin 2) _ _ h j rfl (ix2 (⟨(j 0).val, hi⟩ : Fin n₁) (j 1)) ?_).trans ?_
    · intro b
      match b with
      | ⟨0, _⟩ => rfl
      | ⟨1, _⟩ => rfl
    · show _ = (((if (j 0).val < n₁ then _ else _ : ℝ)) : EReal)
      rw [if_pos hi]; rfl
  · refine (concatenate_pair_apply_right (t := ⟨2, ![n, m]⟩) (s₁ := ⟨2, ![n₁, m]⟩) (s₂ := ⟨2, ![n₂, m]⟩) (0 : Fin 2) _ _ h j rfl rfl (ix2 (⟨(j 0).val - n₁, by omega⟩ : Fin n₂) (j 1)) ?_ ?_).trans ?_
    · intro b hb
      match b with
      | ⟨0, _⟩ => exact absurd rfl hb
      | ⟨1, _⟩ => rfl
    · show (j 0).val - n₁ + n₁ = (j 0).val
      omega
    · show _ = (((if (j 0).val < n₁ then _ else _ : ℝ)) : EReal)
      rw [if_neg hi]; rfl

end Cert.Proof.Ssd

end
-- ==== Proof.SsdSpec.lean ====
/- The gradients of the state-space scan of one block, written out chunk by chunk over the real numbers: token `128 * c + i` is
   row `i` of chunk `c`, channel `64 * h + q` is component `q` of head `h`, group `ch / 512` is the group of channel `ch`. -/
module

public import proofs.«01_k».proof.Proof.SsdArr

@[expose] public section

noncomputable section

namespace Cert.Proof.Ssd

open scoped BigOperators

/-- The logistic function, the derivative of `x * sg x`, and the softplus. -/
def sg (x : ℝ) : ℝ := 1 / (1 + Real.exp (-x))
def dsilu (x : ℝ) : ℝ := sg x * (1 + x * (1 - sg x))
def sp (x : ℝ) : ℝ := max x 0 + Real.log (1 + Real.exp (-|x|))

/-- The sum over the 64 components of head `h`. -/
def hs (f : ℕ → ℝ) (h : ℕ) : ℝ := ∑ q ∈ Finset.range 64, f (64 * h + q)

/-- The arguments, the cotangent, and what the forward pass saved: the convolution's output `XC`, the scan's output `Y` and the
    state `S c` before chunk `c`. -/
structure In where
  (P Dt Wc Bc Bias Al D G Ct XC Y : ℕ → ℕ → ℝ)
  S : ℕ → ℕ → ℕ → ℝ

namespace In

variable (p : In)

def z (t ch : ℕ) : ℝ := p.P t ch
def xp (t ch : ℕ) : ℝ := p.P t (1024 + ch)
def u (t ch : ℕ) : ℝ := p.XC t ch * sg (p.XC t ch)
def B (t n : ℕ) : ℝ := p.u t (1024 + n)
def C (t n : ℕ) : ℝ := p.u t (1280 + n)
def pre (t h : ℕ) : ℝ := p.Dt t h + p.Bias 0 h
def dt (t h : ℕ) : ℝ := sp (p.pre t h)
def A (h : ℕ) : ℝ := -Real.exp (p.Al 0 h)
def a (t h : ℕ) : ℝ := p.dt t h * p.A h
def X (t ch : ℕ) : ℝ := p.dt t (ch / 64) * p.u t ch

/-! ## The gate and the normalisation -/

def q (t ch : ℕ) : ℝ := p.Y t ch * (p.z t ch * sg (p.z t ch))
def ms (t : ℕ) : ℝ := (∑ ch ∈ Finset.range 1024, p.q t ch * p.q t ch) / 1024 + eps
def rn (t : ℕ) : ℝ := (Real.sqrt (p.ms t))⁻¹
def dq (t ch : ℕ) : ℝ := p.rn t * (p.Ct t ch * p.G 0 ch)
  - p.q t ch * (p.rn t * p.rn t * p.rn t) * ((∑ k ∈ Finset.range 1024, p.Ct t k * p.G 0 k * p.q t k) / 1024)
def dz (t ch : ℕ) : ℝ := p.dq t ch * p.Y t ch * dsilu (p.z t ch)
def dY (t ch : ℕ) : ℝ := p.dq t ch * (p.z t ch * sg (p.z t ch))

/-! ## Inside a chunk -/

variable (c : ℕ)

def cs (i h : ℕ) : ℝ := ∑ k ∈ Finset.range 128, (if k ≤ i then 1 else 0) * p.a (128 * c + k) h
def lam (h i j : ℕ) : ℝ := if j ≤ i then Real.exp (p.cs c i h - p.cs c j h) else 0
def sc (g i j : ℕ) : ℝ := ∑ n ∈ Finset.range 128, p.C (128 * c + i) (128 * g + n) * p.B (128 * c + j) (128 * g + n)
def dM (h i j : ℕ) : ℝ := ∑ q ∈ Finset.range 64, p.dY (128 * c + i) (64 * h + q) * p.X (128 * c + j) (64 * h + q)
def W (h i j : ℕ) : ℝ := p.dM c h i j * (p.sc c (h / 8) i j * p.lam c h i j)
def dG (g i j : ℕ) : ℝ := ∑ k ∈ Finset.range 8, p.dM c (8 * g + k) i j * p.lam c (8 * g + k) i j
def dXd (j ch : ℕ) : ℝ := ∑ i ∈ Finset.range 128, p.sc c (ch / 512) i j * p.lam c (ch / 64) i j * p.dY (128 * c + i) ch

/-! ## Between the chunks -/

def ecs (i h : ℕ) : ℝ := Real.exp (p.cs c i h)
def dec (i h : ℕ) : ℝ := Real.exp (p.cs c 127 h - p.cs c i h)
def dYe (i ch : ℕ) : ℝ := p.dY (128 * c + i) ch * p.ecs c i (ch / 64)
def Xd (i ch : ℕ) : ℝ := p.X (128 * c + i) ch * p.dec c i (ch / 64)
def CdY (n ch : ℕ) : ℝ := ∑ i ∈ Finset.range 128, p.C (128 * c + i) (128 * (ch / 512) + n) * p.dYe c i ch

/-- The gradient with respect to the state after the chunk that `t` chunks follow. -/
def dSt : ℕ → ℕ → ℕ → ℝ
  | 0, _, _ => 0
  | t + 1, n, ch => p.ecs (63 - t) 127 (ch / 64) * dSt t n ch + p.CdY (63 - t) n ch
def dS (n ch : ℕ) : ℝ := p.dSt (63 - c) n ch

def CS (i ch : ℕ) : ℝ := ∑ n ∈ Finset.range 128, p.C (128 * c + i) (128 * (ch / 512) + n) * p.S c n ch
def BS (i ch : ℕ) : ℝ := ∑ n ∈ Finset.range 128, p.B (128 * c + i) (128 * (ch / 512) + n) * p.dS c n ch
def dC (i n : ℕ) : ℝ := ∑ j ∈ Finset.range 128, p.dG c (n / 128) i j * p.B (128 * c + j) n
  + ∑ k ∈ Finset.range 512, p.dYe c i (512 * (n / 128) + k) * p.S c (n % 128) (512 * (n / 128) + k)
def dB (j n : ℕ) : ℝ := ∑ i ∈ Finset.range 128, p.dG c (n / 128) i j * p.C (128 * c + i) n
  + ∑ k ∈ Finset.range 512, p.Xd c j (512 * (n / 128) + k) * p.dS c (n % 128) (512 * (n / 128) + k)
def dX (i ch : ℕ) : ℝ := p.dXd c i ch + p.dec c i (ch / 64) * p.BS c i ch

/-- The gradient through the decay from a token to the chunk's end. -/
def td (i h : ℕ) : ℝ := hs (fun ch => p.X (128 * c + i) ch * p.BS c i ch) h * p.dec c i h
/-- The gradient through the decay of a whole chunk. -/
def te (h : ℕ) : ℝ := (∑ n ∈ Finset.range 128, hs (fun ch => p.S c n ch * p.dS c n ch) h) * p.ecs c 127 h
def dcs (i h : ℕ) : ℝ := if h < 16 then
    ∑ j ∈ Finset.range 128, p.W c h i j - ∑ j ∈ Finset.range 128, p.W c h j i + hs (fun ch => p.dYe c i ch * p.CS c i ch) h
      - p.td c i h + (if i = 127 then ∑ k ∈ Finset.range 128, p.td c k h + p.te c h else 0)
  else 0
def da (i h : ℕ) : ℝ := ∑ k ∈ Finset.range 128, (if i ≤ k then 1 else 0) * p.dcs c k h

/-! ## The results -/

/-- The gradient with respect to the step sizes, and to what the softplus takes. -/
def ddt (t h : ℕ) : ℝ := p.da (t / 128) (t % 128) h * p.A h
  + if h < 16 then hs (fun ch => p.dX (t / 128) (t % 128) ch * p.u t ch) h else 0
def ddtp (t h : ℕ) : ℝ := p.ddt t h * sg (p.pre t h)
def du (t ch : ℕ) : ℝ :=
  if ch < 1024 then p.dX (t / 128) (t % 128) ch * p.dt t (ch / 64) + p.D 0 (ch / 64) * p.dY t ch
  else if ch < 1280 then p.dB (t / 128) (t % 128) (ch - 1024) else p.dC (t / 128) (t % 128) (ch - 1280)
/-- The gradient with respect to the convolution's output: none after the last token. -/
def dxc (t ch : ℕ) : ℝ := if t < 8192 then p.du t ch * dsilu (p.XC t ch) else 0
def dxp (t ch : ℕ) : ℝ := p.Wc 3 ch * p.dxc t ch + p.Wc 2 ch * p.dxc (t + 1) ch + p.Wc 1 ch * p.dxc (t + 2) ch
  + p.Wc 0 ch * p.dxc (t + 3) ch

def rP (t ch : ℕ) : ℝ := if ch < 1024 then p.dz t ch else p.dxp t (ch - 1024)
def rW (r ch : ℕ) : ℝ := ∑ t ∈ Finset.range 8192, p.xp t ch * p.dxc (t + (3 - r)) ch
def rB (ch : ℕ) : ℝ := ∑ t ∈ Finset.range 8192, p.dxc t ch
def rBias (h : ℕ) : ℝ := ∑ t ∈ Finset.range 8192, p.ddtp t h
def rA (h : ℕ) : ℝ := ∑ t ∈ Finset.range 8192, p.da (t / 128) (t % 128) h * p.dt t h
def rD (ch : ℕ) : ℝ := ∑ t ∈ Finset.range 8192, p.dY t ch * p.u t ch
def rG (ch : ℕ) : ℝ := ∑ t ∈ Finset.range 8192, p.Ct t ch * p.q t ch * p.rn t

end In

end Cert.Proof.Ssd

end
-- ==== Proof.SsdNf.lean ====
/- Host operations on finite arrays whose entries are functions of their coordinates as natural numbers. -/
module

public import proofs.«01_k».proof.Proof.SsdSpec
public import Idealize.ShloMosaic.Lib.TwoAxisContraction

@[expose] public section

noncomputable section

namespace Cert.Proof.Ssd

open Idealize.ShloMosaic Idealize.ShloMosaic.ValueIdx
open scoped BigOperators

def t1 {a : ℕ} (f : ℕ → ℝ) : (⟨1, ![a]⟩ : Shape).Idx → EReal := fun i => ((f (i 0).val : ℝ) : EReal)
def t2 {a b : ℕ} (f : ℕ → ℕ → ℝ) : (⟨2, ![a, b]⟩ : Shape).Idx → EReal := fun i => ((f (i 0).val (i 1).val : ℝ) : EReal)
def t3 {a b c : ℕ} (f : ℕ → ℕ → ℕ → ℝ) : (⟨3, ![a, b, c]⟩ : Shape).Idx → EReal :=
  fun i => ((f (i 0).val (i 1).val (i 2).val : ℝ) : EReal)
def t4 {a b c d : ℕ} (f : ℕ → ℕ → ℕ → ℕ → ℝ) : (⟨4, ![a, b, c, d]⟩ : Shape).Idx → EReal :=
  fun i => ((f (i 0).val (i 1).val (i 2).val (i 3).val : ℝ) : EReal)
def t5 {a b c d e : ℕ} (f : ℕ → ℕ → ℕ → ℕ → ℕ → ℝ) : (⟨5, ![a, b, c, d, e]⟩ : Shape).Idx → EReal :=
  fun i => ((f (i 0).val (i 1).val (i 2).val (i 3).val (i 4).val : ℝ) : EReal)

section bounds
variable {a b c d e : ℕ}
theorem lt1 (i : (⟨1, ![a]⟩ : Shape).Idx) : (i 0).val < a := (i 0).isLt
theorem lt2 (i : (⟨2, ![a, b]⟩ : Shape).Idx) : (i 0).val < a ∧ (i 1).val < b := ⟨(i 0).isLt, (i 1).isLt⟩
theorem lt3 (i : (⟨3, ![a, b, c]⟩ : Shape).Idx) : (i 0).val < a ∧ (i 1).val < b ∧ (i 2).val < c :=
  ⟨(i 0).isLt, (i 1).isLt, (i 2).isLt⟩
theorem lt4 (i : (⟨4, ![a, b, c, d]⟩ : Shape).Idx) : (i 0).val < a ∧ (i 1).val < b ∧ (i 2).val < c ∧ (i 3).val < d :=
  ⟨(i 0).isLt, (i 1).isLt, (i 2).isLt, (i 3).isLt⟩
theorem lt5 (i : (⟨5, ![a, b, c, d, e]⟩ : Shape).Idx) :
    (i 0).val < a ∧ (i 1).val < b ∧ (i 2).val < c ∧ (i 3).val < d ∧ (i 4).val < e :=
  ⟨(i 0).isLt, (i 1).isLt, (i 2).isLt, (i 3).isLt, (i 4).isLt⟩
end bounds

section congr
variable {a b c d e : ℕ}
theorem t1_congr {f g : ℕ → ℝ} (h : ∀ i < a, f i = g i) : (t1 f : (⟨1, ![a]⟩ : Shape).Idx → EReal) = t1 g :=
  funext fun i => congrArg _ (h _ (i 0).isLt)
theorem t2_congr {f g : ℕ → ℕ → ℝ} (h : ∀ i < a, ∀ j < b, f i j = g i j) :
    (t2 f : (⟨2, ![a, b]⟩ : Shape).Idx → EReal) = t2 g :=
  funext fun i => congrArg _ (h _ (i 0).isLt _ (i 1).isLt)
theorem t3_congr {f g : ℕ → ℕ → ℕ → ℝ} (h : ∀ i < a, ∀ j < b, ∀ k < c, f i j k = g i j k) :
    (t3 f : (⟨3, ![a, b, c]⟩ : Shape).Idx → EReal) = t3 g :=
  funext fun i => congrArg _ (h _ (i 0).isLt _ (i 1).isLt _ (i 2).isLt)
theorem t4_congr {f g : ℕ → ℕ → ℕ → ℕ → ℝ} (h : ∀ i < a, ∀ j < b, ∀ k < c, ∀ l < d, f i j k l = g i j k l) :
    (t4 f : (⟨4, ![a, b, c, d]⟩ : Shape).Idx → EReal) = t4 g :=
  funext fun i => congrArg _ (h _ (i 0).isLt _ (i 1).isLt _ (i 2).isLt _ (i 3).isLt)
theorem t5_congr {f g : ℕ → ℕ → ℕ → ℕ → ℕ → ℝ}
    (h : ∀ i < a, ∀ j < b, ∀ k < c, ∀ l < d, ∀ m < e, f i j k l m = g i j k l m) :
    (t5 f : (⟨5, ![a, b, c, d, e]⟩ : Shape).Idx → EReal) = t5 g :=
  funext fun i => congrArg _ (h _ (i 0).isLt _ (i 1).isLt _ (i 2).isLt _ (i 3).isLt _ (i 4).isLt)
end congr

section layout
variable {S T : Shape} {v : T.Idx → EReal} {u : S.Idx → EReal} {e : T.Idx → S.Idx}
theorem read_nf {f : S.Idx → ℝ} (hv : ∀ i, v i = u (e i)) (hu : u = fun i => ((f i : ℝ) : EReal)) :
    v = fun i => ((f (e i) : ℝ) : EReal) := funext fun i => (hv i).trans (congrFun hu _)

variable {a b c d m : ℕ}
theorem read1 {u : (⟨1, ![a]⟩ : Shape).Idx → EReal} {e : T.Idx → (⟨1, ![a]⟩ : Shape).Idx} {f : ℕ → ℝ}
    {g0 : T.Idx → ℕ} (hv : ∀ i, v i = u (e i)) (hu : u = t1 f) (h0 : ∀ i, (e i 0).val = g0 i) :
    v = fun i => ((f (g0 i) : ℝ) : EReal) :=
  funext fun i => (hv i).trans ((congrFun hu _).trans (by unfold t1; rw [h0]))
theorem read2 {u : (⟨2, ![a, b]⟩ : Shape).Idx → EReal} {e : T.Idx → (⟨2, ![a, b]⟩ : Shape).Idx} {f : ℕ → ℕ → ℝ}
    {g0 g1 : T.Idx → ℕ} (hv : ∀ i, v i = u (e i)) (hu : u = t2 f) (h0 : ∀ i, (e i 0).val = g0 i)
    (h1 : ∀ i, (e i 1).val = g1 i) : v = fun i => ((f (g0 i) (g1 i) : ℝ) : EReal) :=
  funext fun i => (hv i).trans ((congrFun hu _).trans (by unfold t2; rw [h0, h1]))
theorem read3 {u : (⟨3, ![a, b, c]⟩ : Shape).Idx → EReal} {e : T.Idx → (⟨3, ![a, b, c]⟩ : Shape).Idx}
    {f : ℕ → ℕ → ℕ → ℝ} {g0 g1 g2 : T.Idx → ℕ} (hv : ∀ i, v i = u (e i)) (hu : u = t3 f)
    (h0 : ∀ i, (e i 0).val = g0 i) (h1 : ∀ i, (e i 1).val = g1 i) (h2 : ∀ i, (e i 2).val = g2 i) :
    v = fun i => ((f (g0 i) (g1 i) (g2 i) : ℝ) : EReal) :=
  funext fun i => (hv i).trans ((congrFun hu _).trans (by unfold t3; rw [h0, h1, h2]))
theorem read4 {u : (⟨4, ![a, b, c, d]⟩ : Shape).Idx → EReal} {e : T.Idx → (⟨4, ![a, b, c, d]⟩ : Shape).Idx}
    {f : ℕ → ℕ → ℕ → ℕ → ℝ} {g0 g1 g2 g3 : T.Idx → ℕ} (hv : ∀ i, v i = u (e i)) (hu : u = t4 f)
    (h0 : ∀ i, (e i 0).val = g0 i) (h1 : ∀ i, (e i 1).val = g1 i) (h2 : ∀ i, (e i 2).val = g2 i)
    (h3 : ∀ i, (e i 3).val = g3 i) : v = fun i => ((f (g0 i) (g1 i) (g2 i) (g3 i) : ℝ) : EReal) :=
  funext fun i => (hv i).trans ((congrFun hu _).trans (by unfold t4; rw [h0, h1, h2, h3]))
theorem read5 {u : (⟨5, ![a, b, c, d, m]⟩ : Shape).Idx → EReal} {e : T.Idx → (⟨5, ![a, b, c, d, m]⟩ : Shape).Idx}
    {f : ℕ → ℕ → ℕ → ℕ → ℕ → ℝ} {g0 g1 g2 g3 g4 : T.Idx → ℕ} (hv : ∀ i, v i = u (e i)) (hu : u = t5 f)
    (h0 : ∀ i, (e i 0).val = g0 i) (h1 : ∀ i, (e i 1).val = g1 i) (h2 : ∀ i, (e i 2).val = g2 i)
    (h3 : ∀ i, (e i 3).val = g3 i) (h4 : ∀ i, (e i 4).val = g4 i) :
    v = fun i => ((f (g0 i) (g1 i) (g2 i) (g3 i) (g4 i) : ℝ) : EReal) :=
  funext fun i => (hv i).trans ((congrFun hu _).trans (by unfold t5; rw [h0, h1, h2, h3, h4]))
end layout

section pointwise
variable {S : Shape} {u v : S.Idx → EReal} {f g : S.Idx → ℝ}
theorem mul_nf (hu : u = fun i => ((f i : ℝ) : EReal)) (hv : v = fun i => ((g i : ℝ) : EReal)) :
    mulf (F := Ideal) (φ := .f32) u v = fun i => ((f i * g i : ℝ) : EReal) := by
  subst hu hv; exact funext fun _ => (EReal.coe_mul _ _).symm
theorem add_nf (hu : u = fun i => ((f i : ℝ) : EReal)) (hv : v = fun i => ((g i : ℝ) : EReal)) :
    addf (F := Ideal) (φ := .f32) u v = fun i => ((f i + g i : ℝ) : EReal) := by
  subst hu hv; exact funext fun _ => (EReal.coe_add _ _).symm
theorem sub_nf (hu : u = fun i => ((f i : ℝ) : EReal)) (hv : v = fun i => ((g i : ℝ) : EReal)) :
    subf (F := Ideal) (φ := .f32) u v = fun i => ((f i - g i : ℝ) : EReal) := by
  subst hu hv; exact funext fun _ => (EReal.coe_sub _ _).symm
theorem neg_nf (hu : u = fun i => ((f i : ℝ) : EReal)) :
    Host.negf (F := Ideal) (φ := .f32) u = fun i => ((-f i : ℝ) : EReal) := by
  subst hu; exact funext fun _ => (EReal.coe_neg _).symm
theorem exp_nf (hu : u = fun i => ((f i : ℝ) : EReal)) :
    Host.exp (F := Ideal) (φ := .f32) u = fun i => ((Real.exp (f i) : ℝ) : EReal) := by
  subst hu; rfl
theorem div_nf (hu : u = fun i => ((f i : ℝ) : EReal)) (hv : v = fun i => ((g i : ℝ) : EReal)) (h : ∀ i, g i ≠ 0) :
    Host.divf (F := Ideal) (φ := .f32) u v = fun i => ((f i / g i : ℝ) : EReal) := by
  subst hu hv; exact funext fun i => div_coe_coe _ (h i)
theorem rsqrt_nf (hu : u = fun i => ((f i : ℝ) : EReal)) (h : ∀ i, 0 < f i) :
    Host.rsqrt (F := Ideal) (φ := .f32) u = fun i => (((Real.sqrt (f i))⁻¹ : ℝ) : EReal) := by
  subst hu; exact funext fun i => rsqrt_coe_pos (h i)
end pointwise

section sums
variable {S S' T : Shape} {n : ℕ} {v : T.Idx → EReal} {u : S.Idx → EReal} {w : S'.Idx → EReal}
  {f : S.Idx → ℝ} {g : S'.Idx → ℝ}
theorem sum_nf {e : T.Idx → Fin n → S.Idx} {z : EReal} (G : T.Idx → ℕ → ℝ)
    (hv : ∀ i, v i = z + ∑ k : Fin n, u (e i k)) (hz : z = 0) (hu : u = fun i => ((f i : ℝ) : EReal))
    (hG : ∀ i (k : Fin n), f (e i k) = G i k.val) : v = fun i => ((∑ k ∈ Finset.range n, G i k : ℝ) : EReal) := by
  subst hu hz
  funext i
  rw [hv, zero_add, ← Fin.sum_univ_eq_sum_range, ← coe_sum]
  exact Finset.sum_congr rfl fun k _ => congrArg _ (hG i k)
theorem dot_nf {l : T.Idx → Fin n → S.Idx} {r : T.Idx → Fin n → S'.Idx} (G : T.Idx → ℕ → ℝ)
    (hv : ∀ i, v i = ∑ k : Fin n, u (l i k) * w (r i k)) (hu : u = fun i => ((f i : ℝ) : EReal))
    (hw : w = fun i => ((g i : ℝ) : EReal)) (hG : ∀ i (k : Fin n), f (l i k) * g (r i k) = G i k.val) :
    v = fun i => ((∑ k ∈ Finset.range n, G i k : ℝ) : EReal) := by
  subst hu hw
  funext i
  rw [hv, ← Fin.sum_univ_eq_sum_range, ← coe_sum]
  exact Finset.sum_congr rfl fun k _ => (EReal.coe_mul _ _).symm.trans (congrArg _ (hG i k))
theorem dot2_nf {n' : ℕ} {so : Shape} {D : DotDims S S' so} (hr : D.contr.rank = 2)
    (h0 : D.contr.size ⟨0, by omega⟩ = n) (h1 : D.contr.size ⟨1, by omega⟩ = n') (G : so.Idx → ℕ → ℕ → ℝ)
    (hu : u = fun i => ((f i : ℝ) : EReal)) (hw : w = fun i => ((g i : ℝ) : EReal))
    (hG : ∀ i (q : D.contr.Idx), f (D.lhsIdx i q) * g (D.rhsIdx i q) = G i (q ⟨0, by omega⟩).val (q ⟨1, by omega⟩).val) :
    Host.dotGeneral (F := Ideal) (φ₁ := .f32) (φ₂ := .f32) D none u w = fun i => ((∑ k ∈ Finset.range n, ∑ k' ∈ Finset.range n', G i k k' : ℝ) : EReal) := by
  subst hu hw
  funext i
  refine (Ideal.dotGeneral_apply _ _ _ _ _ i).trans ?_
  rw [sum_contr2 D n n' hr h0 h1, ← Fin.sum_univ_eq_sum_range (fun k => ∑ k' ∈ Finset.range n', G i k k'), ← coe_sum]
  refine Finset.sum_congr rfl fun k _ => ?_
  rw [← Fin.sum_univ_eq_sum_range, ← coe_sum]
  refine Finset.sum_congr rfl fun k' _ => (EReal.coe_mul _ _).symm.trans (congrArg _ ((hG i _).trans ?_))
  rw [contrEquiv2_symm_val0, contrEquiv2_symm_val1]
end sums

section pads
variable {r : ℕ} {ss ts : Fin r → ℕ}
/-- The coordinates with the one at `a0` replaced. -/
def put (a0 : Fin r) (k : ℕ) (v : Fin r → ℕ) : Fin r → ℕ := fun a => if a = a0 then k else v a

theorem pad_nf (a0 : Fin r) {lo hi int : Fin r → ℕ} {x : (⟨r, ss⟩ : Shape).Idx → EReal} {U : Shape} {z : U.Idx → EReal}
    {h : (⟨r, ss⟩ : Shape).Pads lo hi int ⟨r, ts⟩} {hU : 0 < U.numel} (G : (Fin r → ℕ) → ℝ)
    (hx : x = fun i => ((G fun a => (i a).val : ℝ) : EReal)) (hz : z (Shape.Idx.first hU) = 0)
    (hlo : ∀ a, a ≠ a0 → lo a = 0) (hint : ∀ a, int a = 0) (hs : ∀ a, a ≠ a0 → ts a = ss a) :
    pad ⟨r, ts⟩ lo hi int x z h hU = fun j => ((if lo a0 ≤ (j a0).val ∧ (j a0).val - lo a0 < ss a0 then
      G (put a0 ((j a0).val - lo a0) fun a => (j a).val) else 0 : ℝ) : EReal) := by
  subst hx
  funext j
  have hlt : ∀ a, (j a).val < ts a := fun a => (j a).isLt
  split_ifs with hc
  · refine pad_apply_of_inside (s := ⟨r, ss⟩) _ _ _ _ _ _ _ j (fun a => ⟨put a0 ((j a0).val - lo a0) (fun a => (j a).val) a, ?_⟩) (fun a => ?_)
    · unfold put
      by_cases ha : a = a0
      · subst ha; rw [if_pos rfl]; exact hc.2
      · rw [if_neg ha]; exact (hlt a).trans_eq (hs a ha)
    · rw [hint]
      show (j a).val = lo a + put a0 ((j a0).val - lo a0) (fun a => (j a).val) a * (0 + 1)
      unfold put
      by_cases ha : a = a0
      · subst ha; rw [if_pos rfl]; exact (Nat.add_sub_cancel' hc.1).symm.trans (congrArg _ (Nat.mul_one _).symm)
      · rw [if_neg ha, hlo a ha]; exact ((Nat.zero_add _).trans (Nat.mul_one _)).symm
  · refine (pad_apply_of_not_inside (s := ⟨r, ss⟩) _ _ _ _ _ _ _ j a0 ?_).trans hz
    rw [hint]
    intro hh
    refine hc ⟨hh.1, ?_⟩
    have := hh.2.2
    rw [Nat.zero_add, Nat.div_one] at this
    exact this

theorem cat_nf (a0 : Fin r) {us : Fin r → ℕ} {x : (⟨r, ss⟩ : Shape).Idx → EReal} {y : (⟨r, us⟩ : Shape).Idx → EReal}
    {h : Shape.Concatenates [⟨r, ss⟩, ⟨r, us⟩] ⟨r, ts⟩ a0} (G H : (Fin r → ℕ) → ℝ)
    (hx : x = fun i => ((G fun a => (i a).val : ℝ) : EReal)) (hy : y = fun i => ((H fun a => (i a).val : ℝ) : EReal))
    (hs : ∀ a, a ≠ a0 → ts a = ss a) (hu : ∀ a, a ≠ a0 → ts a = us a) (ha0 : ts a0 = ss a0 + us a0) :
    concatenate ⟨r, ts⟩ a0 [⟨⟨r, ss⟩, x⟩, ⟨⟨r, us⟩, y⟩] h = fun j => ((if (j a0).val < ss a0 then
      G (fun a => (j a).val) else H (put a0 ((j a0).val - ss a0) fun a => (j a).val) : ℝ) : EReal) := by
  subst hx hy
  funext j
  have hlt : ∀ a, (j a).val < ts a := fun a => (j a).isLt
  split_ifs with hc
  · refine concatenate_pair_apply_left (s₁ := ⟨r, ss⟩) (s₂ := ⟨r, us⟩) a0 _ _ h j rfl (fun a => ⟨(j a).val, ?_⟩) (fun a => rfl)
    by_cases ha : a = a0
    · subst ha; exact hc
    · exact (hlt a).trans_eq (hs a ha)
  · refine concatenate_pair_apply_right (s₁ := ⟨r, ss⟩) (s₂ := ⟨r, us⟩) a0 _ _ h j rfl rfl
      (fun a => ⟨put a0 ((j a0).val - ss a0) (fun a => (j a).val) a, ?_⟩) (fun a ha => if_neg ha) ?_
    · unfold put
      by_cases ha : a = a0
      · subst ha; rw [if_pos rfl]
        have := hlt a
        show (j a).val - ss a < us a
        omega
      · rw [if_neg ha]; exact (hlt a).trans_eq (hu a ha)
    · show put a0 ((j a0).val - ss a0) (fun a => (j a).val) a0 + ss a0 = (j a0).val
      unfold put
      rw [if_pos rfl]; omega

theorem foldl_add {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- A windowed sum along one axis. -/
theorem window_nf (a0 : Fin r) {n : ℕ} {win str lo hi : Fin r → ℕ} {x : (⟨r, ss⟩ : Shape).Idx → EReal} {U : Shape}
    {z : U.Idx → EReal} {h : (⟨r, ss⟩ : Shape).ReduceWindows win str lo hi ⟨r, ss⟩} {hU : 0 < U.numel} (G : (Fin r → ℕ) → ℝ)
    (hx : x = fun i => ((G fun a => (i a).val : ℝ) : EReal)) (hz : z (Shape.Idx.first hU) = 0)
    (hw : ∀ a, win a = if a = a0 then n else 1) (hstr : ∀ a, str a = 1) (hlo : ∀ a, a ≠ a0 → lo a = 0) :
    Host.reduceWindowAdd (F := Ideal) (φ := .f32) win str lo hi x z h hU =
      fun j => ((∑ k ∈ Finset.range n, (if lo a0 ≤ (j a0).val + k ∧ (j a0).val + k - lo a0 < ss a0 then
        G (put a0 ((j a0).val + k - lo a0) fun a => (j a).val) else 0) : ℝ) : EReal) := by
  subst hx
  funext j
  have hlt : ∀ a, (j a).val < ss a := fun a => (j a).isLt
  have e0 : ∀ (W : (⟨r, win⟩ : Shape).Idx) (a : Fin r), a ≠ a0 → (W a).val = 0 := fun W a ha => by
    have h1 : (W a).val < win a := (W a).isLt
    rw [hw, if_neg ha] at h1; omega
  have hz' : z (Shape.Idx.first hU) = ((0 : ℝ) : EReal) := hz
  unfold Host.reduceWindowAdd
  rw [Ideal.hostReduceWindowAdd_def]
  unfold Ideal.hostReduceWindowAdd Host.reduceWindow
  dsimp only
  refine (foldl_add _ _ _).trans ?_
  rw [hz', EReal.coe_zero, zero_add, ← Fin.sum_univ_def,
    ← Fin.sum_univ_eq_sum_range (fun k => if lo a0 ≤ (j a0).val + k ∧ (j a0).val + k - lo a0 < ss a0 then
        G (put a0 ((j a0).val + k - lo a0) fun a => (j a).val) else 0), ← coe_sum]
  have hn : win a0 = n := by rw [hw, if_pos rfl]
  refine Fintype.sum_bijective (fun m => (⟨((⟨r, win⟩ : Shape).rowMajor.symm m a0).val, hn ▸ ((⟨r, win⟩ : Shape).rowMajor.symm m a0).isLt⟩ : Fin n)) ⟨?_, ?_⟩ _ _ ?_
  · intro m m' hWW
    refine (⟨r, win⟩ : Shape).rowMajor.symm.injective (funext fun a => ?_)
    by_cases ha : a = a0
    · subst ha; exact Fin.ext (by have h1 := congrArg Fin.val hWW; exact h1)
    · exact Fin.ext ((e0 _ a ha).trans (e0 _ a ha).symm)
  · intro k
    have hk : ∀ a, (if a = a0 then k.val else 0) < win a := fun a => by
      rw [hw]
      split_ifs
      · exact k.isLt
      · exact Nat.one_pos
    refine ⟨(⟨r, win⟩ : Shape).rowMajor fun a => ⟨if a = a0 then k.val else 0, hk a⟩, ?_⟩
    refine Fin.ext ?_
    dsimp only
    rw [Equiv.symm_apply_apply]
    exact if_pos rfl
  · intro m
    generalize (⟨r, win⟩ : Shape).rowMajor.symm m = W
    have key : ∀ a, (j a).val * str a + (W a).val - lo a = put a0 ((j a0).val + (W a0).val - lo a0) (fun a => (j a).val) a := fun a => by
      unfold put
      rw [hstr, mul_one]
      by_cases ha : a = a0
      · subst ha; rw [if_pos rfl]
      · rw [if_neg ha, e0 W a ha, hlo a ha]; rfl
    show _ = ((if lo a0 ≤ (j a0).val + (W a0).val ∧ (j a0).val + (W a0).val - lo a0 < ss a0 then
        G (put a0 ((j a0).val + (W a0).val - lo a0) fun a => (j a).val) else 0 : ℝ) : EReal)
    by_cases hc : lo a0 ≤ (j a0).val + (W a0).val ∧ (j a0).val + (W a0).val - lo a0 < ss a0
    · rw [if_pos hc, dif_pos]
      · exact congrArg (fun w => ((G w : ℝ) : EReal)) (funext key)
      · intro a
        by_cases ha : a = a0
        · subst ha; rw [hstr, mul_one]; exact hc
        · rw [hstr, mul_one, e0 W a ha, hlo a ha]; exact ⟨Nat.zero_le _, hlt a⟩
    · rw [if_neg hc, dif_neg]
      · rfl
      · intro hh
        have := hh a0
        rw [hstr, mul_one] at this
        exact hc this

theorem sum_forward (f : ℕ → ℝ) (n j : ℕ) (hj : j < n) :
    (∑ k ∈ Finset.range n, if n - 1 ≤ j + k ∧ j + k - (n - 1) < n then f (j + k - (n - 1)) else 0) =
      ∑ k ∈ Finset.range n, (if k ≤ j then 1 else 0) * f k := by
  obtain ⟨m, rfl⟩ : ∃ m, n = m + (j + 1) := ⟨n - (j + 1), by omega⟩
  have hR : (∑ k ∈ Finset.range (m + (j + 1)), (if k ≤ j then 1 else 0) * f k) = ∑ k ∈ Finset.range (j + 1), f k := by
    rw [Nat.add_comm m, Finset.sum_range_add (n := j + 1), Finset.sum_congr rfl (fun k hk => by
      rw [if_pos (by have := Finset.mem_range.mp hk; omega), one_mul] : ∀ k ∈ Finset.range (j + 1), _ = f k)]
    refine (congrArg _ (Finset.sum_eq_zero fun k _ => ?_)).trans (add_zero _)
    rw [if_neg (by omega), zero_mul]
  rw [hR, Finset.sum_range_add]
  refine (congrArg₂ (· + ·) (Finset.sum_eq_zero fun k hk => if_neg ?_) (Finset.sum_congr rfl fun k hk => ?_)).trans (zero_add _)
  · have := Finset.mem_range.mp hk; omega
  · have := Finset.mem_range.mp hk
    rw [if_pos (by omega)]
    congr 1; omega

theorem sum_backward (f : ℕ → ℝ) (n j : ℕ) (hj : j < n) :
    (∑ k ∈ Finset.range n, if 0 ≤ j + k ∧ j + k - 0 < n then f (j + k - 0) else 0) =
      ∑ k ∈ Finset.range n, (if j ≤ k then 1 else 0) * f k := by
  obtain ⟨m, rfl⟩ : ∃ m, n = j + m := ⟨n - j, by omega⟩
  have hR : (∑ k ∈ Finset.range (j + m), (if j ≤ k then 1 else 0) * f k) = ∑ k ∈ Finset.range m, f (j + k) := by
    rw [Finset.sum_range_add]
    refine (congrArg₂ (· + ·) (Finset.sum_eq_zero fun k hk => ?_) (Finset.sum_congr rfl fun k hk => ?_)).trans (zero_add _)
    · have := Finset.mem_range.mp hk
      rw [if_neg (by omega), zero_mul]
    · rw [if_pos (by omega), one_mul]
  rw [hR, Nat.add_comm j, Finset.sum_range_add]
  refine (congrArg₂ (· + ·) (Finset.sum_congr rfl fun k hk => ?_) (Finset.sum_eq_zero fun k hk => if_neg ?_)).trans (add_zero _)
  · have := Finset.mem_range.mp hk
    rw [if_pos (by omega)]; rfl
  · omega
end pads

/-- A sum over pairs of a head and a channel of it. -/
theorem sum_heads (f : ℕ → ℝ) : (∑ k ∈ Finset.range 8, ∑ q ∈ Finset.range 64, f (64 * k + q)) = ∑ x ∈ Finset.range 512, f x := by
  have h : ∀ n, (∑ k ∈ Finset.range n, ∑ q ∈ Finset.range 64, f (64 * k + q)) = ∑ x ∈ Finset.range (64 * n), f x := fun n => by
    induction n with
    | zero => simp
    | succ n ih => rw [Finset.sum_range_succ, ih, Nat.mul_succ, Finset.sum_range_add]
  exact h 8
theorem zero_bits : Ideal.ofBits .f32 0x00000000#32 = 0 := by simp [Ideal.ofBits, Ideal.ieee]
theorem ch64 {g k q : ℕ} (hq : q < 64) : (512 * g + 64 * k + q) / 64 = 8 * g + k := by omega
theorem ch512 {g k q : ℕ} (hk : k < 8) (hq : q < 64) : (512 * g + 64 * k + q) / 512 = g := by omega
theorem hd8 {g k : ℕ} (hk : k < 8) : (8 * g + k) / 8 = g := by omega

end Cert.Proof.Ssd
-- ==== Proof.SsdFwd.lean ====
/- The forward pass over all chunks at once, and its derivative: what the backward pass's sweep over the chunks equals. -/
module

public import proofs.«01_k».proof.Proof.SsdNf

@[expose] public section

noncomputable section

namespace Cert.Proof.Ssd

open scoped BigOperators

namespace In

variable (p : In)

/-- The tokens `3 - r` before, zero before the first one. -/
def xs (r t ch : ℕ) : ℝ := if t + r < 3 then 0 else p.xp (t + r - 3) ch

/-- What a chunk's own tokens give its outputs. -/
def yd (c i ch : ℕ) : ℝ := ∑ s ∈ Finset.range 128, p.X (128 * c + s) ch * (p.sc c (ch / 512) i s * p.lam c (ch / 64) i s)
/-- What a chunk adds to the state. -/
def st (c n ch : ℕ) : ℝ := ∑ l ∈ Finset.range 128, p.Xd c l ch * p.B (128 * c + l) (128 * (ch / 512) + n)
def st' (z n ch : ℕ) : ℝ := if z < 1 then 0 else p.st (z - 1) n ch
/-- The sum of the log decays of the chunks before `z`. -/
def tot (z h : ℕ) : ℝ := ∑ j ∈ Finset.range z, p.cs j 127 h
/-- The decay from before chunk `j` to before chunk `z`. -/
def dcy (h z j : ℕ) : ℝ := if j ≤ z then Real.exp (p.tot z h - p.tot j h) else 0

/-- The saved arrays are those of the forward pass. -/
structure Fwd : Prop where
  xc : ∀ t ch, p.XC t ch = p.Bc 0 ch + p.xs 0 t ch * p.Wc 0 ch + p.xs 1 t ch * p.Wc 1 ch + p.xs 2 t ch * p.Wc 2 ch
    + p.xs 3 t ch * p.Wc 3 ch
  s : ∀ c n ch, p.S c n ch = ∑ j ∈ Finset.range 65, p.st' j n ch * p.dcy (ch / 64) c j
  y : ∀ t ch, p.Y t ch = p.yd (t / 128) (t % 128) ch
    + p.ecs (t / 128) (t % 128) (ch / 64) * p.CS (t / 128) (t % 128) ch + p.D 0 (ch / 64) * p.u t ch

/-- The gradient with respect to the state before chunk `z`, from that chunk's outputs alone. -/
def dn (z n ch : ℕ) : ℝ := if z < 64 then p.CdY z n ch else 0
def ddy (h z j : ℕ) : ℝ := ∑ q ∈ Finset.range 64, ∑ n ∈ Finset.range 128, p.dn z n (64 * h + q) * p.st' j n (64 * h + q)
def V (h z j : ℕ) : ℝ := p.ddy h z j * p.dcy h z j

theorem ms_pos (t : ℕ) : 0 < p.ms t :=
  add_pos_of_nonneg_of_pos (div_nonneg (Finset.sum_nonneg fun _ _ => mul_self_nonneg _) (by norm_num)) eps_pos

theorem tot_succ (z h : ℕ) : p.tot (z + 1) h = p.tot z h + p.cs z 127 h := Finset.sum_range_succ _ _

theorem tot_window {z : ℕ} (hz : z < 65) (h : ℕ) :
    (∑ k ∈ Finset.range 65, (if k ≤ z then 1 else 0) * (if k < 1 then 0 else p.cs (k - 1) 127 h)) = p.tot z h := by
  rw [Finset.sum_range_succ']
  obtain ⟨m, hm⟩ : ∃ m, 64 = z + m := ⟨64 - z, by omega⟩
  rw [hm, Finset.sum_range_add, if_pos Nat.one_pos, mul_zero, add_zero]
  refine (congrArg₂ (· + ·) (Finset.sum_congr rfl fun k hk => ?_) (Finset.sum_eq_zero fun k hk => ?_)).trans (add_zero _)
  · have := Finset.mem_range.mp hk
    rw [if_pos (by omega), if_neg (by omega), one_mul, Nat.add_sub_cancel]
  · rw [if_neg (by omega), zero_mul]

theorem dcy_self (h z : ℕ) : p.dcy h z z = 1 := by unfold dcy; rw [if_pos le_rfl, sub_self, Real.exp_zero]
theorem dcy_step (h c z : ℕ) (hz : c + 1 ≤ z) : p.dcy h z c = p.ecs c 127 h * p.dcy h z (c + 1) := by
  unfold dcy ecs
  rw [if_pos (by omega), if_pos hz, ← Real.exp_add, tot_succ]
  congr 1; ring
theorem dcy_cut (h c z j : ℕ) :
    p.dcy h z j * ((if c + 1 ≤ z then 1 else 0) - if c + 1 ≤ j then 1 else 0)
      = p.dcy h z (c + 1) * p.dcy h c j * p.ecs c 127 h := by
  by_cases h1 : c + 1 ≤ z
  · by_cases h2 : c + 1 ≤ j
    · rw [if_pos h1, if_pos h2, sub_self, mul_zero]
      unfold dcy
      rw [if_neg (show ¬j ≤ c by omega), mul_zero, zero_mul]
    · rw [if_pos h1, if_neg h2, sub_zero, mul_one]
      unfold dcy ecs
      rw [if_pos (by omega), if_pos h1, if_pos (by omega), ← Real.exp_add, ← Real.exp_add, tot_succ]
      congr 1; ring
  · rw [if_neg h1]
    by_cases h2 : c + 1 ≤ j
    · unfold dcy
      rw [if_neg (show ¬j ≤ z by omega), if_neg h1]; ring
    · rw [if_neg h2]
      unfold dcy
      rw [if_neg h1]; ring

/-- The gradient with respect to the state after a chunk, over all later chunks at once. -/
theorem dS_sum {c : ℕ} (hc : c < 64) (n ch : ℕ) :
    (∑ z ∈ Finset.range 65, p.dn z n ch * p.dcy (ch / 64) z (c + 1)) = p.dS c n ch := by
  have key : ∀ t, t < 64 → (∑ z ∈ Finset.range 65, p.dn z n ch * p.dcy (ch / 64) z (63 - t + 1)) = p.dSt t n ch := by
    intro t
    induction t with
    | zero =>
      intro _
      refine Finset.sum_eq_zero fun z hz => ?_
      have := Finset.mem_range.mp hz
      by_cases h : z < 64
      · unfold dcy; rw [if_neg (by omega), mul_zero]
      · unfold dn; rw [if_neg h, zero_mul]
    | succ t ih =>
      intro ht
      have e : 63 - (t + 1) + 1 = 63 - t := by omega
      have h1 : ∀ z ∈ Finset.range 65, p.dn z n ch * p.dcy (ch / 64) z (63 - t) =
          (if z = 63 - t then p.dn z n ch else 0) + p.ecs (63 - t) 127 (ch / 64) * (p.dn z n ch * p.dcy (ch / 64) z (63 - t + 1)) := by
        intro z _
        rcases Nat.lt_trichotomy z (63 - t) with h | h | h
        · unfold dcy
          rw [if_neg (by omega), if_neg (by omega), if_neg (by omega)]; ring
        · subst h
          rw [dcy_self, if_pos rfl]
          unfold dcy
          rw [if_neg (by omega)]; ring
        · rw [dcy_step p _ _ _ h, if_neg (by omega)]; ring
      rw [e, Finset.sum_congr rfl h1, Finset.sum_add_distrib, ← Finset.mul_sum, ih (by omega), Finset.sum_ite_eq',
        if_pos (Finset.mem_range.mpr (by omega))]
      show p.dn (63 - t) n ch + _ = p.ecs (63 - t) 127 (ch / 64) * p.dSt t n ch + p.CdY (63 - t) n ch
      unfold dn
      rw [if_pos (by omega), add_comm]
  have := key (63 - c) (by omega)
  rw [show 63 - (63 - c) + 1 = c + 1 by omega] at this
  exact this

/-- The gradient through a chunk's decay, over all pairs of an earlier and a later chunk. -/
theorem te_sum (f : p.Fwd) {c : ℕ} (hc : c < 64) (h : ℕ) :
    (∑ m ∈ Finset.range 65, (if c + 1 ≤ m then 1 else 0)
      * (∑ z ∈ Finset.range 65, -p.V h z m + ∑ j ∈ Finset.range 65, p.V h m j)) = p.te c h := by
  have h1 : (∑ m ∈ Finset.range 65, (if c + 1 ≤ m then (1 : ℝ) else 0)
      * (∑ z ∈ Finset.range 65, -p.V h z m + ∑ j ∈ Finset.range 65, p.V h m j)) =
      ∑ z ∈ Finset.range 65, ∑ j ∈ Finset.range 65, p.V h z j * ((if c + 1 ≤ z then 1 else 0) - if c + 1 ≤ j then 1 else 0) := by
    simp only [mul_add, mul_sub, Finset.sum_add_distrib, Finset.sum_sub_distrib, Finset.mul_sum, mul_neg, Finset.sum_neg_distrib]
    rw [Finset.sum_comm (f := fun z m => (if c + 1 ≤ z then (1 : ℝ) else 0) * p.V h m z)]
    simp only [mul_comm]
    ring
  have h2 : ∀ z j, p.V h z j * ((if c + 1 ≤ z then 1 else 0) - if c + 1 ≤ j then 1 else 0) =
      ∑ q ∈ Finset.range 64, ∑ n ∈ Finset.range 128, p.ecs c 127 h *
        ((p.dn z n (64 * h + q) * p.dcy h z (c + 1)) * (p.st' j n (64 * h + q) * p.dcy h c j)) := by
    intro z j
    unfold V
    rw [mul_assoc, dcy_cut]
    unfold ddy
    rw [Finset.sum_mul]
    refine Finset.sum_congr rfl fun q _ => ?_
    rw [Finset.sum_mul]
    exact Finset.sum_congr rfl fun n _ => by ring
  rw [h1]
  simp only [h2]
  rw [Finset.sum_congr rfl fun z _ => Finset.sum_comm, Finset.sum_comm,
    Finset.sum_congr rfl fun q _ => Finset.sum_congr rfl fun z _ => Finset.sum_comm,
    Finset.sum_congr rfl fun q _ => Finset.sum_comm]
  unfold te hs
  rw [Finset.sum_mul, Finset.sum_comm]
  refine Finset.sum_congr rfl fun n _ => ?_
  rw [Finset.sum_mul]
  refine Finset.sum_congr rfl fun q hq => ?_
  have e : (64 * h + q) / 64 = h := by have := Finset.mem_range.mp hq; omega
  show _ = p.S c n (64 * h + q) * p.dS c n (64 * h + q) * _
  rw [← dS_sum p hc, f.s, e, Finset.sum_mul_sum, Finset.sum_comm, Finset.sum_mul]
  refine Finset.sum_congr rfl fun z _ => ?_
  rw [Finset.sum_mul]
  exact Finset.sum_congr rfl fun j _ => by ring

/-- The two running sums of a chunk together. -/
theorem da_sum {c i h : ℕ} (hh : h < 16) :
    ((∑ k ∈ Finset.range 128, (if i ≤ k then 1 else 0) *
        (∑ j ∈ Finset.range 128, -p.W c h j k + ∑ j ∈ Finset.range 128, p.W c h k j))
      + ∑ k ∈ Finset.range 128, (if i ≤ k then 1 else 0) * (hs (fun ch => p.dYe c k ch * p.CS c k ch) h
        + (if 127 ≤ k ∧ k - 127 < 1 then p.te c h else 0) + -p.td c k h
        + if 127 ≤ k ∧ k - 127 < 1 then ∑ j ∈ Finset.range 128, p.td c j h else 0)) = p.da c i h := by
  rw [← Finset.sum_add_distrib]
  refine Finset.sum_congr rfl fun k hk => ?_
  have := Finset.mem_range.mp hk
  unfold dcs
  rw [if_pos hh, ← mul_add, Finset.sum_neg_distrib]
  congr 1
  by_cases e : k = 127
  · rw [if_pos (show 127 ≤ k ∧ k - 127 < 1 by omega), if_pos e, if_pos (show 127 ≤ k ∧ k - 127 < 1 by omega)]; ring
  · rw [if_neg (show ¬(127 ≤ k ∧ k - 127 < 1) by omega), if_neg e, if_neg (show ¬(127 ≤ k ∧ k - 127 < 1) by omega)]; ring

/-- The derivative of the normalisation. -/
theorem dq_sum (t ch : ℕ) :
    p.Ct t ch * p.G 0 ch * p.rn t
      + p.q t ch * ((∑ k ∈ Finset.range 1024, p.q t k * (p.Ct t k * p.G 0 k)) * (-(1 / 2) * (p.rn t / p.ms t)) / 1024)
      + (∑ k ∈ Finset.range 1024, p.q t k * (p.Ct t k * p.G 0 k)) * (-(1 / 2) * (p.rn t / p.ms t)) / 1024 * p.q t ch = p.dq t ch := by
  have h1 : p.rn t * p.rn t = (p.ms t)⁻¹ := by
    unfold rn
    rw [← mul_inv, Real.mul_self_sqrt (p.ms_pos t).le]
  unfold dq
  rw [mul_assoc (p.rn t) (p.rn t) (p.rn t), ← mul_assoc, h1, Finset.sum_congr rfl fun k _ => mul_comm (p.q t k) _, div_eq_mul_inv (p.rn t)]
  ring

theorem dxc_end {t ch : ℕ} (h : 8192 ≤ t) : p.dxc t ch = 0 := if_neg (by omega)

/-- A tap's gradient, over the tokens the tap reads. -/
theorem tap_sum (r ch k : ℕ) (hk : r + k = 3) :
    (∑ t ∈ Finset.range 8192, p.xs r t ch * p.dxc t ch) = ∑ t ∈ Finset.range 8192, p.xp t ch * p.dxc (t + k) ch := by
  obtain ⟨m, hm⟩ : ∃ m, 8192 = m + k := ⟨8192 - k, by omega⟩
  have hR : (∑ t ∈ Finset.range 8192, p.xp t ch * p.dxc (t + k) ch) = ∑ t ∈ Finset.range m, p.xp t ch * p.dxc (t + k) ch := by
    rw [hm, Finset.sum_range_add]
    refine (congrArg _ (Finset.sum_eq_zero fun t _ => ?_)).trans (add_zero _)
    rw [dxc_end p (by omega), mul_zero]
  rw [hR, hm, Nat.add_comm m, Finset.sum_range_add]
  refine (congrArg₂ (· + ·) (Finset.sum_eq_zero fun t ht => ?_) (Finset.sum_congr rfl fun t _ => ?_)).trans (zero_add _)
  · have := Finset.mem_range.mp ht
    unfold xs; rw [if_pos (by omega), zero_mul]
  · unfold xs
    rw [if_neg (by omega), Nat.add_comm k t]
    rw [show t + k + r - 3 = t by omega]

end In
end Cert.Proof.Ssd
-- ==== Proof.SsdRead.lean ====
/- The reference's arguments, and its operations that read a mask. -/
module

public import proofs.«01_k».proof.Proof.SsdFwd
public import proofs.«01_k».proof.Proof.Gen.SsdReferenceIdeal.Read

@[expose] public section

noncomputable section

namespace Cert.Proof.Ssd

open Idealize.ShloMosaic Idealize.ShloMosaic.ValueIdx
open scoped BigOperators

theorem tril_at {a b : ℕ} (ha : a < 2147483648) (hb : b < 2147483648) :
    Scalar.select (IntOp.cmpi .sge (IntOp.addi (BitVec.ofNat 32 a) 0#32) (BitVec.ofNat 32 b)) 1#1 0#1
      = if b ≤ a then 1#1 else 0#1 := by
  have e : IntOp.addi (BitVec.ofNat 32 a) 0#32 = BitVec.ofNat 32 a := BitVec.add_zero _
  rw [e]
  show Scalar.select (BitVec.ofBool ((BitVec.ofNat 32 b).sle (BitVec.ofNat 32 a))) 1#1 0#1 = _
  rw [sle_ofNat hb ha, ofBool_decide]
  split_ifs <;> rfl

section
variable {S : Shape} {m : S.Idx → BitVec 1} {u n : S.Idx → EReal} {f : S.Idx → ℝ} {P : S.Idx → Prop} [∀ i, Decidable (P i)]
theorem exp_mask (hm : ∀ i, m i = if P i then 1#1 else 0#1) (hu : u = fun i => ((f i : ℝ) : EReal)) (hn : ∀ i, n i = ⊥) :
    Host.exp (F := Ideal) (φ := .f32) (select m u n) = fun i => ((if P i then Real.exp (f i) else 0 : ℝ) : EReal) := by
  subst hu
  funext i
  show Ideal.exp (Scalar.select (m i) ((f i : ℝ) : EReal) (n i)) = _
  rw [hm, hn]
  split_ifs <;> rfl
theorem sel_mask (hm : ∀ i, m i = if P i then 1#1 else 0#1) (hu : u = fun i => ((f i : ℝ) : EReal)) (hn : ∀ i, n i = 0) :
    select m u n = fun i => ((if P i then f i else 0 : ℝ) : EReal) := by
  subst hu
  funext i
  show Scalar.select (m i) ((f i : ℝ) : EReal) (n i) = _
  rw [hm, hn]
  split_ifs <;> rfl

theorem exp_sp (x : ℝ) : Real.exp (sp x) = 1 + Real.exp x := by
  have hpos : 0 < 1 + Real.exp (-|x|) := by positivity
  unfold sp
  rw [Real.exp_add, Real.exp_log hpos]
  rcases le_total 0 x with h | h
  · rw [max_eq_left h, abs_of_nonneg h, mul_add, mul_one, ← Real.exp_add, add_neg_cancel, Real.exp_zero, add_comm]
  · rw [max_eq_right h, abs_of_nonpos h, Real.exp_zero, neg_neg, one_mul]
theorem exp_sub_sp (x : ℝ) : Real.exp (x - sp x) = sg x := by
  unfold sg
  rw [Real.exp_sub, exp_sp, Real.exp_neg]
  have := Real.exp_pos x
  field_simp
  ring

theorem softplus_nf (hu : u = fun i => ((f i : ℝ) : EReal)) (hn : n = fun _ => ((0 : ℝ) : EReal)) :
    select (cmpf (F := Ideal) (φ := .f32) .une (subf u n) (subf u n)) (addf (F := Ideal) (φ := .f32) u n)
      (addf (F := Ideal) (φ := .f32) (maximumf (F := Ideal) (φ := .f32) u n) (Host.log1p (F := Ideal) (φ := .f32)
        (Host.exp (F := Ideal) (φ := .f32) (Host.negf (F := Ideal) (φ := .f32) (Host.absf (F := Ideal) (φ := .f32)
          (subf (F := Ideal) (φ := .f32) u n)))))) = fun i => ((sp (f i) : ℝ) : EReal) := by
  subst hu hn
  funext i
  have e : ((f i : ℝ) : EReal) - ((0 : ℝ) : EReal) = ((f i : ℝ) : EReal) := by rw [← EReal.coe_sub, sub_zero]
  show Scalar.select (BitVec.ofBool (decide ((((f i : ℝ) : EReal) - ((0 : ℝ) : EReal)) ≠ (((f i : ℝ) : EReal) - ((0 : ℝ) : EReal))))) _
    (max ((f i : ℝ) : EReal) ((0 : ℝ) : EReal) + Ideal.log (1 + Ideal.exp (-(max (((f i : ℝ) : EReal) - ((0 : ℝ) : EReal)) (-(((f i : ℝ) : EReal) - ((0 : ℝ) : EReal))))))) = _
  rw [e, ← EReal.coe_neg, coe_max, coe_max, ← EReal.coe_neg, Ideal.exp_coe, ← EReal.coe_one, ← EReal.coe_add, Ideal.log_coe,
    if_neg (not_le.mpr (by positivity)), decide_eq_false (by simp)]
  exact (EReal.coe_add _ _).symm

variable {w t z' : S.Idx → EReal} {g : S.Idx → ℝ}
theorem sel_top (hu : u = fun i => ((f i : ℝ) : EReal)) (ht : ∀ i, t i = ⊤) :
    select (cmpf (F := Ideal) (φ := .f32) .oeq u t) n u = fun i => ((f i : ℝ) : EReal) := by
  subst hu
  funext i
  show Scalar.select (BitVec.ofBool (decide (((f i : ℝ) : EReal) = t i))) _ _ = _
  rw [ht, decide_eq_false (EReal.coe_ne_top _)]; rfl
end

theorem bot_bits : Ideal.ofBits .f32 0xFF800000#32 = ⊥ := by simp [Ideal.ofBits, Ideal.ieee]
theorem top_bits : Ideal.ofBits .f32 0x7F800000#32 = ⊤ := by simp [Ideal.ofBits, Ideal.ieee]

open Cert.SsdReferenceIdeal in
/-- The reference's arguments are those of `p`, whose saved arrays are the forward pass's. -/
structure Rd (p : In) (x0 : (⟨S8192x4608, .f32⟩ : BufTy).Contents (Elt Ideal)) (x1 : (⟨S8192x16, .f32⟩ : BufTy).Contents (Elt Ideal))
    (x2 : (⟨S4x1536, .f32⟩ : BufTy).Contents (Elt Ideal)) (x3 : (⟨S1x1536, .f32⟩ : BufTy).Contents (Elt Ideal))
    (x4 x5 x6 : (⟨S1x16, .f32⟩ : BufTy).Contents (Elt Ideal)) (x7 : (⟨S1x1024, .f32⟩ : BufTy).Contents (Elt Ideal))
    (x8 : (⟨S8192x1024, .f32⟩ : BufTy).Contents (Elt Ideal)) : Prop where
  i0 : ∀ i : S8192x4608.Idx, 2048 ≤ (i 1).val → x0 i = ((p.P (i 0).val ((i 1).val - 2048) : ℝ) : EReal)
  i1 : x1 = t2 p.Dt
  i2 : x2 = t2 p.Wc
  i3 : x3 = t2 p.Bc
  i4 : x4 = t2 p.Bias
  i5 : x5 = t2 p.Al
  i6 : x6 = t2 p.D
  i7 : x7 = t2 p.G
  i8 : x8 = t2 p.Ct
  fwd : p.Fwd

theorem flat (b : ℕ) : 512 * (b / 512) + 64 * (b / 64 % 8) + b % 64 = b := by omega
theorem flat_head (b : ℕ) : 8 * (b / 512) + b / 64 % 8 = b / 64 := by omega
theorem flat8 (b : ℕ) : 8 * (b / 8) + b % 8 = b := by omega

end Cert.Proof.Ssd
-- ==== Proof.SsdOps.lean ====
/- What the kernel of the state-space scan's gradient makes of matrices of real numbers: its activations, its reads of its buffers
   and its sums over the channels of a head. -/
module

public import proofs.«01_k».proof.Proof.SsdSpec
public import Idealize.ShloMosaic.Lib.Pipeline.Value
public import Idealize.ShloMosaic.Lib.Pipeline.FrameBody

@[expose] public section

noncomputable section

namespace Cert.Proof.Ssd

open Idealize.ShloMosaic Idealize.ShloMosaic.ValueIdx
open scoped BigOperators

variable {n m k : ℕ} {φ ψ : FTy} {κ : Kind}

/-! ## Activations -/

theorem half_tanh (x : ℝ) : 1 / 2 * Real.tanh (1 / 2 * x) + 1 / 2 = sg x := by
  have h1 : Real.exp (-(1 / 2 * x)) = (Real.exp (1 / 2 * x))⁻¹ := Real.exp_neg _
  have h2 : Real.exp (-x) = (Real.exp (1 / 2 * x))⁻¹ * (Real.exp (1 / 2 * x))⁻¹ := by
    rw [← h1, ← Real.exp_add]; ring_nf
  have h := Real.exp_pos (1 / 2 * x)
  rw [sg, h2, Real.tanh_eq_sinh_div_cosh, Real.sinh_eq, Real.cosh_eq, h1]
  field_simp
  ring
@[rclike_simps] theorem arr_sg (f : ℕ → ℕ → ℝ) :
    (arr (fun i j => 1 / 2 * Real.tanh (1 / 2 * f i j) + 1 / 2) : (⟨2, ![n, m]⟩ : Shape).Idx → EReal) = arr fun i j => sg (f i j) :=
  arr_congr fun _ _ _ _ => half_tanh _

/-- The number below which the kernel takes three terms of the logarithm's series. -/
def tiny : ℝ := 8589935 / 2 ^ 33
theorem ofBits_tiny : Ideal.ofBits .f32 0x3A83126F#32 = ((tiny : ℝ) : EReal) := by
  simp [Ideal.ofBits, Ideal.ieee, -EReal.coe_mul, tiny]; norm_num
theorem ofBits_third : Ideal.ofBits .f32 0x3EAAAAAB#32 = ((11184811 / 2 ^ 25 : ℝ) : EReal) := by
  simp [Ideal.ofBits, Ideal.ieee, -EReal.coe_mul]; norm_num
@[rclike_simps] theorem broadcast_third :
    broadcast (⟨2, ![n, m]⟩ : Shape) (Scalar.ofBits (F := Ideal) .f32 0x3EAAAAAB#32) = arr fun _ _ => 11184811 / 2 ^ 25 :=
  funext fun _ => ofBits_third
@[rclike_simps] theorem series_skip (e f g : ℕ → ℕ → ℝ) (h : ∀ i j, tiny ≤ e i j) :
    select (cmpf (F := Ideal) (φ := .f32) .olt (arr (n := n) (m := m) e)
      (broadcast (⟨2, ![n, m]⟩ : Shape) (Scalar.ofBits (F := Ideal) .f32 0x3A83126F#32))) (arr f) (arr g) = arr g := by
  funext i
  have e0 : decide (((e (i 0).val (i 1).val : ℝ) : EReal) < Ideal.ofBits .f32 0x3A83126F#32) = false :=
    decide_eq_false (by rw [ofBits_tiny]; exact not_lt.mpr (EReal.coe_le_coe_iff.mpr (h _ _)))
  show Scalar.select (BitVec.ofBool (decide (((e (i 0).val (i 1).val : ℝ) : EReal) < Ideal.ofBits .f32 0x3A83126F#32))) _ _ = _
  rw [e0]; rfl
@[rclike_simps] theorem log_one_add (f : ℕ → ℕ → ℝ) :
    log (F := Ideal) (φ := φ) (arr (n := n) (m := m) fun i j => 1 + Real.exp (f i j)) = arr fun i j => Real.log (1 + Real.exp (f i j)) :=
  log_arr _ fun _ _ => add_pos one_pos (Real.exp_pos _)
@[rclike_simps] theorem div_1024 (f : ℕ → ℕ → ℝ) :
    divf (F := Ideal) (φ := φ) (arr (n := n) (m := m) f) (arr fun _ _ => 1024) = arr fun i j => f i j / 1024 :=
  divf_arr _ _ fun _ _ => by norm_num
@[rclike_simps] theorem rsqrt_ms (f : ℕ → ℕ → ℝ) (N : ℕ) :
    rsqrt (F := Ideal) (φ := φ) (arr (n := n) (m := m) fun i _ => (∑ j ∈ Finset.range N, f i j * f i j) / 1024 + eps)
      = arr fun i _ => (Real.sqrt ((∑ j ∈ Finset.range N, f i j * f i j) / 1024 + eps))⁻¹ :=
  rsqrt_arr _ fun _ _ => add_pos_of_nonneg_of_pos (div_nonneg (Finset.sum_nonneg fun _ _ => mul_self_nonneg _) (by norm_num)) eps_pos
/-! ## Reads -/

@[rclike_simps] theorem ld_arr {n' m' : ℕ} (a b : ℕ) (f : ℕ → ℕ → ℝ) (inb) :
    View.ld (Val := Elt Ideal) (e' := .f32) (arr (n := n) (m := m) f) (Rect.unit (s := ⟨2, ![n, m]⟩) ![a, b] ![n', m'] inb)
      = arr (n := n') (m := m') fun i j => f (a + i) (b + j) :=
  (View.ld_unit (S := ⟨2, ![n, m]⟩) _ _ _ _).trans rfl
@[rclike_simps] theorem ld_arr_bf16 {n' m' : ℕ} (a b : ℕ) (f : ℕ → ℕ → ℝ) (inb) :
    View.ld (Val := Elt Ideal) (e' := .bf16) (arr (n := n) (m := m) f) (Rect.unit (s := ⟨2, ![n, m]⟩) ![a, b] ![n', m'] inb)
      = arr (n := n') (m := m') fun i j => f (a + i) (b + j) :=
  (View.ld_unit (S := ⟨2, ![n, m]⟩) _ _ _ _).trans rfl

/-- A block of a matrix, from row `o` on, as a buffer holds it. -/
def tile {n m : ℕ} (o : ℕ) (f : ℕ → ℕ → ℝ) : (⟨2, ![n, m]⟩ : Shape).Idx → EReal := arr fun i j => f (o + i) j
@[rclike_simps] theorem ld_tile {n' m' : ℕ} (o a b : ℕ) (f : ℕ → ℕ → ℝ) (inb) :
    View.ld (Val := Elt Ideal) (e' := .f32) (tile (n := n) (m := m) o f) (Rect.unit (s := ⟨2, ![n, m]⟩) ![a, b] ![n', m'] inb)
      = arr (n := n') (m := m') fun i j => f (o + (a + i)) (b + j) := ld_arr _ _ _ _
@[rclike_simps] theorem ld_tile_bf16 {n' m' : ℕ} (o a b : ℕ) (f : ℕ → ℕ → ℝ) (inb) :
    View.ld (Val := Elt Ideal) (e' := .bf16) (tile (n := n) (m := m) o f) (Rect.unit (s := ⟨2, ![n, m]⟩) ![a, b] ![n', m'] inb)
      = arr (n := n') (m := m') fun i j => f (o + (a + i)) (b + j) := ld_arr_bf16 _ _ _ _
/-- One matrix under a leading axis of length one. -/
def cube {n m : ℕ} (f : ℕ → ℕ → ℝ) : (⟨3, ![1, n, m]⟩ : Shape).Idx → EReal := fun i => ((f (i 1).val (i 2).val : ℝ) : EReal)
@[rclike_simps] theorem ld_cube (f : ℕ → ℕ → ℝ) (inb) :
    View.ld (Val := Elt Ideal) (e' := .f32) (cube (n := n) (m := m) f) (Rect.unit (s := ⟨3, ![1, n, m]⟩) ![0, 0, 0] ![1, n, m] inb) = cube f :=
  View.ld_unit_zero (S := ⟨3, ![1, n, m]⟩) (by funext a; match a with | ⟨0, _⟩ => rfl | ⟨1, _⟩ => rfl | ⟨2, _⟩ => rfl) inb _
@[rclike_simps] theorem cast_cube (f : ℕ → ℕ → ℝ) (h) :
    shapeCast (⟨2, ![n, m]⟩ : Shape) (cube (n := n) (m := m) f) h = arr f := by
  funext j
  refine (shapeCast_apply _ h j (ix3 ⟨0, one_pos⟩ (j 0) (j 1)) ?_).trans rfl
  rw [Shape.rowMajor_val_three, Shape.rowMajor_val_two]; show (0 * n + (j 0).val) * m + (j 1).val = _; rw [zero_mul, zero_add]; rfl

/-- What a buffer holds at an index, after a write that agrees there with `G`. -/
theorem canon_step {Val : EltTy → Type} [∀ e, Nonempty (Val e)] {s : Shape} {e : EltTy} {r : Rect s} {w : r.shape.Idx → Val e}
    {L : List (View.Piece Val s e)} (G : s.Idx → Val e) {y : s.Idx} (hw : ∀ x, w x = G (r.emb x))
    (hL : y ∉ r.set → View.canon L y = G y) : View.canon (⟨r, w⟩ :: L) y = G y := by
  by_cases hy : y ∈ r.set
  · obtain ⟨x, rfl⟩ : ∃ x, r.emb x = y := r.exists_idx_of_mem hy
    rw [View.canon_cons_emb]; exact hw x
  · rw [View.canon_cons_of_not_mem _ _ hy]; exact hL hy
theorem read_step {Val : EltTy → Type} [∀ e, Nonempty (Val e)] {sig : RefSig} {κ : Kind} {sp : Space} {s : Shape} {e : EltTy} (v : View sig κ sp s e)
    (f : v.ty.Contents Val) {r : Rect s} {w : r.shape.Idx → Val e} {L : List (View.Piece Val s e)} (G : s.Idx → Val e) {y : s.Idx}
    (hw : ∀ x, w x = G (r.emb x)) (hL : y ∉ r.set → v.read Val (v.writes Val f L) y = G y) :
    v.read Val (v.writes Val f (⟨r, w⟩ :: L)) y = G y := by
  by_cases hy : y ∈ r.set
  · obtain ⟨x, rfl⟩ : ∃ x, r.emb x = y := r.exists_idx_of_mem hy
    rw [View.read_writes_cons_emb]; exact hw x
  · have hy' : y ∉ Finset.univ.map r.emb := by rwa [Rect.map_emb_univ]
    rw [View.writes_cons, View.read_slice_write_of_not_mem r _ _ _ hy']; exact hL hy
theorem emb_unit {n₁ m₁ a b : ℕ} {inb} (f F : ℕ → ℕ → ℝ) (h : ∀ i < n₁, ∀ j < m₁, f i j = F (a + i) (b + j))
    (x : (⟨2, ![n₁, m₁]⟩ : Shape).Idx) :
    arr f x = arr F ((Rect.unit (s := ⟨2, ![n, m]⟩) ![a, b] ![n₁, m₁] inb).emb x) := by
  refine (congrArg (fun r : ℝ => (r : EReal)) (h _ (x 0).isLt _ (x 1).isLt)).trans ?_
  show ((F _ _ : ℝ) : EReal) = ((F (a + 1 * (x 0).val) (b + 1 * (x 1).val) : ℝ) : EReal)
  rw [one_mul, one_mul]
theorem not_mem_unit {n₁ m₁ a b : ℕ} {inb} {y : (⟨2, ![n, m]⟩ : Shape).Idx}
    (h : y ∉ (Rect.unit (s := ⟨2, ![n, m]⟩) ![a, b] ![n₁, m₁] inb).set) :
    ¬ ((a ≤ (y 0).val ∧ (y 0).val < a + n₁) ∧ b ≤ (y 1).val ∧ (y 1).val < b + m₁) := by
  rw [Rect.mem_set_unit] at h
  exact fun h' => h fun i => by match i with | ⟨0, _⟩ => exact h'.1 | ⟨1, _⟩ => exact h'.2

/-- A read of a buffer whose last write covers it, and one that the last write misses. -/
@[rclike_simps] theorem readCov_hit {sig : RefSig} {κ : Kind} {sp : Space} {n₁ m₁ n₂ m₂ a b a' b' : ℕ} {inb inb'}
    (v : View sig κ sp ⟨2, ![n, m]⟩ .f32) (f : ℕ → ℕ → ℝ) (L)
    (h : (a ≤ a' ∧ a' + n₂ ≤ a + n₁) ∧ b ≤ b' ∧ b' + m₂ ≤ b + m₁) :
    v.readCov (Val := Elt Ideal) (⟨Rect.unit (s := ⟨2, ![n, m]⟩) ![a, b] ![n₁, m₁] inb, arr (n := n₁) (m := m₁) f⟩ :: L)
      (Rect.unit (s := ⟨2, ![n, m]⟩) ![a', b'] ![n₂, m₂] inb').toLoadRect
        = arr (n := n₂) (m := m₂) fun i j => f (a' - a + i) (b' - b + j) := by
  rw [View.readCov_eq_canon']
  funext j
  have h0 : (j 0).val < n₂ := (j 0).isLt
  have h1 : (j 1).val < m₂ := (j 1).isLt
  refine (canon_step (arr fun i k => f (i - a) (k - b)) (emb_unit _ _ fun i _ k _ => by simp) fun hy => ?_).trans ?_
  · refine absurd ?_ (not_mem_unit hy)
    show (a ≤ a' + 1 * (j 0).val ∧ a' + 1 * (j 0).val < a + n₁) ∧ b ≤ b' + 1 * (j 1).val ∧ b' + 1 * (j 1).val < b + m₁
    omega
  · show ((f (a' + 1 * (j 0).val - a) (b' + 1 * (j 1).val - b) : ℝ) : EReal) = ((f (a' - a + (j 0).val) (b' - b + (j 1).val) : ℝ) : EReal)
    rw [show a' + 1 * (j 0).val - a = a' - a + (j 0).val by omega, show b' + 1 * (j 1).val - b = b' - b + (j 1).val by omega]
@[rclike_simps] theorem readCov_miss {sig : RefSig} {κ : Kind} {sp : Space} {n₁ m₁ n₂ m₂ a b a' b' : ℕ} {inb inb'}
    (v : View sig κ sp ⟨2, ![n, m]⟩ .f32) (w) (L) (h : a' + n₂ ≤ a ∨ a + n₁ ≤ a' ∨ b' + m₂ ≤ b ∨ b + m₁ ≤ b') :
    v.readCov (Val := Elt Ideal) (⟨Rect.unit (s := ⟨2, ![n, m]⟩) ![a, b] ![n₁, m₁] inb, w⟩ :: L)
      (Rect.unit (s := ⟨2, ![n, m]⟩) ![a', b'] ![n₂, m₂] inb').toLoadRect
        = v.readCov L (Rect.unit (s := ⟨2, ![n, m]⟩) ![a', b'] ![n₂, m₂] inb').toLoadRect := by
  rw [View.readCov_eq_canon', View.readCov_eq_canon']
  funext j
  have h0 : (j 0).val < n₂ := (j 0).isLt
  have h1 : (j 1).val < m₂ := (j 1).isLt
  refine View.canon_cons_of_not_mem _ L fun hy => ?_
  rw [Rect.mem_set_unit] at hy
  have e0 : a ≤ a' + 1 * (j 0).val ∧ a' + 1 * (j 0).val < a + n₁ := hy 0
  have e1 : b ≤ b' + 1 * (j 1).val ∧ b' + 1 * (j 1).val < b + m₁ := hy 1
  omega

/-! ## Sums -/

@[rclike_simps] theorem sum_pick {N h : ℕ} (hh : h < N) (f : ℕ → ℝ) : (∑ l ∈ Finset.range N, if l = h then f l else 0) = f h := by
  rw [Finset.sum_ite_eq' (Finset.range N) h f, if_pos (Finset.mem_range.mpr hh)]
@[rclike_simps] theorem sum_low (f g : ℕ → ℝ) :
    (∑ l ∈ Finset.range 128, (if l < 64 then f l else 0) * g l) = ∑ q ∈ Finset.range 64, f q * g q := by
  rw [show 128 = 64 + 64 from rfl, Finset.sum_range_add]
  refine (congrArg₂ (· + ·) (Finset.sum_congr rfl fun q hq => by rw [if_pos (Finset.mem_range.mp hq)])
    (Finset.sum_eq_zero fun q _ => by rw [if_neg (by omega), zero_mul])).trans (add_zero _)
@[rclike_simps] theorem sum_high (f g : ℕ → ℝ) :
    (∑ l ∈ Finset.range 128, (if 64 ≤ l then f l else 0) * g l) = ∑ q ∈ Finset.range 64, f (64 + q) * g (64 + q) := by
  rw [show 128 = 64 + 64 from rfl, Finset.sum_range_add]
  refine (congrArg₂ (· + ·) (Finset.sum_eq_zero fun q hq => by
      rw [if_neg (by have := Finset.mem_range.mp hq; omega), zero_mul])
    (Finset.sum_congr rfl fun q _ => by rw [if_pos (by omega)])).trans (zero_add _)
/-- A matrix times the heads' expansion: the head of the channel. -/
@[rclike_simps] theorem expand_row {ch : ℕ} (f : ℕ → ℝ) (h : ch / 64 < 128) :
    (∑ l ∈ Finset.range 128, f l * if l = ch / 64 then 1 else 0) = f (ch / 64) := by
  simp only [mul_ite, mul_one, mul_zero]; exact sum_pick h f
/-- A matrix times the expansion's transpose: the sum over the channels of the head, for a half of the channels or for all. -/
theorem expand_cols (o N : ℕ) (f : ℕ → ℝ) (h : ℕ) :
    (∑ k ∈ Finset.range (64 * N), f (64 * o + k) * if h = (64 * o + k) / 64 then 1 else 0) = if o ≤ h ∧ h < o + N then hs f h else 0 := by
  induction N with
  | zero => rw [if_neg (by omega)]; rfl
  | succ N ih =>
    rw [Nat.mul_succ, Finset.sum_range_add, ih]
    have e : ∀ q ∈ Finset.range 64, (f (64 * o + (64 * N + q)) * if h = (64 * o + (64 * N + q)) / 64 then 1 else 0)
        = if h = o + N then f (64 * h + q) else 0 := fun q hq => by
      have hq := Finset.mem_range.mp hq
      rw [show (64 * o + (64 * N + q)) / 64 = o + N by omega]
      by_cases hh : h = o + N
      · subst hh; simp [Nat.mul_add, Nat.add_assoc]
      · simp [hh]
    rw [Finset.sum_congr rfl e]
    by_cases hh : h = o + N
    · subst hh; rw [if_neg (by omega), if_pos (by omega)]; simp [hs]
    · rw [Finset.sum_congr rfl fun q _ => if_neg hh, Finset.sum_const_zero, add_zero]
      exact if_congr (by omega) rfl rfl

end Cert.Proof.Ssd

end
-- ==== Proof.SsdPoint.lean ====
/- One point of the kernel of the state-space scan's gradient, on blocks of real numbers: what each of its values is. -/
module

public import proofs.«01_k».proof.Proof.SsdOps
public import proofs.«01_k».proof.Proof.Gen.SsdKernelIdeal.Frame

@[expose] public section

noncomputable section

namespace Cert.Proof.Ssd.Point

open Idealize.ShloMosaic Idealize.ShloMosaic.ValueIdx
open Cert.SsdKernelIdeal Cert.SsdKernelIdeal.Gen Cert.SsdKernelIdeal.Gen.kernelRun0_B
open scoped BigOperators

@[rclike_simps] theorem dot_plain : dot_S128x128_S128x128_S128x128_1_0_0_1_n_n = DotDims.plain 128 128 128 := rfl
@[rclike_simps] theorem dot_expand : dot_S128x128_S128x1024_S128x1024_1_0_0_1_n_n = DotDims.plain 128 128 1024 := rfl
@[rclike_simps] theorem dot_half : dot_S128x128_S128x512_S128x512_1_0_0_1_n_n = DotDims.plain 128 128 512 := rfl
@[rclike_simps] theorem dot_right : dot_S128x128_S128x128_S128x128_1_1_0_0_n_n = DotDims.transposedRhs 128 128 128 := rfl
@[rclike_simps] theorem dot_right_half : dot_S128x512_S128x512_S128x128_1_1_0_0_n_n = DotDims.transposedRhs 128 512 128 := rfl
@[rclike_simps] theorem dot_right_whole : dot_S128x1024_S128x1024_S128x128_1_1_0_0_n_n = DotDims.transposedRhs 128 1024 128 := rfl
@[rclike_simps] theorem dot_left (f g : ℕ → ℕ → ℝ) {φ₁ φ₂ : FTy} (prec) :
    matmul (F := Ideal) (φ₁ := φ₁) (φ₂ := φ₂) dot_S128x128_S128x128_S128x128_0_0_1_1_n_n prec (arr f) (arr g) (arr fun _ _ => 0)
      = arr fun i j => ∑ q ∈ Finset.range 128, f q i * g q j := matmul_left _ rfl rfl rfl rfl rfl rfl f g prec
@[rclike_simps] theorem dot_left_half (f g : ℕ → ℕ → ℝ) {φ₁ φ₂ : FTy} (prec) :
    matmul (F := Ideal) (φ₁ := φ₁) (φ₂ := φ₂) dot_S128x128_S128x512_S128x512_0_0_1_1_n_n prec (arr f) (arr g) (arr fun _ _ => 0)
      = arr fun i j => ∑ q ∈ Finset.range 128, f q i * g q j := matmul_left _ rfl rfl rfl rfl rfl rfl f g prec
@[rclike_simps] theorem exp_masked (q : ℕ → ℕ → Prop) [∀ i j, Decidable (q i j)] (f : ℕ → ℕ → ℝ) :
    exp (F := Ideal) (select (mask (n := 128) (m := 128) q) (arr f)
      (broadcast S128x128 (Named.named (F := Ideal) κ "mask" (φ := .f32) 0xF149F2CA#32))) = arr fun i j => if q i j then Real.exp (f i j) else 0 :=
  exp_select_bot q f κ _ rfl

attribute [rclike_simps] matmul_plain matmul_right View.readAt_eq_ld Memref.IsWhole.read_unread zero_add add_zero zero_sub sub_self zero_mul
  mul_zero ne_eq not_false_eq_true Finset.sum_const_zero one_mul

/-- The heads' expansion: a one where the column is a channel of the row's head. -/
def expand (h ch : ℕ) : ℝ := if h = ch / 64 then 1 else 0

/-- The softplus never takes its series. -/
def Tame (p : In) : Prop := ∀ t j, tiny ≤ Real.exp (-|p.pre t j|)

attribute [rclike_simps] sl.v6 sl.v19 sl.v17 sl.v13 sl.cst sl.v15 sl.v14 sl.v8 sl.v21 sl.v10 sl.v42 sl.v24 sl.cst_12 sl.v40 sl.v28 sl.v26 sl.v25 sl.v23 sl.v27 sl.cst_13 sl.v36 sl.v35 sl.v34 sl.cst_16 sl.v33 sl.v32 sl.v31 sl.v30 sl.v29 sl.cst_14 sl.v39 sl.v38 sl.v45 sl.v44 sl.v12 sl.v65 sl.v62 sl.v52 sl.v51 sl.v50 sl.v47 sl.v48 sl.v55 sl.v54 sl.v53 sl.cst_20 sl.v63 sl.v58 sl.v57 sl.v56 sl.v64 sl.v61 sl.v60 sl.v59 sl.v76 sl.v75 sl.v73 sl.v72 sl.v71 sl.v68 sl.v83 sl.v79 sl.v4 sl.cst_25 sl.v84 sl.v82 sl.v81 sl.v80 sl.v90 sl.v86 sl.v91 sl.v89 sl.v88 sl.v87 sl.v97 sl.v93 sl.v98 sl.v96 sl.v95 sl.v94 sl.v104 sl.v106 sl.v103 sl.v116 sl.v114 sl.v110 sl.v112 sl.v111 sl.v119 sl.v127 sl.v125 sl.v123 sl.v122 sl.v121 sl.v124 sl.cst_41 sl.v126 sl.cst_42 sl.v143 sl.v133 sl.v141 sl.v140 sl.v154 sl.v147 sl.v146 sl.v145 sl.v144 sl.v153 sl.v152 sl.v150 sl.v149 sl.v148 sl.v163 sl.v156 sl.v162 sl.v161 sl.v157 sl.v159 sl.r sl.v158

variable (p : In) (k : ℕ) (hsp : Tame p) (d : Dev nD)
  {arg1 : Memref sig .tc .vmem S128x1024 .f32} (harg1 : arg1.IsWhole)
  {arg2 : Memref sig .tc .vmem S128x1024 .f32} (harg2 : arg2.IsWhole)
  {arg3 : Memref sig .tc .vmem S128x1536 .f32} (harg3 : arg3.IsWhole)
  {arg4 : Memref sig .tc .vmem S128x128 .f32} (harg4 : arg4.IsWhole)
  {arg5 : Memref sig .tc .vmem S128x1536 .f32} (harg5 : arg5.IsWhole)
  {arg6 : Memref sig .tc .vmem S128x1024 .f32} (harg6 : arg6.IsWhole)
  {arg7 : Memref sig .tc .vmem S1x128x1024 .f32} (harg7 : arg7.IsWhole)
  {arg8 : Memref sig .tc .vmem S4x1536 .f32} (harg8 : arg8.IsWhole)
  {arg9 : Memref sig .tc .vmem S1x128 .f32} (harg9 : arg9.IsWhole)
  {arg10 : Memref sig .tc .vmem S1x128 .f32} (harg10 : arg10.IsWhole)
  {arg11 : Memref sig .tc .vmem S1x1024 .f32} (harg11 : arg11.IsWhole)
  {arg12 : Memref sig .tc .vmem S1x1024 .f32} (harg12 : arg12.IsWhole)
  {arg13 : Memref sig .tc .vmem S128x1024 .bf16} (harg13 : arg13.IsWhole)
  {arg14 : Memref sig .tc .vmem S128x2560 .bf16} (harg14 : arg14.IsWhole)
  {arg15 : Memref sig .tc .vmem S128x128 .bf16} (harg15 : arg15.IsWhole)
  {arg16 : Memref sig .tc .vmem S4x1536 .f32} (harg16 : arg16.IsWhole)
  {arg17 : Memref sig .tc .vmem S1x1536 .f32} (harg17 : arg17.IsWhole)
  {arg18 : Memref sig .tc .vmem S1x128 .f32} (harg18 : arg18.IsWhole)
  {arg19 : Memref sig .tc .vmem S1x128 .f32} (harg19 : arg19.IsWhole)
  {arg20 : Memref sig .tc .vmem S1x1024 .f32} (harg20 : arg20.IsWhole)
  {arg21 : Memref sig .tc .vmem S1x1024 .f32} (harg21 : arg21.IsWhole)
  {arg22 : Memref sig .tc .vmem S128x1024 .f32} (harg22 : arg22.IsWhole)
  {arg23 : Memref sig .tc .vmem S8x1536 .f32} (harg23 : arg23.IsWhole)
  {arg24 : Memref sig .tc .vmem S128x1024 .f32} (harg24 : arg24.IsWhole)
  {arg25 : Memref sig .tc .vmem S128x1536 .f32} (harg25 : arg25.IsWhole)
  {arg26 : Memref sig .tc .vmem S128x128 .f32} (harg26 : arg26.IsWhole)
  {arg27 : Memref sig .tc .vmem S128x128 .f32} (harg27 : arg27.IsWhole)
include hsp

@[rclike_simps] theorem k_v20 : sl.v20 (F := Ideal) d _ harg5 (tile (128 * k) p.XC) = arr fun i j => p.u (128 * k + i) j := by
  simp only [rclike_simps, Nat.reduceLT, Nat.reduceEqDiff, Nat.reduceLeDiff, Nat.reduceAdd, Nat.reduceSub, Nat.reduceMul, Nat.reduceMod, BitVec.toNat_ofNat, hsp, sl.v20]
  rfl
@[rclike_simps] theorem k_v22 : sl.v22 (F := Ideal) d _ harg4 _ harg9 (tile (128 * k) p.Dt) (tile 0 p.Bias) = arr fun i j => p.pre (128 * k + i) j := by
  simp only [rclike_simps, Nat.reduceLT, Nat.reduceEqDiff, Nat.reduceLeDiff, Nat.reduceAdd, Nat.reduceSub, Nat.reduceMul, Nat.reduceMod, BitVec.toNat_ofNat, hsp, sl.v22]
  rfl
@[rclike_simps] theorem k_v43 : sl.v43 (F := Ideal) d _ harg4 _ harg9 (tile (128 * k) p.Dt) (tile 0 p.Bias) = arr fun i j => p.dt (128 * k + i) j := by
  simp only [rclike_simps, Nat.reduceLT, Nat.reduceEqDiff, Nat.reduceLeDiff, Nat.reduceAdd, Nat.reduceSub, Nat.reduceMul, Nat.reduceMod, BitVec.toNat_ofNat, hsp, series_skip _ _ _ fun i j => hsp (128 * k + i) j, sl.v43]
  rfl
@[rclike_simps] theorem k_v46 : sl.v46 (F := Ideal) d _ harg10 (tile 0 p.Al) = arr fun _ j => p.A j := by
  simp only [rclike_simps, Nat.reduceLT, Nat.reduceEqDiff, Nat.reduceLeDiff, Nat.reduceAdd, Nat.reduceSub, Nat.reduceMul, Nat.reduceMod, BitVec.toNat_ofNat, hsp, sl.v46]
  refine arr_congr fun i hi j _ => ?_
  obtain rfl : i = 0 := by omega
  rfl
@[rclike_simps] theorem k_v66 : sl.v66 (F := Ideal) d _ harg4 _ harg9 _ harg10 (tile (128 * k) p.Dt) (tile 0 p.Bias) (tile 0 p.Al) = arr (p.cs k) := by
  simp only [rclike_simps, Nat.reduceLT, Nat.reduceEqDiff, Nat.reduceLeDiff, Nat.reduceAdd, Nat.reduceSub, Nat.reduceMul, Nat.reduceMod, BitVec.toNat_ofNat, hsp, sl.v66]
  rfl
@[rclike_simps] theorem k_v74 : sl.v74 (F := Ideal) d _ harg4 _ harg9 _ harg10 (tile (128 * k) p.Dt) (tile 0 p.Bias) (tile 0 p.Al) = arr (p.ecs k) := by
  simp only [rclike_simps, Nat.reduceLT, Nat.reduceEqDiff, Nat.reduceLeDiff, Nat.reduceAdd, Nat.reduceSub, Nat.reduceMul, Nat.reduceMod, BitVec.toNat_ofNat, hsp, sl.v74]
  rfl
@[rclike_simps] theorem k_v77 : sl.v77 (F := Ideal) d _ harg4 _ harg9 _ harg10 (tile (128 * k) p.Dt) (tile 0 p.Bias) (tile 0 p.Al) = arr (p.dec k) := by
  simp only [rclike_simps, Nat.reduceLT, Nat.reduceEqDiff, Nat.reduceLeDiff, Nat.reduceAdd, Nat.reduceSub, Nat.reduceMul, Nat.reduceMod, BitVec.toNat_ofNat, hsp, sl.v77]
  rfl
@[rclike_simps] theorem k_v85 : sl.v85 (F := Ideal) d _ harg4 _ harg9 _ harg13 (tile (128 * k) p.Dt) (tile 0 p.Bias) (tile 0 expand) = arr fun i ch => p.dt (128 * k + i) (ch / 64) := by
  simp only [rclike_simps, Nat.reduceLT, Nat.reduceEqDiff, Nat.reduceLeDiff, Nat.reduceAdd, Nat.reduceSub, Nat.reduceMul, Nat.reduceMod, BitVec.toNat_ofNat, hsp, sl.v85]
  refine arr_congr fun i _ ch hch => ?_
  exact expand_row (fun l => p.dt (128 * k + i) l) (by omega)
@[rclike_simps] theorem k_v92 : sl.v92 (F := Ideal) d _ harg4 _ harg9 _ harg10 _ harg13 (tile (128 * k) p.Dt) (tile 0 p.Bias) (tile 0 p.Al) (tile 0 expand) = arr fun i ch => p.ecs k i (ch / 64) := by
  simp only [rclike_simps, Nat.reduceLT, Nat.reduceEqDiff, Nat.reduceLeDiff, Nat.reduceAdd, Nat.reduceSub, Nat.reduceMul, Nat.reduceMod, BitVec.toNat_ofNat, hsp, sl.v92]
  refine arr_congr fun i _ ch hch => ?_
  exact expand_row (fun l => p.ecs k i l) (by omega)
@[rclike_simps] theorem k_v99 : sl.v99 (F := Ideal) d _ harg4 _ harg9 _ harg10 _ harg13 (tile (128 * k) p.Dt) (tile 0 p.Bias) (tile 0 p.Al) (tile 0 expand) = arr fun i ch => p.dec k i (ch / 64) := by
  simp only [rclike_simps, Nat.reduceLT, Nat.reduceEqDiff, Nat.reduceLeDiff, Nat.reduceAdd, Nat.reduceSub, Nat.reduceMul, Nat.reduceMod, BitVec.toNat_ofNat, hsp, sl.v99]
  refine arr_congr fun i _ ch hch => ?_
  exact expand_row (fun l => p.dec k i l) (by omega)
@[rclike_simps] theorem k_v105 : sl.v105 (F := Ideal) d _ harg5 (tile (128 * k) p.XC) = arr fun i n => p.B (128 * k + i) n := by
  simp only [rclike_simps, Nat.reduceLT, Nat.reduceEqDiff, Nat.reduceLeDiff, Nat.reduceAdd, Nat.reduceSub, Nat.reduceMul, Nat.reduceMod, BitVec.toNat_ofNat, hsp, sl.v105]
  rfl
@[rclike_simps] theorem k_v107 : sl.v107 (F := Ideal) d _ harg5 (tile (128 * k) p.XC) = arr fun i n => p.C (128 * k + i) n := by
  simp only [rclike_simps, Nat.reduceLT, Nat.reduceEqDiff, Nat.reduceLeDiff, Nat.reduceAdd, Nat.reduceSub, Nat.reduceMul, Nat.reduceMod, BitVec.toNat_ofNat, hsp, sl.v107]
  rfl
@[rclike_simps] theorem k_v108 : sl.v108 (F := Ideal) d _ harg4 _ harg5 _ harg9 _ harg13 (tile (128 * k) p.Dt) (tile (128 * k) p.XC) (tile 0 p.Bias) (tile 0 expand) = arr fun i ch => p.X (128 * k + i) ch := by
  simp only [rclike_simps, Nat.reduceLT, Nat.reduceEqDiff, Nat.reduceLeDiff, Nat.reduceAdd, Nat.reduceSub, Nat.reduceMul, Nat.reduceMod, BitVec.toNat_ofNat, hsp, sl.v108]
  rfl
@[rclike_simps] theorem k_v117 : sl.v117 (F := Ideal) d _ harg2 (tile (128 * k) p.z) = arr fun i ch => p.z (128 * k + i) ch * sg (p.z (128 * k + i) ch) := by
  simp only [rclike_simps, Nat.reduceLT, Nat.reduceEqDiff, Nat.reduceLeDiff, Nat.reduceAdd, Nat.reduceSub, Nat.reduceMul, Nat.reduceMod, BitVec.toNat_ofNat, hsp, sl.v117]
@[rclike_simps] theorem k_v120 : sl.v120 (F := Ideal) d _ harg2 _ harg6 (tile (128 * k) p.z) (tile (128 * k) p.Y) = arr fun i ch => p.q (128 * k + i) ch := by
  simp only [rclike_simps, Nat.reduceLT, Nat.reduceEqDiff, Nat.reduceLeDiff, Nat.reduceAdd, Nat.reduceSub, Nat.reduceMul, Nat.reduceMod, BitVec.toNat_ofNat, hsp, sl.v120]
  rfl
@[rclike_simps] theorem k_v128 : sl.v128 (F := Ideal) d _ harg2 _ harg6 (tile (128 * k) p.z) (tile (128 * k) p.Y) = arr fun i _ => p.rn (128 * k + i) := by
  simp only [rclike_simps, Nat.reduceLT, Nat.reduceEqDiff, Nat.reduceLeDiff, Nat.reduceAdd, Nat.reduceSub, Nat.reduceMul, Nat.reduceMod, BitVec.toNat_ofNat, hsp, sl.v128]
  rfl
@[rclike_simps] theorem k_v155 : sl.v155 (F := Ideal) d _ harg1 _ harg2 _ harg6 _ harg12 (tile (128 * k) p.Ct) (tile (128 * k) p.z) (tile (128 * k) p.Y) (tile 0 p.G) = arr fun i ch => p.dq (128 * k + i) ch := by
  simp only [rclike_simps, Nat.reduceLT, Nat.reduceEqDiff, Nat.reduceLeDiff, Nat.reduceAdd, Nat.reduceSub, Nat.reduceMul, Nat.reduceMod, BitVec.toNat_ofNat, hsp, sl.v155]
  refine arr_congr fun i _ ch _ => ?_
  simp only [In.dq]
@[rclike_simps] theorem k_v166 : sl.v166 (F := Ideal) d _ harg1 _ harg2 _ harg6 _ harg12 (tile (128 * k) p.Ct) (tile (128 * k) p.z) (tile (128 * k) p.Y) (tile 0 p.G) = arr fun i ch => p.dY (128 * k + i) ch := by
  simp only [rclike_simps, Nat.reduceLT, Nat.reduceEqDiff, Nat.reduceLeDiff, Nat.reduceAdd, Nat.reduceSub, Nat.reduceMul, Nat.reduceMod, BitVec.toNat_ofNat, hsp, sl.v166]
  rfl
@[rclike_simps] theorem k_v164 : sl.v164 (F := Ideal) d _ harg1 _ harg2 _ harg6 _ harg12 (tile (128 * k) p.Ct) (tile (128 * k) p.z) (tile (128 * k) p.Y) (tile 0 p.G) = arr fun i ch => p.dz (128 * k + i) ch := by
  simp only [rclike_simps, Nat.reduceLT, Nat.reduceEqDiff, Nat.reduceLeDiff, Nat.reduceAdd, Nat.reduceSub, Nat.reduceMul, Nat.reduceMod, BitVec.toNat_ofNat, hsp, sl.v164]
  rfl

end Cert.Proof.Ssd.Point

end
-- ==== Proof.SsdIn.lean ====
/- The real numbers behind finite arguments of the state-space scan, with what its forward pass saves. -/
module

public import proofs.«01_k».proof.Proof.SsdRead
public import proofs.«01_k».proof.Proof.SsdPoint
public import proofs.«01_k».proof.Proof.Lift
public import proofs.«01_k».proof.Proof.Gen.Pre_ssd_finite

@[expose] public section

noncomputable section

namespace Cert.Proof.Ssd

open Idealize.ShloMosaic Idealize.ShloMosaic.ValueIdx
open Cert.Proof.Ssd.Point (Tame)
open scoped BigOperators

set_option backward.proofsInPublic true in
def at2 {a b : ℕ} (i j : ℕ) (hi : i < a) (hj : j < b) : (⟨2, ![a, b]⟩ : Shape).Idx := fun k => match k with
  | ⟨0, _⟩ => ⟨i, hi⟩
  | ⟨1, _⟩ => ⟨j, hj⟩
theorem at2_self {a b : ℕ} (i : (⟨2, ![a, b]⟩ : Shape).Idx) {h0 : (i 0).val < a} {h1 : (i 1).val < b} : at2 (i 0).val (i 1).val h0 h1 = i :=
  funext fun k => match k with
  | ⟨0, _⟩ => rfl
  | ⟨1, _⟩ => rfl

/-- An array's real entries, zero outside. -/
def un2 {a b : ℕ} (x : (⟨2, ![a, b]⟩ : Shape).Idx → EReal) (i j : ℕ) : ℝ :=
  if h : i < a ∧ j < b then (x (at2 i j h.1 h.2)).toReal else 0
theorem un2_at {a b : ℕ} {x : (⟨2, ![a, b]⟩ : Shape).Idx → EReal} (h : IsReal (φ := .f32) x) (i : (⟨2, ![a, b]⟩ : Shape).Idx) :
    x i = ((un2 x (i 0).val (i 1).val : ℝ) : EReal) := by
  obtain ⟨X, rfl⟩ := h
  refine congrArg (fun r : ℝ => (r : EReal)) (Eq.symm ?_ : X i = un2 (lift X) (i 0).val (i 1).val)
  have h0 : (i 0).val < a := (i 0).isLt
  have h1 : (i 1).val < b := (i 1).isLt
  refine (dif_pos ⟨h0, h1⟩).trans ?_
  rw [at2_self]
  exact EReal.toReal_coe _
theorem un2_out {a b : ℕ} (x : (⟨2, ![a, b]⟩ : Shape).Idx → EReal) {i j : ℕ} (h : ¬(i < a ∧ j < b)) : un2 x i j = 0 := dif_neg h

/-- The arguments of a block. -/
structure Arrs where
  x0 : (⟨2, ![8192, 4608]⟩ : Shape).Idx → EReal
  x1 : (⟨2, ![8192, 16]⟩ : Shape).Idx → EReal
  x2 : (⟨2, ![4, 1536]⟩ : Shape).Idx → EReal
  x3 : (⟨2, ![1, 1536]⟩ : Shape).Idx → EReal
  x4 : (⟨2, ![1, 16]⟩ : Shape).Idx → EReal
  x5 : (⟨2, ![1, 16]⟩ : Shape).Idx → EReal
  x6 : (⟨2, ![1, 16]⟩ : Shape).Idx → EReal
  x7 : (⟨2, ![1, 1024]⟩ : Shape).Idx → EReal
  x8 : (⟨2, ![8192, 1024]⟩ : Shape).Idx → EReal

namespace Arrs

variable (x : Arrs)

/-- The arguments alone; outside the arrays the steps' argument of the softplus is zero. -/
def in0 : In where
  P t ch := un2 x.x0 t (2048 + ch)
  Dt t j := if t < 8192 then un2 x.x1 t j else -un2 x.x4 0 j
  Wc := un2 x.x2
  Bc := un2 x.x3
  Bias := un2 x.x4
  Al := un2 x.x5
  D := un2 x.x6
  G := un2 x.x7
  Ct := un2 x.x8
  XC _ _ := 0
  Y _ _ := 0
  S _ _ _ := 0
/-- With the convolution, the states and the outputs of the forward pass. -/
def in1 : In := { x.in0 with
  XC := fun t ch => x.in0.Bc 0 ch + x.in0.xs 0 t ch * x.in0.Wc 0 ch + x.in0.xs 1 t ch * x.in0.Wc 1 ch + x.in0.xs 2 t ch * x.in0.Wc 2 ch
    + x.in0.xs 3 t ch * x.in0.Wc 3 ch }
def in2 : In := { x.in1 with S := fun c n ch => ∑ j ∈ Finset.range 65, x.in1.st' j n ch * x.in1.dcy (ch / 64) c j }
def inp : In := { x.in2 with
  Y := fun t ch => x.in2.yd (t / 128) (t % 128) ch + x.in2.ecs (t / 128) (t % 128) (ch / 64) * x.in2.CS (t / 128) (t % 128) ch
    + x.in2.D 0 (ch / 64) * x.in2.u t ch }

theorem fwd : x.inp.Fwd := ⟨fun _ _ => rfl, fun _ _ _ => rfl, fun _ _ => rfl⟩

/-- What the precondition says. -/
structure Good : Prop where
  r0 : ∀ i : (⟨2, ![8192, 4608]⟩ : Shape).Idx, 2048 ≤ (i 1).val → ∃ r : ℝ, x.x0 i = ((r : ℝ) : EReal)
  r1 : IsReal (φ := .f32) x.x1
  r2 : IsReal (φ := .f32) x.x2
  r3 : IsReal (φ := .f32) x.x3
  r4 : IsReal (φ := .f32) x.x4
  r5 : IsReal (φ := .f32) x.x5
  r6 : IsReal (φ := .f32) x.x6
  r7 : IsReal (φ := .f32) x.x7
  r8 : IsReal (φ := .f32) x.x8
  tame : ∀ i : (⟨2, ![8192, 16]⟩ : Shape).Idx, tiny ≤ Real.exp (-|x.inp.pre (i 0).val (i 1).val|)

variable {x} (h : x.Good)
include h

theorem Good.i0 (i : (⟨2, ![8192, 4608]⟩ : Shape).Idx) (hi : 2048 ≤ (i 1).val) :
    x.x0 i = ((x.inp.P (i 0).val ((i 1).val - 2048) : ℝ) : EReal) := by
  obtain ⟨r, hr⟩ := h.r0 i hi
  have e : x.inp.P (i 0).val ((i 1).val - 2048) = un2 x.x0 (i 0).val (2048 + ((i 1).val - 2048)) := rfl
  rw [e, show 2048 + ((i 1).val - 2048) = (i 1).val by omega]
  have h0 : (i 0).val < 8192 := (i 0).isLt
  have h1 : (i 1).val < 4608 := (i 1).isLt
  rw [hr]
  refine congrArg _ (Eq.symm ((dif_pos ⟨h0, h1⟩).trans ?_))
  rw [at2_self, hr, EReal.toReal_coe]

theorem Good.i1 : x.x1 = t2 x.inp.Dt := funext fun i => (un2_at h.r1 i).trans (congrArg _ (if_pos (i 0).isLt).symm)

theorem Good.isTame : Tame x.inp := fun t j => by
  by_cases hc : t < 8192 ∧ j < 16
  · exact h.tame (at2 t j hc.1 hc.2)
  · have e : x.inp.pre t j = 0 := by
      show (if t < 8192 then un2 x.x1 t j else -un2 x.x4 0 j) + un2 x.x4 0 j = 0
      split_ifs with ht
      · rw [un2_out _ hc, un2_out _ (show ¬(0 < 1 ∧ j < 16) from fun h' => hc ⟨ht, h'.2⟩), add_zero]
      · exact neg_add_cancel _
    rw [e, abs_zero, neg_zero, Real.exp_zero]
    show (8589935 / 2 ^ 33 : ℝ) ≤ 1
    norm_num

theorem Good.rd : Rd x.inp x.x0 x.x1 x.x2 x.x3 x.x4 x.x5 x.x6 x.x7 x.x8 where
  i0 := h.i0
  i1 := h.i1
  i2 := funext (un2_at h.r2)
  i3 := funext (un2_at h.r3)
  i4 := funext (un2_at h.r4)
  i5 := funext (un2_at h.r5)
  i6 := funext (un2_at h.r6)
  i7 := funext (un2_at h.r7)
  i8 := funext (un2_at h.r8)
  fwd := x.fwd

omit h
theorem dt_out (t j : ℕ) (hj : ¬j < 16) : x.inp.Dt t j = 0 := by
  show (if t < 8192 then un2 x.x1 t j else -un2 x.x4 0 j) = 0
  rw [un2_out _ (fun h' => hj h'.2), un2_out _ (fun h' => hj h'.2), neg_zero, ite_self]
theorem bias_out (t j : ℕ) (hj : ¬j < 16) : x.inp.Bias t j = 0 := un2_out _ fun h' => hj h'.2
theorem al_out (t j : ℕ) (hj : ¬j < 16) : x.inp.Al t j = 0 := un2_out _ fun h' => hj h'.2

/-- The precondition holds of good arguments only. -/
theorem good [Cert.Pre_ssd_finite.Facts] (j : Cert.Pre_ssd_finite.S_.Idx)
    (h : Cert.Pre_ssd_finite.fn (F := Ideal) x.x0 x.x1 x.x2 x.x3 x.x4 x.x5 x.x6 x.x7 x.x8 j = 1#1) : x.Good := by
  unfold Cert.Pre_ssd_finite.fn Cert.Pre_ssd_finite.fn_part1 Cert.Pre_ssd_finite.fn_part2 Cert.Pre_ssd_finite.fn_part3 at h
  obtain ⟨h, ht⟩ := IntOp.andi_eq_one.mp h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  have r1 : IsReal (φ := .f32) x.x1 := isReal_of_all _ _ _ _ _ _ h1
  have r4 : IsReal (φ := .f32) x.x4 := isReal_of_all _ _ _ _ _ _ h4
  obtain ⟨P, hP⟩ := isReal_of_all _ _ _ _ _ _ h0
  refine ⟨fun i hi => ?_, r1, isReal_of_all _ _ _ _ _ _ h2, isReal_of_all _ _ _ _ _ _ h3, r4, isReal_of_all _ _ _ _ _ _ h5,
    isReal_of_all _ _ _ _ _ _ h6, isReal_of_all _ _ _ _ _ _ h7, isReal_of_all _ _ _ _ _ _ h8, fun i => ?_⟩
  · have hb : (i 1).val - 2048 < 2560 := by have := (i 1).isLt; change (i 1).val < 4608 at this; omega
    have e := congrFun hP (at2 (a := 8192) (b := 2560) (i 0).val ((i 1).val - 2048) (i 0).isLt hb)
    refine ⟨_, Eq.trans ?_ e⟩
    refine (extractStridedSlice_apply _ _ _ _ i (fun a => match a with
      | ⟨0, _⟩ => ?_
      | ⟨1, _⟩ => ?_)).symm
    · show (i 0).val = 0 + (i 0).val; omega
    · show (i 1).val = 2048 + ((i 1).val - 2048); omega
  · have e := Host.reduce_andi_all _ _ _ _ _ ht i
    have d : ∀ v : EReal, v = ((x.inp.pre (i 0).val (i 1).val : ℝ) : EReal) →
        Ideal.cmp .oge (Ideal.exp (-(max v (-v)))) (Ideal.ofBits .f32 0x3A83126F#32) = 1#1 → tiny ≤ Real.exp (-|x.inp.pre (i 0).val (i 1).val|) := by
      rintro _ rfl hd
      rw [ofBits_tiny, ← EReal.coe_neg, ← EReal.coe_strictMono.monotone.map_max, ← EReal.coe_neg] at hd
      by_contra hn
      have : ¬((tiny : ℝ) : EReal) ≤ ((Real.exp (-|x.inp.pre (i 0).val (i 1).val|) : ℝ) : EReal) := fun h' => hn (EReal.coe_le_coe_iff.mp h')
      change BitVec.ofBool (decide (((tiny : ℝ) : EReal) ≤ ((Real.exp (-|x.inp.pre (i 0).val (i 1).val|) : ℝ) : EReal))) = 1#1 at hd
      rw [decide_eq_false this] at hd
      exact absurd hd (by decide)
    refine d (x.x1 i + x.x4 (at2 0 (i 1).val Nat.one_pos (i 1).isLt)) ?_ ?_
    · rw [un2_at r1 i, un2_at r4, ← EReal.coe_add]
      exact congrArg _ (congrArg (· + _) (if_pos (i 0).isLt).symm)
    · refine Eq.trans (congrArg (fun v => Ideal.cmp .oge (Ideal.exp (-(max (x.x1 i + v) (-(x.x1 i + v))))) (Ideal.ofBits .f32 0x3A83126F#32)) ?_) e
      exact (broadcastInDim_apply _ _ _ _ _ (fun a => match a with
        | ⟨0, _⟩ => rfl
        | ⟨1, _⟩ => rfl)).symm

end Arrs

end Cert.Proof.Ssd

end
-- ==== Proof.SsdHeads.lean ====
/- The heads of one point: the gradients inside a chunk, head by head, as the kernel sums them. -/
module

public import proofs.«01_k».proof.Proof.SsdPoint

@[expose] public section

noncomputable section

namespace Cert.Proof.Ssd.Point

open Idealize.ShloMosaic Idealize.ShloMosaic.ValueIdx
open Cert.SsdKernelIdeal Cert.SsdKernelIdeal.Gen Cert.SsdKernelIdeal.Gen.kernelRun0_B
open scoped BigOperators

section folds
variable (p : In) (k i j : ℕ)
@[rclike_simps] theorem lam_fold (h : ℕ) : (if j ≤ i then Real.exp (p.cs k i h - p.cs k j h) else 0) = p.lam k h i j := rfl
@[rclike_simps] theorem sc_fold_zero : (∑ n ∈ Finset.range 128, p.C (128 * k + i) n * p.B (128 * k + j) n) = p.sc k 0 i j := by
  simp [In.sc]
@[rclike_simps] theorem sc_fold_one : (∑ n ∈ Finset.range 128, p.C (128 * k + i) (128 + n) * p.B (128 * k + j) (128 + n)) = p.sc k 1 i j := by
  simp [In.sc]
@[rclike_simps] theorem dM_fold_zero : (∑ q ∈ Finset.range 64, p.dY (128 * k + i) q * p.X (128 * k + j) q) = p.dM k 0 i j := by
  simp [In.dM]
@[rclike_simps] theorem dM_fold (o : ℕ) (ho : o % 64 = 0) :
    (∑ q ∈ Finset.range 64, p.dY (128 * k + i) (o + q) * p.X (128 * k + j) (o + q)) = p.dM k (o / 64) i j := by
  simp only [In.dM, show 64 * (o / 64) = o by omega]
@[rclike_simps] theorem W_fold (h g : ℕ) (hg : h / 8 = g) : p.dM k h i j * (p.sc k g i j * p.lam k h i j) = p.W k h i j := by
  subst hg; rfl
@[rclike_simps] theorem dX_fold (o h h' g : ℕ) (eh : h = o / 64) (eh' : h' = h + 1) (eg : g = o / 512) (eo : o % 128 = 0) :
    (arr (n := 128) (m := 128) fun i j => (∑ q ∈ Finset.range 128, p.sc k g q i * p.lam k h q i * if j < 64 then p.dY (128 * k + q) (o + j) else 0)
      + ∑ q ∈ Finset.range 128, p.sc k g q i * p.lam k h' q i * if 64 ≤ j then p.dY (128 * k + q) (o + j) else 0)
      = arr fun i j => p.dXd k i (o + j) := by
  refine arr_congr fun i _ j hj => ?_
  simp only [In.dXd]
  subst eh eh' eg
  by_cases h : j < 64
  · simp only [h, show ¬ 64 ≤ j by omega, if_true, if_false, mul_zero, Finset.sum_const_zero, add_zero, show (o + j) / 64 = o / 64 by omega,
      show (o + j) / 512 = o / 512 by omega]
  · simp only [h, show 64 ≤ j by omega, if_true, if_false, mul_zero, Finset.sum_const_zero, zero_add, show (o + j) / 64 = o / 64 + 1 by omega,
      show (o + j) / 512 = o / 512 by omega]
@[rclike_simps] theorem dX_fold_zero :
    (arr (n := 128) (m := 128) fun i j => (∑ q ∈ Finset.range 128, p.sc k 0 q i * p.lam k 0 q i * if j < 64 then p.dY (128 * k + q) j else 0)
      + ∑ q ∈ Finset.range 128, p.sc k 0 q i * p.lam k 1 q i * if 64 ≤ j then p.dY (128 * k + q) j else 0)
      = arr (p.dXd k) := by
  simpa using dX_fold p k 0 0 1 0 rfl rfl rfl rfl
end folds

/-- A read of 512 columns that four writes of 128 columns cover. -/
theorem readCov_four {κ : Kind} {sp : Space} {b b₁ b₂ b₃ : ℕ} {inb₀ inb₁ inb₂ inb₃ inb}
    (v : View sig κ sp S128x1024 .f32) (F : ℕ → ℕ → ℝ) (L) (e₁ : b₁ = b + 128) (e₂ : b₂ = b + 256) (e₃ : b₃ = b + 384) :
    v.readCov (Val := Elt Ideal) (⟨Rect.unit (s := S128x1024) ![0, b₃] ![128, 128] inb₃, arr (n := 128) (m := 128) fun i j => F i (b₃ + j)⟩
        :: ⟨Rect.unit (s := S128x1024) ![0, b₂] ![128, 128] inb₂, arr (n := 128) (m := 128) fun i j => F i (b₂ + j)⟩
        :: ⟨Rect.unit (s := S128x1024) ![0, b₁] ![128, 128] inb₁, arr (n := 128) (m := 128) fun i j => F i (b₁ + j)⟩
        :: ⟨Rect.unit (s := S128x1024) ![0, b] ![128, 128] inb₀, arr (n := 128) (m := 128) fun i j => F i (b + j)⟩ :: L)
      (Rect.unit (s := S128x1024) ![0, b] ![128, 512] inb).toLoadRect = arr (n := 128) (m := 512) fun i j => F i (b + j) := by
  subst e₁ e₂ e₃
  rw [View.readCov_eq_canon']
  funext j
  have h0 : (j 0).val < 128 := (j 0).isLt
  have h1 : (j 1).val < 512 := (j 1).isLt
  have key : ∀ c, ∀ x : (⟨2, ![128, 128]⟩ : Shape).Idx, ∀ inb, arr (n := 128) (m := 128) (fun i j => F i (c + j)) x
      = arr F ((Rect.unit (s := S128x1024) ![0, c] ![128, 128] inb).emb x) := fun c x inb =>
    emb_unit _ _ (fun i _ k _ => by simp) x
  refine Eq.trans (b := arr F ((Rect.unit (s := S128x1024) ![0, b] ![128, 512] inb).idx j)) ?_ ?_
  · refine canon_step (Val := Elt Ideal) (e := .f32) (s := S128x1024) (arr F) (fun x => key _ x _) fun h3 => ?_
    refine canon_step (Val := Elt Ideal) (e := .f32) (s := S128x1024) (arr F) (fun x => key _ x _) fun h2 => ?_
    refine canon_step (Val := Elt Ideal) (e := .f32) (s := S128x1024) (arr F) (fun x => key _ x _) fun h1' => ?_
    refine canon_step (Val := Elt Ideal) (e := .f32) (s := S128x1024) (arr F) (fun x => key _ x _) fun h0' => absurd ?_ (not_mem_unit h0')
    have a3 := not_mem_unit h3
    have a2 := not_mem_unit h2
    have a1 := not_mem_unit h1'
    have e0 : ((Rect.unit (s := S128x1024) ![0, b] ![128, 512] inb).idx j 0).val = 0 + 1 * (j 0).val := rfl
    have e1 : ((Rect.unit (s := S128x1024) ![0, b] ![128, 512] inb).idx j 1).val = b + 1 * (j 1).val := rfl
    rw [e0, e1] at a3 a2 a1 ⊢
    omega
  · show ((F (0 + 1 * (j 0).val) (b + 1 * (j 1).val) : ℝ) : EReal) = ((F (j 0).val (b + (j 1).val) : ℝ) : EReal)
    rw [zero_add, one_mul, one_mul]
@[rclike_simps] theorem readCov_four_zero {κ : Kind} {sp : Space} {inb₀ inb₁ inb₂ inb₃ inb}
    (v : View sig κ sp S128x1024 .f32) (F : ℕ → ℕ → ℝ) (L) :
    v.readCov (Val := Elt Ideal) (⟨Rect.unit (s := S128x1024) ![0, 384] ![128, 128] inb₃, arr (n := 128) (m := 128) fun i j => F i (384 + j)⟩
        :: ⟨Rect.unit (s := S128x1024) ![0, 256] ![128, 128] inb₂, arr (n := 128) (m := 128) fun i j => F i (256 + j)⟩
        :: ⟨Rect.unit (s := S128x1024) ![0, 128] ![128, 128] inb₁, arr (n := 128) (m := 128) fun i j => F i (128 + j)⟩
        :: ⟨Rect.unit (s := S128x1024) ![0, 0] ![128, 128] inb₀, arr (n := 128) (m := 128) F⟩ :: L)
      (Rect.unit (s := S128x1024) ![0, 0] ![128, 512] inb).toLoadRect = arr (n := 128) (m := 512) F := by
  have h := readCov_four (inb₀ := inb₀) (inb₁ := inb₁) (inb₂ := inb₂) (inb₃ := inb₃) (inb := inb) v F L rfl rfl rfl
  simpa using h
@[rclike_simps] theorem readCov_four_half {κ : Kind} {sp : Space} {inb₀ inb₁ inb₂ inb₃ inb}
    (v : View sig κ sp S128x1024 .f32) (F : ℕ → ℕ → ℝ) (L) :
    v.readCov (Val := Elt Ideal) (⟨Rect.unit (s := S128x1024) ![0, 896] ![128, 128] inb₃, arr (n := 128) (m := 128) fun i j => F i (896 + j)⟩
        :: ⟨Rect.unit (s := S128x1024) ![0, 768] ![128, 128] inb₂, arr (n := 128) (m := 128) fun i j => F i (768 + j)⟩
        :: ⟨Rect.unit (s := S128x1024) ![0, 640] ![128, 128] inb₁, arr (n := 128) (m := 128) fun i j => F i (640 + j)⟩
        :: ⟨Rect.unit (s := S128x1024) ![0, 512] ![128, 128] inb₀, arr (n := 128) (m := 128) fun i j => F i (512 + j)⟩ :: L)
      (Rect.unit (s := S128x1024) ![0, 512] ![128, 512] inb).toLoadRect = arr (n := 128) (m := 512) fun i j => F i (512 + j) :=
  readCov_four v F L rfl rfl rfl

/-- A row written over a block. -/
def setRow (h : ℕ) (w : ℕ → ℝ) (v : (⟨2, ![128, 128]⟩ : Shape).Idx → EReal) : (⟨2, ![128, 128]⟩ : Shape).Idx → EReal :=
  fun i => if (i 0).val = h then (w (i 1).val : ℝ) else v i
@[rclike_simps] theorem setRow_arr (h : ℕ) (w : ℕ → ℝ) (f : ℕ → ℕ → ℝ) : setRow h w (arr f) = arr fun i j => if i = h then w j else f i j := by
  funext i
  show (if (i 0).val = h then ((w (i 1).val : ℝ) : EReal) else ((f (i 0).val (i 1).val : ℝ) : EReal)) = ((if (i 0).val = h then _ else _ : ℝ) : EReal)
  split_ifs <;> rfl
@[rclike_simps] theorem setRow_tile (h : ℕ) (w : ℕ → ℝ) (f : ℕ → ℕ → ℝ) :
    setRow h w (tile 0 f) = arr fun i j => if i = h then w j else f i j := by
  rw [← setRow_arr]; exact congrArg _ (arr_congr fun i _ j _ => by rw [zero_add])
@[rclike_simps] theorem read_row {κ : Kind} {sp : Space} {h : ℕ} {inb} (v : View sig κ sp S128x128 .f32) (f) (w : ℕ → ℕ → ℝ) (L) :
    v.read (Elt Ideal) (v.writes (Elt Ideal) f (⟨Rect.unit (s := S128x128) ![h, 0] ![1, 128] inb, arr (n := 1) (m := 128) w⟩ :: L))
      = setRow h (w 0) (v.read (Elt Ideal) (v.writes (Elt Ideal) f L)) := by
  funext y
  refine read_step (Val := Elt Ideal) (e := .f32) (s := S128x128) v f (setRow h (w 0) (v.read (Elt Ideal) (v.writes (Elt Ideal) f L))) (fun x => ?_) fun hy => ?_
  · have h0 : (x 0).val < 1 := (x 0).isLt
    have e0 : ((Rect.unit (s := S128x128) ![h, 0] ![1, 128] inb).emb x 0).val = h + 1 * (x 0).val := rfl
    have e1 : ((Rect.unit (s := S128x128) ![h, 0] ![1, 128] inb).emb x 1).val = 0 + 1 * (x 1).val := rfl
    refine Eq.trans ?_ (if_pos (by rw [e0]; omega)).symm
    rw [e1]
    show ((w (x 0).val (x 1).val : ℝ) : EReal) = _
    rw [show (x 0).val = 0 by omega, zero_add, one_mul]
  · have a := not_mem_unit hy
    have h1 : (y 1).val < 128 := (y 1).isLt
    exact (if_neg (by omega)).symm
@[rclike_simps] theorem read_none {κ : Kind} {sp : Space} (v : View sig κ sp S128x128 .f32) (f) :
    v.read (Elt Ideal) (v.writes (Elt Ideal) f []) = v.read (Elt Ideal) f := rfl

attribute [rclike_simps] sl.r_59 sl.v174 sl.r_53 sl.r_41 sl.r_1 sl.r_47 sl.r_40 sl.r_32 sl.r_23 sl.r_14 sl.r_7 sl.v191
  sl.HS4_1 sl.v102 sl.v78 sl.r_10 sl.r_16 sl.v232 sl.r_19 sl.r_5 sl.r_6 sl.r_26 sl.v279 sl.r_29 sl.r_34 sl.v320
  sl.r_37 sl.r_24 sl.r_25 sl.r_43 sl.v367 sl.r_45 sl.r_49 sl.v408 sl.r_51 sl.r_42 sl.r_54 sl.r_55 sl.r_56 sl.v455
  sl.v525 sl.v509 sl.v508 sl.v507 sl.r_61 sl.v496 sl.r_120 sl.r_111 sl.r_102 sl.r_92 sl.r_84 sl.r_75 sl.r_64 sl.r_65
  sl.r_66 sl.v556 sl.r_69 sl.v597 sl.r_78 sl.v644 sl.r_81 sl.r_86 sl.v685 sl.r_89 sl.r_76 sl.r_77 sl.r_95 sl.v732
  sl.r_98 sl.r_104 sl.v773 sl.r_107 sl.r_93 sl.r_94 sl.r_114 sl.v820 sl.r_117 sl.v890 sl.r_125 sl.r_112 sl.r_113
  sl.r_122 sl.v861 sl.r_119 sl.r_110 sl.r_101 sl.r_90 sl.r_63 sl.v542 sl.v543 sl.r_82 sl.r_74 sl.r_70 sl.v519 sl.r_58
  sl.r_52 sl.r_46 sl.r_39 sl.r_31 sl.r_22 sl.r_13 sl.r_12 sl.r_21 sl.r_4 sl.r_30 sl.r_38 sl.r_44 sl.r_50 sl.r_57
  sl.v518 sl.v511 sl.v516 sl.v515 sl.v514 sl.v513 sl.v510 sl.r_62 sl.r_100 sl.r_109 sl.r_118 sl.v883 sl.v881 sl.v880
  sl.v879 sl.r_127 sl.HS5_16 sl.v889 sl.v886 sl.v885 sl.r_126 sl.r_108 sl.r_99 sl.r_91 sl.r_83 sl.v524 sl.v521 sl.v520
  sl.r_20 sl.r_11 sl.HS2_8 sl.v897 sl.v894 sl.r_121 sl.r_115 sl.r_116 sl.v893 sl.v892 sl.r_123 sl.r_124 sl.r_103
  sl.r_96 sl.r_97 sl.r_105 sl.r_106 sl.r_85 sl.r_79 sl.r_80 sl.r_87 sl.r_88 sl.r_71 sl.r_67 sl.r_68 sl.r_72 sl.r_73
  sl.v532 sl.v529 sl.r_60 sl.v528 sl.v527 sl.r_48 sl.r_33 sl.r_27 sl.r_28 sl.r_35 sl.r_36 sl.r_15 sl.r_8 sl.r_9
  sl.r_17 sl.r_18 k0_pay49 k0_pay50 k0_pay51 k0_pay52 k0_pay53 k0_pay54 k0_pay55 k0_pay56 k0_pay57 k0_pay58 k0_pay59
  k0_pay60 k0_pay61 k0_pay62 k0_pay63 k0_pay64 k0_pay65 k0_pay66 k0_pay67 k0_pay68 k0_pay69 k0_pay70 k0_pay71 k0_pay72
  k0_pay73 k0_pay74 k0_pay75 k0_pay76 k0_pay77 k0_pay78 k0_pay79 k0_pay80 k0_pay81 k0_pay82 k0_pay83 k0_pay84 k0_pay85
  k0_pay86 k0_pay87 k0_pay88 k0_pay89 k0_pay90 k0_pay91 k0_pay92 k0_pay93 k0_pay94 k0_pay95 k0_pay96 k0_pay97 k0_pay98
  k0_pay99 k0_pay100 k0_pay101 k0_pay102 k0_pay103 k0_pay104 k0_pay105 k0_pay106 k0_pay107 k0_pay108 k0_pay109
  k0_pay110 k0_pay111 k0_pay112 k0_pay113 k0_pay114 k0_pay115 k0_pay116 k0_pay117 k0_pay118 k0_pay119 k0_pay120
  k0_pay121 k0_pay122 k0_pay123 k0_pay124 k0_pay125 k0_pay126 k0_pay127 k0_pay128 k0_pay129 k0_pay130 k0_pay131
  k0_pay132 k0_pay133 k0_pay134 k0_pay135 k0_pay136 k0_pay137 k0_pay138 k0_pay139 k0_pay140 k0_pay152 k0_pay153
  k0_pay154 k0_pay155 k0_pay156 k0_pay157 k0_pay158 k0_pay159 k0_pay160 k0_pay161 k0_pay162 k0_pay163 k0_pay164
  k0_pay165 k0_pay166 k0_pay167 k0_pay168 k0_pay169 k0_pay170 k0_pay171 k0_pay172 k0_pay173 k0_pay174 k0_pay175
  k0_pay176 k0_pay177 k0_pay178 k0_pay179 k0_pay180 k0_pay181 k0_pay182 k0_pay183 k0_pay184 k0_pay185 k0_pay186
  k0_pay187 k0_pay188 k0_pay189 k0_pay190 k0_pay191 k0_pay192 k0_pay193 k0_pay194 k0_pay195 k0_pay196 k0_pay197
  k0_pay198 k0_pay199 k0_pay200 k0_pay201 k0_pay202 k0_pay203 k0_pay204 k0_pay205 k0_pay206 k0_pay207 k0_pay208
  k0_pay209 k0_pay210 k0_pay211 k0_pay212 k0_pay213 k0_pay214 k0_pay215 k0_pay216 k0_pay217 k0_pay218 k0_pay219
  k0_pay220 k0_pay221 k0_pay222 k0_pay223 k0_pay224 k0_pay225 k0_pay226 k0_pay227 k0_pay228 k0_pay229 k0_pay230
  k0_pay231 k0_pay232 k0_pay233 k0_pay234 k0_pay235 k0_pay236 k0_pay237 k0_pay238 k0_pay239 k0_pay240

variable (p : In) (k : ℕ) (hsp : Tame p) (d : Dev nD) (rest : ℕ → ℕ → ℝ)
  {arg1 : Memref sig .tc .vmem S128x1024 .f32} (harg1 : arg1.IsWhole)
  {arg2 : Memref sig .tc .vmem S128x1024 .f32} (harg2 : arg2.IsWhole)
  {arg3 : Memref sig .tc .vmem S128x1536 .f32} (harg3 : arg3.IsWhole)
  {arg4 : Memref sig .tc .vmem S128x128 .f32} (harg4 : arg4.IsWhole)
  {arg5 : Memref sig .tc .vmem S128x1536 .f32} (harg5 : arg5.IsWhole)
  {arg6 : Memref sig .tc .vmem S128x1024 .f32} (harg6 : arg6.IsWhole)
  {arg7 : Memref sig .tc .vmem S1x128x1024 .f32} (harg7 : arg7.IsWhole)
  {arg8 : Memref sig .tc .vmem S4x1536 .f32} (harg8 : arg8.IsWhole)
  {arg9 : Memref sig .tc .vmem S1x128 .f32} (harg9 : arg9.IsWhole)
  {arg10 : Memref sig .tc .vmem S1x128 .f32} (harg10 : arg10.IsWhole)
  {arg11 : Memref sig .tc .vmem S1x1024 .f32} (harg11 : arg11.IsWhole)
  {arg12 : Memref sig .tc .vmem S1x1024 .f32} (harg12 : arg12.IsWhole)
  {arg13 : Memref sig .tc .vmem S128x1024 .bf16} (harg13 : arg13.IsWhole)
  {arg14 : Memref sig .tc .vmem S128x2560 .bf16} (harg14 : arg14.IsWhole)
  {arg15 : Memref sig .tc .vmem S128x128 .bf16} (harg15 : arg15.IsWhole)
  {arg16 : Memref sig .tc .vmem S4x1536 .f32} (harg16 : arg16.IsWhole)
  {arg17 : Memref sig .tc .vmem S1x1536 .f32} (harg17 : arg17.IsWhole)
  {arg18 : Memref sig .tc .vmem S1x128 .f32} (harg18 : arg18.IsWhole)
  {arg19 : Memref sig .tc .vmem S1x128 .f32} (harg19 : arg19.IsWhole)
  {arg20 : Memref sig .tc .vmem S1x1024 .f32} (harg20 : arg20.IsWhole)
  {arg21 : Memref sig .tc .vmem S1x1024 .f32} (harg21 : arg21.IsWhole)
  {arg22 : Memref sig .tc .vmem S128x1024 .f32} (harg22 : arg22.IsWhole)
  {arg23 : Memref sig .tc .vmem S8x1536 .f32} (harg23 : arg23.IsWhole)
  {arg24 : Memref sig .tc .vmem S128x1024 .f32} (harg24 : arg24.IsWhole)
  {arg25 : Memref sig .tc .vmem S128x1536 .f32} (harg25 : arg25.IsWhole)
  {arg26 : Memref sig .tc .vmem S128x128 .f32} (harg26 : arg26.IsWhole)
  {arg27 : Memref sig .tc .vmem S128x128 .f32} (harg27 : arg27.IsWhole)
include hsp

@[rclike_simps] theorem k_v526 : sl.v526 (F := Ideal) d _ harg1 _ harg2 _ harg4 _ harg5 _ harg6 _ harg9 _ harg10 _ harg12 _ harg13 arg26 (tile (128 * k) p.Ct) (tile (128 * k) p.z) (tile (128 * k) p.Dt) (tile (128 * k) p.XC) (tile (128 * k) p.Y) (tile 0 p.Bias) (tile 0 p.Al) (tile 0 p.G) (tile 0 expand) = arr (p.dG k 0) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, and_self, Nat.zero_le, le_refl, Nat.sub_zero, or_true, true_or, false_or, Nat.zero_add, sl.v526]
  refine arr_congr fun i _ j _ => ?_
  simp [In.dG, Finset.sum_range_succ]
@[rclike_simps] theorem k_v891 : sl.v891 (F := Ideal) d _ harg1 _ harg2 _ harg4 _ harg5 _ harg6 _ harg9 _ harg10 _ harg12 _ harg13 arg26 (tile (128 * k) p.Ct) (tile (128 * k) p.z) (tile (128 * k) p.Dt) (tile (128 * k) p.XC) (tile (128 * k) p.Y) (tile 0 p.Bias) (tile 0 p.Al) (tile 0 p.G) (tile 0 expand) = arr (p.dG k 1) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, and_self, Nat.zero_le, le_refl, Nat.sub_zero, or_true, true_or, false_or, Nat.zero_add, sl.v891]
  refine arr_congr fun i _ j _ => ?_
  simp [In.dG, Finset.sum_range_succ]
@[rclike_simps] theorem k_v884 : sl.v884 (F := Ideal) d _ harg1 _ harg2 _ harg4 _ harg5 _ harg6 _ harg9 _ harg10 _ harg12 _ harg13 arg26 (tile (128 * k) p.Ct) (tile (128 * k) p.z) (tile (128 * k) p.Dt) (tile (128 * k) p.XC) (tile (128 * k) p.Y) (tile 0 p.Bias) (tile 0 p.Al) (tile 0 p.G) (tile 0 expand) = arr fun i j => if j < 16 then ∑ l ∈ Finset.range 128, p.W k j i l else 0 := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, and_self, Nat.zero_le, le_refl, Nat.sub_zero, or_true, true_or, false_or, Nat.zero_add, sl.v884]
  refine arr_congr fun i _ j _ => ?_
  by_cases hj : j < 16
  · rw [if_pos hj]; interval_cases j <;> simp
  · rw [if_neg hj]; simp [show j ≠ 0 ∧ j ≠ 1 ∧ j ≠ 2 ∧ j ≠ 3 ∧ j ≠ 4 ∧ j ≠ 5 ∧ j ≠ 6 ∧ j ≠ 7 ∧ j ≠ 8 ∧ j ≠ 9 ∧ j ≠ 10 ∧ j ≠ 11 ∧ j ≠ 12 ∧ j ≠ 13
      ∧ j ≠ 14 ∧ j ≠ 15 by omega]
@[rclike_simps] theorem k_v907 : sl.v907 (F := Ideal) d _ harg1 _ harg2 _ harg4 _ harg5 _ harg6 _ harg9 _ harg10 _ harg12 _ harg13 arg26 _ harg27 (tile (128 * k) p.Ct) (tile (128 * k) p.z) (tile (128 * k) p.Dt) (tile (128 * k) p.XC) (tile (128 * k) p.Y) (tile 0 p.Bias) (tile 0 p.Al) (tile 0 p.G) (tile 0 expand) (tile 0 rest) = arr fun i j => if i < 16 then ∑ l ∈ Finset.range 128, p.W k i l j else rest i j := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, and_self, Nat.zero_le, le_refl, Nat.sub_zero, or_true, true_or, false_or, Nat.zero_add, sl.v907]
  refine arr_congr fun i _ j _ => ?_
  by_cases hj : i < 16
  · rw [if_pos hj]; interval_cases i <;> simp
  · rw [if_neg hj]; simp [show i ≠ 0 ∧ i ≠ 1 ∧ i ≠ 2 ∧ i ≠ 3 ∧ i ≠ 4 ∧ i ≠ 5 ∧ i ≠ 6 ∧ i ≠ 7 ∧ i ≠ 8 ∧ i ≠ 9 ∧ i ≠ 10 ∧ i ≠ 11 ∧ i ≠ 12 ∧ i ≠ 13
      ∧ i ≠ 14 ∧ i ≠ 15 by omega]
@[rclike_simps] theorem k_v956 : sl.v956 (F := Ideal) d _ harg1 _ harg2 _ harg4 _ harg5 _ harg6 _ harg9 _ harg10 _ harg12 arg24 arg26 (tile (128 * k) p.Ct) (tile (128 * k) p.z) (tile (128 * k) p.Dt) (tile (128 * k) p.XC) (tile (128 * k) p.Y) (tile 0 p.Bias) (tile 0 p.Al) (tile 0 p.G) = arr (p.dXd k) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, and_self, Nat.zero_le, le_refl, Nat.sub_zero, or_true, true_or, false_or, Nat.zero_add, sl.v956]

end Cert.Proof.Ssd.Point

end
-- ==== Proof.SsdInter.lean ====
/- Between the chunks: the states' part of one point's gradients, and what the point adds to the results. -/
module

public import proofs.«01_k».proof.Proof.SsdHeads

@[expose] public section

noncomputable section

namespace Cert.Proof.Ssd.Point

open Idealize.ShloMosaic Idealize.ShloMosaic.ValueIdx
open Cert.SsdKernelIdeal Cert.SsdKernelIdeal.Gen Cert.SsdKernelIdeal.Gen.kernelRun0_B
open scoped BigOperators

/-- Nothing beyond the heads. -/
def Low (rest : ℕ → ℕ → ℝ) : Prop := ∀ i, 16 ≤ i → ∀ j, rest i j = 0

theorem expand_lo (f : ℕ → ℝ) (h : ℕ) :
    (∑ ch ∈ Finset.range 512, f ch * expand h ch) = if h < 8 then hs f h else 0 := by
  simpa [expand] using expand_cols 0 8 f h
theorem expand_hi (f : ℕ → ℝ) (h : ℕ) :
    (∑ ch ∈ Finset.range 512, f (512 + ch) * expand h (512 + ch)) = if 8 ≤ h ∧ h < 16 then hs f h else 0 := by
  simpa [expand] using expand_cols 8 8 f h
theorem expand_all (f : ℕ → ℝ) (h : ℕ) :
    (∑ ch ∈ Finset.range 1024, f ch * expand h ch) = if h < 16 then hs f h else 0 := by
  simpa [expand] using expand_cols 0 16 f h

/-- A read of the whole of a buffer that its writes cover. -/
@[rclike_simps] theorem readCov_two {κ : Kind} {sp : Space} {inb₀ inb₁ inb}
    (v : View sig κ sp S128x1024 .f32) (F : ℕ → ℕ → ℝ) (L) :
    v.readCov (Val := Elt Ideal) (⟨Rect.unit (s := S128x1024) ![0, 512] ![128, 512] inb₁, arr (n := 128) (m := 512) fun i j => F i (512 + j)⟩
        :: ⟨Rect.unit (s := S128x1024) ![0, 0] ![128, 512] inb₀, arr (n := 128) (m := 512) F⟩ :: L)
      (Rect.unit (s := S128x1024) ![0, 0] ![128, 1024] inb).toLoadRect = arr (n := 128) (m := 1024) F := by
  rw [View.readCov_eq_canon']
  funext j
  have h0 : (j 0).val < 128 := (j 0).isLt
  have h1 : (j 1).val < 1024 := (j 1).isLt
  refine Eq.trans (b := arr F ((Rect.unit (s := S128x1024) ![0, 0] ![128, 1024] inb).idx j)) ?_ ?_
  · refine canon_step (Val := Elt Ideal) (e := .f32) (s := S128x1024) (arr F) (emb_unit _ _ fun i _ k _ => by simp) fun h3 => ?_
    refine canon_step (Val := Elt Ideal) (e := .f32) (s := S128x1024) (arr F) (emb_unit _ _ fun i _ k _ => by simp) fun h2 => absurd ?_ (not_mem_unit h2)
    have a3 := not_mem_unit h3
    have e0 : ((Rect.unit (s := S128x1024) ![0, 0] ![128, 1024] inb).idx j 0).val = 0 + 1 * (j 0).val := rfl
    have e1 : ((Rect.unit (s := S128x1024) ![0, 0] ![128, 1024] inb).idx j 1).val = 0 + 1 * (j 1).val := rfl
    rw [e0, e1] at a3 ⊢
    omega
  · show ((F (0 + 1 * (j 0).val) (0 + 1 * (j 1).val) : ℝ) : EReal) = ((F (j 0).val ((j 1).val) : ℝ) : EReal)
    rw [zero_add, one_mul, zero_add, one_mul]
@[rclike_simps] theorem readCov_five {κ : Kind} {sp : Space} {inb₀ inb₁ inb₂ inb₃ inb₄ inb}
    (v : View sig κ sp S128x1536 .f32) (F fB fC : ℕ → ℕ → ℝ) (L) :
    v.readCov (Val := Elt Ideal) (⟨Rect.unit (s := S128x1536) ![0, 0] ![128, 1024] inb₀, arr (n := 128) (m := 1024) F⟩
        :: ⟨Rect.unit (s := S128x1536) ![0, 1152] ![128, 128] inb₁, arr (n := 128) (m := 128) fun i j => fB i (128 + j)⟩
        :: ⟨Rect.unit (s := S128x1536) ![0, 1408] ![128, 128] inb₂, arr (n := 128) (m := 128) fun i j => fC i (128 + j)⟩
        :: ⟨Rect.unit (s := S128x1536) ![0, 1024] ![128, 128] inb₃, arr (n := 128) (m := 128) fB⟩
        :: ⟨Rect.unit (s := S128x1536) ![0, 1280] ![128, 128] inb₄, arr (n := 128) (m := 128) fC⟩ :: L)
      (Rect.unit (s := S128x1536) ![0, 0] ![128, 1536] inb).toLoadRect
        = arr (n := 128) (m := 1536) fun i ch => if ch < 1024 then F i ch else if ch < 1280 then fB i (ch - 1024) else fC i (ch - 1280) := by
  rw [View.readCov_eq_canon']
  funext j
  have h0 : (j 0).val < 128 := (j 0).isLt
  have h1 : (j 1).val < 1536 := (j 1).isLt
  generalize hG : (fun i ch => if ch < 1024 then F i ch else if ch < 1280 then fB i (ch - 1024) else fC i (ch - 1280)) = G
  have hx : ∀ i ch, G i ch = if ch < 1024 then F i ch else if ch < 1280 then fB i (ch - 1024) else fC i (ch - 1280) :=
    fun i ch => by rw [← hG]
  refine Eq.trans (b := arr G ((Rect.unit (s := S128x1536) ![0, 0] ![128, 1536] inb).idx j)) ?_ ?_
  · refine canon_step (Val := Elt Ideal) (e := .f32) (s := S128x1536) (arr G) (emb_unit _ _ fun i _ k hk => ?_) fun h3 => ?_
    · rw [hx, if_pos (by omega), Nat.zero_add, Nat.zero_add]
    refine canon_step (Val := Elt Ideal) (e := .f32) (s := S128x1536) (arr G) (emb_unit _ _ fun i _ k hk => ?_) fun h4 => ?_
    · rw [hx, if_neg (by omega), if_pos (by omega), Nat.zero_add, show 1152 + k - 1024 = 128 + k by omega]
    refine canon_step (Val := Elt Ideal) (e := .f32) (s := S128x1536) (arr G) (emb_unit _ _ fun i _ k hk => ?_) fun h5 => ?_
    · rw [hx, if_neg (by omega), if_neg (by omega), Nat.zero_add, show 1408 + k - 1280 = 128 + k by omega]
    refine canon_step (Val := Elt Ideal) (e := .f32) (s := S128x1536) (arr G) (emb_unit _ _ fun i _ k hk => ?_) fun h6 => ?_
    · rw [hx, if_neg (by omega), if_pos (by omega), Nat.zero_add, show 1024 + k - 1024 = k by omega]
    refine canon_step (Val := Elt Ideal) (e := .f32) (s := S128x1536) (arr G) (emb_unit _ _ fun i _ k hk => ?_) fun h7 => absurd ?_ (not_mem_unit h7)
    · rw [hx, if_neg (by omega), if_neg (by omega), Nat.zero_add, show 1280 + k - 1280 = k by omega]
    have a3 := not_mem_unit h3
    have a4 := not_mem_unit h4
    have a5 := not_mem_unit h5
    have a6 := not_mem_unit h6
    have e0 : ((Rect.unit (s := S128x1536) ![0, 0] ![128, 1536] inb).idx j 0).val = 0 + 1 * (j 0).val := rfl
    have e1 : ((Rect.unit (s := S128x1536) ![0, 0] ![128, 1536] inb).idx j 1).val = 0 + 1 * (j 1).val := rfl
    rw [e0, e1] at a3 a4 a5 a6 ⊢
    omega
  · show ((G (0 + 1 * (j 0).val) (0 + 1 * (j 1).val) : ℝ) : EReal) = ((G (j 0).val ((j 1).val) : ℝ) : EReal)
    rw [zero_add, one_mul, zero_add, one_mul]

/-- 120 rows above 8 rows. -/
def cat (v : S120x1536.Idx → EReal) (w : S8x1536.Idx → EReal) : S128x1536.Idx → EReal :=
  concatenate (α := Elt Ideal .f32) S128x1536 (0 : Fin 2) [⟨S120x1536, v⟩, ⟨S8x1536, w⟩] concatenates_S120x1536_S8x1536_S128x1536_d0
@[rclike_simps] theorem cat_fold (v : S120x1536.Idx → EReal) (w : S8x1536.Idx → EReal) (h) :
    concatenate (α := Elt Ideal .f32) S128x1536 (0 : Fin 2) [⟨S120x1536, v⟩, ⟨S8x1536, w⟩] h = cat v w := rfl
@[rclike_simps] theorem cat_arr (f g : ℕ → ℕ → ℝ) :
    cat (arr (n := 120) (m := 1536) f) (arr (n := 8) (m := 1536) g) = arr fun i j => if i < 120 then f i j else g (i - 120) j :=
  concat_rows (n₁ := 120) (n₂ := 8) rfl f g _
@[rclike_simps] theorem rotate_block (sb : BitVec 32) (f : ℕ → ℕ → ℝ) (h : S128x1536.Rotates 0 none) :
    dynamicRotate (α := Elt Ideal .f32) (s := S128x1536) 0 sb none (arr (n := 128) (m := 1536) f) h = arr fun i j => f ((i + 128 - sb.toNat % 128) % 128) j :=
  rotate_arr _ _ _
@[rclike_simps] theorem rotate_head (sb : BitVec 32) (f : ℕ → ℕ → ℝ) (h : S8x1536.Rotates 0 none) :
    dynamicRotate (α := Elt Ideal .f32) (s := S8x1536) 0 sb none (arr (n := 8) (m := 1536) f) h = arr fun i j => f ((i + 8 - sb.toNat % 8) % 8) j :=
  rotate_arr _ _ _

attribute [rclike_simps] sl.v918 sl.v917 sl.v913 sl.v914 sl.v916 sl.v925 sl.v927 sl.v926 sl.cst_328 sl.v924 sl.v929
  sl.v928 sl.r_128 sl.v1005 sl.v1004 sl.v1007 sl.v1006 sl.v935 sl.v932 sl.HS3_4 sl.v906 sl.v903 sl.v898 sl.v902
  sl.v899 sl.v541 sl.v538 sl.v533 sl.r_3 sl.v537 sl.v534 sl.r_2 sl.v934 sl.v933 sl.v921 sl.v942 sl.v939 sl.HS3_5
  sl.v941 sl.v940 sl.v923 sl.v1013 sl.v1010 sl.HS3_6 sl.v1012 sl.v1011 sl.v1020 sl.v1017 sl.HS3_7 sl.v1019 sl.v1018
  sl.v952 sl.v949 sl.v948 sl.v946 sl.v951 sl.v1030 sl.v1027 sl.v1026 sl.v1024 sl.v1029 sl.v959 sl.v958 sl.v957
  sl.v1037 sl.v1034 sl.HS2_9 sl.v1036 sl.v1035 sl.HS2_10 sl.v966 sl.v964 sl.v963 sl.v965 sl.v1044 sl.v1042 sl.v1041
  sl.v1043 sl.v973 sl.v972 sl.v970 sl.v969 sl.v1051 sl.v1050 sl.v1048 sl.v1047 sl.v982 sl.v980 sl.v1060 sl.v1058
  sl.v1053 sl.v1046 sl.v1001 sl.v975 sl.v968 sl.v909 sl.v908 sl.v1000 sl.v998 sl.v997 sl.v994 sl.v977 sl.v976 sl.v993
  sl.v985 sl.v984 sl.v992 sl.v991 sl.v990 sl.v1078 sl.v1076 sl.v1075 sl.v1072 sl.v1055 sl.v1054 sl.v1071 sl.v1063
  sl.v1062 sl.v1094 sl.v1091 sl.v1083 sl.v1082 sl.v1081 sl.v1084 sl.v1092 sl.v1087 sl.v1086 sl.v1085 sl.v1093 sl.v1090
  sl.v1089 sl.v1088 sl.v1098 sl.v1101 sl.v1100 sl.v1099 sl.v1116 sl.v1114 sl.v1112 sl.v1111 sl.v1126 sl.v1130 sl.v1129
  sl.v1128 sl.HS3_9 sl.v1134 sl.v1141 sl.v1140 sl.v1136 sl.v1138 sl.v1137 sl.v1168 sl.v1161 sl.v1167 sl.v1163 sl.v1164
  sl.v1162 sl.r_130 sl.v1166 sl.v1188 sl.v1181 sl.v1187 sl.v1184 sl.v1182 sl.v1186 k0_pay51 k0_pay52

variable (p : In) (k : ℕ) (hsp : Tame p) (d : Dev nD) (rest : ℕ → ℕ → ℝ) (hrest : Low rest) (hk : k < 64)
  (o15 o16 o17 o18 o19 o20 : ℕ → ℕ → ℝ)
  {arg1 : Memref sig .tc .vmem S128x1024 .f32} (harg1 : arg1.IsWhole)
  {arg2 : Memref sig .tc .vmem S128x1024 .f32} (harg2 : arg2.IsWhole)
  {arg3 : Memref sig .tc .vmem S128x1536 .f32} (harg3 : arg3.IsWhole)
  {arg4 : Memref sig .tc .vmem S128x128 .f32} (harg4 : arg4.IsWhole)
  {arg5 : Memref sig .tc .vmem S128x1536 .f32} (harg5 : arg5.IsWhole)
  {arg6 : Memref sig .tc .vmem S128x1024 .f32} (harg6 : arg6.IsWhole)
  {arg7 : Memref sig .tc .vmem S1x128x1024 .f32} (harg7 : arg7.IsWhole)
  {arg8 : Memref sig .tc .vmem S4x1536 .f32} (harg8 : arg8.IsWhole)
  {arg9 : Memref sig .tc .vmem S1x128 .f32} (harg9 : arg9.IsWhole)
  {arg10 : Memref sig .tc .vmem S1x128 .f32} (harg10 : arg10.IsWhole)
  {arg11 : Memref sig .tc .vmem S1x1024 .f32} (harg11 : arg11.IsWhole)
  {arg12 : Memref sig .tc .vmem S1x1024 .f32} (harg12 : arg12.IsWhole)
  {arg13 : Memref sig .tc .vmem S128x1024 .bf16} (harg13 : arg13.IsWhole)
  {arg14 : Memref sig .tc .vmem S128x2560 .bf16} (harg14 : arg14.IsWhole)
  {arg15 : Memref sig .tc .vmem S128x128 .bf16} (harg15 : arg15.IsWhole)
  {arg16 : Memref sig .tc .vmem S4x1536 .f32} (harg16 : arg16.IsWhole)
  {arg17 : Memref sig .tc .vmem S1x1536 .f32} (harg17 : arg17.IsWhole)
  {arg18 : Memref sig .tc .vmem S1x128 .f32} (harg18 : arg18.IsWhole)
  {arg19 : Memref sig .tc .vmem S1x128 .f32} (harg19 : arg19.IsWhole)
  {arg20 : Memref sig .tc .vmem S1x1024 .f32} (harg20 : arg20.IsWhole)
  {arg21 : Memref sig .tc .vmem S1x1024 .f32} (harg21 : arg21.IsWhole)
  {arg22 : Memref sig .tc .vmem S128x1024 .f32} (harg22 : arg22.IsWhole)
  {arg23 : Memref sig .tc .vmem S8x1536 .f32} (harg23 : arg23.IsWhole)
  {arg24 : Memref sig .tc .vmem S128x1024 .f32} (harg24 : arg24.IsWhole)
  {arg25 : Memref sig .tc .vmem S128x1536 .f32} (harg25 : arg25.IsWhole)
  {arg26 : Memref sig .tc .vmem S128x128 .f32} (harg26 : arg26.IsWhole)
  {arg27 : Memref sig .tc .vmem S128x128 .f32} (harg27 : arg27.IsWhole)
include hsp hk

@[rclike_simps] theorem k_v911 : sl.v911 (F := Ideal) d _ harg7 (cube (p.S k)) = arr (p.S k) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v911]
@[rclike_simps] theorem k_v919 : sl.v919 (F := Ideal) d _ harg4 _ harg9 _ harg10 _ harg13 (tile (128 * k) p.Dt) (tile 0 p.Bias) (tile 0 p.Al) (tile 0 expand) = arr fun _ ch => p.ecs k 127 (ch / 64) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v919]
@[rclike_simps] theorem k_v920 : sl.v920 (F := Ideal) d _ harg1 _ harg2 _ harg4 _ harg6 _ harg9 _ harg10 _ harg12 _ harg13 (tile (128 * k) p.Ct) (tile (128 * k) p.z) (tile (128 * k) p.Dt) (tile (128 * k) p.Y) (tile 0 p.Bias) (tile 0 p.Al) (tile 0 p.G) (tile 0 expand) = arr (p.dYe k) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v920]
  rfl
@[rclike_simps] theorem k_v922 : sl.v922 (F := Ideal) d _ harg4 _ harg5 _ harg9 _ harg10 _ harg13 (tile (128 * k) p.Dt) (tile (128 * k) p.XC) (tile 0 p.Bias) (tile 0 p.Al) (tile 0 expand) = arr (p.Xd k) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v922]
  rfl
@[rclike_simps] theorem k_v930 : sl.v930 (F := Ideal) d _ harg5 _ harg7 (tile (128 * k) p.XC) (cube (p.S k)) = arr (p.CS k) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v930]
  refine arr_congr fun i _ j hj => ?_
  simp only [In.CS, show j / 512 = 0 by omega, mul_zero, zero_add]
@[rclike_simps] theorem k_v931 : sl.v931 (F := Ideal) d _ harg5 _ harg22 (tile (128 * k) p.XC) (tile 0 (p.dS k)) = arr (p.BS k) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v931]
  refine arr_congr fun i _ j hj => ?_
  simp only [In.BS, show j / 512 = 0 by omega, mul_zero, zero_add]
@[rclike_simps] theorem k_v1008 : sl.v1008 (F := Ideal) d _ harg5 _ harg7 (tile (128 * k) p.XC) (cube (p.S k)) = arr fun i ch => p.CS k i (512 + ch) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v1008]
  refine arr_congr fun i _ j hj => ?_
  simp only [In.CS, show (512 + j) / 512 = 1 by omega, mul_one]
@[rclike_simps] theorem k_v1009 : sl.v1009 (F := Ideal) d _ harg5 _ harg22 (tile (128 * k) p.XC) (tile 0 (p.dS k)) = arr fun i ch => p.BS k i (512 + ch) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v1009]
  refine arr_congr fun i _ j hj => ?_
  simp only [In.BS, show (512 + j) / 512 = 1 by omega, mul_one]
@[rclike_simps] theorem k_v938 : sl.v938 (F := Ideal) d _ harg1 _ harg2 _ harg4 _ harg5 _ harg6 _ harg7 _ harg9 _ harg10 _ harg12 _ harg13 arg25 arg26 (tile (128 * k) p.Ct) (tile (128 * k) p.z) (tile (128 * k) p.Dt) (tile (128 * k) p.XC) (tile (128 * k) p.Y) (cube (p.S k)) (tile 0 p.Bias) (tile 0 p.Al) (tile 0 p.G) (tile 0 expand) = arr (p.dC k) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v938]
  refine arr_congr fun i _ j hj => ?_
  simp only [In.dC, show j / 128 = 0 by omega, show j % 128 = j by omega, mul_zero, zero_add]
@[rclike_simps] theorem k_v945 : sl.v945 (F := Ideal) d _ harg1 _ harg2 _ harg4 _ harg5 _ harg6 _ harg7 _ harg9 _ harg10 _ harg12 _ harg13 _ harg22 arg25 arg26 (tile (128 * k) p.Ct) (tile (128 * k) p.z) (tile (128 * k) p.Dt) (tile (128 * k) p.XC) (tile (128 * k) p.Y) (cube (p.S k)) (tile 0 p.Bias) (tile 0 p.Al) (tile 0 p.G) (tile 0 expand) (tile 0 (p.dS k)) = arr (p.dB k) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v945]
  refine arr_congr fun i _ j hj => ?_
  simp only [In.dB, show j / 128 = 0 by omega, show j % 128 = j by omega, mul_zero, zero_add]
@[rclike_simps] theorem k_v1016 : sl.v1016 (F := Ideal) d _ harg1 _ harg2 _ harg4 _ harg5 _ harg6 _ harg7 _ harg9 _ harg10 _ harg12 _ harg13 _ harg22 arg25 arg26 (tile (128 * k) p.Ct) (tile (128 * k) p.z) (tile (128 * k) p.Dt) (tile (128 * k) p.XC) (tile (128 * k) p.Y) (cube (p.S k)) (tile 0 p.Bias) (tile 0 p.Al) (tile 0 p.G) (tile 0 expand) (tile 0 (p.dS k)) = arr fun i n => p.dC k i (128 + n) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v1016]
  refine arr_congr fun i _ j hj => ?_
  simp only [In.dC, show (128 + j) / 128 = 1 by omega, show (128 + j) % 128 = j by omega, mul_one]
@[rclike_simps] theorem k_v1023 : sl.v1023 (F := Ideal) d _ harg1 _ harg2 _ harg4 _ harg5 _ harg6 _ harg7 _ harg9 _ harg10 _ harg12 _ harg13 _ harg22 arg25 arg26 (tile (128 * k) p.Ct) (tile (128 * k) p.z) (tile (128 * k) p.Dt) (tile (128 * k) p.XC) (tile (128 * k) p.Y) (cube (p.S k)) (tile 0 p.Bias) (tile 0 p.Al) (tile 0 p.G) (tile 0 expand) (tile 0 (p.dS k)) = arr fun i n => p.dB k i (128 + n) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v1023]
  refine arr_congr fun i _ j hj => ?_
  simp only [In.dB, show (128 + j) / 128 = 1 by omega, show (128 + j) % 128 = j by omega, mul_one]
@[rclike_simps] theorem k_v955 : sl.v955 (F := Ideal) d _ harg1 _ harg2 _ harg4 _ harg5 _ harg6 _ harg9 _ harg10 _ harg12 _ harg13 _ harg22 (tile (128 * k) p.Ct) (tile (128 * k) p.z) (tile (128 * k) p.Dt) (tile (128 * k) p.XC) (tile (128 * k) p.Y) (tile 0 p.Bias) (tile 0 p.Al) (tile 0 p.G) (tile 0 expand) (tile 0 (p.dS k)) = arr fun n ch => p.ecs k 127 (ch / 64) * p.dS k n ch + p.CdY k n ch := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v955]
  refine arr_congr fun i _ j hj => ?_
  simp only [In.CdY, show j / 512 = 0 by omega, mul_zero, zero_add]
@[rclike_simps] theorem k_v1033 : sl.v1033 (F := Ideal) d _ harg1 _ harg2 _ harg4 _ harg5 _ harg6 _ harg9 _ harg10 _ harg12 _ harg13 _ harg22 (tile (128 * k) p.Ct) (tile (128 * k) p.z) (tile (128 * k) p.Dt) (tile (128 * k) p.XC) (tile (128 * k) p.Y) (tile 0 p.Bias) (tile 0 p.Al) (tile 0 p.G) (tile 0 expand) (tile 0 (p.dS k)) = arr fun n ch => p.ecs k 127 ((512 + ch) / 64) * p.dS k n (512 + ch) + p.CdY k n (512 + ch) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v1033]
  refine arr_congr fun i _ j hj => ?_
  simp only [In.CdY, show (512 + j) / 512 = 1 by omega, mul_one]
@[rclike_simps] theorem k_v962 : sl.v962 (F := Ideal) d _ harg1 _ harg2 _ harg4 _ harg5 _ harg6 _ harg9 _ harg10 _ harg12 _ harg13 _ harg22 arg24 arg26 (tile (128 * k) p.Ct) (tile (128 * k) p.z) (tile (128 * k) p.Dt) (tile (128 * k) p.XC) (tile (128 * k) p.Y) (tile 0 p.Bias) (tile 0 p.Al) (tile 0 p.G) (tile 0 expand) (tile 0 (p.dS k)) = arr (p.dX k) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v962]
  rfl
@[rclike_simps] theorem k_v1040 : sl.v1040 (F := Ideal) d _ harg1 _ harg2 _ harg4 _ harg5 _ harg6 _ harg9 _ harg10 _ harg12 _ harg13 _ harg22 arg24 arg26 (tile (128 * k) p.Ct) (tile (128 * k) p.z) (tile (128 * k) p.Dt) (tile (128 * k) p.XC) (tile (128 * k) p.Y) (tile 0 p.Bias) (tile 0 p.Al) (tile 0 p.G) (tile 0 expand) (tile 0 (p.dS k)) = arr fun i ch => p.dX k i (512 + ch) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v1040]
  rfl
@[rclike_simps] theorem k_v1096 : sl.v1096 (F := Ideal) d _ harg1 _ harg2 _ harg4 _ harg5 _ harg6 _ harg9 _ harg10 _ harg12 _ harg13 _ harg22 arg24 arg26 (tile (128 * k) p.Ct) (tile (128 * k) p.z) (tile (128 * k) p.Dt) (tile (128 * k) p.XC) (tile (128 * k) p.Y) (tile 0 p.Bias) (tile 0 p.Al) (tile 0 p.G) (tile 0 expand) (tile 0 (p.dS k)) = arr (p.dX k) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v1096]
@[rclike_simps] theorem k_v967 : sl.v967 (F := Ideal) d _ harg1 _ harg2 _ harg4 _ harg5 _ harg6 _ harg7 _ harg9 _ harg10 _ harg12 _ harg13 (tile (128 * k) p.Ct) (tile (128 * k) p.z) (tile (128 * k) p.Dt) (tile (128 * k) p.XC) (tile (128 * k) p.Y) (cube (p.S k)) (tile 0 p.Bias) (tile 0 p.Al) (tile 0 p.G) (tile 0 expand) = arr fun i h => if h < 8 then hs (fun ch => p.dYe k i ch * p.CS k i ch) h else 0 := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v967]
  refine arr_congr fun i _ j hj => ?_
  rw [expand_lo fun ch => p.dYe k i ch * p.CS k i ch]
@[rclike_simps] theorem k_v1045 : sl.v1045 (F := Ideal) d _ harg1 _ harg2 _ harg4 _ harg5 _ harg6 _ harg7 _ harg9 _ harg10 _ harg12 _ harg13 (tile (128 * k) p.Ct) (tile (128 * k) p.z) (tile (128 * k) p.Dt) (tile (128 * k) p.XC) (tile (128 * k) p.Y) (cube (p.S k)) (tile 0 p.Bias) (tile 0 p.Al) (tile 0 p.G) (tile 0 expand) = arr fun i h => if 8 ≤ h ∧ h < 16 then hs (fun ch => p.dYe k i ch * p.CS k i ch) h else 0 := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v1045]
  refine arr_congr fun i _ j hj => ?_
  rw [expand_hi fun ch => p.dYe k i ch * p.CS k i ch]
@[rclike_simps] theorem k_v974 : sl.v974 (F := Ideal) d _ harg4 _ harg5 _ harg9 _ harg10 _ harg13 _ harg22 (tile (128 * k) p.Dt) (tile (128 * k) p.XC) (tile 0 p.Bias) (tile 0 p.Al) (tile 0 expand) (tile 0 (p.dS k)) = arr fun i h => if h < 8 then p.td k i h else 0 := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v974]
  refine arr_congr fun i _ j hj => ?_
  rw [expand_lo fun ch => p.X (128 * k + i) ch * p.BS k i ch]
  rw [ite_mul, zero_mul]; rfl
@[rclike_simps] theorem k_v1052 : sl.v1052 (F := Ideal) d _ harg4 _ harg5 _ harg9 _ harg10 _ harg13 _ harg22 (tile (128 * k) p.Dt) (tile (128 * k) p.XC) (tile 0 p.Bias) (tile 0 p.Al) (tile 0 expand) (tile 0 (p.dS k)) = arr fun i h => if 8 ≤ h ∧ h < 16 then p.td k i h else 0 := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v1052]
  refine arr_congr fun i _ j hj => ?_
  rw [expand_hi fun ch => p.X (128 * k + i) ch * p.BS k i ch]
  rw [ite_mul, zero_mul]; rfl
@[rclike_simps] theorem k_v983 : sl.v983 (F := Ideal) d _ harg7 _ harg13 _ harg22 (cube (p.S k)) (tile 0 expand) (tile 0 (p.dS k)) = arr fun n h => if h < 8 then hs (fun ch => p.S k n ch * p.dS k n ch) h else 0 := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v983]
  refine arr_congr fun i _ j hj => ?_
  rw [expand_lo fun ch => p.S k i ch * p.dS k i ch]
@[rclike_simps] theorem k_v1061 : sl.v1061 (F := Ideal) d _ harg7 _ harg13 _ harg22 (cube (p.S k)) (tile 0 expand) (tile 0 (p.dS k)) = arr fun n h => if 8 ≤ h ∧ h < 16 then hs (fun ch => p.S k n ch * p.dS k n ch) h else 0 := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v1061]
  refine arr_congr fun i _ j hj => ?_
  rw [expand_hi fun ch => p.S k i ch * p.dS k i ch]
include hrest in
@[rclike_simps] theorem k_v1079 : sl.v1079 (F := Ideal) d _ harg1 _ harg2 _ harg4 _ harg5 _ harg6 _ harg7 _ harg9 _ harg10 _ harg12 _ harg13 _ harg22 arg26 _ harg27 (tile (128 * k) p.Ct) (tile (128 * k) p.z) (tile (128 * k) p.Dt) (tile (128 * k) p.XC) (tile (128 * k) p.Y) (cube (p.S k)) (tile 0 p.Bias) (tile 0 p.Al) (tile 0 p.G) (tile 0 expand) (tile 0 (p.dS k)) (tile 0 rest) = arr (p.dcs k) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hrest, hk, and_self, Nat.zero_le, le_refl, Nat.sub_zero, or_true, true_or, false_or, Nat.zero_add, sub_self, mul_zero, Finset.sum_const_zero, add_zero, sl.v1079]
  refine arr_congr fun i _ h _ => ?_
  by_cases h1 : h < 8
  · simp only [In.dcs, In.te, h1, show ¬ 8 ≤ h by omega, show h < 16 by omega, if_true, if_false, false_and, zero_mul, add_zero, sub_zero,
      Finset.sum_const_zero, ite_self]
  · by_cases h2 : h < 16
    · simp only [In.dcs, In.te, h1, h2, show 8 ≤ h by omega, if_true, if_false, true_and, zero_mul, add_zero, sub_zero,
        Finset.sum_const_zero, ite_self]
    · simp only [In.dcs, In.te, h1, h2, if_false, and_false, zero_mul, add_zero, sub_zero, Finset.sum_const_zero, ite_self,
        hrest h (by omega), sub_self]
include hrest in
@[rclike_simps] theorem k_v1095 : sl.v1095 (F := Ideal) d _ harg1 _ harg2 _ harg4 _ harg5 _ harg6 _ harg7 _ harg9 _ harg10 _ harg12 _ harg13 _ harg22 arg26 _ harg27 (tile (128 * k) p.Ct) (tile (128 * k) p.z) (tile (128 * k) p.Dt) (tile (128 * k) p.XC) (tile (128 * k) p.Y) (cube (p.S k)) (tile 0 p.Bias) (tile 0 p.Al) (tile 0 p.G) (tile 0 expand) (tile 0 (p.dS k)) (tile 0 rest) = arr (p.da k) := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hrest, hk, and_self, Nat.zero_le, le_refl, Nat.sub_zero, or_true, true_or, false_or, Nat.zero_add, sub_self, mul_zero, Finset.sum_const_zero, add_zero, sl.v1095]
  rfl
include hrest in
@[rclike_simps] theorem k_v1102 : sl.v1102 (F := Ideal) d _ harg1 _ harg2 _ harg4 _ harg5 _ harg6 _ harg7 _ harg9 _ harg10 _ harg12 _ harg13 _ harg22 arg24 arg26 _ harg27 (tile (128 * k) p.Ct) (tile (128 * k) p.z) (tile (128 * k) p.Dt) (tile (128 * k) p.XC) (tile (128 * k) p.Y) (cube (p.S k)) (tile 0 p.Bias) (tile 0 p.Al) (tile 0 p.G) (tile 0 expand) (tile 0 (p.dS k)) (tile 0 rest) = arr fun i h => p.ddt (128 * k + i) h := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hrest, hk, and_self, Nat.zero_le, le_refl, Nat.sub_zero, or_true, true_or, false_or, Nat.zero_add, sub_self, mul_zero, Finset.sum_const_zero, add_zero, sl.v1102]
  refine arr_congr fun i hi j hj => ?_
  rw [expand_all fun ch => p.dX k i ch * p.u (128 * k + i) ch]
  simp only [In.ddt, show (128 * k + i) / 128 = k by omega, show (128 * k + i) % 128 = i by omega]
include hrest in
@[rclike_simps] theorem k_v1117 : sl.v1117 (F := Ideal) d _ harg1 _ harg2 _ harg4 _ harg5 _ harg6 _ harg7 _ harg9 _ harg10 _ harg12 _ harg13 _ harg22 arg24 arg26 _ harg27 (tile (128 * k) p.Ct) (tile (128 * k) p.z) (tile (128 * k) p.Dt) (tile (128 * k) p.XC) (tile (128 * k) p.Y) (cube (p.S k)) (tile 0 p.Bias) (tile 0 p.Al) (tile 0 p.G) (tile 0 expand) (tile 0 (p.dS k)) (tile 0 rest) = arr fun i h => p.ddtp (128 * k + i) h := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hrest, hk, and_self, Nat.zero_le, le_refl, Nat.sub_zero, or_true, true_or, false_or, Nat.zero_add, sub_self, mul_zero, Finset.sum_const_zero, add_zero, sl.v1117]
  rfl
@[rclike_simps] theorem k_v1131 : sl.v1131 (F := Ideal) d _ harg1 _ harg2 _ harg4 _ harg5 _ harg6 _ harg9 _ harg10 _ harg11 _ harg12 _ harg13 _ harg22 arg24 arg26 (tile (128 * k) p.Ct) (tile (128 * k) p.z) (tile (128 * k) p.Dt) (tile (128 * k) p.XC) (tile (128 * k) p.Y) (tile 0 p.Bias) (tile 0 p.Al) (tile 0 fun _ ch => p.D 0 (ch / 64)) (tile 0 p.G) (tile 0 expand) (tile 0 (p.dS k)) = arr fun i ch => p.dX k i ch * p.dt (128 * k + i) (ch / 64) + p.D 0 (ch / 64) * p.dY (128 * k + i) ch := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v1131]
@[rclike_simps] theorem k_v1135 : sl.v1135 (F := Ideal) d _ harg1 _ harg2 _ harg4 _ harg5 _ harg6 _ harg7 _ harg9 _ harg10 _ harg11 _ harg12 _ harg13 _ harg22 arg24 arg25 arg26 (tile (128 * k) p.Ct) (tile (128 * k) p.z) (tile (128 * k) p.Dt) (tile (128 * k) p.XC) (tile (128 * k) p.Y) (cube (p.S k)) (tile 0 p.Bias) (tile 0 p.Al) (tile 0 fun _ ch => p.D 0 (ch / 64)) (tile 0 p.G) (tile 0 expand) (tile 0 (p.dS k)) = arr fun i ch => p.du (128 * k + i) ch := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v1135]
  refine arr_congr fun i hi j hj => ?_
  simp only [In.du, show (128 * k + i) / 128 = k by omega, show (128 * k + i) % 128 = i by omega]
@[rclike_simps] theorem k_v1142 : sl.v1142 (F := Ideal) d _ harg1 _ harg2 _ harg4 _ harg5 _ harg6 _ harg7 _ harg9 _ harg10 _ harg11 _ harg12 _ harg13 _ harg22 arg24 arg25 arg26 (tile (128 * k) p.Ct) (tile (128 * k) p.z) (tile (128 * k) p.Dt) (tile (128 * k) p.XC) (tile (128 * k) p.Y) (cube (p.S k)) (tile 0 p.Bias) (tile 0 p.Al) (tile 0 fun _ ch => p.D 0 (ch / 64)) (tile 0 p.G) (tile 0 expand) (tile 0 (p.dS k)) = arr fun i ch => p.dxc (128 * k + i) ch := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v1142]
  refine arr_congr fun i hi j hj => ?_
  rw [In.dxc, if_pos (by omega)]; rfl
@[rclike_simps] theorem k_v1169 : sl.v1169 (F := Ideal) d _ harg1 _ harg2 _ harg4 _ harg5 _ harg6 _ harg7 _ harg9 _ harg10 _ harg11 _ harg12 _ harg13 _ harg22 _ harg23 arg24 arg25 arg26 (tile (128 * k) p.Ct) (tile (128 * k) p.z) (tile (128 * k) p.Dt) (tile (128 * k) p.XC) (tile (128 * k) p.Y) (cube (p.S k)) (tile 0 p.Bias) (tile 0 p.Al) (tile 0 fun _ ch => p.D 0 (ch / 64)) (tile 0 p.G) (tile 0 expand) (tile 0 (p.dS k)) (tile (128 * (k + 1)) p.dxc) = arr fun i ch => p.dxc (128 * k + i + 1) ch := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v1169]
  refine (cat_fold _ _ _).trans ?_
  simp only [rclike_simps, ← Nat.add_assoc, hsp, hk, hk, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero]
  rw [rotate_block, rotate_head]
  simp only [rclike_simps, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero]
  refine arr_congr fun i hi j hj => ?_
  split_ifs <;> exact congrArg (p.dxc · j) (by omega)
@[rclike_simps] theorem k_v1189 : sl.v1189 (F := Ideal) d _ harg1 _ harg2 _ harg4 _ harg5 _ harg6 _ harg7 _ harg9 _ harg10 _ harg11 _ harg12 _ harg13 _ harg22 _ harg23 arg24 arg25 arg26 (tile (128 * k) p.Ct) (tile (128 * k) p.z) (tile (128 * k) p.Dt) (tile (128 * k) p.XC) (tile (128 * k) p.Y) (cube (p.S k)) (tile 0 p.Bias) (tile 0 p.Al) (tile 0 fun _ ch => p.D 0 (ch / 64)) (tile 0 p.G) (tile 0 expand) (tile 0 (p.dS k)) (tile (128 * (k + 1)) p.dxc) = arr fun i ch => p.dxc (128 * k + i + 2) ch := by
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, hk, and_self, Nat.zero_le, le_refl, Nat.sub_zero, or_true, true_or, false_or, Nat.zero_add, sub_self, mul_zero, Finset.sum_const_zero, add_zero, sl.v1189]
  refine (cat_fold _ _ _).trans ?_
  simp only [rclike_simps, ← Nat.add_assoc, hsp, hk, hk, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero]
  rw [rotate_block, rotate_head]
  simp only [rclike_simps, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero]
  refine arr_congr fun i hi j hj => ?_
  split_ifs <;> exact congrArg (p.dxc · j) (by omega)

end Cert.Proof.Ssd.Point

end
-- ==== Proof.SsdOut.lean ====
/- What one point leaves in the buffers of the results and in the carried buffers. -/
module

public import proofs.«01_k».proof.Proof.SsdInter
public import proofs.«01_k».proof.Proof.Gen.SsdKernelIdeal.Frame

@[expose] public section

noncomputable section

namespace Cert.Proof.Ssd.Point

open Idealize.ShloMosaic Idealize.ShloMosaic.ValueIdx
open Cert.SsdKernelIdeal Cert.SsdKernelIdeal.Gen Cert.SsdKernelIdeal.Gen.kernelRun0_B
open scoped BigOperators

@[rclike_simps] theorem shift_three (p : In) (k : ℕ) :
    k0_pay300 (F := Ideal) (arr fun i ch => p.dxc (128 * k + i) ch) (arr fun i ch => p.dxc (128 * (k + 1) + i) ch)
      = arr fun i ch => p.dxc (128 * k + i + 3) ch := by
  unfold k0_pay300
  refine (cat_fold _ _ _).trans ?_
  rw [rotate_block, rotate_head]
  simp only [rclike_simps, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero]
  refine arr_congr fun i hi j hj => ?_
  split_ifs <;> exact congrArg (p.dxc · j) (by omega)
/-- What four rows written one by one hold, and what two column ranges hold. -/
theorem canon_rows {w0 w1 w2 w3 : (⟨2, ![1, 1536]⟩ : Shape).Idx → EReal} {inb₀ inb₁ inb₂ inb₃} (F : ℕ → ℕ → ℝ) (L)
    (h0 : w0 = arr fun _ ch => F 0 ch) (h1 : w1 = arr fun _ ch => F 1 ch) (h2 : w2 = arr fun _ ch => F 2 ch) (h3 : w3 = arr fun _ ch => F 3 ch) :
    View.canon (Val := Elt Ideal) (e := .f32) (⟨Rect.unit (s := S4x1536) ![0, 0] ![1, 1536] inb₀, w0⟩ :: ⟨Rect.unit (s := S4x1536) ![1, 0] ![1, 1536] inb₁, w1⟩
      :: ⟨Rect.unit (s := S4x1536) ![2, 0] ![1, 1536] inb₂, w2⟩ :: ⟨Rect.unit (s := S4x1536) ![3, 0] ![1, 1536] inb₃, w3⟩ :: L) = arr F := by
  subst h0 h1 h2 h3
  funext y
  have y0 : (y 0).val < 4 := (y 0).isLt
  have y1 : (y 1).val < 1536 := (y 1).isLt
  have key : ∀ r i, i < 1 → F r = F (r + i) := fun r i hi => by rw [show r + i = r by omega]
  refine canon_step (Val := Elt Ideal) (e := .f32) (s := S4x1536) (arr F) (emb_unit _ _ fun i hi k _ => by rw [← key _ _ hi, Nat.zero_add]) fun a0 => ?_
  refine canon_step (Val := Elt Ideal) (e := .f32) (s := S4x1536) (arr F) (emb_unit _ _ fun i hi k _ => by rw [← key _ _ hi, Nat.zero_add]) fun a1 => ?_
  refine canon_step (Val := Elt Ideal) (e := .f32) (s := S4x1536) (arr F) (emb_unit _ _ fun i hi k _ => by rw [← key _ _ hi, Nat.zero_add]) fun a2 => ?_
  refine canon_step (Val := Elt Ideal) (e := .f32) (s := S4x1536) (arr F) (emb_unit _ _ fun i hi k _ => by rw [← key _ _ hi, Nat.zero_add])
    fun a3 => absurd ?_ (not_mem_unit a3)
  have a0 := not_mem_unit a0
  have a1 := not_mem_unit a1
  have a2 := not_mem_unit a2
  omega
theorem canon_whole {n m : ℕ} {Val : EltTy → Type} [∀ e, Nonempty (Val e)] {e : EltTy} {inb} (w : (⟨2, ![n, m]⟩ : Shape).Idx → Val e) (L) :
    View.canon (⟨Rect.unit (s := ⟨2, ![n, m]⟩) ![0, 0] ![n, m] inb, w⟩ :: L) = w := by
  funext y
  have y0 : (y 0).val < n := (y 0).isLt
  have y1 : (y 1).val < m := (y 1).isLt
  refine canon_step w (fun x => congrArg w ?_) fun a => absurd (by omega) (not_mem_unit a)
  funext a
  match a with
  | ⟨0, _⟩ => exact Fin.ext (show (x 0).val = 0 + 1 * (x 0).val by omega)
  | ⟨1, _⟩ => exact Fin.ext (show (x 1).val = 0 + 1 * (x 1).val by omega)
theorem canon_cols {n m₀ m₁ m : ℕ} {Val : EltTy → Type} [∀ e, Nonempty (Val e)] {e : EltTy} {w0 : (⟨2, ![n, m₀]⟩ : Shape).Idx → Val e}
    {w1 : (⟨2, ![n, m₁]⟩ : Shape).Idx → Val e} {inb₀ inb₁} (G : (⟨2, ![n, m]⟩ : Shape).Idx → Val e) (L) (hm : m = m₀ + m₁)
    (h1 : ∀ x, w1 x = G ((Rect.unit (s := ⟨2, ![n, m]⟩) ![0, m₀] ![n, m₁] inb₁).emb x))
    (h0 : ∀ x, w0 x = G ((Rect.unit (s := ⟨2, ![n, m]⟩) ![0, 0] ![n, m₀] inb₀).emb x)) :
    View.canon (⟨Rect.unit (s := ⟨2, ![n, m]⟩) ![0, m₀] ![n, m₁] inb₁, w1⟩ :: ⟨Rect.unit (s := ⟨2, ![n, m]⟩) ![0, 0] ![n, m₀] inb₀, w0⟩ :: L) = G := by
  funext y
  have y0 : (y 0).val < n := (y 0).isLt
  have y1 : (y 1).val < m := (y 1).isLt
  refine canon_step G h1 fun a0 => ?_
  refine canon_step G h0 fun a1 => absurd ?_ (not_mem_unit a1)
  have a0 := not_mem_unit a0
  omega

attribute [rclike_simps] sl.v1193 sl.v1173 sl.v1153 sl.v1152 sl.v1172 sl.v1171 sl.v1192 sl.v1191 sl.v1155 sl.v1158
  sl.v1157 sl.v1156 sl.v1175 sl.v1174 sl.v1178 sl.v1177 sl.v1176 sl.r_129 sl.v1194 sl.v1214 sl.v1146 sl.v1148 sl.v1147
  sl.v1119 sl.v1121 sl.v1120 sl.v1104 sl.v1107 sl.v1106 sl.v1105 sl.v131 sl.v136 sl.v135 sl.v134 sl.v132 k0_pay1
  k0_pay2 k0_pay3 k0_pay48 k0_pay299 k0_pay301 k0_pay302 k0_pay303

variable (p : In) (k : ℕ) (hsp : Tame p) (d : Dev nD) (rest : ℕ → ℕ → ℝ) (hrest : Low rest) (hk : k < 64)
  (o15 o16 o17 o18 o19 o20 : ℕ → ℕ → ℝ)
  {arg1 : Memref sig .tc .vmem S128x1024 .f32} (harg1 : arg1.IsWhole)
  {arg2 : Memref sig .tc .vmem S128x1024 .f32} (harg2 : arg2.IsWhole)
  {arg3 : Memref sig .tc .vmem S128x1536 .f32} (harg3 : arg3.IsWhole)
  {arg4 : Memref sig .tc .vmem S128x128 .f32} (harg4 : arg4.IsWhole)
  {arg5 : Memref sig .tc .vmem S128x1536 .f32} (harg5 : arg5.IsWhole)
  {arg6 : Memref sig .tc .vmem S128x1024 .f32} (harg6 : arg6.IsWhole)
  {arg7 : Memref sig .tc .vmem S1x128x1024 .f32} (harg7 : arg7.IsWhole)
  {arg8 : Memref sig .tc .vmem S4x1536 .f32} (harg8 : arg8.IsWhole)
  {arg9 : Memref sig .tc .vmem S1x128 .f32} (harg9 : arg9.IsWhole)
  {arg10 : Memref sig .tc .vmem S1x128 .f32} (harg10 : arg10.IsWhole)
  {arg11 : Memref sig .tc .vmem S1x1024 .f32} (harg11 : arg11.IsWhole)
  {arg12 : Memref sig .tc .vmem S1x1024 .f32} (harg12 : arg12.IsWhole)
  {arg13 : Memref sig .tc .vmem S128x1024 .bf16} (harg13 : arg13.IsWhole)
  {arg14 : Memref sig .tc .vmem S128x2560 .bf16} (harg14 : arg14.IsWhole)
  {arg15 : Memref sig .tc .vmem S128x128 .bf16} (harg15 : arg15.IsWhole)
  {arg16 : Memref sig .tc .vmem S4x1536 .f32} (harg16 : arg16.IsWhole)
  {arg17 : Memref sig .tc .vmem S1x1536 .f32} (harg17 : arg17.IsWhole)
  {arg18 : Memref sig .tc .vmem S1x128 .f32} (harg18 : arg18.IsWhole)
  {arg19 : Memref sig .tc .vmem S1x128 .f32} (harg19 : arg19.IsWhole)
  {arg20 : Memref sig .tc .vmem S1x1024 .f32} (harg20 : arg20.IsWhole)
  {arg21 : Memref sig .tc .vmem S1x1024 .f32} (harg21 : arg21.IsWhole)
  {arg22 : Memref sig .tc .vmem S128x1024 .f32} (harg22 : arg22.IsWhole)
  {arg23 : Memref sig .tc .vmem S8x1536 .f32} (harg23 : arg23.IsWhole)
  {arg24 : Memref sig .tc .vmem S128x1024 .f32} (harg24 : arg24.IsWhole)
  {arg25 : Memref sig .tc .vmem S128x1536 .f32} (harg25 : arg25.IsWhole)
  {arg26 : Memref sig .tc .vmem S128x128 .f32} (harg26 : arg26.IsWhole)
  {arg27 : Memref sig .tc .vmem S128x128 .f32} (harg27 : arg27.IsWhole)
include hsp hk

@[rclike_simps] theorem dp_eq : k0_pay3 (F := Ideal) (sl.r_131 (F := Ideal) d _ harg1 _ harg2 _ harg4 _ harg5 _ harg6 _ harg7 _ harg8 _ harg9 _ harg10 _ harg11 _ harg12 _ harg13 _ harg22 _ harg23 arg24 arg25 arg26 (tile (128 * k) p.Ct) (tile (128 * k) p.z) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand) (tile 0 (p.dS k)) (tile (128 * (k + 1)) p.dxc)) = arr fun i ch => p.dxp (128 * k + i) ch := by
  simp only [rclike_simps, ← Nat.add_assoc, hsp, hk, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero, sl.r_131]
  rfl
include hrest in
@[rclike_simps] theorem ddtp_eq : sl.v1124 (F := Ideal) d _ harg1 _ harg2 _ harg4 _ harg5 _ harg6 _ harg7 _ harg9 _ harg10 _ harg12 _ harg13 _ harg22 arg24 arg26 _ harg27 (tile (128 * k) p.Ct) (tile (128 * k) p.z) (tile (128 * k) p.Dt) (tile (128 * k) p.XC) (tile (128 * k) p.Y) (cube (p.S k)) (tile 0 p.Bias) (tile 0 p.Al) (tile 0 p.G) (tile 0 expand) (tile 0 (p.dS k)) (tile 0 rest) = arr fun i h => p.ddtp (128 * k + i) h := by
  simp only [rclike_simps, ← Nat.add_assoc, hsp, hk, hrest, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero, sl.v1124]
@[rclike_simps] theorem dcw3_eq : sl.v1159 (F := Ideal) d _ harg1 _ harg2 _ harg3 _ harg4 _ harg5 _ harg6 _ harg7 _ harg9 _ harg10 _ harg11 _ harg12 _ harg13 _ harg16 _ harg22 arg24 arg25 arg26 (tile (128 * k) p.Ct) (tile (128 * k) p.z) (tile (128 * k) p.xp) (tile (128 * k) p.Dt) (tile (128 * k) p.XC) (tile (128 * k) p.Y) (cube (p.S k)) (tile 0 p.Bias) (tile 0 p.Al) (tile 0 fun _ ch => p.D 0 (ch / 64)) (tile 0 p.G) (tile 0 expand) (tile 0 o15) (tile 0 (p.dS k)) = arr fun _ ch => o15 3 ch + ∑ q ∈ Finset.range 128, p.xp (128 * k + q) ch * p.dxc (128 * k + q + 0) ch := by
  simp only [rclike_simps, ← Nat.add_assoc, hsp, hk, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero, sl.v1159]
  refine arr_congr fun i hi j _ => ?_
  obtain rfl : i = 0 := by omega
  rfl
@[rclike_simps] theorem dcw2_eq : sl.v1179 (F := Ideal) d _ harg1 _ harg2 _ harg3 _ harg4 _ harg5 _ harg6 _ harg7 _ harg9 _ harg10 _ harg11 _ harg12 _ harg13 _ harg16 _ harg22 _ harg23 arg24 arg25 arg26 (tile (128 * k) p.Ct) (tile (128 * k) p.z) (tile (128 * k) p.xp) (tile (128 * k) p.Dt) (tile (128 * k) p.XC) (tile (128 * k) p.Y) (cube (p.S k)) (tile 0 p.Bias) (tile 0 p.Al) (tile 0 fun _ ch => p.D 0 (ch / 64)) (tile 0 p.G) (tile 0 expand) (tile 0 o15) (tile 0 (p.dS k)) (tile (128 * (k + 1)) p.dxc) = arr fun _ ch => o15 2 ch + ∑ q ∈ Finset.range 128, p.xp (128 * k + q) ch * p.dxc (128 * k + q + 1) ch := by
  simp only [rclike_simps, ← Nat.add_assoc, hsp, hk, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero, sl.v1179]
  refine arr_congr fun i hi j _ => ?_
  obtain rfl : i = 0 := by omega
  rfl
@[rclike_simps] theorem dcw1_eq : k0_pay299 (F := Ideal) (sl.v1195 (F := Ideal) d _ harg16 (tile 0 o15)) (sl.v1196 (F := Ideal) d _ harg1 _ harg2 _ harg3 _ harg4 _ harg5 _ harg6 _ harg7 _ harg9 _ harg10 _ harg11 _ harg12 _ harg13 _ harg22 _ harg23 arg24 arg25 arg26 (tile (128 * k) p.Ct) (tile (128 * k) p.z) (tile (128 * k) p.xp) (tile (128 * k) p.Dt) (tile (128 * k) p.XC) (tile (128 * k) p.Y) (cube (p.S k)) (tile 0 p.Bias) (tile 0 p.Al) (tile 0 fun _ ch => p.D 0 (ch / 64)) (tile 0 p.G) (tile 0 expand) (tile 0 (p.dS k)) (tile (128 * (k + 1)) p.dxc)) = arr fun _ ch => o15 1 ch + ∑ q ∈ Finset.range 128, p.xp (128 * k + q) ch * p.dxc (128 * k + q + 2) ch := by
  simp only [rclike_simps, ← Nat.add_assoc, hsp, hk, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero, sl.v1195, sl.v1196]
  refine arr_congr fun i hi j _ => ?_
  obtain rfl : i = 0 := by omega
  rfl
@[rclike_simps] theorem dcw0_eq : k0_pay1 (F := Ideal) (sl.r_132 (F := Ideal) d _ harg16 (tile 0 o15)) (sl.r_133 (F := Ideal) d _ harg1 _ harg2 _ harg3 _ harg4 _ harg5 _ harg6 _ harg7 _ harg9 _ harg10 _ harg11 _ harg12 _ harg13 _ harg22 _ harg23 arg24 arg25 arg26 (tile (128 * k) p.Ct) (tile (128 * k) p.z) (tile (128 * k) p.xp) (tile (128 * k) p.Dt) (tile (128 * k) p.XC) (tile (128 * k) p.Y) (cube (p.S k)) (tile 0 p.Bias) (tile 0 p.Al) (tile 0 fun _ ch => p.D 0 (ch / 64)) (tile 0 p.G) (tile 0 expand) (tile 0 (p.dS k)) (tile (128 * (k + 1)) p.dxc)) = arr fun _ ch => o15 0 ch + ∑ q ∈ Finset.range 128, p.xp (128 * k + q) ch * p.dxc (128 * k + q + 3) ch := by
  simp only [rclike_simps, ← Nat.add_assoc, hsp, hk, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero, sl.r_132, sl.r_133]
  refine arr_congr fun i hi j _ => ?_
  obtain rfl : i = 0 := by omega
  rfl
@[rclike_simps] theorem dcb_eq : sl.v1149 (F := Ideal) d _ harg1 _ harg2 _ harg4 _ harg5 _ harg6 _ harg7 _ harg9 _ harg10 _ harg11 _ harg12 _ harg13 _ harg17 _ harg22 arg24 arg25 arg26 (tile (128 * k) p.Ct) (tile (128 * k) p.z) (tile (128 * k) p.Dt) (tile (128 * k) p.XC) (tile (128 * k) p.Y) (cube (p.S k)) (tile 0 p.Bias) (tile 0 p.Al) (tile 0 fun _ ch => p.D 0 (ch / 64)) (tile 0 p.G) (tile 0 expand) (tile 0 o16) (tile 0 (p.dS k)) = arr fun i ch => o16 i ch + ∑ q ∈ Finset.range 128, p.dxc (128 * k + q) ch := by
  simp only [rclike_simps, ← Nat.add_assoc, hsp, hk, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero, sl.v1149]
include hrest in
@[rclike_simps] theorem dbias_eq : sl.v1122 (F := Ideal) d _ harg1 _ harg2 _ harg4 _ harg5 _ harg6 _ harg7 _ harg9 _ harg10 _ harg12 _ harg13 _ harg18 _ harg22 arg24 arg26 _ harg27 (tile (128 * k) p.Ct) (tile (128 * k) p.z) (tile (128 * k) p.Dt) (tile (128 * k) p.XC) (tile (128 * k) p.Y) (cube (p.S k)) (tile 0 p.Bias) (tile 0 p.Al) (tile 0 p.G) (tile 0 expand) (tile 0 o17) (tile 0 (p.dS k)) (tile 0 rest) = arr fun i h => o17 i h + ∑ q ∈ Finset.range 128, p.ddtp (128 * k + q) h := by
  simp only [rclike_simps, ← Nat.add_assoc, hsp, hk, hrest, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero, sl.v1122]
include hrest in
@[rclike_simps] theorem dA_eq : sl.v1108 (F := Ideal) d _ harg1 _ harg2 _ harg4 _ harg5 _ harg6 _ harg7 _ harg9 _ harg10 _ harg12 _ harg13 _ harg19 _ harg22 arg26 _ harg27 (tile (128 * k) p.Ct) (tile (128 * k) p.z) (tile (128 * k) p.Dt) (tile (128 * k) p.XC) (tile (128 * k) p.Y) (cube (p.S k)) (tile 0 p.Bias) (tile 0 p.Al) (tile 0 p.G) (tile 0 expand) (tile 0 o18) (tile 0 (p.dS k)) (tile 0 rest) = arr fun i h => o18 i h + ∑ q ∈ Finset.range 128, p.da k q h * p.dt (128 * k + q) h := by
  simp only [rclike_simps, ← Nat.add_assoc, hsp, hk, hrest, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero, sl.v1108]
@[rclike_simps] theorem dD_eq : k0_pay48 (F := Ideal) (sl.v168 (F := Ideal) d _ harg20 (tile 0 o19)) (sl.v169 (F := Ideal) d _ harg1 _ harg2 _ harg5 _ harg6 _ harg12 (tile (128 * k) p.Ct) (tile (128 * k) p.z) (tile (128 * k) p.XC) (tile (128 * k) p.Y) (tile 0 p.G)) = arr fun i ch => o19 i ch + ∑ q ∈ Finset.range 128, p.dY (128 * k + q) ch * p.u (128 * k + q) ch := by
  simp only [rclike_simps, ← Nat.add_assoc, hsp, hk, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero, sl.v168, sl.v169]
@[rclike_simps] theorem dg_eq : sl.v137 (F := Ideal) d _ harg1 _ harg2 _ harg6 _ harg21 (tile (128 * k) p.Ct) (tile (128 * k) p.z) (tile (128 * k) p.Y) (tile 0 o20) = arr fun i ch => o20 i ch + ∑ q ∈ Finset.range 128, p.Ct (128 * k + q) ch * p.q (128 * k + q) ch * p.rn (128 * k + q) := by
  simp only [rclike_simps, ← Nat.add_assoc, hsp, hk, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero, sl.v137]
@[rclike_simps] theorem head_eq : k0_pay2 (F := Ideal) (sl.v1142 (F := Ideal) d _ harg1 _ harg2 _ harg4 _ harg5 _ harg6 _ harg7 _ harg9 _ harg10 _ harg11 _ harg12 _ harg13 _ harg22 arg24 arg25 arg26 (tile (128 * k) p.Ct) (tile (128 * k) p.z) (tile (128 * k) p.Dt) (tile (128 * k) p.XC) (tile (128 * k) p.Y) (cube (p.S k)) (tile 0 p.Bias) (tile 0 p.Al) (tile 0 fun _ ch => p.D 0 (ch / 64)) (tile 0 p.G) (tile 0 expand) (tile 0 (p.dS k))) = arr fun i ch => p.dxc (128 * k + i) ch := by
  simp only [rclike_simps, ← Nat.add_assoc, hsp, hk, Nat.reduceLT, Nat.reduceEqDiff, Nat.reduceLeDiff, Nat.reduceAdd, Nat.reduceSub, Nat.reduceMul, Nat.reduceMod, Nat.reduceDiv, BitVec.toNat_ofNat, and_self, Nat.zero_le, le_refl, Nat.sub_zero, or_true, true_or, false_or, Nat.zero_add, sub_self, mul_zero, Finset.sum_const_zero, add_zero, ]

include hrest

theorem out13_eq {i : grid0.Coords} (hc0 : ¬cond0_0 i) :
    out0_B_13 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand) (tile 0 o15) (tile 0 o16) (tile 0 o17) (tile 0 o18) (tile 0 o19) (tile 0 o20) (tile 0 (p.dS k)) (tile (128 * (k + 1)) p.dxc) (tile 0 rest)
      = arr fun i ch => p.rP (128 * k + i) ch := by
  unfold out0_B_13
  rw [View.read_writes_junk_eq_canon]
  refine canon_cols (m₀ := 1024) (m₁ := 1536) _ _ rfl (fun x => ?_) fun x => ?_
  · simp only [dp_eq, hsp, hk]
    exact emb_unit _ _ (fun i _ j _ => by rw [In.rP, if_neg (by omega), Nat.zero_add, Nat.add_sub_cancel_left]) x
  · simp only [k_v164, hsp, hk]
    exact emb_unit _ _ (fun i _ j hj => by rw [In.rP, if_pos (by omega), Nat.zero_add, Nat.zero_add]) x
theorem out14_eq {i : grid0.Coords} (hc0 : ¬cond0_0 i) :
    out0_B_14 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand) (tile 0 o15) (tile 0 o16) (tile 0 o17) (tile 0 o18) (tile 0 o19) (tile 0 o20) (tile 0 (p.dS k)) (tile (128 * (k + 1)) p.dxc) (tile 0 rest)
      = arr fun i h => p.ddtp (128 * k + i) h := by
  unfold out0_B_14
  rw [View.read_writes_junk_eq_canon]
  refine (canon_whole _ _).trans ?_
  simp only [ddtp_eq, hsp, hk, hrest]
theorem out15_eq {i : grid0.Coords} (hc0 : ¬cond0_0 i) :
    out0_B_15 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand) (tile 0 o15) (tile 0 o16) (tile 0 o17) (tile 0 o18) (tile 0 o19) (tile 0 o20) (tile 0 (p.dS k)) (tile (128 * (k + 1)) p.dxc) (tile 0 rest)
      = arr fun r ch => o15 r ch + ∑ q ∈ Finset.range 128, p.xp (128 * k + q) ch * p.dxc (128 * k + q + (3 - r)) ch := by
  unfold out0_B_15
  rw [View.read_writes_junk_eq_canon]
  refine canon_rows _ _ ?_ ?_ ?_ ?_
  · simp only [dcw0_eq, hsp, hk, Nat.sub_zero, Nat.reduceSub]
  · simp only [dcw1_eq, hsp, hk, Nat.sub_zero, Nat.reduceSub]
  · simp only [dcw2_eq, hsp, hk, Nat.sub_zero, Nat.reduceSub]
  · simp only [dcw3_eq, hsp, hk, Nat.sub_zero, Nat.reduceSub]
theorem out16_eq {i : grid0.Coords} (hc0 : ¬cond0_0 i) :
    out0_B_16 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand) (tile 0 o15) (tile 0 o16) (tile 0 o17) (tile 0 o18) (tile 0 o19) (tile 0 o20) (tile 0 (p.dS k)) (tile (128 * (k + 1)) p.dxc) (tile 0 rest)
      = arr fun i ch => o16 i ch + ∑ q ∈ Finset.range 128, p.dxc (128 * k + q) ch := by
  unfold out0_B_16
  rw [View.read_writes_junk_eq_canon]
  refine (canon_whole _ _).trans ?_
  simp only [dcb_eq, hsp, hk, hrest]
theorem out17_eq {i : grid0.Coords} (hc0 : ¬cond0_0 i) :
    out0_B_17 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand) (tile 0 o15) (tile 0 o16) (tile 0 o17) (tile 0 o18) (tile 0 o19) (tile 0 o20) (tile 0 (p.dS k)) (tile (128 * (k + 1)) p.dxc) (tile 0 rest)
      = arr fun i ch => o17 i ch + ∑ q ∈ Finset.range 128, p.ddtp (128 * k + q) ch := by
  unfold out0_B_17
  rw [View.read_writes_junk_eq_canon]
  refine (canon_whole _ _).trans ?_
  simp only [dbias_eq, hsp, hk, hrest]
theorem out18_eq {i : grid0.Coords} (hc0 : ¬cond0_0 i) :
    out0_B_18 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand) (tile 0 o15) (tile 0 o16) (tile 0 o17) (tile 0 o18) (tile 0 o19) (tile 0 o20) (tile 0 (p.dS k)) (tile (128 * (k + 1)) p.dxc) (tile 0 rest)
      = arr fun i ch => o18 i ch + ∑ q ∈ Finset.range 128, p.da k q ch * p.dt (128 * k + q) ch := by
  unfold out0_B_18
  rw [View.read_writes_junk_eq_canon]
  refine (canon_whole _ _).trans ?_
  simp only [dA_eq, hsp, hk, hrest]
theorem out19_eq {i : grid0.Coords} (hc0 : ¬cond0_0 i) :
    out0_B_19 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand) (tile 0 o15) (tile 0 o16) (tile 0 o17) (tile 0 o18) (tile 0 o19) (tile 0 o20) (tile 0 (p.dS k)) (tile (128 * (k + 1)) p.dxc) (tile 0 rest)
      = arr fun i ch => o19 i ch + ∑ q ∈ Finset.range 128, p.dY (128 * k + q) ch * p.u (128 * k + q) ch := by
  unfold out0_B_19
  rw [View.read_writes_junk_eq_canon]
  refine (canon_whole _ _).trans ?_
  simp only [dD_eq, hsp, hk, hrest]
theorem out20_eq {i : grid0.Coords} (hc0 : ¬cond0_0 i) :
    out0_B_20 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand) (tile 0 o15) (tile 0 o16) (tile 0 o17) (tile 0 o18) (tile 0 o19) (tile 0 o20) (tile 0 (p.dS k)) (tile (128 * (k + 1)) p.dxc) (tile 0 rest)
      = arr fun i ch => o20 i ch + ∑ q ∈ Finset.range 128, p.Ct (128 * k + q) ch * p.q (128 * k + q) ch * p.rn (128 * k + q) := by
  unfold out0_B_20
  rw [View.read_writes_junk_eq_canon]
  refine (canon_whole _ _).trans ?_
  simp only [dg_eq, hsp, hk, hrest]
theorem sout0_eq {i : grid0.Coords} (hc0 : ¬cond0_0 i) :
    sout0_B_0 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand) (tile 0 o15) (tile 0 o16) (tile 0 o17) (tile 0 o18) (tile 0 o19) (tile 0 o20) (tile 0 (p.dS k)) (tile (128 * (k + 1)) p.dxc) (tile 0 rest)
      = arr fun n ch => p.ecs k 127 (ch / 64) * p.dS k n ch + p.CdY k n ch := by
  unfold sout0_B_0
  rw [View.read_writes_junk_eq_canon]
  refine canon_cols (m₀ := 512) (m₁ := 512) _ _ rfl (fun x => ?_) fun x => ?_
  · simp only [k_v1033, hsp, hk]
    exact emb_unit _ _ (fun i _ j _ => by rw [Nat.zero_add]) x
  · simp only [k_v955, hsp, hk]
    exact emb_unit _ _ (fun i _ j hj => by rw [Nat.zero_add, Nat.zero_add]) x
theorem sout1_eq {i : grid0.Coords} (hc0 : ¬cond0_0 i) :
    sout0_B_1 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand) (tile 0 o15) (tile 0 o16) (tile 0 o17) (tile 0 o18) (tile 0 o19) (tile 0 o20) (tile 0 (p.dS k)) (tile (128 * (k + 1)) p.dxc) (tile 0 rest)
      = arr fun i ch => p.dxc (128 * k + i) ch := by
  unfold sout0_B_1
  rw [View.read_writes_junk_eq_canon]
  refine (canon_whole _ _).trans ?_
  simp only [head_eq, hsp, hk, hrest]
theorem sout5_eq {i : grid0.Coords} (hc0 : ¬cond0_0 i) :
    sout0_B_5 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand) (tile 0 o15) (tile 0 o16) (tile 0 o17) (tile 0 o18) (tile 0 o19) (tile 0 o20) (tile 0 (p.dS k)) (tile (128 * (k + 1)) p.dxc) (tile 0 rest)
      = arr fun i j => if i < 16 then ∑ l ∈ Finset.range 128, p.W k i l j else rest i j := by
  unfold sout0_B_5
  show View.read (Elt Ideal) arg27.view (arg27.view.writes (Elt Ideal) (harg27.unread (tile 0 rest)) (sl.HS5_16 (F := Ideal) d _ harg1 _ harg2 _ harg4 _ harg5 _ harg6 _ harg9 _ harg10 _ harg12 _ harg13 arg26 (tile (128 * k) p.Ct) (tile (128 * k) p.z) (tile (128 * k) p.Dt) (tile (128 * k) p.XC) (tile (128 * k) p.Y) (tile 0 p.Bias) (tile 0 p.Al) (tile 0 p.G) (tile 0 expand))) = _
  simp only [rclike_simps, ← Nat.add_assoc, Nat.reduceLT, Nat.reduceEqDiff, Nat.reduceLeDiff, Nat.reduceAdd, Nat.reduceSub, Nat.reduceMul, Nat.reduceMod, Nat.reduceDiv, BitVec.toNat_ofNat, hsp, and_self, Nat.zero_le, le_refl, Nat.sub_zero, or_true, true_or, false_or, Nat.zero_add, sub_self, mul_zero, Finset.sum_const_zero, add_zero, sl.HS5_16]
  refine arr_congr fun i _ j _ => ?_
  by_cases hj : i < 16
  · rw [if_pos hj]; interval_cases i <;> simp
  · rw [if_neg hj]; simp [show i ≠ 0 ∧ i ≠ 1 ∧ i ≠ 2 ∧ i ≠ 3 ∧ i ≠ 4 ∧ i ≠ 5 ∧ i ≠ 6 ∧ i ≠ 7 ∧ i ≠ 8 ∧ i ≠ 9 ∧ i ≠ 10 ∧ i ≠ 11 ∧ i ≠ 12 ∧ i ≠ 13
      ∧ i ≠ 14 ∧ i ≠ 15 by omega]

end Cert.Proof.Ssd.Point

end
-- ==== Proof.SsdFirst.lean ====
/- The first point of the walk: where the carried buffers start at zero, its values are the later points' values at zero. -/
module

public import proofs.«01_k».proof.Proof.SsdOut

@[expose] public section

noncomputable section

namespace Cert.Proof.Ssd.Point

open Idealize.ShloMosaic Idealize.ShloMosaic.ValueIdx
open Cert.SsdKernelIdeal Cert.SsdKernelIdeal.Gen
open scoped BigOperators

@[mfld_simps] theorem ld_zero {n m n' m' a b : ℕ} {inb} :
    View.ld (Val := Elt Ideal) (e' := .f32) (arr (n := n) (m := m) fun _ _ => 0) (Rect.unit (s := ⟨2, ![n, m]⟩) ![a, b] ![n', m'] inb) = (arr fun _ _ => 0 : (⟨2, ![n', m']⟩ : Shape).Idx → EReal) := rfl
attribute [mfld_simps] View.readAt_eq_ld Memref.IsWhole.read_unread
/-- A write over the whole of a buffer leaves what it wrote. -/
theorem whole_write {n m : ℕ} {sig : RefSig} {κ : Kind} {sp : Space} {M : Memref sig κ sp ⟨2, ![n, m]⟩ .f32} (h : M.IsWhole) (f : M.view.ty.Contents (Elt Ideal)) (w : (⟨2, ![n, m]⟩ : Shape).Idx → EReal) {inb} :
    (M.view.slice (Rect.unit (s := ⟨2, ![n, m]⟩) ![0, 0] ![n, m] inb)).write (Elt Ideal) f w Finset.univ = h.unread w := by
  refine h.eq_unread (funext fun y => ?_)
  have y0 : (y 0).val < n := (y 0).isLt
  have y1 : (y 1).val < m := (y 1).isLt
  refine read_step (L := []) M.view f w (fun x => congrArg w ?_) fun a => absurd (by omega) (not_mem_unit (inb := inb) a)
  funext a
  match a with
  | ⟨0, _⟩ => exact Fin.ext (show (x 0).val = 0 + 1 * (x 0).val by omega)
  | ⟨1, _⟩ => exact Fin.ext (show (x 1).val = 0 + 1 * (x 1).val by omega)

variable (d : Dev nD)
  {arg1 : Memref sig .tc .vmem S128x1024 .f32} (harg1 : arg1.IsWhole)
  {arg2 : Memref sig .tc .vmem S128x1024 .f32} (harg2 : arg2.IsWhole)
  {arg3 : Memref sig .tc .vmem S128x1536 .f32} (harg3 : arg3.IsWhole)
  {arg4 : Memref sig .tc .vmem S128x128 .f32} (harg4 : arg4.IsWhole)
  {arg5 : Memref sig .tc .vmem S128x1536 .f32} (harg5 : arg5.IsWhole)
  {arg6 : Memref sig .tc .vmem S128x1024 .f32} (harg6 : arg6.IsWhole)
  {arg7 : Memref sig .tc .vmem S1x128x1024 .f32} (harg7 : arg7.IsWhole)
  {arg8 : Memref sig .tc .vmem S4x1536 .f32} (harg8 : arg8.IsWhole)
  {arg9 : Memref sig .tc .vmem S1x128 .f32} (harg9 : arg9.IsWhole)
  {arg10 : Memref sig .tc .vmem S1x128 .f32} (harg10 : arg10.IsWhole)
  {arg11 : Memref sig .tc .vmem S1x1024 .f32} (harg11 : arg11.IsWhole)
  {arg12 : Memref sig .tc .vmem S1x1024 .f32} (harg12 : arg12.IsWhole)
  {arg13 : Memref sig .tc .vmem S128x1024 .bf16} (harg13 : arg13.IsWhole)
  {arg14 : Memref sig .tc .vmem S128x2560 .bf16} (harg14 : arg14.IsWhole)
  {arg15 : Memref sig .tc .vmem S128x128 .bf16} (harg15 : arg15.IsWhole)
  {arg16 : Memref sig .tc .vmem S4x1536 .f32} (harg16 : arg16.IsWhole)
  {arg17 : Memref sig .tc .vmem S1x1536 .f32} (harg17 : arg17.IsWhole)
  {arg18 : Memref sig .tc .vmem S1x128 .f32} (harg18 : arg18.IsWhole)
  {arg19 : Memref sig .tc .vmem S1x128 .f32} (harg19 : arg19.IsWhole)
  {arg20 : Memref sig .tc .vmem S1x1024 .f32} (harg20 : arg20.IsWhole)
  {arg21 : Memref sig .tc .vmem S1x1024 .f32} (harg21 : arg21.IsWhole)
  {arg22 : Memref sig .tc .vmem S128x1024 .f32} (harg22 : arg22.IsWhole)
  {arg23 : Memref sig .tc .vmem S8x1536 .f32} (harg23 : arg23.IsWhole)
  {arg24 : Memref sig .tc .vmem S128x1024 .f32} (harg24 : arg24.IsWhole)
  {arg25 : Memref sig .tc .vmem S128x1536 .f32} (harg25 : arg25.IsWhole)
  {arg26 : Memref sig .tc .vmem S128x128 .f32} (harg26 : arg26.IsWhole)
  {arg27 : Memref sig .tc .vmem S128x128 .f32} (harg27 : arg27.IsWhole)
  {x0 : Vec Ideal S128x1024 .f32}
  {x1 : Vec Ideal S128x1024 .f32}
  {x2 : Vec Ideal S128x1536 .f32}
  {x3 : Vec Ideal S128x128 .f32}
  {x4 : Vec Ideal S128x1536 .f32}
  {x5 : Vec Ideal S128x1024 .f32}
  {x6 : Vec Ideal S1x128x1024 .f32}
  {x7 : Vec Ideal S4x1536 .f32}
  {x8 : Vec Ideal S1x128 .f32}
  {x9 : Vec Ideal S1x128 .f32}
  {x10 : Vec Ideal S1x1024 .f32}
  {x11 : Vec Ideal S1x1024 .f32}
  {x12 : Vec Ideal S128x1024 .bf16}

attribute [ghost_simps] kernelRun0_A.sl.HS0_1 kernelRun0_A.sl.HS0_2 kernelRun0_A.sl.HS1_1 kernelRun0_A.sl.H15_1 kernelRun0_A.sl.H15_2 kernelRun0_A.sl.H15_3 kernelRun0_A.sl.H15_4 kernelRun0_A.sl.H16_1 kernelRun0_A.sl.H18_1 kernelRun0_A.sl.H20_1 kernelRun0_A.sl.HS5_8 kernelRun0_A.sl.HS5_16 kernelRun0_A.sl.HS5_17 kernelRun0_A.sl.v1230 kernelRun0_A.sl.v1234 kernelRun0_A.sl.v1238 kernelRun0_A.sl.v1239 kernelRun0_A.sl.v1241 kernelRun0_A.sl.v1243 kernelRun0_A.sl.v1247 kernelRun0_A.sl.v1227 kernelRun0_A.sl.v1231 kernelRun0_A.sl.v1235 kernelRun0_A.sl.cst_463

@[mfld_simps] theorem z_v130 : kernelRun0_A.sl.v130 (F := Ideal) d arg21 = arr fun _ _ => 0 := by
  simp only [kernelRun0_A.sl.v130, ghost_simps, rclike_simps, Nat.reduceLeDiff, Nat.reduceAdd, Nat.zero_le, le_refl, and_self, or_true, true_or]
@[mfld_simps] theorem z_v167 : kernelRun0_A.sl.v167 (F := Ideal) d arg20 = arr fun _ _ => 0 := by
  simp only [kernelRun0_A.sl.v167, ghost_simps, rclike_simps, Nat.reduceLeDiff, Nat.reduceAdd, Nat.zero_le, le_refl, and_self, or_true, true_or]
@[mfld_simps] theorem z_v522 : kernelRun0_A.sl.v522 (F := Ideal) d _ harg1 _ harg2 _ harg4 _ harg5 _ harg6 _ harg9 _ harg10 _ harg12 _ harg13 arg26 arg27 x0 x1 x3 x4 x5 x8 x9 x11 x12 = arr fun _ _ => 0 := by
  simp only [kernelRun0_A.sl.v522, ghost_simps, rclike_simps, Nat.reduceLeDiff, Nat.reduceAdd, Nat.zero_le, le_refl, and_self, or_true, true_or]
@[mfld_simps] theorem z_v887 : kernelRun0_A.sl.v887 (F := Ideal) d _ harg1 _ harg2 _ harg4 _ harg5 _ harg6 _ harg9 _ harg10 _ harg12 _ harg13 arg26 arg27 x0 x1 x3 x4 x5 x8 x9 x11 x12 = arr fun _ _ => 0 := by
  simp only [kernelRun0_A.sl.v887, ghost_simps, rclike_simps, Nat.reduceLeDiff, Nat.reduceAdd, Nat.zero_le, le_refl, and_self, or_true, true_or]
@[mfld_simps] theorem z_v912 : kernelRun0_A.sl.v912 (F := Ideal) d arg22 = arr fun _ _ => 0 := by
  simp only [kernelRun0_A.sl.v912, ghost_simps, rclike_simps, Nat.reduceLeDiff, Nat.reduceAdd, Nat.zero_le, le_refl, and_self, or_true, true_or]
@[mfld_simps] theorem z_v953 : kernelRun0_A.sl.v953 (F := Ideal) d arg22 = arr fun _ _ => 0 := by
  simp only [kernelRun0_A.sl.v953, ghost_simps, rclike_simps, Nat.reduceLeDiff, Nat.reduceAdd, Nat.zero_le, le_refl, and_self, or_true, true_or]
@[mfld_simps] theorem z_v1031 : kernelRun0_A.sl.v1031 (F := Ideal) d _ harg1 _ harg2 _ harg4 _ harg5 _ harg6 _ harg9 _ harg10 _ harg12 _ harg13 arg22 x0 x1 x3 x4 x5 x8 x9 x11 x12 = arr fun _ _ => 0 := by
  simp only [kernelRun0_A.sl.v1031, ghost_simps, rclike_simps, Nat.reduceLeDiff, Nat.reduceAdd, Nat.zero_le, le_refl, and_self, or_true, true_or]
@[mfld_simps] theorem z_v1103 : kernelRun0_A.sl.v1103 (F := Ideal) d arg19 = arr fun _ _ => 0 := by
  simp only [kernelRun0_A.sl.v1103, ghost_simps, rclike_simps, Nat.reduceLeDiff, Nat.reduceAdd, Nat.zero_le, le_refl, and_self, or_true, true_or]
@[mfld_simps] theorem z_v1118 : kernelRun0_A.sl.v1118 (F := Ideal) d arg18 = arr fun _ _ => 0 := by
  simp only [kernelRun0_A.sl.v1118, ghost_simps, rclike_simps, Nat.reduceLeDiff, Nat.reduceAdd, Nat.zero_le, le_refl, and_self, or_true, true_or]
@[mfld_simps] theorem z_v1144 : kernelRun0_A.sl.v1144 (F := Ideal) d arg23 = arr fun _ _ => 0 := by
  simp only [kernelRun0_A.sl.v1144, ghost_simps, rclike_simps, Nat.reduceLeDiff, Nat.reduceAdd, Nat.zero_le, le_refl, and_self, or_true, true_or]
@[mfld_simps] theorem z_v1145 : kernelRun0_A.sl.v1145 (F := Ideal) d arg17 = arr fun _ _ => 0 := by
  simp only [kernelRun0_A.sl.v1145, ghost_simps, rclike_simps, Nat.reduceLeDiff, Nat.reduceAdd, Nat.zero_le, le_refl, and_self, or_true, true_or]
@[mfld_simps] theorem z_v1154 : kernelRun0_A.sl.v1154 (F := Ideal) d arg16 = arr fun _ _ => 0 := by
  simp only [kernelRun0_A.sl.v1154, ghost_simps, rclike_simps, Nat.reduceLeDiff, Nat.reduceAdd, Nat.zero_le, le_refl, and_self, or_true, true_or]
@[mfld_simps] theorem z_v1174 : kernelRun0_A.sl.v1174 (F := Ideal) d _ harg1 _ harg2 _ harg3 _ harg4 _ harg5 _ harg6 _ harg7 _ harg9 _ harg10 _ harg11 _ harg12 _ harg13 arg16 arg22 arg24 arg25 arg26 x0 x1 x2 x3 x4 x5 x6 x8 x9 x10 x11 x12 = arr fun _ _ => 0 := by
  simp only [kernelRun0_A.sl.v1174, ghost_simps, rclike_simps, Nat.reduceLeDiff, Nat.reduceAdd, Nat.zero_le, le_refl, and_self, or_true, true_or]
@[mfld_simps] theorem z_v1194 : kernelRun0_A.sl.v1194 (F := Ideal) d _ harg1 _ harg2 _ harg3 _ harg4 _ harg5 _ harg6 _ harg7 _ harg9 _ harg10 _ harg11 _ harg12 _ harg13 arg16 arg22 arg23 arg24 arg25 arg26 x0 x1 x2 x3 x4 x5 x6 x8 x9 x10 x11 x12 = arr fun _ _ => 0 := by
  simp only [kernelRun0_A.sl.v1194, ghost_simps, rclike_simps, Nat.reduceLeDiff, Nat.reduceAdd, Nat.zero_le, le_refl, and_self, or_true, true_or]
@[mfld_simps] theorem z_v1214 : kernelRun0_A.sl.v1214 (F := Ideal) d _ harg1 _ harg2 _ harg3 _ harg4 _ harg5 _ harg6 _ harg7 _ harg9 _ harg10 _ harg11 _ harg12 _ harg13 arg16 arg22 arg23 arg24 arg25 arg26 x0 x1 x2 x3 x4 x5 x6 x8 x9 x10 x11 x12 = arr fun _ _ => 0 := by
  simp only [kernelRun0_A.sl.v1214, ghost_simps, rclike_simps, Nat.reduceLeDiff, Nat.reduceAdd, Nat.zero_le, le_refl, and_self, or_true, true_or]
@[mfld_simps] theorem z_v1238 : kernelRun0_A.sl.v1238 (F := Ideal)  = arr fun _ _ => 0 := by
  simp only [kernelRun0_A.sl.v1238, ghost_simps, rclike_simps, Nat.reduceLeDiff, Nat.reduceAdd, Nat.zero_le, le_refl, and_self, or_true, true_or]
open kernelRun0_A.sl in attribute [mfld_simps] HS2_10 HS2_9 HS3_6 HS3_7 HS3_9 v1000 v1001 v1006 v1007 v1009 v1010 v1013 v1015 v1016 v1017 v1019 v1020 v1022 v1023 v1027 v1030 v1032 v1034 v1036 v1037 v1039 v1040 v1046 v1048 v1050 v1051 v1053 v1054 v1055 v1058 v1060 v1061 v1062 v1063 v1071 v1072 v1075 v1076 v1078 v1084 v1085 v1086 v1087 v1088 v1089 v1090 v1091 v1092 v1093 v1094 v1098 v1099 v1100 v1101 v1102 v1104 v1105 v1106 v1107 v1119 v1120 v1121 v1126 v1131 v1134 v1135 v1146 v1147 v1148 v1153 v1155 v1156 v1157 v1158 v1161 v1162 v1166 v1172 v1173 v1175 v1176 v1177 v1178 v1181 v1182 v1186 v1192 v1193 v131 v523 v888 v908 v909 v928 v929 v931 v941 v942 v945 v949 v952 v954 v958 v959 v962 v968 v970 v972 v973 v975 v976 v977 v980 v982 v983 v984 v985 v993 v994 v997 v998
open kernelRun0_B.sl in attribute [mfld_simps] HS2_10 HS2_9 HS3_6 HS3_7 HS3_9 r_128 r_130 v1000 v1001 v1006 v1007 v1009 v1010 v1013 v1015 v1016 v1017 v1019 v1020 v1022 v1023 v1027 v1030 v1031 v1032 v1034 v1036 v1037 v1039 v1040 v1046 v1048 v1050 v1051 v1053 v1054 v1055 v1058 v1060 v1061 v1062 v1063 v1071 v1072 v1075 v1076 v1078 v1084 v1085 v1086 v1087 v1088 v1089 v1090 v1091 v1092 v1093 v1094 v1098 v1099 v1100 v1101 v1102 v1104 v1105 v1106 v1107 v1119 v1120 v1121 v1126 v1131 v1134 v1135 v1146 v1147 v1148 v1153 v1155 v1156 v1157 v1158 v1161 v1162 v1166 v1172 v1173 v1174 v1175 v1176 v1177 v1178 v1181 v1182 v1186 v1192 v1193 v1194 v1214 v131 v522 v523 v887 v888 v908 v909 v928 v929 v931 v941 v942 v945 v949 v952 v954 v958 v959 v962 v968 v970 v972 v973 v975 v976 v977 v980 v982 v983 v984 v985 v993 v994 v997 v998
@[mfld_simps] theorem c_v164 : @kernelRun0_A.sl.v164 = @kernelRun0_B.sl.v164 := rfl
@[mfld_simps] theorem c_v169 : @kernelRun0_A.sl.v169 = @kernelRun0_B.sl.v169 := rfl
@[mfld_simps] theorem shared :
    @kernelRun0_A.sl.cst_20 = @kernelRun0_B.sl.cst_20 ∧
    @kernelRun0_A.sl.r_1 = @kernelRun0_B.sl.r_1 ∧
    @kernelRun0_A.sl.r_108 = @kernelRun0_B.sl.r_108 ∧
    @kernelRun0_A.sl.r_11 = @kernelRun0_B.sl.r_11 ∧
    @kernelRun0_A.sl.r_118 = @kernelRun0_B.sl.r_118 ∧
    @kernelRun0_A.sl.r_20 = @kernelRun0_B.sl.r_20 ∧
    @kernelRun0_A.sl.r_30 = @kernelRun0_B.sl.r_30 ∧
    @kernelRun0_A.sl.r_38 = @kernelRun0_B.sl.r_38 ∧
    @kernelRun0_A.sl.r_41 = @kernelRun0_B.sl.r_41 ∧
    @kernelRun0_A.sl.r_44 = @kernelRun0_B.sl.r_44 ∧
    @kernelRun0_A.sl.r_45 = @kernelRun0_B.sl.r_45 ∧
    @kernelRun0_A.sl.r_50 = @kernelRun0_B.sl.r_50 ∧
    @kernelRun0_A.sl.r_51 = @kernelRun0_B.sl.r_51 ∧
    @kernelRun0_A.sl.r_54 = @kernelRun0_B.sl.r_54 ∧
    @kernelRun0_A.sl.r_55 = @kernelRun0_B.sl.r_55 ∧
    @kernelRun0_A.sl.r_57 = @kernelRun0_B.sl.r_57 ∧
    @kernelRun0_A.sl.r_63 = @kernelRun0_B.sl.r_63 ∧
    @kernelRun0_A.sl.r_64 = @kernelRun0_B.sl.r_64 ∧
    @kernelRun0_A.sl.r_65 = @kernelRun0_B.sl.r_65 ∧
    @kernelRun0_A.sl.r_83 = @kernelRun0_B.sl.r_83 ∧
    @kernelRun0_A.sl.r_91 = @kernelRun0_B.sl.r_91 ∧
    @kernelRun0_A.sl.r_99 = @kernelRun0_B.sl.r_99 ∧
    @kernelRun0_A.sl.v166 = @kernelRun0_B.sl.v166 ∧
    @kernelRun0_A.sl.v174 = @kernelRun0_B.sl.v174 ∧
    @kernelRun0_A.sl.v47 = @kernelRun0_B.sl.v47 ∧
    @kernelRun0_A.sl.v48 = @kernelRun0_B.sl.v48 ∧
    @kernelRun0_A.sl.v524 = @kernelRun0_B.sl.v524 ∧
    @kernelRun0_A.sl.v542 = @kernelRun0_B.sl.v542 ∧
    @kernelRun0_A.sl.v543 = @kernelRun0_B.sl.v543 ∧
    @kernelRun0_A.sl.v556 = @kernelRun0_B.sl.v556 ∧
    @kernelRun0_A.sl.v597 = @kernelRun0_B.sl.v597 ∧
    @kernelRun0_A.sl.v66 = @kernelRun0_B.sl.v66 ∧
    @kernelRun0_A.sl.v889 = @kernelRun0_B.sl.v889 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
@[mfld_simps] theorem f_v907 :
    kernelRun0_A.sl.v907 (F := Ideal) d _ harg1 _ harg2 _ harg4 _ harg5 _ harg6 _ harg9 _ harg10 _ harg12 _ harg13 arg26 arg27 x0 x1 x3 x4 x5 x8 x9 x11 x12
      = kernelRun0_B.sl.v907 (F := Ideal) d _ harg1 _ harg2 _ harg4 _ harg5 _ harg6 _ harg9 _ harg10 _ harg12 _ harg13 arg26 _ harg27 x0 x1 x3 x4 x5 x8 x9 x11 x12 (arr fun _ _ => 0) := by
  simp only [kernelRun0_A.sl.v907, kernelRun0_B.sl.v907, View.readCov, View.writes_cons, View.writes_nil, whole_write harg27, kernelRun0_A.sl.HS5_17, kernelRun0_A.sl.HS5_16, kernelRun0_A.sl.HS5_8, kernelRun0_B.sl.HS5_16, mfld_simps, harg27]
@[mfld_simps] theorem f_v974 :
    kernelRun0_A.sl.v974 (F := Ideal) d _ harg4 _ harg5 _ harg9 _ harg10 _ harg13 arg22 x3 x4 x8 x9 x12
      = kernelRun0_B.sl.v974 (F := Ideal) d _ harg4 _ harg5 _ harg9 _ harg10 _ harg13 _ harg22 x3 x4 x8 x9 x12 (arr fun _ _ => 0) := by
  simp only [kernelRun0_A.sl.v974, kernelRun0_B.sl.v974, mfld_simps, harg22]
  rfl
@[mfld_simps] theorem f_v1052 :
    kernelRun0_A.sl.v1052 (F := Ideal) d _ harg4 _ harg5 _ harg9 _ harg10 _ harg13 arg22 x3 x4 x8 x9 x12
      = kernelRun0_B.sl.v1052 (F := Ideal) d _ harg4 _ harg5 _ harg9 _ harg10 _ harg13 _ harg22 x3 x4 x8 x9 x12 (arr fun _ _ => 0) := by
  simp only [kernelRun0_A.sl.v1052, kernelRun0_B.sl.v1052, mfld_simps, harg22]
  rfl
@[mfld_simps] theorem f_v1079 :
    kernelRun0_A.sl.v1079 (F := Ideal) d _ harg1 _ harg2 _ harg4 _ harg5 _ harg6 _ harg7 _ harg9 _ harg10 _ harg12 _ harg13 arg22 arg26 arg27 x0 x1 x3 x4 x5 x6 x8 x9 x11 x12
      = kernelRun0_B.sl.v1079 (F := Ideal) d _ harg1 _ harg2 _ harg4 _ harg5 _ harg6 _ harg7 _ harg9 _ harg10 _ harg12 _ harg13 _ harg22 arg26 _ harg27 x0 x1 x3 x4 x5 x6 x8 x9 x11 x12 (arr fun _ _ => 0) (arr fun _ _ => 0) := by
  simp only [kernelRun0_A.sl.v1079, kernelRun0_B.sl.v1079, mfld_simps, harg22, harg27]
  rfl
@[mfld_simps] theorem f_v1096 :
    kernelRun0_A.sl.v1096 (F := Ideal) d _ harg1 _ harg2 _ harg4 _ harg5 _ harg6 _ harg9 _ harg10 _ harg12 _ harg13 arg22 arg24 arg26 x0 x1 x3 x4 x5 x8 x9 x11 x12
      = kernelRun0_B.sl.v1096 (F := Ideal) d _ harg1 _ harg2 _ harg4 _ harg5 _ harg6 _ harg9 _ harg10 _ harg12 _ harg13 _ harg22 arg24 arg26 x0 x1 x3 x4 x5 x8 x9 x11 x12 (arr fun _ _ => 0) := by
  simp only [kernelRun0_A.sl.v1096, kernelRun0_B.sl.v1096, mfld_simps, harg22]
  rfl
@[mfld_simps] theorem f_v1095 :
    kernelRun0_A.sl.v1095 (F := Ideal) d _ harg1 _ harg2 _ harg4 _ harg5 _ harg6 _ harg7 _ harg9 _ harg10 _ harg12 _ harg13 arg22 arg26 arg27 x0 x1 x3 x4 x5 x6 x8 x9 x11 x12
      = kernelRun0_B.sl.v1095 (F := Ideal) d _ harg1 _ harg2 _ harg4 _ harg5 _ harg6 _ harg7 _ harg9 _ harg10 _ harg12 _ harg13 _ harg22 arg26 _ harg27 x0 x1 x3 x4 x5 x6 x8 x9 x11 x12 (arr fun _ _ => 0) (arr fun _ _ => 0) := by
  simp only [kernelRun0_A.sl.v1095, kernelRun0_B.sl.v1095, mfld_simps, harg22, harg27]
  rfl
@[mfld_simps] theorem f_v1117 :
    kernelRun0_A.sl.v1117 (F := Ideal) d _ harg1 _ harg2 _ harg4 _ harg5 _ harg6 _ harg7 _ harg9 _ harg10 _ harg12 _ harg13 arg22 arg24 arg26 arg27 x0 x1 x3 x4 x5 x6 x8 x9 x11 x12
      = kernelRun0_B.sl.v1117 (F := Ideal) d _ harg1 _ harg2 _ harg4 _ harg5 _ harg6 _ harg7 _ harg9 _ harg10 _ harg12 _ harg13 _ harg22 arg24 arg26 _ harg27 x0 x1 x3 x4 x5 x6 x8 x9 x11 x12 (arr fun _ _ => 0) (arr fun _ _ => 0) := by
  simp only [kernelRun0_A.sl.v1117, kernelRun0_B.sl.v1117, mfld_simps, harg22, harg27]
  rfl
@[mfld_simps] theorem f_v1142 :
    kernelRun0_A.sl.v1142 (F := Ideal) d _ harg1 _ harg2 _ harg4 _ harg5 _ harg6 _ harg7 _ harg9 _ harg10 _ harg11 _ harg12 _ harg13 arg22 arg24 arg25 arg26 x0 x1 x3 x4 x5 x6 x8 x9 x10 x11 x12
      = kernelRun0_B.sl.v1142 (F := Ideal) d _ harg1 _ harg2 _ harg4 _ harg5 _ harg6 _ harg7 _ harg9 _ harg10 _ harg11 _ harg12 _ harg13 _ harg22 arg24 arg25 arg26 x0 x1 x3 x4 x5 x6 x8 x9 x10 x11 x12 (arr fun _ _ => 0) := by
  simp only [kernelRun0_A.sl.v1142, kernelRun0_B.sl.v1142, mfld_simps, harg22]
  rfl
@[mfld_simps] theorem f_v1168 :
    kernelRun0_A.sl.v1168 (F := Ideal) d _ harg1 _ harg2 _ harg4 _ harg5 _ harg6 _ harg7 _ harg9 _ harg10 _ harg11 _ harg12 _ harg13 arg22 arg24 arg25 arg26 x0 x1 x3 x4 x5 x6 x8 x9 x10 x11 x12
      = kernelRun0_B.sl.v1168 (F := Ideal) d _ harg1 _ harg2 _ harg4 _ harg5 _ harg6 _ harg7 _ harg9 _ harg10 _ harg11 _ harg12 _ harg13 _ harg22 arg24 arg25 arg26 x0 x1 x3 x4 x5 x6 x8 x9 x10 x11 x12 (arr fun _ _ => 0) := by
  simp only [kernelRun0_A.sl.v1168, kernelRun0_B.sl.v1168, mfld_simps, harg22]
@[mfld_simps] theorem f_v1167 :
    kernelRun0_A.sl.v1167 (F := Ideal) d _ harg1 _ harg2 _ harg4 _ harg5 _ harg6 _ harg7 _ harg9 _ harg10 _ harg11 _ harg12 _ harg13 arg22 arg23 arg24 arg25 arg26 x0 x1 x3 x4 x5 x6 x8 x9 x10 x11 x12
      = kernelRun0_B.sl.v1167 (F := Ideal) d _ harg1 _ harg2 _ harg4 _ harg5 _ harg6 _ harg7 _ harg9 _ harg10 _ harg11 _ harg12 _ harg13 _ harg22 _ harg23 arg24 arg25 arg26 x0 x1 x3 x4 x5 x6 x8 x9 x10 x11 x12 (arr fun _ _ => 0) (arr fun _ _ => 0) := by
  simp only [kernelRun0_A.sl.v1167, kernelRun0_B.sl.v1167, mfld_simps, harg22, harg23]
  rfl
@[mfld_simps] theorem f_v1188 :
    kernelRun0_A.sl.v1188 (F := Ideal) d _ harg1 _ harg2 _ harg4 _ harg5 _ harg6 _ harg7 _ harg9 _ harg10 _ harg11 _ harg12 _ harg13 arg22 arg24 arg25 arg26 x0 x1 x3 x4 x5 x6 x8 x9 x10 x11 x12
      = kernelRun0_B.sl.v1188 (F := Ideal) d _ harg1 _ harg2 _ harg4 _ harg5 _ harg6 _ harg7 _ harg9 _ harg10 _ harg11 _ harg12 _ harg13 _ harg22 arg24 arg25 arg26 x0 x1 x3 x4 x5 x6 x8 x9 x10 x11 x12 (arr fun _ _ => 0) := by
  simp only [kernelRun0_A.sl.v1188, kernelRun0_B.sl.v1188, mfld_simps, harg22]
@[mfld_simps] theorem f_v1187 :
    kernelRun0_A.sl.v1187 (F := Ideal) d _ harg1 _ harg2 _ harg4 _ harg5 _ harg6 _ harg7 _ harg9 _ harg10 _ harg11 _ harg12 _ harg13 arg22 arg23 arg24 arg25 arg26 x0 x1 x3 x4 x5 x6 x8 x9 x10 x11 x12
      = kernelRun0_B.sl.v1187 (F := Ideal) d _ harg1 _ harg2 _ harg4 _ harg5 _ harg6 _ harg7 _ harg9 _ harg10 _ harg11 _ harg12 _ harg13 _ harg22 _ harg23 arg24 arg25 arg26 x0 x1 x3 x4 x5 x6 x8 x9 x10 x11 x12 (arr fun _ _ => 0) (arr fun _ _ => 0) := by
  simp only [kernelRun0_A.sl.v1187, kernelRun0_B.sl.v1187, mfld_simps, harg22, harg23]
  rfl
@[mfld_simps] theorem f_v1169 :
    kernelRun0_A.sl.v1169 (F := Ideal) d _ harg1 _ harg2 _ harg4 _ harg5 _ harg6 _ harg7 _ harg9 _ harg10 _ harg11 _ harg12 _ harg13 arg22 arg23 arg24 arg25 arg26 x0 x1 x3 x4 x5 x6 x8 x9 x10 x11 x12
      = kernelRun0_B.sl.v1169 (F := Ideal) d _ harg1 _ harg2 _ harg4 _ harg5 _ harg6 _ harg7 _ harg9 _ harg10 _ harg11 _ harg12 _ harg13 _ harg22 _ harg23 arg24 arg25 arg26 x0 x1 x3 x4 x5 x6 x8 x9 x10 x11 x12 (arr fun _ _ => 0) (arr fun _ _ => 0) := by
  rw [kernelRun0_A.sl.v1169, f_v1168, f_v1167]
  all_goals first | rfl | assumption
@[mfld_simps] theorem f_v1189 :
    kernelRun0_A.sl.v1189 (F := Ideal) d _ harg1 _ harg2 _ harg4 _ harg5 _ harg6 _ harg7 _ harg9 _ harg10 _ harg11 _ harg12 _ harg13 arg22 arg23 arg24 arg25 arg26 x0 x1 x3 x4 x5 x6 x8 x9 x10 x11 x12
      = kernelRun0_B.sl.v1189 (F := Ideal) d _ harg1 _ harg2 _ harg4 _ harg5 _ harg6 _ harg7 _ harg9 _ harg10 _ harg11 _ harg12 _ harg13 _ harg22 _ harg23 arg24 arg25 arg26 x0 x1 x3 x4 x5 x6 x8 x9 x10 x11 x12 (arr fun _ _ => 0) (arr fun _ _ => 0) := by
  rw [kernelRun0_A.sl.v1189, f_v1188, f_v1187]
  all_goals first | rfl | assumption
@[mfld_simps] theorem f_v955 :
    kernelRun0_A.sl.v955 (F := Ideal) d _ harg1 _ harg2 _ harg4 _ harg5 _ harg6 _ harg9 _ harg10 _ harg12 _ harg13 arg22 x0 x1 x3 x4 x5 x8 x9 x11 x12
      = kernelRun0_B.sl.v955 (F := Ideal) d _ harg1 _ harg2 _ harg4 _ harg5 _ harg6 _ harg9 _ harg10 _ harg12 _ harg13 _ harg22 x0 x1 x3 x4 x5 x8 x9 x11 x12 (arr fun _ _ => 0) := by
  simp only [kernelRun0_A.sl.v955, kernelRun0_B.sl.v955, mfld_simps, harg22]
  rfl
@[mfld_simps] theorem f_v1033 :
    kernelRun0_A.sl.v1033 (F := Ideal) d _ harg1 _ harg2 _ harg4 _ harg5 _ harg6 _ harg9 _ harg10 _ harg12 _ harg13 arg22 x0 x1 x3 x4 x5 x8 x9 x11 x12
      = kernelRun0_B.sl.v1033 (F := Ideal) d _ harg1 _ harg2 _ harg4 _ harg5 _ harg6 _ harg9 _ harg10 _ harg12 _ harg13 _ harg22 x0 x1 x3 x4 x5 x8 x9 x11 x12 (arr fun _ _ => 0) := by
  simp only [kernelRun0_A.sl.v1033, kernelRun0_B.sl.v1033, mfld_simps, harg22]
  rfl
@[mfld_simps] theorem f_r_129 :
    kernelRun0_A.sl.r_129 (F := Ideal) d _ harg1 _ harg2 _ harg4 _ harg5 _ harg6 _ harg7 _ harg8 _ harg9 _ harg10 _ harg11 _ harg12 _ harg13 arg22 arg23 arg24 arg25 arg26 x0 x1 x3 x4 x5 x6 x7 x8 x9 x10 x11 x12
      = kernelRun0_B.sl.r_131 (F := Ideal) d _ harg1 _ harg2 _ harg4 _ harg5 _ harg6 _ harg7 _ harg8 _ harg9 _ harg10 _ harg11 _ harg12 _ harg13 _ harg22 _ harg23 arg24 arg25 arg26 x0 x1 x3 x4 x5 x6 x7 x8 x9 x10 x11 x12 (arr fun _ _ => 0) (arr fun _ _ => 0) := by
  simp only [kernelRun0_A.sl.r_129, kernelRun0_B.sl.r_131, mfld_simps, harg22, harg23]
  rfl
@[mfld_simps] theorem f_v1159 :
    kernelRun0_A.sl.v1159 (F := Ideal) d _ harg1 _ harg2 _ harg3 _ harg4 _ harg5 _ harg6 _ harg7 _ harg9 _ harg10 _ harg11 _ harg12 _ harg13 arg16 arg22 arg24 arg25 arg26 x0 x1 x2 x3 x4 x5 x6 x8 x9 x10 x11 x12
      = kernelRun0_B.sl.v1159 (F := Ideal) d _ harg1 _ harg2 _ harg3 _ harg4 _ harg5 _ harg6 _ harg7 _ harg9 _ harg10 _ harg11 _ harg12 _ harg13 _ harg16 _ harg22 arg24 arg25 arg26 x0 x1 x2 x3 x4 x5 x6 x8 x9 x10 x11 x12 (arr fun _ _ => 0) (arr fun _ _ => 0) := by
  simp only [kernelRun0_A.sl.v1159, kernelRun0_B.sl.v1159, mfld_simps, harg16, harg22]
@[mfld_simps] theorem f_v1179 :
    kernelRun0_A.sl.v1179 (F := Ideal) d _ harg1 _ harg2 _ harg3 _ harg4 _ harg5 _ harg6 _ harg7 _ harg9 _ harg10 _ harg11 _ harg12 _ harg13 arg16 arg22 arg23 arg24 arg25 arg26 x0 x1 x2 x3 x4 x5 x6 x8 x9 x10 x11 x12
      = kernelRun0_B.sl.v1179 (F := Ideal) d _ harg1 _ harg2 _ harg3 _ harg4 _ harg5 _ harg6 _ harg7 _ harg9 _ harg10 _ harg11 _ harg12 _ harg13 _ harg16 _ harg22 _ harg23 arg24 arg25 arg26 x0 x1 x2 x3 x4 x5 x6 x8 x9 x10 x11 x12 (arr fun _ _ => 0) (arr fun _ _ => 0) (arr fun _ _ => 0) := by
  simp only [kernelRun0_A.sl.v1179, kernelRun0_B.sl.v1179, mfld_simps, harg16, harg22, harg23]
  rfl
@[mfld_simps] theorem f_v1195 :
    kernelRun0_A.sl.v1195 (F := Ideal) d _ harg1 _ harg2 _ harg3 _ harg4 _ harg5 _ harg6 _ harg7 _ harg9 _ harg10 _ harg11 _ harg12 _ harg13 arg16 arg22 arg23 arg24 arg25 arg26 x0 x1 x2 x3 x4 x5 x6 x8 x9 x10 x11 x12
      = kernelRun0_B.sl.v1195 (F := Ideal) d _ harg16 (arr fun _ _ => 0) := by
  simp only [kernelRun0_A.sl.v1195, kernelRun0_B.sl.v1195, mfld_simps, harg16]
@[mfld_simps] theorem f_v1196 :
    kernelRun0_A.sl.v1196 (F := Ideal) d _ harg1 _ harg2 _ harg3 _ harg4 _ harg5 _ harg6 _ harg7 _ harg9 _ harg10 _ harg11 _ harg12 _ harg13 arg22 arg23 arg24 arg25 arg26 x0 x1 x2 x3 x4 x5 x6 x8 x9 x10 x11 x12
      = kernelRun0_B.sl.v1196 (F := Ideal) d _ harg1 _ harg2 _ harg3 _ harg4 _ harg5 _ harg6 _ harg7 _ harg9 _ harg10 _ harg11 _ harg12 _ harg13 _ harg22 _ harg23 arg24 arg25 arg26 x0 x1 x2 x3 x4 x5 x6 x8 x9 x10 x11 x12 (arr fun _ _ => 0) (arr fun _ _ => 0) := by
  simp only [kernelRun0_A.sl.v1196, kernelRun0_B.sl.v1196, mfld_simps, harg22, harg23]
  rfl
@[mfld_simps] theorem f_r_130 :
    kernelRun0_A.sl.r_130 (F := Ideal) d _ harg1 _ harg2 _ harg3 _ harg4 _ harg5 _ harg6 _ harg7 _ harg9 _ harg10 _ harg11 _ harg12 _ harg13 arg16 arg22 arg23 arg24 arg25 arg26 x0 x1 x2 x3 x4 x5 x6 x8 x9 x10 x11 x12
      = kernelRun0_B.sl.r_132 (F := Ideal) d _ harg16 (arr fun _ _ => 0) := by
  simp only [kernelRun0_A.sl.r_130, kernelRun0_B.sl.r_132, mfld_simps, harg16]
@[mfld_simps] theorem f_r_131 :
    kernelRun0_A.sl.r_131 (F := Ideal) d _ harg1 _ harg2 _ harg3 _ harg4 _ harg5 _ harg6 _ harg7 _ harg9 _ harg10 _ harg11 _ harg12 _ harg13 arg22 arg23 arg24 arg25 arg26 x0 x1 x2 x3 x4 x5 x6 x8 x9 x10 x11 x12
      = kernelRun0_B.sl.r_133 (F := Ideal) d _ harg1 _ harg2 _ harg3 _ harg4 _ harg5 _ harg6 _ harg7 _ harg9 _ harg10 _ harg11 _ harg12 _ harg13 _ harg22 _ harg23 arg24 arg25 arg26 x0 x1 x2 x3 x4 x5 x6 x8 x9 x10 x11 x12 (arr fun _ _ => 0) (arr fun _ _ => 0) := by
  simp only [kernelRun0_A.sl.r_131, kernelRun0_B.sl.r_133, mfld_simps, harg22, harg23]
  rfl
@[mfld_simps] theorem f_v1124 :
    kernelRun0_A.sl.v1124 (F := Ideal) d _ harg1 _ harg2 _ harg4 _ harg5 _ harg6 _ harg7 _ harg9 _ harg10 _ harg12 _ harg13 arg22 arg24 arg26 arg27 x0 x1 x3 x4 x5 x6 x8 x9 x11 x12
      = kernelRun0_B.sl.v1124 (F := Ideal) d _ harg1 _ harg2 _ harg4 _ harg5 _ harg6 _ harg7 _ harg9 _ harg10 _ harg12 _ harg13 _ harg22 arg24 arg26 _ harg27 x0 x1 x3 x4 x5 x6 x8 x9 x11 x12 (arr fun _ _ => 0) (arr fun _ _ => 0) := by
  simp only [kernelRun0_A.sl.v1124, kernelRun0_B.sl.v1124, mfld_simps, harg22, harg27]
@[mfld_simps] theorem f_v1149 :
    kernelRun0_A.sl.v1149 (F := Ideal) d _ harg1 _ harg2 _ harg4 _ harg5 _ harg6 _ harg7 _ harg9 _ harg10 _ harg11 _ harg12 _ harg13 arg17 arg22 arg24 arg25 arg26 x0 x1 x3 x4 x5 x6 x8 x9 x10 x11 x12
      = kernelRun0_B.sl.v1149 (F := Ideal) d _ harg1 _ harg2 _ harg4 _ harg5 _ harg6 _ harg7 _ harg9 _ harg10 _ harg11 _ harg12 _ harg13 _ harg17 _ harg22 arg24 arg25 arg26 x0 x1 x3 x4 x5 x6 x8 x9 x10 x11 x12 (arr fun _ _ => 0) (arr fun _ _ => 0) := by
  simp only [kernelRun0_A.sl.v1149, kernelRun0_B.sl.v1149, mfld_simps, harg22]
@[mfld_simps] theorem f_v1122 :
    kernelRun0_A.sl.v1122 (F := Ideal) d _ harg1 _ harg2 _ harg4 _ harg5 _ harg6 _ harg7 _ harg9 _ harg10 _ harg12 _ harg13 arg18 arg22 arg24 arg26 arg27 x0 x1 x3 x4 x5 x6 x8 x9 x11 x12
      = kernelRun0_B.sl.v1122 (F := Ideal) d _ harg1 _ harg2 _ harg4 _ harg5 _ harg6 _ harg7 _ harg9 _ harg10 _ harg12 _ harg13 _ harg18 _ harg22 arg24 arg26 _ harg27 x0 x1 x3 x4 x5 x6 x8 x9 x11 x12 (arr fun _ _ => 0) (arr fun _ _ => 0) (arr fun _ _ => 0) := by
  simp only [kernelRun0_A.sl.v1122, kernelRun0_B.sl.v1122, mfld_simps, harg22, harg27]
@[mfld_simps] theorem f_v1108 :
    kernelRun0_A.sl.v1108 (F := Ideal) d _ harg1 _ harg2 _ harg4 _ harg5 _ harg6 _ harg7 _ harg9 _ harg10 _ harg12 _ harg13 arg19 arg22 arg26 arg27 x0 x1 x3 x4 x5 x6 x8 x9 x11 x12
      = kernelRun0_B.sl.v1108 (F := Ideal) d _ harg1 _ harg2 _ harg4 _ harg5 _ harg6 _ harg7 _ harg9 _ harg10 _ harg12 _ harg13 _ harg19 _ harg22 arg26 _ harg27 x0 x1 x3 x4 x5 x6 x8 x9 x11 x12 (arr fun _ _ => 0) (arr fun _ _ => 0) (arr fun _ _ => 0) := by
  simp only [kernelRun0_A.sl.v1108, kernelRun0_B.sl.v1108, mfld_simps, harg22, harg27]
  rfl
@[mfld_simps] theorem f_v168 :
    kernelRun0_A.sl.v168 (F := Ideal) d arg20
      = kernelRun0_B.sl.v168 (F := Ideal) d _ harg20 (arr fun _ _ => 0) := by
  simp only [kernelRun0_A.sl.v168, kernelRun0_B.sl.v168, mfld_simps]
@[mfld_simps] theorem f_v137 :
    kernelRun0_A.sl.v137 (F := Ideal) d _ harg1 _ harg2 _ harg6 arg21 x0 x1 x5
      = kernelRun0_B.sl.v137 (F := Ideal) d _ harg1 _ harg2 _ harg6 _ harg21 x0 x1 x5 (arr fun _ _ => 0) := by
  simp only [kernelRun0_A.sl.v137, kernelRun0_B.sl.v137, mfld_simps]
  rfl

theorem zero_dS (p : In) (k : ℕ) (hS : ∀ n ch, p.dS k n ch = 0) : (arr fun _ _ => 0 : S128x1024.Idx → EReal) = tile 0 (p.dS k) :=
  arr_congr fun i _ j _ => (hS _ _).symm
theorem zero_dxc (p : In) (k : ℕ) (hX : ∀ i ch, p.dxc (128 * (k + 1) + i) ch = 0) : (arr fun _ _ => 0 : S8x1536.Idx → EReal) = tile (128 * (k + 1)) p.dxc :=
  arr_congr fun i _ j _ => (hX _ _).symm
theorem zero_tile {n m : ℕ} : (arr fun _ _ => 0 : (⟨2, ![n, m]⟩ : Shape).Idx → EReal) = tile 0 fun _ _ => 0 := rfl
theorem low_zero : Low fun _ _ => 0 := fun _ _ _ => rfl
theorem readCov_all {n m : ℕ} {sig : RefSig} {κ : Kind} {sp : Space} (v : View sig κ sp ⟨2, ![n, m]⟩ .f32) (L) {inb} :
    v.readCov (Val := Elt Ideal) L (Rect.unit (s := ⟨2, ![n, m]⟩) ![0, 0] ![n, m] inb).toLoadRect = View.canon L := by
  rw [View.readCov_eq_canon']
  funext x
  refine congrArg (View.canon L) (funext fun a => ?_)
  match a with
  | ⟨0, _⟩ => exact Fin.ext (show 0 + 1 * (x 0).val = (x 0).val by omega)
  | ⟨1, _⟩ => exact Fin.ext (show 0 + 1 * (x 1).val = (x 1).val by omega)

variable (p : In) (k : ℕ) (hsp : Tame p) (hk : k < 64) (hS : ∀ n ch, p.dS k n ch = 0) (hX : ∀ i ch, p.dxc (128 * (k + 1) + i) ch = 0)
include hsp hk hS hX

theorem out13_first {i : grid0.Coords} (hc0 : cond0_0 i) :
    out0_A_13 (F := Ideal) d i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand)
      = arr fun i ch => p.rP (128 * k + i) ch := by
  unfold out0_A_13
  rw [View.read_writes_junk_eq_canon]
  refine canon_cols (m₀ := 1024) (m₁ := 1536) _ _ rfl (fun x => ?_) fun x => ?_
  · simp only [f_r_129, harg16, harg17, harg18, harg19, harg20, harg21, harg22, harg23, harg27, zero_dS p k hS, zero_dxc p k hX]
    simp only [zero_tile, dp_eq, hsp, hk, low_zero]
    exact emb_unit _ _ (fun i _ j _ => by rw [In.rP, if_neg (by omega), Nat.zero_add, Nat.add_sub_cancel_left]) x
  · rw [c_v164]
    simp only [k_v164, hsp, hk]
    exact emb_unit _ _ (fun i _ j hj => by rw [In.rP, if_pos (by omega), Nat.zero_add, Nat.zero_add]) x
theorem out14_first {i : grid0.Coords} (hc0 : cond0_0 i) :
    out0_A_14 (F := Ideal) d i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand)
      = arr fun i h => p.ddtp (128 * k + i) h := by
  unfold out0_A_14
  rw [View.read_writes_junk_eq_canon]
  refine (canon_whole _ _).trans ?_
  simp only [f_v1124, harg16, harg17, harg18, harg19, harg20, harg21, harg22, harg23, harg27, zero_dS p k hS, zero_dxc p k hX]
  simp only [zero_tile, ddtp_eq, hsp, hk, low_zero]
theorem out15_first {i : grid0.Coords} (hc0 : cond0_0 i) :
    out0_A_15 (F := Ideal) d i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand)
      = arr fun r ch => 0 + ∑ q ∈ Finset.range 128, p.xp (128 * k + q) ch * p.dxc (128 * k + q + (3 - r)) ch := by
  unfold out0_A_15
  rw [View.read_writes_junk_eq_canon]
  refine canon_rows _ _ ?_ ?_ ?_ ?_
  · simp only [f_r_130, f_r_131, harg16, harg17, harg18, harg19, harg20, harg21, harg22, harg23, harg27, zero_dS p k hS, zero_dxc p k hX]
    simp only [zero_tile, dcw0_eq, hsp, hk, low_zero, Nat.sub_zero, Nat.reduceSub]
  · simp only [f_v1195, f_v1196, harg16, harg17, harg18, harg19, harg20, harg21, harg22, harg23, harg27, zero_dS p k hS, zero_dxc p k hX]
    simp only [zero_tile, dcw1_eq, hsp, hk, low_zero, Nat.sub_zero, Nat.reduceSub]
  · simp only [f_v1179, harg16, harg17, harg18, harg19, harg20, harg21, harg22, harg23, harg27, zero_dS p k hS, zero_dxc p k hX]
    simp only [zero_tile, dcw2_eq, hsp, hk, low_zero, Nat.sub_zero, Nat.reduceSub]
  · simp only [f_v1159, harg16, harg17, harg18, harg19, harg20, harg21, harg22, harg23, harg27, zero_dS p k hS, zero_dxc p k hX]
    simp only [zero_tile, dcw3_eq, hsp, hk, low_zero, Nat.sub_zero, Nat.reduceSub]
theorem out16_first {i : grid0.Coords} (hc0 : cond0_0 i) :
    out0_A_16 (F := Ideal) d i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand)
      = arr fun i ch => 0 + ∑ q ∈ Finset.range 128, p.dxc (128 * k + q) ch := by
  unfold out0_A_16
  rw [View.read_writes_junk_eq_canon]
  refine (canon_whole _ _).trans ?_
  simp only [f_v1149, harg16, harg17, harg18, harg19, harg20, harg21, harg22, harg23, harg27, zero_dS p k hS, zero_dxc p k hX]
  simp only [zero_tile, dcb_eq, hsp, hk, low_zero]
theorem out17_first {i : grid0.Coords} (hc0 : cond0_0 i) :
    out0_A_17 (F := Ideal) d i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand)
      = arr fun i ch => 0 + ∑ q ∈ Finset.range 128, p.ddtp (128 * k + q) ch := by
  unfold out0_A_17
  rw [View.read_writes_junk_eq_canon]
  refine (canon_whole _ _).trans ?_
  simp only [f_v1122, harg16, harg17, harg18, harg19, harg20, harg21, harg22, harg23, harg27, zero_dS p k hS, zero_dxc p k hX]
  simp only [zero_tile, dbias_eq, hsp, hk, low_zero]
theorem out18_first {i : grid0.Coords} (hc0 : cond0_0 i) :
    out0_A_18 (F := Ideal) d i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand)
      = arr fun i ch => 0 + ∑ q ∈ Finset.range 128, p.da k q ch * p.dt (128 * k + q) ch := by
  unfold out0_A_18
  rw [View.read_writes_junk_eq_canon]
  refine (canon_whole _ _).trans ?_
  simp only [f_v1108, harg16, harg17, harg18, harg19, harg20, harg21, harg22, harg23, harg27, zero_dS p k hS, zero_dxc p k hX]
  simp only [zero_tile, dA_eq, hsp, hk, low_zero]
theorem out19_first {i : grid0.Coords} (hc0 : cond0_0 i) :
    out0_A_19 (F := Ideal) d i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand)
      = arr fun i ch => 0 + ∑ q ∈ Finset.range 128, p.dY (128 * k + q) ch * p.u (128 * k + q) ch := by
  unfold out0_A_19
  rw [View.read_writes_junk_eq_canon]
  refine (canon_whole _ _).trans ?_
  simp only [f_v168, c_v169, harg16, harg17, harg18, harg19, harg20, harg21, harg22, harg23, harg27, zero_dS p k hS, zero_dxc p k hX]
  simp only [zero_tile, dD_eq, hsp, hk, low_zero]
theorem out20_first {i : grid0.Coords} (hc0 : cond0_0 i) :
    out0_A_20 (F := Ideal) d i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand)
      = arr fun i ch => 0 + ∑ q ∈ Finset.range 128, p.Ct (128 * k + q) ch * p.q (128 * k + q) ch * p.rn (128 * k + q) := by
  unfold out0_A_20
  rw [View.read_writes_junk_eq_canon]
  refine (canon_whole _ _).trans ?_
  simp only [f_v137, harg16, harg17, harg18, harg19, harg20, harg21, harg22, harg23, harg27, zero_dS p k hS, zero_dxc p k hX]
  simp only [zero_tile, dg_eq, hsp, hk, low_zero]
theorem sout0_first {i : grid0.Coords} (hc0 : cond0_0 i) :
    sout0_A_0 (F := Ideal) d i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand)
      = arr fun n ch => p.ecs k 127 (ch / 64) * p.dS k n ch + p.CdY k n ch := by
  unfold sout0_A_0
  rw [View.read_writes_junk_eq_canon]
  refine canon_cols (m₀ := 512) (m₁ := 512) _ _ rfl (fun x => ?_) fun x => ?_
  · simp only [f_v1033, harg16, harg17, harg18, harg19, harg20, harg21, harg22, harg23, harg27, zero_dS p k hS, zero_dxc p k hX]
    simp only [zero_tile, k_v1033, hsp, hk, low_zero]
    exact emb_unit _ _ (fun i _ j _ => by rw [Nat.zero_add]) x
  · simp only [f_v955, harg16, harg17, harg18, harg19, harg20, harg21, harg22, harg23, harg27, zero_dS p k hS, zero_dxc p k hX]
    simp only [zero_tile, k_v955, hsp, hk, low_zero]
    exact emb_unit _ _ (fun i _ j hj => by rw [Nat.zero_add, Nat.zero_add]) x
theorem sout1_first {i : grid0.Coords} (hc0 : cond0_0 i) :
    sout0_A_1 (F := Ideal) d i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand)
      = arr fun i ch => p.dxc (128 * k + i) ch := by
  unfold sout0_A_1
  rw [View.read_writes_junk_eq_canon]
  refine (canon_whole _ _).trans ?_
  simp only [f_v1142, harg16, harg17, harg18, harg19, harg20, harg21, harg22, harg23, harg27, zero_dS p k hS, zero_dxc p k hX]
  simp only [zero_tile, head_eq, hsp, hk, low_zero]
theorem sout5_first {i : grid0.Coords} (hc0 : cond0_0 i) :
    sout0_A_5 (F := Ideal) d i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ harg24 _ harg25 _ harg26 _ harg27 hc0
      (tile (128 * k) p.Ct) (tile (128 * k) p.z) (tile (128 * k) p.xp) (tile (128 * k) p.Dt) (tile (128 * k) p.XC) (tile (128 * k) p.Y) (cube (p.S k)) (tile 0 p.Wc) (tile 0 p.Bias) (tile 0 p.Al) (tile 0 fun _ ch => p.D 0 (ch / 64)) (tile 0 p.G) (tile 0 expand)
      = arr fun i j => if i < 16 then ∑ l ∈ Finset.range 128, p.W k i l j else 0 := by
  unfold sout0_A_5
  rw [View.read_writes_junk_eq_canon]
  refine Eq.trans (b := kernelRun0_A.sl.v907 (F := Ideal) d _ harg1 _ harg2 _ harg4 _ harg5 _ harg6 _ harg9 _ harg10 _ harg12 _ harg13 arg26 arg27 (tile (128 * k) p.Ct) (tile (128 * k) p.z) (tile (128 * k) p.Dt) (tile (128 * k) p.XC) (tile (128 * k) p.Y) (tile 0 p.Bias) (tile 0 p.Al) (tile 0 p.G) (tile 0 expand)) (readCov_all arg27.view _).symm ?_
  refine (f_v907 d harg1 harg2 harg4 harg5 harg6 harg9 harg10 harg12 harg13 harg27).trans ?_
  simp only [zero_tile, k_v907, hsp]

end Cert.Proof.Ssd.Point
-- ==== Proof.SsdKernel.lean ====
/- What the backward kernel of the state-space scan leaves in its results: the sweep over the 64 chunks from the last to the
   first, its results by rows and its sums over all tokens. -/
module

public import proofs.«01_k».proof.Proof.SsdFirst
public import proofs.«01_k».proof.Proof.Gen.SsdKernelIdeal.Value

@[expose] public section

noncomputable section

namespace Cert.Proof.Ssd.Sweep

open Idealize.ShloMosaic Idealize.ShloMosaic.TcCoe Idealize.ShloMosaic.ValueIdx
open Cert.SsdKernelIdeal Cert.SsdKernelIdeal.Gen Cert.SsdKernelIdeal.Value Cert.Proof.Ssd.Point
open scoped BigOperators

/-! ## Sums over the chunks -/

/-- The sum of `f` over the tokens of the last `n + 1` chunks. -/
def acc (f : ℕ → ℝ) (n : ℕ) : ℝ := ∑ j ∈ Finset.range (n + 1), ∑ q ∈ Finset.range 128, f (128 * (63 - j) + q)

theorem acc_zero (f : ℕ → ℝ) : acc f 0 = 0 + ∑ q ∈ Finset.range 128, f (128 * (63 - 0) + q) := by
  unfold acc; rw [Finset.sum_range_succ, Finset.sum_range_zero]
theorem acc_succ (f : ℕ → ℝ) (n : ℕ) : acc f (n + 1) = acc f n + ∑ q ∈ Finset.range 128, f (128 * (63 - (n + 1)) + q) :=
  Finset.sum_range_succ _ _
/-- A sum over the tokens of `n` chunks, chunk by chunk. -/
theorem sum_chunks (b : ℕ) (f : ℕ → ℝ) (n : ℕ) :
    (∑ t ∈ Finset.range (b * n), f t) = ∑ c ∈ Finset.range n, ∑ q ∈ Finset.range b, f (b * c + q) := by
  induction n with
  | zero => rw [Nat.mul_zero, Finset.sum_range_zero, Finset.sum_range_zero]
  | succ n ih => rw [Nat.mul_succ, Finset.sum_range_add, ih, Finset.sum_range_succ]
theorem acc_all (f : ℕ → ℝ) : acc f 63 = ∑ t ∈ Finset.range 8192, f t := by
  rw [show (8192 : ℕ) = 128 * 64 from rfl, sum_chunks 128 f 64, ← Finset.sum_range_reflect]
  rfl

theorem arr_at {N M : ℕ} (f : ℕ → ℕ → ℝ) (x : (⟨2, ![N, M]⟩ : Shape).Idx) (a b : ℕ) (h0 : (x 0).val = a) (h1 : (x 1).val = b) :
    (arr f : (⟨2, ![N, M]⟩ : Shape).Idx → EReal) x = ((f a b : ℝ) : EReal) := by subst h0 h1; rfl

/-! ## Where the blocks lie -/

theorem idx0 : ∀ t : Fin cfg0.N, win0_0.index t (0 : Fin 2) = 63 - t.val ∧ win0_0.index t (1 : Fin 2) = 0 := (by decide +kernel : ∀ t : Fin grid0.N, _)
theorem idx1 : ∀ t : Fin cfg0.N, win0_1.index t (0 : Fin 2) = 63 - t.val ∧ win0_1.index t (1 : Fin 2) = 2 := (by decide +kernel : ∀ t : Fin grid0.N, _)
theorem idx2 : ∀ t : Fin cfg0.N, win0_2.index t (0 : Fin 2) = 63 - t.val ∧ win0_2.index t (1 : Fin 2) = 2 := (by decide +kernel : ∀ t : Fin grid0.N, _)
theorem idx3 : ∀ t : Fin cfg0.N, win0_3.index t (0 : Fin 2) = 63 - t.val ∧ win0_3.index t (1 : Fin 2) = 0 := (by decide +kernel : ∀ t : Fin grid0.N, _)
theorem idx4 : ∀ t : Fin cfg0.N, win0_4.index t (0 : Fin 2) = 63 - t.val ∧ win0_4.index t (1 : Fin 2) = 0 := (by decide +kernel : ∀ t : Fin grid0.N, _)
theorem idx5 : ∀ t : Fin cfg0.N, win0_5.index t (0 : Fin 2) = 63 - t.val ∧ win0_5.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 2) = 0 ∧ win0_12.index t (1 : Fin 2) = 0 := (by decide +kernel : ∀ t : Fin grid0.N, _)
theorem idx13 : ∀ t : Fin cfg0.N, win0_13.index t (0 : Fin 2) = 63 - t.val ∧ win0_13.index t (1 : Fin 2) = 0 := (by decide +kernel : ∀ t : Fin grid0.N, _)
theorem idx14 : ∀ t : Fin cfg0.N, win0_14.index t (0 : Fin 2) = 63 - t.val ∧ win0_14.index t (1 : Fin 2) = 0 := (by decide +kernel : ∀ t : Fin grid0.N, _)
theorem idx15 : ∀ t : Fin cfg0.N, win0_15.index t (0 : Fin 2) = 0 ∧ win0_15.index t (1 : Fin 2) = 0 := (by decide +kernel : ∀ t : Fin grid0.N, _)
theorem idx16 : ∀ t : Fin cfg0.N, win0_16.index t (0 : Fin 2) = 0 ∧ win0_16.index t (1 : Fin 2) = 0 := (by decide +kernel : ∀ t : Fin grid0.N, _)
theorem idx17 : ∀ t : Fin cfg0.N, win0_17.index t (0 : Fin 2) = 0 ∧ win0_17.index t (1 : Fin 2) = 0 := (by decide +kernel : ∀ t : Fin grid0.N, _)
theorem idx18 : ∀ t : Fin cfg0.N, win0_18.index t (0 : Fin 2) = 0 ∧ win0_18.index t (1 : Fin 2) = 0 := (by decide +kernel : ∀ t : Fin grid0.N, _)
theorem idx19 : ∀ t : Fin cfg0.N, win0_19.index t (0 : Fin 2) = 0 ∧ win0_19.index t (1 : Fin 2) = 0 := (by decide +kernel : ∀ t : Fin grid0.N, _)
theorem idx20 : ∀ t : Fin cfg0.N, win0_20.index t (0 : Fin 2) = 0 ∧ win0_20.index t (1 : Fin 2) = 0 := (by decide +kernel : ∀ t : Fin grid0.N, _)
theorem idx6 : ∀ t : Fin cfg0.N, win0_6.index t (0 : Fin 3) = 63 - t.val ∧ win0_6.index t (1 : Fin 3) = 0 ∧ win0_6.index t (2 : Fin 3) = 0 := (by decide +kernel : ∀ t : Fin grid0.N, _)

theorem emb0 (t : Fin cfg0.N) (j : (⟨2, ![128, 1024]⟩ : Shape).Idx) :
    (((cfg0.win 0).blk t).view.emb j (0 : Fin 2)).val = 128 * (63 - t.val) + (j 0).val ∧ (((cfg0.win 0).blk t).view.emb j (1 : Fin 2)).val = (j 1).val := by
  obtain ⟨e0, e1⟩ := idx0 t
  constructor
  · show win0_0.index t (0 : Fin 2) * 128 + 1 * (j (0 : Fin 2)).val = _; omega
  · show win0_0.index t (1 : Fin 2) * 1024 + 1 * (j (1 : Fin 2)).val = _; omega
theorem emb1 (t : Fin cfg0.N) (j : ((cfg0.win 1).xblock (cfg0.grid.coords t)).Idx) :
    (((cfg0.win 1).blk t).view.emb j (0 : Fin 2)).val = 128 * (63 - t.val) + (j (0 : Fin 2)).val ∧ (((cfg0.win 1).blk t).view.emb j (1 : Fin 2)).val = 2048 + (j (1 : Fin 2)).val := by
  obtain ⟨e0, e1⟩ := idx1 t
  constructor
  · show win0_1.index t (0 : Fin 2) * 128 + 1 * (j (0 : Fin 2)).val = _; omega
  · show win0_1.index t (1 : Fin 2) * 1024 + 1 * (j (1 : Fin 2)).val = _; omega
theorem emb2 (t : Fin cfg0.N) (j : (⟨2, ![128, 1536]⟩ : Shape).Idx) :
    (((cfg0.win 2).blk t).view.emb j (0 : Fin 2)).val = 128 * (63 - t.val) + (j 0).val ∧ (((cfg0.win 2).blk t).view.emb j (1 : Fin 2)).val = 3072 + (j 1).val := by
  obtain ⟨e0, e1⟩ := idx2 t
  constructor
  · show win0_2.index t (0 : Fin 2) * 128 + 1 * (j (0 : Fin 2)).val = _; omega
  · show win0_2.index t (1 : Fin 2) * 1536 + 1 * (j (1 : Fin 2)).val = _; omega
theorem emb3 (t : Fin cfg0.N) (j : (⟨2, ![128, 128]⟩ : Shape).Idx) :
    (((cfg0.win 3).blk t).view.emb j (0 : Fin 2)).val = 128 * (63 - t.val) + (j 0).val ∧ (((cfg0.win 3).blk t).view.emb j (1 : Fin 2)).val = (j 1).val := by
  obtain ⟨e0, e1⟩ := idx3 t
  constructor
  · show win0_3.index t (0 : Fin 2) * 128 + 1 * (j (0 : Fin 2)).val = _; omega
  · show win0_3.index t (1 : Fin 2) * 128 + 1 * (j (1 : Fin 2)).val = _; omega
theorem emb4 (t : Fin cfg0.N) (j : (⟨2, ![128, 1536]⟩ : Shape).Idx) :
    (((cfg0.win 4).blk t).view.emb j (0 : Fin 2)).val = 128 * (63 - t.val) + (j 0).val ∧ (((cfg0.win 4).blk t).view.emb j (1 : Fin 2)).val = (j 1).val := by
  obtain ⟨e0, e1⟩ := idx4 t
  constructor
  · show win0_4.index t (0 : Fin 2) * 128 + 1 * (j (0 : Fin 2)).val = _; omega
  · show win0_4.index t (1 : Fin 2) * 1536 + 1 * (j (1 : Fin 2)).val = _; omega
theorem emb5 (t : Fin cfg0.N) (j : (⟨2, ![128, 1024]⟩ : Shape).Idx) :
    (((cfg0.win 5).blk t).view.emb j (0 : Fin 2)).val = 128 * (63 - t.val) + (j 0).val ∧ (((cfg0.win 5).blk t).view.emb j (1 : Fin 2)).val = (j 1).val := by
  obtain ⟨e0, e1⟩ := idx5 t
  constructor
  · show win0_5.index t (0 : Fin 2) * 128 + 1 * (j (0 : Fin 2)).val = _; omega
  · show win0_5.index t (1 : Fin 2) * 1024 + 1 * (j (1 : Fin 2)).val = _; omega
theorem emb7 (t : Fin cfg0.N) (j : (⟨2, ![4, 1536]⟩ : Shape).Idx) :
    (((cfg0.win 7).blk t).view.emb j (0 : Fin 2)).val = (j 0).val ∧ (((cfg0.win 7).blk t).view.emb j (1 : Fin 2)).val = (j 1).val := by
  obtain ⟨e0, e1⟩ := idx7 t
  constructor
  · show win0_7.index t (0 : Fin 2) * 4 + 1 * (j (0 : Fin 2)).val = _; omega
  · show win0_7.index t (1 : Fin 2) * 1536 + 1 * (j (1 : Fin 2)).val = _; omega
theorem emb8 (t : Fin cfg0.N) (j : (⟨2, ![1, 128]⟩ : Shape).Idx) :
    (((cfg0.win 8).blk t).view.emb j (0 : Fin 2)).val = (j 0).val ∧ (((cfg0.win 8).blk t).view.emb j (1 : Fin 2)).val = (j 1).val := by
  obtain ⟨e0, e1⟩ := idx8 t
  constructor
  · show win0_8.index t (0 : Fin 2) * 1 + 1 * (j (0 : Fin 2)).val = _; omega
  · show win0_8.index t (1 : Fin 2) * 128 + 1 * (j (1 : Fin 2)).val = _; omega
theorem emb9 (t : Fin cfg0.N) (j : (⟨2, ![1, 128]⟩ : Shape).Idx) :
    (((cfg0.win 9).blk t).view.emb j (0 : Fin 2)).val = (j 0).val ∧ (((cfg0.win 9).blk t).view.emb j (1 : Fin 2)).val = (j 1).val := by
  obtain ⟨e0, e1⟩ := idx9 t
  constructor
  · show win0_9.index t (0 : Fin 2) * 1 + 1 * (j (0 : Fin 2)).val = _; omega
  · show win0_9.index t (1 : Fin 2) * 128 + 1 * (j (1 : Fin 2)).val = _; omega
theorem emb10 (t : Fin cfg0.N) (j : (⟨2, ![1, 1024]⟩ : Shape).Idx) :
    (((cfg0.win 10).blk t).view.emb j (0 : Fin 2)).val = (j 0).val ∧ (((cfg0.win 10).blk t).view.emb j (1 : Fin 2)).val = (j 1).val := by
  obtain ⟨e0, e1⟩ := idx10 t
  constructor
  · show win0_10.index t (0 : Fin 2) * 1 + 1 * (j (0 : Fin 2)).val = _; omega
  · show win0_10.index t (1 : Fin 2) * 1024 + 1 * (j (1 : Fin 2)).val = _; omega
theorem emb11 (t : Fin cfg0.N) (j : (⟨2, ![1, 1024]⟩ : Shape).Idx) :
    (((cfg0.win 11).blk t).view.emb j (0 : Fin 2)).val = (j 0).val ∧ (((cfg0.win 11).blk t).view.emb j (1 : Fin 2)).val = (j 1).val := by
  obtain ⟨e0, e1⟩ := idx11 t
  constructor
  · show win0_11.index t (0 : Fin 2) * 1 + 1 * (j (0 : Fin 2)).val = _; omega
  · show win0_11.index t (1 : Fin 2) * 1024 + 1 * (j (1 : Fin 2)).val = _; omega
theorem emb12 (t : Fin cfg0.N) (j : (⟨2, ![128, 1024]⟩ : Shape).Idx) :
    (((cfg0.win 12).blk t).view.emb j (0 : Fin 2)).val = (j 0).val ∧ (((cfg0.win 12).blk t).view.emb j (1 : Fin 2)).val = (j 1).val := by
  obtain ⟨e0, e1⟩ := idx12 t
  constructor
  · show win0_12.index t (0 : Fin 2) * 128 + 1 * (j (0 : Fin 2)).val = _; omega
  · show win0_12.index t (1 : Fin 2) * 1024 + 1 * (j (1 : Fin 2)).val = _; omega
theorem emb13 (t : Fin cfg0.N) (j : (⟨2, ![128, 2560]⟩ : Shape).Idx) :
    (((cfg0.win 13).blk t).view.emb j (0 : Fin 2)).val = 128 * (63 - t.val) + (j 0).val ∧ (((cfg0.win 13).blk t).view.emb j (1 : Fin 2)).val = (j 1).val := by
  obtain ⟨e0, e1⟩ := idx13 t
  constructor
  · show win0_13.index t (0 : Fin 2) * 128 + 1 * (j (0 : Fin 2)).val = _; omega
  · show win0_13.index t (1 : Fin 2) * 2560 + 1 * (j (1 : Fin 2)).val = _; omega
theorem emb14 (t : Fin cfg0.N) (j : (⟨2, ![128, 128]⟩ : Shape).Idx) :
    (((cfg0.win 14).blk t).view.emb j (0 : Fin 2)).val = 128 * (63 - t.val) + (j 0).val ∧ (((cfg0.win 14).blk t).view.emb j (1 : Fin 2)).val = (j 1).val := by
  obtain ⟨e0, e1⟩ := idx14 t
  constructor
  · show win0_14.index t (0 : Fin 2) * 128 + 1 * (j (0 : Fin 2)).val = _; omega
  · show win0_14.index t (1 : Fin 2) * 128 + 1 * (j (1 : Fin 2)).val = _; omega
theorem emb15 (t : Fin cfg0.N) (j : (⟨2, ![4, 1536]⟩ : Shape).Idx) :
    (((cfg0.win 15).blk t).view.emb j (0 : Fin 2)).val = (j 0).val ∧ (((cfg0.win 15).blk t).view.emb j (1 : Fin 2)).val = (j 1).val := by
  obtain ⟨e0, e1⟩ := idx15 t
  constructor
  · show win0_15.index t (0 : Fin 2) * 4 + 1 * (j (0 : Fin 2)).val = _; omega
  · show win0_15.index t (1 : Fin 2) * 1536 + 1 * (j (1 : Fin 2)).val = _; omega
theorem emb16 (t : Fin cfg0.N) (j : (⟨2, ![1, 1536]⟩ : Shape).Idx) :
    (((cfg0.win 16).blk t).view.emb j (0 : Fin 2)).val = (j 0).val ∧ (((cfg0.win 16).blk t).view.emb j (1 : Fin 2)).val = (j 1).val := by
  obtain ⟨e0, e1⟩ := idx16 t
  constructor
  · show win0_16.index t (0 : Fin 2) * 1 + 1 * (j (0 : Fin 2)).val = _; omega
  · show win0_16.index t (1 : Fin 2) * 1536 + 1 * (j (1 : Fin 2)).val = _; omega
theorem emb17 (t : Fin cfg0.N) (j : (⟨2, ![1, 128]⟩ : Shape).Idx) :
    (((cfg0.win 17).blk t).view.emb j (0 : Fin 2)).val = (j 0).val ∧ (((cfg0.win 17).blk t).view.emb j (1 : Fin 2)).val = (j 1).val := by
  obtain ⟨e0, e1⟩ := idx17 t
  constructor
  · show win0_17.index t (0 : Fin 2) * 1 + 1 * (j (0 : Fin 2)).val = _; omega
  · show win0_17.index t (1 : Fin 2) * 128 + 1 * (j (1 : Fin 2)).val = _; omega
theorem emb18 (t : Fin cfg0.N) (j : (⟨2, ![1, 128]⟩ : Shape).Idx) :
    (((cfg0.win 18).blk t).view.emb j (0 : Fin 2)).val = (j 0).val ∧ (((cfg0.win 18).blk t).view.emb j (1 : Fin 2)).val = (j 1).val := by
  obtain ⟨e0, e1⟩ := idx18 t
  constructor
  · show win0_18.index t (0 : Fin 2) * 1 + 1 * (j (0 : Fin 2)).val = _; omega
  · show win0_18.index t (1 : Fin 2) * 128 + 1 * (j (1 : Fin 2)).val = _; omega
theorem emb19 (t : Fin cfg0.N) (j : (⟨2, ![1, 1024]⟩ : Shape).Idx) :
    (((cfg0.win 19).blk t).view.emb j (0 : Fin 2)).val = (j 0).val ∧ (((cfg0.win 19).blk t).view.emb j (1 : Fin 2)).val = (j 1).val := by
  obtain ⟨e0, e1⟩ := idx19 t
  constructor
  · show win0_19.index t (0 : Fin 2) * 1 + 1 * (j (0 : Fin 2)).val = _; omega
  · show win0_19.index t (1 : Fin 2) * 1024 + 1 * (j (1 : Fin 2)).val = _; omega
theorem emb20 (t : Fin cfg0.N) (j : (⟨2, ![1, 1024]⟩ : Shape).Idx) :
    (((cfg0.win 20).blk t).view.emb j (0 : Fin 2)).val = (j 0).val ∧ (((cfg0.win 20).blk t).view.emb j (1 : Fin 2)).val = (j 1).val := by
  obtain ⟨e0, e1⟩ := idx20 t
  constructor
  · show win0_20.index t (0 : Fin 2) * 1 + 1 * (j (0 : Fin 2)).val = _; omega
  · show win0_20.index t (1 : Fin 2) * 1024 + 1 * (j (1 : Fin 2)).val = _; omega
theorem emb6 (t : Fin cfg0.N) (j : (⟨3, ![1, 128, 1024]⟩ : Shape).Idx) :
    (((cfg0.win 6).blk t).view.emb j (0 : Fin 3)).val = 63 - t.val ∧ (((cfg0.win 6).blk t).view.emb j (1 : Fin 3)).val = (j 1).val
      ∧ (((cfg0.win 6).blk t).view.emb j (2 : Fin 3)).val = (j 2).val := by
  obtain ⟨e0, e1, e2⟩ := idx6 t
  have hj : (j 0).val < 1 := (j 0).isLt
  refine ⟨?_, ?_, ?_⟩
  · show win0_6.index t (0 : Fin 3) * 1 + 1 * (j 0).val = _; omega
  · show win0_6.index t (1 : Fin 3) * 128 + 1 * (j 1).val = _; omega
  · show win0_6.index t (2 : Fin 3) * 1024 + 1 * (j 2).val = _; omega

/-! ## The blocks of the arguments -/

section
variable (m : (ℓ : Loc nD τ sig) → Buf (Elt Ideal) ℓ) (c : Dev nD) (p : In)

/-- The region's arguments are the arrays of `p`. -/
structure Args : Prop where
  ct : V m c main_arg8 = (arr p.Ct : (⟨2, ![8192, 1024]⟩ : Shape).Idx → EReal)
  proj : ∀ x : (⟨2, ![8192, 4608]⟩ : Shape).Idx, 2048 ≤ (x 1).val →
    V m c main_arg0 x = ((p.P (x 0).val ((x 1).val - 2048) : ℝ) : EReal)
  dt : V m c main_v133 = (arr p.Dt : (⟨2, ![8192, 128]⟩ : Shape).Idx → EReal)
  xc : V m c main_v44 = (arr p.XC : (⟨2, ![8192, 1536]⟩ : Shape).Idx → EReal)
  y : V m c main_v130 = (arr p.Y : (⟨2, ![8192, 1024]⟩ : Shape).Idx → EReal)
  s : ∀ x : (⟨3, ![64, 128, 1024]⟩ : Shape).Idx, V m c main_v132 x = ((p.S (x 0).val (x 1).val (x 2).val : ℝ) : EReal)
  w : V m c main_arg2 = (arr p.Wc : (⟨2, ![4, 1536]⟩ : Shape).Idx → EReal)
  bias : V m c main_v134 = (arr p.Bias : (⟨2, ![1, 128]⟩ : Shape).Idx → EReal)
  al : V m c main_v135 = (arr p.Al : (⟨2, ![1, 128]⟩ : Shape).Idx → EReal)
  d : V m c main_v3 = (arr fun _ ch => p.D 0 (ch / 64) : (⟨2, ![1, 1024]⟩ : Shape).Idx → EReal)
  g : V m c main_arg7 = (arr p.G : (⟨2, ![1, 1024]⟩ : Shape).Idx → EReal)
  e : V m c main_v12 = (arr expand : (⟨2, ![128, 1024]⟩ : Shape).Idx → EReal)
  tame : Tame p

variable {m c p} (h : Args m c p)
include h

theorem blk0 (t : Fin cfg0.N) : iblk m c 0 t = (tile (128 * (63 - t.val)) (p.Ct) : (⟨2, ![128, 1024]⟩ : Shape).Idx → EReal) := by
  funext j
  exact (congrFun h.ct (((cfg0.win 0).blk t).view.emb j)).trans (arr_at _ _ _ _ (emb0 t j).1 (emb0 t j).2)
theorem blk3 (t : Fin cfg0.N) : iblk m c 3 t = (tile (128 * (63 - t.val)) (p.Dt) : (⟨2, ![128, 128]⟩ : Shape).Idx → EReal) := by
  funext j
  exact (congrFun h.dt (((cfg0.win 3).blk t).view.emb j)).trans (arr_at _ _ _ _ (emb3 t j).1 (emb3 t j).2)
theorem blk4 (t : Fin cfg0.N) : iblk m c 4 t = (tile (128 * (63 - t.val)) (p.XC) : (⟨2, ![128, 1536]⟩ : Shape).Idx → EReal) := by
  funext j
  exact (congrFun h.xc (((cfg0.win 4).blk t).view.emb j)).trans (arr_at _ _ _ _ (emb4 t j).1 (emb4 t j).2)
theorem blk5 (t : Fin cfg0.N) : iblk m c 5 t = (tile (128 * (63 - t.val)) (p.Y) : (⟨2, ![128, 1024]⟩ : Shape).Idx → EReal) := by
  funext j
  exact (congrFun h.y (((cfg0.win 5).blk t).view.emb j)).trans (arr_at _ _ _ _ (emb5 t j).1 (emb5 t j).2)
theorem blk7 (t : Fin cfg0.N) : iblk m c 7 t = (tile 0 (p.Wc) : (⟨2, ![4, 1536]⟩ : Shape).Idx → EReal) := by
  funext j
  exact (congrFun h.w (((cfg0.win 7).blk t).view.emb j)).trans (arr_at _ _ _ _ ((emb7 t j).1.trans (Nat.zero_add _).symm) (emb7 t j).2)
theorem blk8 (t : Fin cfg0.N) : iblk m c 8 t = (tile 0 (p.Bias) : (⟨2, ![1, 128]⟩ : Shape).Idx → EReal) := by
  funext j
  exact (congrFun h.bias (((cfg0.win 8).blk t).view.emb j)).trans (arr_at _ _ _ _ ((emb8 t j).1.trans (Nat.zero_add _).symm) (emb8 t j).2)
theorem blk9 (t : Fin cfg0.N) : iblk m c 9 t = (tile 0 (p.Al) : (⟨2, ![1, 128]⟩ : Shape).Idx → EReal) := by
  funext j
  exact (congrFun h.al (((cfg0.win 9).blk t).view.emb j)).trans (arr_at _ _ _ _ ((emb9 t j).1.trans (Nat.zero_add _).symm) (emb9 t j).2)
theorem blk10 (t : Fin cfg0.N) : iblk m c 10 t = (tile 0 (fun _ ch => p.D 0 (ch / 64)) : (⟨2, ![1, 1024]⟩ : Shape).Idx → EReal) := by
  funext j
  exact (congrFun h.d (((cfg0.win 10).blk t).view.emb j)).trans (arr_at _ _ _ _ ((emb10 t j).1.trans (Nat.zero_add _).symm) (emb10 t j).2)
theorem blk11 (t : Fin cfg0.N) : iblk m c 11 t = (tile 0 (p.G) : (⟨2, ![1, 1024]⟩ : Shape).Idx → EReal) := by
  funext j
  exact (congrFun h.g (((cfg0.win 11).blk t).view.emb j)).trans (arr_at _ _ _ _ ((emb11 t j).1.trans (Nat.zero_add _).symm) (emb11 t j).2)
theorem blk12 (t : Fin cfg0.N) : iblk m c 12 t = (tile 0 (expand) : (⟨2, ![128, 1024]⟩ : Shape).Idx → EReal) := by
  funext j
  exact (congrFun h.e (((cfg0.win 12).blk t).view.emb j)).trans (arr_at _ _ _ _ ((emb12 t j).1.trans (Nat.zero_add _).symm) (emb12 t j).2)
theorem blk1 (t : Fin cfg0.N) : X0_1 m c t = (tile (128 * (63 - t.val)) p.z : (⟨2, ![128, 1024]⟩ : Shape).Idx → EReal) := by
  funext j
  unfold X0_1 Pipeline.Window.fill
  rw [dif_pos (moved0_1 t j)]
  obtain ⟨e0, e1⟩ := emb1 t (fun a => ⟨(j a).val, ((cfg0.win 1).moved_iff _ j).mp (moved0_1 t j) a⟩)
  refine (h.proj (((cfg0.win 1).blk t).view.emb fun a => ⟨(j a).val, ((cfg0.win 1).moved_iff _ j).mp (moved0_1 t j) a⟩) (by rw [e1]; omega)).trans ?_
  rw [e0, e1, Nat.add_sub_cancel_left]; rfl
theorem blk2 (t : Fin cfg0.N) : iblk m c 2 t = (tile (128 * (63 - t.val)) p.xp : (⟨2, ![128, 1536]⟩ : Shape).Idx → EReal) := by
  funext j
  obtain ⟨e0, e1⟩ := emb2 t j
  refine (h.proj (((cfg0.win 2).blk t).view.emb j) (by rw [e1]; omega)).trans ?_
  rw [e0, e1, show 3072 + (j 1).val - 2048 = 1024 + (j 1).val by omega]; rfl
theorem blk6 (t : Fin cfg0.N) : iblk m c 6 t = (cube (p.S (63 - t.val)) : (⟨3, ![1, 128, 1024]⟩ : Shape).Idx → EReal) := by
  funext j
  obtain ⟨e0, e1, e2⟩ := emb6 t j
  refine (h.s (((cfg0.win 6).blk t).view.emb j)).trans ?_
  rw [e0, e1, e2]; rfl

omit h in
variable (p) in
/-- What the results' blocks and the carried arrays hold after point `n`. -/
structure Swept (n : ℕ) (O : Vec Ideal S128x2560 .bf16 × Vec Ideal S128x128 .bf16 × Vec Ideal S4x1536 .f32 × Vec Ideal S1x1536 .f32 × Vec Ideal S1x128 .f32 × Vec Ideal S1x128 .f32 × Vec Ideal S1x1024 .f32 × Vec Ideal S1x1024 .f32 × Vec Ideal S128x1024 .f32 × Vec Ideal S8x1536 .f32 × Vec Ideal S128x128 .f32) : Prop where
  e13 : O.1 = (arr fun i ch => p.rP (128 * (63 - n) + i) ch : (⟨2, ![128, 2560]⟩ : Shape).Idx → EReal)
  e14 : O.2.1 = (arr fun i j => p.ddtp (128 * (63 - n) + i) j : (⟨2, ![128, 128]⟩ : Shape).Idx → EReal)
  e15 : O.2.2.1 = (tile 0 fun r ch => acc (fun t => p.xp t ch * p.dxc (t + (3 - r)) ch) n : (⟨2, ![4, 1536]⟩ : Shape).Idx → EReal)
  e16 : O.2.2.2.1 = (tile 0 fun _ ch => acc (fun t => p.dxc t ch) n : (⟨2, ![1, 1536]⟩ : Shape).Idx → EReal)
  e17 : O.2.2.2.2.1 = (tile 0 fun _ ch => acc (fun t => p.ddtp t ch) n : (⟨2, ![1, 128]⟩ : Shape).Idx → EReal)
  e18 : O.2.2.2.2.2.1 = (tile 0 fun _ ch => acc (fun t => p.da (t / 128) (t % 128) ch * p.dt t ch) n : (⟨2, ![1, 128]⟩ : Shape).Idx → EReal)
  e19 : O.2.2.2.2.2.2.1 = (tile 0 fun _ ch => acc (fun t => p.dY t ch * p.u t ch) n : (⟨2, ![1, 1024]⟩ : Shape).Idx → EReal)
  e20 : O.2.2.2.2.2.2.2.1 = (tile 0 fun _ ch => acc (fun t => p.Ct t ch * p.q t ch * p.rn t) n : (⟨2, ![1, 1024]⟩ : Shape).Idx → EReal)
  s0 : O.2.2.2.2.2.2.2.2.1 = (tile 0 (p.dSt (n + 1)) : (⟨2, ![128, 1024]⟩ : Shape).Idx → EReal)
  s1 : O.2.2.2.2.2.2.2.2.2.1 = (tile (128 * (63 - n)) p.dxc : (⟨2, ![8, 1536]⟩ : Shape).Idx → EReal)
  s5 : ∃ rest, Low rest ∧ O.2.2.2.2.2.2.2.2.2.2 = (tile 0 rest : (⟨2, ![128, 128]⟩ : Shape).Idx → EReal)

omit h in
/-- A sum over a chunk's tokens, each written by its chunk and its row. -/
theorem da_rows (k h : ℕ) : (∑ q ∈ Finset.range 128, p.da ((128 * k + q) / 128) ((128 * k + q) % 128) h * p.dt (128 * k + q) h)
    = ∑ q ∈ Finset.range 128, p.da k q h * p.dt (128 * k + q) h :=
  Finset.sum_congr rfl fun q hq => by
    have hq := Finset.mem_range.mp hq
    rw [show (128 * k + q) / 128 = k by omega, show (128 * k + q) % 128 = q by omega]

omit h in
theorem dSt_step (n : ℕ) (hn : n < 64) (i ch : ℕ) :
    p.dSt (n + 1) i ch = p.ecs (63 - n) 127 (ch / 64) * p.dS (63 - n) i ch + p.CdY (63 - n) i ch := by
  unfold In.dS
  rw [show 63 - (63 - n) = n by omega]; rfl

omit h in
theorem low_a (f : ℕ → ℕ → ℝ) : Low fun i j => if i < 16 then f i j else 0 := fun i hi _ => if_neg (by omega)
omit h in
theorem low_b (f rest : ℕ → ℕ → ℝ) (hrest : Low rest) : Low fun i j => if i < 16 then f i j else rest i j :=
  fun i hi j => (if_neg (by omega)).trans (hrest i hi j)
omit h in
theorem acc_first (f : ℕ → ℝ) {n : ℕ} (hn : n = 0) : acc f n = 0 + ∑ q ∈ Finset.range 128, f (128 * (63 - n) + q) := by
  subst hn; exact acc_zero f
omit h in
theorem acc_next (f : ℕ → ℝ) {n : ℕ} (hn : n ≠ 0) : acc f n = acc f (n - 1) + ∑ q ∈ Finset.range 128, f (128 * (63 - n) + q) := by
  obtain ⟨k, rfl⟩ := Nat.exists_eq_succ_of_ne_zero hn
  exact acc_succ f k

theorem swept_first (t : Fin cfg0.N) (h0 : t.val % 64 = 0) : Swept p t.val (outsAt0 m c t.val t.isLt) := by
  have ht : t.val < 64 := t.isLt
  have hz : t.val = 0 := by omega
  have hS : ∀ n ch, p.dS (63 - t.val) n ch = 0 := fun _ _ => by rw [hz]; rfl
  have hX : ∀ i ch, p.dxc (128 * (63 - t.val + 1) + i) ch = 0 := fun i ch => if_neg (by omega)
  rw [outsAt0_A m c t h0]
  refine ⟨?_, ?_, ?_, ?_, ?_, ?_, ?_, ?_, ?_, ?_, ⟨_, low_a (fun i j => ∑ l ∈ Finset.range 128, p.W (63 - t.val) i l j), ?_⟩⟩
  all_goals dsimp only
  all_goals rw [blk0 h, blk1 h, blk2 h, blk3 h, blk4 h, blk5 h, blk6 h, blk7 h, blk8 h, blk9 h, blk10 h, blk11 h, blk12 h]
  · apply out13_first (p := p) (k := 63 - t.val) (hsp := h.tame) (hk := by omega) (hS := hS) (hX := hX)
  · apply out14_first (p := p) (k := 63 - t.val) (hsp := h.tame) (hk := by omega) (hS := hS) (hX := hX)
  · refine Eq.trans (by apply out15_first (p := p) (k := 63 - t.val) (hsp := h.tame) (hk := by omega) (hS := hS) (hX := hX)) (arr_congr fun i _ j _ => ?_)
    rw [Nat.zero_add]; beta_reduce; rw [acc_first _ hz]
  · refine Eq.trans (by apply out16_first (p := p) (k := 63 - t.val) (hsp := h.tame) (hk := by omega) (hS := hS) (hX := hX)) (arr_congr fun i _ j _ => ?_)
    beta_reduce; rw [acc_first _ hz]
  · refine Eq.trans (by apply out17_first (p := p) (k := 63 - t.val) (hsp := h.tame) (hk := by omega) (hS := hS) (hX := hX)) (arr_congr fun i _ j _ => ?_)
    beta_reduce; rw [acc_first _ hz]
  · refine Eq.trans (by apply out18_first (p := p) (k := 63 - t.val) (hsp := h.tame) (hk := by omega) (hS := hS) (hX := hX)) (arr_congr fun i _ j _ => ?_)
    beta_reduce; rw [acc_first _ hz, da_rows]
  · refine Eq.trans (by apply out19_first (p := p) (k := 63 - t.val) (hsp := h.tame) (hk := by omega) (hS := hS) (hX := hX)) (arr_congr fun i _ j _ => ?_)
    beta_reduce; rw [acc_first _ hz]
  · refine Eq.trans (by apply out20_first (p := p) (k := 63 - t.val) (hsp := h.tame) (hk := by omega) (hS := hS) (hX := hX)) (arr_congr fun i _ j _ => ?_)
    beta_reduce; rw [acc_first _ hz]
  · refine Eq.trans (by apply sout0_first (p := p) (k := 63 - t.val) (hsp := h.tame) (hk := by omega) (hS := hS) (hX := hX)) (arr_congr fun i _ j _ => ?_)
    rw [Nat.zero_add]; exact (dSt_step _ (by omega) i j).symm
  · apply sout1_first (p := p) (k := 63 - t.val) (hsp := h.tame) (hk := by omega) (hS := hS) (hX := hX)
  · exact Eq.trans (by apply sout5_first (p := p) (k := 63 - t.val) (hsp := h.tame) (hk := by omega) (hS := hS) (hX := hX)) (arr_congr fun i _ j _ => by rw [Nat.zero_add])

theorem swept_next (t : Fin cfg0.N) (h0 : ¬t.val % 64 = 0)
    (ih : Swept p (t.val - 1) (outsAt0 m c (t.val - 1) (Nat.lt_of_le_of_lt (Nat.sub_le _ _) t.isLt))) :
    Swept p t.val (outsAt0 m c t.val t.isLt) := by
  have ht : t.val < 64 := t.isLt
  have hz : t.val ≠ 0 := fun hz => h0 (by rw [hz])
  obtain ⟨rest, hrest, h5⟩ := ih.s5
  have hd : p.dSt (t.val - 1 + 1) = p.dS (63 - t.val) := by
    unfold In.dS; rw [show 63 - (63 - t.val) = t.val - 1 + 1 by omega]
  have hk : 63 - (t.val - 1) = 63 - t.val + 1 := by omega
  rw [outsAt0_B m c t h0]
  refine ⟨?_, ?_, ?_, ?_, ?_, ?_, ?_, ?_, ?_, ?_, ⟨_, low_b (fun i j => ∑ l ∈ Finset.range 128, p.W (63 - t.val) i l j) rest hrest, ?_⟩⟩
  all_goals dsimp only
  all_goals rw [blk0 h, blk1 h, blk2 h, blk3 h, blk4 h, blk5 h, blk6 h, blk7 h, blk8 h, blk9 h, blk10 h, blk11 h, blk12 h, ih.e15, ih.e16, ih.e17, ih.e18, ih.e19, ih.e20, ih.s0, ih.s1, h5, hd, hk]
  · apply out13_eq (p := p) (k := 63 - t.val) (hsp := h.tame) (hk := by omega) (hrest := hrest)
  · apply out14_eq (p := p) (k := 63 - t.val) (hsp := h.tame) (hk := by omega) (hrest := hrest)
  · refine Eq.trans (by apply out15_eq (p := p) (k := 63 - t.val) (hsp := h.tame) (hk := by omega) (hrest := hrest)) (arr_congr fun i _ j _ => ?_)
    rw [Nat.zero_add]; beta_reduce; rw [acc_next _ hz]
  · refine Eq.trans (by apply out16_eq (p := p) (k := 63 - t.val) (hsp := h.tame) (hk := by omega) (hrest := hrest)) (arr_congr fun i _ j _ => ?_)
    beta_reduce; rw [acc_next _ hz]
  · refine Eq.trans (by apply out17_eq (p := p) (k := 63 - t.val) (hsp := h.tame) (hk := by omega) (hrest := hrest)) (arr_congr fun i _ j _ => ?_)
    beta_reduce; rw [acc_next _ hz]
  · refine Eq.trans (by apply out18_eq (p := p) (k := 63 - t.val) (hsp := h.tame) (hk := by omega) (hrest := hrest)) (arr_congr fun i _ j _ => ?_)
    beta_reduce; rw [acc_next _ hz, da_rows]
  · refine Eq.trans (by apply out19_eq (p := p) (k := 63 - t.val) (hsp := h.tame) (hk := by omega) (hrest := hrest)) (arr_congr fun i _ j _ => ?_)
    beta_reduce; rw [acc_next _ hz]
  · refine Eq.trans (by apply out20_eq (p := p) (k := 63 - t.val) (hsp := h.tame) (hk := by omega) (hrest := hrest)) (arr_congr fun i _ j _ => ?_)
    beta_reduce; rw [acc_next _ hz]
  · refine Eq.trans (by apply sout0_eq (p := p) (k := 63 - t.val) (hsp := h.tame) (hk := by omega) (hrest := hrest)) (arr_congr fun i _ j _ => ?_)
    rw [Nat.zero_add]; exact (dSt_step _ (by omega) i j).symm
  · apply sout1_eq (p := p) (k := 63 - t.val) (hsp := h.tame) (hk := by omega) (hrest := hrest)
  · exact Eq.trans (by apply sout5_eq (p := p) (k := 63 - t.val) (hsp := h.tame) (hk := by omega) (hrest := hrest)) (arr_congr fun i _ j _ => by rw [Nat.zero_add])

theorem swept (n : ℕ) (hn : n < cfg0.N) : Swept p n (outsAt0 m c n hn) := by
  induction n with
  | zero => exact swept_first h ⟨0, hn⟩ rfl
  | succ n ih =>
    have hB : ¬(⟨n + 1, hn⟩ : Fin cfg0.N).val % 64 = 0 := by
      have : n + 1 < 64 := hn
      show ¬(n + 1) % 64 = 0; omega
    exact swept_next h ⟨n + 1, hn⟩ hB (ih (by omega))

/-! ## The results -/

omit h in
/-- The last point. -/
def lastPoint : Fin cfg0.N := ⟨63, by decide⟩
omit h in
theorem rows_cover {n : ℕ} (i : (⟨2, ![8192, n]⟩ : Shape).Idx) : ∃ (t : Fin cfg0.N) (j : (⟨2, ![128, n]⟩ : Shape).Idx),
    (i 0).val = 128 * (63 - t.val) + (j 0).val ∧ (i 1).val = (j 1).val := by
  have hi : (i 0).val < 8192 := (i 0).isLt
  refine ⟨⟨63 - (i 0).val / 128, by show _ < 64; omega⟩, ix2 ⟨(i 0).val % 128, Nat.mod_lt _ (by decide)⟩ (i 1), ?_, rfl⟩
  show (i 0).val = 128 * (63 - (63 - (i 0).val / 128)) + (i 0).val % 128; omega
omit h in
theorem idx2_ext {n k : ℕ} (i j : (⟨2, ![n, k]⟩ : Shape).Idx) (h0 : (i 0).val = (j 0).val) (h1 : (i 1).val = (j 1).val) : i = j := by
  funext a; apply Fin.ext
  match a with
  | ⟨0, _⟩ => exact h0
  | ⟨1, _⟩ => exact h1

theorem final13 : (dats m 0 c).arrAt 13 cfg0.N = (arr p.rP : (⟨2, ![8192, 2560]⟩ : Shape).Idx → EReal) :=
  (dats m 0 c).arrAt_eq_of_cover 13 (arr p.rP : (⟨2, ![8192, 2560]⟩ : Shape).Idx → EReal)
    (fun t _ => by
      rw [flushed13, (swept h t.val t.isLt).e13]
      funext j
      exact (arr_at (N := 8192) (M := 2560) p.rP (((cfg0.win 13).blk t).view.emb j) _ _ (emb13 t j).1 (emb13 t j).2).symm)
    (fun i => by
      obtain ⟨t, j, h0, h1⟩ := rows_cover i
      refine ⟨t, flush0_13 t, ?_⟩
      rw [idx2_ext i (((cfg0.win 13).blk t).view.emb j) (h0.trans (emb13 t j).1.symm) (h1.trans (emb13 t j).2.symm)]
      exact ((cfg0.win 13).blk t).view.emb_mem_set j)
theorem final14 : (dats m 0 c).arrAt 14 cfg0.N = (arr p.ddtp : (⟨2, ![8192, 128]⟩ : Shape).Idx → EReal) :=
  (dats m 0 c).arrAt_eq_of_cover 14 (arr p.ddtp : (⟨2, ![8192, 128]⟩ : Shape).Idx → EReal)
    (fun t _ => by
      rw [flushed14, (swept h t.val t.isLt).e14]
      funext j
      exact (arr_at (N := 8192) (M := 128) p.ddtp (((cfg0.win 14).blk t).view.emb j) _ _ (emb14 t j).1 (emb14 t j).2).symm)
    (fun i => by
      obtain ⟨t, j, h0, h1⟩ := rows_cover i
      refine ⟨t, flush0_14 t, ?_⟩
      rw [idx2_ext i (((cfg0.win 14).blk t).view.emb j) (h0.trans (emb14 t j).1.symm) (h1.trans (emb14 t j).2.symm)]
      exact ((cfg0.win 14).blk t).view.emb_mem_set j)
theorem final15 : (dats m 0 c).arrAt 15 cfg0.N = (arr (p.rW) : (⟨2, ![4, 1536]⟩ : Shape).Idx → EReal) :=
  (dats m 0 c).arrAt_eq_of_cover 15 (arr (p.rW) : (⟨2, ![4, 1536]⟩ : Shape).Idx → EReal)
    (fun t hf => by
      have ht : t.val = 63 := by have := (flush0_15 t).mp hf; have : t.val < 64 := t.isLt; omega
      rw [flushed15, (swept h t.val t.isLt).e15, ht]
      funext j
      refine Eq.trans ?_ (arr_at (N := 4) (M := 1536) (p.rW) (((cfg0.win 15).blk t).view.emb j) _ _ (emb15 t j).1 (emb15 t j).2).symm
      show ((acc _ 63 : ℝ) : EReal) = _
      rw [acc_all, Nat.zero_add]; rfl)
    (fun i => by
      refine ⟨lastPoint, (flush0_15 _).mpr rfl, ?_⟩
      rw [idx2_ext i (((cfg0.win 15).blk lastPoint).view.emb i) (emb15 _ i).1.symm (emb15 _ i).2.symm]
      exact ((cfg0.win 15).blk lastPoint).view.emb_mem_set i)
theorem final16 : (dats m 0 c).arrAt 16 cfg0.N = (arr (fun _ => p.rB) : (⟨2, ![1, 1536]⟩ : Shape).Idx → EReal) :=
  (dats m 0 c).arrAt_eq_of_cover 16 (arr (fun _ => p.rB) : (⟨2, ![1, 1536]⟩ : Shape).Idx → EReal)
    (fun t hf => by
      have ht : t.val = 63 := by have := (flush0_16 t).mp hf; have : t.val < 64 := t.isLt; omega
      rw [flushed16, (swept h t.val t.isLt).e16, ht]
      funext j
      refine Eq.trans ?_ (arr_at (N := 1) (M := 1536) (fun _ => p.rB) (((cfg0.win 16).blk t).view.emb j) _ _ (emb16 t j).1 (emb16 t j).2).symm
      show ((acc _ 63 : ℝ) : EReal) = _
      rw [acc_all]; rfl)
    (fun i => by
      refine ⟨lastPoint, (flush0_16 _).mpr rfl, ?_⟩
      rw [idx2_ext i (((cfg0.win 16).blk lastPoint).view.emb i) (emb16 _ i).1.symm (emb16 _ i).2.symm]
      exact ((cfg0.win 16).blk lastPoint).view.emb_mem_set i)
theorem final17 : (dats m 0 c).arrAt 17 cfg0.N = (arr (fun _ => p.rBias) : (⟨2, ![1, 128]⟩ : Shape).Idx → EReal) :=
  (dats m 0 c).arrAt_eq_of_cover 17 (arr (fun _ => p.rBias) : (⟨2, ![1, 128]⟩ : Shape).Idx → EReal)
    (fun t hf => by
      have ht : t.val = 63 := by have := (flush0_17 t).mp hf; have : t.val < 64 := t.isLt; omega
      rw [flushed17, (swept h t.val t.isLt).e17, ht]
      funext j
      refine Eq.trans ?_ (arr_at (N := 1) (M := 128) (fun _ => p.rBias) (((cfg0.win 17).blk t).view.emb j) _ _ (emb17 t j).1 (emb17 t j).2).symm
      show ((acc _ 63 : ℝ) : EReal) = _
      rw [acc_all]; rfl)
    (fun i => by
      refine ⟨lastPoint, (flush0_17 _).mpr rfl, ?_⟩
      rw [idx2_ext i (((cfg0.win 17).blk lastPoint).view.emb i) (emb17 _ i).1.symm (emb17 _ i).2.symm]
      exact ((cfg0.win 17).blk lastPoint).view.emb_mem_set i)
theorem final18 : (dats m 0 c).arrAt 18 cfg0.N = (arr (fun _ => p.rA) : (⟨2, ![1, 128]⟩ : Shape).Idx → EReal) :=
  (dats m 0 c).arrAt_eq_of_cover 18 (arr (fun _ => p.rA) : (⟨2, ![1, 128]⟩ : Shape).Idx → EReal)
    (fun t hf => by
      have ht : t.val = 63 := by have := (flush0_18 t).mp hf; have : t.val < 64 := t.isLt; omega
      rw [flushed18, (swept h t.val t.isLt).e18, ht]
      funext j
      refine Eq.trans ?_ (arr_at (N := 1) (M := 128) (fun _ => p.rA) (((cfg0.win 18).blk t).view.emb j) _ _ (emb18 t j).1 (emb18 t j).2).symm
      show ((acc _ 63 : ℝ) : EReal) = _
      rw [acc_all]; rfl)
    (fun i => by
      refine ⟨lastPoint, (flush0_18 _).mpr rfl, ?_⟩
      rw [idx2_ext i (((cfg0.win 18).blk lastPoint).view.emb i) (emb18 _ i).1.symm (emb18 _ i).2.symm]
      exact ((cfg0.win 18).blk lastPoint).view.emb_mem_set i)
theorem final19 : (dats m 0 c).arrAt 19 cfg0.N = (arr (fun _ => p.rD) : (⟨2, ![1, 1024]⟩ : Shape).Idx → EReal) :=
  (dats m 0 c).arrAt_eq_of_cover 19 (arr (fun _ => p.rD) : (⟨2, ![1, 1024]⟩ : Shape).Idx → EReal)
    (fun t hf => by
      have ht : t.val = 63 := by have := (flush0_19 t).mp hf; have : t.val < 64 := t.isLt; omega
      rw [flushed19, (swept h t.val t.isLt).e19, ht]
      funext j
      refine Eq.trans ?_ (arr_at (N := 1) (M := 1024) (fun _ => p.rD) (((cfg0.win 19).blk t).view.emb j) _ _ (emb19 t j).1 (emb19 t j).2).symm
      show ((acc _ 63 : ℝ) : EReal) = _
      rw [acc_all]; rfl)
    (fun i => by
      refine ⟨lastPoint, (flush0_19 _).mpr rfl, ?_⟩
      rw [idx2_ext i (((cfg0.win 19).blk lastPoint).view.emb i) (emb19 _ i).1.symm (emb19 _ i).2.symm]
      exact ((cfg0.win 19).blk lastPoint).view.emb_mem_set i)
theorem final20 : (dats m 0 c).arrAt 20 cfg0.N = (arr (fun _ => p.rG) : (⟨2, ![1, 1024]⟩ : Shape).Idx → EReal) :=
  (dats m 0 c).arrAt_eq_of_cover 20 (arr (fun _ => p.rG) : (⟨2, ![1, 1024]⟩ : Shape).Idx → EReal)
    (fun t hf => by
      have ht : t.val = 63 := by have := (flush0_20 t).mp hf; have : t.val < 64 := t.isLt; omega
      rw [flushed20, (swept h t.val t.isLt).e20, ht]
      funext j
      refine Eq.trans ?_ (arr_at (N := 1) (M := 1024) (fun _ => p.rG) (((cfg0.win 20).blk t).view.emb j) _ _ (emb20 t j).1 (emb20 t j).2).symm
      show ((acc _ 63 : ℝ) : EReal) = _
      rw [acc_all]; rfl)
    (fun i => by
      refine ⟨lastPoint, (flush0_20 _).mpr rfl, ?_⟩
      rw [idx2_ext i (((cfg0.win 20).blk lastPoint).view.emb i) (emb20 _ i).1.symm (emb20 _ i).2.symm]
      exact ((cfg0.win 20).blk lastPoint).view.emb_mem_set i)

end

end Cert.Proof.Ssd.Sweep

end
-- ==== Proof.SsdHost.lean ====
/- What the host lines before the backward kernel's region leave in the region's arrays: the values of the forward lines. -/
module

public import proofs.«01_k».proof.Proof.SsdKernel
public import proofs.«01_k».proof.Proof.Gen.SsdReferenceIdeal.Read

@[expose] public section

noncomputable section

namespace Cert.Proof.Ssd.Host

open Idealize.ShloMosaic Idealize.ShloMosaic.TcCoe Idealize.ShloMosaic.ValueIdx Idealize.ShloMosaic.StableHlo
open Cert.SsdKernelIdeal Cert.SsdKernelIdeal.Gen
open Cert.SsdReferenceIdeal.Read

variable (V0 : Valuation τ sig (Elt Ideal))

abbrev x0 : (⟨S8192x4608, .f32⟩ : BufTy).Contents (Elt Ideal) := V0 (Proc.devRef .tc main_arg0)
abbrev x1 : (⟨S8192x16, .f32⟩ : BufTy).Contents (Elt Ideal) := V0 (Proc.devRef .tc main_arg1)
abbrev x2 : (⟨S4x1536, .f32⟩ : BufTy).Contents (Elt Ideal) := V0 (Proc.devRef .tc main_arg2)
abbrev x3 : (⟨S1x1536, .f32⟩ : BufTy).Contents (Elt Ideal) := V0 (Proc.devRef .tc main_arg3)
abbrev x4 : (⟨S1x16, .f32⟩ : BufTy).Contents (Elt Ideal) := V0 (Proc.devRef .tc main_arg4)
abbrev x5 : (⟨S1x16, .f32⟩ : BufTy).Contents (Elt Ideal) := V0 (Proc.devRef .tc main_arg5)
abbrev x6 : (⟨S1x16, .f32⟩ : BufTy).Contents (Elt Ideal) := V0 (Proc.devRef .tc main_arg6)

/-- The convolution's input, cut from the projection in one step or in two. -/
theorem cut (x : (⟨S8192x4608, .f32⟩ : BufTy).Contents (Elt Ideal)) :
    extractStridedSlice S8192x1536 ![0, 3072] x slices_S8192x4608_S8192x1536_0_3072 = val_main_v7 (F := Ideal) x := by
  funext i
  rw [val_main_v7_apply, val_main_v4_apply]
  unfold extractStridedSlice
  refine congrArg x (funext fun a => Fin.ext ?_)
  fin_cases a
  · show 0 + (i 0).val = (i 0).val; omega
  · show 3072 + (i 1).val = 2048 + (1024 + (i 1).val); omega

abbrev opsA1 : List (HloOp τ sig (Elt Ideal)) := hostOps0 ++ (hostOps0_1 ++ ((hostOps0_2.take 8)))
def vA1 : Valuation τ sig (Elt Ideal) := after opsA1 (V0)
abbrev WA1 : List (Ref sig .tc) := [main_v0, main_v1, main_v2, main_v3, main_v4, main_v5, main_v6, main_v7, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v8, main_v9, main_v10, main_v11, main_v12, main_v13, main_cst, main_v14, main_v15]
theorem vA1_keep (r : Ref sig .tc) (h : r ∉ WA1) : vA1 V0 (Proc.devRef .tc r) = (V0) (Proc.devRef .tc r) :=
  after_of_forall_not_mem _ _ (List.forall_iff_forall_mem.mp (by
    simp only [opsA1, hostOps0, hostOps0_1, hostOps0_2, List.cons_append, List.nil_append, List.take_succ_cons, List.take_zero, List.Forall, nullary_writes, unary_writes, binary_writes, ternary_writes,
      reshape_writes, Finset.mem_singleton]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    all_goals exact devRef_ne_of_ne fun e => h (e ▸ by decide)))
theorem vA1_arg1 : vA1 V0 (no_index (Proc.devRef .tc main_arg1)) = x1 V0 := (vA1_keep V0 main_arg1 (by decide))
theorem vA1_arg2 : vA1 V0 (no_index (Proc.devRef .tc main_arg2)) = x2 V0 := (vA1_keep V0 main_arg2 (by decide))
theorem vA1_arg3 : vA1 V0 (no_index (Proc.devRef .tc main_arg3)) = x3 V0 := (vA1_keep V0 main_arg3 (by decide))
theorem vA1_arg4 : vA1 V0 (no_index (Proc.devRef .tc main_arg4)) = x4 V0 := (vA1_keep V0 main_arg4 (by decide))
theorem vA1_arg5 : vA1 V0 (no_index (Proc.devRef .tc main_arg5)) = x5 V0 := (vA1_keep V0 main_arg5 (by decide))
theorem vA1_v3 : vA1 V0 (no_index (Proc.devRef .tc main_v3)) = val_main_v3 (F := Ideal) (x6 V0) := by
  unfold vA1
  simp only [opsA1, hostOps0, hostOps0_1, hostOps0_2, List.cons_append, List.nil_append, List.take_succ_cons, List.take_zero]
  after_results_simp
  rfl
theorem vA1_v15 : vA1 V0 (no_index (Proc.devRef .tc main_v15)) = val_main_v9 (F := Ideal) (x0 V0) := by
  unfold vA1
  simp only [opsA1, hostOps0, hostOps0_1, hostOps0_2, List.cons_append, List.nil_append, List.take_succ_cons, List.take_zero]
  after_results_simp
  show concatenate S8195x1536 0 [⟨S3x1536, broadcastInDim S3x1536 ![] bcast_S_S3x1536 (constant (F := Ideal) S_ .f32 0x00000000#32)⟩,
    ⟨S8192x1536, extractStridedSlice S8192x1536 ![0, 3072] (x0 V0) slices_S8192x4608_S8192x1536_0_3072⟩] concatenates_S3x1536_S8192x1536_S8195x1536_d0 = _
  rw [cut]; rfl
abbrev opsA : List (HloOp τ sig (Elt Ideal)) := (hostOps0_2.drop 8)
def vA : Valuation τ sig (Elt Ideal) := after opsA (vA1 V0)
abbrev WA : List (Ref sig .tc) := [main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46]
theorem vA_keep (r : Ref sig .tc) (h : r ∉ WA) : vA V0 (Proc.devRef .tc r) = (vA1 V0) (Proc.devRef .tc r) :=
  after_of_forall_not_mem _ _ (List.forall_iff_forall_mem.mp (by
    simp only [opsA, hostOps0_2, List.cons_append, List.nil_append, List.drop_succ_cons, List.drop_zero, List.Forall, nullary_writes, unary_writes, binary_writes, ternary_writes,
      reshape_writes, Finset.mem_singleton]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    all_goals exact devRef_ne_of_ne fun e => h (e ▸ by decide)))
theorem vA_arg1 : vA V0 (no_index (Proc.devRef .tc main_arg1)) = x1 V0 := (vA_keep V0 main_arg1 (by decide)).trans (vA1_arg1 V0)
theorem vA_arg4 : vA V0 (no_index (Proc.devRef .tc main_arg4)) = x4 V0 := (vA_keep V0 main_arg4 (by decide)).trans (vA1_arg4 V0)
theorem vA_arg5 : vA V0 (no_index (Proc.devRef .tc main_arg5)) = x5 V0 := (vA_keep V0 main_arg5 (by decide)).trans (vA1_arg5 V0)
theorem vA_v3 : vA V0 (no_index (Proc.devRef .tc main_v3)) = val_main_v3 (F := Ideal) (x6 V0) := (vA_keep V0 main_v3 (by decide)).trans (vA1_v3 V0)
theorem vA_v44 : vA V0 (no_index (Proc.devRef .tc main_v44)) = val_main_v39 (F := Ideal) (x0 V0) (x2 V0) (x3 V0) := by
  unfold vA
  simp only [opsA, hostOps0_2, List.cons_append, List.nil_append, List.drop_succ_cons, List.drop_zero]
  after_results_simp
  simp only [vA1_v15, vA1_arg2, vA1_arg3, vA1_arg5] <;> rfl
theorem vA_v46 : vA V0 (no_index (Proc.devRef .tc main_v46)) = val_main_v6 (F := Ideal) (x5 V0) := by
  unfold vA
  simp only [opsA, hostOps0_2, List.cons_append, List.nil_append, List.drop_succ_cons, List.drop_zero]
  after_results_simp
  simp only [vA1_v15, vA1_arg2, vA1_arg3, vA1_arg5] <;> rfl
abbrev opsB : List (HloOp τ sig (Elt Ideal)) := hostOps0_3 ++ (hostOps0_4 ++ (hostOps0_5 ++ (hostOps0_6)))
def vB : Valuation τ sig (Elt Ideal) := after opsB (vA V0)
abbrev WB : List (Ref sig .tc) := [main_call1_v0, main_call1_v1, main_call1_cst, main_call1_v2, main_call1_v3, main_call1_cst_0, main_call1_v4, main_call1_v5, main_v47, main_v48, main_v49, main_v50, main_v51, main_v52, main_v53, main_v54, main_v55, main_call2_cst, main_call2_v0, main_call2_v1, main_call2_v2, main_call2_v3, main_call2_v4, main_call2_v5, main_call2_v6, main_call2_v7, main_call2_v8, main_call2_v9, main_call2_v10, main_call2_v11, main_v56, main_v57, main_v58, main_v59, main_v60, main_v61, main_v62, main_v63, main_v64, main_v65, main_v66, main_v67, main_v68, main_v69]
theorem vB_keep (r : Ref sig .tc) (h : r ∉ WB) : vB V0 (Proc.devRef .tc r) = (vA V0) (Proc.devRef .tc r) :=
  after_of_forall_not_mem _ _ (List.forall_iff_forall_mem.mp (by
    simp only [opsB, hostOps0_3, hostOps0_4, hostOps0_5, hostOps0_6, List.cons_append, List.nil_append, List.Forall, nullary_writes, unary_writes, binary_writes, ternary_writes,
      reshape_writes, Finset.mem_singleton]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    all_goals exact devRef_ne_of_ne fun e => h (e ▸ by decide)))
theorem vB_arg1 : vB V0 (no_index (Proc.devRef .tc main_arg1)) = x1 V0 := (vB_keep V0 main_arg1 (by decide)).trans (vA_arg1 V0)
theorem vB_arg4 : vB V0 (no_index (Proc.devRef .tc main_arg4)) = x4 V0 := (vB_keep V0 main_arg4 (by decide)).trans (vA_arg4 V0)
theorem vB_arg5 : vB V0 (no_index (Proc.devRef .tc main_arg5)) = x5 V0 := (vB_keep V0 main_arg5 (by decide)).trans (vA_arg5 V0)
theorem vB_v3 : vB V0 (no_index (Proc.devRef .tc main_v3)) = val_main_v3 (F := Ideal) (x6 V0) := (vB_keep V0 main_v3 (by decide)).trans (vA_v3 V0)
theorem vB_v44 : vB V0 (no_index (Proc.devRef .tc main_v44)) = val_main_v39 (F := Ideal) (x0 V0) (x2 V0) (x3 V0) := (vB_keep V0 main_v44 (by decide)).trans (vA_v44 V0)
theorem vB_v49 : vB V0 (no_index (Proc.devRef .tc main_v49)) = val_main_v42 (F := Ideal) (x0 V0) (x2 V0) (x3 V0) := by
  unfold vB
  simp only [opsB, hostOps0_3, hostOps0_4, hostOps0_5, hostOps0_6, List.cons_append, List.nil_append]
  after_results_simp
  simp only [vA_v44, vA_v46, vA_arg1, vA_arg4] <;> rfl
theorem vB_v65 : vB V0 (no_index (Proc.devRef .tc main_v65)) = val_main_v58 (F := Ideal) (x0 V0) (x1 V0) (x2 V0) (x3 V0) (x4 V0) := by
  unfold vB
  simp only [opsB, hostOps0_3, hostOps0_4, hostOps0_5, hostOps0_6, List.cons_append, List.nil_append]
  after_results_simp
  simp only [vA_v44, vA_v46, vA_arg1, vA_arg4] <;> rfl
theorem vB_v66 : vB V0 (no_index (Proc.devRef .tc main_v66)) = val_main_v59 (F := Ideal) (x0 V0) (x2 V0) (x3 V0) := by
  unfold vB
  simp only [opsB, hostOps0_3, hostOps0_4, hostOps0_5, hostOps0_6, List.cons_append, List.nil_append]
  after_results_simp
  simp only [vA_v44, vA_v46, vA_arg1, vA_arg4] <;> rfl
theorem vB_v67 : vB V0 (no_index (Proc.devRef .tc main_v67)) = val_main_v60 (F := Ideal) (x0 V0) (x2 V0) (x3 V0) := by
  unfold vB
  simp only [opsB, hostOps0_3, hostOps0_4, hostOps0_5, hostOps0_6, List.cons_append, List.nil_append]
  after_results_simp
  simp only [vA_v44, vA_v46, vA_arg1, vA_arg4] <;> rfl
theorem vB_v69 : vB V0 (no_index (Proc.devRef .tc main_v69)) = val_main_v62 (F := Ideal) (x1 V0) (x4 V0) (x5 V0) := by
  unfold vB
  simp only [opsB, hostOps0_3, hostOps0_4, hostOps0_5, hostOps0_6, List.cons_append, List.nil_append]
  after_results_simp
  simp only [vA_v44, vA_v46, vA_arg1, vA_arg4] <;> rfl
abbrev opsC : List (HloOp τ sig (Elt Ideal)) := hostOps0_7 ++ (hostOps0_8 ++ (hostOps0_9 ++ (hostOps0_10 ++ (hostOps0_11 ++ (hostOps0_12)))))
def vC : Valuation τ sig (Elt Ideal) := after opsC (vB V0)
abbrev WC : List (Ref sig .tc) := [main_call3_call0_cst, main_call3_call0_v0, main_v70, main_call4_call0_cst, main_call4_call0_v0, main_v71, main_v72, main_v73, main_v74, main_v75, main_v76, main_c_0, main_v77, main_call5_v0, main_call5_c, main_call5_v1, main_call5_v2, main_call5_v3, main_call5_v4, main_call5_c_0, main_call5_v5, main_v78, main_cst_1, main_call6_v0, main_call6_v1, main_call6_v2, main_v79]
theorem vC_keep (r : Ref sig .tc) (h : r ∉ WC) : vC V0 (Proc.devRef .tc r) = (vB V0) (Proc.devRef .tc r) :=
  after_of_forall_not_mem _ _ (List.forall_iff_forall_mem.mp (by
    simp only [opsC, hostOps0_7, hostOps0_8, hostOps0_9, hostOps0_10, hostOps0_11, hostOps0_12, List.cons_append, List.nil_append, List.Forall, nullary_writes, unary_writes, binary_writes, ternary_writes,
      reshape_writes, Finset.mem_singleton]
    refine ⟨?_, ?_, ?_, ?_, ?_, ?_, ?_, ?_, ?_, ?_, ?_, ?_, ?_, ?_, ?_, ?_, ?_, ?_, ?_, ?_, ?_, ?_, ?_, ?_, ?_, ?_, ?_⟩
    all_goals exact devRef_ne_of_ne fun e => h (e ▸ by decide)))
theorem vC_arg1 : vC V0 (no_index (Proc.devRef .tc main_arg1)) = x1 V0 := (vC_keep V0 main_arg1 (by decide)).trans (vB_arg1 V0)
theorem vC_arg4 : vC V0 (no_index (Proc.devRef .tc main_arg4)) = x4 V0 := (vC_keep V0 main_arg4 (by decide)).trans (vB_arg4 V0)
theorem vC_arg5 : vC V0 (no_index (Proc.devRef .tc main_arg5)) = x5 V0 := (vC_keep V0 main_arg5 (by decide)).trans (vB_arg5 V0)
theorem vC_v3 : vC V0 (no_index (Proc.devRef .tc main_v3)) = val_main_v3 (F := Ideal) (x6 V0) := (vC_keep V0 main_v3 (by decide)).trans (vB_v3 V0)
theorem vC_v44 : vC V0 (no_index (Proc.devRef .tc main_v44)) = val_main_v39 (F := Ideal) (x0 V0) (x2 V0) (x3 V0) := (vC_keep V0 main_v44 (by decide)).trans (vB_v44 V0)
theorem vC_v49 : vC V0 (no_index (Proc.devRef .tc main_v49)) = val_main_v42 (F := Ideal) (x0 V0) (x2 V0) (x3 V0) := (vC_keep V0 main_v49 (by decide)).trans (vB_v49 V0)
theorem vC_v65 : vC V0 (no_index (Proc.devRef .tc main_v65)) = val_main_v58 (F := Ideal) (x0 V0) (x1 V0) (x2 V0) (x3 V0) (x4 V0) := (vC_keep V0 main_v65 (by decide)).trans (vB_v65 V0)
theorem vC_v66 : vC V0 (no_index (Proc.devRef .tc main_v66)) = val_main_v59 (F := Ideal) (x0 V0) (x2 V0) (x3 V0) := (vC_keep V0 main_v66 (by decide)).trans (vB_v66 V0)
theorem vC_v67 : vC V0 (no_index (Proc.devRef .tc main_v67)) = val_main_v60 (F := Ideal) (x0 V0) (x2 V0) (x3 V0) := (vC_keep V0 main_v67 (by decide)).trans (vB_v67 V0)
theorem vC_v70 : vC V0 (no_index (Proc.devRef .tc main_v70)) = val_main_v63 (F := Ideal) (x1 V0) (x4 V0) (x5 V0) := by
  unfold vC
  simp only [opsC, hostOps0_7, hostOps0_8, hostOps0_9, hostOps0_10, hostOps0_11, hostOps0_12, List.cons_append, List.nil_append]
  after_results_simp
  simp only [vB_v69] <;> rfl
theorem vC_v79 : vC V0 (no_index (Proc.devRef .tc main_v79)) = val_main_v72_0 (F := Ideal) (x1 V0) (x4 V0) (x5 V0) := by
  unfold vC
  simp only [opsC, hostOps0_7, hostOps0_8, hostOps0_9, hostOps0_10, hostOps0_11, hostOps0_12, List.cons_append, List.nil_append]
  after_results_simp
  simp only [vB_v69] <;> rfl
abbrev opsD : List (HloOp τ sig (Elt Ideal)) := hostOps0_13
def vD : Valuation τ sig (Elt Ideal) := after opsD (vC V0)
abbrev WD : List (Ref sig .tc) := [main_v80, main_v81, main_v82, main_v83, main_v84, main_v85, main_v86, main_v87, main_v88, main_v89, main_v90, main_v91, main_v92, main_v93, main_v94, main_v95, main_cst_2, main_v96, main_v97, main_v98, main_v99]
theorem vD_keep (r : Ref sig .tc) (h : r ∉ WD) : vD V0 (Proc.devRef .tc r) = (vC V0) (Proc.devRef .tc r) :=
  after_of_forall_not_mem _ _ (List.forall_iff_forall_mem.mp (by
    simp only [opsD, hostOps0_13, List.cons_append, List.nil_append, List.Forall, nullary_writes, unary_writes, binary_writes, ternary_writes,
      reshape_writes, Finset.mem_singleton]
    refine ⟨?_, ?_, ?_, ?_, ?_, ?_, ?_, ?_, ?_, ?_, ?_, ?_, ?_, ?_, ?_, ?_, ?_, ?_, ?_, ?_, ?_⟩
    all_goals exact devRef_ne_of_ne fun e => h (e ▸ by decide)))
theorem vD_arg1 : vD V0 (no_index (Proc.devRef .tc main_arg1)) = x1 V0 := (vD_keep V0 main_arg1 (by decide)).trans (vC_arg1 V0)
theorem vD_arg4 : vD V0 (no_index (Proc.devRef .tc main_arg4)) = x4 V0 := (vD_keep V0 main_arg4 (by decide)).trans (vC_arg4 V0)
theorem vD_arg5 : vD V0 (no_index (Proc.devRef .tc main_arg5)) = x5 V0 := (vD_keep V0 main_arg5 (by decide)).trans (vC_arg5 V0)
theorem vD_v3 : vD V0 (no_index (Proc.devRef .tc main_v3)) = val_main_v3 (F := Ideal) (x6 V0) := (vD_keep V0 main_v3 (by decide)).trans (vC_v3 V0)
theorem vD_v44 : vD V0 (no_index (Proc.devRef .tc main_v44)) = val_main_v39 (F := Ideal) (x0 V0) (x2 V0) (x3 V0) := (vD_keep V0 main_v44 (by decide)).trans (vC_v44 V0)
theorem vD_v49 : vD V0 (no_index (Proc.devRef .tc main_v49)) = val_main_v42 (F := Ideal) (x0 V0) (x2 V0) (x3 V0) := (vD_keep V0 main_v49 (by decide)).trans (vC_v49 V0)
theorem vD_v67 : vD V0 (no_index (Proc.devRef .tc main_v67)) = val_main_v60 (F := Ideal) (x0 V0) (x2 V0) (x3 V0) := (vD_keep V0 main_v67 (by decide)).trans (vC_v67 V0)
theorem vD_v70 : vD V0 (no_index (Proc.devRef .tc main_v70)) = val_main_v63 (F := Ideal) (x1 V0) (x4 V0) (x5 V0) := (vD_keep V0 main_v70 (by decide)).trans (vC_v70 V0)
theorem vD_v86 : vD V0 (no_index (Proc.devRef .tc main_v86)) = val_main_v79 (F := Ideal) (x0 V0) (x1 V0) (x2 V0) (x3 V0) (x4 V0) (x5 V0) := by
  unfold vD
  simp only [opsD, hostOps0_13, List.cons_append, List.nil_append]
  after_results_simp
  simp only [vC_v65, vC_v66, vC_v67, vC_v70, vC_v79] <;> rfl
theorem vD_v95 : vD V0 (no_index (Proc.devRef .tc main_v95)) = val_main_v88 (F := Ideal) (x0 V0) (x1 V0) (x2 V0) (x3 V0) (x4 V0) (x5 V0) := by
  unfold vD
  simp only [opsD, hostOps0_13, List.cons_append, List.nil_append]
  after_results_simp
  simp only [vC_v65, vC_v66, vC_v67, vC_v70, vC_v79] <;> rfl
theorem vD_v99 : vD V0 (no_index (Proc.devRef .tc main_v99)) = val_main_v92 (F := Ideal) (x1 V0) (x4 V0) (x5 V0) := by
  unfold vD
  simp only [opsD, hostOps0_13, List.cons_append, List.nil_append]
  after_results_simp
  have e := vC_v70 V0
  generalize vC V0 = W at e ⊢
  show concatenate S2x8x65 2 [⟨S2x8x1, broadcastInDim S2x8x1 ![] bcast_S_S2x8x1 (constant (F := Ideal) S_ .f32 0x00000000#32)⟩,
    ⟨S2x8x64, shapeCast _ (extractStridedSlice S2x8x64x1 ![0, 0, 0, 127] (W (Proc.devRef .tc main_v70) : (⟨S2x8x64x128, .f32⟩ : BufTy).Contents (Elt Ideal))
      slices_S2x8x64x128_S2x8x64x1_0_0_0_127) shapeCasts_S2x8x64x1_S2x8x64⟩] concatenates_S2x8x1_S2x8x64_S2x8x65_d2 = _
  rw [e]; rfl
abbrev opsD1 : List (HloOp τ sig (Elt Ideal)) := hostOps0_14
def vD1 : Valuation τ sig (Elt Ideal) := after opsD1 (vD V0)
abbrev WD1 : List (Ref sig .tc) := [main_call7_call0_cst, main_call7_call0_v0, main_v100]
theorem vD1_keep (r : Ref sig .tc) (h : r ∉ WD1) : vD1 V0 (Proc.devRef .tc r) = (vD V0) (Proc.devRef .tc r) :=
  after_of_forall_not_mem _ _ (List.forall_iff_forall_mem.mp (by
    simp only [opsD1, hostOps0_14, List.cons_append, List.nil_append, List.Forall, nullary_writes, unary_writes, binary_writes, ternary_writes,
      reshape_writes, Finset.mem_singleton]
    refine ⟨?_, ?_, ?_⟩
    all_goals exact devRef_ne_of_ne fun e => h (e ▸ by decide)))
theorem vD1_arg1 : vD1 V0 (no_index (Proc.devRef .tc main_arg1)) = x1 V0 := (vD1_keep V0 main_arg1 (by decide)).trans (vD_arg1 V0)
theorem vD1_arg4 : vD1 V0 (no_index (Proc.devRef .tc main_arg4)) = x4 V0 := (vD1_keep V0 main_arg4 (by decide)).trans (vD_arg4 V0)
theorem vD1_arg5 : vD1 V0 (no_index (Proc.devRef .tc main_arg5)) = x5 V0 := (vD1_keep V0 main_arg5 (by decide)).trans (vD_arg5 V0)
theorem vD1_v3 : vD1 V0 (no_index (Proc.devRef .tc main_v3)) = val_main_v3 (F := Ideal) (x6 V0) := (vD1_keep V0 main_v3 (by decide)).trans (vD_v3 V0)
theorem vD1_v44 : vD1 V0 (no_index (Proc.devRef .tc main_v44)) = val_main_v39 (F := Ideal) (x0 V0) (x2 V0) (x3 V0) := (vD1_keep V0 main_v44 (by decide)).trans (vD_v44 V0)
theorem vD1_v49 : vD1 V0 (no_index (Proc.devRef .tc main_v49)) = val_main_v42 (F := Ideal) (x0 V0) (x2 V0) (x3 V0) := (vD1_keep V0 main_v49 (by decide)).trans (vD_v49 V0)
theorem vD1_v67 : vD1 V0 (no_index (Proc.devRef .tc main_v67)) = val_main_v60 (F := Ideal) (x0 V0) (x2 V0) (x3 V0) := (vD1_keep V0 main_v67 (by decide)).trans (vD_v67 V0)
theorem vD1_v70 : vD1 V0 (no_index (Proc.devRef .tc main_v70)) = val_main_v63 (F := Ideal) (x1 V0) (x4 V0) (x5 V0) := (vD1_keep V0 main_v70 (by decide)).trans (vD_v70 V0)
theorem vD1_v86 : vD1 V0 (no_index (Proc.devRef .tc main_v86)) = val_main_v79 (F := Ideal) (x0 V0) (x1 V0) (x2 V0) (x3 V0) (x4 V0) (x5 V0) := (vD1_keep V0 main_v86 (by decide)).trans (vD_v86 V0)
theorem vD1_v95 : vD1 V0 (no_index (Proc.devRef .tc main_v95)) = val_main_v88 (F := Ideal) (x0 V0) (x1 V0) (x2 V0) (x3 V0) (x4 V0) (x5 V0) := (vD1_keep V0 main_v95 (by decide)).trans (vD_v95 V0)
theorem vD1_v100 : vD1 V0 (no_index (Proc.devRef .tc main_v100)) = val_main_v94 (F := Ideal) (x1 V0) (x4 V0) (x5 V0) := by
  unfold vD1
  simp only [opsD1, hostOps0_14, List.cons_append, List.nil_append]
  after_results_simp
  simp only [vD_v99] <;> rfl
abbrev opsE : List (HloOp τ sig (Elt Ideal)) := hostOps0_15 ++ (hostOps0_16 ++ (hostOps0_17 ++ (hostOps0_18)))
def vE : Valuation τ sig (Elt Ideal) := after opsE (vD1 V0)
abbrev WE : List (Ref sig .tc) := [main_v101, main_v102, main_v103, main_v104, main_v105, main_c_3, main_v106, main_call8_v0, main_call8_c, main_call8_v1, main_call8_v2, main_call8_v3, main_call8_v4, main_call8_c_0, main_call8_v5, main_v107, main_cst_4, main_call9_v0, main_call9_v1, main_call9_v2, main_v108]
theorem vE_keep (r : Ref sig .tc) (h : r ∉ WE) : vE V0 (Proc.devRef .tc r) = (vD1 V0) (Proc.devRef .tc r) :=
  after_of_forall_not_mem _ _ (List.forall_iff_forall_mem.mp (by
    simp only [opsE, hostOps0_15, hostOps0_16, hostOps0_17, hostOps0_18, List.cons_append, List.nil_append, List.Forall, nullary_writes, unary_writes, binary_writes, ternary_writes,
      reshape_writes, Finset.mem_singleton]
    refine ⟨?_, ?_, ?_, ?_, ?_, ?_, ?_, ?_, ?_, ?_, ?_, ?_, ?_, ?_, ?_, ?_, ?_, ?_, ?_, ?_, ?_⟩
    all_goals exact devRef_ne_of_ne fun e => h (e ▸ by decide)))
theorem vE_arg1 : vE V0 (no_index (Proc.devRef .tc main_arg1)) = x1 V0 := (vE_keep V0 main_arg1 (by decide)).trans (vD1_arg1 V0)
theorem vE_arg4 : vE V0 (no_index (Proc.devRef .tc main_arg4)) = x4 V0 := (vE_keep V0 main_arg4 (by decide)).trans (vD1_arg4 V0)
theorem vE_arg5 : vE V0 (no_index (Proc.devRef .tc main_arg5)) = x5 V0 := (vE_keep V0 main_arg5 (by decide)).trans (vD1_arg5 V0)
theorem vE_v3 : vE V0 (no_index (Proc.devRef .tc main_v3)) = val_main_v3 (F := Ideal) (x6 V0) := (vE_keep V0 main_v3 (by decide)).trans (vD1_v3 V0)
theorem vE_v44 : vE V0 (no_index (Proc.devRef .tc main_v44)) = val_main_v39 (F := Ideal) (x0 V0) (x2 V0) (x3 V0) := (vE_keep V0 main_v44 (by decide)).trans (vD1_v44 V0)
theorem vE_v49 : vE V0 (no_index (Proc.devRef .tc main_v49)) = val_main_v42 (F := Ideal) (x0 V0) (x2 V0) (x3 V0) := (vE_keep V0 main_v49 (by decide)).trans (vD1_v49 V0)
theorem vE_v67 : vE V0 (no_index (Proc.devRef .tc main_v67)) = val_main_v60 (F := Ideal) (x0 V0) (x2 V0) (x3 V0) := (vE_keep V0 main_v67 (by decide)).trans (vD1_v67 V0)
theorem vE_v70 : vE V0 (no_index (Proc.devRef .tc main_v70)) = val_main_v63 (F := Ideal) (x1 V0) (x4 V0) (x5 V0) := (vE_keep V0 main_v70 (by decide)).trans (vD1_v70 V0)
theorem vE_v86 : vE V0 (no_index (Proc.devRef .tc main_v86)) = val_main_v79 (F := Ideal) (x0 V0) (x1 V0) (x2 V0) (x3 V0) (x4 V0) (x5 V0) := (vE_keep V0 main_v86 (by decide)).trans (vD1_v86 V0)
theorem vE_v95 : vE V0 (no_index (Proc.devRef .tc main_v95)) = val_main_v88 (F := Ideal) (x0 V0) (x1 V0) (x2 V0) (x3 V0) (x4 V0) (x5 V0) := (vE_keep V0 main_v95 (by decide)).trans (vD1_v95 V0)
theorem vE_v108 : vE V0 (no_index (Proc.devRef .tc main_v108)) = val_main_v102_0 (F := Ideal) (x1 V0) (x4 V0) (x5 V0) := by
  unfold vE
  simp only [opsE, hostOps0_15, hostOps0_16, hostOps0_17, hostOps0_18, List.cons_append, List.nil_append]
  after_results_simp
  simp only [vD1_v100] <;> rfl
abbrev opsE1 : List (HloOp τ sig (Elt Ideal)) := (hostOps0_19.take 5)
def vE1 : Valuation τ sig (Elt Ideal) := after opsE1 (vE V0)
abbrev WE1 : List (Ref sig .tc) := [main_v109, main_v110, main_cst_5, main_v111, main_v112]
theorem vE1_keep (r : Ref sig .tc) (h : r ∉ WE1) : vE1 V0 (Proc.devRef .tc r) = (vE V0) (Proc.devRef .tc r) :=
  after_of_forall_not_mem _ _ (List.forall_iff_forall_mem.mp (by
    simp only [opsE1, hostOps0_19, List.cons_append, List.nil_append, List.take_succ_cons, List.take_zero, List.Forall, nullary_writes, unary_writes, binary_writes, ternary_writes,
      reshape_writes, Finset.mem_singleton]
    refine ⟨?_, ?_, ?_, ?_, ?_⟩
    all_goals exact devRef_ne_of_ne fun e => h (e ▸ by decide)))
theorem vE1_arg1 : vE1 V0 (no_index (Proc.devRef .tc main_arg1)) = x1 V0 := (vE1_keep V0 main_arg1 (by decide)).trans (vE_arg1 V0)
theorem vE1_arg4 : vE1 V0 (no_index (Proc.devRef .tc main_arg4)) = x4 V0 := (vE1_keep V0 main_arg4 (by decide)).trans (vE_arg4 V0)
theorem vE1_arg5 : vE1 V0 (no_index (Proc.devRef .tc main_arg5)) = x5 V0 := (vE1_keep V0 main_arg5 (by decide)).trans (vE_arg5 V0)
theorem vE1_v3 : vE1 V0 (no_index (Proc.devRef .tc main_v3)) = val_main_v3 (F := Ideal) (x6 V0) := (vE1_keep V0 main_v3 (by decide)).trans (vE_v3 V0)
theorem vE1_v44 : vE1 V0 (no_index (Proc.devRef .tc main_v44)) = val_main_v39 (F := Ideal) (x0 V0) (x2 V0) (x3 V0) := (vE1_keep V0 main_v44 (by decide)).trans (vE_v44 V0)
theorem vE1_v49 : vE1 V0 (no_index (Proc.devRef .tc main_v49)) = val_main_v42 (F := Ideal) (x0 V0) (x2 V0) (x3 V0) := (vE1_keep V0 main_v49 (by decide)).trans (vE_v49 V0)
theorem vE1_v67 : vE1 V0 (no_index (Proc.devRef .tc main_v67)) = val_main_v60 (F := Ideal) (x0 V0) (x2 V0) (x3 V0) := (vE1_keep V0 main_v67 (by decide)).trans (vE_v67 V0)
theorem vE1_v70 : vE1 V0 (no_index (Proc.devRef .tc main_v70)) = val_main_v63 (F := Ideal) (x1 V0) (x4 V0) (x5 V0) := (vE1_keep V0 main_v70 (by decide)).trans (vE_v70 V0)
theorem vE1_v86 : vE1 V0 (no_index (Proc.devRef .tc main_v86)) = val_main_v79 (F := Ideal) (x0 V0) (x1 V0) (x2 V0) (x3 V0) (x4 V0) (x5 V0) := (vE1_keep V0 main_v86 (by decide)).trans (vE_v86 V0)
theorem vE1_v109 : vE1 V0 (no_index (Proc.devRef .tc main_v109)) = val_main_v103 (F := Ideal) (x1 V0) (x4 V0) (x5 V0) := by
  unfold vE1
  simp only [opsE1, hostOps0_19, List.cons_append, List.nil_append, List.take_succ_cons, List.take_zero]
  after_results_simp
  simp only [vE_v108] <;> rfl
theorem vE1_v112 : vE1 V0 (no_index (Proc.devRef .tc main_v112)) = val_main_v106 (F := Ideal) (x0 V0) (x1 V0) (x2 V0) (x3 V0) (x4 V0) (x5 V0) := by
  unfold vE1
  simp only [opsE1, hostOps0_19, List.cons_append, List.nil_append, List.take_succ_cons, List.take_zero]
  after_results_simp
  have e := vE_v95 V0
  generalize vE V0 = W at e ⊢
  show concatenate S65x2x8x64x128 0 [⟨S1x2x8x64x128, broadcastInDim S1x2x8x64x128 ![] bcast_S_S1x2x8x64x128 (constant (F := Ideal) S_ .f32 0x00000000#32)⟩,
    ⟨S64x2x8x64x128, W (Proc.devRef .tc main_v95)⟩] concatenates_S1x2x8x64x128_S64x2x8x64x128_S65x2x8x64x128_d0 = _
  rw [e]; rfl
abbrev opsF : List (HloOp τ sig (Elt Ideal)) := (hostOps0_19.drop 5)
def vF : Valuation τ sig (Elt Ideal) := after opsF (vE1 V0)
abbrev WF : List (Ref sig .tc) := [main_v113, main_v114, main_v115, main_v116, main_v117, main_v118, main_v119, main_v120, main_v121, main_v122, main_v123, main_v124, main_v125, main_v126, main_v127, main_v128, main_v129, main_v130, main_v131, main_v132, main_c_6]
theorem vF_keep (r : Ref sig .tc) (h : r ∉ WF) : vF V0 (Proc.devRef .tc r) = (vE1 V0) (Proc.devRef .tc r) :=
  after_of_forall_not_mem _ _ (List.forall_iff_forall_mem.mp (by
    simp only [opsF, hostOps0_19, List.cons_append, List.nil_append, List.drop_succ_cons, List.drop_zero, List.Forall, nullary_writes, unary_writes, binary_writes, ternary_writes,
      reshape_writes, Finset.mem_singleton]
    refine ⟨?_, ?_, ?_, ?_, ?_, ?_, ?_, ?_, ?_, ?_, ?_, ?_, ?_, ?_, ?_, ?_, ?_, ?_, ?_, ?_, ?_⟩
    all_goals exact devRef_ne_of_ne fun e => h (e ▸ by decide)))
theorem vF_arg1 : vF V0 (no_index (Proc.devRef .tc main_arg1)) = x1 V0 := (vF_keep V0 main_arg1 (by decide)).trans (vE1_arg1 V0)
theorem vF_arg4 : vF V0 (no_index (Proc.devRef .tc main_arg4)) = x4 V0 := (vF_keep V0 main_arg4 (by decide)).trans (vE1_arg4 V0)
theorem vF_arg5 : vF V0 (no_index (Proc.devRef .tc main_arg5)) = x5 V0 := (vF_keep V0 main_arg5 (by decide)).trans (vE1_arg5 V0)
theorem vF_v3 : vF V0 (no_index (Proc.devRef .tc main_v3)) = val_main_v3 (F := Ideal) (x6 V0) := (vF_keep V0 main_v3 (by decide)).trans (vE1_v3 V0)
theorem vF_v44 : vF V0 (no_index (Proc.devRef .tc main_v44)) = val_main_v39 (F := Ideal) (x0 V0) (x2 V0) (x3 V0) := (vF_keep V0 main_v44 (by decide)).trans (vE1_v44 V0)
theorem vF_v130 : vF V0 (no_index (Proc.devRef .tc main_v130)) = val_main_v125 (F := Ideal) (x0 V0) (x1 V0) (x2 V0) (x3 V0) (x4 V0) (x5 V0) (x6 V0) := by
  unfold vF
  simp only [opsF, hostOps0_19, List.cons_append, List.nil_append, List.drop_succ_cons, List.drop_zero]
  after_results_simp
  simp only [vE1_v112, vE1_v109, vE1_v70, vE1_v67, vE1_v86, vE1_v3, vE1_v49] <;> rfl
abbrev opsG : List (HloOp τ sig (Elt Ideal)) := hostOps0_20 ++ (hostOps0_21 ++ (hostOps0_22 ++ (hostOps0_23 ++ (hostOps0_24))))
def vG : Valuation τ sig (Elt Ideal) := after opsG (vF V0)
abbrev WG : List (Ref sig .tc) := [main_call10_v0, main_v133, main_c_7, main_call11_v0, main_v134, main_c_8, main_call12_v0, main_v135]
theorem vG_keep (r : Ref sig .tc) (h : r ∉ WG) : vG V0 (Proc.devRef .tc r) = (vF V0) (Proc.devRef .tc r) :=
  after_of_forall_not_mem _ _ (List.forall_iff_forall_mem.mp (by
    simp only [opsG, hostOps0_20, hostOps0_21, hostOps0_22, hostOps0_23, hostOps0_24, List.cons_append, List.nil_append, List.Forall, nullary_writes, unary_writes, binary_writes, ternary_writes,
      reshape_writes, Finset.mem_singleton]
    refine ⟨?_, ?_, ?_, ?_, ?_, ?_, ?_, ?_⟩
    all_goals exact devRef_ne_of_ne fun e => h (e ▸ by decide)))
theorem vG_v3 : vG V0 (no_index (Proc.devRef .tc main_v3)) = val_main_v3 (F := Ideal) (x6 V0) := (vG_keep V0 main_v3 (by decide)).trans (vF_v3 V0)
theorem vG_v44 : vG V0 (no_index (Proc.devRef .tc main_v44)) = val_main_v39 (F := Ideal) (x0 V0) (x2 V0) (x3 V0) := (vG_keep V0 main_v44 (by decide)).trans (vF_v44 V0)
theorem vG_v130 : vG V0 (no_index (Proc.devRef .tc main_v130)) = val_main_v125 (F := Ideal) (x0 V0) (x1 V0) (x2 V0) (x3 V0) (x4 V0) (x5 V0) (x6 V0) := (vG_keep V0 main_v130 (by decide)).trans (vF_v130 V0)

end Cert.Proof.Ssd.Host
-- ==== Proof.SsdHostB.lean ====
/- The arrays the host lines lay out for the backward kernel: the padded parameters, the states by rows, the heads' expansion. -/
module

public import proofs.«01_k».proof.Proof.SsdHost
public import proofs.«01_k».proof.Proof.SsdNf
public import proofs.«01_k».proof.Proof.SsdPoint

@[expose] public section

noncomputable section

namespace Cert.Proof.Ssd.Host

open Idealize.ShloMosaic Idealize.ShloMosaic.TcCoe Idealize.ShloMosaic.ValueIdx Idealize.ShloMosaic.StableHlo
open Cert.SsdKernelIdeal Cert.SsdKernelIdeal.Gen Cert.Proof.Ssd
open Cert.SsdReferenceIdeal.Read
open Cert.Proof.Ssd.Point (expand)

variable (V0 : Valuation τ sig (Elt Ideal))

/-! ## The expansion of the heads into channels -/

def sgn (x : BitVec 32) : BitVec 32 := if x = 0 then 0 else if x.msb then -1 else 1
/-- The head of a channel, as the host divides. -/
def headOf (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)
theorem headOf_eq : ∀ ch : Fin 1024, headOf (BitVec.ofNat 32 ch.val) = BitVec.ofNat 32 (ch.val / 64) := by decide +kernel
theorem head_eq (a : Fin 128) (b : Fin 1024) : IntOp.cmpi .eq (BitVec.ofNat 32 a.val) (BitVec.ofNat 32 (b.val / 64)) = if a.val = b.val / 64 then 1#1 else 0#1 := by
  have ha := a.isLt
  have hb := b.isLt
  unfold IntOp.cmpi
  by_cases e : a.val = b.val / 64
  · rw [if_pos e, e]; simp
  · rw [if_neg e]
    have : BitVec.ofNat 32 a.val ≠ BitVec.ofNat 32 (b.val / 64) := fun h => e (by
      have := congrArg BitVec.toNat h
      simp only [BitVec.toNat_ofNat] at this
      omega)
    simp only [beq_eq_false_iff_ne.mpr this]
    rfl

theorem A1_v12 : vA1 V0 (no_index (Proc.devRef .tc main_v12)) = arr expand := by
  unfold vA1
  simp only [opsA1, hostOps0, hostOps0_1, hostOps0_2, List.cons_append, List.nil_append, List.take_succ_cons, List.take_zero]
  after_results_simp
  dsimp only [TRef.ofBuf, TRef.toBuf, TRef.of, cast_eq, eq_mpr_eq_cast]
  show uitofp (F := Ideal) .bf16 (cmpi .eq (broadcastInDim S128x1024 ![0, 1] bcast_S128x1_S128x1024_0_1
      (broadcastInDim S128x1 ![0] bcast_S128_S128x1_0 (iotaInDim S128 32 0)))
    (broadcastInDim S128x1024 ![0, 1] bcast_S1x1024_S128x1024_0_1
      fun j => headOf ((broadcastInDim S1x1024 ![1] bcast_S1024_S1x1024_1 (iotaInDim S1024 32 0)) j))) = arr expand
  funext i
  show (((IntOp.cmpi .eq (BitVec.ofNat 32 (i 0).val) (headOf (BitVec.ofNat 32 (i 1).val))).toNat : ℝ) : EReal) = ((expand (i 0).val (i 1).val : ℝ) : EReal)
  rw [headOf_eq (i 1), head_eq (i 0) (i 1)]
  unfold expand
  split_ifs <;> simp
theorem A_v12 : vA V0 (no_index (Proc.devRef .tc main_v12)) = arr expand := (vA_keep V0 main_v12 (by decide)).trans (A1_v12 V0)
theorem F_v12 : vF V0 (no_index (Proc.devRef .tc main_v12)) = arr expand :=
  (vF_keep V0 main_v12 (by decide)).trans ((vE1_keep V0 main_v12 (by decide)).trans ((vE_keep V0 main_v12 (by decide)).trans
    ((vD1_keep V0 main_v12 (by decide)).trans ((vD_keep V0 main_v12 (by decide)).trans ((vC_keep V0 main_v12 (by decide)).trans
      ((vB_keep V0 main_v12 (by decide)).trans (A_v12 V0)))))))

/-! ## The states by rows -/

set_option backward.proofsInPublic true in
def row (x : S64x128x1024.Idx) : S64x2x8x64x128.Idx := fun a => match a with
  | ⟨0, _⟩ => ⟨(x 0).val, (x 0).isLt⟩
  | ⟨1, _⟩ => ⟨(x 2).val / 512, by have h : (x 2).val < 1024 := (x 2).isLt; show (x 2).val / 512 < 2; omega⟩
  | ⟨2, _⟩ => ⟨(x 2).val / 64 % 8, by show (x 2).val / 64 % 8 < 8; omega⟩
  | ⟨3, _⟩ => ⟨(x 2).val % 64, by show (x 2).val % 64 < 64; omega⟩
  | ⟨4, _⟩ => ⟨(x 1).val, (x 1).isLt⟩
set_option backward.proofsInPublic true in
def rowT (x : S64x128x1024.Idx) : S64x128x2x8x64.Idx := fun a => match a with
  | ⟨0, _⟩ => ⟨(x 0).val, (x 0).isLt⟩
  | ⟨1, _⟩ => ⟨(x 1).val, (x 1).isLt⟩
  | ⟨2, _⟩ => ⟨(x 2).val / 512, by have h : (x 2).val < 1024 := (x 2).isLt; show (x 2).val / 512 < 2; omega⟩
  | ⟨3, _⟩ => ⟨(x 2).val / 64 % 8, by show (x 2).val / 64 % 8 < 8; omega⟩
  | ⟨4, _⟩ => ⟨(x 2).val % 64, by show (x 2).val % 64 < 64; omega⟩
theorem by_rows (y : S64x2x8x64x128.Idx → EReal) (x : S64x128x1024.Idx) :
    shapeCast S64x128x1024 (transpose S64x128x2x8x64 [0, 4, 1, 2, 3] y transposes_S64x2x8x64x128_S64x128x2x8x64_0_4_1_2_3)
      shapeCasts_S64x128x2x8x64_S64x128x1024 x = y (row x) := by
  refine (shapeCast_apply _ shapeCasts_S64x128x2x8x64_S64x128x1024 x (rowT x) ?_).trans
    (transpose_apply [0, 4, 1, 2, 3] y transposes_S64x2x8x64x128_S64x128x2x8x64_0_4_1_2_3 (rowT x) (row x) (fun b => match b with
    | ⟨0, _⟩ => rfl
    | ⟨1, _⟩ => rfl
    | ⟨2, _⟩ => rfl
    | ⟨3, _⟩ => rfl
    | ⟨4, _⟩ => rfl))
  rewrite [Shape.rowMajor_val_five, Shape.rowMajor_val_three]
  have h2 : (x 2).val < 1024 := (x 2).isLt
  show ((((x 0).val * 128 + (x 1).val) * 2 + (x 2).val / 512) * 8 + (x 2).val / 64 % 8) * 64 + (x 2).val % 64
    = ((x 0).val * 128 + (x 1).val) * 1024 + (x 2).val
  omega

theorem F_v132 : vF V0 (no_index (Proc.devRef .tc main_v132))
    = shapeCast S64x128x1024 (transpose S64x128x2x8x64 [0, 4, 1, 2, 3] (val_main_v110 (F := Ideal) (x0 V0) (x1 V0) (x2 V0) (x3 V0) (x4 V0) (x5 V0))
      transposes_S64x2x8x64x128_S64x128x2x8x64_0_4_1_2_3) shapeCasts_S64x128x2x8x64_S64x128x1024 := by
  unfold vF
  simp only [opsF, hostOps0_19, List.cons_append, List.nil_append, List.drop_succ_cons, List.drop_zero]
  after_results_simp
  simp only [vE1_v112, vE1_v109]
  rfl
theorem F_c_6 : vF V0 (no_index (Proc.devRef .tc main_c_6)) = constantI S_ 32 0#32 := by
  unfold vF
  simp only [opsF, hostOps0_19, List.cons_append, List.nil_append, List.drop_succ_cons, List.drop_zero]
  after_results_simp

/-! ## The padded parameters -/

theorem pad16 {N : ℕ} (f : ℕ → ℕ → ℝ) (hf : ∀ t h, ¬h < 16 → f t h = 0) {h : (⟨2, ![N, 16]⟩ : Shape).Pads ![0, 0] ![0, 112] ![0, 0] ⟨2, ![N, 128]⟩}
    {hu : 0 < (⟨0, ![]⟩ : Shape).numel} {x : (⟨2, ![N, 16]⟩ : Shape).Idx → EReal} (hx : x = t2 f) :
    pad ⟨2, ![N, 128]⟩ ![0, 0] ![0, 112] ![0, 0] x (sitofp (F := Ideal) .f32 (constantI ⟨0, ![]⟩ 32 0#32)) h hu = arr f :=
  (pad_nf (1 : Fin 2) (fun v => f (v 0) (v 1)) hx (by show (((0#32 : BitVec 32).toInt : ℝ) : EReal) = 0; simp) (by decide) (by decide)
    (fun a ha => by fin_cases a; · rfl
                    · exact absurd rfl ha)).trans (funext fun j => congrArg _ (by
    show (if 0 ≤ (j 1).val ∧ (j 1).val - 0 < 16 then f (j 0).val ((j 1).val - 0) else 0) = f (j 0).val (j 1).val
    split_ifs with hc
    · rfl
    · exact (hf _ _ (by omega)).symm))

theorem G_v133 : vG V0 (no_index (Proc.devRef .tc main_v133))
    = pad S8192x128 ![0, 0] ![0, 112] ![0, 0] (x1 V0) (sitofp (F := Ideal) .f32 (constantI S_ 32 0#32)) pads_S8192x16_S8192x128_000_01120 h_S_ := by
  unfold vG
  simp only [opsG, hostOps0_20, hostOps0_21, hostOps0_22, hostOps0_23, hostOps0_24, List.cons_append, List.nil_append]
  after_results_simp
  simp only [vF_arg1, F_c_6]
  rfl
theorem G_v134 : vG V0 (no_index (Proc.devRef .tc main_v134))
    = pad S1x128 ![0, 0] ![0, 112] ![0, 0] (x4 V0) (sitofp (F := Ideal) .f32 (constantI S_ 32 0#32)) pads_S1x16_S1x128_000_01120 h_S_ := by
  unfold vG
  simp only [opsG, hostOps0_20, hostOps0_21, hostOps0_22, hostOps0_23, hostOps0_24, List.cons_append, List.nil_append]
  after_results_simp
  simp only [vF_arg4]
  rfl
theorem G_v135 : vG V0 (no_index (Proc.devRef .tc main_v135))
    = pad S1x128 ![0, 0] ![0, 112] ![0, 0] (x5 V0) (sitofp (F := Ideal) .f32 (constantI S_ 32 0#32)) pads_S1x16_S1x128_000_01120 h_S_ := by
  unfold vG
  simp only [opsG, hostOps0_20, hostOps0_21, hostOps0_22, hostOps0_23, hostOps0_24, List.cons_append, List.nil_append]
  after_results_simp
  simp only [vF_arg5]
  rfl
theorem G_v132 : vG V0 (no_index (Proc.devRef .tc main_v132)) = vF V0 (Proc.devRef .tc main_v132) := vG_keep V0 main_v132 (by decide)
theorem G_v12 : vG V0 (no_index (Proc.devRef .tc main_v12)) = arr expand := (vG_keep V0 main_v12 (by decide)).trans (F_v12 V0)

theorem after_cut (l : List (HloOp τ sig (Elt Ideal))) (n : ℕ) (V : Valuation τ sig (Elt Ideal)) :
    after l V = after (l.drop n) (after (l.take n) V) := by
  rw [← after_append, List.take_append_drop]

/-- The region's arrays are those of the last stage. -/
theorem V_eq (m : (ℓ : Loc nD τ sig) → Buf (Elt Ideal) ℓ) (c : Dev nD) (b : Ref sig .tc) :
    V m c b = vG (fun b => m (c, b)) (Proc.devRef .tc b) := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) (Proc.devRef .tc b) = _
  unfold vG vF vE1 vE vD1 vD vC vB vA vA1
  simp only [List.flatten_cons, List.flatten_nil, List.append_nil, after_append]
  rw [after_cut hostOps0_2 8, after_cut hostOps0_19 5]

end Cert.Proof.Ssd.Host
-- ==== Proof.SsdReadB.lean ====
/- The sums and the cuts of the derivative, as the reference spells them. -/
module

public import proofs.«01_k».proof.Proof.SsdRead

@[expose] public section

noncomputable section

namespace Cert.Proof.Ssd

open scoped BigOperators

theorem hch (g k q : ℕ) : 64 * (8 * g + k) + q = 512 * g + 64 * k + q := by omega
theorem hs_ch (f : ℕ → ℝ) (g k : ℕ) : hs f (8 * g + k) = ∑ q ∈ Finset.range 64, f (512 * g + 64 * k + q) := by
  unfold hs
  simp only [hch]
theorem dv128 {c d : ℕ} (hd : d < 128) : (128 * c + d) / 128 = c := by omega
theorem md128 {c d : ℕ} (hd : d < 128) : (128 * c + d) % 128 = d := by omega
theorem flat128 (b : ℕ) : 128 * (b / 128) + b % 128 = b := by omega

namespace In

variable (p : In)

theorem through_ecs (c l g k : ℕ) :
    (∑ q ∈ Finset.range 64, p.dY (128 * c + l) (512 * g + 64 * k + q) * p.CS c l (512 * g + 64 * k + q)) * p.ecs c l (8 * g + k)
      = hs (fun ch => p.dYe c l ch * p.CS c l ch) (8 * g + k) := by
  rw [hs_ch, Finset.sum_mul]
  refine Finset.sum_congr rfl fun q hq => ?_
  unfold dYe
  rw [ch64 (Finset.mem_range.mp hq)]; ring

theorem V_mask (h z j : ℕ) : (if j ≤ z then p.V h z j else 0) = p.V h z j := by
  split_ifs with hc
  · rfl
  · unfold V dcy; rw [if_neg hc, mul_zero]
theorem W_mask (c h i j : ℕ) : (if j ≤ i then p.W c h i j else 0) = p.W c h i j := by
  split_ifs with hc
  · rfl
  · unfold W lam; rw [if_neg hc, mul_zero, mul_zero]

theorem du_sum (t : ℕ) {ch : ℕ} (hch : ch < 1536) :
    (if 1280 ≤ ch ∧ ch - 1280 < 256 then p.dC (t / 128) (t % 128) (ch - 1280) else 0)
      + (if 1024 ≤ ch ∧ ch - 1024 < 256 then p.dB (t / 128) (t % 128) (ch - 1024) else 0)
      + (if 0 ≤ ch ∧ ch - 0 < 1024 then p.D 0 ((ch - 0) / 64) * p.dY t (ch - 0)
        + p.dX (t / 128) (t % 128) (ch - 0) * p.dt t ((ch - 0) / 64) else 0) = p.du t ch := by
  unfold du
  simp only [Nat.sub_zero]
  rcases (show ch < 1024 ∨ (1024 ≤ ch ∧ ch < 1280) ∨ 1280 ≤ ch by omega) with e | e | e
  · rw [if_neg (by omega), if_neg (by omega), if_pos (by omega), if_pos e]; ring
  · rw [if_neg (by omega), if_pos (by omega), if_neg (by omega), if_neg (by omega), if_pos (by omega)]; ring
  · rw [if_pos (by omega), if_neg (by omega), if_neg (by omega), if_neg (by omega), if_neg (by omega)]; ring

theorem taps_sum {r : ℕ} (hr : r < 4) (ch : ℕ) :
    (if 3 ≤ r ∧ r - 3 < 1 then ∑ t ∈ Finset.range 8192, p.xs 3 t ch * p.dxc t ch else 0)
      + (if 2 ≤ r ∧ r - 2 < 1 then ∑ t ∈ Finset.range 8192, p.xs 2 t ch * p.dxc t ch else 0)
      + (if 1 ≤ r ∧ r - 1 < 1 then ∑ t ∈ Finset.range 8192, p.xs 1 t ch * p.dxc t ch else 0)
      + (if 0 ≤ r ∧ r - 0 < 1 then ∑ t ∈ Finset.range 8192, p.xs 0 t ch * p.dxc t ch else 0) = p.rW r ch := by
  unfold rW
  rw [← tap_sum p r ch (3 - r) (by omega)]
  rcases (show r = 0 ∨ r = 1 ∨ r = 2 ∨ r = 3 by omega) with rfl | rfl | rfl | rfl <;> simp

theorem dxc_cut (t ch : ℕ) (w : ℝ) (P : Prop) [Decidable P] (h : ¬P → 8192 ≤ t) : (if P then p.dxc t ch * w else 0) = w * p.dxc t ch := by
  split_ifs with hc
  · exact mul_comm _ _
  · rw [dxc_end p (h hc), mul_zero]
theorem dxp_sum (t ch : ℕ) :
    (if 3 ≤ 3 + t ∧ 3 + t - 3 < 8192 then p.dxc (3 + t - 3) ch * p.Wc 3 ch else 0)
      + (if 2 ≤ 3 + t ∧ 3 + t - 2 < 8192 then p.dxc (3 + t - 2) ch * p.Wc 2 ch else 0)
      + (if 1 ≤ 3 + t ∧ 3 + t - 1 < 8192 then p.dxc (3 + t - 1) ch * p.Wc 1 ch else 0)
      + (if 0 ≤ 3 + t ∧ 3 + t - 0 < 8192 then p.dxc (3 + t - 0) ch * p.Wc 0 ch else 0) = p.dxp t ch := by
  rw [dxc_cut p _ _ _ _ (fun h => by omega), dxc_cut p _ _ _ _ (fun h => by omega), dxc_cut p _ _ _ _ (fun h => by omega),
    dxc_cut p _ _ _ _ (fun h => by omega), show 3 + t - 3 = t by omega, show 3 + t - 2 = t + 1 by omega,
    show 3 + t - 1 = t + 2 by omega, show 3 + t - 0 = t + 3 by omega]
  rfl

theorem rP_sum (t : ℕ) {ch : ℕ} (hch : ch < 2560) :
    (if ch < 1024 then p.dz t ch else 0) + (if 1024 ≤ ch ∧ ch - 1024 < 1536 then p.dxp t (ch - 1024) else 0) = p.rP t ch := by
  unfold rP
  by_cases e : ch < 1024
  · rw [if_pos e, if_pos e, if_neg (by omega), add_zero]
  · rw [if_neg e, if_neg e, if_pos (by omega), zero_add]

theorem da_end (c i : ℕ) {h : ℕ} (hh : ¬h < 16) : p.da c i h = 0 := by
  unfold da
  refine Finset.sum_eq_zero fun k _ => ?_
  unfold dcs
  rw [if_neg hh, mul_zero]
theorem ddtp_end (t : ℕ) {h : ℕ} (hh : ¬h < 16) : p.ddtp t h = 0 := by
  unfold ddtp ddt
  rw [da_end p _ _ hh, if_neg hh]; ring
theorem ddtp_cut (t h : ℕ) : (if h < 16 then p.ddtp t h else 0) = p.ddtp t h := by
  split_ifs with hh
  · rfl
  · exact (ddtp_end p t hh).symm
theorem rBias_cut (h : ℕ) : (if h < 16 then p.rBias h else 0) = p.rBias h := by
  split_ifs with hh
  · rfl
  · exact (Finset.sum_eq_zero fun t _ => ddtp_end p t hh).symm
theorem rA_cut (h : ℕ) : (if h < 16 then p.rA h else 0) = p.rA h := by
  split_ifs with hh
  · rfl
  · exact (Finset.sum_eq_zero fun t _ => by rw [da_end p _ _ hh, zero_mul]).symm

end In
end Cert.Proof.Ssd
-- ==== Proof.SsdRefA.lean ====
/- The reference read on finite arguments: the convolution and the step sizes. -/
module

public import proofs.«01_k».proof.Proof.SsdReadB

@[expose] public section

noncomputable section

namespace Cert.Proof.Ssd.Ref

open Idealize.ShloMosaic Idealize.ShloMosaic.ValueIdx Cert.SsdReferenceIdeal Cert.SsdReferenceIdeal.Gen Cert.SsdReferenceIdeal.Read
open scoped BigOperators

variable {p : In} {x0 : (⟨S8192x4608, .f32⟩ : BufTy).Contents (Elt Ideal)} {x1 : (⟨S8192x16, .f32⟩ : BufTy).Contents (Elt Ideal)}
  {x2 : (⟨S4x1536, .f32⟩ : BufTy).Contents (Elt Ideal)} {x3 : (⟨S1x1536, .f32⟩ : BufTy).Contents (Elt Ideal)}
  {x4 x5 x6 : (⟨S1x16, .f32⟩ : BufTy).Contents (Elt Ideal)} {x7 : (⟨S1x1024, .f32⟩ : BufTy).Contents (Elt Ideal)}
  {x8 : (⟨S8192x1024, .f32⟩ : BufTy).Contents (Elt Ideal)} (h : Rd p x0 x1 x2 x3 x4 x5 x6 x7 x8)
include h

theorem rv0 : val_main_v0 (F := Ideal) x6 = t1 fun a => p.D 0 a := read2 (f := fun a b => p.D a b) (g0 := fun i => 0) (g1 := fun i => (i 0).val) (val_main_v0_apply _) h.i6 (fun i => by have h := lt1 i; show 0 = 0; omega) (fun i => by have h := lt1 i; show ((i 0).val) % 16 = (i 0).val; omega)
theorem rv1 : val_main_v1 (F := Ideal) x6 = t2 fun a b => p.D 0 a := read_nf (val_main_v1_apply (F := Ideal) x6) (rv0 h)
theorem rv2 : val_main_v2 (F := Ideal) x6 = t1 fun a => p.D 0 (a / 64) := read2 (f := fun a b => p.D 0 a) (g0 := fun i => ((i 0).val) / 64) (g1 := fun i => ((i 0).val) % 64) (val_main_v2_apply _) (rv1 h) (fun i => by have h := lt1 i; show ((i 0).val) / 64 = ((i 0).val) / 64; omega) (fun i => by have h := lt1 i; show ((i 0).val) % 64 = ((i 0).val) % 64; omega)
theorem rv3 : val_main_v3 (F := Ideal) x6 = t2 fun a b => p.D 0 (b / 64) := read1 (f := fun a => p.D 0 (a / 64)) (g0 := fun i => (i 1).val) (val_main_v3_apply _) (rv2 h) (fun i => by have h := lt2 i; show (i 0).val * 1024 + (i 1).val = (i 1).val; omega)
theorem rv4 : val_main_v4 (F := Ideal) x0 = t2 fun a b => p.P a b := by
  funext i
  refine (val_main_v4_apply (F := Ideal) x0 i).trans ((h.i0 _ (Nat.le_add_right _ _)).trans ?_)
  show ((p.P (i 0).val (2048 + (i 1).val - 2048) : ℝ) : EReal) = _
  rw [Nat.add_sub_cancel_left]; rfl
theorem rv5 : val_main_v5 (F := Ideal) x5 = t2 fun a b => Real.exp (p.Al a b) := exp_nf h.i5
theorem rv6 : val_main_v6 (F := Ideal) x5 = t2 fun a b => -(Real.exp (p.Al a b)) := neg_nf (rv5 h)
theorem rv7 : val_main_v7 (F := Ideal) x0 = t2 fun a b => p.xp a b :=
  Eq.trans (b := t2 fun a b => p.P a (1024 + b))
    (read_nf (val_main_v7_apply (F := Ideal) x0) (rv4 h))
    (t2_congr fun a ha b hb => rfl)
theorem rv8 : val_main_v8 (F := Ideal) = t2 fun a b => 0 := read_nf (f := fun _ => 0) (val_main_v8_apply (F := Ideal)) (funext fun _ => ofBits_0)
theorem rv9 : val_main_v9 (F := Ideal) x0 = t2 fun a b => if a < 3 then 0 else p.xp (a - 3) b := cat_nf 0 (fun v => 0) (fun v => p.xp (v 0) (v 1)) (rv8 h) (rv7 h) (by decide) (by decide) rfl
theorem rv11 : val_main_v11 (F := Ideal) x0 = t2 fun a b => p.xs 0 a b :=
  Eq.trans (b := t2 fun a b => if a < 3 then 0 else p.xp (a - 3) b)
    (read_nf (val_main_v11_apply (F := Ideal) x0) (rv9 h))
    (t2_congr fun a ha b hb => rfl)
theorem rv12 : val_main_v12 (F := Ideal) x2 = t2 fun a b => p.Wc a b := read_nf (val_main_v12_apply (F := Ideal) x2) h.i2
theorem rv13 : val_main_v13 (F := Ideal) x2 = t1 fun a => p.Wc 0 a := read2 (f := fun a b => p.Wc a b) (g0 := fun i => 0) (g1 := fun i => (i 0).val) (val_main_v13_apply _) (rv12 h) (fun i => by have h := lt1 i; show 0 = 0; omega) (fun i => by have h := lt1 i; show ((i 0).val) % 1536 = (i 0).val; omega)
theorem rv14 : val_main_v14 (F := Ideal) x2 = t2 fun a b => p.Wc 0 b := read_nf (val_main_v14_apply (F := Ideal) x2) (rv13 h)
theorem rv15 : val_main_v15 (F := Ideal) x2 = t2 fun a b => p.Wc 0 b := read_nf (val_main_v15_apply (F := Ideal) x2) (rv14 h)
theorem rv16 : val_main_v16 (F := Ideal) x0 x2 = t2 fun a b => (p.xs 0 a b) * (p.Wc 0 b) := mul_nf (rv11 h) (rv15 h)
theorem rv17 : val_main_v17 (F := Ideal) x3 = t2 fun a b => p.Bc 0 b := read_nf (val_main_v17_apply (F := Ideal) x3) h.i3
theorem rv18 : val_main_v18 (F := Ideal) x0 x2 x3 = t2 fun a b => (p.Bc 0 b) + ((p.xs 0 a b) * (p.Wc 0 b)) := add_nf (rv17 h) (rv16 h)
theorem rv19 : val_main_v19 (F := Ideal) x0 = t2 fun a b => p.xs 1 a b :=
  Eq.trans (b := t2 fun a b => if (1 + a) < 3 then 0 else p.xp ((1 + a) - 3) b)
    (read_nf (val_main_v19_apply (F := Ideal) x0) (rv9 h))
    (t2_congr fun a ha b hb => by unfold In.xs; rw [Nat.add_comm a])
theorem rv20 : val_main_v20 (F := Ideal) x2 = t2 fun a b => p.Wc (1 + a) b := read_nf (val_main_v20_apply (F := Ideal) x2) h.i2
theorem rv21 : val_main_v21 (F := Ideal) x2 = t1 fun a => p.Wc 1 a := read2 (f := fun a b => p.Wc (1 + a) b) (g0 := fun i => 0) (g1 := fun i => (i 0).val) (val_main_v21_apply _) (rv20 h) (fun i => by have h := lt1 i; show 0 = 0; omega) (fun i => by have h := lt1 i; show ((i 0).val) % 1536 = (i 0).val; omega)
theorem rv22 : val_main_v22 (F := Ideal) x2 = t2 fun a b => p.Wc 1 b := read_nf (val_main_v22_apply (F := Ideal) x2) (rv21 h)
theorem rv23 : val_main_v23 (F := Ideal) x2 = t2 fun a b => p.Wc 1 b := read_nf (val_main_v23_apply (F := Ideal) x2) (rv22 h)
theorem rv24 : val_main_v24 (F := Ideal) x0 x2 = t2 fun a b => (p.xs 1 a b) * (p.Wc 1 b) := mul_nf (rv19 h) (rv23 h)
theorem rv25 : val_main_v25 (F := Ideal) x0 x2 x3 = t2 fun a b => ((p.Bc 0 b) + ((p.xs 0 a b) * (p.Wc 0 b))) + ((p.xs 1 a b) * (p.Wc 1 b)) := add_nf (rv18 h) (rv24 h)
theorem rv26 : val_main_v26 (F := Ideal) x0 = t2 fun a b => p.xs 2 a b :=
  Eq.trans (b := t2 fun a b => if (2 + a) < 3 then 0 else p.xp ((2 + a) - 3) b)
    (read_nf (val_main_v26_apply (F := Ideal) x0) (rv9 h))
    (t2_congr fun a ha b hb => by unfold In.xs; rw [Nat.add_comm a])
theorem rv27 : val_main_v27 (F := Ideal) x2 = t2 fun a b => p.Wc (2 + a) b := read_nf (val_main_v27_apply (F := Ideal) x2) h.i2
theorem rv28 : val_main_v28 (F := Ideal) x2 = t1 fun a => p.Wc 2 a := read2 (f := fun a b => p.Wc (2 + a) b) (g0 := fun i => 0) (g1 := fun i => (i 0).val) (val_main_v28_apply _) (rv27 h) (fun i => by have h := lt1 i; show 0 = 0; omega) (fun i => by have h := lt1 i; show ((i 0).val) % 1536 = (i 0).val; omega)
theorem rv29 : val_main_v29 (F := Ideal) x2 = t2 fun a b => p.Wc 2 b := read_nf (val_main_v29_apply (F := Ideal) x2) (rv28 h)
theorem rv30 : val_main_v30 (F := Ideal) x2 = t2 fun a b => p.Wc 2 b := read_nf (val_main_v30_apply (F := Ideal) x2) (rv29 h)
theorem rv31 : val_main_v31 (F := Ideal) x0 x2 = t2 fun a b => (p.xs 2 a b) * (p.Wc 2 b) := mul_nf (rv26 h) (rv30 h)
theorem rv32 : val_main_v32 (F := Ideal) x0 x2 x3 = t2 fun a b => (((p.Bc 0 b) + ((p.xs 0 a b) * (p.Wc 0 b))) + ((p.xs 1 a b) * (p.Wc 1 b))) + ((p.xs 2 a b) * (p.Wc 2 b)) := add_nf (rv25 h) (rv31 h)
theorem rv33 : val_main_v33 (F := Ideal) x0 = t2 fun a b => p.xs 3 a b :=
  Eq.trans (b := t2 fun a b => if (3 + a) < 3 then 0 else p.xp ((3 + a) - 3) b)
    (read_nf (val_main_v33_apply (F := Ideal) x0) (rv9 h))
    (t2_congr fun a ha b hb => by unfold In.xs; rw [Nat.add_comm a])
theorem rv34 : val_main_v34 (F := Ideal) x2 = t2 fun a b => p.Wc (3 + a) b := read_nf (val_main_v34_apply (F := Ideal) x2) h.i2
theorem rv35 : val_main_v35 (F := Ideal) x2 = t1 fun a => p.Wc 3 a := read2 (f := fun a b => p.Wc (3 + a) b) (g0 := fun i => 0) (g1 := fun i => (i 0).val) (val_main_v35_apply _) (rv34 h) (fun i => by have h := lt1 i; show 0 = 0; omega) (fun i => by have h := lt1 i; show ((i 0).val) % 1536 = (i 0).val; omega)
theorem rv36 : val_main_v36 (F := Ideal) x2 = t2 fun a b => p.Wc 3 b := read_nf (val_main_v36_apply (F := Ideal) x2) (rv35 h)
theorem rv37 : val_main_v37 (F := Ideal) x2 = t2 fun a b => p.Wc 3 b := read_nf (val_main_v37_apply (F := Ideal) x2) (rv36 h)
theorem rv38 : val_main_v38 (F := Ideal) x0 x2 = t2 fun a b => (p.xs 3 a b) * (p.Wc 3 b) := mul_nf (rv33 h) (rv37 h)
theorem rv39 : val_main_v39 (F := Ideal) x0 x2 x3 = t2 fun a b => p.XC a b :=
  Eq.trans (b := t2 fun a b => ((((p.Bc 0 b) + ((p.xs 0 a b) * (p.Wc 0 b))) + ((p.xs 1 a b) * (p.Wc 1 b))) + ((p.xs 2 a b) * (p.Wc 2 b))) + ((p.xs 3 a b) * (p.Wc 3 b)))
    (add_nf (rv32 h) (rv38 h))
    (t2_congr fun a ha b hb => (h.fwd.xc a b).symm)
theorem rcall0_v0 : val_main_call0_v0 (F := Ideal) x0 x2 x3 = t2 fun a b => -(p.XC a b) := neg_nf (rv39 h)
theorem rcall0_v1 : val_main_call0_v1 (F := Ideal) x0 x2 x3 = t2 fun a b => Real.exp (-(p.XC a b)) := exp_nf (rcall0_v0 h)
theorem rcall0_v2 : val_main_call0_v2 (F := Ideal) = t2 fun a b => 1 := read_nf (f := fun _ => 1) (val_main_call0_v2_apply (F := Ideal)) (funext fun _ => ofBits_one)
theorem rcall0_v3 : val_main_call0_v3 (F := Ideal) x0 x2 x3 = t2 fun a b => 1 + (Real.exp (-(p.XC a b))) := add_nf (rcall0_v2 h) (rcall0_v1 h)
theorem rcall0_v4 : val_main_call0_v4 (F := Ideal) = t2 fun a b => 1 := read_nf (f := fun _ => 1) (val_main_call0_v4_apply (F := Ideal)) (funext fun _ => ofBits_one)
theorem rv40_2 : val_main_v40_2 (F := Ideal) x0 x2 x3 = t2 fun a b => sg (p.XC a b) :=
  Eq.trans (b := t2 fun a b => 1 / (1 + (Real.exp (-(p.XC a b)))))
    (div_nf (rcall0_v4 h) (rcall0_v3 h) fun _ => (add_pos one_pos (Real.exp_pos _)).ne')
    (t2_congr fun a ha b hb => rfl)
theorem rcall0_v6 : val_main_call0_v6 (F := Ideal) = t2 fun a b => 1 := read_nf (f := fun _ => 1) (val_main_call0_v6_apply (F := Ideal)) (funext fun _ => ofBits_one)
theorem rcall0_v7 : val_main_call0_v7 (F := Ideal) x0 x2 x3 = t2 fun a b => 1 - (sg (p.XC a b)) := sub_nf (rcall0_v6 h) (rv40_2 h)
theorem rv40_1 : val_main_v40_1 (F := Ideal) x0 x2 x3 = t2 fun a b => (sg (p.XC a b)) * (1 - (sg (p.XC a b))) := mul_nf (rv40_2 h) (rcall0_v7 h)
theorem rv40_0 : val_main_v40_0 (F := Ideal) x0 x2 x3 = t2 fun a b => p.u a b :=
  Eq.trans (b := t2 fun a b => (p.XC a b) * (sg (p.XC a b)))
    (mul_nf (rv39 h) (rv40_2 h))
    (t2_congr fun a ha b hb => rfl)
theorem rv41 : val_main_v41 (F := Ideal) x0 x2 x3 = t2 fun a b => p.u a b := read_nf (val_main_v41_apply (F := Ideal) x0 x2 x3) (rv40_0 h)
theorem rv42 : val_main_v42 (F := Ideal) x0 x2 x3 = t4 fun a b c d => p.u a (512 * b + 64 * c + d) := read2 (f := fun a b => p.u a b) (g0 := fun i => (i 0).val) (g1 := fun i => 512 * ((i 1).val) + 64 * ((i 2).val) + ((i 3).val)) (val_main_v42_apply _ _ _) (rv41 h) (fun i => by have h := lt4 i; show ((((i 0).val * 2 + (i 1).val) * 8 + (i 2).val) * 64 + (i 3).val) / 1024 = (i 0).val; omega) (fun i => by have h := lt4 i; show ((((i 0).val * 2 + (i 1).val) * 8 + (i 2).val) * 64 + (i 3).val) % 1024 = 512 * ((i 1).val) + 64 * ((i 2).val) + ((i 3).val); omega)
theorem rv43 : val_main_v43 (F := Ideal) x0 x2 x3 = t2 fun a b => p.u a (1024 + b) := read_nf (val_main_v43_apply (F := Ideal) x0 x2 x3) (rv40_0 h)
theorem rv44 : val_main_v44 (F := Ideal) x0 x2 x3 = t3 fun a b c => p.B a (128 * b + c) :=
  Eq.trans (b := t3 fun a b c => p.u a (1024 + (128 * b + c)))
    (read2 (f := fun a b => p.u a (1024 + b)) (g0 := fun i => (i 0).val) (g1 := fun i => 128 * ((i 1).val) + ((i 2).val)) (val_main_v44_apply _ _ _) (rv43 h) (fun i => by have h := lt3 i; show (((i 0).val * 2 + (i 1).val) * 128 + (i 2).val) / 256 = (i 0).val; omega) (fun i => by have h := lt3 i; show (((i 0).val * 2 + (i 1).val) * 128 + (i 2).val) % 256 = 128 * ((i 1).val) + ((i 2).val); omega))
    (t3_congr fun a ha b hb c hc => rfl)
theorem rv45 : val_main_v45 (F := Ideal) x0 x2 x3 = t2 fun a b => p.u a (1280 + b) := read_nf (val_main_v45_apply (F := Ideal) x0 x2 x3) (rv40_0 h)
theorem rv46 : val_main_v46 (F := Ideal) x0 x2 x3 = t3 fun a b c => p.C a (128 * b + c) :=
  Eq.trans (b := t3 fun a b c => p.u a (1280 + (128 * b + c)))
    (read2 (f := fun a b => p.u a (1280 + b)) (g0 := fun i => (i 0).val) (g1 := fun i => 128 * ((i 1).val) + ((i 2).val)) (val_main_v46_apply _ _ _) (rv45 h) (fun i => by have h := lt3 i; show (((i 0).val * 2 + (i 1).val) * 128 + (i 2).val) / 256 = (i 0).val; omega) (fun i => by have h := lt3 i; show (((i 0).val * 2 + (i 1).val) * 128 + (i 2).val) % 256 = 128 * ((i 1).val) + ((i 2).val); omega))
    (t3_congr fun a ha b hb c hc => rfl)
theorem rv47 : val_main_v47 (F := Ideal) x4 = t2 fun a b => p.Bias 0 b := read_nf (val_main_v47_apply (F := Ideal) x4) h.i4
theorem rv48 : val_main_v48 (F := Ideal) x1 x4 = t2 fun a b => p.pre a b :=
  Eq.trans (b := t2 fun a b => (p.Dt a b) + (p.Bias 0 b))
    (add_nf h.i1 (rv47 h))
    (t2_congr fun a ha b hb => rfl)
theorem rcall1_v2 : val_main_call1_v2 (F := Ideal) = t2 fun a b => 0 := read_nf (f := fun _ => 0) (val_main_call1_v2_apply (F := Ideal)) (funext fun _ => ofBits_0)
theorem rv49_0 : val_main_v49_0 (F := Ideal) x1 x4 = t2 fun a b => p.dt a b := softplus_nf (rv48 h) (rcall1_v2 h)
theorem rv49_1 : val_main_v49_1 (F := Ideal) x1 x4 = t2 fun a b => sg (p.pre a b) := Eq.trans
  (b := t2 fun a b => Real.exp (p.pre a b - p.dt a b))
  (exp_nf (sub_nf (sel_top (rv48 h) fun _ => top_bits) (sel_top (rv49_0 h) fun _ => top_bits)))
  (t2_congr fun _ _ _ _ => exp_sub_sp _)
theorem rv50 : val_main_v50 (F := Ideal) x1 x4 = t3 fun a b c => p.dt a (8 * b + c) := read2 (f := fun a b => p.dt a b) (g0 := fun i => (i 0).val) (g1 := fun i => 8 * ((i 1).val) + ((i 2).val)) (val_main_v50_apply _ _) (rv49_0 h) (fun i => by have h := lt3 i; show (((i 0).val * 2 + (i 1).val) * 8 + (i 2).val) / 16 = (i 0).val; omega) (fun i => by have h := lt3 i; show (((i 0).val * 2 + (i 1).val) * 8 + (i 2).val) % 16 = 8 * ((i 1).val) + ((i 2).val); omega)
theorem rv51 : val_main_v51 (F := Ideal) x1 x4 = t4 fun a b c d => p.dt a (8 * b + c) := read_nf (val_main_v51_apply (F := Ideal) x1 x4) (rv50 h)
theorem rv52 : val_main_v52 (F := Ideal) x1 x4 = t4 fun a b c d => p.dt a (8 * b + c) := read_nf (val_main_v52_apply (F := Ideal) x1 x4) (rv51 h)
theorem rv53 : val_main_v53 (F := Ideal) x0 x1 x2 x3 x4 = t4 fun a b c d => p.X a (512 * b + 64 * c + d) :=
  Eq.trans (b := t4 fun a b c d => (p.u a (512 * b + 64 * c + d)) * (p.dt a (8 * b + c)))
    (mul_nf (rv42 h) (rv52 h))
    (t4_congr fun a ha b hb c hc d hd => by unfold In.X; rw [ch64 hd, mul_comm])
theorem rv54 : val_main_v54 (F := Ideal) x5 = t2 fun a b => p.A (8 * a + b) :=
  Eq.trans (b := t2 fun a b => -(Real.exp (p.Al 0 (8 * a + b))))
    (read2 (f := fun a b => -(Real.exp (p.Al a b))) (g0 := fun i => 0) (g1 := fun i => 8 * ((i 0).val) + ((i 1).val)) (val_main_v54_apply _) (rv6 h) (fun i => by have h := lt2 i; show 0 = 0; omega) (fun i => by have h := lt2 i; show ((i 0).val * 8 + (i 1).val) % 16 = 8 * ((i 0).val) + ((i 1).val); omega))
    (t2_congr fun a ha b hb => rfl)
theorem rv55 : val_main_v55 (F := Ideal) x5 = t3 fun a b c => p.A (8 * b + c) := read_nf (val_main_v55_apply (F := Ideal) x5) (rv54 h)
theorem rv56 : val_main_v56 (F := Ideal) x5 = t3 fun a b c => p.A (8 * b + c) := read_nf (val_main_v56_apply (F := Ideal) x5) (rv55 h)
theorem rv57 : val_main_v57 (F := Ideal) x1 x4 x5 = t3 fun a b c => p.a a (8 * b + c) :=
  Eq.trans (b := t3 fun a b c => (p.dt a (8 * b + c)) * (p.A (8 * b + c)))
    (mul_nf (rv50 h) (rv56 h))
    (t3_congr fun a ha b hb c hc => rfl)
theorem rv58 : val_main_v58 (F := Ideal) x0 x1 x2 x3 x4 = t5 fun a b c d e => p.X (128 * a + b) (512 * c + 64 * d + e) := read4 (f := fun a b c d => p.X a (512 * b + 64 * c + d)) (g0 := fun i => 128 * ((i 0).val) + ((i 1).val)) (g1 := fun i => (i 2).val) (g2 := fun i => (i 3).val) (g3 := fun i => (i 4).val) (val_main_v58_apply _ _ _ _ _) (rv53 h) (fun i => by have h := lt5 i; show (((((i 0).val * 128 + (i 1).val) * 2 + (i 2).val) * 8 + (i 3).val) * 64 + (i 4).val) / 1024 = 128 * ((i 0).val) + ((i 1).val); omega) (fun i => by have h := lt5 i; show (((((i 0).val * 128 + (i 1).val) * 2 + (i 2).val) * 8 + (i 3).val) * 64 + (i 4).val) / 512 % 2 = (i 2).val; omega) (fun i => by have h := lt5 i; show (((((i 0).val * 128 + (i 1).val) * 2 + (i 2).val) * 8 + (i 3).val) * 64 + (i 4).val) / 64 % 8 = (i 3).val; omega) (fun i => by have h := lt5 i; show (((((i 0).val * 128 + (i 1).val) * 2 + (i 2).val) * 8 + (i 3).val) * 64 + (i 4).val) % 64 = (i 4).val; omega)
theorem rv59 : val_main_v59 (F := Ideal) x0 x2 x3 = t4 fun a b c d => p.B (128 * a + b) (128 * c + d) := read3 (f := fun a b c => p.B a (128 * b + c)) (g0 := fun i => 128 * ((i 0).val) + ((i 1).val)) (g1 := fun i => (i 2).val) (g2 := fun i => (i 3).val) (val_main_v59_apply _ _ _) (rv44 h) (fun i => by have h := lt4 i; show ((((i 0).val * 128 + (i 1).val) * 2 + (i 2).val) * 128 + (i 3).val) / 256 = 128 * ((i 0).val) + ((i 1).val); omega) (fun i => by have h := lt4 i; show ((((i 0).val * 128 + (i 1).val) * 2 + (i 2).val) * 128 + (i 3).val) / 128 % 2 = (i 2).val; omega) (fun i => by have h := lt4 i; show ((((i 0).val * 128 + (i 1).val) * 2 + (i 2).val) * 128 + (i 3).val) % 128 = (i 3).val; omega)
theorem rv60 : val_main_v60 (F := Ideal) x0 x2 x3 = t4 fun a b c d => p.C (128 * a + b) (128 * c + d) := read3 (f := fun a b c => p.C a (128 * b + c)) (g0 := fun i => 128 * ((i 0).val) + ((i 1).val)) (g1 := fun i => (i 2).val) (g2 := fun i => (i 3).val) (val_main_v60_apply _ _ _) (rv46 h) (fun i => by have h := lt4 i; show ((((i 0).val * 128 + (i 1).val) * 2 + (i 2).val) * 128 + (i 3).val) / 256 = 128 * ((i 0).val) + ((i 1).val); omega) (fun i => by have h := lt4 i; show ((((i 0).val * 128 + (i 1).val) * 2 + (i 2).val) * 128 + (i 3).val) / 128 % 2 = (i 2).val; omega) (fun i => by have h := lt4 i; show ((((i 0).val * 128 + (i 1).val) * 2 + (i 2).val) * 128 + (i 3).val) % 128 = (i 3).val; omega)
theorem rv61 : val_main_v61 (F := Ideal) x1 x4 x5 = t4 fun a b c d => p.a (128 * a + b) (8 * c + d) := read3 (f := fun a b c => p.a a (8 * b + c)) (g0 := fun i => 128 * ((i 0).val) + ((i 1).val)) (g1 := fun i => (i 2).val) (g2 := fun i => (i 3).val) (val_main_v61_apply _ _ _) (rv57 h) (fun i => by have h := lt4 i; show ((((i 0).val * 128 + (i 1).val) * 2 + (i 2).val) * 8 + (i 3).val) / 16 = 128 * ((i 0).val) + ((i 1).val); omega) (fun i => by have h := lt4 i; show ((((i 0).val * 128 + (i 1).val) * 2 + (i 2).val) * 8 + (i 3).val) / 8 % 2 = (i 2).val; omega) (fun i => by have h := lt4 i; show ((((i 0).val * 128 + (i 1).val) * 2 + (i 2).val) * 8 + (i 3).val) % 8 = (i 3).val; omega)
theorem rv62 : val_main_v62 (F := Ideal) x1 x4 x5 = t4 fun a b c d => p.a (128 * c + d) (8 * a + b) := read_nf (val_main_v62_apply (F := Ideal) x1 x4 x5) (rv61 h)

end Cert.Proof.Ssd.Ref
-- ==== Proof.SsdRefB.lean ====
/- The reference read on finite arguments: the states and the outputs. -/
module

public import proofs.«01_k».proof.Proof.SsdRefA

@[expose] public section

noncomputable section

namespace Cert.Proof.Ssd.Ref

open Idealize.ShloMosaic Idealize.ShloMosaic.ValueIdx Cert.SsdReferenceIdeal Cert.SsdReferenceIdeal.Gen Cert.SsdReferenceIdeal.Read
open scoped BigOperators

variable {p : In} {x0 : (⟨S8192x4608, .f32⟩ : BufTy).Contents (Elt Ideal)} {x1 : (⟨S8192x16, .f32⟩ : BufTy).Contents (Elt Ideal)}
  {x2 : (⟨S4x1536, .f32⟩ : BufTy).Contents (Elt Ideal)} {x3 : (⟨S1x1536, .f32⟩ : BufTy).Contents (Elt Ideal)}
  {x4 x5 x6 : (⟨S1x16, .f32⟩ : BufTy).Contents (Elt Ideal)} {x7 : (⟨S1x1024, .f32⟩ : BufTy).Contents (Elt Ideal)}
  {x8 : (⟨S8192x1024, .f32⟩ : BufTy).Contents (Elt Ideal)} (h : Rd p x0 x1 x2 x3 x4 x5 x6 x7 x8)
include h

theorem rv63 : val_main_v63 (F := Ideal) x1 x4 x5 = t4 fun a b c d => p.cs c d (8 * a + b) :=
  Eq.trans (b := t4 fun a b c d => ∑ k1 ∈ Finset.range 128, if 127 ≤ d + k1 ∧ d + k1 - 127 < 128 then p.a (128 * c + (d + k1 - 127)) (8 * a + b) else 0)
    (window_nf 3 (fun v => p.a (128 * (v 2) + (v 3)) (8 * (v 0) + (v 1))) (rv62 h) zero_bits (by decide) (by decide) (by decide))
    (t4_congr fun a ha b hb c hc d hd => (sum_forward (fun k => p.a (128 * c + k) (8 * a + b)) 128 d hd).trans (rfl))
theorem rv64 : val_main_v64 (F := Ideal) x1 x4 x5 = t4 fun a b c d => p.cs c d (8 * a + b) :=
  Eq.trans (b := t4 fun a b c d => ∑ k2 ∈ Finset.range 128, if 127 ≤ d + k2 ∧ d + k2 - 127 < 128 then p.a (128 * c + (d + k2 - 127)) (8 * a + b) else 0)
    (window_nf 3 (fun v => p.a (128 * (v 2) + (v 3)) (8 * (v 0) + (v 1))) (rv62 h) zero_bits (by decide) (by decide) (by decide))
    (t4_congr fun a ha b hb c hc d hd => (sum_forward (fun k => p.a (128 * c + k) (8 * a + b)) 128 d hd).trans (rfl))
theorem rv65 : val_main_v65 (F := Ideal) x1 x4 x5 = t5 fun a b c d e => p.cs c d (8 * a + b) := read_nf (val_main_v65_apply (F := Ideal) x1 x4 x5) (rv64 h)
theorem rv66 : val_main_v66 (F := Ideal) x1 x4 x5 = t5 fun a b c d e => p.cs c e (8 * a + b) := read_nf (val_main_v66_apply (F := Ideal) x1 x4 x5) (rv64 h)
theorem rv67 : val_main_v67 (F := Ideal) x1 x4 x5 = t5 fun a b c d e => p.cs c d (8 * a + b) := read_nf (val_main_v67_apply (F := Ideal) x1 x4 x5) (rv65 h)
theorem rv68 : val_main_v68 (F := Ideal) x1 x4 x5 = t5 fun a b c d e => p.cs c e (8 * a + b) := read_nf (val_main_v68_apply (F := Ideal) x1 x4 x5) (rv66 h)
theorem rv69 : val_main_v69 (F := Ideal) x1 x4 x5 = t5 fun a b c d e => (p.cs c d (8 * a + b)) - (p.cs c e (8 * a + b)) := sub_nf (rv67 h) (rv68 h)
theorem rv73 : val_main_v73 (F := Ideal) x1 x4 x5 = t5 fun a b c d e => p.lam c (8 * a + b) d e := exp_mask (P := fun i => (i 4).val ≤ (i 3).val)
  (fun i => tril_at (lt_trans (i 3).isLt (by decide : 128 < 2147483648)) (lt_trans (i 4).isLt (by decide : 128 < 2147483648))) (rv69 h) fun _ => bot_bits
theorem rv74 : val_main_v74 (F := Ideal) x0 x2 x3 = t4 fun a b c d => p.sc b a c d :=
  Eq.trans (b := t4 fun a b c d => ∑ k3 ∈ Finset.range 128, (p.C (128 * b + c) (128 * a + k3)) * (p.B (128 * b + d) (128 * a + k3)))
    (dot_nf _ (val_main_v74_apply x0 x2 x3) (rv60 h) (rv59 h) fun _ _ => rfl)
    (t4_congr fun a ha b hb c hc d hd => rfl)
theorem rv75 : val_main_v75 (F := Ideal) x0 x2 x3 = t5 fun a b c d e => p.sc c a d e := read_nf (val_main_v75_apply (F := Ideal) x0 x2 x3) (rv74 h)
theorem rv76 : val_main_v76 (F := Ideal) x0 x2 x3 = t5 fun a b c d e => p.sc c a d e := read_nf (val_main_v76_apply (F := Ideal) x0 x2 x3) (rv75 h)
theorem rv77 : val_main_v77 (F := Ideal) x0 x1 x2 x3 x4 x5 = t5 fun a b c d e => (p.sc c a d e) * (p.lam c (8 * a + b) d e) := mul_nf (rv76 h) (rv73 h)
theorem rv78 : val_main_v78 (F := Ideal) x0 x1 x2 x3 x4 x5 = t5 fun a b c d e => p.yd a e (512 * b + 64 * c + d) :=
  Eq.trans (b := t5 fun a b c d e => ∑ k4 ∈ Finset.range 128, (p.X (128 * a + k4) (512 * b + 64 * c + d)) * ((p.sc a b e k4) * (p.lam a (8 * b + c) e k4)))
    (dot_nf _ (val_main_v78_apply x0 x1 x2 x3 x4 x5) (rv58 h) (rv77 h) fun _ _ => rfl)
    (t5_congr fun a ha b hb c hc d hd e he => by unfold In.yd; rw [ch64 hd, ch512 hc hd])
theorem rv79 : val_main_v79 (F := Ideal) x0 x1 x2 x3 x4 x5 = t5 fun a b c d e => p.yd a b (512 * c + 64 * d + e) := read_nf (val_main_v79_apply (F := Ideal) x0 x1 x2 x3 x4 x5) (rv78 h)
theorem rv80 : val_main_v80 (F := Ideal) x1 x4 x5 = t4 fun a b c d => p.cs c (127 + d) (8 * a + b) := read_nf (val_main_v80_apply (F := Ideal) x1 x4 x5) (rv63 h)
theorem rv81 : val_main_v81 (F := Ideal) x1 x4 x5 = t4 fun a b c d => p.cs c 127 (8 * a + b) := read_nf (val_main_v81_apply (F := Ideal) x1 x4 x5) (rv80 h)
theorem rv82 : val_main_v82 (F := Ideal) x1 x4 x5 = t4 fun a b c d => (p.cs c 127 (8 * a + b)) - (p.cs c d (8 * a + b)) := sub_nf (rv81 h) (rv63 h)
theorem rv83 : val_main_v83 (F := Ideal) x1 x4 x5 = t4 fun a b c d => p.dec c d (8 * a + b) :=
  Eq.trans (b := t4 fun a b c d => Real.exp ((p.cs c 127 (8 * a + b)) - (p.cs c d (8 * a + b))))
    (exp_nf (rv82 h))
    (t4_congr fun a ha b hb c hc d hd => rfl)
theorem rv84 : val_main_v84 (F := Ideal) x1 x4 x5 = t4 fun a b c d => p.dec a b (8 * c + d) := read_nf (val_main_v84_apply (F := Ideal) x1 x4 x5) (rv83 h)
theorem rv85 : val_main_v85 (F := Ideal) x1 x4 x5 = t5 fun a b c d e => p.dec a b (8 * c + d) := read_nf (val_main_v85_apply (F := Ideal) x1 x4 x5) (rv84 h)
theorem rv86 : val_main_v86 (F := Ideal) x1 x4 x5 = t5 fun a b c d e => p.dec a b (8 * c + d) := read_nf (val_main_v86_apply (F := Ideal) x1 x4 x5) (rv85 h)
theorem rv87 : val_main_v87 (F := Ideal) x0 x1 x2 x3 x4 x5 = t5 fun a b c d e => p.Xd a b (512 * c + 64 * d + e) :=
  Eq.trans (b := t5 fun a b c d e => (p.dec a b (8 * c + d)) * (p.X (128 * a + b) (512 * c + 64 * d + e)))
    (mul_nf (rv86 h) (rv58 h))
    (t5_congr fun a ha b hb c hc d hd e he => by unfold In.Xd; rw [ch64 he, mul_comm])
theorem rv88 : val_main_v88 (F := Ideal) x0 x1 x2 x3 x4 x5 = t5 fun a b c d e => p.st a e (512 * b + 64 * c + d) :=
  Eq.trans (b := t5 fun a b c d e => ∑ k5 ∈ Finset.range 128, (p.Xd a k5 (512 * b + 64 * c + d)) * (p.B (128 * a + k5) (128 * b + e)))
    (dot_nf _ (val_main_v88_apply x0 x1 x2 x3 x4 x5) (rv87 h) (rv59 h) fun _ _ => rfl)
    (t5_congr fun a ha b hb c hc d hd e he => by unfold In.st; rw [ch512 hc hd])
theorem rv89 : val_main_v89 (F := Ideal) = t3 fun a b c => 0 := read_nf (f := fun _ => 0) (val_main_v89_apply (F := Ideal)) (funext fun _ => ofBits_0)
theorem rv90 : val_main_v90 (F := Ideal) x1 x4 x5 = t4 fun a b c d => p.cs c (127 + d) (8 * a + b) := read_nf (val_main_v90_apply (F := Ideal) x1 x4 x5) (rv63 h)
theorem rv91 : val_main_v91 (F := Ideal) x1 x4 x5 = t3 fun a b c => p.cs c 127 (8 * a + b) := read4 (f := fun a b c d => p.cs c (127 + d) (8 * a + b)) (g0 := fun i => (i 0).val) (g1 := fun i => (i 1).val) (g2 := fun i => (i 2).val) (g3 := fun i => 0) (val_main_v91_apply _ _ _) (rv90 h) (fun i => by have h := lt3 i; show (((i 0).val * 8 + (i 1).val) * 64 + (i 2).val) / 512 = (i 0).val; omega) (fun i => by have h := lt3 i; show (((i 0).val * 8 + (i 1).val) * 64 + (i 2).val) / 64 % 8 = (i 1).val; omega) (fun i => by have h := lt3 i; show (((i 0).val * 8 + (i 1).val) * 64 + (i 2).val) / 1 % 64 = (i 2).val; omega) (fun i => by have h := lt3 i; show 0 = 0; omega)
theorem rv92 : val_main_v92 (F := Ideal) x1 x4 x5 = t3 fun a b c => if c < 1 then 0 else p.cs (c - 1) 127 (8 * a + b) := cat_nf 2 (fun v => 0) (fun v => p.cs (v 2) 127 (8 * (v 0) + (v 1))) (rv89 h) (rv91 h) (by decide) (by decide) rfl
theorem rv94 : val_main_v94 (F := Ideal) x1 x4 x5 = t3 fun a b c => p.tot c (8 * a + b) :=
  Eq.trans (b := t3 fun a b c => ∑ k6 ∈ Finset.range 65, if 64 ≤ c + k6 ∧ c + k6 - 64 < 65 then if (c + k6 - 64) < 1 then 0 else p.cs ((c + k6 - 64) - 1) 127 (8 * a + b) else 0)
    (window_nf 2 (fun v => if (v 2) < 1 then 0 else p.cs ((v 2) - 1) 127 (8 * (v 0) + (v 1))) (rv92 h) zero_bits (by decide) (by decide) (by decide))
    (t3_congr fun a ha b hb c hc => (sum_forward (fun k => if k < 1 then 0 else p.cs (k - 1) 127 (8 * a + b)) 65 c hc).trans (p.tot_window hc _))
theorem rv95 : val_main_v95 (F := Ideal) x1 x4 x5 = t4 fun a b c d => p.tot c (8 * a + b) := read_nf (val_main_v95_apply (F := Ideal) x1 x4 x5) (rv94 h)
theorem rv96 : val_main_v96 (F := Ideal) x1 x4 x5 = t4 fun a b c d => p.tot d (8 * a + b) := read_nf (val_main_v96_apply (F := Ideal) x1 x4 x5) (rv94 h)
theorem rv97 : val_main_v97 (F := Ideal) x1 x4 x5 = t4 fun a b c d => p.tot c (8 * a + b) := read_nf (val_main_v97_apply (F := Ideal) x1 x4 x5) (rv95 h)
theorem rv98 : val_main_v98 (F := Ideal) x1 x4 x5 = t4 fun a b c d => p.tot d (8 * a + b) := read_nf (val_main_v98_apply (F := Ideal) x1 x4 x5) (rv96 h)
theorem rv99 : val_main_v99 (F := Ideal) x1 x4 x5 = t4 fun a b c d => (p.tot c (8 * a + b)) - (p.tot d (8 * a + b)) := sub_nf (rv97 h) (rv98 h)
theorem rv103 : val_main_v103 (F := Ideal) x1 x4 x5 = t4 fun a b c d => p.dcy (8 * a + b) c d := exp_mask (P := fun i => (i 3).val ≤ (i 2).val)
  (fun i => tril_at (lt_trans (i 2).isLt (by decide : 65 < 2147483648)) (lt_trans (i 3).isLt (by decide : 65 < 2147483648))) (rv99 h) fun _ => bot_bits
theorem rv105 : val_main_v105 (F := Ideal) = t5 fun a b c d e => 0 := read_nf (f := fun _ => 0) (val_main_v105_apply (F := Ideal)) (funext fun _ => ofBits_0)
theorem rv106 : val_main_v106 (F := Ideal) x0 x1 x2 x3 x4 x5 = t5 fun a b c d e => p.st' a e (512 * b + 64 * c + d) :=
  Eq.trans (b := t5 fun a b c d e => if a < 1 then 0 else p.st (a - 1) e (512 * b + 64 * c + d))
    (cat_nf 0 (fun v => 0) (fun v => p.st (v 0) (v 4) (512 * (v 1) + 64 * (v 2) + (v 3))) (rv105 h) (rv88 h) (by decide) (by decide) rfl)
    (t5_congr fun a ha b hb c hc d hd e he => rfl)
theorem rv108 : val_main_v108 (F := Ideal) x0 x1 x2 x3 x4 x5 = t5 fun a b c d e => ∑ k7 ∈ Finset.range 65, (p.st' k7 d (512 * a + 64 * b + c)) * (p.dcy (8 * a + b) e k7) := dot_nf _ (val_main_v108_apply x0 x1 x2 x3 x4 x5) (rv106 h) (rv103 h) fun _ _ => rfl
theorem rv109 : val_main_v109 (F := Ideal) x0 x1 x2 x3 x4 x5 = t5 fun a b c d e => ∑ k7 ∈ Finset.range 65, (p.st' k7 e (512 * b + 64 * c + d)) * (p.dcy (8 * b + c) a k7) := read_nf (val_main_v109_apply (F := Ideal) x0 x1 x2 x3 x4 x5) (rv108 h)
theorem rv110 : val_main_v110 (F := Ideal) x0 x1 x2 x3 x4 x5 = t5 fun a b c d e => p.S a e (512 * b + 64 * c + d) :=
  Eq.trans (b := t5 fun a b c d e => ∑ k7 ∈ Finset.range 65, (p.st' k7 e (512 * b + 64 * c + d)) * (p.dcy (8 * b + c) a k7))
    (read_nf (val_main_v110_apply (F := Ideal) x0 x1 x2 x3 x4 x5) (rv109 h))
    (t5_congr fun a ha b hb c hc d hd e he => by rw [h.fwd.s, ch64 hd])
theorem rv111 : val_main_v111 (F := Ideal) x1 x4 x5 = t4 fun a b c d => p.ecs c d (8 * a + b) :=
  Eq.trans (b := t4 fun a b c d => Real.exp (p.cs c d (8 * a + b)))
    (exp_nf (rv63 h))
    (t4_congr fun a ha b hb c hc d hd => rfl)
theorem rv112 : val_main_v112 (F := Ideal) x1 x4 x5 = t4 fun a b c d => p.ecs a b (8 * c + d) := read_nf (val_main_v112_apply (F := Ideal) x1 x4 x5) (rv111 h)
theorem rv113 : val_main_v113 (F := Ideal) x1 x4 x5 = t5 fun a b c d e => p.ecs a b (8 * c + d) := read_nf (val_main_v113_apply (F := Ideal) x1 x4 x5) (rv112 h)
theorem rv114 : val_main_v114 (F := Ideal) x0 x1 x2 x3 x4 x5 = t5 fun a b c d e => p.CS a e (512 * b + 64 * c + d) :=
  Eq.trans (b := t5 fun a b c d e => ∑ k8 ∈ Finset.range 128, (p.S a k8 (512 * b + 64 * c + d)) * (p.C (128 * a + e) (128 * b + k8)))
    (dot_nf _ (val_main_v114_apply x0 x1 x2 x3 x4 x5) (rv110 h) (rv60 h) fun _ _ => rfl)
    (t5_congr fun a ha b hb c hc d hd e he => by unfold In.CS; rw [ch512 hc hd]; exact Finset.sum_congr rfl fun _ _ => mul_comm _ _)
theorem rv115 : val_main_v115 (F := Ideal) x0 x1 x2 x3 x4 x5 = t5 fun a b c d e => p.CS a b (512 * c + 64 * d + e) := read_nf (val_main_v115_apply (F := Ideal) x0 x1 x2 x3 x4 x5) (rv114 h)
theorem rv116 : val_main_v116 (F := Ideal) x1 x4 x5 = t5 fun a b c d e => p.ecs a b (8 * c + d) := read_nf (val_main_v116_apply (F := Ideal) x1 x4 x5) (rv113 h)
theorem rv117 : val_main_v117 (F := Ideal) x0 x1 x2 x3 x4 x5 = t5 fun a b c d e => (p.ecs a b (8 * c + d)) * (p.CS a b (512 * c + 64 * d + e)) := mul_nf (rv116 h) (rv115 h)
theorem rv118 : val_main_v118 (F := Ideal) x0 x1 x2 x3 x4 x5 = t5 fun a b c d e => (p.yd a b (512 * c + 64 * d + e)) + ((p.ecs a b (8 * c + d)) * (p.CS a b (512 * c + 64 * d + e))) := add_nf (rv79 h) (rv117 h)
theorem rv119 : val_main_v119 (F := Ideal) x0 x1 x2 x3 x4 x5 = t4 fun a b c d => (p.yd (a / 128) (a % 128) (512 * b + 64 * c + d)) + ((p.ecs (a / 128) (a % 128) (8 * b + c)) * (p.CS (a / 128) (a % 128) (512 * b + 64 * c + d))) := read5 (f := fun a b c d e => (p.yd a b (512 * c + 64 * d + e)) + ((p.ecs a b (8 * c + d)) * (p.CS a b (512 * c + 64 * d + e)))) (g0 := fun i => ((i 0).val) / 128) (g1 := fun i => ((i 0).val) % 128) (g2 := fun i => (i 1).val) (g3 := fun i => (i 2).val) (g4 := fun i => (i 3).val) (val_main_v119_apply _ _ _ _ _ _) (rv118 h) (fun i => by have h := lt4 i; show ((((i 0).val * 2 + (i 1).val) * 8 + (i 2).val) * 64 + (i 3).val) / 131072 = ((i 0).val) / 128; omega) (fun i => by have h := lt4 i; show ((((i 0).val * 2 + (i 1).val) * 8 + (i 2).val) * 64 + (i 3).val) / 1024 % 128 = ((i 0).val) % 128; omega) (fun i => by have h := lt4 i; show ((((i 0).val * 2 + (i 1).val) * 8 + (i 2).val) * 64 + (i 3).val) / 512 % 2 = (i 1).val; omega) (fun i => by have h := lt4 i; show ((((i 0).val * 2 + (i 1).val) * 8 + (i 2).val) * 64 + (i 3).val) / 64 % 8 = (i 2).val; omega) (fun i => by have h := lt4 i; show ((((i 0).val * 2 + (i 1).val) * 8 + (i 2).val) * 64 + (i 3).val) % 64 = (i 3).val; omega)
theorem rv120 : val_main_v120 (F := Ideal) x6 = t3 fun a b c => p.D 0 ((512 * a + 64 * b + c) / 64) := read2 (f := fun a b => p.D 0 (b / 64)) (g0 := fun i => 0) (g1 := fun i => 512 * ((i 0).val) + 64 * ((i 1).val) + ((i 2).val)) (val_main_v120_apply _) (rv3 h) (fun i => by have h := lt3 i; show 0 = 0; omega) (fun i => by have h := lt3 i; show (((i 0).val * 8 + (i 1).val) * 64 + (i 2).val) % 1024 = 512 * ((i 0).val) + 64 * ((i 1).val) + ((i 2).val); omega)
theorem rv121 : val_main_v121 (F := Ideal) x6 = t4 fun a b c d => p.D 0 ((512 * b + 64 * c + d) / 64) := read_nf (val_main_v121_apply (F := Ideal) x6) (rv120 h)
theorem rv122 : val_main_v122 (F := Ideal) x6 = t4 fun a b c d => p.D 0 ((512 * b + 64 * c + d) / 64) := read_nf (val_main_v122_apply (F := Ideal) x6) (rv121 h)
theorem rv123 : val_main_v123 (F := Ideal) x0 x2 x3 x6 = t4 fun a b c d => (p.D 0 ((512 * b + 64 * c + d) / 64)) * (p.u a (512 * b + 64 * c + d)) := mul_nf (rv122 h) (rv42 h)
theorem rv124 : val_main_v124 (F := Ideal) x0 x1 x2 x3 x4 x5 x6 = t4 fun a b c d => ((p.yd (a / 128) (a % 128) (512 * b + 64 * c + d)) + ((p.ecs (a / 128) (a % 128) (8 * b + c)) * (p.CS (a / 128) (a % 128) (512 * b + 64 * c + d)))) + ((p.D 0 ((512 * b + 64 * c + d) / 64)) * (p.u a (512 * b + 64 * c + d))) := add_nf (rv119 h) (rv123 h)
theorem rv125 : val_main_v125 (F := Ideal) x0 x1 x2 x3 x4 x5 x6 = t2 fun a b => p.Y a b :=
  Eq.trans (b := t2 fun a b => ((p.yd (a / 128) (a % 128) (512 * (b / 512) + 64 * (b / 64 % 8) + (b % 64))) + ((p.ecs (a / 128) (a % 128) (8 * (b / 512) + (b / 64 % 8))) * (p.CS (a / 128) (a % 128) (512 * (b / 512) + 64 * (b / 64 % 8) + (b % 64))))) + ((p.D 0 ((512 * (b / 512) + 64 * (b / 64 % 8) + (b % 64)) / 64)) * (p.u a (512 * (b / 512) + 64 * (b / 64 % 8) + (b % 64)))))
    (read4 (f := fun a b c d => ((p.yd (a / 128) (a % 128) (512 * b + 64 * c + d)) + ((p.ecs (a / 128) (a % 128) (8 * b + c)) * (p.CS (a / 128) (a % 128) (512 * b + 64 * c + d)))) + ((p.D 0 ((512 * b + 64 * c + d) / 64)) * (p.u a (512 * b + 64 * c + d)))) (g0 := fun i => (i 0).val) (g1 := fun i => ((i 1).val) / 512) (g2 := fun i => ((i 1).val) / 64 % 8) (g3 := fun i => ((i 1).val) % 64) (val_main_v125_apply _ _ _ _ _ _ _) (rv124 h) (fun i => by have h := lt2 i; show ((i 0).val * 1024 + (i 1).val) / 1024 = (i 0).val; omega) (fun i => by have h := lt2 i; show ((i 0).val * 1024 + (i 1).val) / 512 % 2 = ((i 1).val) / 512; omega) (fun i => by have h := lt2 i; show ((i 0).val * 1024 + (i 1).val) / 64 % 8 = ((i 1).val) / 64 % 8; omega) (fun i => by have h := lt2 i; show ((i 0).val * 1024 + (i 1).val) % 64 = ((i 1).val) % 64; omega))
    (t2_congr fun a ha b hb => by rw [h.fwd.y, flat, flat_head])
theorem rv126 : val_main_v126 (F := Ideal) x0 = t2 fun a b => p.z a b :=
  Eq.trans (b := t2 fun a b => p.P a b)
    (read_nf (val_main_v126_apply (F := Ideal) x0) (rv4 h))
    (t2_congr fun a ha b hb => rfl)
theorem rcall9_v0 : val_main_call9_v0 (F := Ideal) x0 = t2 fun a b => -(p.z a b) := neg_nf (rv126 h)
theorem rcall9_v1 : val_main_call9_v1 (F := Ideal) x0 = t2 fun a b => Real.exp (-(p.z a b)) := exp_nf (rcall9_v0 h)
theorem rcall9_v2 : val_main_call9_v2 (F := Ideal) = t2 fun a b => 1 := read_nf (f := fun _ => 1) (val_main_call9_v2_apply (F := Ideal)) (funext fun _ => ofBits_one)
theorem rcall9_v3 : val_main_call9_v3 (F := Ideal) x0 = t2 fun a b => 1 + (Real.exp (-(p.z a b))) := add_nf (rcall9_v2 h) (rcall9_v1 h)
theorem rcall9_v4 : val_main_call9_v4 (F := Ideal) = t2 fun a b => 1 := read_nf (f := fun _ => 1) (val_main_call9_v4_apply (F := Ideal)) (funext fun _ => ofBits_one)
theorem rv127_2 : val_main_v127_2 (F := Ideal) x0 = t2 fun a b => sg (p.z a b) :=
  Eq.trans (b := t2 fun a b => 1 / (1 + (Real.exp (-(p.z a b)))))
    (div_nf (rcall9_v4 h) (rcall9_v3 h) fun _ => (add_pos one_pos (Real.exp_pos _)).ne')
    (t2_congr fun a ha b hb => rfl)
theorem rcall9_v6 : val_main_call9_v6 (F := Ideal) = t2 fun a b => 1 := read_nf (f := fun _ => 1) (val_main_call9_v6_apply (F := Ideal)) (funext fun _ => ofBits_one)
theorem rcall9_v7 : val_main_call9_v7 (F := Ideal) x0 = t2 fun a b => 1 - (sg (p.z a b)) := sub_nf (rcall9_v6 h) (rv127_2 h)
theorem rv127_1 : val_main_v127_1 (F := Ideal) x0 = t2 fun a b => (sg (p.z a b)) * (1 - (sg (p.z a b))) := mul_nf (rv127_2 h) (rcall9_v7 h)
theorem rv127_0 : val_main_v127_0 (F := Ideal) x0 = t2 fun a b => (p.z a b) * (sg (p.z a b)) := mul_nf (rv126 h) (rv127_2 h)
theorem rv128 : val_main_v128 (F := Ideal) x0 x1 x2 x3 x4 x5 x6 = t2 fun a b => p.q a b :=
  Eq.trans (b := t2 fun a b => (p.Y a b) * ((p.z a b) * (sg (p.z a b))))
    (mul_nf (rv125 h) (rv127_0 h))
    (t2_congr fun a ha b hb => rfl)

end Cert.Proof.Ssd.Ref
-- ==== Proof.SsdRefC.lean ====
/- The reference read on finite arguments: the gradient of the normalisation and of the outputs. -/
module

public import proofs.«01_k».proof.Proof.SsdRefB

@[expose] public section

noncomputable section

namespace Cert.Proof.Ssd.Ref

open Idealize.ShloMosaic Idealize.ShloMosaic.ValueIdx Cert.SsdReferenceIdeal Cert.SsdReferenceIdeal.Gen Cert.SsdReferenceIdeal.Read
open scoped BigOperators

variable {p : In} {x0 : (⟨S8192x4608, .f32⟩ : BufTy).Contents (Elt Ideal)} {x1 : (⟨S8192x16, .f32⟩ : BufTy).Contents (Elt Ideal)}
  {x2 : (⟨S4x1536, .f32⟩ : BufTy).Contents (Elt Ideal)} {x3 : (⟨S1x1536, .f32⟩ : BufTy).Contents (Elt Ideal)}
  {x4 x5 x6 : (⟨S1x16, .f32⟩ : BufTy).Contents (Elt Ideal)} {x7 : (⟨S1x1024, .f32⟩ : BufTy).Contents (Elt Ideal)}
  {x8 : (⟨S8192x1024, .f32⟩ : BufTy).Contents (Elt Ideal)} (h : Rd p x0 x1 x2 x3 x4 x5 x6 x7 x8)
include h

theorem rv129 : val_main_v129 (F := Ideal) x0 x1 x2 x3 x4 x5 x6 = t2 fun a b => (p.q a b) * (p.q a b) := mul_nf (rv128 h) (rv128 h)
theorem rv130 : val_main_v130 (F := Ideal) x0 x1 x2 x3 x4 x5 x6 = t1 fun a => ∑ k9 ∈ Finset.range 1024, (p.q a k9) * (p.q a k9) := sum_nf _ (val_main_v130_apply x0 x1 x2 x3 x4 x5 x6) zero_bits (rv129 h) fun _ _ => rfl
theorem rv131 : val_main_v131 (F := Ideal) x0 x1 x2 x3 x4 x5 x6 = t2 fun a b => ∑ k9 ∈ Finset.range 1024, (p.q a k9) * (p.q a k9) := read_nf (val_main_v131_apply (F := Ideal) x0 x1 x2 x3 x4 x5 x6) (rv130 h)
theorem rv132 : val_main_v132 (F := Ideal) = t2 fun a b => 1024 := read_nf (f := fun _ => 1024) (val_main_v132_apply (F := Ideal)) (funext fun _ => ofBits_1024)
theorem rv133 : val_main_v133 (F := Ideal) x0 x1 x2 x3 x4 x5 x6 = t2 fun a b => (∑ k9 ∈ Finset.range 1024, (p.q a k9) * (p.q a k9)) / 1024 := div_nf (rv131 h) (rv132 h) fun _ => (by norm_num : (1024 : ℝ) ≠ 0)
theorem rv134 : val_main_v134 (F := Ideal) = t2 fun a b => eps := read_nf (f := fun _ => eps) (val_main_v134_apply (F := Ideal)) (funext fun _ => ofBits_eps)
theorem rv135 : val_main_v135 (F := Ideal) x0 x1 x2 x3 x4 x5 x6 = t2 fun a b => p.ms a :=
  Eq.trans (b := t2 fun a b => ((∑ k9 ∈ Finset.range 1024, (p.q a k9) * (p.q a k9)) / 1024) + eps)
    (add_nf (rv133 h) (rv134 h))
    (t2_congr fun a ha b hb => rfl)
theorem rv136 : val_main_v136 (F := Ideal) x0 x1 x2 x3 x4 x5 x6 = t2 fun a b => p.rn a :=
  Eq.trans (b := t2 fun a b => (Real.sqrt (p.ms a))⁻¹)
    (rsqrt_nf (rv135 h) fun _ => p.ms_pos _)
    (t2_congr fun a ha b hb => rfl)
theorem rv137 : val_main_v137 (F := Ideal) x0 x1 x2 x3 x4 x5 x6 = t2 fun a b => (p.rn a) / (p.ms a) := div_nf (rv136 h) (rv135 h) fun _ => (p.ms_pos _).ne'
theorem rv138 : val_main_v138 (F := Ideal) = t2 fun a b => -(1 / 2) := read_nf (f := fun _ => -(1 / 2)) (val_main_v138_apply (F := Ideal)) (funext fun _ => ofBits_neg_half)
theorem rv139 : val_main_v139 (F := Ideal) x0 x1 x2 x3 x4 x5 x6 = t2 fun a b => (-(1 / 2)) * ((p.rn a) / (p.ms a)) := mul_nf (rv138 h) (rv137 h)
theorem rv140 : val_main_v140 (F := Ideal) x0 x1 x2 x3 x4 x5 x6 = t2 fun a b => p.rn a := read_nf (val_main_v140_apply (F := Ideal) x0 x1 x2 x3 x4 x5 x6) (rv136 h)
theorem rv141 : val_main_v141 (F := Ideal) x0 x1 x2 x3 x4 x5 x6 = t2 fun a b => (p.q a b) * (p.rn a) := mul_nf (rv128 h) (rv140 h)
theorem rv144 : val_main_v144 (F := Ideal) x0 x1 x2 x3 x4 x5 x6 x8 = t2 fun a b => ((p.q a b) * (p.rn a)) * (p.Ct a b) := mul_nf (rv141 h) h.i8
theorem rv145 : val_main_v145 (F := Ideal) x0 x1 x2 x3 x4 x5 x6 x8 = t1 fun a => ∑ k10 ∈ Finset.range 8192, ((p.q k10 a) * (p.rn k10)) * (p.Ct k10 a) := sum_nf _ (val_main_v145_apply x0 x1 x2 x3 x4 x5 x6 x8) zero_bits (rv144 h) fun _ _ => rfl
theorem rv146 : val_main_v146 (F := Ideal) x0 x1 x2 x3 x4 x5 x6 x8 = t2 fun a b => p.rG b :=
  Eq.trans (b := t2 fun a b => ∑ k10 ∈ Finset.range 8192, ((p.q k10 b) * (p.rn k10)) * (p.Ct k10 b))
    (read1 (f := fun a => ∑ k10 ∈ Finset.range 8192, ((p.q k10 a) * (p.rn k10)) * (p.Ct k10 a)) (g0 := fun i => (i 1).val) (val_main_v146_apply _ _ _ _ _ _ _ _) (rv145 h) (fun i => by have h := lt2 i; show (i 0).val * 1024 + (i 1).val = (i 1).val; omega))
    (t2_congr fun a ha b hb => Finset.sum_congr rfl fun _ _ => by ring)
theorem rv147 : val_main_v147 (F := Ideal) x7 = t2 fun a b => p.G 0 b := read_nf (val_main_v147_apply (F := Ideal) x7) h.i7
theorem rv148 : val_main_v148 (F := Ideal) x7 x8 = t2 fun a b => (p.Ct a b) * (p.G 0 b) := mul_nf h.i8 (rv147 h)
theorem rv149 : val_main_v149 (F := Ideal) x0 x1 x2 x3 x4 x5 x6 x7 x8 = t2 fun a b => (p.q a b) * ((p.Ct a b) * (p.G 0 b)) := mul_nf (rv128 h) (rv148 h)
theorem rv150 : val_main_v150 (F := Ideal) x0 x1 x2 x3 x4 x5 x6 x7 x8 = t1 fun a => ∑ k11 ∈ Finset.range 1024, (p.q a k11) * ((p.Ct a k11) * (p.G 0 k11)) := sum_nf _ (val_main_v150_apply x0 x1 x2 x3 x4 x5 x6 x7 x8) zero_bits (rv149 h) fun _ _ => rfl
theorem rv151 : val_main_v151 (F := Ideal) x0 x1 x2 x3 x4 x5 x6 x7 x8 = t2 fun a b => ∑ k11 ∈ Finset.range 1024, (p.q a k11) * ((p.Ct a k11) * (p.G 0 k11)) := read1 (f := fun a => ∑ k11 ∈ Finset.range 1024, (p.q a k11) * ((p.Ct a k11) * (p.G 0 k11))) (g0 := fun i => (i 0).val) (val_main_v151_apply _ _ _ _ _ _ _ _ _) (rv150 h) (fun i => by have h := lt2 i; show (i 0).val * 1 + (i 1).val = (i 0).val; omega)
theorem rv152 : val_main_v152 (F := Ideal) x0 x1 x2 x3 x4 x5 x6 = t2 fun a b => p.rn a := read_nf (val_main_v152_apply (F := Ideal) x0 x1 x2 x3 x4 x5 x6) (rv136 h)
theorem rv153 : val_main_v153 (F := Ideal) x0 x1 x2 x3 x4 x5 x6 x7 x8 = t2 fun a b => ((p.Ct a b) * (p.G 0 b)) * (p.rn a) := mul_nf (rv148 h) (rv152 h)
theorem rv154 : val_main_v154 (F := Ideal) x0 x1 x2 x3 x4 x5 x6 x7 x8 = t2 fun a b => (∑ k11 ∈ Finset.range 1024, (p.q a k11) * ((p.Ct a k11) * (p.G 0 k11))) * ((-(1 / 2)) * ((p.rn a) / (p.ms a))) := mul_nf (rv151 h) (rv139 h)
theorem rv155 : val_main_v155 (F := Ideal) = t2 fun a b => 1024 := read_nf (f := fun _ => 1024) (val_main_v155_apply (F := Ideal)) (funext fun _ => ofBits_1024)
theorem rv156 : val_main_v156 (F := Ideal) x0 x1 x2 x3 x4 x5 x6 x7 x8 = t2 fun a b => ((∑ k11 ∈ Finset.range 1024, (p.q a k11) * ((p.Ct a k11) * (p.G 0 k11))) * ((-(1 / 2)) * ((p.rn a) / (p.ms a)))) / 1024 := div_nf (rv154 h) (rv155 h) fun _ => (by norm_num : (1024 : ℝ) ≠ 0)
theorem rv157 : val_main_v157 (F := Ideal) x0 x1 x2 x3 x4 x5 x6 x7 x8 = t1 fun a => ((∑ k11 ∈ Finset.range 1024, (p.q a k11) * ((p.Ct a k11) * (p.G 0 k11))) * ((-(1 / 2)) * ((p.rn a) / (p.ms a)))) / 1024 :=
  Eq.trans (b := t1 fun a => ∑ k ∈ Finset.range 1, ((∑ k11 ∈ Finset.range 1024, (p.q a k11) * ((p.Ct a k11) * (p.G 0 k11))) * ((-(1 / 2)) * ((p.rn a) / (p.ms a)))) / 1024)
    (sum_nf _ (val_main_v157_apply x0 x1 x2 x3 x4 x5 x6 x7 x8) zero_bits (rv156 h) fun _ _ => rfl)
    (t1_congr fun a ha => Finset.sum_range_one _)
theorem rv158 : val_main_v158 (F := Ideal) x0 x1 x2 x3 x4 x5 x6 x7 x8 = t2 fun a b => ((∑ k11 ∈ Finset.range 1024, (p.q a k11) * ((p.Ct a k11) * (p.G 0 k11))) * ((-(1 / 2)) * ((p.rn a) / (p.ms a)))) / 1024 := read_nf (val_main_v158_apply (F := Ideal) x0 x1 x2 x3 x4 x5 x6 x7 x8) (rv157 h)
theorem rv159 : val_main_v159 (F := Ideal) x0 x1 x2 x3 x4 x5 x6 x7 x8 = t2 fun a b => (p.q a b) * (((∑ k11 ∈ Finset.range 1024, (p.q a k11) * ((p.Ct a k11) * (p.G 0 k11))) * ((-(1 / 2)) * ((p.rn a) / (p.ms a)))) / 1024) := mul_nf (rv128 h) (rv158 h)
theorem rv160 : val_main_v160 (F := Ideal) x0 x1 x2 x3 x4 x5 x6 x7 x8 = t2 fun a b => (((p.Ct a b) * (p.G 0 b)) * (p.rn a)) + ((p.q a b) * (((∑ k11 ∈ Finset.range 1024, (p.q a k11) * ((p.Ct a k11) * (p.G 0 k11))) * ((-(1 / 2)) * ((p.rn a) / (p.ms a)))) / 1024)) := add_nf (rv153 h) (rv159 h)
theorem rv161 : val_main_v161 (F := Ideal) x0 x1 x2 x3 x4 x5 x6 x7 x8 = t2 fun a b => (((∑ k11 ∈ Finset.range 1024, (p.q a k11) * ((p.Ct a k11) * (p.G 0 k11))) * ((-(1 / 2)) * ((p.rn a) / (p.ms a)))) / 1024) * (p.q a b) := mul_nf (rv158 h) (rv128 h)
theorem rv162 : val_main_v162 (F := Ideal) x0 x1 x2 x3 x4 x5 x6 x7 x8 = t2 fun a b => p.dq a b :=
  Eq.trans (b := t2 fun a b => ((((p.Ct a b) * (p.G 0 b)) * (p.rn a)) + ((p.q a b) * (((∑ k11 ∈ Finset.range 1024, (p.q a k11) * ((p.Ct a k11) * (p.G 0 k11))) * ((-(1 / 2)) * ((p.rn a) / (p.ms a)))) / 1024))) + ((((∑ k11 ∈ Finset.range 1024, (p.q a k11) * ((p.Ct a k11) * (p.G 0 k11))) * ((-(1 / 2)) * ((p.rn a) / (p.ms a)))) / 1024) * (p.q a b)))
    (add_nf (rv160 h) (rv161 h))
    (t2_congr fun a ha b hb => p.dq_sum a b)
theorem rv163 : val_main_v163 (F := Ideal) x0 x1 x2 x3 x4 x5 x6 x7 x8 = t2 fun a b => (p.Y a b) * (p.dq a b) := mul_nf (rv125 h) (rv162 h)
theorem rv164 : val_main_v164 (F := Ideal) x0 x1 x2 x3 x4 x5 x6 x7 x8 = t2 fun a b => p.dY a b :=
  Eq.trans (b := t2 fun a b => (p.dq a b) * ((p.z a b) * (sg (p.z a b))))
    (mul_nf (rv162 h) (rv127_0 h))
    (t2_congr fun a ha b hb => rfl)
theorem rcall10_v0 : val_main_call10_v0 (F := Ideal) x0 x1 x2 x3 x4 x5 x6 x7 x8 = t2 fun a b => (p.z a b) * ((p.Y a b) * (p.dq a b)) := mul_nf (rv126 h) (rv163 h)
theorem rcall10_v1 : val_main_call10_v1 (F := Ideal) x0 x1 x2 x3 x4 x5 x6 x7 x8 = t2 fun a b => ((p.Y a b) * (p.dq a b)) * (sg (p.z a b)) := mul_nf (rv163 h) (rv127_2 h)
theorem rcall10_v2 : val_main_call10_v2 (F := Ideal) x0 x1 x2 x3 x4 x5 x6 x7 x8 = t2 fun a b => ((p.z a b) * ((p.Y a b) * (p.dq a b))) * ((sg (p.z a b)) * (1 - (sg (p.z a b)))) := mul_nf (rcall10_v0 h) (rv127_1 h)
theorem rv165 : val_main_v165 (F := Ideal) x0 x1 x2 x3 x4 x5 x6 x7 x8 = t2 fun a b => p.dz a b :=
  Eq.trans (b := t2 fun a b => (((p.Y a b) * (p.dq a b)) * (sg (p.z a b))) + (((p.z a b) * ((p.Y a b) * (p.dq a b))) * ((sg (p.z a b)) * (1 - (sg (p.z a b))))))
    (add_nf (rcall10_v1 h) (rcall10_v2 h))
    (t2_congr fun a ha b hb => by unfold In.dz dsilu; ring)
theorem rv166 : val_main_v166 (F := Ideal) x0 x1 x2 x3 x4 x5 x6 x7 x8 = t2 fun a b => if b < 1024 then p.dz a b else 0 :=
  Eq.trans (b := t2 fun a b => if 0 ≤ b ∧ b - 0 < 1024 then p.dz a (b - 0) else 0)
    (pad_nf 1 (fun v => p.dz (v 0) (v 1)) (rv165 h) zero_bits (by decide) (by decide) (by decide))
    (t2_congr fun a ha b hb => by simp only [Nat.sub_zero, Nat.zero_le, true_and])
theorem rv167 : val_main_v167 (F := Ideal) x0 x1 x2 x3 x4 x5 x6 x7 x8 = t4 fun a b c d => p.dY a (512 * b + 64 * c + d) := read2 (f := fun a b => p.dY a b) (g0 := fun i => (i 0).val) (g1 := fun i => 512 * ((i 1).val) + 64 * ((i 2).val) + ((i 3).val)) (val_main_v167_apply _ _ _ _ _ _ _ _ _) (rv164 h) (fun i => by have h := lt4 i; show ((((i 0).val * 2 + (i 1).val) * 8 + (i 2).val) * 64 + (i 3).val) / 1024 = (i 0).val; omega) (fun i => by have h := lt4 i; show ((((i 0).val * 2 + (i 1).val) * 8 + (i 2).val) * 64 + (i 3).val) % 1024 = 512 * ((i 1).val) + 64 * ((i 2).val) + ((i 3).val); omega)
theorem rv168 : val_main_v168 (F := Ideal) x6 = t4 fun a b c d => p.D 0 ((512 * b + 64 * c + d) / 64) := read_nf (val_main_v168_apply (F := Ideal) x6) (rv121 h)
theorem rv169 : val_main_v169 (F := Ideal) x0 x1 x2 x3 x4 x5 x6 x7 x8 = t4 fun a b c d => (p.D 0 ((512 * b + 64 * c + d) / 64)) * (p.dY a (512 * b + 64 * c + d)) := mul_nf (rv168 h) (rv167 h)
theorem rv170 : val_main_v170 (F := Ideal) x0 x1 x2 x3 x4 x5 x6 x7 x8 = t4 fun a b c d => (p.dY a (512 * b + 64 * c + d)) * (p.u a (512 * b + 64 * c + d)) := mul_nf (rv167 h) (rv42 h)
theorem rv171 : val_main_v171 (F := Ideal) x0 x1 x2 x3 x4 x5 x6 x7 x8 = t3 fun a b c => ∑ k12 ∈ Finset.range 8192, (p.dY k12 (512 * a + 64 * b + c)) * (p.u k12 (512 * a + 64 * b + c)) := sum_nf _ (val_main_v171_apply x0 x1 x2 x3 x4 x5 x6 x7 x8) zero_bits (rv170 h) fun _ _ => rfl
theorem rv172 : val_main_v172 (F := Ideal) x0 x1 x2 x3 x4 x5 x6 x7 x8 = t4 fun a b c d => ∑ k12 ∈ Finset.range 8192, (p.dY k12 (512 * b + 64 * c + d)) * (p.u k12 (512 * b + 64 * c + d)) := read3 (f := fun a b c => ∑ k12 ∈ Finset.range 8192, (p.dY k12 (512 * a + 64 * b + c)) * (p.u k12 (512 * a + 64 * b + c))) (g0 := fun i => (i 1).val) (g1 := fun i => (i 2).val) (g2 := fun i => (i 3).val) (val_main_v172_apply _ _ _ _ _ _ _ _ _) (rv171 h) (fun i => by have h := lt4 i; show ((((i 0).val * 2 + (i 1).val) * 8 + (i 2).val) * 64 + (i 3).val) / 512 = (i 1).val; omega) (fun i => by have h := lt4 i; show ((((i 0).val * 2 + (i 1).val) * 8 + (i 2).val) * 64 + (i 3).val) / 64 % 8 = (i 2).val; omega) (fun i => by have h := lt4 i; show ((((i 0).val * 2 + (i 1).val) * 8 + (i 2).val) * 64 + (i 3).val) % 64 = (i 3).val; omega)
theorem rv173 : val_main_v173 (F := Ideal) x0 x1 x2 x3 x4 x5 x6 x7 x8 = t3 fun a b c => ∑ k12 ∈ Finset.range 8192, (p.dY k12 (512 * a + 64 * b + c)) * (p.u k12 (512 * a + 64 * b + c)) :=
  Eq.trans (b := t3 fun a b c => ∑ k ∈ Finset.range 1, ∑ k12 ∈ Finset.range 8192, (p.dY k12 (512 * a + 64 * b + c)) * (p.u k12 (512 * a + 64 * b + c)))
    (sum_nf _ (val_main_v173_apply x0 x1 x2 x3 x4 x5 x6 x7 x8) zero_bits (rv172 h) fun _ _ => rfl)
    (t3_congr fun a ha b hb c hc => Finset.sum_range_one _)
theorem rv174 : val_main_v174 (F := Ideal) x0 x1 x2 x3 x4 x5 x6 x7 x8 = t2 fun a b => p.rD b :=
  Eq.trans (b := t2 fun a b => ∑ k12 ∈ Finset.range 8192, (p.dY k12 (512 * (b / 512) + 64 * (b / 64 % 8) + (b % 64))) * (p.u k12 (512 * (b / 512) + 64 * (b / 64 % 8) + (b % 64))))
    (read3 (f := fun a b c => ∑ k12 ∈ Finset.range 8192, (p.dY k12 (512 * a + 64 * b + c)) * (p.u k12 (512 * a + 64 * b + c))) (g0 := fun i => ((i 1).val) / 512) (g1 := fun i => ((i 1).val) / 64 % 8) (g2 := fun i => ((i 1).val) % 64) (val_main_v174_apply _ _ _ _ _ _ _ _ _) (rv173 h) (fun i => by have h := lt2 i; show ((i 0).val * 1024 + (i 1).val) / 512 = ((i 1).val) / 512; omega) (fun i => by have h := lt2 i; show ((i 0).val * 1024 + (i 1).val) / 64 % 8 = ((i 1).val) / 64 % 8; omega) (fun i => by have h := lt2 i; show ((i 0).val * 1024 + (i 1).val) % 64 = ((i 1).val) % 64; omega))
    (t2_congr fun a ha b hb => by unfold In.rD; rw [flat])
theorem rv175 : val_main_v175 (F := Ideal) x0 x1 x2 x3 x4 x5 x6 x7 x8 = t5 fun a b c d e => p.dY (128 * a + b) (512 * c + 64 * d + e) := read4 (f := fun a b c d => p.dY a (512 * b + 64 * c + d)) (g0 := fun i => 128 * ((i 0).val) + ((i 1).val)) (g1 := fun i => (i 2).val) (g2 := fun i => (i 3).val) (g3 := fun i => (i 4).val) (val_main_v175_apply _ _ _ _ _ _ _ _ _) (rv167 h) (fun i => by have h := lt5 i; show (((((i 0).val * 128 + (i 1).val) * 2 + (i 2).val) * 8 + (i 3).val) * 64 + (i 4).val) / 1024 = 128 * ((i 0).val) + ((i 1).val); omega) (fun i => by have h := lt5 i; show (((((i 0).val * 128 + (i 1).val) * 2 + (i 2).val) * 8 + (i 3).val) * 64 + (i 4).val) / 512 % 2 = (i 2).val; omega) (fun i => by have h := lt5 i; show (((((i 0).val * 128 + (i 1).val) * 2 + (i 2).val) * 8 + (i 3).val) * 64 + (i 4).val) / 64 % 8 = (i 3).val; omega) (fun i => by have h := lt5 i; show (((((i 0).val * 128 + (i 1).val) * 2 + (i 2).val) * 8 + (i 3).val) * 64 + (i 4).val) % 64 = (i 4).val; omega)
theorem rv176 : val_main_v176 (F := Ideal) x1 x4 x5 = t5 fun a b c d e => p.ecs a b (8 * c + d) := read_nf (val_main_v176_apply (F := Ideal) x1 x4 x5) (rv113 h)
theorem rv177 : val_main_v177 (F := Ideal) x0 x1 x2 x3 x4 x5 x6 x7 x8 = t5 fun a b c d e => p.dYe a b (512 * c + 64 * d + e) :=
  Eq.trans (b := t5 fun a b c d e => (p.ecs a b (8 * c + d)) * (p.dY (128 * a + b) (512 * c + 64 * d + e)))
    (mul_nf (rv176 h) (rv175 h))
    (t5_congr fun a ha b hb c hc d hd e he => by unfold In.dYe; rw [ch64 he, mul_comm])
theorem rv178 : val_main_v178 (F := Ideal) x0 x1 x2 x3 x4 x5 x6 x7 x8 = t5 fun a b c d e => (p.dY (128 * a + b) (512 * c + 64 * d + e)) * (p.CS a b (512 * c + 64 * d + e)) := mul_nf (rv175 h) (rv115 h)
theorem rv179 : val_main_v179 (F := Ideal) x0 x1 x2 x3 x4 x5 x6 x7 x8 = t4 fun a b c d => ∑ k13 ∈ Finset.range 64, (p.dY (128 * a + b) (512 * c + 64 * d + k13)) * (p.CS a b (512 * c + 64 * d + k13)) := sum_nf _ (val_main_v179_apply x0 x1 x2 x3 x4 x5 x6 x7 x8) zero_bits (rv178 h) fun _ _ => rfl
theorem rv180 : val_main_v180 (F := Ideal) x0 x1 x2 x3 x4 x5 x6 x7 x8 = t5 fun a b c d e => ∑ k13 ∈ Finset.range 64, (p.dY (128 * a + b) (512 * c + 64 * d + k13)) * (p.CS a b (512 * c + 64 * d + k13)) := read4 (f := fun a b c d => ∑ k13 ∈ Finset.range 64, (p.dY (128 * a + b) (512 * c + 64 * d + k13)) * (p.CS a b (512 * c + 64 * d + k13))) (g0 := fun i => (i 0).val) (g1 := fun i => (i 1).val) (g2 := fun i => (i 2).val) (g3 := fun i => (i 3).val) (val_main_v180_apply _ _ _ _ _ _ _ _ _) (rv179 h) (fun i => by have h := lt5 i; show (((((i 0).val * 128 + (i 1).val) * 2 + (i 2).val) * 8 + (i 3).val) * 1 + (i 4).val) / 2048 = (i 0).val; omega) (fun i => by have h := lt5 i; show (((((i 0).val * 128 + (i 1).val) * 2 + (i 2).val) * 8 + (i 3).val) * 1 + (i 4).val) / 16 % 128 = (i 1).val; omega) (fun i => by have h := lt5 i; show (((((i 0).val * 128 + (i 1).val) * 2 + (i 2).val) * 8 + (i 3).val) * 1 + (i 4).val) / 8 % 2 = (i 2).val; omega) (fun i => by have h := lt5 i; show (((((i 0).val * 128 + (i 1).val) * 2 + (i 2).val) * 8 + (i 3).val) * 1 + (i 4).val) % 8 = (i 3).val; omega)
theorem rv181 : val_main_v181 (F := Ideal) x0 x1 x2 x3 x4 x5 x6 x7 x8 = t5 fun a b c d e => p.dYe a e (512 * b + 64 * c + d) := read_nf (val_main_v181_apply (F := Ideal) x0 x1 x2 x3 x4 x5 x6 x7 x8) (rv177 h)

end Cert.Proof.Ssd.Ref
-- ==== Proof.SsdRefD.lean ====
/- The reference read on finite arguments: the gradients inside a chunk and of the states. -/
module

public import proofs.«01_k».proof.Proof.SsdRefC

@[expose] public section

noncomputable section

namespace Cert.Proof.Ssd.Ref

open Idealize.ShloMosaic Idealize.ShloMosaic.ValueIdx Cert.SsdReferenceIdeal Cert.SsdReferenceIdeal.Gen Cert.SsdReferenceIdeal.Read
open scoped BigOperators

variable {p : In} {x0 : (⟨S8192x4608, .f32⟩ : BufTy).Contents (Elt Ideal)} {x1 : (⟨S8192x16, .f32⟩ : BufTy).Contents (Elt Ideal)}
  {x2 : (⟨S4x1536, .f32⟩ : BufTy).Contents (Elt Ideal)} {x3 : (⟨S1x1536, .f32⟩ : BufTy).Contents (Elt Ideal)}
  {x4 x5 x6 : (⟨S1x16, .f32⟩ : BufTy).Contents (Elt Ideal)} {x7 : (⟨S1x1024, .f32⟩ : BufTy).Contents (Elt Ideal)}
  {x8 : (⟨S8192x1024, .f32⟩ : BufTy).Contents (Elt Ideal)} (h : Rd p x0 x1 x2 x3 x4 x5 x6 x7 x8)
include h

theorem rv182 : val_main_v182 (F := Ideal) x0 x1 x2 x3 x4 x5 x6 x7 x8 = t4 fun a b c d => ∑ x ∈ Finset.range 512, p.dYe a c (512 * b + x) * p.S a d (512 * b + x) :=
  Eq.trans (b := t4 fun a b c d => ∑ k ∈ Finset.range 8, ∑ k' ∈ Finset.range 64, (p.dYe a c (512 * b + 64 * k + (k'))) * (p.S a d (512 * b + 64 * k + (k'))))
    (dot2_nf rfl rfl rfl _ (rv181 h) (rv110 h) fun i q => rfl)
    (t4_congr fun a ha b hb c hc d hd => (Finset.sum_congr rfl fun k _ => Finset.sum_congr rfl fun q _ => by rw [Nat.add_assoc]).trans (sum_heads fun x => p.dYe a c (512 * b + x) * p.S a d (512 * b + x)))
theorem rv183 : val_main_v183 (F := Ideal) x0 x1 x2 x3 x4 x5 x6 x7 x8 = t4 fun a b c d => ∑ x ∈ Finset.range 512, p.dYe a b (512 * c + x) * p.S a d (512 * c + x) := read_nf (val_main_v183_apply (F := Ideal) x0 x1 x2 x3 x4 x5 x6 x7 x8) (rv182 h)
theorem rv184 : val_main_v184 (F := Ideal) x0 x1 x2 x3 x4 x5 x6 x7 x8 = t5 fun a b c d e => p.CdY a e (512 * b + 64 * c + d) :=
  Eq.trans (b := t5 fun a b c d e => ∑ k14 ∈ Finset.range 128, (p.dYe a k14 (512 * b + 64 * c + d)) * (p.C (128 * a + k14) (128 * b + e)))
    (dot_nf _ (val_main_v184_apply x0 x1 x2 x3 x4 x5 x6 x7 x8) (rv181 h) (rv60 h) fun _ _ => rfl)
    (t5_congr fun a ha b hb c hc d hd e he => by unfold In.CdY; rw [ch512 hc hd]; exact Finset.sum_congr rfl fun _ _ => mul_comm _ _)
theorem rv185 : val_main_v185 (F := Ideal) x0 x1 x2 x3 x4 x5 x6 x7 x8 = t4 fun a b c d => ∑ k13 ∈ Finset.range 64, (p.dY (128 * a + b) (512 * c + 64 * d + k13)) * (p.CS a b (512 * c + 64 * d + k13)) :=
  Eq.trans (b := t4 fun a b c d => ∑ k ∈ Finset.range 1, ∑ k13 ∈ Finset.range 64, (p.dY (128 * a + b) (512 * c + 64 * d + k13)) * (p.CS a b (512 * c + 64 * d + k13)))
    (sum_nf _ (val_main_v185_apply x0 x1 x2 x3 x4 x5 x6 x7 x8) zero_bits (rv180 h) fun _ _ => rfl)
    (t4_congr fun a ha b hb c hc d hd => Finset.sum_range_one _)
theorem rv186 : val_main_v186 (F := Ideal) x0 x1 x2 x3 x4 x5 x6 x7 x8 = t4 fun a b c d => ∑ k13 ∈ Finset.range 64, (p.dY (128 * c + d) (512 * a + 64 * b + k13)) * (p.CS c d (512 * a + 64 * b + k13)) := read_nf (val_main_v186_apply (F := Ideal) x0 x1 x2 x3 x4 x5 x6 x7 x8) (rv185 h)
theorem rv187 : val_main_v187 (F := Ideal) x0 x1 x2 x3 x4 x5 x6 x7 x8 = t4 fun a b c d => hs (fun ch => p.dYe c d ch * p.CS c d ch) (8 * a + b) :=
  Eq.trans (b := t4 fun a b c d => (∑ k13 ∈ Finset.range 64, (p.dY (128 * c + d) (512 * a + 64 * b + k13)) * (p.CS c d (512 * a + 64 * b + k13))) * (p.ecs c d (8 * a + b)))
    (mul_nf (rv186 h) (rv111 h))
    (t4_congr fun a ha b hb c hc d hd => p.through_ecs c d a b)
theorem rv188 : val_main_v188 (F := Ideal) x0 x1 x2 x3 x4 x5 x6 x7 x8 = t5 fun a b c d e => p.dn a e (512 * b + 64 * c + d) :=
  Eq.trans (b := t5 fun a b c d e => if 0 ≤ a ∧ a - 0 < 64 then p.CdY (a - 0) e (512 * b + 64 * c + d) else 0)
    (pad_nf 0 (fun v => p.CdY (v 0) (v 4) (512 * (v 1) + 64 * (v 2) + (v 3))) (rv184 h) zero_bits (by decide) (by decide) (by decide))
    (t5_congr fun a ha b hb c hc d hd e he => by unfold In.dn; simp only [Nat.sub_zero, Nat.zero_le, true_and])
theorem rv189 : val_main_v189 (F := Ideal) x0 x1 x2 x3 x4 x5 x6 x7 x8 = t5 fun a b c d e => p.dn e d (512 * a + 64 * b + c) := read_nf (val_main_v189_apply (F := Ideal) x0 x1 x2 x3 x4 x5 x6 x7 x8) (rv188 h)
theorem rv190 : val_main_v190 (F := Ideal) x0 x1 x2 x3 x4 x5 x6 x7 x8 = t4 fun a b c d => p.ddy (8 * a + b) c d :=
  Eq.trans (b := t4 fun a b c d => ∑ k ∈ Finset.range 64, ∑ k' ∈ Finset.range 128, (p.dn c (k') (512 * a + 64 * b + k)) * (p.st' d (k') (512 * a + 64 * b + k)))
    (dot2_nf rfl rfl rfl _ (rv189 h) (rv106 h) fun i q => rfl)
    (t4_congr fun a ha b hb c hc d hd => by unfold In.ddy; simp only [hch])
theorem rv191 : val_main_v191 (F := Ideal) x0 x1 x2 x3 x4 x5 x6 x7 x8 = t5 fun a b c d e => ∑ k15 ∈ Finset.range 65, (p.dn k15 d (512 * a + 64 * b + c)) * (p.dcy (8 * a + b) k15 e) := dot_nf _ (val_main_v191_apply x0 x1 x2 x3 x4 x5 x6 x7 x8) (rv189 h) (rv103 h) fun _ _ => rfl
theorem rv192 : val_main_v192 (F := Ideal) x0 x1 x2 x3 x4 x5 x6 x7 x8 = t5 fun a b c d e => ∑ k15 ∈ Finset.range 65, (p.dn k15 e (512 * b + 64 * c + d)) * (p.dcy (8 * b + c) k15 a) := read_nf (val_main_v192_apply (F := Ideal) x0 x1 x2 x3 x4 x5 x6 x7 x8) (rv191 h)
theorem rv194 : val_main_v194 (F := Ideal) x0 x1 x2 x3 x4 x5 x6 x7 x8 = t5 fun a b c d e => p.dS a e (512 * b + 64 * c + d) :=
  Eq.trans (b := t5 fun a b c d e => ∑ k15 ∈ Finset.range 65, (p.dn k15 e (512 * b + 64 * c + d)) * (p.dcy (8 * b + c) k15 (1 + a)))
    (read_nf (val_main_v194_apply (F := Ideal) x0 x1 x2 x3 x4 x5 x6 x7 x8) (rv192 h))
    (t5_congr fun a ha b hb c hc d hd e he => by rw [Nat.add_comm 1 a, ← In.dS_sum p ha, ch64 hd])
theorem rv195 : val_main_v195 (F := Ideal) x0 x1 x2 x3 x4 x5 x6 x7 x8 = t4 fun a b c d => p.V (8 * a + b) c d :=
  Eq.trans (b := t4 fun a b c d => (p.ddy (8 * a + b) c d) * (p.dcy (8 * a + b) c d))
    (mul_nf (rv190 h) (rv103 h))
    (t4_congr fun a ha b hb c hc d hd => rfl)
theorem rv196 : val_main_v196 (F := Ideal) x0 x1 x2 x3 x4 x5 x6 x7 x8 = t4 fun a b c d => p.V (8 * a + b) c d := Eq.trans
  (b := t4 fun a b c d => if d ≤ c then p.V (8 * a + b) c d else 0)
  (sel_mask (P := fun i => (i 3).val ≤ (i 2).val)
    (fun i => tril_at (lt_trans (i 2).isLt (by decide : 65 < 2147483648)) (lt_trans (i 3).isLt (by decide : 65 < 2147483648))) (rv195 h) fun _ => zero_bits)
  (t4_congr fun _ _ _ _ _ _ _ _ => p.V_mask _ _ _)
theorem rv197 : val_main_v197 (F := Ideal) x0 x1 x2 x3 x4 x5 x6 x7 x8 = t3 fun a b c => ∑ k16 ∈ Finset.range 65, p.V (8 * a + b) c k16 := sum_nf _ (val_main_v197_apply x0 x1 x2 x3 x4 x5 x6 x7 x8) zero_bits (rv196 h) fun _ _ => rfl
theorem rv198 : val_main_v198 (F := Ideal) x0 x1 x2 x3 x4 x5 x6 x7 x8 = t4 fun a b c d => ∑ k16 ∈ Finset.range 65, p.V (8 * a + b) c k16 := read3 (f := fun a b c => ∑ k16 ∈ Finset.range 65, p.V (8 * a + b) c k16) (g0 := fun i => (i 0).val) (g1 := fun i => (i 1).val) (g2 := fun i => (i 2).val) (val_main_v198_apply _ _ _ _ _ _ _ _ _) (rv197 h) (fun i => by have h := lt4 i; show ((((i 0).val * 8 + (i 1).val) * 65 + (i 2).val) * 1 + (i 3).val) / 520 = (i 0).val; omega) (fun i => by have h := lt4 i; show ((((i 0).val * 8 + (i 1).val) * 65 + (i 2).val) * 1 + (i 3).val) / 65 % 8 = (i 1).val; omega) (fun i => by have h := lt4 i; show ((((i 0).val * 8 + (i 1).val) * 65 + (i 2).val) * 1 + (i 3).val) % 65 = (i 2).val; omega)
theorem rv199 : val_main_v199 (F := Ideal) x0 x1 x2 x3 x4 x5 x6 x7 x8 = t4 fun a b c d => -(p.V (8 * a + b) c d) := neg_nf (rv196 h)
theorem rv200 : val_main_v200 (F := Ideal) x0 x1 x2 x3 x4 x5 x6 x7 x8 = t3 fun a b c => ∑ k17 ∈ Finset.range 65, -(p.V (8 * a + b) k17 c) := sum_nf _ (val_main_v200_apply x0 x1 x2 x3 x4 x5 x6 x7 x8) zero_bits (rv199 h) fun _ _ => rfl
theorem rv201 : val_main_v201 (F := Ideal) x0 x1 x2 x3 x4 x5 x6 x7 x8 = t4 fun a b c d => ∑ k17 ∈ Finset.range 65, -(p.V (8 * a + b) k17 d) := read3 (f := fun a b c => ∑ k17 ∈ Finset.range 65, -(p.V (8 * a + b) k17 c)) (g0 := fun i => (i 0).val) (g1 := fun i => (i 1).val) (g2 := fun i => (i 3).val) (val_main_v201_apply _ _ _ _ _ _ _ _ _) (rv200 h) (fun i => by have h := lt4 i; show ((((i 0).val * 8 + (i 1).val) * 1 + (i 2).val) * 65 + (i 3).val) / 520 = (i 0).val; omega) (fun i => by have h := lt4 i; show ((((i 0).val * 8 + (i 1).val) * 1 + (i 2).val) * 65 + (i 3).val) / 65 % 8 = (i 1).val; omega) (fun i => by have h := lt4 i; show ((((i 0).val * 8 + (i 1).val) * 1 + (i 2).val) * 65 + (i 3).val) % 65 = (i 3).val; omega)
theorem rv202 : val_main_v202 (F := Ideal) x0 x1 x2 x3 x4 x5 x6 x7 x8 = t3 fun a b c => ∑ k17 ∈ Finset.range 65, -(p.V (8 * a + b) k17 c) :=
  Eq.trans (b := t3 fun a b c => ∑ k ∈ Finset.range 1, ∑ k17 ∈ Finset.range 65, -(p.V (8 * a + b) k17 c))
    (sum_nf _ (val_main_v202_apply x0 x1 x2 x3 x4 x5 x6 x7 x8) zero_bits (rv201 h) fun _ _ => rfl)
    (t3_congr fun a ha b hb c hc => Finset.sum_range_one _)
theorem rv203 : val_main_v203 (F := Ideal) x0 x1 x2 x3 x4 x5 x6 x7 x8 = t3 fun a b c => ∑ k16 ∈ Finset.range 65, p.V (8 * a + b) c k16 :=
  Eq.trans (b := t3 fun a b c => ∑ k ∈ Finset.range 1, ∑ k16 ∈ Finset.range 65, p.V (8 * a + b) c k16)
    (sum_nf _ (val_main_v203_apply x0 x1 x2 x3 x4 x5 x6 x7 x8) zero_bits (rv198 h) fun _ _ => rfl)
    (t3_congr fun a ha b hb c hc => Finset.sum_range_one _)
theorem rv204 : val_main_v204 (F := Ideal) x0 x1 x2 x3 x4 x5 x6 x7 x8 = t3 fun a b c => (∑ k17 ∈ Finset.range 65, -(p.V (8 * a + b) k17 c)) + (∑ k16 ∈ Finset.range 65, p.V (8 * a + b) c k16) := add_nf (rv202 h) (rv203 h)
theorem rv205 : val_main_v205 (F := Ideal) x0 x1 x2 x3 x4 x5 x6 x7 x8 = t3 fun a b c => ∑ k18 ∈ Finset.range 65, (if c ≤ k18 then 1 else 0) * ((∑ k17 ∈ Finset.range 65, -(p.V (8 * a + b) k17 k18)) + (∑ k16 ∈ Finset.range 65, p.V (8 * a + b) k18 k16)) :=
  Eq.trans (b := t3 fun a b c => ∑ k18 ∈ Finset.range 65, if 0 ≤ c + k18 ∧ c + k18 - 0 < 65 then (∑ k17 ∈ Finset.range 65, -(p.V (8 * a + b) k17 (c + k18 - 0))) + (∑ k16 ∈ Finset.range 65, p.V (8 * a + b) (c + k18 - 0) k16) else 0)
    (window_nf 2 (fun v => (∑ k17 ∈ Finset.range 65, -(p.V (8 * (v 0) + (v 1)) k17 (v 2))) + (∑ k16 ∈ Finset.range 65, p.V (8 * (v 0) + (v 1)) (v 2) k16)) (rv204 h) zero_bits (by decide) (by decide) (by decide))
    (t3_congr fun a ha b hb c hc => sum_backward (fun k => (∑ k17 ∈ Finset.range 65, -(p.V (8 * a + b) k17 k)) + (∑ k16 ∈ Finset.range 65, p.V (8 * a + b) k k16)) 65 c hc)
theorem rv207 : val_main_v207 (F := Ideal) x0 x1 x2 x3 x4 x5 x6 x7 x8 = t3 fun a b c => p.te c (8 * a + b) :=
  Eq.trans (b := t3 fun a b c => ∑ k18 ∈ Finset.range 65, (if (1 + c) ≤ k18 then 1 else 0) * ((∑ k17 ∈ Finset.range 65, -(p.V (8 * a + b) k17 k18)) + (∑ k16 ∈ Finset.range 65, p.V (8 * a + b) k18 k16)))
    (read_nf (val_main_v207_apply (F := Ideal) x0 x1 x2 x3 x4 x5 x6 x7 x8) (rv205 h))
    (t3_congr fun a ha b hb c hc => by rw [Nat.add_comm 1 c]; exact p.te_sum h.fwd hc _)
theorem rv208 : val_main_v208 (F := Ideal) x0 x1 x2 x3 x4 x5 x6 x7 x8 = t4 fun a b c d => p.te c (8 * a + b) := read_nf (val_main_v208_apply (F := Ideal) x0 x1 x2 x3 x4 x5 x6 x7 x8) (rv207 h)
theorem rv209 : val_main_v209 (F := Ideal) x0 x1 x2 x3 x4 x5 x6 x7 x8 = t4 fun a b c d => if 127 ≤ d ∧ d - 127 < 1 then p.te c (8 * a + b) else 0 := pad_nf 3 (fun v => p.te (v 2) (8 * (v 0) + (v 1))) (rv208 h) zero_bits (by decide) (by decide) (by decide)
theorem rv210 : val_main_v210 (F := Ideal) x0 x1 x2 x3 x4 x5 x6 x7 x8 = t4 fun a b c d => (hs (fun ch => p.dYe c d ch * p.CS c d ch) (8 * a + b)) + (if 127 ≤ d ∧ d - 127 < 1 then p.te c (8 * a + b) else 0) := add_nf (rv187 h) (rv209 h)
theorem rv211 : val_main_v211 (F := Ideal) x0 x1 x2 x3 x4 x5 x6 x7 x8 = t4 fun a b c d => ∑ x ∈ Finset.range 512, p.dS a c (512 * b + x) * p.Xd a d (512 * b + x) :=
  Eq.trans (b := t4 fun a b c d => ∑ k ∈ Finset.range 8, ∑ k' ∈ Finset.range 64, (p.dS a c (512 * b + 64 * k + (k'))) * (p.Xd a d (512 * b + 64 * k + (k'))))
    (dot2_nf rfl rfl rfl _ (rv194 h) (rv87 h) fun i q => rfl)
    (t4_congr fun a ha b hb c hc d hd => (Finset.sum_congr rfl fun k _ => Finset.sum_congr rfl fun q _ => by rw [Nat.add_assoc]).trans (sum_heads fun x => p.dS a c (512 * b + x) * p.Xd a d (512 * b + x)))
theorem rv212 : val_main_v212 (F := Ideal) x0 x1 x2 x3 x4 x5 x6 x7 x8 = t4 fun a b c d => ∑ x ∈ Finset.range 512, p.dS a d (512 * c + x) * p.Xd a b (512 * c + x) := read_nf (val_main_v212_apply (F := Ideal) x0 x1 x2 x3 x4 x5 x6 x7 x8) (rv211 h)
theorem rv213 : val_main_v213 (F := Ideal) x0 x1 x2 x3 x4 x5 x6 x7 x8 = t5 fun a b c d e => p.BS a e (512 * b + 64 * c + d) :=
  Eq.trans (b := t5 fun a b c d e => ∑ k19 ∈ Finset.range 128, (p.dS a k19 (512 * b + 64 * c + d)) * (p.B (128 * a + e) (128 * b + k19)))
    (dot_nf _ (val_main_v213_apply x0 x1 x2 x3 x4 x5 x6 x7 x8) (rv194 h) (rv59 h) fun _ _ => rfl)
    (t5_congr fun a ha b hb c hc d hd e he => by unfold In.BS; rw [ch512 hc hd]; exact Finset.sum_congr rfl fun _ _ => mul_comm _ _)
theorem rv214 : val_main_v214 (F := Ideal) x0 x1 x2 x3 x4 x5 x6 x7 x8 = t5 fun a b c d e => p.BS a b (512 * c + 64 * d + e) := read_nf (val_main_v214_apply (F := Ideal) x0 x1 x2 x3 x4 x5 x6 x7 x8) (rv213 h)
theorem rv215 : val_main_v215 (F := Ideal) x1 x4 x5 = t5 fun a b c d e => p.dec a b (8 * c + d) := read_nf (val_main_v215_apply (F := Ideal) x1 x4 x5) (rv85 h)
theorem rv216 : val_main_v216 (F := Ideal) x0 x1 x2 x3 x4 x5 x6 x7 x8 = t5 fun a b c d e => (p.dec a b (8 * c + d)) * (p.BS a b (512 * c + 64 * d + e)) := mul_nf (rv215 h) (rv214 h)
theorem rv217 : val_main_v217 (F := Ideal) x0 x1 x2 x3 x4 x5 x6 x7 x8 = t5 fun a b c d e => (p.BS a b (512 * c + 64 * d + e)) * (p.X (128 * a + b) (512 * c + 64 * d + e)) := mul_nf (rv214 h) (rv58 h)
theorem rv218 : val_main_v218 (F := Ideal) x0 x1 x2 x3 x4 x5 x6 x7 x8 = t4 fun a b c d => ∑ k20 ∈ Finset.range 64, (p.BS a b (512 * c + 64 * d + k20)) * (p.X (128 * a + b) (512 * c + 64 * d + k20)) := sum_nf _ (val_main_v218_apply x0 x1 x2 x3 x4 x5 x6 x7 x8) zero_bits (rv217 h) fun _ _ => rfl
theorem rv219 : val_main_v219 (F := Ideal) x0 x1 x2 x3 x4 x5 x6 x7 x8 = t5 fun a b c d e => ∑ k20 ∈ Finset.range 64, (p.BS a b (512 * c + 64 * d + k20)) * (p.X (128 * a + b) (512 * c + 64 * d + k20)) := read4 (f := fun a b c d => ∑ k20 ∈ Finset.range 64, (p.BS a b (512 * c + 64 * d + k20)) * (p.X (128 * a + b) (512 * c + 64 * d + k20))) (g0 := fun i => (i 0).val) (g1 := fun i => (i 1).val) (g2 := fun i => (i 2).val) (g3 := fun i => (i 3).val) (val_main_v219_apply _ _ _ _ _ _ _ _ _) (rv218 h) (fun i => by have h := lt5 i; show (((((i 0).val * 128 + (i 1).val) * 2 + (i 2).val) * 8 + (i 3).val) * 1 + (i 4).val) / 2048 = (i 0).val; omega) (fun i => by have h := lt5 i; show (((((i 0).val * 128 + (i 1).val) * 2 + (i 2).val) * 8 + (i 3).val) * 1 + (i 4).val) / 16 % 128 = (i 1).val; omega) (fun i => by have h := lt5 i; show (((((i 0).val * 128 + (i 1).val) * 2 + (i 2).val) * 8 + (i 3).val) * 1 + (i 4).val) / 8 % 2 = (i 2).val; omega) (fun i => by have h := lt5 i; show (((((i 0).val * 128 + (i 1).val) * 2 + (i 2).val) * 8 + (i 3).val) * 1 + (i 4).val) % 8 = (i 3).val; omega)
theorem rv220 : val_main_v220 (F := Ideal) x0 x1 x2 x3 x4 x5 x6 x7 x8 = t4 fun a b c d => ∑ k20 ∈ Finset.range 64, (p.BS a b (512 * c + 64 * d + k20)) * (p.X (128 * a + b) (512 * c + 64 * d + k20)) :=
  Eq.trans (b := t4 fun a b c d => ∑ k ∈ Finset.range 1, ∑ k20 ∈ Finset.range 64, (p.BS a b (512 * c + 64 * d + k20)) * (p.X (128 * a + b) (512 * c + 64 * d + k20)))
    (sum_nf _ (val_main_v220_apply x0 x1 x2 x3 x4 x5 x6 x7 x8) zero_bits (rv219 h) fun _ _ => rfl)
    (t4_congr fun a ha b hb c hc d hd => Finset.sum_range_one _)
theorem rv221 : val_main_v221 (F := Ideal) x0 x1 x2 x3 x4 x5 x6 x7 x8 = t4 fun a b c d => ∑ k20 ∈ Finset.range 64, (p.BS c d (512 * a + 64 * b + k20)) * (p.X (128 * c + d) (512 * a + 64 * b + k20)) := read_nf (val_main_v221_apply (F := Ideal) x0 x1 x2 x3 x4 x5 x6 x7 x8) (rv220 h)
theorem rv222 : val_main_v222 (F := Ideal) x0 x1 x2 x3 x4 x5 x6 x7 x8 = t4 fun a b c d => p.td c d (8 * a + b) :=
  Eq.trans (b := t4 fun a b c d => (∑ k20 ∈ Finset.range 64, (p.BS c d (512 * a + 64 * b + k20)) * (p.X (128 * c + d) (512 * a + 64 * b + k20))) * (p.dec c d (8 * a + b)))
    (mul_nf (rv221 h) (rv83 h))
    (t4_congr fun a ha b hb c hc d hd => by unfold In.td; rw [hs_ch]; exact congrArg (· * _) (Finset.sum_congr rfl fun _ _ => mul_comm _ _))
theorem rv223 : val_main_v223 (F := Ideal) x0 x1 x2 x3 x4 x5 x6 x7 x8 = t3 fun a b c => ∑ k21 ∈ Finset.range 128, p.td c k21 (8 * a + b) := sum_nf _ (val_main_v223_apply x0 x1 x2 x3 x4 x5 x6 x7 x8) zero_bits (rv222 h) fun _ _ => rfl
theorem rv224 : val_main_v224 (F := Ideal) x0 x1 x2 x3 x4 x5 x6 x7 x8 = t4 fun a b c d => ∑ k21 ∈ Finset.range 128, p.td c k21 (8 * a + b) := read3 (f := fun a b c => ∑ k21 ∈ Finset.range 128, p.td c k21 (8 * a + b)) (g0 := fun i => (i 0).val) (g1 := fun i => (i 1).val) (g2 := fun i => (i 2).val) (val_main_v224_apply _ _ _ _ _ _ _ _ _) (rv223 h) (fun i => by have h := lt4 i; show ((((i 0).val * 8 + (i 1).val) * 64 + (i 2).val) * 1 + (i 3).val) / 512 = (i 0).val; omega) (fun i => by have h := lt4 i; show ((((i 0).val * 8 + (i 1).val) * 64 + (i 2).val) * 1 + (i 3).val) / 64 % 8 = (i 1).val; omega) (fun i => by have h := lt4 i; show ((((i 0).val * 8 + (i 1).val) * 64 + (i 2).val) * 1 + (i 3).val) % 64 = (i 2).val; omega)
theorem rv225 : val_main_v225 (F := Ideal) x0 x1 x2 x3 x4 x5 x6 x7 x8 = t4 fun a b c d => -(p.td c d (8 * a + b)) := neg_nf (rv222 h)
theorem rv226 : val_main_v226 (F := Ideal) x0 x1 x2 x3 x4 x5 x6 x7 x8 = t4 fun a b c d => ((hs (fun ch => p.dYe c d ch * p.CS c d ch) (8 * a + b)) + (if 127 ≤ d ∧ d - 127 < 1 then p.te c (8 * a + b) else 0)) + (-(p.td c d (8 * a + b))) := add_nf (rv210 h) (rv225 h)
theorem rv227 : val_main_v227 (F := Ideal) x0 x1 x2 x3 x4 x5 x6 x7 x8 = t4 fun a b c d => if 127 ≤ d ∧ d - 127 < 1 then ∑ k21 ∈ Finset.range 128, p.td c k21 (8 * a + b) else 0 := pad_nf 3 (fun v => ∑ k21 ∈ Finset.range 128, p.td (v 2) k21 (8 * (v 0) + (v 1))) (rv224 h) zero_bits (by decide) (by decide) (by decide)
theorem rv228 : val_main_v228 (F := Ideal) x0 x1 x2 x3 x4 x5 x6 x7 x8 = t4 fun a b c d => (((hs (fun ch => p.dYe c d ch * p.CS c d ch) (8 * a + b)) + (if 127 ≤ d ∧ d - 127 < 1 then p.te c (8 * a + b) else 0)) + (-(p.td c d (8 * a + b)))) + (if 127 ≤ d ∧ d - 127 < 1 then ∑ k21 ∈ Finset.range 128, p.td c k21 (8 * a + b) else 0) := add_nf (rv226 h) (rv227 h)
theorem rv229 : val_main_v229 (F := Ideal) x0 x1 x2 x3 x4 x5 x6 x7 x8 = t5 fun a b c d e => p.dY (128 * a + e) (512 * b + 64 * c + d) := read_nf (val_main_v229_apply (F := Ideal) x0 x1 x2 x3 x4 x5 x6 x7 x8) (rv175 h)
theorem rv230 : val_main_v230 (F := Ideal) x0 x1 x2 x3 x4 x5 x6 x7 x8 = t5 fun a b c d e => p.dM a (8 * b + c) d e :=
  Eq.trans (b := t5 fun a b c d e => ∑ k22 ∈ Finset.range 64, (p.dY (128 * a + d) (512 * b + 64 * c + k22)) * (p.X (128 * a + e) (512 * b + 64 * c + k22)))
    (dot_nf _ (val_main_v230_apply x0 x1 x2 x3 x4 x5 x6 x7 x8) (rv229 h) (rv58 h) fun _ _ => rfl)
    (t5_congr fun a ha b hb c hc d hd e he => by unfold In.dM; simp only [hch])
theorem rv231 : val_main_v231 (F := Ideal) x0 x1 x2 x3 x4 x5 x6 x7 x8 = t5 fun a b c d e => p.dM c (8 * a + b) d e := read_nf (val_main_v231_apply (F := Ideal) x0 x1 x2 x3 x4 x5 x6 x7 x8) (rv230 h)
theorem rv232 : val_main_v232 (F := Ideal) x0 x1 x2 x3 x4 x5 x6 x7 x8 = t5 fun a b c d e => p.dXd a e (512 * b + 64 * c + d) :=
  Eq.trans (b := t5 fun a b c d e => ∑ k23 ∈ Finset.range 128, (p.dY (128 * a + k23) (512 * b + 64 * c + d)) * ((p.sc a b k23 e) * (p.lam a (8 * b + c) k23 e)))
    (dot_nf _ (val_main_v232_apply x0 x1 x2 x3 x4 x5 x6 x7 x8) (rv229 h) (rv77 h) fun _ _ => rfl)
    (t5_congr fun a ha b hb c hc d hd e he => by unfold In.dXd; rw [ch64 hd, ch512 hc hd]; exact Finset.sum_congr rfl fun _ _ => mul_comm _ _)
theorem rv233 : val_main_v233 (F := Ideal) x0 x1 x2 x3 x4 x5 x6 x7 x8 = t5 fun a b c d e => p.dXd a b (512 * c + 64 * d + e) := read_nf (val_main_v233_apply (F := Ideal) x0 x1 x2 x3 x4 x5 x6 x7 x8) (rv232 h)
theorem rv234 : val_main_v234 (F := Ideal) x0 x1 x2 x3 x4 x5 x6 x7 x8 = t5 fun a b c d e => p.dX a b (512 * c + 64 * d + e) :=
  Eq.trans (b := t5 fun a b c d e => ((p.dec a b (8 * c + d)) * (p.BS a b (512 * c + 64 * d + e))) + (p.dXd a b (512 * c + 64 * d + e)))
    (add_nf (rv216 h) (rv233 h))
    (t5_congr fun a ha b hb c hc d hd e he => by unfold In.dX; rw [ch64 he, add_comm])

end Cert.Proof.Ssd.Ref
-- ==== Proof.SsdRefE.lean ====
/- The reference read on finite arguments: the gradient of the decays and of the step sizes. -/
module

public import proofs.«01_k».proof.Proof.SsdRefD

@[expose] public section

noncomputable section

namespace Cert.Proof.Ssd.Ref

open Idealize.ShloMosaic Idealize.ShloMosaic.ValueIdx Cert.SsdReferenceIdeal Cert.SsdReferenceIdeal.Gen Cert.SsdReferenceIdeal.Read
open scoped BigOperators

variable {p : In} {x0 : (⟨S8192x4608, .f32⟩ : BufTy).Contents (Elt Ideal)} {x1 : (⟨S8192x16, .f32⟩ : BufTy).Contents (Elt Ideal)}
  {x2 : (⟨S4x1536, .f32⟩ : BufTy).Contents (Elt Ideal)} {x3 : (⟨S1x1536, .f32⟩ : BufTy).Contents (Elt Ideal)}
  {x4 x5 x6 : (⟨S1x16, .f32⟩ : BufTy).Contents (Elt Ideal)} {x7 : (⟨S1x1024, .f32⟩ : BufTy).Contents (Elt Ideal)}
  {x8 : (⟨S8192x1024, .f32⟩ : BufTy).Contents (Elt Ideal)} (h : Rd p x0 x1 x2 x3 x4 x5 x6 x7 x8)
include h

theorem rv235 : val_main_v235 (F := Ideal) x0 x2 x3 = t5 fun a b c d e => p.sc c a d e := read_nf (val_main_v235_apply (F := Ideal) x0 x2 x3) (rv75 h)
theorem rv236 : val_main_v236 (F := Ideal) x0 x1 x2 x3 x4 x5 x6 x7 x8 = t5 fun a b c d e => (p.sc c a d e) * (p.dM c (8 * a + b) d e) := mul_nf (rv235 h) (rv231 h)
theorem rv237 : val_main_v237 (F := Ideal) x0 x1 x2 x3 x4 x5 x6 x7 x8 = t5 fun a b c d e => (p.dM c (8 * a + b) d e) * (p.lam c (8 * a + b) d e) := mul_nf (rv231 h) (rv73 h)
theorem rv238 : val_main_v238 (F := Ideal) x0 x1 x2 x3 x4 x5 x6 x7 x8 = t4 fun a b c d => p.dG b a c d :=
  Eq.trans (b := t4 fun a b c d => ∑ k24 ∈ Finset.range 8, (p.dM b (8 * a + k24) c d) * (p.lam b (8 * a + k24) c d))
    (sum_nf _ (val_main_v238_apply x0 x1 x2 x3 x4 x5 x6 x7 x8) zero_bits (rv237 h) fun _ _ => rfl)
    (t4_congr fun a ha b hb c hc d hd => rfl)
theorem rv239 : val_main_v239 (F := Ideal) x0 x1 x2 x3 x4 x5 x6 x7 x8 = t5 fun a b c d e => p.dG c a d e := read4 (f := fun a b c d => p.dG b a c d) (g0 := fun i => (i 0).val) (g1 := fun i => (i 2).val) (g2 := fun i => (i 3).val) (g3 := fun i => (i 4).val) (val_main_v239_apply _ _ _ _ _ _ _ _ _) (rv238 h) (fun i => by have h := lt5 i; show (((((i 0).val * 1 + (i 1).val) * 64 + (i 2).val) * 128 + (i 3).val) * 128 + (i 4).val) / 1048576 = (i 0).val; omega) (fun i => by have h := lt5 i; show (((((i 0).val * 1 + (i 1).val) * 64 + (i 2).val) * 128 + (i 3).val) * 128 + (i 4).val) / 16384 % 64 = (i 2).val; omega) (fun i => by have h := lt5 i; show (((((i 0).val * 1 + (i 1).val) * 64 + (i 2).val) * 128 + (i 3).val) * 128 + (i 4).val) / 128 % 128 = (i 3).val; omega) (fun i => by have h := lt5 i; show (((((i 0).val * 1 + (i 1).val) * 64 + (i 2).val) * 128 + (i 3).val) * 128 + (i 4).val) % 128 = (i 4).val; omega)
theorem rv240 : val_main_v240 (F := Ideal) x0 x1 x2 x3 x4 x5 x6 x7 x8 = t4 fun a b c d => p.dG b a c d :=
  Eq.trans (b := t4 fun a b c d => ∑ k ∈ Finset.range 1, p.dG b a c d)
    (sum_nf _ (val_main_v240_apply x0 x1 x2 x3 x4 x5 x6 x7 x8) zero_bits (rv239 h) fun _ _ => rfl)
    (t4_congr fun a ha b hb c hc d hd => Finset.sum_range_one _)
theorem rv241 : val_main_v241 (F := Ideal) x0 x1 x2 x3 x4 x5 x6 x7 x8 = t4 fun a b c d => ∑ k25 ∈ Finset.range 128, (p.dG b a k25 c) * (p.C (128 * b + k25) (128 * a + d)) := dot_nf _ (val_main_v241_apply x0 x1 x2 x3 x4 x5 x6 x7 x8) (rv240 h) (rv60 h) fun _ _ => rfl
theorem rv242 : val_main_v242 (F := Ideal) x0 x1 x2 x3 x4 x5 x6 x7 x8 = t4 fun a b c d => ∑ k25 ∈ Finset.range 128, (p.dG a c k25 b) * (p.C (128 * a + k25) (128 * c + d)) := read_nf (val_main_v242_apply (F := Ideal) x0 x1 x2 x3 x4 x5 x6 x7 x8) (rv241 h)
theorem rv243 : val_main_v243 (F := Ideal) x0 x1 x2 x3 x4 x5 x6 x7 x8 = t4 fun a b c d => p.dB a b (128 * c + d) :=
  Eq.trans (b := t4 fun a b c d => (∑ x ∈ Finset.range 512, p.dS a d (512 * c + x) * p.Xd a b (512 * c + x)) + (∑ k25 ∈ Finset.range 128, (p.dG a c k25 b) * (p.C (128 * a + k25) (128 * c + d))))
    (add_nf (rv212 h) (rv242 h))
    (t4_congr fun a ha b hb c hc d hd => by unfold In.dB; rw [dv128 hd, md128 hd, add_comm]; exact congrArg₂ (· + ·) rfl (Finset.sum_congr rfl fun _ _ => mul_comm _ _))
theorem rv244 : val_main_v244 (F := Ideal) x0 x1 x2 x3 x4 x5 x6 x7 x8 = t4 fun a b c d => ∑ k26 ∈ Finset.range 128, (p.dG b a c k26) * (p.B (128 * b + k26) (128 * a + d)) := dot_nf _ (val_main_v244_apply x0 x1 x2 x3 x4 x5 x6 x7 x8) (rv240 h) (rv59 h) fun _ _ => rfl
theorem rv245 : val_main_v245 (F := Ideal) x0 x1 x2 x3 x4 x5 x6 x7 x8 = t4 fun a b c d => ∑ k26 ∈ Finset.range 128, (p.dG a c b k26) * (p.B (128 * a + k26) (128 * c + d)) := read_nf (val_main_v245_apply (F := Ideal) x0 x1 x2 x3 x4 x5 x6 x7 x8) (rv244 h)
theorem rv246 : val_main_v246 (F := Ideal) x0 x1 x2 x3 x4 x5 x6 x7 x8 = t4 fun a b c d => p.dC a b (128 * c + d) :=
  Eq.trans (b := t4 fun a b c d => (∑ x ∈ Finset.range 512, p.dYe a b (512 * c + x) * p.S a d (512 * c + x)) + (∑ k26 ∈ Finset.range 128, (p.dG a c b k26) * (p.B (128 * a + k26) (128 * c + d))))
    (add_nf (rv183 h) (rv245 h))
    (t4_congr fun a ha b hb c hc d hd => by unfold In.dC; rw [dv128 hd, md128 hd, add_comm])
theorem rv247 : val_main_v247 (F := Ideal) x0 x1 x2 x3 x4 x5 x6 x7 x8 = t5 fun a b c d e => p.W c (8 * a + b) d e :=
  Eq.trans (b := t5 fun a b c d e => ((p.sc c a d e) * (p.dM c (8 * a + b) d e)) * (p.lam c (8 * a + b) d e))
    (mul_nf (rv236 h) (rv73 h))
    (t5_congr fun a ha b hb c hc d hd e he => by unfold In.W; rw [hd8 hb]; ring)
theorem rv248 : val_main_v248 (F := Ideal) x0 x1 x2 x3 x4 x5 x6 x7 x8 = t5 fun a b c d e => p.W c (8 * a + b) d e := Eq.trans
  (b := t5 fun a b c d e => if e ≤ d then p.W c (8 * a + b) d e else 0)
  (sel_mask (P := fun i => (i 4).val ≤ (i 3).val)
    (fun i => tril_at (lt_trans (i 3).isLt (by decide : 128 < 2147483648)) (lt_trans (i 4).isLt (by decide : 128 < 2147483648))) (rv247 h) fun _ => zero_bits)
  (t5_congr fun _ _ _ _ _ _ _ _ _ _ => p.W_mask _ _ _ _)
theorem rv249 : val_main_v249 (F := Ideal) x0 x1 x2 x3 x4 x5 x6 x7 x8 = t4 fun a b c d => ∑ k27 ∈ Finset.range 128, p.W c (8 * a + b) d k27 := sum_nf _ (val_main_v249_apply x0 x1 x2 x3 x4 x5 x6 x7 x8) zero_bits (rv248 h) fun _ _ => rfl
theorem rv250 : val_main_v250 (F := Ideal) x0 x1 x2 x3 x4 x5 x6 x7 x8 = t5 fun a b c d e => ∑ k27 ∈ Finset.range 128, p.W c (8 * a + b) d k27 := read4 (f := fun a b c d => ∑ k27 ∈ Finset.range 128, p.W c (8 * a + b) d k27) (g0 := fun i => (i 0).val) (g1 := fun i => (i 1).val) (g2 := fun i => (i 2).val) (g3 := fun i => (i 3).val) (val_main_v250_apply _ _ _ _ _ _ _ _ _) (rv249 h) (fun i => by have h := lt5 i; show (((((i 0).val * 8 + (i 1).val) * 64 + (i 2).val) * 128 + (i 3).val) * 1 + (i 4).val) / 65536 = (i 0).val; omega) (fun i => by have h := lt5 i; show (((((i 0).val * 8 + (i 1).val) * 64 + (i 2).val) * 128 + (i 3).val) * 1 + (i 4).val) / 8192 % 8 = (i 1).val; omega) (fun i => by have h := lt5 i; show (((((i 0).val * 8 + (i 1).val) * 64 + (i 2).val) * 128 + (i 3).val) * 1 + (i 4).val) / 128 % 64 = (i 2).val; omega) (fun i => by have h := lt5 i; show (((((i 0).val * 8 + (i 1).val) * 64 + (i 2).val) * 128 + (i 3).val) * 1 + (i 4).val) % 128 = (i 3).val; omega)
theorem rv251 : val_main_v251 (F := Ideal) x0 x1 x2 x3 x4 x5 x6 x7 x8 = t5 fun a b c d e => -(p.W c (8 * a + b) d e) := neg_nf (rv248 h)
theorem rv252 : val_main_v252 (F := Ideal) x0 x1 x2 x3 x4 x5 x6 x7 x8 = t4 fun a b c d => ∑ k28 ∈ Finset.range 128, -(p.W c (8 * a + b) k28 d) := sum_nf _ (val_main_v252_apply x0 x1 x2 x3 x4 x5 x6 x7 x8) zero_bits (rv251 h) fun _ _ => rfl
theorem rv253 : val_main_v253 (F := Ideal) x0 x1 x2 x3 x4 x5 x6 x7 x8 = t5 fun a b c d e => ∑ k28 ∈ Finset.range 128, -(p.W c (8 * a + b) k28 e) := read4 (f := fun a b c d => ∑ k28 ∈ Finset.range 128, -(p.W c (8 * a + b) k28 d)) (g0 := fun i => (i 0).val) (g1 := fun i => (i 1).val) (g2 := fun i => (i 2).val) (g3 := fun i => (i 4).val) (val_main_v253_apply _ _ _ _ _ _ _ _ _) (rv252 h) (fun i => by have h := lt5 i; show (((((i 0).val * 8 + (i 1).val) * 64 + (i 2).val) * 1 + (i 3).val) * 128 + (i 4).val) / 65536 = (i 0).val; omega) (fun i => by have h := lt5 i; show (((((i 0).val * 8 + (i 1).val) * 64 + (i 2).val) * 1 + (i 3).val) * 128 + (i 4).val) / 8192 % 8 = (i 1).val; omega) (fun i => by have h := lt5 i; show (((((i 0).val * 8 + (i 1).val) * 64 + (i 2).val) * 1 + (i 3).val) * 128 + (i 4).val) / 128 % 64 = (i 2).val; omega) (fun i => by have h := lt5 i; show (((((i 0).val * 8 + (i 1).val) * 64 + (i 2).val) * 1 + (i 3).val) * 128 + (i 4).val) % 128 = (i 4).val; omega)
theorem rv254 : val_main_v254 (F := Ideal) x0 x1 x2 x3 x4 x5 x6 x7 x8 = t4 fun a b c d => ∑ k28 ∈ Finset.range 128, -(p.W c (8 * a + b) k28 d) :=
  Eq.trans (b := t4 fun a b c d => ∑ k ∈ Finset.range 1, ∑ k28 ∈ Finset.range 128, -(p.W c (8 * a + b) k28 d))
    (sum_nf _ (val_main_v254_apply x0 x1 x2 x3 x4 x5 x6 x7 x8) zero_bits (rv253 h) fun _ _ => rfl)
    (t4_congr fun a ha b hb c hc d hd => Finset.sum_range_one _)
theorem rv255 : val_main_v255 (F := Ideal) x0 x1 x2 x3 x4 x5 x6 x7 x8 = t4 fun a b c d => ∑ k27 ∈ Finset.range 128, p.W c (8 * a + b) d k27 :=
  Eq.trans (b := t4 fun a b c d => ∑ k ∈ Finset.range 1, ∑ k27 ∈ Finset.range 128, p.W c (8 * a + b) d k27)
    (sum_nf _ (val_main_v255_apply x0 x1 x2 x3 x4 x5 x6 x7 x8) zero_bits (rv250 h) fun _ _ => rfl)
    (t4_congr fun a ha b hb c hc d hd => Finset.sum_range_one _)
theorem rv256 : val_main_v256 (F := Ideal) x0 x1 x2 x3 x4 x5 x6 x7 x8 = t4 fun a b c d => (∑ k28 ∈ Finset.range 128, -(p.W c (8 * a + b) k28 d)) + (∑ k27 ∈ Finset.range 128, p.W c (8 * a + b) d k27) := add_nf (rv254 h) (rv255 h)
theorem rv257 : val_main_v257 (F := Ideal) x0 x1 x2 x3 x4 x5 x6 x7 x8 = t4 fun a b c d => ∑ k29 ∈ Finset.range 128, (if d ≤ k29 then 1 else 0) * ((∑ k28 ∈ Finset.range 128, -(p.W c (8 * a + b) k28 k29)) + (∑ k27 ∈ Finset.range 128, p.W c (8 * a + b) k29 k27)) :=
  Eq.trans (b := t4 fun a b c d => ∑ k29 ∈ Finset.range 128, if 0 ≤ d + k29 ∧ d + k29 - 0 < 128 then (∑ k28 ∈ Finset.range 128, -(p.W c (8 * a + b) k28 (d + k29 - 0))) + (∑ k27 ∈ Finset.range 128, p.W c (8 * a + b) (d + k29 - 0) k27) else 0)
    (window_nf 3 (fun v => (∑ k28 ∈ Finset.range 128, -(p.W (v 2) (8 * (v 0) + (v 1)) k28 (v 3))) + (∑ k27 ∈ Finset.range 128, p.W (v 2) (8 * (v 0) + (v 1)) (v 3) k27)) (rv256 h) zero_bits (by decide) (by decide) (by decide))
    (t4_congr fun a ha b hb c hc d hd => sum_backward (fun k => (∑ k28 ∈ Finset.range 128, -(p.W c (8 * a + b) k28 k)) + (∑ k27 ∈ Finset.range 128, p.W c (8 * a + b) k k27)) 128 d hd)
theorem rv258 : val_main_v258 (F := Ideal) x0 x1 x2 x3 x4 x5 x6 x7 x8 = t4 fun a b c d => ∑ k30 ∈ Finset.range 128, (if d ≤ k30 then 1 else 0) * ((((hs (fun ch => p.dYe c k30 ch * p.CS c k30 ch) (8 * a + b)) + (if 127 ≤ k30 ∧ k30 - 127 < 1 then p.te c (8 * a + b) else 0)) + (-(p.td c k30 (8 * a + b)))) + (if 127 ≤ k30 ∧ k30 - 127 < 1 then ∑ k21 ∈ Finset.range 128, p.td c k21 (8 * a + b) else 0)) :=
  Eq.trans (b := t4 fun a b c d => ∑ k30 ∈ Finset.range 128, if 0 ≤ d + k30 ∧ d + k30 - 0 < 128 then (((hs (fun ch => p.dYe c (d + k30 - 0) ch * p.CS c (d + k30 - 0) ch) (8 * a + b)) + (if 127 ≤ (d + k30 - 0) ∧ (d + k30 - 0) - 127 < 1 then p.te c (8 * a + b) else 0)) + (-(p.td c (d + k30 - 0) (8 * a + b)))) + (if 127 ≤ (d + k30 - 0) ∧ (d + k30 - 0) - 127 < 1 then ∑ k21 ∈ Finset.range 128, p.td c k21 (8 * a + b) else 0) else 0)
    (window_nf 3 (fun v => (((hs (fun ch => p.dYe (v 2) (v 3) ch * p.CS (v 2) (v 3) ch) (8 * (v 0) + (v 1))) + (if 127 ≤ (v 3) ∧ (v 3) - 127 < 1 then p.te (v 2) (8 * (v 0) + (v 1)) else 0)) + (-(p.td (v 2) (v 3) (8 * (v 0) + (v 1))))) + (if 127 ≤ (v 3) ∧ (v 3) - 127 < 1 then ∑ k21 ∈ Finset.range 128, p.td (v 2) k21 (8 * (v 0) + (v 1)) else 0)) (rv228 h) zero_bits (by decide) (by decide) (by decide))
    (t4_congr fun a ha b hb c hc d hd => sum_backward (fun k => (((hs (fun ch => p.dYe c k ch * p.CS c k ch) (8 * a + b)) + (if 127 ≤ k ∧ k - 127 < 1 then p.te c (8 * a + b) else 0)) + (-(p.td c k (8 * a + b)))) + (if 127 ≤ k ∧ k - 127 < 1 then ∑ k21 ∈ Finset.range 128, p.td c k21 (8 * a + b) else 0)) 128 d hd)
theorem rv259 : val_main_v259 (F := Ideal) x0 x1 x2 x3 x4 x5 x6 x7 x8 = t4 fun a b c d => p.da c d (8 * a + b) :=
  Eq.trans (b := t4 fun a b c d => (∑ k29 ∈ Finset.range 128, (if d ≤ k29 then 1 else 0) * ((∑ k28 ∈ Finset.range 128, -(p.W c (8 * a + b) k28 k29)) + (∑ k27 ∈ Finset.range 128, p.W c (8 * a + b) k29 k27))) + (∑ k30 ∈ Finset.range 128, (if d ≤ k30 then 1 else 0) * ((((hs (fun ch => p.dYe c k30 ch * p.CS c k30 ch) (8 * a + b)) + (if 127 ≤ k30 ∧ k30 - 127 < 1 then p.te c (8 * a + b) else 0)) + (-(p.td c k30 (8 * a + b)))) + (if 127 ≤ k30 ∧ k30 - 127 < 1 then ∑ k21 ∈ Finset.range 128, p.td c k21 (8 * a + b) else 0))))
    (add_nf (rv257 h) (rv258 h))
    (t4_congr fun a ha b hb c hc d hd => p.da_sum (by omega))
theorem rv260 : val_main_v260 (F := Ideal) x0 x1 x2 x3 x4 x5 x6 x7 x8 = t4 fun a b c d => p.da a b (8 * c + d) := read_nf (val_main_v260_apply (F := Ideal) x0 x1 x2 x3 x4 x5 x6 x7 x8) (rv259 h)
theorem rv261 : val_main_v261 (F := Ideal) x0 x1 x2 x3 x4 x5 x6 x7 x8 = t3 fun a b c => p.da (a / 128) (a % 128) (8 * b + c) := read4 (f := fun a b c d => p.da a b (8 * c + d)) (g0 := fun i => ((i 0).val) / 128) (g1 := fun i => ((i 0).val) % 128) (g2 := fun i => (i 1).val) (g3 := fun i => (i 2).val) (val_main_v261_apply _ _ _ _ _ _ _ _ _) (rv260 h) (fun i => by have h := lt3 i; show (((i 0).val * 2 + (i 1).val) * 8 + (i 2).val) / 2048 = ((i 0).val) / 128; omega) (fun i => by have h := lt3 i; show (((i 0).val * 2 + (i 1).val) * 8 + (i 2).val) / 16 % 128 = ((i 0).val) % 128; omega) (fun i => by have h := lt3 i; show (((i 0).val * 2 + (i 1).val) * 8 + (i 2).val) / 8 % 2 = (i 1).val; omega) (fun i => by have h := lt3 i; show (((i 0).val * 2 + (i 1).val) * 8 + (i 2).val) % 8 = (i 2).val; omega)
theorem rv262 : val_main_v262 (F := Ideal) x0 x1 x2 x3 x4 x5 x6 x7 x8 = t3 fun a b c => p.dC (a / 128) (a % 128) (128 * b + c) := read4 (f := fun a b c d => p.dC a b (128 * c + d)) (g0 := fun i => ((i 0).val) / 128) (g1 := fun i => ((i 0).val) % 128) (g2 := fun i => (i 1).val) (g3 := fun i => (i 2).val) (val_main_v262_apply _ _ _ _ _ _ _ _ _) (rv246 h) (fun i => by have h := lt3 i; show (((i 0).val * 2 + (i 1).val) * 128 + (i 2).val) / 32768 = ((i 0).val) / 128; omega) (fun i => by have h := lt3 i; show (((i 0).val * 2 + (i 1).val) * 128 + (i 2).val) / 256 % 128 = ((i 0).val) % 128; omega) (fun i => by have h := lt3 i; show (((i 0).val * 2 + (i 1).val) * 128 + (i 2).val) / 128 % 2 = (i 1).val; omega) (fun i => by have h := lt3 i; show (((i 0).val * 2 + (i 1).val) * 128 + (i 2).val) % 128 = (i 2).val; omega)
theorem rv263 : val_main_v263 (F := Ideal) x0 x1 x2 x3 x4 x5 x6 x7 x8 = t3 fun a b c => p.dB (a / 128) (a % 128) (128 * b + c) := read4 (f := fun a b c d => p.dB a b (128 * c + d)) (g0 := fun i => ((i 0).val) / 128) (g1 := fun i => ((i 0).val) % 128) (g2 := fun i => (i 1).val) (g3 := fun i => (i 2).val) (val_main_v263_apply _ _ _ _ _ _ _ _ _) (rv243 h) (fun i => by have h := lt3 i; show (((i 0).val * 2 + (i 1).val) * 128 + (i 2).val) / 32768 = ((i 0).val) / 128; omega) (fun i => by have h := lt3 i; show (((i 0).val * 2 + (i 1).val) * 128 + (i 2).val) / 256 % 128 = ((i 0).val) % 128; omega) (fun i => by have h := lt3 i; show (((i 0).val * 2 + (i 1).val) * 128 + (i 2).val) / 128 % 2 = (i 1).val; omega) (fun i => by have h := lt3 i; show (((i 0).val * 2 + (i 1).val) * 128 + (i 2).val) % 128 = (i 2).val; omega)
theorem rv264 : val_main_v264 (F := Ideal) x0 x1 x2 x3 x4 x5 x6 x7 x8 = t4 fun a b c d => p.dX (a / 128) (a % 128) (512 * b + 64 * c + d) := read5 (f := fun a b c d e => p.dX a b (512 * c + 64 * d + e)) (g0 := fun i => ((i 0).val) / 128) (g1 := fun i => ((i 0).val) % 128) (g2 := fun i => (i 1).val) (g3 := fun i => (i 2).val) (g4 := fun i => (i 3).val) (val_main_v264_apply _ _ _ _ _ _ _ _ _) (rv234 h) (fun i => by have h := lt4 i; show ((((i 0).val * 2 + (i 1).val) * 8 + (i 2).val) * 64 + (i 3).val) / 131072 = ((i 0).val) / 128; omega) (fun i => by have h := lt4 i; show ((((i 0).val * 2 + (i 1).val) * 8 + (i 2).val) * 64 + (i 3).val) / 1024 % 128 = ((i 0).val) % 128; omega) (fun i => by have h := lt4 i; show ((((i 0).val * 2 + (i 1).val) * 8 + (i 2).val) * 64 + (i 3).val) / 512 % 2 = (i 1).val; omega) (fun i => by have h := lt4 i; show ((((i 0).val * 2 + (i 1).val) * 8 + (i 2).val) * 64 + (i 3).val) / 64 % 8 = (i 2).val; omega) (fun i => by have h := lt4 i; show ((((i 0).val * 2 + (i 1).val) * 8 + (i 2).val) * 64 + (i 3).val) % 64 = (i 3).val; omega)
theorem rv265 : val_main_v265 (F := Ideal) x0 x1 x2 x3 x4 x5 x6 x7 x8 = t3 fun a b c => (p.dt a (8 * b + c)) * (p.da (a / 128) (a % 128) (8 * b + c)) := mul_nf (rv50 h) (rv261 h)
theorem rv266 : val_main_v266 (F := Ideal) x0 x1 x2 x3 x4 x5 x6 x7 x8 = t2 fun a b => ∑ k31 ∈ Finset.range 8192, (p.dt k31 (8 * a + b)) * (p.da (k31 / 128) (k31 % 128) (8 * a + b)) := sum_nf _ (val_main_v266_apply x0 x1 x2 x3 x4 x5 x6 x7 x8) zero_bits (rv265 h) fun _ _ => rfl
theorem rv267 : val_main_v267 (F := Ideal) x0 x1 x2 x3 x4 x5 x6 x7 x8 = t3 fun a b c => ∑ k31 ∈ Finset.range 8192, (p.dt k31 (8 * b + c)) * (p.da (k31 / 128) (k31 % 128) (8 * b + c)) := read2 (f := fun a b => ∑ k31 ∈ Finset.range 8192, (p.dt k31 (8 * a + b)) * (p.da (k31 / 128) (k31 % 128) (8 * a + b))) (g0 := fun i => (i 1).val) (g1 := fun i => (i 2).val) (val_main_v267_apply _ _ _ _ _ _ _ _ _) (rv266 h) (fun i => by have h := lt3 i; show (((i 0).val * 2 + (i 1).val) * 8 + (i 2).val) / 8 = (i 1).val; omega) (fun i => by have h := lt3 i; show (((i 0).val * 2 + (i 1).val) * 8 + (i 2).val) % 8 = (i 2).val; omega)
theorem rv268 : val_main_v268 (F := Ideal) x5 = t3 fun a b c => p.A (8 * b + c) := read_nf (val_main_v268_apply (F := Ideal) x5) (rv55 h)
theorem rv269 : val_main_v269 (F := Ideal) x0 x1 x2 x3 x4 x5 x6 x7 x8 = t3 fun a b c => (p.da (a / 128) (a % 128) (8 * b + c)) * (p.A (8 * b + c)) := mul_nf (rv261 h) (rv268 h)
theorem rv270 : val_main_v270 (F := Ideal) x0 x1 x2 x3 x4 x5 x6 x7 x8 = t2 fun a b => ∑ k31 ∈ Finset.range 8192, (p.dt k31 (8 * a + b)) * (p.da (k31 / 128) (k31 % 128) (8 * a + b)) :=
  Eq.trans (b := t2 fun a b => ∑ k ∈ Finset.range 1, ∑ k31 ∈ Finset.range 8192, (p.dt k31 (8 * a + b)) * (p.da (k31 / 128) (k31 % 128) (8 * a + b)))
    (sum_nf _ (val_main_v270_apply x0 x1 x2 x3 x4 x5 x6 x7 x8) zero_bits (rv267 h) fun _ _ => rfl)
    (t2_congr fun a ha b hb => Finset.sum_range_one _)
theorem rv271 : val_main_v271 (F := Ideal) x0 x1 x2 x3 x4 x5 x6 x7 x8 = t2 fun a b => p.rA b :=
  Eq.trans (b := t2 fun a b => ∑ k31 ∈ Finset.range 8192, (p.dt k31 (8 * (b / 8) + (b % 8))) * (p.da (k31 / 128) (k31 % 128) (8 * (b / 8) + (b % 8))))
    (read2 (f := fun a b => ∑ k31 ∈ Finset.range 8192, (p.dt k31 (8 * a + b)) * (p.da (k31 / 128) (k31 % 128) (8 * a + b))) (g0 := fun i => ((i 1).val) / 8) (g1 := fun i => ((i 1).val) % 8) (val_main_v271_apply _ _ _ _ _ _ _ _ _) (rv270 h) (fun i => by have h := lt2 i; show ((i 0).val * 16 + (i 1).val) / 8 = ((i 1).val) / 8; omega) (fun i => by have h := lt2 i; show ((i 0).val * 16 + (i 1).val) % 8 = ((i 1).val) % 8; omega))
    (t2_congr fun a ha b hb => by unfold In.rA; rw [flat8]; exact Finset.sum_congr rfl fun _ _ => mul_comm _ _)
theorem rv272 : val_main_v272 (F := Ideal) x0 x1 x2 x3 x4 x5 x6 x7 x8 = t4 fun a b c d => (p.u a (512 * b + 64 * c + d)) * (p.dX (a / 128) (a % 128) (512 * b + 64 * c + d)) := mul_nf (rv42 h) (rv264 h)
theorem rv273 : val_main_v273 (F := Ideal) x0 x1 x2 x3 x4 x5 x6 x7 x8 = t3 fun a b c => ∑ k32 ∈ Finset.range 64, (p.u a (512 * b + 64 * c + k32)) * (p.dX (a / 128) (a % 128) (512 * b + 64 * c + k32)) := sum_nf _ (val_main_v273_apply x0 x1 x2 x3 x4 x5 x6 x7 x8) zero_bits (rv272 h) fun _ _ => rfl
theorem rv274 : val_main_v274 (F := Ideal) x0 x1 x2 x3 x4 x5 x6 x7 x8 = t4 fun a b c d => ∑ k32 ∈ Finset.range 64, (p.u a (512 * b + 64 * c + k32)) * (p.dX (a / 128) (a % 128) (512 * b + 64 * c + k32)) := read3 (f := fun a b c => ∑ k32 ∈ Finset.range 64, (p.u a (512 * b + 64 * c + k32)) * (p.dX (a / 128) (a % 128) (512 * b + 64 * c + k32))) (g0 := fun i => (i 0).val) (g1 := fun i => (i 1).val) (g2 := fun i => (i 2).val) (val_main_v274_apply _ _ _ _ _ _ _ _ _) (rv273 h) (fun i => by have h := lt4 i; show ((((i 0).val * 2 + (i 1).val) * 8 + (i 2).val) * 1 + (i 3).val) / 16 = (i 0).val; omega) (fun i => by have h := lt4 i; show ((((i 0).val * 2 + (i 1).val) * 8 + (i 2).val) * 1 + (i 3).val) / 8 % 2 = (i 1).val; omega) (fun i => by have h := lt4 i; show ((((i 0).val * 2 + (i 1).val) * 8 + (i 2).val) * 1 + (i 3).val) % 8 = (i 2).val; omega)
theorem rv275 : val_main_v275 (F := Ideal) x1 x4 = t4 fun a b c d => p.dt a (8 * b + c) := read_nf (val_main_v275_apply (F := Ideal) x1 x4) (rv51 h)
theorem rv276 : val_main_v276 (F := Ideal) x0 x1 x2 x3 x4 x5 x6 x7 x8 = t4 fun a b c d => (p.dX (a / 128) (a % 128) (512 * b + 64 * c + d)) * (p.dt a (8 * b + c)) := mul_nf (rv264 h) (rv275 h)
theorem rv277 : val_main_v277 (F := Ideal) x0 x1 x2 x3 x4 x5 x6 x7 x8 = t4 fun a b c d => ((p.D 0 ((512 * b + 64 * c + d) / 64)) * (p.dY a (512 * b + 64 * c + d))) + ((p.dX (a / 128) (a % 128) (512 * b + 64 * c + d)) * (p.dt a (8 * b + c))) := add_nf (rv169 h) (rv276 h)
theorem rv278 : val_main_v278 (F := Ideal) x0 x1 x2 x3 x4 x5 x6 x7 x8 = t3 fun a b c => ∑ k32 ∈ Finset.range 64, (p.u a (512 * b + 64 * c + k32)) * (p.dX (a / 128) (a % 128) (512 * b + 64 * c + k32)) :=
  Eq.trans (b := t3 fun a b c => ∑ k ∈ Finset.range 1, ∑ k32 ∈ Finset.range 64, (p.u a (512 * b + 64 * c + k32)) * (p.dX (a / 128) (a % 128) (512 * b + 64 * c + k32)))
    (sum_nf _ (val_main_v278_apply x0 x1 x2 x3 x4 x5 x6 x7 x8) zero_bits (rv274 h) fun _ _ => rfl)
    (t3_congr fun a ha b hb c hc => Finset.sum_range_one _)
theorem rv279 : val_main_v279 (F := Ideal) x0 x1 x2 x3 x4 x5 x6 x7 x8 = t3 fun a b c => p.ddt a (8 * b + c) :=
  Eq.trans (b := t3 fun a b c => ((p.da (a / 128) (a % 128) (8 * b + c)) * (p.A (8 * b + c))) + (∑ k32 ∈ Finset.range 64, (p.u a (512 * b + 64 * c + k32)) * (p.dX (a / 128) (a % 128) (512 * b + 64 * c + k32))))
    (add_nf (rv269 h) (rv278 h))
    (t3_congr fun a ha b hb c hc => by unfold In.ddt; rw [if_pos (by omega), hs_ch]; exact congrArg _ (Finset.sum_congr rfl fun _ _ => mul_comm _ _))
theorem rv280 : val_main_v280 (F := Ideal) x0 x1 x2 x3 x4 x5 x6 x7 x8 = t2 fun a b => p.ddt a b :=
  Eq.trans (b := t2 fun a b => p.ddt a (8 * (b / 8) + (b % 8)))
    (read3 (f := fun a b c => p.ddt a (8 * b + c)) (g0 := fun i => (i 0).val) (g1 := fun i => ((i 1).val) / 8) (g2 := fun i => ((i 1).val) % 8) (val_main_v280_apply _ _ _ _ _ _ _ _ _) (rv279 h) (fun i => by have h := lt2 i; show ((i 0).val * 16 + (i 1).val) / 16 = (i 0).val; omega) (fun i => by have h := lt2 i; show ((i 0).val * 16 + (i 1).val) / 8 % 2 = ((i 1).val) / 8; omega) (fun i => by have h := lt2 i; show ((i 0).val * 16 + (i 1).val) % 8 = ((i 1).val) % 8; omega))
    (t2_congr fun a ha b hb => by rw [flat8])
theorem rv281 : val_main_v281 (F := Ideal) x0 x1 x2 x3 x4 x5 x6 x7 x8 = t2 fun a b => p.ddtp a b :=
  Eq.trans (b := t2 fun a b => (p.ddt a b) * (sg (p.pre a b)))
    (mul_nf (rv280 h) (rv49_1 h))
    (t2_congr fun a ha b hb => rfl)
theorem rv282 : val_main_v282 (F := Ideal) x0 x1 x2 x3 x4 x5 x6 x7 x8 = t1 fun a => ∑ k33 ∈ Finset.range 8192, p.ddtp k33 a := sum_nf _ (val_main_v282_apply x0 x1 x2 x3 x4 x5 x6 x7 x8) zero_bits (rv281 h) fun _ _ => rfl

end Cert.Proof.Ssd.Ref
-- ==== Proof.SsdRefF.lean ====
/- The reference read on finite arguments: the gradient of the convolution and the results. -/
module

public import proofs.«01_k».proof.Proof.SsdRefE

@[expose] public section

noncomputable section

namespace Cert.Proof.Ssd.Ref

open Idealize.ShloMosaic Idealize.ShloMosaic.ValueIdx Cert.SsdReferenceIdeal Cert.SsdReferenceIdeal.Gen Cert.SsdReferenceIdeal.Read
open scoped BigOperators

variable {p : In} {x0 : (⟨S8192x4608, .f32⟩ : BufTy).Contents (Elt Ideal)} {x1 : (⟨S8192x16, .f32⟩ : BufTy).Contents (Elt Ideal)}
  {x2 : (⟨S4x1536, .f32⟩ : BufTy).Contents (Elt Ideal)} {x3 : (⟨S1x1536, .f32⟩ : BufTy).Contents (Elt Ideal)}
  {x4 x5 x6 : (⟨S1x16, .f32⟩ : BufTy).Contents (Elt Ideal)} {x7 : (⟨S1x1024, .f32⟩ : BufTy).Contents (Elt Ideal)}
  {x8 : (⟨S8192x1024, .f32⟩ : BufTy).Contents (Elt Ideal)} (h : Rd p x0 x1 x2 x3 x4 x5 x6 x7 x8)
include h

theorem rv283 : val_main_v283 (F := Ideal) x0 x1 x2 x3 x4 x5 x6 x7 x8 = t2 fun a b => p.rBias b :=
  Eq.trans (b := t2 fun a b => ∑ k33 ∈ Finset.range 8192, p.ddtp k33 b)
    (read1 (f := fun a => ∑ k33 ∈ Finset.range 8192, p.ddtp k33 a) (g0 := fun i => (i 1).val) (val_main_v283_apply _ _ _ _ _ _ _ _ _) (rv282 h) (fun i => by have h := lt2 i; show (i 0).val * 16 + (i 1).val = (i 1).val; omega))
    (t2_congr fun a ha b hb => rfl)
theorem rv284 : val_main_v284 (F := Ideal) x0 x1 x2 x3 x4 x5 x6 x7 x8 = t2 fun a b => p.dC (a / 128) (a % 128) b :=
  Eq.trans (b := t2 fun a b => p.dC (a / 128) (a % 128) (128 * (b / 128) + (b % 128)))
    (read3 (f := fun a b c => p.dC (a / 128) (a % 128) (128 * b + c)) (g0 := fun i => (i 0).val) (g1 := fun i => ((i 1).val) / 128) (g2 := fun i => ((i 1).val) % 128) (val_main_v284_apply _ _ _ _ _ _ _ _ _) (rv262 h) (fun i => by have h := lt2 i; show ((i 0).val * 256 + (i 1).val) / 256 = (i 0).val; omega) (fun i => by have h := lt2 i; show ((i 0).val * 256 + (i 1).val) / 128 % 2 = ((i 1).val) / 128; omega) (fun i => by have h := lt2 i; show ((i 0).val * 256 + (i 1).val) % 128 = ((i 1).val) % 128; omega))
    (t2_congr fun a ha b hb => by rw [flat128])
theorem rv285 : val_main_v285 (F := Ideal) x0 x1 x2 x3 x4 x5 x6 x7 x8 = t2 fun a b => if 1280 ≤ b ∧ b - 1280 < 256 then p.dC (a / 128) (a % 128) (b - 1280) else 0 := pad_nf 1 (fun v => p.dC ((v 0) / 128) ((v 0) % 128) (v 1)) (rv284 h) zero_bits (by decide) (by decide) (by decide)
theorem rv286 : val_main_v286 (F := Ideal) x0 x1 x2 x3 x4 x5 x6 x7 x8 = t2 fun a b => p.dB (a / 128) (a % 128) b :=
  Eq.trans (b := t2 fun a b => p.dB (a / 128) (a % 128) (128 * (b / 128) + (b % 128)))
    (read3 (f := fun a b c => p.dB (a / 128) (a % 128) (128 * b + c)) (g0 := fun i => (i 0).val) (g1 := fun i => ((i 1).val) / 128) (g2 := fun i => ((i 1).val) % 128) (val_main_v286_apply _ _ _ _ _ _ _ _ _) (rv263 h) (fun i => by have h := lt2 i; show ((i 0).val * 256 + (i 1).val) / 256 = (i 0).val; omega) (fun i => by have h := lt2 i; show ((i 0).val * 256 + (i 1).val) / 128 % 2 = ((i 1).val) / 128; omega) (fun i => by have h := lt2 i; show ((i 0).val * 256 + (i 1).val) % 128 = ((i 1).val) % 128; omega))
    (t2_congr fun a ha b hb => by rw [flat128])
theorem rv287 : val_main_v287 (F := Ideal) x0 x1 x2 x3 x4 x5 x6 x7 x8 = t2 fun a b => if 1024 ≤ b ∧ b - 1024 < 256 then p.dB (a / 128) (a % 128) (b - 1024) else 0 := pad_nf 1 (fun v => p.dB ((v 0) / 128) ((v 0) % 128) (v 1)) (rv286 h) zero_bits (by decide) (by decide) (by decide)
theorem rv288 : val_main_v288 (F := Ideal) x0 x1 x2 x3 x4 x5 x6 x7 x8 = t2 fun a b => (if 1280 ≤ b ∧ b - 1280 < 256 then p.dC (a / 128) (a % 128) (b - 1280) else 0) + (if 1024 ≤ b ∧ b - 1024 < 256 then p.dB (a / 128) (a % 128) (b - 1024) else 0) := add_nf (rv285 h) (rv287 h)
theorem rv289 : val_main_v289 (F := Ideal) x0 x1 x2 x3 x4 x5 x6 x7 x8 = t2 fun a b => p.D 0 (b / 64) * p.dY a b + p.dX (a / 128) (a % 128) b * p.dt a (b / 64) :=
  Eq.trans (b := t2 fun a b => ((p.D 0 ((512 * (b / 512) + 64 * (b / 64 % 8) + (b % 64)) / 64)) * (p.dY a (512 * (b / 512) + 64 * (b / 64 % 8) + (b % 64)))) + ((p.dX (a / 128) (a % 128) (512 * (b / 512) + 64 * (b / 64 % 8) + (b % 64))) * (p.dt a (8 * (b / 512) + (b / 64 % 8)))))
    (read4 (f := fun a b c d => ((p.D 0 ((512 * b + 64 * c + d) / 64)) * (p.dY a (512 * b + 64 * c + d))) + ((p.dX (a / 128) (a % 128) (512 * b + 64 * c + d)) * (p.dt a (8 * b + c)))) (g0 := fun i => (i 0).val) (g1 := fun i => ((i 1).val) / 512) (g2 := fun i => ((i 1).val) / 64 % 8) (g3 := fun i => ((i 1).val) % 64) (val_main_v289_apply _ _ _ _ _ _ _ _ _) (rv277 h) (fun i => by have h := lt2 i; show ((i 0).val * 1024 + (i 1).val) / 1024 = (i 0).val; omega) (fun i => by have h := lt2 i; show ((i 0).val * 1024 + (i 1).val) / 512 % 2 = ((i 1).val) / 512; omega) (fun i => by have h := lt2 i; show ((i 0).val * 1024 + (i 1).val) / 64 % 8 = ((i 1).val) / 64 % 8; omega) (fun i => by have h := lt2 i; show ((i 0).val * 1024 + (i 1).val) % 64 = ((i 1).val) % 64; omega))
    (t2_congr fun a ha b hb => by rw [flat, flat_head])
theorem rv290 : val_main_v290 (F := Ideal) x0 x1 x2 x3 x4 x5 x6 x7 x8 = t2 fun a b => if 0 ≤ b ∧ b - 0 < 1024 then p.D 0 ((b - 0) / 64) * p.dY a (b - 0) + p.dX (a / 128) (a % 128) (b - 0) * p.dt a ((b - 0) / 64) else 0 := pad_nf 1 (fun v => p.D 0 ((v 1) / 64) * p.dY (v 0) (v 1) + p.dX ((v 0) / 128) ((v 0) % 128) (v 1) * p.dt (v 0) ((v 1) / 64)) (rv289 h) zero_bits (by decide) (by decide) (by decide)
theorem rv291 : val_main_v291 (F := Ideal) x0 x1 x2 x3 x4 x5 x6 x7 x8 = t2 fun a b => p.du a b :=
  Eq.trans (b := t2 fun a b => ((if 1280 ≤ b ∧ b - 1280 < 256 then p.dC (a / 128) (a % 128) (b - 1280) else 0) + (if 1024 ≤ b ∧ b - 1024 < 256 then p.dB (a / 128) (a % 128) (b - 1024) else 0)) + (if 0 ≤ b ∧ b - 0 < 1024 then p.D 0 ((b - 0) / 64) * p.dY a (b - 0) + p.dX (a / 128) (a % 128) (b - 0) * p.dt a ((b - 0) / 64) else 0))
    (add_nf (rv288 h) (rv290 h))
    (t2_congr fun a ha b hb => p.du_sum a hb)
theorem rcall17_v0 : val_main_call17_v0 (F := Ideal) x0 x1 x2 x3 x4 x5 x6 x7 x8 = t2 fun a b => (p.XC a b) * (p.du a b) := mul_nf (rv39 h) (rv291 h)
theorem rcall17_v1 : val_main_call17_v1 (F := Ideal) x0 x1 x2 x3 x4 x5 x6 x7 x8 = t2 fun a b => (p.du a b) * (sg (p.XC a b)) := mul_nf (rv291 h) (rv40_2 h)
theorem rcall17_v2 : val_main_call17_v2 (F := Ideal) x0 x1 x2 x3 x4 x5 x6 x7 x8 = t2 fun a b => ((p.XC a b) * (p.du a b)) * ((sg (p.XC a b)) * (1 - (sg (p.XC a b)))) := mul_nf (rcall17_v0 h) (rv40_1 h)
theorem rv292 : val_main_v292 (F := Ideal) x0 x1 x2 x3 x4 x5 x6 x7 x8 = t2 fun a b => p.dxc a b :=
  Eq.trans (b := t2 fun a b => ((p.du a b) * (sg (p.XC a b))) + (((p.XC a b) * (p.du a b)) * ((sg (p.XC a b)) * (1 - (sg (p.XC a b))))))
    (add_nf (rcall17_v1 h) (rcall17_v2 h))
    (t2_congr fun a ha b hb => by unfold In.dxc dsilu; rw [if_pos ha]; ring)
theorem rv293 : val_main_v293 (F := Ideal) x0 x1 x2 x3 x4 x5 x6 x7 x8 = t2 fun a b => (p.xs 3 a b) * (p.dxc a b) := mul_nf (rv33 h) (rv292 h)
theorem rv294 : val_main_v294 (F := Ideal) x0 x1 x2 x3 x4 x5 x6 x7 x8 = t1 fun a => ∑ k34 ∈ Finset.range 8192, (p.xs 3 k34 a) * (p.dxc k34 a) := sum_nf _ (val_main_v294_apply x0 x1 x2 x3 x4 x5 x6 x7 x8) zero_bits (rv293 h) fun _ _ => rfl
theorem rv295 : val_main_v295 (F := Ideal) x0 x1 x2 x3 x4 x5 x6 x7 x8 = t2 fun a b => ∑ k34 ∈ Finset.range 8192, (p.xs 3 k34 b) * (p.dxc k34 b) := read1 (f := fun a => ∑ k34 ∈ Finset.range 8192, (p.xs 3 k34 a) * (p.dxc k34 a)) (g0 := fun i => (i 1).val) (val_main_v295_apply _ _ _ _ _ _ _ _ _) (rv294 h) (fun i => by have h := lt2 i; show (i 0).val * 1536 + (i 1).val = (i 1).val; omega)
theorem rv296 : val_main_v296 (F := Ideal) x2 = t2 fun a b => p.Wc 3 b := read_nf (val_main_v296_apply (F := Ideal) x2) (rv36 h)
theorem rv297 : val_main_v297 (F := Ideal) x0 x1 x2 x3 x4 x5 x6 x7 x8 = t2 fun a b => (p.dxc a b) * (p.Wc 3 b) := mul_nf (rv292 h) (rv296 h)
theorem rv298 : val_main_v298 (F := Ideal) x0 x1 x2 x3 x4 x5 x6 x7 x8 = t1 fun a => ∑ k34 ∈ Finset.range 8192, (p.xs 3 k34 a) * (p.dxc k34 a) :=
  Eq.trans (b := t1 fun a => ∑ k ∈ Finset.range 1, ∑ k34 ∈ Finset.range 8192, (p.xs 3 k34 a) * (p.dxc k34 a))
    (sum_nf _ (val_main_v298_apply x0 x1 x2 x3 x4 x5 x6 x7 x8) zero_bits (rv295 h) fun _ _ => rfl)
    (t1_congr fun a ha => Finset.sum_range_one _)
theorem rv299 : val_main_v299 (F := Ideal) x0 x1 x2 x3 x4 x5 x6 x7 x8 = t2 fun a b => ∑ k34 ∈ Finset.range 8192, (p.xs 3 k34 b) * (p.dxc k34 b) := read1 (f := fun a => ∑ k34 ∈ Finset.range 8192, (p.xs 3 k34 a) * (p.dxc k34 a)) (g0 := fun i => (i 1).val) (val_main_v299_apply _ _ _ _ _ _ _ _ _) (rv298 h) fun _ => rfl
theorem rv300 : val_main_v300 (F := Ideal) x0 x1 x2 x3 x4 x5 x6 x7 x8 = t2 fun a b => if 3 ≤ a ∧ a - 3 < 1 then ∑ k34 ∈ Finset.range 8192, (p.xs 3 k34 b) * (p.dxc k34 b) else 0 := pad_nf 0 (fun v => ∑ k34 ∈ Finset.range 8192, (p.xs 3 k34 (v 1)) * (p.dxc k34 (v 1))) (rv299 h) zero_bits (by decide) (by decide) (by decide)
theorem rv301 : val_main_v301 (F := Ideal) x0 x1 x2 x3 x4 x5 x6 x7 x8 = t2 fun a b => if 3 ≤ a ∧ a - 3 < 8192 then (p.dxc (a - 3) b) * (p.Wc 3 b) else 0 := pad_nf 0 (fun v => (p.dxc (v 0) (v 1)) * (p.Wc 3 (v 1))) (rv297 h) zero_bits (by decide) (by decide) (by decide)
theorem rv302 : val_main_v302 (F := Ideal) x0 x1 x2 x3 x4 x5 x6 x7 x8 = t2 fun a b => (p.xs 2 a b) * (p.dxc a b) := mul_nf (rv26 h) (rv292 h)
theorem rv303 : val_main_v303 (F := Ideal) x0 x1 x2 x3 x4 x5 x6 x7 x8 = t1 fun a => ∑ k35 ∈ Finset.range 8192, (p.xs 2 k35 a) * (p.dxc k35 a) := sum_nf _ (val_main_v303_apply x0 x1 x2 x3 x4 x5 x6 x7 x8) zero_bits (rv302 h) fun _ _ => rfl
theorem rv304 : val_main_v304 (F := Ideal) x0 x1 x2 x3 x4 x5 x6 x7 x8 = t2 fun a b => ∑ k35 ∈ Finset.range 8192, (p.xs 2 k35 b) * (p.dxc k35 b) := read1 (f := fun a => ∑ k35 ∈ Finset.range 8192, (p.xs 2 k35 a) * (p.dxc k35 a)) (g0 := fun i => (i 1).val) (val_main_v304_apply _ _ _ _ _ _ _ _ _) (rv303 h) (fun i => by have h := lt2 i; show (i 0).val * 1536 + (i 1).val = (i 1).val; omega)
theorem rv305 : val_main_v305 (F := Ideal) x2 = t2 fun a b => p.Wc 2 b := read_nf (val_main_v305_apply (F := Ideal) x2) (rv29 h)
theorem rv306 : val_main_v306 (F := Ideal) x0 x1 x2 x3 x4 x5 x6 x7 x8 = t2 fun a b => (p.dxc a b) * (p.Wc 2 b) := mul_nf (rv292 h) (rv305 h)
theorem rv307 : val_main_v307 (F := Ideal) x0 x1 x2 x3 x4 x5 x6 x7 x8 = t1 fun a => ∑ k35 ∈ Finset.range 8192, (p.xs 2 k35 a) * (p.dxc k35 a) :=
  Eq.trans (b := t1 fun a => ∑ k ∈ Finset.range 1, ∑ k35 ∈ Finset.range 8192, (p.xs 2 k35 a) * (p.dxc k35 a))
    (sum_nf _ (val_main_v307_apply x0 x1 x2 x3 x4 x5 x6 x7 x8) zero_bits (rv304 h) fun _ _ => rfl)
    (t1_congr fun a ha => Finset.sum_range_one _)
theorem rv308 : val_main_v308 (F := Ideal) x0 x1 x2 x3 x4 x5 x6 x7 x8 = t2 fun a b => ∑ k35 ∈ Finset.range 8192, (p.xs 2 k35 b) * (p.dxc k35 b) := read1 (f := fun a => ∑ k35 ∈ Finset.range 8192, (p.xs 2 k35 a) * (p.dxc k35 a)) (g0 := fun i => (i 1).val) (val_main_v308_apply _ _ _ _ _ _ _ _ _) (rv307 h) fun _ => rfl
theorem rv309 : val_main_v309 (F := Ideal) x0 x1 x2 x3 x4 x5 x6 x7 x8 = t2 fun a b => if 2 ≤ a ∧ a - 2 < 1 then ∑ k35 ∈ Finset.range 8192, (p.xs 2 k35 b) * (p.dxc k35 b) else 0 := pad_nf 0 (fun v => ∑ k35 ∈ Finset.range 8192, (p.xs 2 k35 (v 1)) * (p.dxc k35 (v 1))) (rv308 h) zero_bits (by decide) (by decide) (by decide)
theorem rv310 : val_main_v310 (F := Ideal) x0 x1 x2 x3 x4 x5 x6 x7 x8 = t2 fun a b => (if 3 ≤ a ∧ a - 3 < 1 then ∑ k34 ∈ Finset.range 8192, (p.xs 3 k34 b) * (p.dxc k34 b) else 0) + (if 2 ≤ a ∧ a - 2 < 1 then ∑ k35 ∈ Finset.range 8192, (p.xs 2 k35 b) * (p.dxc k35 b) else 0) := add_nf (rv300 h) (rv309 h)
theorem rv311 : val_main_v311 (F := Ideal) x0 x1 x2 x3 x4 x5 x6 x7 x8 = t2 fun a b => if 2 ≤ a ∧ a - 2 < 8192 then (p.dxc (a - 2) b) * (p.Wc 2 b) else 0 := pad_nf 0 (fun v => (p.dxc (v 0) (v 1)) * (p.Wc 2 (v 1))) (rv306 h) zero_bits (by decide) (by decide) (by decide)
theorem rv312 : val_main_v312 (F := Ideal) x0 x1 x2 x3 x4 x5 x6 x7 x8 = t2 fun a b => (if 3 ≤ a ∧ a - 3 < 8192 then (p.dxc (a - 3) b) * (p.Wc 3 b) else 0) + (if 2 ≤ a ∧ a - 2 < 8192 then (p.dxc (a - 2) b) * (p.Wc 2 b) else 0) := add_nf (rv301 h) (rv311 h)
theorem rv313 : val_main_v313 (F := Ideal) x0 x1 x2 x3 x4 x5 x6 x7 x8 = t2 fun a b => (p.xs 1 a b) * (p.dxc a b) := mul_nf (rv19 h) (rv292 h)
theorem rv314 : val_main_v314 (F := Ideal) x0 x1 x2 x3 x4 x5 x6 x7 x8 = t1 fun a => ∑ k36 ∈ Finset.range 8192, (p.xs 1 k36 a) * (p.dxc k36 a) := sum_nf _ (val_main_v314_apply x0 x1 x2 x3 x4 x5 x6 x7 x8) zero_bits (rv313 h) fun _ _ => rfl
theorem rv315 : val_main_v315 (F := Ideal) x0 x1 x2 x3 x4 x5 x6 x7 x8 = t2 fun a b => ∑ k36 ∈ Finset.range 8192, (p.xs 1 k36 b) * (p.dxc k36 b) := read1 (f := fun a => ∑ k36 ∈ Finset.range 8192, (p.xs 1 k36 a) * (p.dxc k36 a)) (g0 := fun i => (i 1).val) (val_main_v315_apply _ _ _ _ _ _ _ _ _) (rv314 h) (fun i => by have h := lt2 i; show (i 0).val * 1536 + (i 1).val = (i 1).val; omega)
theorem rv316 : val_main_v316 (F := Ideal) x2 = t2 fun a b => p.Wc 1 b := read_nf (val_main_v316_apply (F := Ideal) x2) (rv22 h)
theorem rv317 : val_main_v317 (F := Ideal) x0 x1 x2 x3 x4 x5 x6 x7 x8 = t2 fun a b => (p.dxc a b) * (p.Wc 1 b) := mul_nf (rv292 h) (rv316 h)
theorem rv318 : val_main_v318 (F := Ideal) x0 x1 x2 x3 x4 x5 x6 x7 x8 = t1 fun a => ∑ k36 ∈ Finset.range 8192, (p.xs 1 k36 a) * (p.dxc k36 a) :=
  Eq.trans (b := t1 fun a => ∑ k ∈ Finset.range 1, ∑ k36 ∈ Finset.range 8192, (p.xs 1 k36 a) * (p.dxc k36 a))
    (sum_nf _ (val_main_v318_apply x0 x1 x2 x3 x4 x5 x6 x7 x8) zero_bits (rv315 h) fun _ _ => rfl)
    (t1_congr fun a ha => Finset.sum_range_one _)
theorem rv319 : val_main_v319 (F := Ideal) x0 x1 x2 x3 x4 x5 x6 x7 x8 = t2 fun a b => ∑ k36 ∈ Finset.range 8192, (p.xs 1 k36 b) * (p.dxc k36 b) := read1 (f := fun a => ∑ k36 ∈ Finset.range 8192, (p.xs 1 k36 a) * (p.dxc k36 a)) (g0 := fun i => (i 1).val) (val_main_v319_apply _ _ _ _ _ _ _ _ _) (rv318 h) fun _ => rfl
theorem rv320 : val_main_v320 (F := Ideal) x0 x1 x2 x3 x4 x5 x6 x7 x8 = t2 fun a b => if 1 ≤ a ∧ a - 1 < 1 then ∑ k36 ∈ Finset.range 8192, (p.xs 1 k36 b) * (p.dxc k36 b) else 0 := pad_nf 0 (fun v => ∑ k36 ∈ Finset.range 8192, (p.xs 1 k36 (v 1)) * (p.dxc k36 (v 1))) (rv319 h) zero_bits (by decide) (by decide) (by decide)
theorem rv321 : val_main_v321 (F := Ideal) x0 x1 x2 x3 x4 x5 x6 x7 x8 = t2 fun a b => ((if 3 ≤ a ∧ a - 3 < 1 then ∑ k34 ∈ Finset.range 8192, (p.xs 3 k34 b) * (p.dxc k34 b) else 0) + (if 2 ≤ a ∧ a - 2 < 1 then ∑ k35 ∈ Finset.range 8192, (p.xs 2 k35 b) * (p.dxc k35 b) else 0)) + (if 1 ≤ a ∧ a - 1 < 1 then ∑ k36 ∈ Finset.range 8192, (p.xs 1 k36 b) * (p.dxc k36 b) else 0) := add_nf (rv310 h) (rv320 h)
theorem rv322 : val_main_v322 (F := Ideal) x0 x1 x2 x3 x4 x5 x6 x7 x8 = t2 fun a b => if 1 ≤ a ∧ a - 1 < 8192 then (p.dxc (a - 1) b) * (p.Wc 1 b) else 0 := pad_nf 0 (fun v => (p.dxc (v 0) (v 1)) * (p.Wc 1 (v 1))) (rv317 h) zero_bits (by decide) (by decide) (by decide)
theorem rv323 : val_main_v323 (F := Ideal) x0 x1 x2 x3 x4 x5 x6 x7 x8 = t2 fun a b => ((if 3 ≤ a ∧ a - 3 < 8192 then (p.dxc (a - 3) b) * (p.Wc 3 b) else 0) + (if 2 ≤ a ∧ a - 2 < 8192 then (p.dxc (a - 2) b) * (p.Wc 2 b) else 0)) + (if 1 ≤ a ∧ a - 1 < 8192 then (p.dxc (a - 1) b) * (p.Wc 1 b) else 0) := add_nf (rv312 h) (rv322 h)
theorem rv324 : val_main_v324 (F := Ideal) x0 x1 x2 x3 x4 x5 x6 x7 x8 = t1 fun a => ∑ k37 ∈ Finset.range 8192, p.dxc k37 a := sum_nf _ (val_main_v324_apply x0 x1 x2 x3 x4 x5 x6 x7 x8) zero_bits (rv292 h) fun _ _ => rfl
theorem rv325 : val_main_v325 (F := Ideal) x0 x1 x2 x3 x4 x5 x6 x7 x8 = t2 fun a b => p.rB b :=
  Eq.trans (b := t2 fun a b => ∑ k37 ∈ Finset.range 8192, p.dxc k37 b)
    (read1 (f := fun a => ∑ k37 ∈ Finset.range 8192, p.dxc k37 a) (g0 := fun i => (i 1).val) (val_main_v325_apply _ _ _ _ _ _ _ _ _) (rv324 h) (fun i => by have h := lt2 i; show (i 0).val * 1536 + (i 1).val = (i 1).val; omega))
    (t2_congr fun a ha b hb => rfl)
theorem rv326 : val_main_v326 (F := Ideal) x0 x1 x2 x3 x4 x5 x6 x7 x8 = t2 fun a b => (p.xs 0 a b) * (p.dxc a b) := mul_nf (rv11 h) (rv292 h)
theorem rv327 : val_main_v327 (F := Ideal) x0 x1 x2 x3 x4 x5 x6 x7 x8 = t1 fun a => ∑ k38 ∈ Finset.range 8192, (p.xs 0 k38 a) * (p.dxc k38 a) := sum_nf _ (val_main_v327_apply x0 x1 x2 x3 x4 x5 x6 x7 x8) zero_bits (rv326 h) fun _ _ => rfl
theorem rv328 : val_main_v328 (F := Ideal) x0 x1 x2 x3 x4 x5 x6 x7 x8 = t2 fun a b => ∑ k38 ∈ Finset.range 8192, (p.xs 0 k38 b) * (p.dxc k38 b) := read1 (f := fun a => ∑ k38 ∈ Finset.range 8192, (p.xs 0 k38 a) * (p.dxc k38 a)) (g0 := fun i => (i 1).val) (val_main_v328_apply _ _ _ _ _ _ _ _ _) (rv327 h) (fun i => by have h := lt2 i; show (i 0).val * 1536 + (i 1).val = (i 1).val; omega)
theorem rv329 : val_main_v329 (F := Ideal) x2 = t2 fun a b => p.Wc 0 b := read_nf (val_main_v329_apply (F := Ideal) x2) (rv14 h)
theorem rv330 : val_main_v330 (F := Ideal) x0 x1 x2 x3 x4 x5 x6 x7 x8 = t2 fun a b => (p.dxc a b) * (p.Wc 0 b) := mul_nf (rv292 h) (rv329 h)
theorem rv331 : val_main_v331 (F := Ideal) x0 x1 x2 x3 x4 x5 x6 x7 x8 = t1 fun a => ∑ k38 ∈ Finset.range 8192, (p.xs 0 k38 a) * (p.dxc k38 a) :=
  Eq.trans (b := t1 fun a => ∑ k ∈ Finset.range 1, ∑ k38 ∈ Finset.range 8192, (p.xs 0 k38 a) * (p.dxc k38 a))
    (sum_nf _ (val_main_v331_apply x0 x1 x2 x3 x4 x5 x6 x7 x8) zero_bits (rv328 h) fun _ _ => rfl)
    (t1_congr fun a ha => Finset.sum_range_one _)
theorem rv332 : val_main_v332 (F := Ideal) x0 x1 x2 x3 x4 x5 x6 x7 x8 = t2 fun a b => ∑ k38 ∈ Finset.range 8192, (p.xs 0 k38 b) * (p.dxc k38 b) := read1 (f := fun a => ∑ k38 ∈ Finset.range 8192, (p.xs 0 k38 a) * (p.dxc k38 a)) (g0 := fun i => (i 1).val) (val_main_v332_apply _ _ _ _ _ _ _ _ _) (rv331 h) fun _ => rfl
theorem rv333 : val_main_v333 (F := Ideal) x0 x1 x2 x3 x4 x5 x6 x7 x8 = t2 fun a b => if 0 ≤ a ∧ a - 0 < 1 then ∑ k38 ∈ Finset.range 8192, (p.xs 0 k38 b) * (p.dxc k38 b) else 0 := pad_nf 0 (fun v => ∑ k38 ∈ Finset.range 8192, (p.xs 0 k38 (v 1)) * (p.dxc k38 (v 1))) (rv332 h) zero_bits (by decide) (by decide) (by decide)
theorem rv334 : val_main_v334 (F := Ideal) x0 x1 x2 x3 x4 x5 x6 x7 x8 = t2 fun a b => p.rW a b :=
  Eq.trans (b := t2 fun a b => (((if 3 ≤ a ∧ a - 3 < 1 then ∑ k34 ∈ Finset.range 8192, (p.xs 3 k34 b) * (p.dxc k34 b) else 0) + (if 2 ≤ a ∧ a - 2 < 1 then ∑ k35 ∈ Finset.range 8192, (p.xs 2 k35 b) * (p.dxc k35 b) else 0)) + (if 1 ≤ a ∧ a - 1 < 1 then ∑ k36 ∈ Finset.range 8192, (p.xs 1 k36 b) * (p.dxc k36 b) else 0)) + (if 0 ≤ a ∧ a - 0 < 1 then ∑ k38 ∈ Finset.range 8192, (p.xs 0 k38 b) * (p.dxc k38 b) else 0))
    (add_nf (rv321 h) (rv333 h))
    (t2_congr fun a ha b hb => p.taps_sum ha b)
theorem rv335 : val_main_v335 (F := Ideal) x0 x1 x2 x3 x4 x5 x6 x7 x8 = t2 fun a b => if 0 ≤ a ∧ a - 0 < 8192 then (p.dxc (a - 0) b) * (p.Wc 0 b) else 0 := pad_nf 0 (fun v => (p.dxc (v 0) (v 1)) * (p.Wc 0 (v 1))) (rv330 h) zero_bits (by decide) (by decide) (by decide)
theorem rv336 : val_main_v336 (F := Ideal) x0 x1 x2 x3 x4 x5 x6 x7 x8 = t2 fun a b => (((if 3 ≤ a ∧ a - 3 < 8192 then (p.dxc (a - 3) b) * (p.Wc 3 b) else 0) + (if 2 ≤ a ∧ a - 2 < 8192 then (p.dxc (a - 2) b) * (p.Wc 2 b) else 0)) + (if 1 ≤ a ∧ a - 1 < 8192 then (p.dxc (a - 1) b) * (p.Wc 1 b) else 0)) + (if 0 ≤ a ∧ a - 0 < 8192 then (p.dxc (a - 0) b) * (p.Wc 0 b) else 0) := add_nf (rv323 h) (rv335 h)
theorem rv338 : val_main_v338 (F := Ideal) x0 x1 x2 x3 x4 x5 x6 x7 x8 = t2 fun a b => p.dxp a b :=
  Eq.trans (b := t2 fun a b => (((if 3 ≤ (3 + a) ∧ (3 + a) - 3 < 8192 then (p.dxc ((3 + a) - 3) b) * (p.Wc 3 b) else 0) + (if 2 ≤ (3 + a) ∧ (3 + a) - 2 < 8192 then (p.dxc ((3 + a) - 2) b) * (p.Wc 2 b) else 0)) + (if 1 ≤ (3 + a) ∧ (3 + a) - 1 < 8192 then (p.dxc ((3 + a) - 1) b) * (p.Wc 1 b) else 0)) + (if 0 ≤ (3 + a) ∧ (3 + a) - 0 < 8192 then (p.dxc ((3 + a) - 0) b) * (p.Wc 0 b) else 0))
    (read_nf (val_main_v338_apply (F := Ideal) x0 x1 x2 x3 x4 x5 x6 x7 x8) (rv336 h))
    (t2_congr fun a ha b hb => p.dxp_sum a b)
theorem rv339 : val_main_v339 (F := Ideal) x0 x1 x2 x3 x4 x5 x6 x7 x8 = t2 fun a b => if 1024 ≤ b ∧ b - 1024 < 1536 then p.dxp a (b - 1024) else 0 := pad_nf 1 (fun v => p.dxp (v 0) (v 1)) (rv338 h) zero_bits (by decide) (by decide) (by decide)
theorem rv340 : val_main_v340 (F := Ideal) x0 x1 x2 x3 x4 x5 x6 x7 x8 = t2 fun a b => p.rP a b :=
  Eq.trans (b := t2 fun a b => (if b < 1024 then p.dz a b else 0) + (if 1024 ≤ b ∧ b - 1024 < 1536 then p.dxp a (b - 1024) else 0))
    (add_nf (rv166 h) (rv339 h))
    (t2_congr fun a ha b hb => p.rP_sum a hb)
theorem rv341 : val_main_v341 (F := Ideal) x0 x1 x2 x3 x4 x5 x6 x7 x8 = t2 fun a b => p.rP a b := rv340 h
theorem rv342 : val_main_v342 (F := Ideal) = t2 fun a b => 0 := read_nf (f := fun _ => 0) (val_main_v342_apply (F := Ideal)) (funext fun _ => ofBits_0)
theorem rv343 : val_main_v343 (F := Ideal) x0 x1 x2 x3 x4 x5 x6 x7 x8 = t2 fun a b => p.ddtp a b :=
  Eq.trans (b := t2 fun a b => if b < 16 then p.ddtp a b else 0)
    (cat_nf 1 (fun v => p.ddtp (v 0) (v 1)) (fun v => 0) (rv281 h) (rv342 h) (by decide) (by decide) rfl)
    (t2_congr fun a ha b hb => p.ddtp_cut a b)
theorem rv344 : val_main_v344 (F := Ideal) x0 x1 x2 x3 x4 x5 x6 x7 x8 = t2 fun a b => p.ddtp a b := rv343 h
theorem rv345 : val_main_v345 (F := Ideal) = t2 fun a b => 0 := read_nf (f := fun _ => 0) (val_main_v345_apply (F := Ideal)) (funext fun _ => ofBits_0)
theorem rv346 : val_main_v346 (F := Ideal) x0 x1 x2 x3 x4 x5 x6 x7 x8 = t2 fun a b => p.rBias b :=
  Eq.trans (b := t2 fun a b => if b < 16 then p.rBias b else 0)
    (cat_nf 1 (fun v => p.rBias (v 1)) (fun v => 0) (rv283 h) (rv345 h) (by decide) (by decide) rfl)
    (t2_congr fun a ha b hb => p.rBias_cut b)
theorem rv347 : val_main_v347 (F := Ideal) = t2 fun a b => 0 := read_nf (f := fun _ => 0) (val_main_v347_apply (F := Ideal)) (funext fun _ => ofBits_0)
theorem rv348 : val_main_v348 (F := Ideal) x0 x1 x2 x3 x4 x5 x6 x7 x8 = t2 fun a b => p.rA b :=
  Eq.trans (b := t2 fun a b => if b < 16 then p.rA b else 0)
    (cat_nf 1 (fun v => p.rA (v 1)) (fun v => 0) (rv271 h) (rv347 h) (by decide) (by decide) rfl)
    (t2_congr fun a ha b hb => p.rA_cut b)

end Cert.Proof.Ssd.Ref
-- ==== Proof.SsdClaim.lean ====
/- The state-space scan's backward kernel computes the gradients of the reference, on finite arguments whose steps are tame. -/
module

public import proofs.«01_k».proof.Defs
public import proofs.«01_k».proof.Proof.SsdIn
public import proofs.«01_k».proof.Proof.SsdHostB
public import proofs.«01_k».proof.Proof.SsdKernel
public import proofs.«01_k».proof.Proof.SsdRefF
public import proofs.«01_k».proof.Proof.Gen.SsdReferenceIdeal.Run

@[expose] public section

noncomputable section

namespace Cert.Proof.Ssd

open Idealize.ShloMosaic Idealize.ShloMosaic.TcCoe Idealize.SL.Sem Idealize.ShloMosaic.StableHlo

section
open Cert.SsdKernelIdeal Cert.SsdKernelIdeal.Gen

/-- A device's arguments. -/
def arrs (m : (ℓ : Loc nD τ sig) → Buf (Elt Ideal) ℓ) (c : Dev nD) : Arrs where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)

variable {m : (ℓ : Loc nD τ sig) → Buf (Elt Ideal) ℓ} {c : Dev nD} (h : (arrs m c).Good)
include h

/-- The region finds the arrays of the forward pass. -/
theorem args : Sweep.Args m c (arrs m c).inp where
  ct := (V_main_arg8 m c).trans h.rd.i8
  proj x hx := (congrFun (V_main_arg0 m c) x).trans (h.i0 x hx)
  dt := (Host.V_eq m c _).trans ((Host.G_v133 _).trans (Host.pad16 _ (Arrs.dt_out (x := arrs m c)) h.i1))
  xc := (Host.V_eq m c _).trans ((Host.vG_v44 _).trans (Ref.rv39 h.rd))
  y := (Host.V_eq m c _).trans ((Host.vG_v130 _).trans (Ref.rv125 h.rd))
  s x := by
    refine (congrFun ((Host.V_eq m c _).trans ((Host.G_v132 _).trans (Host.F_v132 _))) x).trans ((Host.by_rows _ x).trans ?_)
    refine (congrFun (Ref.rv110 h.rd) (Host.row x)).trans (congrArg (fun k => ((((arrs m c).inp.S (x 0).val (x 1).val k : ℝ)) : EReal)) ?_)
    show 512 * ((x 2).val / 512) + 64 * ((x 2).val / 64 % 8) + (x 2).val % 64 = (x 2).val
    omega
  w := (V_main_arg2 m c).trans h.rd.i2
  bias := (Host.V_eq m c _).trans ((Host.G_v134 _).trans (Host.pad16 _ (Arrs.bias_out (x := arrs m c)) h.rd.i4))
  al := (Host.V_eq m c _).trans ((Host.G_v135 _).trans (Host.pad16 _ (Arrs.al_out (x := arrs m c)) h.rd.i5))
  d := (Host.V_eq m c _).trans ((Host.vG_v3 _).trans (Ref.rv3 h.rd))
  g := (V_main_arg7 m c).trans h.rd.i7
  e := (Host.V_eq m c _).trans (Host.G_v12 _)
  tame := h.isTame
end

theorem preserves : Cert.preserves_SsdKernel_SsdKernelIdeal :=
  IdealRules.named_const.statement Cert.SsdKernelIdeal.κ "mask" .f32 0xF149F2CA#32 ⊥ rfl

set_option maxHeartbeats 4000000 in
open Cert.SsdReferenceIdeal Cert.SsdReferenceIdeal.Read in
/-- On good arguments the two programs leave the same eight arrays. -/
theorem results_eq (m : (ℓ : Loc Cert.SsdKernelIdeal.nD Cert.SsdKernelIdeal.τ Cert.SsdKernelIdeal.sig) → Buf (Elt Ideal) ℓ) (c : Dev Cert.SsdKernelIdeal.nD)
    (hg : (arrs m c).Good) (y0 : FVec Ideal S8192x4608 .f32) (e0 : y0 = (arrs m c).x0)
    (y1 : FVec Ideal S8192x16 .f32) (e1 : y1 = (arrs m c).x1)
    (y2 : FVec Ideal S4x1536 .f32) (e2 : y2 = (arrs m c).x2)
    (y3 : FVec Ideal S1x1536 .f32) (e3 : y3 = (arrs m c).x3)
    (y4 : FVec Ideal S1x16 .f32) (e4 : y4 = (arrs m c).x4)
    (y5 : FVec Ideal S1x16 .f32) (e5 : y5 = (arrs m c).x5)
    (y6 : FVec Ideal S1x16 .f32) (e6 : y6 = (arrs m c).x6)
    (y7 : FVec Ideal S1x1024 .f32) (e7 : y7 = (arrs m c).x7)
    (y8 : FVec Ideal S8192x1024 .f32) (e8 : y8 = (arrs m c).x8) :
    val_main_v341 (F := Ideal) y0 y1 y2 y3 y4 y5 y6 y7 y8 = (Cert.SsdKernelIdeal.Gen.dats m 0 c).arrAt 13 Cert.SsdKernelIdeal.cfg0.N
    ∧ val_main_v344 (F := Ideal) y0 y1 y2 y3 y4 y5 y6 y7 y8 = (Cert.SsdKernelIdeal.Gen.dats m 0 c).arrAt 14 Cert.SsdKernelIdeal.cfg0.N
    ∧ val_main_v334 (F := Ideal) y0 y1 y2 y3 y4 y5 y6 y7 y8 = (Cert.SsdKernelIdeal.Gen.dats m 0 c).arrAt 15 Cert.SsdKernelIdeal.cfg0.N
    ∧ val_main_v325 (F := Ideal) y0 y1 y2 y3 y4 y5 y6 y7 y8 = (Cert.SsdKernelIdeal.Gen.dats m 0 c).arrAt 16 Cert.SsdKernelIdeal.cfg0.N
    ∧ val_main_v346 (F := Ideal) y0 y1 y2 y3 y4 y5 y6 y7 y8 = (Cert.SsdKernelIdeal.Gen.dats m 0 c).arrAt 17 Cert.SsdKernelIdeal.cfg0.N
    ∧ val_main_v348 (F := Ideal) y0 y1 y2 y3 y4 y5 y6 y7 y8 = (Cert.SsdKernelIdeal.Gen.dats m 0 c).arrAt 18 Cert.SsdKernelIdeal.cfg0.N
    ∧ val_main_v174 (F := Ideal) y0 y1 y2 y3 y4 y5 y6 y7 y8 = (Cert.SsdKernelIdeal.Gen.dats m 0 c).arrAt 19 Cert.SsdKernelIdeal.cfg0.N
    ∧ val_main_v146 (F := Ideal) y0 y1 y2 y3 y4 y5 y6 y8 = (Cert.SsdKernelIdeal.Gen.dats m 0 c).arrAt 20 Cert.SsdKernelIdeal.cfg0.N := by
  have hr := hg.rd
  have hk := args hg
  rw [← e0, ← e1, ← e2, ← e3, ← e4, ← e5, ← e6, ← e7, ← e8] at hr
  exact ⟨(Ref.rv341 hr).trans (Sweep.final13 hk).symm,
    (Ref.rv344 hr).trans (Sweep.final14 hk).symm,
    (Ref.rv334 hr).trans (Sweep.final15 hk).symm,
    (Ref.rv325 hr).trans (Sweep.final16 hk).symm,
    (Ref.rv346 hr).trans (Sweep.final17 hk).symm,
    (Ref.rv348 hr).trans (Sweep.final18 hk).symm,
    (Ref.rv174 hr).trans (Sweep.final19 hk).symm,
    (Ref.rv146 hr).trans (Sweep.final20 hk).symm⟩

set_option maxHeartbeats 4000000 in
theorem algebraic : Cert.algebraic_SsdKernelIdeal_SsdReferenceIdeal_pre_ssd_finite
    (hSsdKernelIdeal := Cert.SsdKernelIdeal.Gen.facts) (hSsdReferenceIdeal := Cert.SsdReferenceIdeal.Gen.facts)
    (hPre_ssd_finite := Cert.Pre_ssd_finite.Gen.facts) := by
  intro m g m' g' hp ha
  refine ⟨_, _, _, _, _, _, _, _, Cert.SsdKernelIdeal.Value.run_blocks m g,
    (θ_run Cert.SsdReferenceIdeal.defs _ _).mono (fun r h c => ?_) (Cert.SsdReferenceIdeal.Value.run m' g')⟩
  obtain ⟨a0, a1, a2, a3, a4, a5, a6, a7, a8⟩ := ha c
  have hg : (arrs m c).Good := Arrs.good (x := arrs m c) (Shape.Idx.first (by decide)) (congrFun (hp c) _)
  obtain ⟨r0, r1, r2, r3, r4, r5, r6, r7⟩ := results_eq m c hg _ a0 _ a1 _ a2 _ a3 _ a4 _ a5 _ a6 _ a7 _ a8
  obtain ⟨h0, h1, h2, h3, h4, h5, h6, h7, hq⟩ := h c
  exact ⟨h0.trans ((Cert.SsdReferenceIdeal.Read.val_main_v341_eq fun b => m' (c, b)).trans r0),
    h1.trans ((Cert.SsdReferenceIdeal.Read.val_main_v344_eq fun b => m' (c, b)).trans r1),
    h2.trans ((Cert.SsdReferenceIdeal.Read.val_main_v334_eq fun b => m' (c, b)).trans r2),
    h3.trans ((Cert.SsdReferenceIdeal.Read.val_main_v325_eq fun b => m' (c, b)).trans r3),
    h4.trans ((Cert.SsdReferenceIdeal.Read.val_main_v346_eq fun b => m' (c, b)).trans r4),
    h5.trans ((Cert.SsdReferenceIdeal.Read.val_main_v348_eq fun b => m' (c, b)).trans r5),
    h6.trans ((Cert.SsdReferenceIdeal.Read.val_main_v174_eq fun b => m' (c, b)).trans r6),
    h7.trans ((Cert.SsdReferenceIdeal.Read.val_main_v146_eq fun b => m' (c, b)).trans r7), hq⟩

theorem frame_ref : Cert.quiescent_SsdReferenceIdeal (hSsdReferenceIdeal := Cert.SsdReferenceIdeal.Gen.facts) := fun m ρ _ =>
  (θ_run Cert.SsdReferenceIdeal.defs _ _).mono (fun r h => ⟨fun c => (h c).2.2.2.2.2.2.2.2, sem_eq_zero_of_no_sems (by decide) r.2⟩)
    (Cert.SsdReferenceIdeal.Value.run m ρ)

end Cert.Proof.Ssd

end
-- ==== Proof.InBody.lean ====
/- What one grid point of the input projection's backward kernel computes from finite blocks, over the reals. -/
module

public import proofs.«01_k».proof.Proof.Rows
public import proofs.«01_k».proof.Proof.Gen.InKernelIdeal.Skeleton

@[expose] public section

noncomputable section

namespace Cert.Proof.Inproj

open Idealize.ShloMosaic Idealize.ShloMosaic.ValueIdx Cert.InKernelIdeal Cert.InKernelIdeal.Gen Cert.Proof.Rows

variable (dl : S512x2048.Idx → ℝ) (ds : S512x2560.Idx → ℝ) (dd : S512x128.Idx → ℝ) (wl : S1024x2048.Idx → ℝ) (ws : S1024x2560.Idx → ℝ)
  (wd : S1024x128.Idx → ℝ) (x : S512x1024.Idx → ℝ)

/-- The gradient of the projection's operand, from the three parts of the projection's gradient. -/
def dh {n : Nat} (dl : (⟨2, ![n, 2048]⟩ : Shape).Idx → ℝ) (ds : (⟨2, ![n, 2560]⟩ : Shape).Idx → ℝ) (dd : (⟨2, ![n, 128]⟩ : Shape).Idx → ℝ)
    (wl : S1024x2048.Idx → ℝ) (ws : S1024x2560.Idx → ℝ) (wd : S1024x128.Idx → ℝ) : (⟨2, ![n, 1024]⟩ : Shape).Idx → ℝ :=
  mulWT dl wl + mulWT ds ws + mulWT dd wd

theorem pay4_lift : k0_pay4 (F := Ideal) (lift dl) (lift wl) (lift ds) (lift ws) (lift dd) (lift wd) = lift (dh dl ds dd wl ws wd) := by
  unfold k0_pay4
  simp only [shapeCast_self, constant_lift ofBits_0, matmul_lift, dotR_WT dot_S512x2048_S1024x2048_S512x1024_1_1_0_0_n_n rfl rfl rfl rfl rfl rfl,
    dotR_WT dot_S512x2560_S1024x2560_S512x1024_1_1_0_0_n_n rfl rfl rfl rfl rfl rfl,
    dotR_WT dot_S512x128_S1024x128_S512x1024_1_1_0_0_n_n rfl rfl rfl rfl rfl rfl, const_zero_add, addf_lift]
  rfl

theorem pay5_lift : k0_pay5 (F := Ideal) (lift x) = lift fun i => rn x (i 0) := by
  unfold k0_pay5
  simp only [mulf_lift, multiReduction_lift _ reduces_S512x1024_S512, shapeCast_lift, broadcast_lift ofBits_1024, broadcast_lift ofBits_eps, cast_col, sum_cols]
  rw [divf_lift _ _ fun _ => by norm_num, addf_lift]
  exact rsqrt_lift _ fun i => meanSq_pos x (i 0)

/-- The gain's gradient, added to what the points before summed. -/
theorem pay1_lift (acc : S1x1024.Idx → ℝ) : k0_pay1 (F := Ideal) (k0_pay6 (lift acc))
    (k0_pay7 (lift dl) (lift wl) (lift ds) (lift ws) (lift dd) (lift wd) (lift x)) = lift (acc + dGain x (dh dl ds dd wl ws wd)) := by
  unfold k0_pay1 k0_pay6 k0_pay7
  simp only [pay4_lift, pay5_lift, mulf_lift, multiReduction_lift _ reduces_S512x1024_S1024, shapeCast_lift, cast_row, sum_rows, broadcastTo_lift, bcast_col,
    shapeCast_self, addf_lift]
  rfl

/-- The layer's gradient: what comes past the layer, and the normalisation's. -/
theorem pay2_lift (e b : S512x1024.Idx → ℝ) (g : S1x1024.Idx → ℝ) :
    k0_pay2 (F := Ideal) (lift b) (lift x) (k0_pay5 (lift x)) (lift e) (lift g) = lift (e + dRms x (b * rowsOf g)) := by
  unfold k0_pay2
  simp only [pay5_lift, mulf_lift, multiReduction_lift _ reduces_S512x1024_S512, shapeCast_lift, broadcast_lift ofBits_1024,
    cast_col, sum_cols, broadcastTo_lift, bcast_col, bcast_row]
  rw [divf_lift _ _ fun _ => by norm_num]
  simp only [mulf_lift, subf_lift, addf_lift, broadcastTo_lift, bcast_col]
  rfl

end Cert.Proof.Inproj

end
-- ==== Proof.InRun.lean ====
/- What a grid point of the input projection's backward kernel leaves in its output blocks and in the buffers of the weight. -/
module

public import proofs.«01_k».proof.Proof.InBody
public import proofs.«01_k».proof.Proof.Tile
public import proofs.«01_k».proof.Proof.Gen.InKernelIdeal.Value

@[expose] public section

noncomputable section

namespace Cert.Proof.Inproj

open Idealize.ShloMosaic Idealize.ShloMosaic.ValueIdx Cert.InKernelIdeal Cert.InKernelIdeal.Gen Cert.InKernelIdeal.Value Cert.Proof.Rows

variable {F : FTy → Type} [FloatOps F]

/-- The weight's columns of the first and of the second part. -/
def cut0 {α : Type} (x : S1024x4608.Idx → α) : S1024x2048.Idx → α :=
  extractStridedSlice S1024x2048 ![0, 0] x ⟨rfl, inb_S1024x4608_S1024x2048_0_0⟩
def cut1 {α : Type} (x : S1024x4608.Idx → α) : S1024x2560.Idx → α :=
  extractStridedSlice S1024x2560 ![0, 2048] x ⟨rfl, inb_S1024x4608_S1024x2560_0_2048⟩

theorem ld_cut0 {e : EltTy} (X : S1024x4608.Idx → Elt F e) (inb) :
    View.ld X (Rect.unit (s := S1024x4608) ![0, 0] ![1024, 2048] inb) = cut0 X := View.ld_unit _ _ _ _
theorem ld_cut1 {e : EltTy} (X : S1024x4608.Idx → Elt F e) (inb) :
    View.ld X (Rect.unit (s := S1024x4608) ![0, 2048] ![1024, 2560] inb) = cut1 X := View.ld_unit _ _ _ _

variable (c : Dev nD) (i : grid0.Coords) (a1 : Memref sig .tc .vmem S512x2048 .bf16) (h1 : a1.IsWhole) (a2 : Memref sig .tc .vmem S512x2560 .bf16) (h2 : a2.IsWhole)
  (a3 : Memref sig .tc .vmem S512x128 .bf16) (h3 : a3.IsWhole) (a4 : Memref sig .tc .vmem S512x1024 .f32) (h4 : a4.IsWhole)
  (a5 : Memref sig .tc .vmem S512x1024 .f32) (h5 : a5.IsWhole) (a6 : Memref sig .tc .vmem S1x1024 .f32) (h6 : a6.IsWhole)
  (a9 : Memref sig .tc .vmem S512x1024 .f32) (h9 : a9.IsWhole) (a10 : Memref sig .tc .vmem S1x1024 .f32) (h10 : a10.IsWhole)
  (a11 : Memref sig .tc .vmem S1024x4608 .bf16) (h11 : a11.IsWhole) (a12 : Memref sig .tc .vmem S1024x128 .bf16) (h12 : a12.IsWhole)
  (x0 : Vec F S512x2048 .bf16) (x1 : Vec F S512x2560 .bf16) (x2 : Vec F S512x128 .bf16) (x3 x4 : Vec F S512x1024 .f32) (x5 xo : Vec F S1x1024 .f32)
  (xs0 : Vec F S1024x4608 .bf16) (xs1 : Vec F S1024x128 .bf16) (f0 : HbBuf0 (F := F) c hbM0_0) (f1 : HbBuf0 (F := F) c hbM0_1)

/-- The two outputs, from the blocks and the weight. -/
def gx (x0 : Vec F S512x2048 .bf16) (x1 : Vec F S512x2560 .bf16) (x2 : Vec F S512x128 .bf16) (x3 x4 : Vec F S512x1024 .f32) (x5 : Vec F S1x1024 .f32)
    (w0 : Vec F S1024x4608 .bf16) (w1 : Vec F S1024x128 .bf16) : Vec F S512x1024 .f32 :=
  k0_pay2 (k0_pay4 x0 (cut0 w0) x1 (cut1 w0) x2 w1) x4 (k0_pay5 x4) x3 x5
def dg (x0 : Vec F S512x2048 .bf16) (x1 : Vec F S512x2560 .bf16) (x2 : Vec F S512x128 .bf16) (x4 : Vec F S512x1024 .f32)
    (w0 : Vec F S1024x4608 .bf16) (w1 : Vec F S1024x128 .bf16) (acc : Vec F S1x1024 .f32) : Vec F S1x1024 .f32 :=
  k0_pay1 (k0_pay6 acc) (k0_pay7 x0 (cut0 w0) x1 (cut1 w0) x2 w1 x4)

theorem dma0 : kernelRun0_A.sl.dma0 c f0 = f0 := rfl
theorem dma1 : kernelRun0_A.sl.dma0_1 c f1 = f1 := rfl

theorem v5 : kernelRun0_A.sl.v5 c a11 f0 = cut0 f0 := by
  unfold kernelRun0_A.sl.v5
  rw [View.readCov_eq_canon', dma0, canon_whole]
  exact ld_cut0 _ _
theorem v9 : kernelRun0_A.sl.v9 c a11 f0 = cut1 f0 := by
  unfold kernelRun0_A.sl.v9
  rw [View.readCov_eq_canon', dma0, canon_whole]
  exact ld_cut1 _ _
theorem v14 : kernelRun0_A.sl.v14 c a12 f1 = f1 := by
  unfold kernelRun0_A.sl.v14
  rw [View.readCov_eq_canon', dma1, canon_whole]
  exact ld_all _ _

theorem soutA0 (hc) : sout0_A_0 c i a1 h1 a2 h2 a3 h3 a4 h4 a5 h5 a6 h6 a9 h9 a10 h10 a11 h11 a12 h12 hc x0 x1 x2 x3 x4 x5 f0 f1 = f0 := by
  unfold sout0_A_0
  rw [View.read_writes_junk_eq_canon]
  exact (canon_whole _).trans (dma0 c f0)

theorem soutA1 (hc) : sout0_A_1 c i a1 h1 a2 h2 a3 h3 a4 h4 a5 h5 a6 h6 a9 h9 a10 h10 a11 h11 a12 h12 hc x0 x1 x2 x3 x4 x5 f0 f1 = f1 := by
  unfold sout0_A_1
  rw [View.read_writes_junk_eq_canon]
  exact (canon_whole _).trans (dma1 c f1)

theorem outB6 (hc) : out0_B_6 c i a1 h1 a2 h2 a3 h3 a4 h4 a5 h5 a6 h6 a9 h9 a10 h10 a11 h11 a12 h12 hc x0 x1 x2 x3 x4 x5 xo xs0 xs1 f0 f1 = gx x0 x1 x2 x3 x4 x5 xs0 xs1 := by
  unfold out0_B_6
  rw [View.read_writes_junk_eq_canon]
  refine (View.canon_unit_zero (S := S512x1024) hz inb_S512x1024_S512x1024_0_0 _).trans ?_
  simp only [kernelRun0_B.sl.r, kernelRun0_B.sl.r_1, kernelRun0_B.sl.r_2, kernelRun0_B.sl.r_3, kernelRun0_B.sl.r_4, View.readAt_eq_ld, Memref.IsWhole.read_unread, ld_all, ld_cut0, ld_cut1]
  rfl

theorem outA6 (hc) : out0_A_6 c i a1 h1 a2 h2 a3 h3 a4 h4 a5 h5 a6 h6 a9 h9 a10 h10 a11 h11 a12 h12 hc x0 x1 x2 x3 x4 x5 f0 f1 = gx x0 x1 x2 x3 x4 x5 f0 f1 := by
  unfold out0_A_6
  rw [View.read_writes_junk_eq_canon]
  refine (View.canon_unit_zero (S := S512x1024) hz inb_S512x1024_S512x1024_0_0 _).trans ?_
  simp only [kernelRun0_A.sl.r, kernelRun0_A.sl.r_1, kernelRun0_A.sl.r_2, kernelRun0_A.sl.r_3, kernelRun0_A.sl.r_4, View.readAt_eq_ld, Memref.IsWhole.read_unread, ld_all, v5, v9, v14]
  rfl

theorem outB7 (hc) : out0_B_7 c i a1 h1 a2 h2 a3 h3 a4 h4 a5 h5 a6 h6 a9 h9 a10 h10 a11 h11 a12 h12 hc x0 x1 x2 x3 x4 x5 xo xs0 xs1 f0 f1 = dg x0 x1 x2 x4 xs0 xs1 xo := by
  unfold out0_B_7
  rw [View.read_writes_junk_eq_canon]
  refine (View.canon_unit_zero (S := S1x1024) hz inb_S1x1024_S1x1024_0_0 _).trans ?_
  simp only [kernelRun0_B.sl.r, kernelRun0_B.sl.r_1, kernelRun0_B.sl.r_2, kernelRun0_B.sl.r_3, kernelRun0_B.sl.r_4, View.readAt_eq_ld, Memref.IsWhole.read_unread, ld_all, ld_cut0, ld_cut1]
  rfl

theorem outA7 (hc) : out0_A_7 c i a1 h1 a2 h2 a3 h3 a4 h4 a5 h5 a6 h6 a9 h9 a10 h10 a11 h11 a12 h12 hc x0 x1 x2 x3 x4 x5 f0 f1 = dg x0 x1 x2 x4 f0 f1 k0_pay3 := by
  unfold out0_A_7
  rw [View.read_writes_junk_eq_canon]
  refine (View.canon_cons_unit_zero (S := S1x1024) hz inb_S1x1024_S1x1024_0_0 _ _).trans ?_
  simp only [kernelRun0_A.sl.r, kernelRun0_A.sl.r_1, kernelRun0_A.sl.r_2, kernelRun0_A.sl.r_3, kernelRun0_A.sl.r_4, View.readAt_eq_ld, Memref.IsWhole.read_unread, ld_all, v5, v9, v14]
  exact congrArg (fun a => k0_pay1 (k0_pay6 a) _) (View.readCov_unit_zero (S := S1x1024) _ hz inb_S1x1024_S1x1024_0_0 _)

variable (m : (ℓ : Loc nD τ sig) → Buf (Elt F) ℓ) (t : Fin cfg0.N)

theorem weight_first (h0 : t.val % 16 = 0) : (outsAt0 m c t.val t.isLt).2.2 = (V m c main_v13, V m c main_v3) := by
  simp only [outsAt0_A m c t h0, soutA0, soutA1]
theorem weight_next (h0 : ¬t.val % 16 = 0) :
    (outsAt0 m c t.val t.isLt).2.2 = (outsAt0 m c (t.val - 1) (Nat.lt_of_le_of_lt (Nat.sub_le _ _) t.isLt)).2.2 := by
  simp only [outsAt0_B m c t h0, sout0_B_0, sout0_B_1]

/-- The buffers of the weight hold the weight after every point. -/
theorem weight_eq (n : Nat) (hn : n < cfg0.N) : (outsAt0 m c n hn).2.2 = (V m c main_v13, V m c main_v3) := by
  induction n with
  | zero => exact weight_first c m ⟨0, hn⟩ rfl
  | succ n ih =>
    by_cases h0 : (n + 1) % 16 = 0
    · exact weight_first c m ⟨n + 1, hn⟩ h0
    · exact (weight_next c m ⟨n + 1, hn⟩ h0).trans (ih (by omega))

/-- What the outputs hold after a point. -/
theorem out_gx : (outsAt0 m c t.val t.isLt).1 = gx (iblk m c 0 t) (iblk m c 1 t) (iblk m c 2 t) (iblk m c 3 t) (iblk m c 4 t) (iblk m c 5 t)
    (V m c main_v13) (V m c main_v3) := by
  by_cases h0 : t.val % 16 = 0
  · simp only [outsAt0_A m c t h0, outA6]
  · simp only [outsAt0_B m c t h0, outB6, weight_eq]

theorem out_dg_first (h0 : t.val % 16 = 0) : (outsAt0 m c t.val t.isLt).2.1 = dg (iblk m c 0 t) (iblk m c 1 t) (iblk m c 2 t) (iblk m c 4 t)
    (V m c main_v13) (V m c main_v3) k0_pay3 := by
  simp only [outsAt0_A m c t h0, outA7]

theorem out_dg_next (h0 : ¬t.val % 16 = 0) : (outsAt0 m c t.val t.isLt).2.1 = dg (iblk m c 0 t) (iblk m c 1 t) (iblk m c 2 t) (iblk m c 4 t)
    (V m c main_v13) (V m c main_v3) (outsAt0 m c (t.val - 1) (Nat.lt_of_le_of_lt (Nat.sub_le _ _) t.isLt)).2.1 := by
  simp only [outsAt0_B m c t h0, outB7, weight_eq]

end Cert.Proof.Inproj

end
-- ==== Proof.InKernel.lean ====
/- The results of the input projection's backward kernel on finite arguments: the layer's gradient rows by rows, and the sum over
   all rows for the norm's factor. -/
module

public import proofs.«01_k».proof.Proof.InRun

@[expose] public section

noncomputable section

namespace Cert.Proof.Inproj

open Idealize.ShloMosaic Idealize.ShloMosaic.TcCoe Idealize.ShloMosaic.ValueIdx
open Cert.InKernelIdeal Cert.InKernelIdeal.Gen Cert.InKernelIdeal.Value Cert.Proof.Rows

theorem pts : cfg0.N * 512 = 8192 := rfl

theorem emb0 (t : Fin cfg0.N) (j : S512x2048.Idx) : ((cfg0.win 0).blk t).view.emb j = ix2 (rowAt pts t (j 0)) (j 1) :=
  emb_rows pts t ((by decide +kernel : ∀ t : Fin grid0.N, win0_0.index t (0 : Fin 2) = t.val ∧ win0_0.index t (1 : Fin 2) = 0) t) j _ rfl rfl
theorem emb1 (t : Fin cfg0.N) (j : S512x2560.Idx) : ((cfg0.win 1).blk t).view.emb j = ix2 (rowAt pts t (j 0)) (j 1) :=
  emb_rows pts t ((by decide +kernel : ∀ t : Fin grid0.N, win0_1.index t (0 : Fin 2) = t.val ∧ win0_1.index t (1 : Fin 2) = 0) t) j _ rfl rfl
theorem emb2 (t : Fin cfg0.N) (j : S512x128.Idx) : ((cfg0.win 2).blk t).view.emb j = ix2 (rowAt pts t (j 0)) (j 1) :=
  emb_rows pts t ((by decide +kernel : ∀ t : Fin grid0.N, win0_2.index t (0 : Fin 2) = t.val ∧ win0_2.index t (1 : Fin 2) = 0) t) j _ rfl rfl
theorem emb3 (t : Fin cfg0.N) (j : S512x1024.Idx) : ((cfg0.win 3).blk t).view.emb j = ix2 (rowAt pts t (j 0)) (j 1) :=
  emb_rows pts t ((by decide +kernel : ∀ t : Fin grid0.N, win0_3.index t (0 : Fin 2) = t.val ∧ win0_3.index t (1 : Fin 2) = 0) t) j _ rfl rfl
theorem emb4 (t : Fin cfg0.N) (j : S512x1024.Idx) : ((cfg0.win 4).blk t).view.emb j = ix2 (rowAt pts t (j 0)) (j 1) :=
  emb_rows pts t ((by decide +kernel : ∀ t : Fin grid0.N, win0_4.index t (0 : Fin 2) = t.val ∧ win0_4.index t (1 : Fin 2) = 0) t) j _ rfl rfl
theorem emb6 (t : Fin cfg0.N) (j : S512x1024.Idx) : ((cfg0.win 6).blk t).view.emb j = ix2 (rowAt pts t (j 0)) (j 1) :=
  emb_rows pts t ((by decide +kernel : ∀ t : Fin grid0.N, win0_6.index t (0 : Fin 2) = t.val ∧ win0_6.index t (1 : Fin 2) = 0) t) j _ rfl rfl
theorem emb5 (t : Fin cfg0.N) (j : S1x1024.Idx) : ((cfg0.win 5).blk t).view.emb j = j :=
  emb_all ((by decide +kernel : ∀ t : Fin grid0.N, win0_5.index t (0 : Fin 2) = 0 ∧ win0_5.index t (1 : Fin 2) = 0) t) j _ rfl rfl
theorem emb7 (t : Fin cfg0.N) (j : S1x1024.Idx) : ((cfg0.win 7).blk t).view.emb j = j :=
  emb_all ((by decide +kernel : ∀ t : Fin grid0.N, win0_7.index t (0 : Fin 2) = 0 ∧ win0_7.index t (1 : Fin 2) = 0) t) j _ rfl rfl

section
variable (m : (ℓ : Loc nD τ sig) → Buf (Elt Ideal) ℓ) (c : Dev nD) (dl : S8192x2048.Idx → ℝ) (ds : S8192x2560.Idx → ℝ) (dd : S8192x128.Idx → ℝ)
  (E X : S8192x1024.Idx → ℝ) (g : S1x1024.Idx → ℝ) (W : S1024x4608.Idx → ℝ) (D : S1024x128.Idx → ℝ)

/-- The region's arguments are these arrays of real numbers. -/
structure Args : Prop where
  dl : V m c main_v9 = lift dl
  ds : V m c main_v11 = lift ds
  dd : V m c main_v7 = lift dd
  dx : V m c main_arg4 = lift E
  x : V m c main_arg0 = lift X
  g : V m c main_arg1 = lift g
  w : V m c main_v13 = lift W
  wd : V m c main_v3 = lift D

variable {m c dl ds dd E X g W D} (h : Args m c dl ds dd E X g W D)

theorem cut0_lift : cut0 (lift W) = lift (cut0 W) := extractStridedSlice_lift _ _ _
theorem cut1_lift : cut1 (lift W) = lift (cut1 W) := extractStridedSlice_lift _ _ _

include h

theorem blk0 (t : Fin cfg0.N) : iblk m c 0 t = lift (tile pts t dl) := by
  funext j; show V m c main_v9 (((cfg0.win 0).blk t).view.emb j) = _; rw [emb0, h.dl]; rfl
theorem blk1 (t : Fin cfg0.N) : iblk m c 1 t = lift (tile pts t ds) := by
  funext j; show V m c main_v11 (((cfg0.win 1).blk t).view.emb j) = _; rw [emb1, h.ds]; rfl
theorem blk2 (t : Fin cfg0.N) : iblk m c 2 t = lift (tile pts t dd) := by
  funext j; show V m c main_v7 (((cfg0.win 2).blk t).view.emb j) = _; rw [emb2, h.dd]; rfl
theorem blk3 (t : Fin cfg0.N) : iblk m c 3 t = lift (tile pts t E) := by
  funext j; show V m c main_arg4 (((cfg0.win 3).blk t).view.emb j) = _; rw [emb3, h.dx]; rfl
theorem blk4 (t : Fin cfg0.N) : iblk m c 4 t = lift (tile pts t X) := by
  funext j; show V m c main_arg0 (((cfg0.win 4).blk t).view.emb j) = _; rw [emb4, h.x]; rfl
theorem blk5 (t : Fin cfg0.N) : iblk m c 5 t = lift g := by
  funext j; show V m c main_arg1 (((cfg0.win 5).blk t).view.emb j) = _; rw [emb5, h.g]

theorem final6 : (dats m 0 c).arrAt 6 cfg0.N = lift (E + dRms X (dh dl ds dd (cut0 W) (cut1 W) D * rowsOf g)) :=
  (dats m 0 c).arrAt_eq_of_cover 6 (lift (E + dRms X (dh dl ds dd (cut0 W) (cut1 W) D * rowsOf g)))
    (fun t _ => by
      rw [flushed6, out_gx, blk0 h, blk1 h, blk2 h, blk3 h, blk4 h, blk5 h, h.w, h.wd]
      unfold gx
      rw [cut0_lift, cut1_lift, pay4_lift, pay2_lift]
      funext j
      show lift _ j = lift _ (((cfg0.win 6).blk t).view.emb j)
      rw [emb6]; rfl)
    (fun i => by
      obtain ⟨t, j, rfl⟩ := row_of pts (by decide) i
      exact ⟨t, flush0_6 t, by rw [← emb6]; exact ((cfg0.win 6).blk t).view.emb_mem_set j⟩)

omit h in
theorem dg_lift (dl : S512x2048.Idx → ℝ) (ds : S512x2560.Idx → ℝ) (dd : S512x128.Idx → ℝ) (x : S512x1024.Idx → ℝ) (acc : S1x1024.Idx → ℝ) :
    dg (F := Ideal) (lift dl) (lift ds) (lift dd) (lift x) (lift W) (lift D) (lift acc) = lift (acc + dGain x (dh dl ds dd (cut0 W) (cut1 W) D)) := by
  unfold dg
  rw [cut0_lift, cut1_lift, pay1_lift]

theorem acc_eq (n : Nat) (hn : n < cfg0.N) : (outsAt0 m c n hn).2.1 = lift (dGainTo 512 X (dh dl ds dd (cut0 W) (cut1 W) D) (n + 1)) := by
  induction n with
  | zero =>
    rw [out_dg_first c m ⟨0, hn⟩ rfl, blk0 h, blk1 h, blk2 h, blk4 h, h.w, h.wd]
    have e : (k0_pay3 : FVec Ideal S1x1024 .f32) = lift fun _ => 0 := broadcast_lift ofBits_0
    rw [e, dg_lift, ← dGainTo_zero (b := 512) X (dh dl ds dd (cut0 W) (cut1 W) D)]
    exact congrArg lift (dGainTo_succ pts X (dh dl ds dd (cut0 W) (cut1 W) D) ⟨0, hn⟩)
  | succ n ih =>
    have hB : ¬(⟨n + 1, hn⟩ : Fin cfg0.N).val % 16 = 0 := by
      have : n + 1 < 16 := hn
      show ¬(n + 1) % 16 = 0; omega
    refine (out_dg_next c m ⟨n + 1, hn⟩ hB).trans ?_
    rw [blk0 h, blk1 h, blk2 h, blk4 h, h.w, h.wd]
    show dg _ _ _ _ _ _ (outsAt0 m c n _).2.1 = _
    rw [ih (by omega), dg_lift]
    exact congrArg lift (dGainTo_succ pts X (dh dl ds dd (cut0 W) (cut1 W) D) ⟨n + 1, hn⟩)

theorem final7 : (dats m 0 c).arrAt 7 cfg0.N = lift (dGain X (dh dl ds dd (cut0 W) (cut1 W) D)) :=
  (dats m 0 c).arrAt_eq_of_cover 7 (lift (dGain X (dh dl ds dd (cut0 W) (cut1 W) D)))
    (fun t hf => by
      have ht : t.val = 15 := by have := (flush0_7 t).mp hf; have : t.val < 16 := t.isLt; omega
      rw [flushed7, acc_eq h]
      funext j
      show lift _ j = lift _ (((cfg0.win 7).blk t).view.emb j)
      rw [emb7, ht]
      exact congrFun (congrArg lift (dGainTo_all pts X (dh dl ds dd (cut0 W) (cut1 W) D))) j)
    (fun i => ⟨⟨15, by decide⟩, (flush0_7 _).mpr rfl, by
      have := ((cfg0.win 7).blk (⟨15, by decide⟩ : Fin cfg0.N)).view.emb_mem_set i; rwa [emb7] at this⟩)

end

end Cert.Proof.Inproj

end
-- ==== Proof.InClaim.lean ====
/- The input projection's backward kernel computes the gradients of the reference, on finite arguments. -/
module

public import proofs.«01_k».proof.Defs
public import proofs.«01_k».proof.Proof.InKernel
public import proofs.«01_k».proof.Proof.Gen.InReferenceIdeal.Run
public import proofs.«01_k».proof.Proof.Gen.InReferenceIdeal.Read
public import proofs.«01_k».proof.Proof.Gen.Pre_inproj_finite

@[expose] public section

noncomputable section

namespace Cert.Proof.Inproj

open Idealize.ShloMosaic Idealize.ShloMosaic.TcCoe Idealize.ShloMosaic.ValueIdx Idealize.SL.Sem Cert.Proof.Rows
open scoped BigOperators

/-! ## The parts of the projection's columns -/

section
variable {α : Type} [Zero α] {n : Nat} (Z : (⟨2, ![n, 4624]⟩ : Shape).Idx → α)

/-- The columns from `o` on. -/
def cols (o k : Nat) (h : o + k ≤ 4624) : (⟨2, ![n, k]⟩ : Shape).Idx → α :=
  fun i => Z (ix2 (i 0) ⟨o + (i 1).val, by have := idx2_lt1 i; omega⟩)

/-- The last sixteen columns, among zeros. -/
def last : (⟨2, ![n, 128]⟩ : Shape).Idx → α :=
  fun i => if h : (i 1).val < 16 then Z (ix2 (i 0) ⟨4608 + (i 1).val, by omega⟩) else 0

theorem last_lt (i) (h : (i 1).val < 16) : last Z i = Z (ix2 (i 0) ⟨4608 + (i 1).val, by omega⟩) := dif_pos h
theorem last_ge (i) (h : ¬(i 1).val < 16) : last Z i = 0 := dif_neg h
theorem last_low (r : Fin n) (q : Fin 16) : last Z (ix2 r (Fin.castAdd 112 q)) = Z (ix2 r (Fin.natAdd 4608 q)) := dif_pos q.isLt
theorem last_high (r : Fin n) (q : Fin 112) : last Z (ix2 r (Fin.natAdd 16 q)) = 0 :=
  dif_neg (show ¬(Fin.natAdd 16 q).val < 16 by rw [Fin.val_natAdd]; omega)

theorem slice_cols (o k : Nat) (h : o + k ≤ 4624) (hs : (⟨2, ![n, 4624]⟩ : Shape).Slices ![0, o] ⟨2, ![n, k]⟩) :
    extractStridedSlice ⟨2, ![n, k]⟩ ![0, o] Z hs = cols Z o k h :=
  funext fun i => extractStridedSlice_apply (t := ⟨2, ![n, k]⟩) ![0, o] Z hs i (ix2 (i 0) ⟨o + (i 1).val, by have := idx2_lt1 i; omega⟩) fun a =>
    match a with
    | ⟨0, _⟩ => (Nat.zero_add _).symm
    | ⟨1, _⟩ => rfl

theorem concat_last (hs : (⟨2, ![n, 4624]⟩ : Shape).Slices ![0, 4608] ⟨2, ![n, 16]⟩)
    (h : Shape.Concatenates [(⟨2, ![n, 16]⟩ : Shape), ⟨2, ![n, 112]⟩] ⟨2, ![n, 128]⟩ 1) :
    concatenate (⟨2, ![n, 128]⟩ : Shape) (1 : Fin 2) [⟨⟨2, ![n, 16]⟩, extractStridedSlice ⟨2, ![n, 16]⟩ ![0, 4608] Z hs⟩, ⟨⟨2, ![n, 112]⟩, fun _ => 0⟩] h
      = last Z := by
  rw [slice_cols Z 4608 16 (by omega)]
  funext j
  have hj := idx2_lt1 j
  by_cases hi : (j 1).val < 16
  · refine (concatenate_pair_apply_left (t := ⟨2, ![n, 128]⟩) (s₁ := ⟨2, ![n, 16]⟩) (s₂ := ⟨2, ![n, 112]⟩) (1 : Fin 2) _ _ h j rfl (ix2 (j 0) (⟨(j 1).val, hi⟩ : Fin 16)) ?_).trans ?_
    · intro b
      match b with
      | ⟨0, _⟩ => rfl
      | ⟨1, _⟩ => rfl
    · exact (last_lt Z j hi).symm
  · refine (concatenate_pair_apply_right (t := ⟨2, ![n, 128]⟩) (s₁ := ⟨2, ![n, 16]⟩) (s₂ := ⟨2, ![n, 112]⟩) (1 : Fin 2) _ _ h j rfl rfl (ix2 (j 0) (⟨(j 1).val - 16, by omega⟩ : Fin 112)) ?_ ?_).trans ?_
    · intro b hb
      match b with
      | ⟨0, _⟩ => rfl
      | ⟨1, _⟩ => exact absurd rfl hb
    · show (j 1).val - 16 + 16 = (j 1).val
      omega
    · exact (last_ge Z j hi).symm

theorem lift_last (Z : (⟨2, ![n, 4624]⟩ : Shape).Idx → ℝ) : lift (last Z) = last (lift Z) := by
  funext i
  by_cases h : (i 1).val < 16
  · exact (congrArg (fun x : ℝ => (x : EReal)) (last_lt Z i h)).trans (last_lt (lift Z) i h).symm
  · exact (congrArg (fun x : ℝ => (x : EReal)) (last_ge Z i h)).trans (last_ge (lift Z) i h).symm
end

/-- The product over all columns is the sum of the parts' products. -/
theorem dh_eq {n : Nat} (T : (⟨2, ![n, 4624]⟩ : Shape).Idx → ℝ) (W : (⟨2, ![1024, 4624]⟩ : Shape).Idx → ℝ) :
    dh (cols T 0 2048 (by omega)) (cols T 2048 2560 (by omega)) (last T) (cols W 0 2048 (by omega)) (cols W 2048 2560 (by omega)) (last W) = mulWT T W := by
  funext i
  show (∑ q : Fin 2048, (_ : ℝ)) + (∑ q : Fin 2560, (_ : ℝ)) + (∑ q : Fin (16 + 112), (_ : ℝ)) = ∑ q : Fin (2048 + 2560 + 16), (_ : ℝ)
  rw [Fin.sum_univ_add, Fin.sum_univ_add, Fin.sum_univ_add]
  have e : ∀ q : Fin 112, last T (ix2 (i 0) (Fin.natAdd 16 q)) * last W (ix2 (i 1) (Fin.natAdd 16 q)) = 0 := fun q =>
    (congrArg (· * _) (last_high T (i 0) q)).trans (zero_mul _)
  rw [Finset.sum_congr rfl fun q _ => e q, Finset.sum_const_zero, add_zero]
  refine congrArg₂ (· + ·) (congrArg₂ (· + ·) (Finset.sum_congr rfl fun q _ => ?_) (Finset.sum_congr rfl fun q _ => ?_)) (Finset.sum_congr rfl fun q _ => ?_)
  · exact congrArg₂ (· * ·) (congrArg T (congrArg (ix2 (i 0)) (Fin.ext (Nat.zero_add _)))) (congrArg W (congrArg (ix2 (i 1)) (Fin.ext (Nat.zero_add _))))
  · rfl
  · exact congrArg₂ (· * ·) (last_low T (i 0) q) (last_low W (i 1) q)

/-! ## The host lines -/

section
open Cert.InKernelIdeal Cert.InKernelIdeal.Gen Cert.InKernelIdeal.Value

variable (m : (ℓ : Loc nD τ sig) → Buf (Elt Ideal) ℓ) (c : Dev nD) {W : S1024x4624.Idx → ℝ} {T : S8192x4624.Idx → ℝ}

theorem ofBits_0b : Ideal.ofBits .bf16 0x0000#16 = ((0 : ℝ) : EReal) := by
  simp [Ideal.ofBits, Ideal.ieee]
theorem constant_0b {s : Shape} : constant (F := Ideal) s .bf16 0x0000#16 = fun _ => 0 := funext fun _ => ofBits_0b

theorem host_w (h : m ((c : Thread nD τ).loc main_arg2) = lift W) : V m c main_v13 = lift (cols W 0 4608 (by omega)) := by
  rw [← slice_cols W 0 4608 (by omega) slices_S1024x4624_S1024x4608_0_0, ← extractStridedSlice_lift, ← h]
  show StableHlo.after hostOps0 (fun b => m (c, b)) main_v13 = _
  simp only [hostOps0]
  after_results_simp
  rfl

theorem host_dl (h : m ((c : Thread nD τ).loc main_arg3) = lift T) : V m c main_v9 = lift (cols T 0 2048 (by omega)) := by
  rw [← slice_cols T 0 2048 (by omega) slices_S8192x4624_S8192x2048_0_0, ← extractStridedSlice_lift, ← h]
  show StableHlo.after hostOps0 (fun b => m (c, b)) main_v9 = _
  simp only [hostOps0]
  after_results_simp
  rfl

theorem host_ds (h : m ((c : Thread nD τ).loc main_arg3) = lift T) : V m c main_v11 = lift (cols T 2048 2560 (by omega)) := by
  rw [← slice_cols T 2048 2560 (by omega) slices_S8192x4624_S8192x2560_0_2048, ← extractStridedSlice_lift, ← h]
  show StableHlo.after hostOps0 (fun b => m (c, b)) main_v11 = _
  simp only [hostOps0]
  after_results_simp
  rfl

theorem host_wd (h : m ((c : Thread nD τ).loc main_arg2) = lift W) : V m c main_v3 = lift (last W) := by
  rw [lift_last, ← concat_last (lift W) slices_S1024x4624_S1024x16_0_4608 concatenates_S1024x16_S1024x112_S1024x128_d1, ← h, ← constant_0b]
  show StableHlo.after hostOps0 (fun b => m (c, b)) main_v3 = _
  simp only [hostOps0]
  after_results_simp
  rfl

theorem host_dd (h : m ((c : Thread nD τ).loc main_arg3) = lift T) : V m c main_v7 = lift (last T) := by
  rw [lift_last, ← concat_last (lift T) slices_S8192x4624_S8192x16_0_4608 concatenates_S8192x16_S8192x112_S8192x128_d1, ← h, ← constant_0b]
  show StableHlo.after hostOps0 (fun b => m (c, b)) main_v7 = _
  simp only [hostOps0]
  after_results_simp
  rfl

theorem cut_eq : cut0 (cols W 0 4608 (by omega)) = cols W 0 2048 (by omega) ∧ cut1 (cols W 0 4608 (by omega)) = cols W 2048 2560 (by omega) := by
  constructor
  · funext i
    refine (extractStridedSlice_apply (t := S1024x2048) ![0, 0] (cols W 0 4608 (by omega)) ⟨rfl, inb_S1024x4608_S1024x2048_0_0⟩ i (ix2 (i 0) ⟨(i 1).val, by have : (i 1).val < 2048 := idx2_lt1 i; omega⟩) fun a => match a with
      | ⟨0, _⟩ => (Nat.zero_add _).symm
      | ⟨1, _⟩ => (Nat.zero_add _).symm).trans ?_
    rfl
  · funext i
    refine (extractStridedSlice_apply (t := S1024x2560) ![0, 2048] (cols W 0 4608 (by omega)) ⟨rfl, inb_S1024x4608_S1024x2560_0_2048⟩ i (ix2 (i 0) ⟨2048 + (i 1).val, by have : (i 1).val < 2560 := idx2_lt1 i; omega⟩) fun a => match a with
      | ⟨0, _⟩ => (Nat.zero_add _).symm
      | ⟨1, _⟩ => rfl).trans ?_
    exact congrArg W (congrArg (ix2 (i 0)) (Fin.ext (Nat.zero_add _)))
end

/-! ## The reference -/

section
open Cert.InReferenceIdeal Cert.InReferenceIdeal.Read

variable (X E : R.Idx → ℝ) (g : G.Idx → ℝ) (W : S1024x4624.Idx → ℝ) (T : S8192x4624.Idx → ℝ)

theorem ref_dh : val_main_v16 (F := Ideal) (lift W) (lift T) = lift (mulWT T W) := by
  unfold val_main_v16
  rw [dotGeneral_lift, dotR_WT dot_S8192x4624_S1024x4624_S8192x1024_1_1_0_0_n_n rfl rfl rfl rfl rfl rfl]

theorem ref_dg : val_main_v19 (F := Ideal) (lift X) (lift W) (lift T) = lift (dGain X (mulWT T W)) := by
  have e : val_main_v19 (F := Ideal) (lift X) (lift W) (lift T) = hostDg (lift X) (val_main_v16 (F := Ideal) (lift W) (lift T)) := rfl
  rw [e, ref_dh, hostDg_lift]

theorem ref_dx : val_main_v36 (F := Ideal) (lift X) (lift g) (lift W) (lift T) (lift E) = lift (E + dRms X (mulWT T W * rowsOf g)) := by
  have e : val_main_v36 (F := Ideal) (lift X) (lift g) (lift W) (lift T) (lift E)
      = addf (lift E) (hostDx (lift X) (mulf (val_main_v16 (F := Ideal) (lift W) (lift T)) (hostG (lift g)))) := rfl
  rw [e, ref_dh, hostG_lift, mulf_lift, hostDx_lift, addf_lift]
end

/-! ## The claim -/

/-- The precondition makes the five arguments real. -/
theorem args_real (x0 x4 : FVec Ideal Cert.Pre_inproj_finite.S8192x1024 .f32) (x1 : FVec Ideal Cert.Pre_inproj_finite.S1x1024 .f32)
    (x2 : FVec Ideal Cert.Pre_inproj_finite.S1024x4624 .f32) (x3 : FVec Ideal Cert.Pre_inproj_finite.S8192x4624 .f32) (j : Cert.Pre_inproj_finite.S_.Idx)
    (h : Cert.Pre_inproj_finite.fn (F := Ideal) x0 x1 x2 x3 x4 j = 1#1) : IsReal x0 ∧ IsReal x1 ∧ IsReal x2 ∧ IsReal x3 ∧ IsReal x4 := by
  unfold Cert.Pre_inproj_finite.fn Cert.Pre_inproj_finite.fn_part1 at h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨isReal_of_all _ _ _ _ _ _ h0, isReal_of_all _ _ _ _ _ _ h1, isReal_of_all _ _ _ _ _ _ h2, isReal_of_all _ _ _ _ _ _ h3,
    isReal_of_all _ _ _ _ _ _ h4⟩

open Cert.InKernelIdeal Cert.InKernelIdeal.Gen in
/-- On finite arguments the two programs leave the same two arrays. -/
theorem results_eq [Cert.Pre_inproj_finite.Facts] (m : (ℓ : Loc nD τ sig) → Buf (Elt Ideal) ℓ) (hp : Cert.Pre_InKernelIdeal_inproj_finite m) (c : Dev nD)
    (x0 x4 : FVec Ideal S8192x1024 .f32) (x1 : FVec Ideal S1x1024 .f32) (x2 : FVec Ideal S1024x4624 .f32) (x3 : FVec Ideal S8192x4624 .f32)
    (e0 : x0 = m ((c : Thread nD τ).loc main_arg0)) (e1 : x1 = m ((c : Thread nD τ).loc main_arg1)) (e2 : x2 = m ((c : Thread nD τ).loc main_arg2))
    (e3 : x3 = m ((c : Thread nD τ).loc main_arg3)) (e4 : x4 = m ((c : Thread nD τ).loc main_arg4)) :
    Cert.InReferenceIdeal.Read.val_main_v36 (F := Ideal) x0 x1 x2 x3 x4 = (dats m 0 c).arrAt 6 cfg0.N
    ∧ Cert.InReferenceIdeal.Read.val_main_v19 (F := Ideal) x0 x2 x3 = (dats m 0 c).arrAt 7 cfg0.N := by
  obtain ⟨⟨X, hX⟩, ⟨g, hg⟩, ⟨W, hW⟩, ⟨T, hT⟩, ⟨E, hE⟩⟩ := args_real x0 x4 x1 x2 x3 (Shape.Idx.first (by decide)) (by
    rw [e0, e1, e2, e3, e4]; exact congrFun (hp c) _)
  have h : Args m c (cols T 0 2048 (by omega)) (cols T 2048 2560 (by omega)) (last T) E X g (cols W 0 4608 (by omega)) (last W) :=
    ⟨host_dl m c (e3.symm.trans hT), host_ds m c (e3.symm.trans hT), host_dd m c (e3.symm.trans hT), (V_main_arg4 m c).trans (e4.symm.trans hE),
      (V_main_arg0 m c).trans (e0.symm.trans hX), (V_main_arg1 m c).trans (e1.symm.trans hg), host_w m c (e2.symm.trans hW), host_wd m c (e2.symm.trans hW)⟩
  rw [final6 h, final7 h, cut_eq.1, cut_eq.2, dh_eq, hX, hg, hW, hT, hE]
  exact ⟨ref_dx X E g W T, ref_dg X W T⟩

theorem algebraic : Cert.algebraic_InKernelIdeal_InReferenceIdeal_pre_inproj_finite
    (hInKernelIdeal := Cert.InKernelIdeal.Gen.facts) (hInReferenceIdeal := Cert.InReferenceIdeal.Gen.facts) (hPre_inproj_finite := Cert.Pre_inproj_finite.Gen.facts) := by
  intro m g m' g' hp ha
  refine ⟨_, _, Cert.InKernelIdeal.Value.run_blocks m g, (θ_run Cert.InReferenceIdeal.defs _ _).mono (fun r h c => ?_) (Cert.InReferenceIdeal.Value.run m' g')⟩
  obtain ⟨a0, a1, a2, a3, a4⟩ := ha c
  obtain ⟨r0, r1⟩ := results_eq m hp c _ _ _ _ _ a0 a1 a2 a3 a4
  obtain ⟨h0, h1, hk⟩ := h c
  exact ⟨h0.trans ((Cert.InReferenceIdeal.Read.val_main_v36_eq m' c).trans r0), h1.trans ((Cert.InReferenceIdeal.Read.val_main_v19_eq _ _ _).trans r1), hk⟩

theorem frame_ref : Cert.quiescent_InReferenceIdeal (hInReferenceIdeal := Cert.InReferenceIdeal.Gen.facts) := fun m ρ _ =>
  (θ_run Cert.InReferenceIdeal.defs _ _).mono (fun r h => ⟨fun c => (h c).2.2, sem_eq_zero_of_no_sems (by decide) r.2⟩)
    (Cert.InReferenceIdeal.Value.run m ρ)

end Cert.Proof.Inproj

end
-- ==== Proof.OutFwd.lean ====
/- The output projection's forward call: what it computes of any extended reals, and that its reference computes the same. -/
module

public import proofs.«01_k».proof.Defs
public import proofs.«01_k».proof.Proof.Tile
public import proofs.«01_k».proof.Proof.Gen.OutKernelIdeal.Value
public import proofs.«01_k».proof.Proof.Gen.OutReferenceIdeal.Run
public import proofs.«01_k».proof.Proof.Gen.OutReferenceIdeal.Read
public import Idealize.ShloMosaic.Lib.MatmulPlain

@[expose] public section

noncomputable section

namespace Cert.Proof.OutFwd

open Idealize.ShloMosaic Idealize.ShloMosaic.TcCoe Idealize.ShloMosaic.ValueIdx Idealize.SL.Sem Cert.Proof.Rows
open scoped BigOperators

abbrev A (n k : Nat) : Type := (⟨2, ![n, k]⟩ : Shape).Idx → EReal

section
variable {n : Nat}

/-- The sum of the products of two arrays' rows with the halves of the weight. -/
def mix (Y Z : A n 1024) (W : A 2048 1024) : A n 1024 := fun i =>
  ∑ k : Fin 1024, Y (ix2 (i 0) k) * W (ix2 (Fin.castAdd 1024 k) (i 1)) + ∑ k : Fin 1024, Z (ix2 (i 0) k) * W (ix2 (Fin.natAdd 1024 k) (i 1))

/-- The mean of a row of 1024 from its sum, with the word added; and that of the squares of row `r`. -/
def ofSum (s : EReal) : EReal := Ideal.div s (Ideal.ofBits .f32 0x44800000#32) + Ideal.ofBits .f32 0x358637BD#32
def meanE (X : A n 1024) (r : Fin n) : EReal := ofSum (∑ k : Fin 1024, X (ix2 r k) * X (ix2 r k))

/-- The normalised rows times a gain. -/
def normed (X : A n 1024) (g : A 1 1024) : A n 1024 := fun i => X i * Ideal.rsqrt (meanE X (i 0)) * g (ix2 0 (i 1))

/-- The residual stream after the layer. -/
def resid (X Y Z : A n 1024) (W : A 2048 1024) (g : A 1 1024) : A n 1024 := fun i => X i + normed (mix Y Z W) g i
end

/-! ## The kernel's body -/

section
open Cert.OutKernelIdeal Cert.OutKernelIdeal.Gen Cert.OutKernelIdeal.Value

variable (X Y Z : A 512 1024) (W : A 2048 1024) (g f : A 1 1024)

theorem product (Y : A 512 1024) (V : A 1024 1024) (i : S512x1024.Idx) :
    matmul (F := Ideal) (φ₁ := .f32) (φ₂ := .bf16) dot_S512x1024_S1024x1024_S512x1024_1_0_0_1_n_n none Y V (constant S512x1024 .f32 0x00000000#32) i
      = ∑ k : Fin 1024, Y (ix2 (i 0) k) * V (ix2 k (i 1)) := by
  rw [eq_ix2 i]
  refine (Ideal.matmul_plain_apply (φ₁ := .f32) (φ₂ := .bf16) none Y V (constant S512x1024 .f32 0x00000000#32) (i 0) (i 1)).trans ?_
  show Ideal.ofBits .f32 0x00000000#32 + _ = _
  rw [Ideal.ofBits_zero_f32, zero_add]

theorem pay_mix : k0_pay2 (F := Ideal) Y (View.ld W r0_1) Z (View.ld W r0_2) = mix Y Z W := by
  unfold k0_pay2
  simp only [shapeCast_self]
  funext i
  refine congrArg₂ (· + ·) ((product Y _ i).trans ?_) ((product Z _ i).trans ?_)
  all_goals refine Finset.sum_congr rfl fun k _ => congrArg (_ * ·) (congrArg W (funext fun a => Fin.ext ?_))
  · match a with
    | ⟨0, _⟩ => show 0 + 1 * k.val = k.val; omega
    | ⟨1, _⟩ => show 0 + 1 * (i 1).val = (i 1).val; omega
  · match a with
    | ⟨0, _⟩ => show 1024 + 1 * k.val = 1024 + k.val; omega
    | ⟨1, _⟩ => show 0 + 1 * (i 1).val = (i 1).val; omega

/-- The sums of a block's rows. -/
theorem sums (X : A 512 1024) (hφ : FKind.Formats .f32) (hacc : (0x00000000#32 : BitVec 32) = 0x00000000#32) :
    multiReduction (F := Ideal) (φ := .f32) .add [1] S512 X 0x00000000#32 reduces_S512x1024_S512 hφ hacc = fun i => ∑ k : Fin 1024, X (ix2 (i 0) k) := by
  funext i
  refine (Ideal.multiReduction_add_single (φ := .f32) X _ reduces_S512x1024_S512 hφ hacc i).trans ?_
  refine Finset.sum_congr rfl fun k _ => congrArg X (funext fun a => ?_)
  match a with | ⟨0, _⟩ => rfl | ⟨1, _⟩ => rfl

theorem pay_resid : k0_pay3 (F := Ideal) Y (View.ld W r0_1) Z (View.ld W r0_2) X g = resid X Y Z W g := by
  unfold k0_pay3
  rw [pay_mix]
  simp only [cast_col_any, bcast_col_any, bcast_row_any]
  funext i
  exact congrArg (fun s => X i + mix Y Z W i * Ideal.rsqrt (ofSum s) * g (ix2 0 (i 1)))
    (congrFun (sums (fun i => mix Y Z W i * mix Y Z W i) (.inl rfl) rfl) (ix1 (i 0)))

theorem pay_mean : k0_pay4 (F := Ideal) Y (View.ld W r0_1) Z (View.ld W r0_2) X g = fun i => meanE (resid X Y Z W g) (i 0) := by
  unfold k0_pay4
  rw [pay_resid]
  simp only [cast_col_any]
  funext i
  exact congrArg ofSum (congrFun (sums (fun i => resid X Y Z W g i * resid X Y Z W g i) (.inl rfl) rfl) (ix1 (i 0)))

theorem pay_normed (M : A 512 1024) : k0_pay1 (F := Ideal) M (fun i => meanE M (i 0)) f = normed M f := by
  unfold k0_pay1
  simp only [bcast_col_any, bcast_row_any]
  rfl

theorem ld_rows (X : A 512 1024) : View.ld (Val := Elt Ideal) (e' := .f32) X r0_0 = X := ld_all (F := Ideal) (e := .f32) X _
theorem ld_gain (g : A 1 1024) : View.ld (Val := Elt Ideal) (e' := .f32) g r0_3 = g := ld_all (F := Ideal) (e := .f32) g _

theorem out_mix : out0_6 (F := Ideal) X Y Z W g f = mix Y Z W := by
  unfold out0_6
  refine (View.canon_unit_zero (S := S512x1024) hz inb_S512x1024_S512x1024_0_0 _).trans ?_
  rw [ld_rows Y, ld_rows Z]
  exact pay_mix Y Z W

theorem out_resid : out0_7 (F := Ideal) X Y Z W g f = resid X Y Z W g := by
  unfold out0_7
  refine (View.canon_unit_zero (S := S512x1024) hz inb_S512x1024_S512x1024_0_0 _).trans ?_
  rw [ld_rows Y, ld_rows Z, ld_rows X, ld_gain g]
  exact pay_resid X Y Z W g

theorem out_normed : out0_8 (F := Ideal) X Y Z W g f = normed (resid X Y Z W g) f := by
  unfold out0_8
  refine (View.canon_unit_zero (S := S512x1024) hz inb_S512x1024_S512x1024_0_0 _).trans ?_
  rw [ld_rows Y, ld_rows Z, ld_rows X, ld_gain g, ld_gain f]
  refine (congrArg₂ (fun a b => k0_pay1 (F := Ideal) a b f) (pay_resid X Y Z W g) (pay_mean X Y Z W g)).trans ?_
  exact pay_normed f _

/-! ## Its results -/

theorem pts : cfg0.N * 512 = 8192 := rfl

variable (m : (ℓ : Loc nD τ sig) → Buf (Elt Ideal) ℓ) (c : Dev nD)

/-- The weight's rounding is the identity. -/
theorem weight : V m c main_v0 = m ((c : Thread nD τ).loc main_arg3) := by
  show StableHlo.after hostOps0 (fun b => m (c, b)) main_v0 = _
  simp only [hostOps0]
  after_results_simp
  rfl

theorem blk0 (t : Fin cfg0.N) : iblk m c 0 t = tile pts t (V m c main_arg0) := funext fun j => congrArg (V m c main_arg0) (
  emb_rows pts t ((by decide +kernel : ∀ t : Fin grid0.N, win0_0.index t (0 : Fin 2) = t.val ∧ win0_0.index t (1 : Fin 2) = 0) t) j _ rfl rfl)
theorem blk1 (t : Fin cfg0.N) : iblk m c 1 t = tile pts t (V m c main_arg1) := funext fun j => congrArg (V m c main_arg1) (
  emb_rows pts t ((by decide +kernel : ∀ t : Fin grid0.N, win0_1.index t (0 : Fin 2) = t.val ∧ win0_1.index t (1 : Fin 2) = 0) t) j _ rfl rfl)
theorem blk2 (t : Fin cfg0.N) : iblk m c 2 t = tile pts t (V m c main_arg2) := funext fun j => congrArg (V m c main_arg2) (
  emb_rows pts t ((by decide +kernel : ∀ t : Fin grid0.N, win0_2.index t (0 : Fin 2) = t.val ∧ win0_2.index t (1 : Fin 2) = 0) t) j _ rfl rfl)
theorem blk3 (t : Fin cfg0.N) : iblk m c 3 t = V m c main_v0 := funext fun j => congrArg (V m c main_v0) (
  emb_all ((by decide +kernel : ∀ t : Fin grid0.N, win0_3.index t (0 : Fin 2) = 0 ∧ win0_3.index t (1 : Fin 2) = 0) t) j _ rfl rfl)
theorem blk4 (t : Fin cfg0.N) : iblk m c 4 t = V m c main_arg4 := funext fun j => congrArg (V m c main_arg4) (
  emb_all ((by decide +kernel : ∀ t : Fin grid0.N, win0_4.index t (0 : Fin 2) = 0 ∧ win0_4.index t (1 : Fin 2) = 0) t) j _ rfl rfl)
theorem blk5 (t : Fin cfg0.N) : iblk m c 5 t = V m c main_arg5 := funext fun j => congrArg (V m c main_arg5) (
  emb_all ((by decide +kernel : ∀ t : Fin grid0.N, win0_5.index t (0 : Fin 2) = 0 ∧ win0_5.index t (1 : Fin 2) = 0) t) j _ rfl rfl)

abbrev mixOf : A 8192 1024 := mix (V m c main_arg1) (V m c main_arg2) (V m c main_v0)
abbrev residOf : A 8192 1024 := resid (V m c main_arg0) (V m c main_arg1) (V m c main_arg2) (V m c main_v0) (V m c main_arg4)
abbrev normedOf : A 8192 1024 := normed (residOf m c) (V m c main_arg5)

theorem emb6 (t : Fin cfg0.N) (j : S512x1024.Idx) : ((cfg0.win 6).blk t).view.emb j = ix2 (rowAt pts t (j 0)) (j 1) :=
  emb_rows pts t ((by decide +kernel : ∀ t : Fin grid0.N, win0_6.index t (0 : Fin 2) = t.val ∧ win0_6.index t (1 : Fin 2) = 0) t) j _ rfl rfl
theorem final6 : (dats m 0 c).arrAt 6 cfg0.N = mixOf m c :=
  (dats m 0 c).arrAt_eq_of_cover 6 (mixOf m c)
    (fun t _ => by
      rw [flushed6, out_mix, blk1, blk2, blk3]
      exact funext fun j => (congrArg (mixOf m c) (emb6 t j)).symm)
    (fun i => by
      obtain ⟨t, j, rfl⟩ := row_of pts (by decide) i
      exact ⟨t, flush0_6 t, by rw [← emb6]; exact ((cfg0.win 6).blk t).view.emb_mem_set j⟩)

theorem emb7 (t : Fin cfg0.N) (j : S512x1024.Idx) : ((cfg0.win 7).blk t).view.emb j = ix2 (rowAt pts t (j 0)) (j 1) :=
  emb_rows pts t ((by decide +kernel : ∀ t : Fin grid0.N, win0_7.index t (0 : Fin 2) = t.val ∧ win0_7.index t (1 : Fin 2) = 0) t) j _ rfl rfl
theorem final7 : (dats m 0 c).arrAt 7 cfg0.N = residOf m c :=
  (dats m 0 c).arrAt_eq_of_cover 7 (residOf m c)
    (fun t _ => by
      rw [flushed7, out_resid, blk0, blk1, blk2, blk3, blk4]
      exact funext fun j => (congrArg (residOf m c) (emb7 t j)).symm)
    (fun i => by
      obtain ⟨t, j, rfl⟩ := row_of pts (by decide) i
      exact ⟨t, flush0_7 t, by rw [← emb7]; exact ((cfg0.win 7).blk t).view.emb_mem_set j⟩)

theorem emb8 (t : Fin cfg0.N) (j : S512x1024.Idx) : ((cfg0.win 8).blk t).view.emb j = ix2 (rowAt pts t (j 0)) (j 1) :=
  emb_rows pts t ((by decide +kernel : ∀ t : Fin grid0.N, win0_8.index t (0 : Fin 2) = t.val ∧ win0_8.index t (1 : Fin 2) = 0) t) j _ rfl rfl
theorem final8 : (dats m 0 c).arrAt 8 cfg0.N = normedOf m c :=
  (dats m 0 c).arrAt_eq_of_cover 8 (normedOf m c)
    (fun t _ => by
      rw [flushed8, out_normed, blk0, blk1, blk2, blk3, blk4, blk5]
      exact funext fun j => (congrArg (normedOf m c) (emb8 t j)).symm)
    (fun i => by
      obtain ⟨t, j, rfl⟩ := row_of pts (by decide) i
      exact ⟨t, flush0_8 t, by rw [← emb8]; exact ((cfg0.win 8).blk t).view.emb_mem_set j⟩)

end

/-! ## The reference -/

section
open Cert.OutReferenceIdeal Cert.OutReferenceIdeal.Gen Cert.OutReferenceIdeal.Read

variable (x y z : A 8192 1024) (w : A 2048 1024) (p q : A 1 1024)

theorem ref_left (r : Fin 8192) (k : Fin 1024) : val_main_v0 (F := Ideal) y z (ix2 r (Fin.castAdd 1024 k)) = y (ix2 r k) :=
  concatenate_pair_apply_left 1 y z _ (ix2 r (Fin.castAdd 1024 k)) rfl (ix2 r k) fun b => match b with
    | ⟨0, _⟩ => rfl
    | ⟨1, _⟩ => rfl

theorem ref_right (r : Fin 8192) (k : Fin 1024) : val_main_v0 (F := Ideal) y z (ix2 r (Fin.natAdd 1024 k)) = z (ix2 r k) :=
  concatenate_pair_apply_right 1 y z _ (ix2 r (Fin.natAdd 1024 k)) rfl rfl (ix2 r k) (fun b hb => match b with
    | ⟨0, _⟩ => rfl
    | ⟨1, _⟩ => absurd rfl hb) (by show k.val + 1024 = 1024 + k.val; omega)

theorem ref_mix : val_main_v1 (F := Ideal) y z w = mix y z w := by
  funext i
  rw [val_main_v1_apply]
  refine (Fin.sum_univ_add (a := 1024) (b := 1024) _).trans ?_
  refine congrArg₂ (· + ·) (Finset.sum_congr rfl fun k _ => ?_) (Finset.sum_congr rfl fun k _ => ?_)
  · exact congrArg₂ (· * ·) ((congrArg _ (eq_ix2 _)).trans (ref_left y z (i 0) k)) (congrArg w (eq_ix2 _))
  · exact congrArg₂ (· * ·) ((congrArg _ (eq_ix2 _)).trans (ref_right y z (i 0) k)) (congrArg w (eq_ix2 _))

theorem ref_norm (M : A 8192 1024) (i : S8192x1024.Idx) (s : EReal) (r : S8192.Idx) (hr : r = ix1 (i 0))
    (hs : s = (val_main_cst (F := Ideal)) (Shape.Idx.first h_S_) + ∑ k : Fin 1024, M (idx_main_v3 r k) * M (idx_main_v3 r k)) :
    M i * Ideal.rsqrt (ofSum s) * p (ix2 0 (i 1)) = normed M p i := by
  have e : s = ∑ k : Fin 1024, M (ix2 (i 0) k) * M (ix2 (i 0) k) := by
    rw [hs, hr]
    show Ideal.ofBits .f32 0x00000000#32 + _ = _
    rw [Ideal.ofBits_zero_f32, zero_add]
    exact Finset.sum_congr rfl fun k _ => by rw [eq_ix2 (idx_main_v3 (ix1 (i 0)) k)]; rfl
  rw [e]; rfl

theorem ref_resid : val_main_v14 (F := Ideal) x y z w p = resid x y z w p := by
  funext i
  refine congrArg (x i + ·) ?_
  have e := ref_norm p (mix y z w) i _ _ rfl rfl
  unfold val_main_v13 val_main_v12 val_main_v11 val_main_v10 val_main_v9 val_main_v8 val_main_v7 val_main_v6 val_main_v5 val_main_v4
  rw [bid_row_any, bid_col_any, bid_vec_any]
  refine Eq.trans ?_ e
  show val_main_v1 (F := Ideal) y z w i * Ideal.rsqrt (Ideal.div (val_main_v3 (F := Ideal) y z w (ix1 (i 0))) _ + _) * _ = _
  rw [val_main_v3_apply]
  unfold val_main_v2
  rw [ref_mix]
  rfl

theorem ref_normed : val_main_v27 (F := Ideal) x y z w p q = normed (resid x y z w p) q := by
  funext i
  have e := ref_norm q (resid x y z w p) i _ _ rfl rfl
  unfold val_main_v27 val_main_v26 val_main_v25 val_main_v24 val_main_v23 val_main_v22 val_main_v21 val_main_v20 val_main_v19 val_main_v18 val_main_v17
  rw [bid_row_any, bid_col_any, bid_vec_any]
  refine Eq.trans ?_ e
  show val_main_v14 (F := Ideal) x y z w p i * Ideal.rsqrt (Ideal.div (val_main_v16 (F := Ideal) x y z w p (ix1 (i 0))) _ + _) * _ = _
  rw [val_main_v16_apply]
  unfold val_main_v15
  rw [ref_resid]
  rfl
end

/-! ## The claim -/

open Cert.OutKernelIdeal Cert.OutKernelIdeal.Gen in
/-- The two programs leave the same three arrays. -/
theorem results_eq (m : (ℓ : Loc nD τ sig) → Buf (Elt Ideal) ℓ) (c : Dev nD)
    (x0 x1 x2 : FVec Ideal S8192x1024 .f32) (x3 : FVec Ideal S2048x1024 .f32) (x4 x5 : FVec Ideal S1x1024 .f32)
    (e0 : x0 = m ((c : Thread nD τ).loc main_arg0)) (e1 : x1 = m ((c : Thread nD τ).loc main_arg1)) (e2 : x2 = m ((c : Thread nD τ).loc main_arg2))
    (e3 : x3 = m ((c : Thread nD τ).loc main_arg3)) (e4 : x4 = m ((c : Thread nD τ).loc main_arg4)) (e5 : x5 = m ((c : Thread nD τ).loc main_arg5)) :
    Cert.OutReferenceIdeal.Read.val_main_v1 (F := Ideal) x1 x2 x3 = (dats m 0 c).arrAt 6 cfg0.N
    ∧ Cert.OutReferenceIdeal.Read.val_main_v14 (F := Ideal) x0 x1 x2 x3 x4 = (dats m 0 c).arrAt 7 cfg0.N
    ∧ Cert.OutReferenceIdeal.Read.val_main_v27 (F := Ideal) x0 x1 x2 x3 x4 x5 = (dats m 0 c).arrAt 8 cfg0.N := by
  rw [final6, final7, final8, normedOf, residOf, mixOf, V_main_arg0, V_main_arg1, V_main_arg2, weight, V_main_arg4, V_main_arg5, ← e0, ← e1, ← e2, ← e3, ← e4, ← e5]
  exact ⟨ref_mix x1 x2 x3, ref_resid x0 x1 x2 x3 x4, ref_normed x0 x1 x2 x3 x4 x5⟩

theorem algebraic : Cert.algebraic_OutKernelIdeal_OutReferenceIdeal
    (hOutKernelIdeal := Cert.OutKernelIdeal.Gen.facts) (hOutReferenceIdeal := Cert.OutReferenceIdeal.Gen.facts) := by
  intro m g m' g' hp ha
  refine ⟨_, _, _, Cert.OutKernelIdeal.Value.run_blocks m g, (θ_run Cert.OutReferenceIdeal.defs _ _).mono (fun r h c => ?_) (Cert.OutReferenceIdeal.Value.run m' g')⟩
  obtain ⟨a0, a1, a2, a3, a4, a5⟩ := ha c
  obtain ⟨r0, r1, r2⟩ := results_eq m c _ _ _ _ _ _ a0 a1 a2 a3 a4 a5
  obtain ⟨h0, h1, h2, hk⟩ := h c
  exact ⟨h0.trans ((Cert.OutReferenceIdeal.Read.val_main_v1_eq _ _ _).trans r0), h1.trans ((Cert.OutReferenceIdeal.Read.val_main_v14_eq _ _ _ _ _).trans r1),
    h2.trans ((Cert.OutReferenceIdeal.Read.val_main_v27_eq m' c).trans r2), hk⟩

theorem frame_ref : Cert.quiescent_OutReferenceIdeal (hOutReferenceIdeal := Cert.OutReferenceIdeal.Gen.facts) := fun m ρ _ =>
  (θ_run Cert.OutReferenceIdeal.defs _ _).mono (fun r h => ⟨fun c => (h c).2.2.2, sem_eq_zero_of_no_sems (by decide) r.2⟩)
    (Cert.OutReferenceIdeal.Value.run m ρ)

end Cert.Proof.OutFwd

end
-- ==== Proof.InpFwd.lean ====
/- The input projection's forward call: what it computes of any extended reals, and that its reference computes the same. -/
module

public import proofs.«01_k».proof.Proof.OutFwd
public import proofs.«01_k».proof.Proof.InClaim
public import proofs.«01_k».proof.Proof.Gen.InpKernelIdeal.Value
public import proofs.«01_k».proof.Proof.Gen.InpReferenceIdeal.Run
public import proofs.«01_k».proof.Proof.Gen.InpReferenceIdeal.Read

@[expose] public section

noncomputable section

namespace Cert.Proof.InpFwd

open Idealize.ShloMosaic Idealize.ShloMosaic.TcCoe Idealize.ShloMosaic.ValueIdx Idealize.SL.Sem Cert.Proof.Rows
open Cert.Proof.OutFwd (A normed sums ofSum ref_norm)
open Cert.Proof.Inproj (cols last last_lt last_ge slice_cols concat_last constant_0b)
open scoped BigOperators

/-- The product of the normalised rows with a weight. -/
def proj {n k : Nat} (H : A n 1024) (W : A 1024 k) : A n k := fun i => ∑ q : Fin 1024, H (ix2 (i 0) q) * W (ix2 q (i 1))

abbrev main {n : Nat} (Z : A n 4624) : A n 4608 := cols Z 0 4608 (by omega)

theorem proj_cols {n : Nat} (H : A n 1024) (W : A 1024 4624) : proj H (main W) = main (proj H W) := rfl

theorem proj_last {n : Nat} (H : A n 1024) (W : A 1024 4624) : proj H (last W) = last (proj H W) := by
  funext i
  by_cases h : (i 1).val < 16
  · rw [last_lt (proj H W) i h]
    exact Finset.sum_congr rfl fun q _ => congrArg (H (ix2 (i 0) q) * ·) (last_lt W (ix2 q (i 1)) h)
  · exact (Finset.sum_eq_zero fun q _ => (congrArg (H (ix2 (i 0) q) * ·) (last_ge W (ix2 q (i 1)) h)).trans (mul_zero _)).trans (last_ge (proj H W) i h).symm

/-! ## The kernel's body -/

section
open Cert.InpKernelIdeal Cert.InpKernelIdeal.Gen Cert.InpKernelIdeal.Value

variable (X : A 512 1024) (g : A 1 1024) (w0 : A 1024 4608) (w1 : A 1024 128)

theorem pay_h : k0_pay1 (F := Ideal) X g = normed X g := by
  unfold k0_pay1
  simp only [cast_col_any, bcast_col_any, bcast_row_any]
  funext i
  exact congrArg (fun s => X i * Ideal.rsqrt (ofSum s) * g (ix2 0 (i 1))) (congrFun (sums (fun i => X i * X i) (.inl rfl) rfl) (ix1 (i 0)))

theorem pay_main : k0_pay2 (F := Ideal) X g w0 = proj (normed X g) w0 := by
  unfold k0_pay2
  rw [pay_h]
  funext i
  rw [eq_ix2 i]
  refine (Ideal.matmul_plain_apply (φ₁ := .bf16) (φ₂ := .bf16) none (normed X g) w0 (constant S512x4608 .f32 0x00000000#32) (i 0) (i 1)).trans ?_
  show Ideal.ofBits .f32 0x00000000#32 + _ = _
  rw [Ideal.ofBits_zero_f32, zero_add]
  rfl

theorem pay_last : k0_pay3 (F := Ideal) X g w1 = proj (normed X g) w1 := by
  unfold k0_pay3
  rw [pay_h]
  funext i
  rw [eq_ix2 i]
  refine (Ideal.matmul_plain_apply (φ₁ := .bf16) (φ₂ := .bf16) none (normed X g) w1 (constant S512x128 .f32 0x00000000#32) (i 0) (i 1)).trans ?_
  show Ideal.ofBits .f32 0x00000000#32 + _ = _
  rw [Ideal.ofBits_zero_f32, zero_add]
  rfl

variable (c : Dev nD) (i : grid0.Coords) (a1 : Memref sig .tc .vmem S512x1024 .f32) (h1 : a1.IsWhole) (a2 : Memref sig .tc .vmem S1x1024 .f32) (h2 : a2.IsWhole)
  (a5 : Memref sig .tc .vmem S512x1024 .bf16) (h5 : a5.IsWhole) (a6 : Memref sig .tc .vmem S512x4608 .f32) (h6 : a6.IsWhole)
  (a7 : Memref sig .tc .vmem S512x128 .f32) (h7 : a7.IsWhole) (a8 : Memref sig .tc .vmem S1024x4608 .bf16) (h8 : a8.IsWhole)
  (a9 : Memref sig .tc .vmem S1024x128 .bf16) (h9 : a9.IsWhole) (f0 : HbBuf0 (F := Ideal) c hbM0_0) (f1 : HbBuf0 (F := Ideal) c hbM0_1)
  (x0 : Vec Ideal S512x1024 .f32) (x1 : Vec Ideal S1x1024 .f32) (xs0 : Vec Ideal S1024x4608 .bf16) (xs1 : Vec Ideal S1024x128 .bf16)

theorem soutA (hc) : sout0_A_0 (F := Ideal) c i a1 h1 a2 h2 a5 h5 a6 h6 a7 h7 a8 h8 a9 h9 hc x0 x1 f0 f1 = f0
    ∧ sout0_A_1 (F := Ideal) c i a1 h1 a2 h2 a5 h5 a6 h6 a7 h7 a8 h8 a9 h9 hc x0 x1 f0 f1 = f1 := by
  unfold sout0_A_0 sout0_A_1
  rw [View.read_writes_junk_eq_canon, View.read_writes_junk_eq_canon]
  exact ⟨(canon_whole _).trans rfl, (canon_whole _).trans rfl⟩

theorem v19 : kernelRun0_A.sl.v19 (F := Ideal) c a8 f0 = f0 := by
  unfold kernelRun0_A.sl.v19
  rw [View.readCov_eq_canon', canon_whole]
  exact ld_all _ _
theorem v22 : kernelRun0_A.sl.v22 (F := Ideal) c a9 f1 = f1 := by
  unfold kernelRun0_A.sl.v22
  rw [View.readCov_eq_canon', canon_whole]
  exact ld_all _ _

theorem outA (hc) : out0_A_2 (F := Ideal) c i a1 h1 a2 h2 a5 h5 a6 h6 a7 h7 a8 h8 a9 h9 hc x0 x1 f0 f1 = normed x0 x1
    ∧ out0_A_3 (F := Ideal) c i a1 h1 a2 h2 a5 h5 a6 h6 a7 h7 a8 h8 a9 h9 hc x0 x1 f0 f1 = proj (normed x0 x1) f0
    ∧ out0_A_4 (F := Ideal) c i a1 h1 a2 h2 a5 h5 a6 h6 a7 h7 a8 h8 a9 h9 hc x0 x1 f0 f1 = proj (normed x0 x1) f1 := by
  unfold out0_A_2 out0_A_3 out0_A_4
  simp only [View.read_writes_junk_eq_canon]
  refine ⟨(View.canon_unit_zero (S := S512x1024) hz inb_S512x1024_S512x1024_0_0 _).trans ?_, (View.canon_unit_zero (S := S512x4608) hz inb_S512x4608_S512x4608_0_0 _).trans ?_,
    (View.canon_unit_zero (S := S512x128) hz inb_S512x128_S512x128_0_0 _).trans ?_⟩
  all_goals simp only [View.readAt_eq_ld, Memref.IsWhole.read_unread, ld_all, v19, v22]
  · exact pay_h x0 x1
  · exact pay_main x0 x1 f0
  · exact pay_last x0 x1 f1

theorem outB (hc) : out0_B_2 (F := Ideal) c i a1 h1 a2 h2 a5 h5 a6 h6 a7 h7 a8 h8 a9 h9 hc x0 x1 xs0 xs1 f0 f1 = normed x0 x1
    ∧ out0_B_3 (F := Ideal) c i a1 h1 a2 h2 a5 h5 a6 h6 a7 h7 a8 h8 a9 h9 hc x0 x1 xs0 xs1 f0 f1 = proj (normed x0 x1) xs0
    ∧ out0_B_4 (F := Ideal) c i a1 h1 a2 h2 a5 h5 a6 h6 a7 h7 a8 h8 a9 h9 hc x0 x1 xs0 xs1 f0 f1 = proj (normed x0 x1) xs1 := by
  unfold out0_B_2 out0_B_3 out0_B_4
  simp only [View.read_writes_junk_eq_canon]
  refine ⟨(View.canon_unit_zero (S := S512x1024) hz inb_S512x1024_S512x1024_0_0 _).trans ?_, (View.canon_unit_zero (S := S512x4608) hz inb_S512x4608_S512x4608_0_0 _).trans ?_,
    (View.canon_unit_zero (S := S512x128) hz inb_S512x128_S512x128_0_0 _).trans ?_⟩
  all_goals simp only [View.readAt_eq_ld, Memref.IsWhole.read_unread, ld_all]
  · exact pay_h x0 x1
  · exact pay_main x0 x1 xs0
  · exact pay_last x0 x1 xs1

/-! ## Its results -/

theorem pts : cfg0.N * 512 = 8192 := rfl

variable (m : (ℓ : Loc nD τ sig) → Buf (Elt Ideal) ℓ) (t : Fin cfg0.N)

/-- The buffers of the weight hold the weight after every point. -/
theorem weight_eq (n : Nat) (hn : n < cfg0.N) : (outsAt0 m c n hn).2.2.2 = (V m c main_v5, V m c main_v3) := by
  have first (t : Fin cfg0.N) (h0 : t.val % 16 = 0) : (outsAt0 m c t.val t.isLt).2.2.2 = (V m c main_v5, V m c main_v3) := by
    simp only [outsAt0_A m c t h0, soutA]
  induction n with
  | zero => exact first ⟨0, hn⟩ rfl
  | succ n ih =>
    by_cases h0 : (n + 1) % 16 = 0
    · exact first ⟨n + 1, hn⟩ h0
    · refine Eq.trans ?_ (ih (by omega))
      simp only [outsAt0_B m c ⟨n + 1, hn⟩ h0, sout0_B_0, sout0_B_1, Nat.add_sub_cancel]

theorem blk0 : iblk m c 0 t = tile pts t (V m c main_arg0) := funext fun j => congrArg (V m c main_arg0) (
  emb_rows pts t ((by decide +kernel : ∀ t : Fin grid0.N, win0_0.index t (0 : Fin 2) = t.val ∧ win0_0.index t (1 : Fin 2) = 0) t) j _ rfl rfl)
theorem blk1 : iblk m c 1 t = V m c main_arg1 := funext fun j => congrArg (V m c main_arg1) (
  emb_all ((by decide +kernel : ∀ t : Fin grid0.N, win0_1.index t (0 : Fin 2) = 0 ∧ win0_1.index t (1 : Fin 2) = 0) t) j _ rfl rfl)

abbrev hOf : A 8192 1024 := normed (V m c main_arg0) (V m c main_arg1)

theorem outs : (outsAt0 m c t.val t.isLt).1 = tile pts t (hOf c m)
    ∧ (outsAt0 m c t.val t.isLt).2.1 = tile pts t (proj (hOf c m) (V m c main_v5))
    ∧ (outsAt0 m c t.val t.isLt).2.2.1 = tile pts t (proj (hOf c m) (V m c main_v3)) := by
  by_cases h0 : t.val % 16 = 0
  · simp only [outsAt0_A m c t h0, outA, blk0, blk1]
    exact ⟨rfl, rfl, rfl⟩
  · simp only [outsAt0_B m c t h0, outB, weight_eq, blk0, blk1]
    exact ⟨rfl, rfl, rfl⟩

theorem emb2 (j : S512x1024.Idx) : ((cfg0.win 2).blk t).view.emb j = ix2 (rowAt pts t (j 0)) (j 1) :=
  emb_rows pts t ((by decide +kernel : ∀ t : Fin grid0.N, win0_2.index t (0 : Fin 2) = t.val ∧ win0_2.index t (1 : Fin 2) = 0) t) j _ rfl rfl
theorem final2 : (dats m 0 c).arrAt 2 cfg0.N = hOf c m :=
  (dats m 0 c).arrAt_eq_of_cover 2 (hOf c m)
    (fun t _ => by
      rw [flushed2, (outs c m t).1]
      exact funext fun j => (congrArg (hOf c m) (emb2 t j)).symm)
    (fun i => by
      obtain ⟨t, j, rfl⟩ := row_of pts (by decide) i
      exact ⟨t, flush0_2 t, by rw [← emb2]; exact ((cfg0.win 2).blk t).view.emb_mem_set j⟩)

theorem emb3 (j : S512x4608.Idx) : ((cfg0.win 3).blk t).view.emb j = ix2 (rowAt pts t (j 0)) (j 1) :=
  emb_rows pts t ((by decide +kernel : ∀ t : Fin grid0.N, win0_3.index t (0 : Fin 2) = t.val ∧ win0_3.index t (1 : Fin 2) = 0) t) j _ rfl rfl
theorem final3 : (dats m 0 c).arrAt 3 cfg0.N = proj (hOf c m) (V m c main_v5) :=
  (dats m 0 c).arrAt_eq_of_cover 3 (proj (hOf c m) (V m c main_v5))
    (fun t _ => by
      rw [flushed3, (outs c m t).2.1]
      exact funext fun j => (congrArg (proj (hOf c m) (V m c main_v5)) (emb3 t j)).symm)
    (fun i => by
      obtain ⟨t, j, rfl⟩ := row_of pts (by decide) i
      exact ⟨t, flush0_3 t, by rw [← emb3]; exact ((cfg0.win 3).blk t).view.emb_mem_set j⟩)

theorem emb4 (j : S512x128.Idx) : ((cfg0.win 4).blk t).view.emb j = ix2 (rowAt pts t (j 0)) (j 1) :=
  emb_rows pts t ((by decide +kernel : ∀ t : Fin grid0.N, win0_4.index t (0 : Fin 2) = t.val ∧ win0_4.index t (1 : Fin 2) = 0) t) j _ rfl rfl
theorem final4 : (dats m 0 c).arrAt 4 cfg0.N = proj (hOf c m) (V m c main_v3) :=
  (dats m 0 c).arrAt_eq_of_cover 4 (proj (hOf c m) (V m c main_v3))
    (fun t _ => by
      rw [flushed4, (outs c m t).2.2]
      exact funext fun j => (congrArg (proj (hOf c m) (V m c main_v3)) (emb4 t j)).symm)
    (fun i => by
      obtain ⟨t, j, rfl⟩ := row_of pts (by decide) i
      exact ⟨t, flush0_4 t, by rw [← emb4]; exact ((cfg0.win 4).blk t).view.emb_mem_set j⟩)

theorem host_main : V m c main_v5 = main (m ((c : Thread nD τ).loc main_arg2)) := by
  rw [main, ← slice_cols _ 0 4608 (by omega) slices_S1024x4624_S1024x4608_0_0]
  show StableHlo.after hostOps0 (fun b => m (c, b)) main_v5 = _
  simp only [hostOps0]
  after_results_simp
  rfl

theorem host_last : V m c main_v3 = last (α := EReal) (m ((c : Thread nD τ).loc main_arg2)) := by
  rw [← concat_last (α := EReal) (m ((c : Thread nD τ).loc main_arg2)) slices_S1024x4624_S1024x16_0_4608 concatenates_S1024x16_S1024x112_S1024x128_d1, ← constant_0b]
  show StableHlo.after hostOps0 (fun b => m (c, b)) main_v3 = _
  simp only [hostOps0]
  after_results_simp
  rfl

end

/-! ## The reference -/

section
open Cert.InpReferenceIdeal Cert.InpReferenceIdeal.Gen Cert.InpReferenceIdeal.Read

variable (x : A 8192 1024) (p : A 1 1024) (w : A 1024 4624)

theorem ref_h : val_main_v11 (F := Ideal) x p = normed x p := by
  funext i
  have e := ref_norm p x i _ _ rfl rfl
  unfold val_main_v11 val_main_v10 val_main_v9 val_main_v8 val_main_v7 val_main_v6 val_main_v5 val_main_v4 val_main_v3 val_main_v2
  rw [bid_row_any, bid_col_any, bid_vec_any]
  refine Eq.trans ?_ e
  show x i * Ideal.rsqrt (Ideal.div (val_main_v1 (F := Ideal) x (ix1 (i 0))) _ + _) * _ = _
  rw [val_main_v1_apply]
  rfl

theorem ref_proj : val_main_v12 (F := Ideal) x p w = proj (normed x p) w := by
  funext i
  rw [val_main_v12_apply, ref_h]
  exact Finset.sum_congr rfl fun k _ => congrArg₂ (· * ·) (congrArg (normed x p) (eq_ix2 _)) (congrArg w (eq_ix2 _))

theorem ref_main : val_main_v17 (F := Ideal) x p w = proj (normed x p) (main w) := by
  unfold val_main_v17
  rw [ref_proj, proj_cols]
  exact slice_cols (proj (normed x p) w) 0 4608 (by omega) _

theorem ref_last : val_main_v15 (F := Ideal) x p w = proj (normed x p) (last w) := by
  unfold val_main_v15 val_main_v13
  rw [ref_proj, proj_last, ← concat_last (proj (normed x p) w) slices_S8192x4624_S8192x16_0_4608 concatenates_S8192x16_S8192x112_S8192x128_d1]
  have e : val_main_v14 (F := Ideal) = fun _ => 0 := funext fun _ => Ideal.ofBits_zero_f32
  rw [e]
end

/-! ## The claim -/

open Cert.InpKernelIdeal Cert.InpKernelIdeal.Gen in
/-- The two programs leave the same three arrays. -/
theorem results_eq (m : (ℓ : Loc nD τ sig) → Buf (Elt Ideal) ℓ) (c : Dev nD)
    (x0 : FVec Ideal S8192x1024 .f32) (x1 : FVec Ideal S1x1024 .f32) (x2 : FVec Ideal S1024x4624 .f32)
    (e0 : x0 = m ((c : Thread nD τ).loc main_arg0)) (e1 : x1 = m ((c : Thread nD τ).loc main_arg1)) (e2 : x2 = m ((c : Thread nD τ).loc main_arg2)) :
    Cert.InpReferenceIdeal.Read.val_main_v16 (F := Ideal) x0 x1 = (dats m 0 c).arrAt 2 cfg0.N
    ∧ Cert.InpReferenceIdeal.Read.val_main_v17 (F := Ideal) x0 x1 x2 = (dats m 0 c).arrAt 3 cfg0.N
    ∧ Cert.InpReferenceIdeal.Read.val_main_v15 (F := Ideal) x0 x1 x2 = (dats m 0 c).arrAt 4 cfg0.N := by
  rw [final2, final3, final4, host_main, host_last, hOf, V_main_arg0, V_main_arg1, ← e0, ← e1, ← e2]
  exact ⟨ref_h x0 x1, ref_main x0 x1 x2, ref_last x0 x1 x2⟩

theorem algebraic : Cert.algebraic_InpKernelIdeal_InpReferenceIdeal
    (hInpKernelIdeal := Cert.InpKernelIdeal.Gen.facts) (hInpReferenceIdeal := Cert.InpReferenceIdeal.Gen.facts) := by
  intro m g m' g' hp ha
  refine ⟨_, _, _, Cert.InpKernelIdeal.Value.run_blocks m g, (θ_run Cert.InpReferenceIdeal.defs _ _).mono (fun r h c => ?_) (Cert.InpReferenceIdeal.Value.run m' g')⟩
  obtain ⟨a0, a1, a2⟩ := ha c
  obtain ⟨r0, r1, r2⟩ := results_eq m c _ _ _ a0 a1 a2
  obtain ⟨h0, h1, h2, hk⟩ := h c
  exact ⟨h0.trans ((Cert.InpReferenceIdeal.Read.val_main_v16_eq _ _).trans r0), h1.trans ((Cert.InpReferenceIdeal.Read.val_main_v17_eq _ _ _).trans r1),
    h2.trans ((Cert.InpReferenceIdeal.Read.val_main_v15_eq _ _ _).trans r2), hk⟩

theorem frame_ref : Cert.quiescent_InpReferenceIdeal (hInpReferenceIdeal := Cert.InpReferenceIdeal.Gen.facts) := fun m ρ _ =>
  (θ_run Cert.InpReferenceIdeal.defs _ _).mono (fun r h => ⟨fun c => (h c).2.2.2, sem_eq_zero_of_no_sems (by decide) r.2⟩)
    (Cert.InpReferenceIdeal.Value.run m ρ)

end Cert.Proof.InpFwd

end
-- ==== Proof.FfnBody.lean ====
/- The gated feed-forward layer with its two norms, its loss and its gradients over the reals, on any number of rows, and what one
   grid point of its kernel computes from finite blocks. -/
module

public import proofs.«01_k».proof.Proof.Tile
public import proofs.«01_k».proof.Proof.SsdOps
public import proofs.«01_k».proof.Proof.Gen.FfnKernelIdeal.Skeleton

@[expose] public section

noncomputable section

namespace Cert.Proof.Ffn

open Idealize.ShloMosaic Idealize.ShloMosaic.ValueIdx Cert.FfnKernelIdeal Cert.FfnKernelIdeal.Gen Cert.Proof.Rows
open Cert.Proof.Ssd (sg dsilu half_tanh ofBits_half ofBits_one iota_cols mask_col_eq)
open scoped BigOperators

abbrev A (n k : Nat) : Type := (⟨2, ![n, k]⟩ : Shape).Idx → ℝ

/-- The normalised array, before the gain. -/
def norm {n : Nat} (X : A n 1024) : A n 1024 := X * fun i => rn X (i 0)

/-- The layer's arguments: its input, the target, the normalised input, the weights and the gains. -/
structure Ar (n : Nat) where
  X : A n 1024
  Tg : A n 1024
  H : A n 1024
  Wg : A 1024 2816
  Wu : A 1024 2816
  Wd : A 2816 1024
  gp : A 1 1024
  gf : A 1 1024

namespace Ar
variable {n : Nat} (a : Ar n)

/-- The gate, the other factor, the gated array, the layer's product, the error. -/
def G : A n 2816 := mulW a.H a.Wg
def U : A n 2816 := mulW a.H a.Wu
def act : A n 2816 := a.G * (fun i => sg (a.G i)) * a.U
def F : A n 1024 := mulW a.act a.Wd
def err : A n 1024 := a.X + norm a.F * rowsOf a.gf - a.Tg
/-- The gradients: of the error's argument, of `F`, `act`, `G`, `U`, of the normalised input times its gain, of the input. -/
def d2 : A n 1024 := a.err * fun _ => 1 / 1024
def dF : A n 1024 := dRms a.F (a.d2 * rowsOf a.gf)
def dA : A n 2816 := mulWT a.dF a.Wd
def dG : A n 2816 := a.dA * a.U * fun i => dsilu (a.G i)
def dU : A n 2816 := a.dA * a.G * fun i => sg (a.G i)
def dH : A n 1024 := mulWT a.dG a.Wg + mulWT a.dU a.Wu
def dX : A n 1024 := a.d2 + dRms a.X (a.dH * rowsOf a.gp)

/-- The arguments of a block of rows. -/
def part {N b : Nat} (e : N * b = n) (t : Fin N) : Ar b := ⟨tile e t a.X, tile e t a.Tg, tile e t a.H, a.Wg, a.Wu, a.Wd, a.gp, a.gf⟩

variable {N b : Nat} (e : N * b = n) (t : Fin N)

theorem tile_act : tile e t a.act = (a.part e t).act := rfl
theorem tile_F : tile e t a.F = (a.part e t).F := congrArg (mulW · a.Wd) (a.tile_act e t)
theorem tile_err : tile e t a.err = (a.part e t).err := congrArg (fun F => tile e t a.X + norm F * rowsOf a.gf - tile e t a.Tg) (a.tile_F e t)
theorem tile_d2 : tile e t a.d2 = (a.part e t).d2 := congrArg (· * fun _ => 1 / 1024) (a.tile_err e t)
theorem tile_dRms (X T : A n 1024) (g : A 1 1024) : tile e t (dRms X (T * rowsOf g)) = dRms (tile e t X) (tile e t T * rowsOf g) := by
  funext j; rfl
theorem tile_dF : tile e t a.dF = (a.part e t).dF := by
  unfold dF
  rw [tile_dRms, a.tile_F, a.tile_d2]; rfl
theorem tile_dA : tile e t a.dA = (a.part e t).dA := congrArg (mulWT · a.Wd) (a.tile_dF e t)
theorem tile_dG : tile e t a.dG = (a.part e t).dG :=
  congrArg (fun D => D * (a.part e t).U * fun i => dsilu ((a.part e t).G i)) (a.tile_dA e t)
theorem tile_dU : tile e t a.dU = (a.part e t).dU :=
  congrArg (fun D => D * (a.part e t).G * fun i => sg ((a.part e t).G i)) (a.tile_dA e t)
theorem tile_dH : tile e t a.dH = (a.part e t).dH :=
  congrArg₂ (fun P Q => mulWT P a.Wg + mulWT Q a.Wu) (a.tile_dG e t) (a.tile_dU e t)
theorem tile_dX : tile e t a.dX = (a.part e t).dX := by
  have h : tile e t a.dX = tile e t a.d2 + tile e t (dRms a.X (a.dH * rowsOf a.gp)) := rfl
  rw [h, tile_dRms, a.tile_d2, a.tile_dH]; rfl

end Ar

/-- A number in the first of 128 columns. -/
def row (x : ℝ) : A 1 128 := fun i => if (i 1).val = 0 then x else 0

theorem row_add (x y : ℝ) : row x + row y = row (x + y) := by
  funext i
  show (if _ then x else 0) + (if _ then y else 0) = if _ then _ else _
  split
  · rfl
  · exact add_zero 0

/-- The loss of the rows before point `n`. -/
def lossTo {M : Nat} (b : Nat) (E : A M 1024) (n : Nat) : ℝ := 1 / 2 * psum (rowDot E E) (n * b) * (1 / 1024)

theorem lossTo_succ {M N b : Nat} (e : N * b = M) (E : A M 1024) (t : Fin N) :
    lossTo b E t.val + 1 / 2 * (∑ r, rowDot (tile e t E) (tile e t E) r) * (1 / 1024) = lossTo b E (t.val + 1) := by
  have h : psum (rowDot E E) ((t.val + 1) * b) = psum (rowDot E E) (t.val * b) + ∑ r, rowDot (tile e t E) (tile e t E) r := by
    rw [Nat.succ_mul, psum_add _ (row_le e t)]
    rfl
  unfold lossTo
  rw [h]; ring

/-! ## The kernel's steps -/

theorem ofBits_1024th : Ideal.ofBits .f32 0x3A800000#32 = ((1 / 1024 : ℝ) : EReal) := by
  simp [Ideal.ofBits, Ideal.ieee, -EReal.coe_mul]; norm_num

theorem tanh_lift {s : Shape} {φ : FTy} (X : s.Idx → ℝ) : tanh (F := Ideal) (φ := φ) (lift X) = lift fun i => Real.tanh (X i) := rfl

theorem half_tanh_lift {s : Shape} (X : s.Idx → ℝ) :
    ((fun _ => 1 / 2 : s.Idx → ℝ) * (fun i => Real.tanh (((fun _ => 1 / 2 : s.Idx → ℝ) * X) i)) + (fun _ => 1 / 2 : s.Idx → ℝ)) = fun i => sg (X i) := funext fun i => half_tanh (X i)

variable (a : Ar 256)

theorem pay5_id (h : S256x1024.Idx → Ideal .bf16) : k0_pay5 h = h := shapeCast_self _ _
theorem pay6_lift : k0_pay6 (F := Ideal) (lift a.H) (lift a.Wg) = lift a.G := by
  unfold k0_pay6
  simp only [pay5_id, constant_lift ofBits_0, matmul_lift, dotR_W dot_S256x1024_S1024x2816_S256x2816_1_0_0_1_n_n rfl rfl rfl rfl rfl rfl, const_zero_add]
  rfl
theorem pay7_lift : k0_pay7 (F := Ideal) (lift a.H) (lift a.Wu) = lift a.U := by
  unfold k0_pay7
  simp only [pay5_id, constant_lift ofBits_0, matmul_lift, dotR_W dot_S256x1024_S1024x2816_S256x2816_1_0_0_1_n_n rfl rfl rfl rfl rfl rfl, const_zero_add]
  rfl
theorem pay10_lift : k0_pay10 (F := Ideal) (lift a.H) (lift a.Wg) (lift a.Wu) = lift a.act := by
  unfold k0_pay10
  simp only [pay6_lift, pay7_lift, broadcast_lift ofBits_half, mulf_lift, tanh_lift, addf_lift, half_tanh_lift, truncf_lift]
  rfl
theorem pay11_lift : k0_pay11 (F := Ideal) (lift a.H) (lift a.Wg) (lift a.Wu) (lift a.Wd) = lift a.F := by
  unfold k0_pay11
  simp only [pay10_lift, broadcast_lift ofBits_0, constant_lift ofBits_0, matmul_lift, addf_lift,
    dotR_W dot_S256x2816_S2816x1024_S256x1024_1_0_0_1_n_n rfl rfl rfl rfl rfl rfl, const_zero_add]
  rfl

theorem pay12_lift (x : A 256 1024) : k0_pay12 (F := Ideal) (lift x) = lift fun i => rn x (i 0) := by
  unfold k0_pay12
  simp only [mulf_lift, multiReduction_lift _ reduces_S256x1024_S256, shapeCast_lift, broadcast_lift ofBits_1024, broadcast_lift ofBits_eps, cast_col, sum_cols]
  rw [divf_lift _ _ fun _ => by norm_num, addf_lift]
  exact rsqrt_lift _ fun i => meanSq_pos x (i 0)
theorem pay25_lift (x : A 256 1024) : k0_pay25 (F := Ideal) (lift x) = lift fun i => rn x (i 0) := pay12_lift x

theorem pay13_lift : k0_pay13 (F := Ideal) (lift a.F) (lift a.X) (lift a.gf) (lift a.Tg) = lift a.err := by
  unfold k0_pay13
  simp only [pay12_lift, mulf_lift, addf_lift, subf_lift, broadcastTo_lift, bcast_col, bcast_row]
  rfl
theorem pay15_lift : k0_pay15 (F := Ideal) (lift a.F) (lift a.X) (lift a.gf) (lift a.Tg) = lift a.d2 := by
  unfold k0_pay15
  simp only [pay13_lift, broadcast_lift ofBits_1024th, mulf_lift]
  rfl

theorem select_first (x : ℝ) (h) :
    select (cmpi .eq (iota .tc S1x128 32 [1] h) (broadcast S1x128 0#32)) (lift fun _ => x : FVec Ideal S1x128 .f32) (lift fun _ => 0 : FVec Ideal S1x128 .f32) = lift (row x) := by
  rw [iota_cols, mask_col_eq (c := 0) (by decide) (by decide)]
  funext i
  show Scalar.select (if (i 1).val = 0 then 1#1 else 0#1) _ _ = _
  unfold Scalar.select row lift
  by_cases h : (i 1).val = 0 <;> simp [h]

theorem bcast_one (h) (x : A 1 1) : broadcastTo S1x128 x h = fun _ => x (ix2 0 0) := by
  funext i
  refine broadcastTo_apply x h i _ fun a => ?_
  match a with
  | ⟨0, _⟩ => rfl
  | ⟨1, _⟩ => rfl

theorem pay14_lift (x : ℝ) : k0_pay14 (F := Ideal) (lift a.F) (lift a.X) (lift a.gf) (lift a.Tg) (lift (row x))
    = lift (row (x + 1 / 2 * (∑ r, rowDot a.err a.err r) * (1 / 1024))) := by
  unfold k0_pay14
  simp only [pay13_lift, mulf_lift, multiReduction_lift _ reduces_S256x1024_S256, multiReduction_lift _ reduces_S256x1_S1, shapeCast_lift, cast_col, sum_cols, sum_rows,
    broadcast_lift ofBits_half, broadcast_lift ofBits_1024th, broadcast_lift ofBits_0, shapeCast_self, broadcastTo_lift, bcast_one]
  rw [select_first, addf_lift, row_add]
  rfl

theorem pay16_lift (x d : A 256 1024) (acc : A 1 1024) :
    k0_pay16 (F := Ideal) (lift x) (lift fun i => rn x (i 0)) (lift d) (lift acc) = lift (acc + dGain x d) := by
  unfold k0_pay16
  simp only [mulf_lift, multiReduction_lift _ reduces_S256x1024_S1024, shapeCast_lift, cast_row, sum_rows, broadcastTo_lift, bcast_col, shapeCast_self, addf_lift]
  rfl

theorem pay17_lift : k0_pay17 (F := Ideal) (lift a.F) (lift fun i => rn a.F (i 0)) (lift a.d2) (lift a.gf) = lift a.dF := by
  unfold k0_pay17
  simp only [mulf_lift, multiReduction_lift _ reduces_S256x1024_S256, shapeCast_lift, broadcast_lift ofBits_1024,
    cast_col, sum_cols, broadcastTo_lift, bcast_col, bcast_row]
  rw [divf_lift _ _ fun _ => by norm_num]
  simp only [mulf_lift, subf_lift, broadcastTo_lift, bcast_col, truncf_lift]
  rfl
theorem pay19_lift : k0_pay19 (F := Ideal) (lift a.F) (lift fun i => rn a.F (i 0)) (lift a.d2) (lift a.gf) (lift a.Wd) = lift a.dA := by
  unfold k0_pay19
  simp only [pay17_lift, constant_lift ofBits_0, matmul_lift, dotR_WT dot_S256x1024_S2816x1024_S256x2816_1_1_0_0_n_n rfl rfl rfl rfl rfl rfl, const_zero_add]
  rfl

theorem pay21_lift (x : A 256 2816) : k0_pay21 (F := Ideal) (k0_pay20 (lift x)) (Scalar.ofBits .f32 0x3F000000#32) = lift fun i => sg (x i) := by
  unfold k0_pay21 k0_pay20
  simp only [broadcast_lift ofBits_half, mulf_lift, tanh_lift, addf_lift, half_tanh_lift]
theorem pay22_lift : k0_pay22 (F := Ideal) (lift a.dA) (lift a.G) (lift a.U) (k0_pay20 (lift a.G)) (Scalar.ofBits .f32 0x3F000000#32) = lift a.dG := by
  unfold k0_pay22
  simp only [pay21_lift, broadcast_lift ofBits_one, mulf_lift, addf_lift, subf_lift, truncf_lift]
  rfl
theorem pay23_lift : k0_pay23 (F := Ideal) (lift a.dA) (lift a.G) (k0_pay20 (lift a.G)) (Scalar.ofBits .f32 0x3F000000#32) = lift a.dU := by
  unfold k0_pay23
  simp only [pay21_lift, mulf_lift, truncf_lift]
  rfl
theorem pay24_lift : k0_pay24 (F := Ideal) k0_pay18 (lift a.dA) (lift a.G) (lift a.U) (k0_pay20 (lift a.G)) (Scalar.ofBits .f32 0x3F000000#32)
    (lift a.Wg) (lift a.Wu) = lift a.dH := by
  unfold k0_pay24 k0_pay18
  simp only [pay22_lift, pay23_lift, broadcast_lift ofBits_0, constant_lift ofBits_0, matmul_lift, addf_lift,
    dotR_WT dot_S256x2816_S1024x2816_S256x1024_1_1_0_0_n_n rfl rfl rfl rfl rfl rfl, const_zero_add]
  rfl
theorem pay26_lift (acc : A 1 1024) : k0_pay26 (F := Ideal) (lift a.X) k0_pay18 (lift a.dA) (lift a.G) (lift a.U) (k0_pay20 (lift a.G))
    (Scalar.ofBits .f32 0x3F000000#32) (lift a.Wg) (lift a.Wu) (lift acc) = lift (acc + dGain a.X a.dH) := by
  unfold k0_pay26
  simp only [pay24_lift, pay25_lift]
  exact pay16_lift a.X a.dH acc
theorem pay1_lift : k0_pay1 (F := Ideal) (lift a.X) (lift a.d2) (lift a.dH) (lift fun i => rn a.X (i 0)) (lift a.gp) = lift a.dX := by
  unfold k0_pay1
  simp only [mulf_lift, multiReduction_lift _ reduces_S256x1024_S256, shapeCast_lift, broadcast_lift ofBits_1024,
    cast_col, sum_cols, broadcastTo_lift, bcast_col, bcast_row]
  rw [divf_lift _ _ fun _ => by norm_num]
  simp only [mulf_lift, subf_lift, addf_lift, broadcastTo_lift, bcast_col]
  rfl

end Cert.Proof.Ffn

end
-- ==== Proof.FfnKernel.lean ====
/- What the feed-forward kernel leaves on finite arguments: at a grid point, its block of the layer's arrays and the sums over the
   rows so far; at the end, the arrays and the sums over all rows. -/
module

public import proofs.«01_k».proof.Proof.FfnBody
public import proofs.«01_k».proof.Proof.Gen.FfnKernelIdeal.Frame

@[expose] public section

noncomputable section

namespace Cert.Proof.Ffn

open Idealize.ShloMosaic Idealize.ShloMosaic.TcCoe Idealize.ShloMosaic.ValueIdx
open Cert.FfnKernelIdeal Cert.FfnKernelIdeal.Gen Cert.Proof.Rows

theorem pts : cfg0.N * 256 = 8192 := rfl

theorem emb0 (t : Fin cfg0.N) (j : S256x1024.Idx) : ((cfg0.win 0).blk t).view.emb j = ix2 (rowAt pts t (j 0)) (j 1) :=
  emb_rows pts t ((by decide +kernel : ∀ t : Fin grid0.N, win0_0.index t (0 : Fin 2) = t.val ∧ win0_0.index t (1 : Fin 2) = 0) t) j _ rfl rfl
theorem emb1 (t : Fin cfg0.N) (j : S256x1024.Idx) : ((cfg0.win 1).blk t).view.emb j = ix2 (rowAt pts t (j 0)) (j 1) :=
  emb_rows pts t ((by decide +kernel : ∀ t : Fin grid0.N, win0_1.index t (0 : Fin 2) = t.val ∧ win0_1.index t (1 : Fin 2) = 0) t) j _ rfl rfl
theorem emb2 (t : Fin cfg0.N) (j : S256x1024.Idx) : ((cfg0.win 2).blk t).view.emb j = ix2 (rowAt pts t (j 0)) (j 1) :=
  emb_rows pts t ((by decide +kernel : ∀ t : Fin grid0.N, win0_2.index t (0 : Fin 2) = t.val ∧ win0_2.index t (1 : Fin 2) = 0) t) j _ rfl rfl
theorem emb5 (t : Fin cfg0.N) (j : S256x1024.Idx) : ((cfg0.win 5).blk t).view.emb j = ix2 (rowAt pts t (j 0)) (j 1) :=
  emb_rows pts t ((by decide +kernel : ∀ t : Fin grid0.N, win0_5.index t (0 : Fin 2) = t.val ∧ win0_5.index t (1 : Fin 2) = 0) t) j _ rfl rfl
theorem emb6 (t : Fin cfg0.N) (j : S256x2816.Idx) : ((cfg0.win 6).blk t).view.emb j = ix2 (rowAt pts t (j 0)) (j 1) :=
  emb_rows pts t ((by decide +kernel : ∀ t : Fin grid0.N, win0_6.index t (0 : Fin 2) = t.val ∧ win0_6.index t (1 : Fin 2) = 0) t) j _ rfl rfl
theorem emb7 (t : Fin cfg0.N) (j : S256x1024.Idx) : ((cfg0.win 7).blk t).view.emb j = ix2 (rowAt pts t (j 0)) (j 1) :=
  emb_rows pts t ((by decide +kernel : ∀ t : Fin grid0.N, win0_7.index t (0 : Fin 2) = t.val ∧ win0_7.index t (1 : Fin 2) = 0) t) j _ rfl rfl
theorem emb8 (t : Fin cfg0.N) (j : S256x2816.Idx) : ((cfg0.win 8).blk t).view.emb j = ix2 (rowAt pts t (j 0)) (j 1) :=
  emb_rows pts t ((by decide +kernel : ∀ t : Fin grid0.N, win0_8.index t (0 : Fin 2) = t.val ∧ win0_8.index t (1 : Fin 2) = 0) t) j _ rfl rfl
theorem emb9 (t : Fin cfg0.N) (j : S256x2816.Idx) : ((cfg0.win 9).blk t).view.emb j = ix2 (rowAt pts t (j 0)) (j 1) :=
  emb_rows pts t ((by decide +kernel : ∀ t : Fin grid0.N, win0_9.index t (0 : Fin 2) = t.val ∧ win0_9.index t (1 : Fin 2) = 0) t) j _ rfl rfl
theorem emb3 (t : Fin cfg0.N) (j : S1x1024.Idx) : ((cfg0.win 3).blk t).view.emb j = j :=
  emb_all ((by decide +kernel : ∀ t : Fin grid0.N, win0_3.index t (0 : Fin 2) = 0 ∧ win0_3.index t (1 : Fin 2) = 0) t) j _ rfl rfl
theorem emb4 (t : Fin cfg0.N) (j : S1x1024.Idx) : ((cfg0.win 4).blk t).view.emb j = j :=
  emb_all ((by decide +kernel : ∀ t : Fin grid0.N, win0_4.index t (0 : Fin 2) = 0 ∧ win0_4.index t (1 : Fin 2) = 0) t) j _ rfl rfl
theorem emb10 (t : Fin cfg0.N) (j : S1x1024.Idx) : ((cfg0.win 10).blk t).view.emb j = j :=
  emb_all ((by decide +kernel : ∀ t : Fin grid0.N, win0_10.index t (0 : Fin 2) = 0 ∧ win0_10.index t (1 : Fin 2) = 0) t) j _ rfl rfl
theorem emb11 (t : Fin cfg0.N) (j : S1x1024.Idx) : ((cfg0.win 11).blk t).view.emb j = j :=
  emb_all ((by decide +kernel : ∀ t : Fin grid0.N, win0_11.index t (0 : Fin 2) = 0 ∧ win0_11.index t (1 : Fin 2) = 0) t) j _ rfl rfl
theorem emb12 (t : Fin cfg0.N) (j : S1x128.Idx) : ((cfg0.win 12).blk t).view.emb j = j :=
  emb_all ((by decide +kernel : ∀ t : Fin grid0.N, win0_12.index t (0 : Fin 2) = 0 ∧ win0_12.index t (1 : Fin 2) = 0) t) j _ rfl rfl

section
variable (m : (ℓ : Loc nD τ sig) → Buf (Elt Ideal) ℓ) (c : Dev nD) (a : Ar 8192)

/-- The region's arguments are these arrays of real numbers. -/
structure Args : Prop where
  x : V m c main_arg0 = lift a.X
  h : V m c main_v15 = lift a.H
  tg : V m c main_arg1 = lift a.Tg
  gp : V m c main_arg5 = lift a.gp
  gf : V m c main_arg6 = lift a.gf
  wg : V m c main_v0 = lift a.Wg
  wu : V m c main_v1 = lift a.Wu
  wd : V m c main_v2 = lift a.Wd

variable {m c a} (h : Args m c a)

section
variable (c) (a2 : Memref sig .tc .vmem S256x1024 .bf16) (h2 : a2.IsWhole) (a14 : Memref sig .tc .vmem S1x1024 .f32) (a16 : Memref sig .tc .vmem S1x128 .f32)
  (a17 : Memref sig .tc .vmem S1024x2816 .bf16) (h17 : a17.IsWhole) (a19 : Memref sig .tc .vmem S2816x1024 .bf16) (a20 : Memref sig .tc .vmem S256x2816 .f32)
  (f0 f1 : HbBuf0 (F := Ideal) c hbM0_0) (f2 : HbBuf0 (F := Ideal) c hbM0_2) (x : Vec Ideal S256x1024 .bf16) (w : Vec Ideal S1024x2816 .bf16)

theorem firstWg : kernelRun0_A.sl.v6 c a17 f0 = f0 := by
  unfold kernelRun0_A.sl.v6
  rw [View.readCov_eq_canon', canon_whole]
  exact ld_all _ _
theorem firstWu : kernelRun0_A.sl.v8 c a17 f1 = f1 := by
  unfold kernelRun0_A.sl.v8
  rw [View.readCov_eq_canon', canon_whole]
  exact ld_all _ _
theorem firstWd : kernelRun0_A.sl.v27 c a19 f2 = f2 := by
  unfold kernelRun0_A.sl.v27
  rw [View.readCov_eq_canon', canon_whole]
  exact ld_all _ _
theorem firstG : kernelRun0_A.sl.v100 c a2 h2 a17 a20 x f0 = k0_pay6 x f0 := by
  refine (View.readCov_unit_zero (S := S256x2816) _ hz inb_S256x2816_S256x2816_0_0 _).trans ?_
  simp only [View.readAt_eq_ld, Memref.IsWhole.read_unread, ld_all, firstWg]
  exact shapeCast_self _ _
theorem firstU : kernelRun0_A.sl.v101 c a2 h2 a17 a20 x f1 = k0_pay7 x f1 := by
  refine (View.readCov_unit_zero (S := S256x2816) _ hz inb_S256x2816_S256x2816_0_0 _).trans ?_
  simp only [View.readAt_eq_ld, Memref.IsWhole.read_unread, ld_all, firstWu]
  exact shapeCast_self _ _
theorem nextG : kernelRun0_B.sl.v100 c a2 h2 a17 h17 a20 x w = k0_pay6 x w := by
  refine (View.readCov_unit_zero (S := S256x2816) _ hz inb_S256x2816_S256x2816_0_0 _).trans ?_
  simp only [View.readAt_eq_ld, Memref.IsWhole.read_unread, ld_all]
  exact shapeCast_self _ _
theorem nextU : kernelRun0_B.sl.v101 c a2 h2 a17 h17 a20 x w = k0_pay7 x w := by
  refine (View.readCov_unit_zero (S := S256x2816) _ hz inb_S256x2816_S256x2816_0_0 _).trans ?_
  simp only [View.readAt_eq_ld, Memref.IsWhole.read_unread, ld_all]
  exact shapeCast_self _ _
theorem firstLoss : kernelRun0_A.sl.v57 (F := Ideal) c a16 = lift (row 0) := by
  refine (View.readCov_unit_zero (S := S1x128) _ hz inb_S1x128_S1x128_0_0 _).trans ?_
  refine (broadcast_lift ofBits_0).trans (congrArg lift (funext fun i => ?_))
  exact (ite_self (0 : ℝ)).symm
theorem firstGf : kernelRun0_A.sl.v69 (F := Ideal) c a14 = lift fun _ => 0 :=
  (View.readCov_unit_zero (S := S1x1024) _ hz inb_S1x1024_S1x1024_0_0 _).trans (broadcast_lift ofBits_0)
theorem firstGp : kernelRun0_A.sl.v137 (F := Ideal) c a14 = lift fun _ => 0 :=
  (View.readCov_unit_zero (S := S1x1024) _ hz inb_S1x1024_S1x1024_0_0 _).trans (broadcast_lift ofBits_0)
theorem firstHalf : kernelRun0_A.sl.cst_61 (F := Ideal) = Scalar.ofBits .f32 0x3F000000#32 := rfl
theorem nextHalf : kernelRun0_B.sl.cst_61 (F := Ideal) = Scalar.ofBits .f32 0x3F000000#32 := rfl
end

abbrev asF32 {n k : Nat} (X : A n k) : Vec Ideal ⟨2, ![n, k]⟩ .f32 := lift X
abbrev asBf16 {n k : Nat} (X : A n k) : Vec Ideal ⟨2, ![n, k]⟩ .bf16 := lift X
theorem ld_f32 {n k : Nat} (X : A n k) (inb) :
    View.ld (asF32 X) (Rect.unit (s := ⟨2, ![n, k]⟩) ![0, 0] ![n, k] inb) = asF32 X := ld_all (asF32 X) inb
theorem ld_bf16 {n k : Nat} (X : A n k) (inb) :
    View.ld (asBf16 X) (Rect.unit (s := ⟨2, ![n, k]⟩) ![0, 0] ![n, k] inb) = asBf16 X := ld_all (asBf16 X) inb

theorem buf_gate (h : scM0_0.IsWhole) (X : A 1024 2816) : View.read (Elt Ideal) (View.whole cc0_scratch0) (h.unread (asBf16 X)) = asBf16 X := h.read_unread _
theorem buf_up (h : scM0_1.IsWhole) (X : A 1024 2816) : View.read (Elt Ideal) (View.whole cc0_scratch1) (h.unread (asBf16 X)) = asBf16 X := h.read_unread _
theorem buf_down (h : scM0_2.IsWhole) (X : A 2816 1024) : View.read (Elt Ideal) (View.whole cc0_scratch2) (h.unread (asBf16 X)) = asBf16 X := h.read_unread _

attribute [local ghost_simps] ld_f32 ld_bf16 buf_gate buf_up buf_down View.readAt_eq_ld Memref.IsWhole.read_unread ld_all firstWg firstWu firstWd firstG firstU firstLoss firstGf firstGp firstHalf nextG nextU nextHalf
  pay6_lift pay7_lift pay10_lift pay11_lift pay12_lift pay14_lift pay15_lift pay16_lift pay17_lift pay19_lift pay22_lift pay23_lift pay24_lift pay25_lift pay26_lift pay1_lift
  kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8
  kernelRun0_B.sl.r kernelRun0_B.sl.r_1 kernelRun0_B.sl.r_2 kernelRun0_B.sl.r_3 kernelRun0_B.sl.r_4 kernelRun0_B.sl.r_5 kernelRun0_B.sl.r_6 kernelRun0_B.sl.r_7 kernelRun0_B.sl.r_8

include h

theorem blk0 (t : Fin cfg0.N) : iblk m c 0 t = lift (a.part pts t).X := by
  funext j; show V m c main_arg0 (((cfg0.win 0).blk t).view.emb j) = _; rw [emb0, h.x]; rfl
theorem blk1 (t : Fin cfg0.N) : iblk m c 1 t = lift (a.part pts t).H := by
  funext j; show V m c main_v15 (((cfg0.win 1).blk t).view.emb j) = _; rw [emb1, h.h]; rfl
theorem blk2 (t : Fin cfg0.N) : iblk m c 2 t = lift (a.part pts t).Tg := by
  funext j; show V m c main_arg1 (((cfg0.win 2).blk t).view.emb j) = _; rw [emb2, h.tg]; rfl
theorem blk3 (t : Fin cfg0.N) : iblk m c 3 t = lift (a.part pts t).gp := by
  funext j; show V m c main_arg5 (((cfg0.win 3).blk t).view.emb j) = _; rw [emb3, h.gp]; rfl
theorem blk4 (t : Fin cfg0.N) : iblk m c 4 t = lift (a.part pts t).gf := by
  funext j; show V m c main_arg6 (((cfg0.win 4).blk t).view.emb j) = _; rw [emb4, h.gf]; rfl

omit h in
/-- What the outputs and the weights' buffers hold, from a block of the layer's arrays and the sums. -/
abbrev held (p : Ar 256) (gp gf : A 1 1024) (l : ℝ) : Vec Ideal S256x1024 .f32 × Vec Ideal S256x2816 .bf16 × Vec Ideal S256x1024 .bf16 × Vec Ideal S256x2816 .bf16
    × Vec Ideal S256x2816 .bf16 × Vec Ideal S1x1024 .f32 × Vec Ideal S1x1024 .f32 × Vec Ideal S1x128 .f32 × Vec Ideal S1024x2816 .bf16 × Vec Ideal S1024x2816 .bf16
    × Vec Ideal S2816x1024 .bf16 :=
  (lift p.dX, lift p.act, lift p.dF, lift p.dG, lift p.dU, lift gp, lift gf, lift (row l), lift p.Wg, lift p.Wu, lift p.Wd)

set_option maxHeartbeats 4000000 in
theorem held_first (t : Fin cfg0.N) (h0 : t.val % 32 = 0) :
    outsAt0 m c t.val t.isLt = held (a.part pts t) ((fun _ => 0) + dGain (a.part pts t).X (a.part pts t).dH) ((fun _ => 0) + dGain (a.part pts t).F (a.part pts t).d2)
      (0 + 1 / 2 * (∑ r, rowDot (a.part pts t).err (a.part pts t).err r) * (1 / 1024)) := by
  have hg : V m c main_v0 = lift (a.part pts t).Wg := h.wg
  have hu : V m c main_v1 = lift (a.part pts t).Wu := h.wu
  have hd : V m c main_v2 = lift (a.part pts t).Wd := h.wd
  rw [outsAt0_A m c t h0, blk0 h, blk1 h, blk2 h, blk3 h, blk4 h, hg, hu, hd]
  generalize a.part pts t = p
  refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_
    (congrArg₂ Prod.mk ?_ (congrArg₂ Prod.mk ?_ (congrArg₂ Prod.mk ?_ ?_)))))))))
  · unfold out0_A_5
    rw [View.read_writes_junk_eq_canon]
    exact (View.canon_unit_zero (S := S256x1024) hz inb_S256x1024_S256x1024_0_0 _).trans (by simp only [ghost_simps])
  · unfold out0_A_6
    rw [View.read_writes_junk_eq_canon]
    exact (View.canon_unit_zero (S := S256x2816) hz inb_S256x2816_S256x2816_0_0 _).trans (by simp only [ghost_simps])
  · unfold out0_A_7
    rw [View.read_writes_junk_eq_canon]
    exact (View.canon_unit_zero (S := S256x1024) hz inb_S256x1024_S256x1024_0_0 _).trans (by simp only [ghost_simps])
  · unfold out0_A_8
    rw [View.read_writes_junk_eq_canon]
    exact (View.canon_unit_zero (S := S256x2816) hz inb_S256x2816_S256x2816_0_0 _).trans (by simp only [ghost_simps])
  · unfold out0_A_9
    rw [View.read_writes_junk_eq_canon]
    exact (View.canon_unit_zero (S := S256x2816) hz inb_S256x2816_S256x2816_0_0 _).trans (by simp only [ghost_simps])
  · unfold out0_A_10
    rw [View.read_writes_junk_eq_canon]
    exact (View.canon_cons_unit_zero (S := S1x1024) hz inb_S1x1024_S1x1024_0_0 _ _).trans (by simp only [ghost_simps]; rfl)
  · unfold out0_A_11
    rw [View.read_writes_junk_eq_canon]
    exact (View.canon_cons_unit_zero (S := S1x1024) hz inb_S1x1024_S1x1024_0_0 _ _).trans (by simp only [ghost_simps]; rfl)
  · unfold out0_A_12
    rw [View.read_writes_junk_eq_canon]
    exact (View.canon_cons_unit_zero (S := S1x128) hz inb_S1x128_S1x128_0_0 _ _).trans (by simp only [ghost_simps])
  · unfold sout0_A_0
    rw [View.read_writes_junk_eq_canon]
    exact (canon_whole _).trans rfl
  · unfold sout0_A_1
    rw [View.read_writes_junk_eq_canon]
    exact (canon_whole _).trans rfl
  · unfold sout0_A_2
    rw [View.read_writes_junk_eq_canon]
    exact (canon_whole _).trans rfl

set_option maxHeartbeats 4000000 in
theorem held_next (t : Fin cfg0.N) (h0 : ¬t.val % 32 = 0) (q : Ar 256) (gp gf : A 1 1024) (l : ℝ)
    (hq : outsAt0 m c (t.val - 1) (Nat.lt_of_le_of_lt (Nat.sub_le _ _) t.isLt) = held q gp gf l)
    (eg : q.Wg = (a.part pts t).Wg) (eu : q.Wu = (a.part pts t).Wu) (ed : q.Wd = (a.part pts t).Wd) :
    outsAt0 m c t.val t.isLt = held (a.part pts t) (gp + dGain (a.part pts t).X (a.part pts t).dH) (gf + dGain (a.part pts t).F (a.part pts t).d2)
      (l + 1 / 2 * (∑ r, rowDot (a.part pts t).err (a.part pts t).err r) * (1 / 1024)) := by
  rw [outsAt0_B m c t h0, hq, blk0 h, blk1 h, blk2 h, blk3 h, blk4 h]
  dsimp only [held]
  rw [eg, eu, ed]
  generalize a.part pts t = p
  refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_
    (congrArg₂ Prod.mk ?_ (congrArg₂ Prod.mk ?_ (congrArg₂ Prod.mk ?_ ?_)))))))))
  · unfold out0_B_5
    rw [View.read_writes_junk_eq_canon]
    exact (View.canon_unit_zero (S := S256x1024) hz inb_S256x1024_S256x1024_0_0 _).trans (by simp only [ghost_simps])
  · unfold out0_B_6
    rw [View.read_writes_junk_eq_canon]
    exact (View.canon_unit_zero (S := S256x2816) hz inb_S256x2816_S256x2816_0_0 _).trans (by simp only [ghost_simps])
  · unfold out0_B_7
    rw [View.read_writes_junk_eq_canon]
    exact (View.canon_unit_zero (S := S256x1024) hz inb_S256x1024_S256x1024_0_0 _).trans (by simp only [ghost_simps])
  · unfold out0_B_8
    rw [View.read_writes_junk_eq_canon]
    exact (View.canon_unit_zero (S := S256x2816) hz inb_S256x2816_S256x2816_0_0 _).trans (by simp only [ghost_simps])
  · unfold out0_B_9
    rw [View.read_writes_junk_eq_canon]
    exact (View.canon_unit_zero (S := S256x2816) hz inb_S256x2816_S256x2816_0_0 _).trans (by simp only [ghost_simps])
  · unfold out0_B_10
    rw [View.read_writes_junk_eq_canon]
    exact (View.canon_unit_zero (S := S1x1024) hz inb_S1x1024_S1x1024_0_0 _).trans (by simp only [ghost_simps])
  · unfold out0_B_11
    rw [View.read_writes_junk_eq_canon]
    exact (View.canon_unit_zero (S := S1x1024) hz inb_S1x1024_S1x1024_0_0 _).trans (by simp only [ghost_simps])
  · unfold out0_B_12
    rw [View.read_writes_junk_eq_canon]
    exact (View.canon_unit_zero (S := S1x128) hz inb_S1x128_S1x128_0_0 _).trans (by simp only [ghost_simps])
  · rfl
  · rfl
  · rfl

theorem held_all (n : Nat) (hn : n < cfg0.N) : outsAt0 m c n hn
    = held (a.part pts ⟨n, hn⟩) (dGainTo 256 a.X a.dH (n + 1)) (dGainTo 256 a.F a.d2 (n + 1)) (lossTo 256 a.err (n + 1)) := by
  have z (E : A 8192 1024) : lossTo 256 E 0 = 0 := by
    unfold lossTo; rw [Nat.zero_mul, psum_zero]; ring
  have s (n : Nat) (hn : n < cfg0.N) : held (a.part pts ⟨n, hn⟩) (dGainTo 256 a.X a.dH n + dGain (a.part pts ⟨n, hn⟩).X (a.part pts ⟨n, hn⟩).dH)
      (dGainTo 256 a.F a.d2 n + dGain (a.part pts ⟨n, hn⟩).F (a.part pts ⟨n, hn⟩).d2)
      (lossTo 256 a.err n + 1 / 2 * (∑ r, rowDot (a.part pts ⟨n, hn⟩).err (a.part pts ⟨n, hn⟩).err r) * (1 / 1024))
      = held (a.part pts ⟨n, hn⟩) (dGainTo 256 a.X a.dH (n + 1)) (dGainTo 256 a.F a.d2 (n + 1)) (lossTo 256 a.err (n + 1)) := by
    rw [← dGainTo_succ pts a.X a.dH ⟨n, hn⟩, ← dGainTo_succ pts a.F a.d2 ⟨n, hn⟩, ← lossTo_succ pts a.err ⟨n, hn⟩, a.tile_dH, a.tile_F, a.tile_d2, a.tile_err]
    rfl
  induction n with
  | zero =>
    refine (held_first h ⟨0, hn⟩ rfl).trans ?_
    rw [← s 0 hn, dGainTo_zero, dGainTo_zero, z]
  | succ n ih =>
    have hB : ¬(⟨n + 1, hn⟩ : Fin cfg0.N).val % 32 = 0 := by
      have : n + 1 < 32 := hn
      show ¬(n + 1) % 32 = 0; omega
    exact (held_next h ⟨n + 1, hn⟩ hB _ _ _ _ (ih (Nat.lt_of_succ_lt hn)) rfl rfl rfl).trans (s (n + 1) hn)

theorem final5 : (dats m 0 c).arrAt 5 cfg0.N = lift a.dX :=
  (dats m 0 c).arrAt_eq_of_cover 5 (lift a.dX)
    (fun t _ => by
      show (cfg0.win 5).cut (grid0.coords t) ((dats m 0 c).after 5 t) = _
      rw [after0_5, held_all h]
      funext j
      show lift (a.part pts t).dX j = lift _ (((cfg0.win 5).blk t).view.emb j)
      rw [emb5, ← a.tile_dX]; rfl)
    (fun i => by
      obtain ⟨t, j, rfl⟩ := row_of pts (by decide) i
      exact ⟨t, flush0_5 t, by rw [← emb5]; exact ((cfg0.win 5).blk t).view.emb_mem_set j⟩)
theorem final6 : (dats m 0 c).arrAt 6 cfg0.N = lift a.act :=
  (dats m 0 c).arrAt_eq_of_cover 6 (lift a.act)
    (fun t _ => by
      show (cfg0.win 6).cut (grid0.coords t) ((dats m 0 c).after 6 t) = _
      rw [after0_6, held_all h]
      funext j
      show lift (a.part pts t).act j = lift _ (((cfg0.win 6).blk t).view.emb j)
      rw [emb6, ← a.tile_act]; rfl)
    (fun i => by
      obtain ⟨t, j, rfl⟩ := row_of pts (by decide) i
      exact ⟨t, flush0_6 t, by rw [← emb6]; exact ((cfg0.win 6).blk t).view.emb_mem_set j⟩)
theorem final7 : (dats m 0 c).arrAt 7 cfg0.N = lift a.dF :=
  (dats m 0 c).arrAt_eq_of_cover 7 (lift a.dF)
    (fun t _ => by
      show (cfg0.win 7).cut (grid0.coords t) ((dats m 0 c).after 7 t) = _
      rw [after0_7, held_all h]
      funext j
      show lift (a.part pts t).dF j = lift _ (((cfg0.win 7).blk t).view.emb j)
      rw [emb7, ← a.tile_dF]; rfl)
    (fun i => by
      obtain ⟨t, j, rfl⟩ := row_of pts (by decide) i
      exact ⟨t, flush0_7 t, by rw [← emb7]; exact ((cfg0.win 7).blk t).view.emb_mem_set j⟩)
theorem final8 : (dats m 0 c).arrAt 8 cfg0.N = lift a.dG :=
  (dats m 0 c).arrAt_eq_of_cover 8 (lift a.dG)
    (fun t _ => by
      show (cfg0.win 8).cut (grid0.coords t) ((dats m 0 c).after 8 t) = _
      rw [after0_8, held_all h]
      funext j
      show lift (a.part pts t).dG j = lift _ (((cfg0.win 8).blk t).view.emb j)
      rw [emb8, ← a.tile_dG]; rfl)
    (fun i => by
      obtain ⟨t, j, rfl⟩ := row_of pts (by decide) i
      exact ⟨t, flush0_8 t, by rw [← emb8]; exact ((cfg0.win 8).blk t).view.emb_mem_set j⟩)
theorem final9 : (dats m 0 c).arrAt 9 cfg0.N = lift a.dU :=
  (dats m 0 c).arrAt_eq_of_cover 9 (lift a.dU)
    (fun t _ => by
      show (cfg0.win 9).cut (grid0.coords t) ((dats m 0 c).after 9 t) = _
      rw [after0_9, held_all h]
      funext j
      show lift (a.part pts t).dU j = lift _ (((cfg0.win 9).blk t).view.emb j)
      rw [emb9, ← a.tile_dU]; rfl)
    (fun i => by
      obtain ⟨t, j, rfl⟩ := row_of pts (by decide) i
      exact ⟨t, flush0_9 t, by rw [← emb9]; exact ((cfg0.win 9).blk t).view.emb_mem_set j⟩)
theorem final10 : (dats m 0 c).arrAt 10 cfg0.N = lift (dGain a.X a.dH) :=
  (dats m 0 c).arrAt_eq_of_cover 10 (lift (dGain a.X a.dH))
    (fun t hf => by
      have ht : t.val = 31 := by have := (flush0_10 t).mp hf; have : t.val < 32 := t.isLt; omega
      show (cfg0.win 10).cut (grid0.coords t) ((dats m 0 c).after 10 t) = _
      rw [after0_10, held_all h]
      funext j
      show lift _ j = lift _ (((cfg0.win 10).blk t).view.emb j)
      rw [emb10, ht]
      exact congrFun (congrArg lift (dGainTo_all pts a.X a.dH)) j)
    (fun i => ⟨⟨31, by decide⟩, (flush0_10 _).mpr rfl, by
      have := ((cfg0.win 10).blk (⟨31, by decide⟩ : Fin cfg0.N)).view.emb_mem_set i; rwa [emb10] at this⟩)
theorem final11 : (dats m 0 c).arrAt 11 cfg0.N = lift (dGain a.F a.d2) :=
  (dats m 0 c).arrAt_eq_of_cover 11 (lift (dGain a.F a.d2))
    (fun t hf => by
      have ht : t.val = 31 := by have := (flush0_11 t).mp hf; have : t.val < 32 := t.isLt; omega
      show (cfg0.win 11).cut (grid0.coords t) ((dats m 0 c).after 11 t) = _
      rw [after0_11, held_all h]
      funext j
      show lift _ j = lift _ (((cfg0.win 11).blk t).view.emb j)
      rw [emb11, ht]
      exact congrFun (congrArg lift (dGainTo_all pts a.F a.d2)) j)
    (fun i => ⟨⟨31, by decide⟩, (flush0_11 _).mpr rfl, by
      have := ((cfg0.win 11).blk (⟨31, by decide⟩ : Fin cfg0.N)).view.emb_mem_set i; rwa [emb11] at this⟩)
theorem final12 : (dats m 0 c).arrAt 12 cfg0.N = lift (row (1 / 2 * (∑ r, rowDot a.err a.err r) * (1 / 1024))) :=
  (dats m 0 c).arrAt_eq_of_cover 12 (lift (row (1 / 2 * (∑ r, rowDot a.err a.err r) * (1 / 1024))))
    (fun t hf => by
      have ht : t.val = 31 := by have := (flush0_12 t).mp hf; have : t.val < 32 := t.isLt; omega
      show (cfg0.win 12).cut (grid0.coords t) ((dats m 0 c).after 12 t) = _
      rw [after0_12, held_all h]
      funext j
      show lift _ j = lift _ (((cfg0.win 12).blk t).view.emb j)
      rw [emb12, ht]
      exact congrFun (congrArg lift (congrArg row (congrArg (fun x => 1 / 2 * x * (1 / 1024)) (psum_all (rowDot a.err a.err))))) j)
    (fun i => ⟨⟨31, by decide⟩, (flush0_12 _).mpr rfl, by
      have := ((cfg0.win 12).blk (⟨31, by decide⟩ : Fin cfg0.N)).view.emb_mem_set i; rwa [emb12] at this⟩)

end

end Cert.Proof.Ffn

end
-- ==== Proof.FfnRef.lean ====
/- What the feed-forward layer's reference leaves on finite arguments. -/
module

public import proofs.«01_k».proof.Proof.FfnBody
public import proofs.«01_k».proof.Proof.Gen.FfnReferenceIdeal.Read

@[expose] public section

noncomputable section

namespace Cert.Proof.Ffn

open Idealize.ShloMosaic Idealize.ShloMosaic.ValueIdx Cert.Proof.Rows Cert.FfnReferenceIdeal Cert.FfnReferenceIdeal.Read
open Cert.Proof.Ssd (sg dsilu ofBits_half ofBits_one)
open scoped BigOperators

theorem ofBits_two : Ideal.ofBits .f32 0x40000000#32 = ((2 : ℝ) : EReal) := by
  simp [Ideal.ofBits, Ideal.ieee, -EReal.coe_mul]; norm_num

/-- The sum of all entries of a vector. -/
theorem sum_rest (X : Rows.V.Idx → ℝ) (h : Rows.V.ReducesTo [0] Z) (hu : 0 < Z.numel) :
    Host.reduceAdd (F := Ideal) (φ := .f32) (lift X) (constant Z .f32 0x00000000#32) h hu = lift fun _ => ∑ r : Fin 8192, X (ix1 r) := by
  funext j
  show Ideal.hostReduceAdd h (lift X) (Ideal.ofBits .f32 0x00000000#32) j = _
  rw [Ideal.hostReduceAdd_total h (fun b => b.elim0), ofBits_0]
  refine (zero_add _).trans ((coe_sum _ _).trans (congrArg _ (Fintype.sum_equiv ⟨fun i => i 0, fun r => ix1 r, fun i => ?_, fun r => rfl⟩ _ _ fun i => congrArg X ?_)))
  · funext b; match b with | ⟨0, _⟩ => rfl
  · funext b; match b with | ⟨0, _⟩ => rfl

variable (a : Ar 8192) (hH : a.H = norm a.X * rowsOf a.gp)

include hH

theorem ref_H : val_main_v14 (F := Ideal) (lift a.X) (lift a.gp) = lift a.H := by
  have e : val_main_v14 (F := Ideal) (lift a.X) (lift a.gp) = mulf (F := Ideal) (φ := .f32) (hostN (lift a.X)) (hostG (lift a.gp)) := rfl
  rw [e, hostN_lift, hostG_lift, mulf_lift, hH]; rfl
theorem ref_G : val_main_v15 (F := Ideal) (lift a.X) (lift a.Wg) (lift a.gp) = lift a.G := by
  unfold val_main_v15
  rw [ref_H a hH, dotGeneral_lift, dotR_W dot_S8192x1024_S1024x2816_S8192x2816_1_0_0_1_n_n rfl rfl rfl rfl rfl rfl]; rfl
theorem ref_U : val_main_v16 (F := Ideal) (lift a.X) (lift a.Wu) (lift a.gp) = lift a.U := by
  unfold val_main_v16
  rw [ref_H a hH, dotGeneral_lift, dotR_W dot_S8192x1024_S1024x2816_S8192x2816_1_0_0_1_n_n rfl rfl rfl rfl rfl rfl]; rfl
theorem ref_sg : val_main_v17_2 (F := Ideal) (lift a.X) (lift a.Wg) (lift a.gp) = lift fun i => sg (a.G i) := by
  unfold val_main_v17_2 val_main_call0_v4 val_main_call0_v3 val_main_call0_v2 val_main_call0_v1 val_main_call0_v0 val_main_call0_cst val_main_call0_cst_0
  rw [ref_G a hH, constant_lift ofBits_one, broadcastInDim_lift, broadcastInDim_const]
  have n : Host.negf (F := Ideal) (φ := .f32) (lift a.G) = lift (-a.G) := funext fun _ => (EReal.coe_neg _).symm
  have e (Y : A 8192 2816) : Host.exp (F := Ideal) (φ := .f32) (lift Y) = lift fun i => Real.exp (Y i) := rfl
  rw [n, e, addf_lift]
  exact hostDivf_lift _ _ fun i => (add_pos one_pos (Real.exp_pos _)).ne'
theorem ref_one_sub : val_main_v17_1 (F := Ideal) (lift a.X) (lift a.Wg) (lift a.gp) = lift fun i => sg (a.G i) * (1 - sg (a.G i)) := by
  unfold val_main_v17_1 val_main_call0_v7 val_main_call0_v6 val_main_call0_cst_1
  rw [ref_sg a hH, constant_lift ofBits_one, broadcastInDim_lift, broadcastInDim_const, subf_lift, mulf_lift]; rfl
theorem ref_silu : val_main_v17_0 (F := Ideal) (lift a.X) (lift a.Wg) (lift a.gp) = lift (a.G * fun i => sg (a.G i)) := by
  unfold val_main_v17_0
  rw [ref_sg a hH, ref_G a hH, mulf_lift]
theorem ref_act : val_main_v18 (F := Ideal) (lift a.X) (lift a.Wg) (lift a.Wu) (lift a.gp) = lift a.act := by
  unfold val_main_v18
  rw [ref_silu a hH, ref_U a hH, mulf_lift]; rfl
theorem ref_F : val_main_v19 (F := Ideal) (lift a.X) (lift a.Wg) (lift a.Wu) (lift a.Wd) (lift a.gp) = lift a.F := by
  unfold val_main_v19
  rw [ref_act a hH, dotGeneral_lift, dotR_W dot_S8192x2816_S2816x1024_S8192x1024_1_0_0_1_n_n rfl rfl rfl rfl rfl rfl]; rfl
theorem ref_err : val_main_v36 (F := Ideal) (lift a.X) (lift a.Tg) (lift a.Wg) (lift a.Wu) (lift a.Wd) (lift a.gp) (lift a.gf) = lift a.err := by
  have e : val_main_v36 (F := Ideal) (lift a.X) (lift a.Tg) (lift a.Wg) (lift a.Wu) (lift a.Wd) (lift a.gp) (lift a.gf)
      = subf (F := Ideal) (φ := .f32) (addf (lift a.X) (mulf (hostN (val_main_v19 (F := Ideal) (lift a.X) (lift a.Wg) (lift a.Wu) (lift a.Wd) (lift a.gp))) (hostG (lift a.gf)))) (lift a.Tg) := rfl
  rw [e, ref_F a hH, hostN_lift, hostG_lift, mulf_lift, addf_lift, subf_lift]; rfl
theorem ref_d2 : val_main_v50 (F := Ideal) (lift a.X) (lift a.Tg) (lift a.Wg) (lift a.Wu) (lift a.Wd) (lift a.gp) (lift a.gf) = lift a.d2 := by
  unfold val_main_v50 val_main_v49 val_main_v48 val_main_v47 val_main_v46 val_main_v45 val_main_v39 val_main_v38 val_main_cst_7 val_main_cst_12 val_main_cst_13 val_main_cst_14
  rw [ref_err a hH, constant_lift ofBits_half, constant_lift ofBits_one, constant_lift ofBits_two, constant_lift ofBits_1024, mulf_lift, broadcastInDim_lift, broadcastInDim_lift,
    broadcastInDim_const, hostDivf_const _ (by norm_num), broadcastInDim_lift, broadcastInDim_lift, mulf_lift, mulf_lift]
  refine congrArg lift (funext fun i => ?_)
  show (1 / 2 * 1) / 1024 * (2 * a.err i) = a.err i * (1 / 1024)
  ring
theorem ref_dgf : val_main_v53 (F := Ideal) (lift a.X) (lift a.Tg) (lift a.Wg) (lift a.Wu) (lift a.Wd) (lift a.gp) (lift a.gf) = lift (dGain a.F a.d2) := by
  have e : val_main_v53 (F := Ideal) (lift a.X) (lift a.Tg) (lift a.Wg) (lift a.Wu) (lift a.Wd) (lift a.gp) (lift a.gf)
      = hostDg (val_main_v19 (F := Ideal) (lift a.X) (lift a.Wg) (lift a.Wu) (lift a.Wd) (lift a.gp))
        (val_main_v50 (F := Ideal) (lift a.X) (lift a.Tg) (lift a.Wg) (lift a.Wu) (lift a.Wd) (lift a.gp) (lift a.gf)) := rfl
  rw [e, ref_F a hH, ref_d2 a hH, hostDg_lift]
theorem ref_dF : val_main_v69 (F := Ideal) (lift a.X) (lift a.Tg) (lift a.Wg) (lift a.Wu) (lift a.Wd) (lift a.gp) (lift a.gf) = lift a.dF := by
  have e : val_main_v69 (F := Ideal) (lift a.X) (lift a.Tg) (lift a.Wg) (lift a.Wu) (lift a.Wd) (lift a.gp) (lift a.gf)
      = hostDx (val_main_v19 (F := Ideal) (lift a.X) (lift a.Wg) (lift a.Wu) (lift a.Wd) (lift a.gp))
        (mulf (val_main_v50 (F := Ideal) (lift a.X) (lift a.Tg) (lift a.Wg) (lift a.Wu) (lift a.Wd) (lift a.gp) (lift a.gf)) (hostG (lift a.gf))) := rfl
  rw [e, ref_F a hH, ref_d2 a hH, hostG_lift, mulf_lift, hostDx_lift]; rfl
theorem ref_dA : val_main_v70 (F := Ideal) (lift a.X) (lift a.Tg) (lift a.Wg) (lift a.Wu) (lift a.Wd) (lift a.gp) (lift a.gf) = lift a.dA := by
  unfold val_main_v70
  rw [ref_dF a hH, dotGeneral_lift, dotR_WT dot_S8192x1024_S2816x1024_S8192x2816_1_1_0_0_n_n rfl rfl rfl rfl rfl rfl]; rfl
theorem ref_dU : val_main_v71 (F := Ideal) (lift a.X) (lift a.Tg) (lift a.Wg) (lift a.Wu) (lift a.Wd) (lift a.gp) (lift a.gf) = lift a.dU := by
  unfold val_main_v71
  rw [ref_silu a hH, ref_dA a hH, mulf_lift]
  refine congrArg lift (funext fun i => ?_)
  show a.G i * sg (a.G i) * a.dA i = a.dA i * a.G i * sg (a.G i)
  ring
theorem ref_dG : val_main_v73 (F := Ideal) (lift a.X) (lift a.Tg) (lift a.Wg) (lift a.Wu) (lift a.Wd) (lift a.gp) (lift a.gf) = lift a.dG := by
  unfold val_main_v73 val_main_call1_v2 val_main_call1_v1 val_main_call1_v0 val_main_v72
  rw [ref_one_sub a hH, ref_sg a hH, ref_G a hH, ref_U a hH, ref_dA a hH, mulf_lift, mulf_lift, mulf_lift, mulf_lift, addf_lift]
  refine congrArg lift (funext fun i => ?_)
  show a.dA i * a.U i * sg (a.G i) + a.G i * (a.dA i * a.U i) * (sg (a.G i) * (1 - sg (a.G i))) = a.dA i * a.U i * (sg (a.G i) * (1 + a.G i * (1 - sg (a.G i))))
  ring
theorem ref_dH : val_main_v76 (F := Ideal) (lift a.X) (lift a.Tg) (lift a.Wg) (lift a.Wu) (lift a.Wd) (lift a.gp) (lift a.gf) = lift a.dH := by
  unfold val_main_v76 val_main_v74 val_main_v75
  rw [ref_dU a hH, ref_dG a hH, dotGeneral_lift, dotGeneral_lift, dotR_WT dot_S8192x2816_S1024x2816_S8192x1024_1_1_0_0_n_n rfl rfl rfl rfl rfl rfl,
    dotR_WT dot_S8192x2816_S1024x2816_S8192x1024_1_1_0_0_n_n rfl rfl rfl rfl rfl rfl, addf_lift]
  exact congrArg lift (add_comm _ _)
theorem ref_dgp : val_main_v79 (F := Ideal) (lift a.X) (lift a.Tg) (lift a.Wg) (lift a.Wu) (lift a.Wd) (lift a.gp) (lift a.gf) = lift (dGain a.X a.dH) := by
  have e : val_main_v79 (F := Ideal) (lift a.X) (lift a.Tg) (lift a.Wg) (lift a.Wu) (lift a.Wd) (lift a.gp) (lift a.gf)
      = hostDg (lift a.X) (val_main_v76 (F := Ideal) (lift a.X) (lift a.Tg) (lift a.Wg) (lift a.Wu) (lift a.Wd) (lift a.gp) (lift a.gf)) := rfl
  rw [e, ref_dH a hH, hostDg_lift]
theorem ref_dX : val_main_v99 (F := Ideal) (lift a.X) (lift a.Tg) (lift a.Wg) (lift a.Wu) (lift a.Wd) (lift a.gp) (lift a.gf) = lift a.dX := by
  have e : val_main_v99 (F := Ideal) (lift a.X) (lift a.Tg) (lift a.Wg) (lift a.Wu) (lift a.Wd) (lift a.gp) (lift a.gf)
      = addf (val_main_v50 (F := Ideal) (lift a.X) (lift a.Tg) (lift a.Wg) (lift a.Wu) (lift a.Wd) (lift a.gp) (lift a.gf)) (hostDx (lift a.X)
        (mulf (val_main_v76 (F := Ideal) (lift a.X) (lift a.Tg) (lift a.Wg) (lift a.Wu) (lift a.Wd) (lift a.gp) (lift a.gf)) (hostG (lift a.gp)))) := rfl
  rw [e, ref_d2 a hH, ref_dH a hH, hostG_lift, mulf_lift, hostDx_lift, addf_lift]; rfl
theorem ref_sum : val_main_v44 (F := Ideal) (lift a.X) (lift a.Tg) (lift a.Wg) (lift a.Wu) (lift a.Wd) (lift a.gp) (lift a.gf)
    = lift fun _ => 1 / 2 * (∑ r, rowDot a.err a.err r) * (1 / 1024) := by
  unfold val_main_v44 val_main_v43 val_main_v42 val_main_v41 val_main_v40 val_main_v37 val_main_cst_8 val_main_cst_9 val_main_cst_10 val_main_cst_11
  rw [ref_err a hH, mulf_lift, constant_lift ofBits_half, constant_lift ofBits_1024, broadcastInDim_lift, broadcastInDim_const]
  rw [hostSum_lift (s := R) (t := Rows.V) (a := 1) (by decide), sum_cols, hostDivf_const _ (by norm_num), sum_rest, mulf_lift]
  refine congrArg lift (funext fun i => ?_)
  show 1 / 2 * (∑ r : Fin 8192, rowDot a.err a.err r / 1024) = _
  rw [← Finset.sum_div]; ring
theorem ref_loss : val_main_v98 (F := Ideal) (lift a.X) (lift a.Tg) (lift a.Wg) (lift a.Wu) (lift a.Wd) (lift a.gp) (lift a.gf)
    = lift (row (1 / 2 * (∑ r, rowDot a.err a.err r) * (1 / 1024))) := by
  unfold val_main_v98 val_main_v96 val_main_v97 val_main_cst_23
  rw [ref_sum a hH, constant_lift ofBits_0, broadcastInDim_lift, broadcastInDim_const]
  generalize 1 / 2 * (∑ r, rowDot a.err a.err r) * (1 / 1024) = l
  funext j
  have hj : (j 1).val < 128 := idx2_lt1 j
  by_cases hi : (j 1).val < 1
  · refine (concatenate_pair_apply_left (t := S1x128) (s₁ := S1x1) (s₂ := S1x127) (1 : Fin 2) _ _ _ j rfl (ix2 (j 0) (⟨(j 1).val, hi⟩ : Fin 1)) ?_).trans ?_
    · intro b
      match b with
      | ⟨0, _⟩ => rfl
      | ⟨1, _⟩ => rfl
    · show ((l : ℝ) : EReal) = ((ite ((j 1).val = 0) _ _ : ℝ) : EReal)
      rw [if_pos (by omega)]
  · refine (concatenate_pair_apply_right (t := S1x128) (s₁ := S1x1) (s₂ := S1x127) (1 : Fin 2) _ _ _ j rfl rfl (ix2 (j 0) (⟨(j 1).val - 1, by omega⟩ : Fin 127)) ?_ ?_).trans ?_
    · intro b hb
      match b with
      | ⟨0, _⟩ => rfl
      | ⟨1, _⟩ => exact absurd rfl hb
    · show (j 1).val - 1 + 1 = (j 1).val
      omega
    · show ((0 : ℝ) : EReal) = ((ite ((j 1).val = 0) _ _ : ℝ) : EReal)
      rw [if_neg (by omega)]

end Cert.Proof.Ffn

end
-- ==== Proof.FfnClaim.lean ====
/- The feed-forward kernel computes the layer, its loss and the gradients of the reference, on finite arguments. -/
module

public import proofs.«01_k».proof.Defs
public import proofs.«01_k».proof.Proof.FfnKernel
public import proofs.«01_k».proof.Proof.Gen.FfnReferenceIdeal.Run
public import proofs.«01_k».proof.Proof.FfnRef
public import proofs.«01_k».proof.Proof.Gen.Pre_ffn_finite

@[expose] public section

noncomputable section

namespace Cert.Proof.Ffn

open Idealize.ShloMosaic Idealize.ShloMosaic.TcCoe Idealize.ShloMosaic.ValueIdx Idealize.SL.Sem Cert.Proof.Rows
open scoped BigOperators

/-! ## The host lines -/

section
open Cert.FfnKernelIdeal Cert.FfnKernelIdeal.Gen

variable (m : (ℓ : Loc nD τ sig) → Buf (Elt Ideal) ℓ) (c : Dev nD)

theorem host_wg {W : A 1024 2816} (h : m ((c : Thread nD τ).loc main_arg2) = lift W) : V m c main_v0 = lift W := by
  rw [← h]
  show StableHlo.after hostOps0 (fun b => m (c, b)) main_v0 = _
  simp only [hostOps0]
  after_results_simp
  rfl
theorem host_wu {W : A 1024 2816} (h : m ((c : Thread nD τ).loc main_arg3) = lift W) : V m c main_v1 = lift W := by
  rw [← h]
  show StableHlo.after hostOps0 (fun b => m (c, b)) main_v1 = _
  simp only [hostOps0]
  after_results_simp
  rfl
theorem host_wd {W : A 2816 1024} (h : m ((c : Thread nD τ).loc main_arg4) = lift W) : V m c main_v2 = lift W := by
  rw [← h]
  show StableHlo.after hostOps0 (fun b => m (c, b)) main_v2 = _
  simp only [hostOps0]
  after_results_simp
  rfl
theorem host_h {X : A 8192 1024} {g : A 1 1024} (h : m ((c : Thread nD τ).loc main_arg0) = lift X) (hg : m ((c : Thread nD τ).loc main_arg5) = lift g) :
    V m c main_v15 = lift (norm X * rowsOf g) := by
  have e : lift (norm X * rowsOf g) = mulf (F := Ideal) (φ := .f32) (hostN (lift X)) (hostG (lift g)) := by
    rw [hostN_lift, hostG_lift, mulf_lift]; rfl
  rw [e, ← h, ← hg]
  show StableHlo.after hostOps0 (fun b => m (c, b)) main_v15 = _
  simp only [hostOps0]
  after_results_simp
  rfl
end

/-! ## The claim -/

/-- The precondition makes the seven arguments real. -/
theorem args_real (x0 x1 : FVec Ideal Cert.Pre_ffn_finite.S8192x1024 .f32) (x2 x3 : FVec Ideal Cert.Pre_ffn_finite.S1024x2816 .f32)
    (x4 : FVec Ideal Cert.Pre_ffn_finite.S2816x1024 .f32) (x5 x6 : FVec Ideal Cert.Pre_ffn_finite.S1x1024 .f32) (j : Cert.Pre_ffn_finite.S_.Idx)
    (h : Cert.Pre_ffn_finite.fn (F := Ideal) x0 x1 x2 x3 x4 x5 x6 j = 1#1) :
    IsReal x0 ∧ IsReal x1 ∧ IsReal x2 ∧ IsReal x3 ∧ IsReal x4 ∧ IsReal x5 ∧ IsReal x6 := by
  unfold Cert.Pre_ffn_finite.fn Cert.Pre_ffn_finite.fn_part1 at h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨isReal_of_all _ _ _ _ _ _ h0, isReal_of_all _ _ _ _ _ _ h1, isReal_of_all _ _ _ _ _ _ h2, isReal_of_all _ _ _ _ _ _ h3,
    isReal_of_all _ _ _ _ _ _ h4, isReal_of_all _ _ _ _ _ _ h5, isReal_of_all _ _ _ _ _ _ h6⟩

section
open Cert.FfnKernelIdeal Cert.FfnKernelIdeal.Gen

set_option maxHeartbeats 2000000 in
/-- On finite arguments the two programs leave the same eight arrays. -/
theorem results_eq [Cert.Pre_ffn_finite.Facts] (m : (ℓ : Loc nD τ sig) → Buf (Elt Ideal) ℓ) (hp : Cert.Pre_FfnKernelIdeal_ffn_finite m) (c : Dev nD)
    (x0 x1 : FVec Ideal S8192x1024 .f32) (x2 x3 : FVec Ideal S1024x2816 .f32) (x4 : FVec Ideal S2816x1024 .f32) (x5 x6 : FVec Ideal S1x1024 .f32)
    (e0 : x0 = m ((c : Thread nD τ).loc main_arg0)) (e1 : x1 = m ((c : Thread nD τ).loc main_arg1)) (e2 : x2 = m ((c : Thread nD τ).loc main_arg2))
    (e3 : x3 = m ((c : Thread nD τ).loc main_arg3)) (e4 : x4 = m ((c : Thread nD τ).loc main_arg4)) (e5 : x5 = m ((c : Thread nD τ).loc main_arg5))
    (e6 : x6 = m ((c : Thread nD τ).loc main_arg6)) :
    Cert.FfnReferenceIdeal.Read.val_main_v99 (F := Ideal) x0 x1 x2 x3 x4 x5 x6 = (dats m 0 c).arrAt 5 cfg0.N
    ∧ Cert.FfnReferenceIdeal.Read.val_main_v100 (F := Ideal) x0 x2 x3 x5 = (dats m 0 c).arrAt 6 cfg0.N
    ∧ Cert.FfnReferenceIdeal.Read.val_main_v101 (F := Ideal) x0 x1 x2 x3 x4 x5 x6 = (dats m 0 c).arrAt 7 cfg0.N
    ∧ Cert.FfnReferenceIdeal.Read.val_main_v102 (F := Ideal) x0 x1 x2 x3 x4 x5 x6 = (dats m 0 c).arrAt 8 cfg0.N
    ∧ Cert.FfnReferenceIdeal.Read.val_main_v103 (F := Ideal) x0 x1 x2 x3 x4 x5 x6 = (dats m 0 c).arrAt 9 cfg0.N
    ∧ Cert.FfnReferenceIdeal.Read.val_main_v79 (F := Ideal) x0 x1 x2 x3 x4 x5 x6 = (dats m 0 c).arrAt 10 cfg0.N
    ∧ Cert.FfnReferenceIdeal.Read.val_main_v53 (F := Ideal) x0 x1 x2 x3 x4 x5 x6 = (dats m 0 c).arrAt 11 cfg0.N
    ∧ Cert.FfnReferenceIdeal.Read.val_main_v98 (F := Ideal) x0 x1 x2 x3 x4 x5 x6 = (dats m 0 c).arrAt 12 cfg0.N := by
  obtain ⟨⟨X, hX⟩, ⟨Tg, hT⟩, ⟨Wg, hWg⟩, ⟨Wu, hWu⟩, ⟨Wd, hWd⟩, ⟨gp, hgp⟩, ⟨gf, hgf⟩⟩ := args_real x0 x1 x2 x3 x4 x5 x6 (Shape.Idx.first (by decide)) (by
    rw [e0, e1, e2, e3, e4, e5, e6]; exact congrFun (hp c) _)
  obtain ⟨a, ha⟩ : ∃ a : Ar 8192, a = ⟨X, Tg, norm X * rowsOf gp, Wg, Wu, Wd, gp, gf⟩ := ⟨_, rfl⟩
  have h : Args m c a := ha ▸ ⟨(V_main_arg0 m c).trans (e0.symm.trans hX), host_h m c (e0.symm.trans hX) (e5.symm.trans hgp), (V_main_arg1 m c).trans (e1.symm.trans hT),
    (V_main_arg5 m c).trans (e5.symm.trans hgp), (V_main_arg6 m c).trans (e6.symm.trans hgf), host_wg m c (e2.symm.trans hWg), host_wu m c (e3.symm.trans hWu),
    host_wd m c (e4.symm.trans hWd)⟩
  have hH : a.H = norm a.X * rowsOf a.gp := by rw [ha]
  obtain rfl : X = a.X := by rw [ha]
  obtain rfl : Tg = a.Tg := by rw [ha]
  obtain rfl : Wg = a.Wg := by rw [ha]
  obtain rfl : Wu = a.Wu := by rw [ha]
  obtain rfl : Wd = a.Wd := by rw [ha]
  obtain rfl : gp = a.gp := by rw [ha]
  obtain rfl : gf = a.gf := by rw [ha]
  rw [final5 h, final6 h, final7 h, final8 h, final9 h, final10 h, final11 h, final12 h, hX, hT, hWg, hWu, hWd, hgp, hgf]
  exact ⟨ref_dX a hH, ref_act a hH, ref_dF a hH, ref_dG a hH, ref_dU a hH, ref_dgp a hH, ref_dgf a hH, ref_loss a hH⟩
end

theorem algebraic : Cert.algebraic_FfnKernelIdeal_FfnReferenceIdeal_pre_ffn_finite
    (hFfnKernelIdeal := Cert.FfnKernelIdeal.Gen.facts) (hFfnReferenceIdeal := Cert.FfnReferenceIdeal.Gen.facts) (hPre_ffn_finite := Cert.Pre_ffn_finite.Gen.facts) := by
  intro m g m' g' hp ha
  refine ⟨_, _, _, _, _, _, _, _, (θ_run Cert.FfnKernelIdeal.defs _ _).mono (fun r h c => ⟨(h.2 c).1 5, (h.2 c).1 6, (h.2 c).1 7, (h.2 c).1 8, (h.2 c).1 9,
    (h.2 c).1 10, (h.2 c).1 11, (h.2 c).1 12, h.1 c⟩) (θ_run_and (Cert.FfnKernelIdeal.Gen.unchanged m g) (Cert.FfnKernelIdeal.Gen.run_main m g)),
    (θ_run Cert.FfnReferenceIdeal.defs _ _).mono (fun r h c => ?_) (Cert.FfnReferenceIdeal.Value.run m' g')⟩
  obtain ⟨a0, a1, a2, a3, a4, a5, a6⟩ := ha c
  obtain ⟨r0, r1, r2, r3, r4, r5, r6, r7⟩ := results_eq m hp c _ _ _ _ _ _ _ a0 a1 a2 a3 a4 a5 a6
  obtain ⟨h0, h1, h2, h3, h4, h5, h6, h7, hk⟩ := h c
  exact ⟨h0.trans ((Cert.FfnReferenceIdeal.Read.val_main_v99_eq _).trans r0), h1.trans ((Cert.FfnReferenceIdeal.Read.val_main_v100_eq _).trans r1),
    h2.trans ((Cert.FfnReferenceIdeal.Read.val_main_v101_eq _).trans r2), h3.trans ((Cert.FfnReferenceIdeal.Read.val_main_v102_eq _).trans r3),
    h4.trans ((Cert.FfnReferenceIdeal.Read.val_main_v103_eq _).trans r4), h5.trans ((Cert.FfnReferenceIdeal.Read.val_main_v79_eq _).trans r5),
    h6.trans ((Cert.FfnReferenceIdeal.Read.val_main_v53_eq _).trans r6), h7.trans ((Cert.FfnReferenceIdeal.Read.val_main_v98_eq _).trans r7), hk⟩

theorem frame_ref : Cert.quiescent_FfnReferenceIdeal (hFfnReferenceIdeal := Cert.FfnReferenceIdeal.Gen.facts) := fun m ρ _ =>
  (θ_run Cert.FfnReferenceIdeal.defs _ _).mono (fun r h => ⟨fun c => (h c).2.2.2.2.2.2.2.2, sem_eq_zero_of_no_sems (by decide) r.2⟩)
    (Cert.FfnReferenceIdeal.Value.run m ρ)

end Cert.Proof.Ffn

end
-- ==== Proof.lean ====
module

public import proofs.«01_k».proof.Defs
public import proofs.«01_k».proof.Proof.OutprojClaim
public import proofs.«01_k».proof.Proof.SsdClaim
public import proofs.«01_k».proof.Proof.InClaim
public import proofs.«01_k».proof.Proof.OutFwd
public import proofs.«01_k».proof.Proof.InpFwd
public import proofs.«01_k».proof.Proof.FfnClaim
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_ffn_finite
public import proofs.«01_k».proof.Proof.Gen.SsdReferenceIdeal.Read
public import proofs.«01_k».proof.Proof.Gen.SsdReferenceIdeal.Run
public import proofs.«01_k».proof.Proof.Gen.SsdKernelIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_ssd_finite
public import proofs.«01_k».proof.Proof.Gen.SsdReferenceIdeal
public import proofs.«01_k».proof.Proof.Gen.SsdKernelIdeal.Frame
public import proofs.«01_k».proof.Proof.Gen.SsdKernelIdeal
public import proofs.«01_k».proof.Proof.Gen.SsdKernel.Frame
public import proofs.«01_k».proof.Proof.Gen.SsdKernel.Points
public import proofs.«01_k».proof.Proof.Gen.SsdKernel.Launch
public import proofs.«01_k».proof.Proof.Gen.SsdKernel.Skeleton
public import proofs.«01_k».proof.Proof.Gen.SsdKernel
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.Pre_inproj_finite
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.InpKernel
public import proofs.«01_k».proof.Proof.Gen.InpKernel.Skeleton
public import proofs.«01_k».proof.Proof.Gen.InpKernel.Launch
public import proofs.«01_k».proof.Proof.Gen.InpKernel.Points
public import proofs.«01_k».proof.Proof.Gen.InpKernel.Frame
public import proofs.«01_k».proof.Proof.Gen.InpKernelIdeal
public import proofs.«01_k».proof.Proof.Gen.InpKernelIdeal.Skeleton
public import proofs.«01_k».proof.Proof.Gen.InpKernelIdeal.Launch
public import proofs.«01_k».proof.Proof.Gen.InpKernelIdeal.Points
public import proofs.«01_k».proof.Proof.Gen.InpKernelIdeal.Frame
public import proofs.«01_k».proof.Proof.Gen.InpKernelIdeal.Value
public import proofs.«01_k».proof.Proof.Gen.InpReferenceIdeal
public import proofs.«01_k».proof.Proof.Gen.InpReferenceIdeal.Run
public import proofs.«01_k».proof.Proof.Gen.InpReferenceIdeal.Read

public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.SsdKernel.Gen.facts, Cert.SsdKernelIdeal.Gen.facts, Cert.SsdReferenceIdeal.Gen.facts,
  Cert.FfnKernel.Gen.facts, Cert.FfnKernelIdeal.Gen.facts, Cert.FfnReferenceIdeal.Gen.facts,
  Cert.InKernel.Gen.facts, Cert.InKernelIdeal.Gen.facts, Cert.InReferenceIdeal.Gen.facts,
  Cert.OutKernel.Gen.facts, Cert.OutKernelIdeal.Gen.facts, Cert.OutReferenceIdeal.Gen.facts,
  Cert.InpKernel.Gen.facts, Cert.InpKernelIdeal.Gen.facts, Cert.InpReferenceIdeal.Gen.facts,
  Cert.Pre_finite.Gen.facts, Cert.Pre_ssd_finite.Gen.facts, Cert.Pre_ffn_finite.Gen.facts, Cert.Pre_inproj_finite.Gen.facts,
  fun m ρ _ => Cert.Kernel.Gen.frame m ρ, fun m ρ _ => Cert.KernelIdeal.Gen.frame m ρ, fun m ρ _ => Cert.KernelIdeal.Gen.frame m ρ,
  Outproj.frame_ref, fun m ρ _ => Outproj.frame_ref m ρ trivial,
  fun m ρ _ => Cert.SsdKernel.Gen.frame m ρ, fun m ρ _ => Cert.SsdKernelIdeal.Gen.frame m ρ, fun m ρ _ => Cert.SsdKernelIdeal.Gen.frame m ρ,
  Ssd.frame_ref, fun m ρ _ => Ssd.frame_ref m ρ trivial,
  fun m ρ _ => Cert.FfnKernel.Gen.frame m ρ, fun m ρ _ => Cert.FfnKernelIdeal.Gen.frame m ρ, fun m ρ _ => Cert.FfnKernelIdeal.Gen.frame m ρ,
  Ffn.frame_ref, fun m ρ _ => Ffn.frame_ref m ρ trivial,
  fun m ρ _ => Cert.InKernel.Gen.frame m ρ, fun m ρ _ => Cert.InKernelIdeal.Gen.frame m ρ, fun m ρ _ => Cert.InKernelIdeal.Gen.frame m ρ,
  Inproj.frame_ref, fun m ρ _ => Inproj.frame_ref m ρ trivial,
  fun m ρ _ => Cert.OutKernel.Gen.frame m ρ, fun m ρ _ => Cert.OutKernelIdeal.Gen.frame m ρ, OutFwd.frame_ref,
  fun m ρ _ => Cert.InpKernel.Gen.frame m ρ, fun m ρ _ => Cert.InpKernelIdeal.Gen.frame m ρ, InpFwd.frame_ref,
  trivial, Outproj.algebraic, Ssd.preserves, Ssd.algebraic, trivial, Ffn.algebraic,
  trivial, Inproj.algebraic, trivial, OutFwd.algebraic, trivial, InpFwd.algebraic⟩

end Cert.Proof

end
